-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 2048, 32, 128]⟩ ⟨4, ![1, 8192, 32, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 32, 128]⟩ ⟨4, ![1, 8192, 32, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x32x128 : S_.BroadcastsInDim S1x2048x32x128 (![] : Fin 0 → Fin S1x2048x32x128.rank)
  reducesTo_S1x2048x32x128_S_d0_1_2_3 : S1x2048x32x128.ReducesTo [0, 1, 2, 3] S_

variable [Facts]

def fn {F : FTy → Type} [FloatOps F] (main_arg0 : FVec F S1x2048x1024 .f32) (main_arg1 : FVec F S1024x1024 .f32) (main_arg2 : FVec F S1x2048x32x128 .f32) (main_arg3 : FVec F S1x2048x32x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x32x128 .f32 := Host.absf main_arg2
  let main_cst_2 : FVec F S_ .f32 := constant S_ .f32 0x7F800000#32
  let main_v10 : FVec F S1x2048x32x128 .f32 := broadcastInDim S1x2048x32x128 ![] bcast_S_S1x2048x32x128 main_cst_2
  let main_v11 : IVec S1x2048x32x128 1 := cmpf .olt main_v9 main_v10
  let main_c_3 : IVec S_ 1 := constantI S_ 1 1#1
  let main_v12 : IVec S_ 1 := (fun x v => Host.reduce IntOp.andi x v reducesTo_S1x2048x32x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x4096 : Shape := ⟨2, ![1024, 4096]⟩
abbrev S1x8192x32x128 : Shape := ⟨4, ![1, 8192, 32, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x8192x32x128 : S_.BroadcastsInDim S1x8192x32x128 (![] : Fin 0 → Fin S1x8192x32x128.rank)
  reducesTo_S1x8192x32x128_S_d0_1_2_3 : S1x8192x32x128.ReducesTo [0, 1, 2, 3] S_

variable [Facts]

def fn {F : FTy → Type} [FloatOps F] (main_arg0 : FVec F S1x2048x1024 .f32) (main_arg1 : FVec F S1024x4096 .f32) (main_arg2 : FVec F S1x8192x32x128 .f32) (main_arg3 : FVec F S1x8192x32x128 .f32) (main_arg4 : FVec F S4096x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x8192x32x128 .f32 := Host.absf main_arg2
  let main_cst_2 : FVec F S_ .f32 := constant S_ .f32 0x7F800000#32
  let main_v10 : FVec F S1x8192x32x128 .f32 := broadcastInDim S1x8192x32x128 ![] bcast_S_S1x8192x32x128 main_cst_2
  let main_v11 : IVec S1x8192x32x128 1 := cmpf .olt main_v9 main_v10
  let main_c_3 : IVec S_ 1 := constantI S_ 1 1#1
  let main_v12 : IVec S_ 1 := (fun x v => Host.reduce IntOp.andi x v reducesTo_S1x8192x32x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S2048x32x128 : Shape := ⟨3, ![2048, 32, 128]⟩
abbrev S32x2048x128 : Shape := ⟨3, ![32, 2048, 128]⟩
abbrev S2048x1024 : Shape := ⟨2, ![2048, 1024]⟩
abbrev S8x4x2048x128 : Shape := ⟨4, ![8, 4, 2048, 128]⟩
abbrev S2x512x128 : Shape := ⟨3, ![2, 512, 128]⟩
abbrev S3x2 : Shape := ⟨2, ![3, 2]⟩
abbrev S4x2 : Shape := ⟨2, ![4, 2]⟩
abbrev S2 : Shape := ⟨1, ![2]⟩
abbrev S2x2 : Shape := ⟨2, ![2, 2]⟩
abbrev S_ : Shape := ⟨0, ![]⟩
abbrev S1x1 : Shape := ⟨2, ![1, 1]⟩
abbrev S8x1x2048x128 : Shape := ⟨4, ![8, 1, 2048, 128]⟩
abbrev S8x2048x128 : Shape := ⟨3, ![8, 2048, 128]⟩
abbrev S1 : Shape := ⟨1, ![1]⟩
abbrev S1x512x128 : Shape := ⟨3, ![1, 512, 128]⟩
abbrev S512x128 : Shape := ⟨2, ![512, 128]⟩
abbrev S1x1x512x128 : Shape := ⟨4, ![1, 1, 512, 128]⟩
abbrev S2048x128 : Shape := ⟨2, ![2048, 128]⟩
abbrev S2048x1 : Shape := ⟨2, ![2048, 1]⟩
abbrev S128x512 : Shape := ⟨2, ![128, 512]⟩
abbrev S2048x512 : Shape := ⟨2, ![2048, 512]⟩
abbrev S2048 : Shape := ⟨1, ![2048]⟩
abbrev S32x1 : Shape := ⟨2, ![32, 1]⟩
abbrev S32x128 : Shape := ⟨2, ![32, 128]⟩
abbrev S128x1024 : Shape := ⟨2, ![128, 1024]⟩
abbrev S512x1024 : Shape := ⟨2, ![512, 1024]⟩
abbrev S32x1024 : Shape := ⟨2, ![32, 1024]⟩
abbrev S32x512 : Shape := ⟨2, ![32, 512]⟩
abbrev S32 : Shape := ⟨1, ![32]⟩
abbrev S3x2048x1024 : Shape := ⟨3, ![3, 2048, 1024]⟩
abbrev S3 : Shape := ⟨1, ![3]⟩
abbrev S1x512x1024 : Shape := ⟨3, ![1, 512, 1024]⟩

abbrev nBuf : Space → Nat
  | .hbm => 19
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x32x128, .f32⟩
  | .hbm, ⟨3, _⟩ => ⟨S1x2048x32x128, .f32⟩
  | .hbm, ⟨4, _⟩ => ⟨S1024x1024, .f32⟩
  | .hbm, ⟨5, _⟩ => ⟨S1x2048x1024, .bf16⟩
  | .hbm, ⟨6, _⟩ => ⟨S1024x1024, .bf16⟩
  | .hbm, ⟨7, _⟩ => ⟨S1024x1024, .bf16⟩
  | .hbm, ⟨8, _⟩ => ⟨S2048x32x128, .f32⟩
  | .hbm, ⟨9, _⟩ => ⟨S32x2048x128, .f32⟩
  | .hbm, ⟨10, _⟩ => ⟨S32x2048x128, .bf16⟩
  | .hbm, ⟨11, _⟩ => ⟨S2048x32x128, .f32⟩
  | .hbm, ⟨12, _⟩ => ⟨S32x2048x128, .f32⟩
  | .hbm, ⟨13, _⟩ => ⟨S32x2048x128, .bf16⟩
  | .hbm, ⟨14, _⟩ => ⟨S2048x1024, .f32⟩
  | .hbm, ⟨15, _⟩ => ⟨S8x4x2048x128, .bf16⟩
  | .hbm, ⟨16, _⟩ => ⟨S8x4x2048x128, .bf16⟩
  | .hbm, ⟨17, _⟩ => ⟨S2048x1024, .bf16⟩
  | .hbm, ⟨18, _⟩ => ⟨S1x2048x1024, .f32⟩
  | .local _ .vmem, ⟨0, _⟩ => ⟨S1x2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x1024, .f32⟩
  | .local _ .vmem, ⟨4, _⟩ => ⟨S2x512x128, .bf16⟩
  | .local _ .vmem, ⟨5, _⟩ => ⟨S2x512x128, .bf16⟩
  | .local _ .vmem, ⟨6, _⟩ => ⟨S2048x1024, .bf16⟩
  | .local _ .vmem, ⟨7, _⟩ => ⟨S1x2048x1024, .f32⟩
  | .local _ .vmem, ⟨8, _⟩ => ⟨S3x2048x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 2 32 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 24
abbrev cc1_sem1_0 : DmaSem sig := 25
abbrev barrier0 : Sem sig := 0
abbrev barrier1 : Sem sig := 1

abbrev nD : Nat := 4
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c0_i32 : BitVec 32 := 0#32
  let v5 : BitVec 32 := Scalar.addi v4 c0_i32
  let c4_i32_1 : BitVec 32 := 4#32
  let c0_i32_2 : BitVec 32 := 0#32
  let v6 : BitVec 1 := Scalar.cmpi .eq c4_i32_1 c0_i32_2
  let c1_i32_3 : BitVec 32 := 1#32
  let v7 : BitVec 32 := Scalar.select v6 c1_i32_3 c4_i32_1
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_8 : BitVec 32 := 1#32
  let v16 : BitVec 32 := Scalar.muli v15 c1_i32_8
  let v17 : BitVec 32 := Scalar.addi c0_i32_9 v16
  v17.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v18 : BitVec 32 := Scalar.addi v2 c1_i32_10
  let c1_i32_11 : BitVec 32 := 1#32
  let v19 : BitVec 32 := Scalar.addi v18 c1_i32_11
  let c4_i32_12 : BitVec 32 := 4#32
  let c0_i32_13 : BitVec 32 := 0#32
  let v20 : BitVec 1 := Scalar.cmpi .eq c4_i32_12 c0_i32_13
  let c1_i32_14 : BitVec 32 := 1#32
  let v21 : BitVec 32 := Scalar.select v20 c1_i32_14 c4_i32_12
  let v22 : BitVec 32 := Scalar.remsi v19 v21
  let c0_i32_16 : BitVec 32 := 0#32
  let v24 : BitVec 1 := Scalar.cmpi .slt v22 c0_i32_16
  let c0_i32_17 : BitVec 32 := 0#32
  let v25 : BitVec 1 := Scalar.cmpi .slt v21 c0_i32_17
  let v26 : BitVec 1 := Scalar.xori v24 v25
  let c0_i32_15 : BitVec 32 := 0#32
  let v23 : BitVec 1 := Scalar.cmpi .ne v22 c0_i32_15
  let v27 : BitVec 1 := Scalar.andi v26 v23
  let v28 : BitVec 32 := Scalar.addi v22 v21
  let v29 : BitVec 32 := Scalar.select v27 v28 v22
  let c1_i32_19 : BitVec 32 := 1#32
  let v30 : BitVec 32 := Scalar.muli v29 c1_i32_19
  let v31 : BitVec 32 := Scalar.addi c0_i32_20 v30
  v31.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_21 : BitVec 32 := 1#32
  let v32 : BitVec 32 := Scalar.addi v2 c1_i32_21
  let c2_i32 : BitVec 32 := 2#32
  let v33 : BitVec 32 := Scalar.addi v32 c2_i32
  let c4_i32_22 : BitVec 32 := 4#32
  let c0_i32_23 : BitVec 32 := 0#32
  let v34 : BitVec 1 := Scalar.cmpi .eq c4_i32_22 c0_i32_23
  let c1_i32_24 : BitVec 32 := 1#32
  let v35 : BitVec 32 := Scalar.select v34 c1_i32_24 c4_i32_22
  let v36 : BitVec 32 := Scalar.remsi v33 v35
  let c0_i32_26 : BitVec 32 := 0#32
  let v38 : BitVec 1 := Scalar.cmpi .slt v36 c0_i32_26
  let c0_i32_27 : BitVec 32 := 0#32
  let v39 : BitVec 1 := Scalar.cmpi .slt v35 c0_i32_27
  let v40 : BitVec 1 := Scalar.xori v38 v39
  let c0_i32_25 : BitVec 32 := 0#32
  let v37 : BitVec 1 := Scalar.cmpi .ne v36 c0_i32_25
  let v41 : BitVec 1 := Scalar.andi v40 v37
  let v42 : BitVec 32 := Scalar.addi v36 v35
  let v43 : BitVec 32 := Scalar.select v41 v42 v36
  let c1_i32_29 : BitVec 32 := 1#32
  let v44 : BitVec 32 := Scalar.muli v43 c1_i32_29
  let v45 : BitVec 32 := Scalar.addi c0_i32_30 v44
  v45.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_39 : BitVec 32 := 0#32
  ![v2.toNat, 0]
def k0_off2 (d0 : Dev nD) : Fin 4 → Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_45 : BitVec 32 := 0#32
  let c0_i32_46 : BitVec 32 := 0#32
  ![0, v2.toNat, 0, 0]
def k0_off3 (d0 : Dev nD) (c0_i32_32 : BitVec 32) : Fin 3 → Nat :=
  let c8_i32 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v46 : BitVec 32 := Scalar.addi v2 c1_i32_31
  let v47 : BitVec 32 := Scalar.addi v46 c0_i32_32
  let c4_i32_33 : BitVec 32 := 4#32
  let c0_i32_34 : BitVec 32 := 0#32
  let v48 : BitVec 1 := Scalar.cmpi .eq c4_i32_33 c0_i32_34
  let c1_i32_35 : BitVec 32 := 1#32
  let v49 : BitVec 32 := Scalar.select v48 c1_i32_35 c4_i32_33
  let v50 : BitVec 32 := Scalar.remsi v47 v49
  let c0_i32_37 : BitVec 32 := 0#32
  let v52 : BitVec 1 := Scalar.cmpi .slt v50 c0_i32_37
  let c0_i32_38 : BitVec 32 := 0#32
  let v53 : BitVec 1 := Scalar.cmpi .slt v49 c0_i32_38
  let v54 : BitVec 1 := Scalar.xori v52 v53
  let c0_i32_36 : BitVec 32 := 0#32
  let v51 : BitVec 1 := Scalar.cmpi .ne v50 c0_i32_36
  let v55 : BitVec 1 := Scalar.andi v54 v51
  let v56 : BitVec 32 := Scalar.addi v50 v49
  let v57 : BitVec 32 := Scalar.select v55 v56 v50
  let v58 : BitVec 32 := Scalar.muli c8_i32 v57
  let c0_i32_47 : BitVec 32 := 0#32
  let c0_i32_48 : BitVec 32 := 0#32
  ![v58.toNat, 0, 0]
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v46 : BitVec 32 := Scalar.addi v2 c1_i32_31
  let c0_i32_32 : BitVec 32 := 0#32
  let v47 : BitVec 32 := Scalar.addi v46 c0_i32_32
  let c4_i32_33 : BitVec 32 := 4#32
  let c0_i32_34 : BitVec 32 := 0#32
  let v48 : BitVec 1 := Scalar.cmpi .eq c4_i32_33 c0_i32_34
  let c1_i32_35 : BitVec 32 := 1#32
  let v49 : BitVec 32 := Scalar.select v48 c1_i32_35 c4_i32_33
  let v50 : BitVec 32 := Scalar.remsi v47 v49
  let c0_i32_37 : BitVec 32 := 0#32
  let v52 : BitVec 1 := Scalar.cmpi .slt v50 c0_i32_37
  let c0_i32_38 : BitVec 32 := 0#32
  let v53 : BitVec 1 := Scalar.cmpi .slt v49 c0_i32_38
  let v54 : BitVec 1 := Scalar.xori v52 v53
  let c0_i32_36 : BitVec 32 := 0#32
  let v51 : BitVec 1 := Scalar.cmpi .ne v50 c0_i32_36
  let v55 : BitVec 1 := Scalar.andi v54 v51
  let v56 : BitVec 32 := Scalar.addi v50 v49
  let v57 : BitVec 32 := Scalar.select v55 v56 v50
  let c1_i32_42 : BitVec 32 := 1#32
  let v59 : BitVec 32 := Scalar.muli v57 c1_i32_42
  let v60 : BitVec 32 := Scalar.addi c0_i32_43 v59
  v60.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_50 : BitVec 32 := 1#32
  ![v2.toNat, 1]
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v46 : BitVec 32 := Scalar.addi v2 c1_i32_31
  let c0_i32_32 : BitVec 32 := 0#32
  let v47 : BitVec 32 := Scalar.addi v46 c0_i32_32
  let c4_i32_33 : BitVec 32 := 4#32
  let c0_i32_34 : BitVec 32 := 0#32
  let v48 : BitVec 1 := Scalar.cmpi .eq c4_i32_33 c0_i32_34
  let c1_i32_35 : BitVec 32 := 1#32
  let v49 : BitVec 32 := Scalar.select v48 c1_i32_35 c4_i32_33
  let v50 : BitVec 32 := Scalar.remsi v47 v49
  let c0_i32_37 : BitVec 32 := 0#32
  let v52 : BitVec 1 := Scalar.cmpi .slt v50 c0_i32_37
  let c0_i32_38 : BitVec 32 := 0#32
  let v53 : BitVec 1 := Scalar.cmpi .slt v49 c0_i32_38
  let v54 : BitVec 1 := Scalar.xori v52 v53
  let c0_i32_36 : BitVec 32 := 0#32
  let v51 : BitVec 1 := Scalar.cmpi .ne v50 c0_i32_36
  let v55 : BitVec 1 := Scalar.andi v54 v51
  let v56 : BitVec 32 := Scalar.addi v50 v49
  let v57 : BitVec 32 := Scalar.select v55 v56 v50
  let c1_i32_53 : BitVec 32 := 1#32
  let v69 : BitVec 32 := Scalar.muli v57 c1_i32_53
  let v70 : BitVec 32 := Scalar.addi c0_i32_54 v69
  v70.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v78 : BitVec 32 := Scalar.addi v2 c1_i32_60
  let c1_i32_61 : BitVec 32 := 1#32
  let v79 : BitVec 32 := Scalar.addi v78 c1_i32_61
  let c4_i32_62 : BitVec 32 := 4#32
  let c0_i32_63 : BitVec 32 := 0#32
  let v80 : BitVec 1 := Scalar.cmpi .eq c4_i32_62 c0_i32_63
  let c1_i32_64 : BitVec 32 := 1#32
  let v81 : BitVec 32 := Scalar.select v80 c1_i32_64 c4_i32_62
  let v82 : BitVec 32 := Scalar.remsi v79 v81
  let c0_i32_66 : BitVec 32 := 0#32
  let v84 : BitVec 1 := Scalar.cmpi .slt v82 c0_i32_66
  let c0_i32_67 : BitVec 32 := 0#32
  let v85 : BitVec 1 := Scalar.cmpi .slt v81 c0_i32_67
  let v86 : BitVec 1 := Scalar.xori v84 v85
  let c0_i32_65 : BitVec 32 := 0#32
  let v83 : BitVec 1 := Scalar.cmpi .ne v82 c0_i32_65
  let v87 : BitVec 1 := Scalar.andi v86 v83
  let v88 : BitVec 32 := Scalar.addi v82 v81
  let v89 : BitVec 32 := Scalar.select v87 v88 v82
  let c1_i32_72 : BitVec 32 := 1#32
  let v91 : BitVec 32 := Scalar.muli v89 c1_i32_72
  let v92 : BitVec 32 := Scalar.addi c0_i32_73 v91
  v92.toNat
def k0_dev7 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v78 : BitVec 32 := Scalar.addi v2 c1_i32_60
  let c1_i32_61 : BitVec 32 := 1#32
  let v79 : BitVec 32 := Scalar.addi v78 c1_i32_61
  let c4_i32_62 : BitVec 32 := 4#32
  let c0_i32_63 : BitVec 32 := 0#32
  let v80 : BitVec 1 := Scalar.cmpi .eq c4_i32_62 c0_i32_63
  let c1_i32_64 : BitVec 32 := 1#32
  let v81 : BitVec 32 := Scalar.select v80 c1_i32_64 c4_i32_62
  let v82 : BitVec 32 := Scalar.remsi v79 v81
  let c0_i32_66 : BitVec 32 := 0#32
  let v84 : BitVec 1 := Scalar.cmpi .slt v82 c0_i32_66
  let c0_i32_67 : BitVec 32 := 0#32
  let v85 : BitVec 1 := Scalar.cmpi .slt v81 c0_i32_67
  let v86 : BitVec 1 := Scalar.xori v84 v85
  let c0_i32_65 : BitVec 32 := 0#32
  let v83 : BitVec 1 := Scalar.cmpi .ne v82 c0_i32_65
  let v87 : BitVec 1 := Scalar.andi v86 v83
  let v88 : BitVec 32 := Scalar.addi v82 v81
  let v89 : BitVec 32 := Scalar.select v87 v88 v82
  let c1_i32_83 : BitVec 32 := 1#32
  let v101 : BitVec 32 := Scalar.muli v89 c1_i32_83
  let v102 : BitVec 32 := Scalar.addi c0_i32_84 v101
  v102.toNat
def k0_dev8 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_90 : BitVec 32 := 1#32
  let v110 : BitVec 32 := Scalar.addi v2 c1_i32_90
  let c2_i32_91 : BitVec 32 := 2#32
  let v111 : BitVec 32 := Scalar.addi v110 c2_i32_91
  let c4_i32_92 : BitVec 32 := 4#32
  let c0_i32_93 : BitVec 32 := 0#32
  let v112 : BitVec 1 := Scalar.cmpi .eq c4_i32_92 c0_i32_93
  let c1_i32_94 : BitVec 32 := 1#32
  let v113 : BitVec 32 := Scalar.select v112 c1_i32_94 c4_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c1_i32_102 : BitVec 32 := 1#32
  let v123 : BitVec 32 := Scalar.muli v121 c1_i32_102
  let v124 : BitVec 32 := Scalar.addi c0_i32_103 v123
  v124.toNat
def k0_dev9 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_90 : BitVec 32 := 1#32
  let v110 : BitVec 32 := Scalar.addi v2 c1_i32_90
  let c2_i32_91 : BitVec 32 := 2#32
  let v111 : BitVec 32 := Scalar.addi v110 c2_i32_91
  let c4_i32_92 : BitVec 32 := 4#32
  let c0_i32_93 : BitVec 32 := 0#32
  let v112 : BitVec 1 := Scalar.cmpi .eq c4_i32_92 c0_i32_93
  let c1_i32_94 : BitVec 32 := 1#32
  let v113 : BitVec 32 := Scalar.select v112 c1_i32_94 c4_i32_92
  let v114 : BitVec 32 := Scalar.remsi v111 v113
  let c0_i32_96 : BitVec 32 := 0#32
  let v116 : BitVec 1 := Scalar.cmpi .slt v114 c0_i32_96
  let c0_i32_97 : BitVec 32 := 0#32
  let v117 : BitVec 1 := Scalar.cmpi .slt v113 c0_i32_97
  let v118 : BitVec 1 := Scalar.xori v116 v117
  let c0_i32_95 : BitVec 32 := 0#32
  let v115 : BitVec 1 := Scalar.cmpi .ne v114 c0_i32_95
  let v119 : BitVec 1 := Scalar.andi v118 v115
  let v120 : BitVec 32 := Scalar.addi v114 v113
  let v121 : BitVec 32 := Scalar.select v119 v120 v114
  let c1_i32_113 : BitVec 32 := 1#32
  let v133 : BitVec 32 := Scalar.muli v121 c1_i32_113
  let v134 : BitVec 32 := Scalar.addi c0_i32_114 v133
  v134.toNat
def k0_off5 (d0 : Dev nD) : Fin 3 → Nat :=
  let c8_i32_120 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v142 : BitVec 32 := Scalar.muli c8_i32_120 v2
  let c0_i32_125 : BitVec 32 := 0#32
  let c0_i32_126 : BitVec 32 := 0#32
  ![v142.toNat, 0, 0]
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_139 : BitVec 32 := 0#32
  let v162 : BitVec 1 := Scalar.cmpi .eq v2 c0_i32_139
  let v163 : BitVec 32 := Scalar.extui v162
  let c0_i32_141 : BitVec 32 := 0#32
  let v164 : BitVec 1 := Scalar.cmpi .ne v163 c0_i32_141
  v164

def k0_off6 (d0 : Dev nD) : Fin 4 → Nat :=
  let c0_i32_862 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_863 : BitVec 32 := 0#32
  let c0_i32_864 : BitVec 32 := 0#32
  ![0, v2.toNat, 0, 0]
def k0_off7 (d0 : Dev nD) : Fin 3 → Nat :=
  let c8_i32_120 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v142 : BitVec 32 := Scalar.muli c8_i32_120 v2
  let c0_i32_865 : BitVec 32 := 0#32
  let c0_i32_866 : BitVec 32 := 0#32
  ![v142.toNat, 0, 0]
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_144 : BitVec 32 := 0#32
  let v168 : BitVec 1 := Scalar.cmpi .eq v2 c0_i32_144
  let v169 : BitVec 32 := Scalar.extui v168
  let c0_i32_146 : BitVec 32 := 0#32
  let v170 : BitVec 1 := Scalar.cmpi .ne v169 c0_i32_146
  v170

def k0_off8 (d0 : Dev nD) : Fin 4 → Nat :=
  let c0_i32_862 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_863 : BitVec 32 := 0#32
  let c0_i32_864 : BitVec 32 := 0#32
  ![0, v2.toNat, 0, 0]
def k0_off9 (d0 : Dev nD) : Fin 3 → Nat :=
  let c8_i32_127 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v148 : BitVec 32 := Scalar.muli c8_i32_127 v2
  let c0_i32_865 : BitVec 32 := 0#32
  let c0_i32_866 : BitVec 32 := 0#32
  ![v148.toNat, 0, 0]
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_149 : BitVec 32 := 1#32
  let v174 : BitVec 1 := Scalar.cmpi .eq v2 c1_i32_149
  let v175 : BitVec 32 := Scalar.extui v174
  let c0_i32_151 : BitVec 32 := 0#32
  let v176 : BitVec 1 := Scalar.cmpi .ne v175 c0_i32_151
  v176

def k0_off10 (d0 : Dev nD) : Fin 4 → Nat :=
  let c0_i32_862 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_863 : BitVec 32 := 0#32
  let c0_i32_864 : BitVec 32 := 0#32
  ![0, v2.toNat, 0, 0]
def k0_off11 (d0 : Dev nD) : Fin 3 → Nat :=
  let c8_i32_120 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v142 : BitVec 32 := Scalar.muli c8_i32_120 v2
  let c0_i32_865 : BitVec 32 := 0#32
  let c0_i32_866 : BitVec 32 := 0#32
  ![v142.toNat, 0, 0]
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_154 : BitVec 32 := 1#32
  let v180 : BitVec 1 := Scalar.cmpi .eq v2 c1_i32_154
  let v181 : BitVec 32 := Scalar.extui v180
  let c0_i32_156 : BitVec 32 := 0#32
  let v182 : BitVec 1 := Scalar.cmpi .ne v181 c0_i32_156
  v182

def k0_off12 (d0 : Dev nD) : Fin 4 → Nat :=
  let c0_i32_862 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_863 : BitVec 32 := 0#32
  let c0_i32_864 : BitVec 32 := 0#32
  ![0, v2.toNat, 0, 0]
def k0_off13 (d0 : Dev nD) : Fin 3 → Nat :=
  let c8_i32_127 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v148 : BitVec 32 := Scalar.muli c8_i32_127 v2
  let c0_i32_865 : BitVec 32 := 0#32
  let c0_i32_866 : BitVec 32 := 0#32
  ![v148.toNat, 0, 0]
@[reducible] def k0_t1_loop : Scf.Loop 32 :=
  let c0_i32_180 : BitVec 32 := 0#32
  let c5_i32 : BitVec 32 := 5#32
  let v202 : BitVec 32 := Scalar.addi c0_i32_180 c5_i32
  let c1_i32_181 : BitVec 32 := 1#32
  ⟨c0_i32_180, v202, c1_i32_181⟩
def k0_off14 (k0_t1 : Fin k0_t1_loop.trips) : Fin 2 → Nat :=
  let c0_i32_862 : BitVec 32 := 0#32
  let c0_i32_180 : BitVec 32 := 0#32
  let c1_i32_181 : BitVec 32 := 1#32
  let arg14 : BitVec 32 := Scf.iv c0_i32_180 c1_i32_181 k0_t1
  let v982 : BitVec 32 := Scalar.addi c0_i32_862 arg14
  let c2_i32_863 : BitVec 32 := 2#32
  let v983 : BitVec 32 := Scalar.remsi v982 c2_i32_863
  let c0_i32_879 : BitVec 32 := 0#32
  ![v983.toNat, 0]
def k0_off15 (k0_t1 : Fin k0_t1_loop.trips) : Fin 3 → Nat :=
  let c0_i32_862 : BitVec 32 := 0#32
  let c0_i32_180 : BitVec 32 := 0#32
  let c1_i32_181 : BitVec 32 := 1#32
  let arg14 : BitVec 32 := Scf.iv c0_i32_180 c1_i32_181 k0_t1
  let v982 : BitVec 32 := Scalar.addi c0_i32_862 arg14
  let c2_i32_863 : BitVec 32 := 2#32
  let v983 : BitVec 32 := Scalar.remsi v982 c2_i32_863
  let c0_i32_880 : BitVec 32 := 0#32
  let c0_i32_881 : BitVec 32 := 0#32
  ![v983.toNat, 0, 0]
def k0_off16 (k0_t1 : Fin k0_t1_loop.trips) : Fin 4 → Nat :=
  let c0_i32_878 : BitVec 32 := 0#32
  let c0_i32_180 : BitVec 32 := 0#32
  let c1_i32_181 : BitVec 32 := 1#32
  let arg14 : BitVec 32 := Scf.iv c0_i32_180 c1_i32_181 k0_t1
  let c0_i32_865 : BitVec 32 := 0#32
  let v985 : BitVec 1 := Scalar.cmpi .sgt arg14 c0_i32_865
  let v986 : BitVec 32 := Scalar.extui v985
  let c0_i32_866 : BitVec 32 := 0#32
  let v987 : BitVec 1 := Scalar.cmpi .slt arg14 c0_i32_866
  let v988 : BitVec 32 := Scalar.extui v987
  let v989 : BitVec 32 := Scalar.subi v986 v988
  let c4_i32_864 : BitVec 32 := 4#32
  let c0_i32_867 : BitVec 32 := 0#32
  let v990 : BitVec 1 := Scalar.cmpi .sgt c4_i32_864 c0_i32_867
  let v991 : BitVec 32 := Scalar.extui v990
  let c0_i32_868 : BitVec 32 := 0#32
  let v992 : BitVec 1 := Scalar.cmpi .slt c4_i32_864 c0_i32_868
  let v993 : BitVec 32 := Scalar.extui v992
  let v994 : BitVec 32 := Scalar.subi v991 v993
  let v995 : BitVec 1 := Scalar.cmpi .ne v989 v994
  let v996 : BitVec 32 := Scalar.remsi arg14 c4_i32_864
  let c0_i32_869 : BitVec 32 := 0#32
  let v997 : BitVec 1 := Scalar.cmpi .ne v996 c0_i32_869
  let v998 : BitVec 1 := Scalar.andi v995 v997
  let v984 : BitVec 32 := Scalar.divsi arg14 c4_i32_864
  let c1_i32_870 : BitVec 32 := 1#32
  let v999 : BitVec 32 := Scalar.subi v984 c1_i32_870
  let v1000 : BitVec 32 := Scalar.select v998 v999 v984
  let c4_i32_871 : BitVec 32 := 4#32
  let c0_i32_872 : BitVec 32 := 0#32
  let v1001 : BitVec 1 := Scalar.cmpi .eq c4_i32_871 c0_i32_872
  let c1_i32_873 : BitVec 32 := 1#32
  let v1002 : BitVec 32 := Scalar.select v1001 c1_i32_873 c4_i32_871
  let v1003 : BitVec 32 := Scalar.remsi arg14 v1002
  let c0_i32_875 : BitVec 32 := 0#32
  let v1005 : BitVec 1 := Scalar.cmpi .slt v1003 c0_i32_875
  let c0_i32_876 : BitVec 32 := 0#32
  let v1006 : BitVec 1 := Scalar.cmpi .slt v1002 c0_i32_876
  let v1007 : BitVec 1 := Scalar.xori v1005 v1006
  let c0_i32_874 : BitVec 32 := 0#32
  let v1004 : BitVec 1 := Scalar.cmpi .ne v1003 c0_i32_874
  let v1008 : BitVec 1 := Scalar.andi v1007 v1004
  let v1009 : BitVec 32 := Scalar.addi v1003 v1002
  let v1010 : BitVec 32 := Scalar.select v1008 v1009 v1003
  let c512_i32_877 : BitVec 32 := 512#32
  let v1011 : BitVec 32 := Scalar.muli v1010 c512_i32_877
  let c0_i32_882 : BitVec 32 := 0#32
  ![0, v1000.toNat, v1011.toNat, 0]
def k0_off17 (k0_t1 : Fin k0_t1_loop.trips) : Fin 2 → Nat :=
  let c0_i32_862 : BitVec 32 := 0#32
  let c0_i32_180 : BitVec 32 := 0#32
  let c1_i32_181 : BitVec 32 := 1#32
  let arg14 : BitVec 32 := Scf.iv c0_i32_180 c1_i32_181 k0_t1
  let v982 : BitVec 32 := Scalar.addi c0_i32_862 arg14
  let c2_i32_863 : BitVec 32 := 2#32
  let v983 : BitVec 32 := Scalar.remsi v982 c2_i32_863
  let c1_i32_884 : BitVec 32 := 1#32
  ![v983.toNat, 1]
def k0_cond9 (k0_t1 : Fin k0_t1_loop.trips) : BitVec 1 :=
  let c0_i32_180 : BitVec 32 := 0#32
  let c1_i32_181 : BitVec 32 := 1#32
  let arg14 : BitVec 32 := Scf.iv c0_i32_180 c1_i32_181 k0_t1
  let c1_i32_888 : BitVec 32 := 1#32
  let v1024 : BitVec 32 := Scalar.addi arg14 c1_i32_888
  let c5_i32_889 : BitVec 32 := 5#32
  let v1025 : BitVec 1 := Scalar.cmpi .slt v1024 c5_i32_889
  let v1026 : BitVec 32 := Scalar.extui v1025
  let c0_i32_890 : BitVec 32 := 0#32
  let v1027 : BitVec 1 := Scalar.cmpi .ne v1026 c0_i32_890
  v1027

def k0_off18 (k0_t1 : Fin k0_t1_loop.trips) : Fin 2 → Nat :=
  let c1_i32_903 : BitVec 32 := 1#32
  let c0_i32_862 : BitVec 32 := 0#32
  let c0_i32_180 : BitVec 32 := 0#32
  let c1_i32_181 : BitVec 32 := 1#32
  let arg14 : BitVec 32 := Scf.iv c0_i32_180 c1_i32_181 k0_t1
  let v982 : BitVec 32 := Scalar.addi c0_i32_862 arg14
  let c2_i32_863 : BitVec 32 := 2#32
  let v983 : BitVec 32 := Scalar.remsi v982 c2_i32_863
  let v1071 : BitVec 32 := Scalar.subi c1_i32_903 v983
  let c0_i32_919 : BitVec 32 := 0#32
  ![v1071.toNat, 0]
def k0_off19 (k0_t1 : Fin k0_t1_loop.trips) : Fin 3 → Nat :=
  let c1_i32_903 : BitVec 32 := 1#32
  let c0_i32_862 : BitVec 32 := 0#32
  let c0_i32_180 : BitVec 32 := 0#32
  let c1_i32_181 : BitVec 32 := 1#32
  let arg14 : BitVec 32 := Scf.iv c0_i32_180 c1_i32_181 k0_t1
  let v982 : BitVec 32 := Scalar.addi c0_i32_862 arg14
  let c2_i32_863 : BitVec 32 := 2#32
  let v983 : BitVec 32 := Scalar.remsi v982 c2_i32_863
  let v1071 : BitVec 32 := Scalar.subi c1_i32_903 v983
  let c0_i32_920 : BitVec 32 := 0#32
  let c0_i32_921 : BitVec 32 := 0#32
  ![v1071.toNat, 0, 0]
def k0_off20 (k0_t1 : Fin k0_t1_loop.trips) : Fin 4 → Nat :=
  let c0_i32_918 : BitVec 32 := 0#32
  let c0_i32_180 : BitVec 32 := 0#32
  let c1_i32_181 : BitVec 32 := 1#32
  let arg14 : BitVec 32 := Scf.iv c0_i32_180 c1_i32_181 k0_t1
  let c1_i32_902 : BitVec 32 := 1#32
  let v1070 : BitVec 32 := Scalar.addi arg14 c1_i32_902
  let c0_i32_905 : BitVec 32 := 0#32
  let v1073 : BitVec 1 := Scalar.cmpi .sgt v1070 c0_i32_905
  let v1074 : BitVec 32 := Scalar.extui v1073
  let c0_i32_906 : BitVec 32 := 0#32
  let v1075 : BitVec 1 := Scalar.cmpi .slt v1070 c0_i32_906
  let v1076 : BitVec 32 := Scalar.extui v1075
  let v1077 : BitVec 32 := Scalar.subi v1074 v1076
  let c4_i32_904 : BitVec 32 := 4#32
  let c0_i32_907 : BitVec 32 := 0#32
  let v1078 : BitVec 1 := Scalar.cmpi .sgt c4_i32_904 c0_i32_907
  let v1079 : BitVec 32 := Scalar.extui v1078
  let c0_i32_908 : BitVec 32 := 0#32
  let v1080 : BitVec 1 := Scalar.cmpi .slt c4_i32_904 c0_i32_908
  let v1081 : BitVec 32 := Scalar.extui v1080
  let v1082 : BitVec 32 := Scalar.subi v1079 v1081
  let v1083 : BitVec 1 := Scalar.cmpi .ne v1077 v1082
  let v1084 : BitVec 32 := Scalar.remsi v1070 c4_i32_904
  let c0_i32_909 : BitVec 32 := 0#32
  let v1085 : BitVec 1 := Scalar.cmpi .ne v1084 c0_i32_909
  let v1086 : BitVec 1 := Scalar.andi v1083 v1085
  let v1072 : BitVec 32 := Scalar.divsi v1070 c4_i32_904
  let c1_i32_910 : BitVec 32 := 1#32
  let v1087 : BitVec 32 := Scalar.subi v1072 c1_i32_910
  let v1088 : BitVec 32 := Scalar.select v1086 v1087 v1072
  let c4_i32_911 : BitVec 32 := 4#32
  let c0_i32_912 : BitVec 32 := 0#32
  let v1089 : BitVec 1 := Scalar.cmpi .eq c4_i32_911 c0_i32_912
  let c1_i32_913 : BitVec 32 := 1#32
  let v1090 : BitVec 32 := Scalar.select v1089 c1_i32_913 c4_i32_911
  let v1091 : BitVec 32 := Scalar.remsi v1070 v1090
  let c0_i32_915 : BitVec 32 := 0#32
  let v1093 : BitVec 1 := Scalar.cmpi .slt v1091 c0_i32_915
  let c0_i32_916 : BitVec 32 := 0#32
  let v1094 : BitVec 1 := Scalar.cmpi .slt v1090 c0_i32_916
  let v1095 : BitVec 1 := Scalar.xori v1093 v1094
  let c0_i32_914 : BitVec 32 := 0#32
  let v1092 : BitVec 1 := Scalar.cmpi .ne v1091 c0_i32_914
  let v1096 : BitVec 1 := Scalar.andi v1095 v1092
  let v1097 : BitVec 32 := Scalar.addi v1091 v1090
  let v1098 : BitVec 32 := Scalar.select v1096 v1097 v1091
  let c512_i32_917 : BitVec 32 := 512#32
  let v1099 : BitVec 32 := Scalar.muli v1098 c512_i32_917
  let c0_i32_922 : BitVec 32 := 0#32
  ![0, v1088.toNat, v1099.toNat, 0]
def k0_off21 (k0_t1 : Fin k0_t1_loop.trips) : Fin 2 → Nat :=
  let c1_i32_903 : BitVec 32 := 1#32
  let c0_i32_862 : BitVec 32 := 0#32
  let c0_i32_180 : BitVec 32 := 0#32
  let c1_i32_181 : BitVec 32 := 1#32
  let arg14 : BitVec 32 := Scf.iv c0_i32_180 c1_i32_181 k0_t1
  let v982 : BitVec 32 := Scalar.addi c0_i32_862 arg14
  let c2_i32_863 : BitVec 32 := 2#32
  let v983 : BitVec 32 := Scalar.remsi v982 c2_i32_863
  let v1071 : BitVec 32 := Scalar.subi c1_i32_903 v983
  let c1_i32_924 : BitVec 32 := 1#32
  ![v1071.toNat, 1]
def k0_off22 (k0_t1 : Fin k0_t1_loop.trips) : Fin 3 → Nat :=
  let c0_i32_862 : BitVec 32 := 0#32
  let c0_i32_180 : BitVec 32 := 0#32
  let c1_i32_181 : BitVec 32 := 1#32
  let arg14 : BitVec 32 := Scf.iv c0_i32_180 c1_i32_181 k0_t1
  let v982 : BitVec 32 := Scalar.addi c0_i32_862 arg14
  let c2_i32_863 : BitVec 32 := 2#32
  let v983 : BitVec 32 := Scalar.remsi v982 c2_i32_863
  let v1028 : Index := Scalar.indexCast v983
  let c0_891 : Index := 0#32
  let c0_892 : Index := 0#32
  ![v1028.toNat, 0, 0]
@[reducible] def k0_t2_loop : Scf.Loop 32 :=
  let c0_i32_221 : BitVec 32 := 0#32
  let c5_i32_222 : BitVec 32 := 5#32
  let v246 : BitVec 32 := Scalar.addi c0_i32_221 c5_i32_222
  let c1_i32_223 : BitVec 32 := 1#32
  ⟨c0_i32_221, v246, c1_i32_223⟩
def k0_off23 (k0_t2 : Fin k0_t2_loop.trips) : Fin 2 → Nat :=
  let c5_i32_862 : BitVec 32 := 5#32
  let c0_i32_221 : BitVec 32 := 0#32
  let c1_i32_223 : BitVec 32 := 1#32
  let arg14 : BitVec 32 := Scf.iv c0_i32_221 c1_i32_223 k0_t2
  let v982 : BitVec 32 := Scalar.addi c5_i32_862 arg14
  let c2_i32_863 : BitVec 32 := 2#32
  let v983 : BitVec 32 := Scalar.remsi v982 c2_i32_863
  let c0_i32_879 : BitVec 32 := 0#32
  ![v983.toNat, 0]
def k0_off24 (k0_t2 : Fin k0_t2_loop.trips) : Fin 3 → Nat :=
  let c5_i32_862 : BitVec 32 := 5#32
  let c0_i32_221 : BitVec 32 := 0#32
  let c1_i32_223 : BitVec 32 := 1#32
  let arg14 : BitVec 32 := Scf.iv c0_i32_221 c1_i32_223 k0_t2
  let v982 : BitVec 32 := Scalar.addi c5_i32_862 arg14
  let c2_i32_863 : BitVec 32 := 2#32
  let v983 : BitVec 32 := Scalar.remsi v982 c2_i32_863
  let c0_i32_880 : BitVec 32 := 0#32
  let c0_i32_881 : BitVec 32 := 0#32
  ![v983.toNat, 0, 0]
def k0_off25 (k0_t2 : Fin k0_t2_loop.trips) : Fin 4 → Nat :=
  let c1_i32_878 : BitVec 32 := 1#32
  let c0_i32_221 : BitVec 32 := 0#32
  let c1_i32_223 : BitVec 32 := 1#32
  let arg14 : BitVec 32 := Scf.iv c0_i32_221 c1_i32_223 k0_t2
  let c0_i32_865 : BitVec 32 := 0#32
  let v985 : BitVec 1 := Scalar.cmpi .sgt arg14 c0_i32_865
  let v986 : BitVec 32 := Scalar.extui v985
  let c0_i32_866 : BitVec 32 := 0#32
  let v987 : BitVec 1 := Scalar.cmpi .slt arg14 c0_i32_866
  let v988 : BitVec 32 := Scalar.extui v987
  let v989 : BitVec 32 := Scalar.subi v986 v988
  let c4_i32_864 : BitVec 32 := 4#32
  let c0_i32_867 : BitVec 32 := 0#32
  let v990 : BitVec 1 := Scalar.cmpi .sgt c4_i32_864 c0_i32_867
  let v991 : BitVec 32 := Scalar.extui v990
  let c0_i32_868 : BitVec 32 := 0#32
  let v992 : BitVec 1 := Scalar.cmpi .slt c4_i32_864 c0_i32_868
  let v993 : BitVec 32 := Scalar.extui v992
  let v994 : BitVec 32 := Scalar.subi v991 v993
  let v995 : BitVec 1 := Scalar.cmpi .ne v989 v994
  let v996 : BitVec 32 := Scalar.remsi arg14 c4_i32_864
  let c0_i32_869 : BitVec 32 := 0#32
  let v997 : BitVec 1 := Scalar.cmpi .ne v996 c0_i32_869
  let v998 : BitVec 1 := Scalar.andi v995 v997
  let v984 : BitVec 32 := Scalar.divsi arg14 c4_i32_864
  let c1_i32_870 : BitVec 32 := 1#32
  let v999 : BitVec 32 := Scalar.subi v984 c1_i32_870
  let v1000 : BitVec 32 := Scalar.select v998 v999 v984
  let c4_i32_871 : BitVec 32 := 4#32
  let c0_i32_872 : BitVec 32 := 0#32
  let v1001 : BitVec 1 := Scalar.cmpi .eq c4_i32_871 c0_i32_872
  let c1_i32_873 : BitVec 32 := 1#32
  let v1002 : BitVec 32 := Scalar.select v1001 c1_i32_873 c4_i32_871
  let v1003 : BitVec 32 := Scalar.remsi arg14 v1002
  let c0_i32_875 : BitVec 32 := 0#32
  let v1005 : BitVec 1 := Scalar.cmpi .slt v1003 c0_i32_875
  let c0_i32_876 : BitVec 32 := 0#32
  let v1006 : BitVec 1 := Scalar.cmpi .slt v1002 c0_i32_876
  let v1007 : BitVec 1 := Scalar.xori v1005 v1006
  let c0_i32_874 : BitVec 32 := 0#32
  let v1004 : BitVec 1 := Scalar.cmpi .ne v1003 c0_i32_874
  let v1008 : BitVec 1 := Scalar.andi v1007 v1004
  let v1009 : BitVec 32 := Scalar.addi v1003 v1002
  let v1010 : BitVec 32 := Scalar.select v1008 v1009 v1003
  let c512_i32_877 : BitVec 32 := 512#32
  let v1011 : BitVec 32 := Scalar.muli v1010 c512_i32_877
  let c0_i32_882 : BitVec 32 := 0#32
  ![1, v1000.toNat, v1011.toNat, 0]
def k0_off26 (k0_t2 : Fin k0_t2_loop.trips) : Fin 2 → Nat :=
  let c5_i32_862 : BitVec 32 := 5#32
  let c0_i32_221 : BitVec 32 := 0#32
  let c1_i32_223 : BitVec 32 := 1#32
  let arg14 : BitVec 32 := Scf.iv c0_i32_221 c1_i32_223 k0_t2
  let v982 : BitVec 32 := Scalar.addi c5_i32_862 arg14
  let c2_i32_863 : BitVec 32 := 2#32
  let v983 : BitVec 32 := Scalar.remsi v982 c2_i32_863
  let c1_i32_884 : BitVec 32 := 1#32
  ![v983.toNat, 1]
def k0_cond10 (k0_t2 : Fin k0_t2_loop.trips) : BitVec 1 :=
  let c0_i32_221 : BitVec 32 := 0#32
  let c1_i32_223 : BitVec 32 := 1#32
  let arg14 : BitVec 32 := Scf.iv c0_i32_221 c1_i32_223 k0_t2
  let c1_i32_888 : BitVec 32 := 1#32
  let v1024 : BitVec 32 := Scalar.addi arg14 c1_i32_888
  let c5_i32_889 : BitVec 32 := 5#32
  let v1025 : BitVec 1 := Scalar.cmpi .slt v1024 c5_i32_889
  let v1026 : BitVec 32 := Scalar.extui v1025
  let c0_i32_890 : BitVec 32 := 0#32
  let v1027 : BitVec 1 := Scalar.cmpi .ne v1026 c0_i32_890
  v1027

def k0_off27 (k0_t2 : Fin k0_t2_loop.trips) : Fin 2 → Nat :=
  let c1_i32_903 : BitVec 32 := 1#32
  let c5_i32_862 : BitVec 32 := 5#32
  let c0_i32_221 : BitVec 32 := 0#32
  let c1_i32_223 : BitVec 32 := 1#32
  let arg14 : BitVec 32 := Scf.iv c0_i32_221 c1_i32_223 k0_t2
  let v982 : BitVec 32 := Scalar.addi c5_i32_862 arg14
  let c2_i32_863 : BitVec 32 := 2#32
  let v983 : BitVec 32 := Scalar.remsi v982 c2_i32_863
  let v1071 : BitVec 32 := Scalar.subi c1_i32_903 v983
  let c0_i32_919 : BitVec 32 := 0#32
  ![v1071.toNat, 0]
def k0_off28 (k0_t2 : Fin k0_t2_loop.trips) : Fin 3 → Nat :=
  let c1_i32_903 : BitVec 32 := 1#32
  let c5_i32_862 : BitVec 32 := 5#32
  let c0_i32_221 : BitVec 32 := 0#32
  let c1_i32_223 : BitVec 32 := 1#32
  let arg14 : BitVec 32 := Scf.iv c0_i32_221 c1_i32_223 k0_t2
  let v982 : BitVec 32 := Scalar.addi c5_i32_862 arg14
  let c2_i32_863 : BitVec 32 := 2#32
  let v983 : BitVec 32 := Scalar.remsi v982 c2_i32_863
  let v1071 : BitVec 32 := Scalar.subi c1_i32_903 v983
  let c0_i32_920 : BitVec 32 := 0#32
  let c0_i32_921 : BitVec 32 := 0#32
  ![v1071.toNat, 0, 0]
def k0_off29 (k0_t2 : Fin k0_t2_loop.trips) : Fin 4 → Nat :=
  let c1_i32_918 : BitVec 32 := 1#32
  let c0_i32_221 : BitVec 32 := 0#32
  let c1_i32_223 : BitVec 32 := 1#32
  let arg14 : BitVec 32 := Scf.iv c0_i32_221 c1_i32_223 k0_t2
  let c1_i32_902 : BitVec 32 := 1#32
  let v1070 : BitVec 32 := Scalar.addi arg14 c1_i32_902
  let c0_i32_905 : BitVec 32 := 0#32
  let v1073 : BitVec 1 := Scalar.cmpi .sgt v1070 c0_i32_905
  let v1074 : BitVec 32 := Scalar.extui v1073
  let c0_i32_906 : BitVec 32 := 0#32
  let v1075 : BitVec 1 := Scalar.cmpi .slt v1070 c0_i32_906
  let v1076 : BitVec 32 := Scalar.extui v1075
  let v1077 : BitVec 32 := Scalar.subi v1074 v1076
  let c4_i32_904 : BitVec 32 := 4#32
  let c0_i32_907 : BitVec 32 := 0#32
  let v1078 : BitVec 1 := Scalar.cmpi .sgt c4_i32_904 c0_i32_907
  let v1079 : BitVec 32 := Scalar.extui v1078
  let c0_i32_908 : BitVec 32 := 0#32
  let v1080 : BitVec 1 := Scalar.cmpi .slt c4_i32_904 c0_i32_908
  let v1081 : BitVec 32 := Scalar.extui v1080
  let v1082 : BitVec 32 := Scalar.subi v1079 v1081
  let v1083 : BitVec 1 := Scalar.cmpi .ne v1077 v1082
  let v1084 : BitVec 32 := Scalar.remsi v1070 c4_i32_904
  let c0_i32_909 : BitVec 32 := 0#32
  let v1085 : BitVec 1 := Scalar.cmpi .ne v1084 c0_i32_909
  let v1086 : BitVec 1 := Scalar.andi v1083 v1085
  let v1072 : BitVec 32 := Scalar.divsi v1070 c4_i32_904
  let c1_i32_910 : BitVec 32 := 1#32
  let v1087 : BitVec 32 := Scalar.subi v1072 c1_i32_910
  let v1088 : BitVec 32 := Scalar.select v1086 v1087 v1072
  let c4_i32_911 : BitVec 32 := 4#32
  let c0_i32_912 : BitVec 32 := 0#32
  let v1089 : BitVec 1 := Scalar.cmpi .eq c4_i32_911 c0_i32_912
  let c1_i32_913 : BitVec 32 := 1#32
  let v1090 : BitVec 32 := Scalar.select v1089 c1_i32_913 c4_i32_911
  let v1091 : BitVec 32 := Scalar.remsi v1070 v1090
  let c0_i32_915 : BitVec 32 := 0#32
  let v1093 : BitVec 1 := Scalar.cmpi .slt v1091 c0_i32_915
  let c0_i32_916 : BitVec 32 := 0#32
  let v1094 : BitVec 1 := Scalar.cmpi .slt v1090 c0_i32_916
  let v1095 : BitVec 1 := Scalar.xori v1093 v1094
  let c0_i32_914 : BitVec 32 := 0#32
  let v1092 : BitVec 1 := Scalar.cmpi .ne v1091 c0_i32_914
  let v1096 : BitVec 1 := Scalar.andi v1095 v1092
  let v1097 : BitVec 32 := Scalar.addi v1091 v1090
  let v1098 : BitVec 32 := Scalar.select v1096 v1097 v1091
  let c512_i32_917 : BitVec 32 := 512#32
  let v1099 : BitVec 32 := Scalar.muli v1098 c512_i32_917
  let c0_i32_922 : BitVec 32 := 0#32
  ![1, v1088.toNat, v1099.toNat, 0]
def k0_off30 (k0_t2 : Fin k0_t2_loop.trips) : Fin 2 → Nat :=
  let c1_i32_903 : BitVec 32 := 1#32
  let c5_i32_862 : BitVec 32 := 5#32
  let c0_i32_221 : BitVec 32 := 0#32
  let c1_i32_223 : BitVec 32 := 1#32
  let arg14 : BitVec 32 := Scf.iv c0_i32_221 c1_i32_223 k0_t2
  let v982 : BitVec 32 := Scalar.addi c5_i32_862 arg14
  let c2_i32_863 : BitVec 32 := 2#32
  let v983 : BitVec 32 := Scalar.remsi v982 c2_i32_863
  let v1071 : BitVec 32 := Scalar.subi c1_i32_903 v983
  let c1_i32_924 : BitVec 32 := 1#32
  ![v1071.toNat, 1]
def k0_off31 (k0_t2 : Fin k0_t2_loop.trips) : Fin 3 → Nat :=
  let c5_i32_862 : BitVec 32 := 5#32
  let c0_i32_221 : BitVec 32 := 0#32
  let c1_i32_223 : BitVec 32 := 1#32
  let arg14 : BitVec 32 := Scf.iv c0_i32_221 c1_i32_223 k0_t2
  let v982 : BitVec 32 := Scalar.addi c5_i32_862 arg14
  let c2_i32_863 : BitVec 32 := 2#32
  let v983 : BitVec 32 := Scalar.remsi v982 c2_i32_863
  let v1028 : Index := Scalar.indexCast v983
  let c0_891 : Index := 0#32
  let c0_892 : Index := 0#32
  ![v1028.toNat, 0, 0]
@[reducible] def k0_t3_loop : Scf.Loop 32 :=
  let c0_i32_273 : BitVec 32 := 0#32
  let c5_i32_274 : BitVec 32 := 5#32
  let v302 : BitVec 32 := Scalar.addi c0_i32_273 c5_i32_274
  let c1_i32_275 : BitVec 32 := 1#32
  ⟨c0_i32_273, v302, c1_i32_275⟩
def k0_off32 (k0_t3 : Fin k0_t3_loop.trips) : Fin 2 → Nat :=
  let c10_i32 : BitVec 32 := 10#32
  let c0_i32_273 : BitVec 32 := 0#32
  let c1_i32_275 : BitVec 32 := 1#32
  let arg14 : BitVec 32 := Scf.iv c0_i32_273 c1_i32_275 k0_t3
  let v982 : BitVec 32 := Scalar.addi c10_i32 arg14
  let c2_i32_862 : BitVec 32 := 2#32
  let v983 : BitVec 32 := Scalar.remsi v982 c2_i32_862
  let c0_i32_878 : BitVec 32 := 0#32
  ![v983.toNat, 0]
def k0_off33 (k0_t3 : Fin k0_t3_loop.trips) : Fin 3 → Nat :=
  let c10_i32 : BitVec 32 := 10#32
  let c0_i32_273 : BitVec 32 := 0#32
  let c1_i32_275 : BitVec 32 := 1#32
  let arg14 : BitVec 32 := Scf.iv c0_i32_273 c1_i32_275 k0_t3
  let v982 : BitVec 32 := Scalar.addi c10_i32 arg14
  let c2_i32_862 : BitVec 32 := 2#32
  let v983 : BitVec 32 := Scalar.remsi v982 c2_i32_862
  let c0_i32_879 : BitVec 32 := 0#32
  let c0_i32_880 : BitVec 32 := 0#32
  ![v983.toNat, 0, 0]
def k0_off34 (k0_t3 : Fin k0_t3_loop.trips) : Fin 4 → Nat :=
  let c2_i32_877 : BitVec 32 := 2#32
  let c0_i32_273 : BitVec 32 := 0#32
  let c1_i32_275 : BitVec 32 := 1#32
  let arg14 : BitVec 32 := Scf.iv c0_i32_273 c1_i32_275 k0_t3
  let c0_i32_864 : BitVec 32 := 0#32
  let v985 : BitVec 1 := Scalar.cmpi .sgt arg14 c0_i32_864
  let v986 : BitVec 32 := Scalar.extui v985
  let c0_i32_865 : BitVec 32 := 0#32
  let v987 : BitVec 1 := Scalar.cmpi .slt arg14 c0_i32_865
  let v988 : BitVec 32 := Scalar.extui v987
  let v989 : BitVec 32 := Scalar.subi v986 v988
  let c4_i32_863 : BitVec 32 := 4#32
  let c0_i32_866 : BitVec 32 := 0#32
  let v990 : BitVec 1 := Scalar.cmpi .sgt c4_i32_863 c0_i32_866
  let v991 : BitVec 32 := Scalar.extui v990
  let c0_i32_867 : BitVec 32 := 0#32
  let v992 : BitVec 1 := Scalar.cmpi .slt c4_i32_863 c0_i32_867
  let v993 : BitVec 32 := Scalar.extui v992
  let v994 : BitVec 32 := Scalar.subi v991 v993
  let v995 : BitVec 1 := Scalar.cmpi .ne v989 v994
  let v996 : BitVec 32 := Scalar.remsi arg14 c4_i32_863
  let c0_i32_868 : BitVec 32 := 0#32
  let v997 : BitVec 1 := Scalar.cmpi .ne v996 c0_i32_868
  let v998 : BitVec 1 := Scalar.andi v995 v997
  let v984 : BitVec 32 := Scalar.divsi arg14 c4_i32_863
  let c1_i32_869 : BitVec 32 := 1#32
  let v999 : BitVec 32 := Scalar.subi v984 c1_i32_869
  let v1000 : BitVec 32 := Scalar.select v998 v999 v984
  let c4_i32_870 : BitVec 32 := 4#32
  let c0_i32_871 : BitVec 32 := 0#32
  let v1001 : BitVec 1 := Scalar.cmpi .eq c4_i32_870 c0_i32_871
  let c1_i32_872 : BitVec 32 := 1#32
  let v1002 : BitVec 32 := Scalar.select v1001 c1_i32_872 c4_i32_870
  let v1003 : BitVec 32 := Scalar.remsi arg14 v1002
  let c0_i32_874 : BitVec 32 := 0#32
  let v1005 : BitVec 1 := Scalar.cmpi .slt v1003 c0_i32_874
  let c0_i32_875 : BitVec 32 := 0#32
  let v1006 : BitVec 1 := Scalar.cmpi .slt v1002 c0_i32_875
  let v1007 : BitVec 1 := Scalar.xori v1005 v1006
  let c0_i32_873 : BitVec 32 := 0#32
  let v1004 : BitVec 1 := Scalar.cmpi .ne v1003 c0_i32_873
  let v1008 : BitVec 1 := Scalar.andi v1007 v1004
  let v1009 : BitVec 32 := Scalar.addi v1003 v1002
  let v1010 : BitVec 32 := Scalar.select v1008 v1009 v1003
  let c512_i32_876 : BitVec 32 := 512#32
  let v1011 : BitVec 32 := Scalar.muli v1010 c512_i32_876
  let c0_i32_881 : BitVec 32 := 0#32
  ![2, v1000.toNat, v1011.toNat, 0]
def k0_off35 (k0_t3 : Fin k0_t3_loop.trips) : Fin 2 → Nat :=
  let c10_i32 : BitVec 32 := 10#32
  let c0_i32_273 : BitVec 32 := 0#32
  let c1_i32_275 : BitVec 32 := 1#32
  let arg14 : BitVec 32 := Scf.iv c0_i32_273 c1_i32_275 k0_t3
  let v982 : BitVec 32 := Scalar.addi c10_i32 arg14
  let c2_i32_862 : BitVec 32 := 2#32
  let v983 : BitVec 32 := Scalar.remsi v982 c2_i32_862
  let c1_i32_883 : BitVec 32 := 1#32
  ![v983.toNat, 1]
def k0_cond11 (k0_t3 : Fin k0_t3_loop.trips) : BitVec 1 :=
  let c0_i32_273 : BitVec 32 := 0#32
  let c1_i32_275 : BitVec 32 := 1#32
  let arg14 : BitVec 32 := Scf.iv c0_i32_273 c1_i32_275 k0_t3
  let c1_i32_887 : BitVec 32 := 1#32
  let v1024 : BitVec 32 := Scalar.addi arg14 c1_i32_887
  let c5_i32_888 : BitVec 32 := 5#32
  let v1025 : BitVec 1 := Scalar.cmpi .slt v1024 c5_i32_888
  let v1026 : BitVec 32 := Scalar.extui v1025
  let c0_i32_889 : BitVec 32 := 0#32
  let v1027 : BitVec 1 := Scalar.cmpi .ne v1026 c0_i32_889
  v1027

def k0_off36 (k0_t3 : Fin k0_t3_loop.trips) : Fin 2 → Nat :=
  let c1_i32_902 : BitVec 32 := 1#32
  let c10_i32 : BitVec 32 := 10#32
  let c0_i32_273 : BitVec 32 := 0#32
  let c1_i32_275 : BitVec 32 := 1#32
  let arg14 : BitVec 32 := Scf.iv c0_i32_273 c1_i32_275 k0_t3
  let v982 : BitVec 32 := Scalar.addi c10_i32 arg14
  let c2_i32_862 : BitVec 32 := 2#32
  let v983 : BitVec 32 := Scalar.remsi v982 c2_i32_862
  let v1071 : BitVec 32 := Scalar.subi c1_i32_902 v983
  let c0_i32_918 : BitVec 32 := 0#32
  ![v1071.toNat, 0]
def k0_off37 (k0_t3 : Fin k0_t3_loop.trips) : Fin 3 → Nat :=
  let c1_i32_902 : BitVec 32 := 1#32
  let c10_i32 : BitVec 32 := 10#32
  let c0_i32_273 : BitVec 32 := 0#32
  let c1_i32_275 : BitVec 32 := 1#32
  let arg14 : BitVec 32 := Scf.iv c0_i32_273 c1_i32_275 k0_t3
  let v982 : BitVec 32 := Scalar.addi c10_i32 arg14
  let c2_i32_862 : BitVec 32 := 2#32
  let v983 : BitVec 32 := Scalar.remsi v982 c2_i32_862
  let v1071 : BitVec 32 := Scalar.subi c1_i32_902 v983
  let c0_i32_919 : BitVec 32 := 0#32
  let c0_i32_920 : BitVec 32 := 0#32
  ![v1071.toNat, 0, 0]
def k0_off38 (k0_t3 : Fin k0_t3_loop.trips) : Fin 4 → Nat :=
  let c2_i32_917 : BitVec 32 := 2#32
  let c0_i32_273 : BitVec 32 := 0#32
  let c1_i32_275 : BitVec 32 := 1#32
  let arg14 : BitVec 32 := Scf.iv c0_i32_273 c1_i32_275 k0_t3
  let c1_i32_901 : BitVec 32 := 1#32
  let v1070 : BitVec 32 := Scalar.addi arg14 c1_i32_901
  let c0_i32_904 : BitVec 32 := 0#32
  let v1073 : BitVec 1 := Scalar.cmpi .sgt v1070 c0_i32_904
  let v1074 : BitVec 32 := Scalar.extui v1073
  let c0_i32_905 : BitVec 32 := 0#32
  let v1075 : BitVec 1 := Scalar.cmpi .slt v1070 c0_i32_905
  let v1076 : BitVec 32 := Scalar.extui v1075
  let v1077 : BitVec 32 := Scalar.subi v1074 v1076
  let c4_i32_903 : BitVec 32 := 4#32
  let c0_i32_906 : BitVec 32 := 0#32
  let v1078 : BitVec 1 := Scalar.cmpi .sgt c4_i32_903 c0_i32_906
  let v1079 : BitVec 32 := Scalar.extui v1078
  let c0_i32_907 : BitVec 32 := 0#32
  let v1080 : BitVec 1 := Scalar.cmpi .slt c4_i32_903 c0_i32_907
  let v1081 : BitVec 32 := Scalar.extui v1080
  let v1082 : BitVec 32 := Scalar.subi v1079 v1081
  let v1083 : BitVec 1 := Scalar.cmpi .ne v1077 v1082
  let v1084 : BitVec 32 := Scalar.remsi v1070 c4_i32_903
  let c0_i32_908 : BitVec 32 := 0#32
  let v1085 : BitVec 1 := Scalar.cmpi .ne v1084 c0_i32_908
  let v1086 : BitVec 1 := Scalar.andi v1083 v1085
  let v1072 : BitVec 32 := Scalar.divsi v1070 c4_i32_903
  let c1_i32_909 : BitVec 32 := 1#32
  let v1087 : BitVec 32 := Scalar.subi v1072 c1_i32_909
  let v1088 : BitVec 32 := Scalar.select v1086 v1087 v1072
  let c4_i32_910 : BitVec 32 := 4#32
  let c0_i32_911 : BitVec 32 := 0#32
  let v1089 : BitVec 1 := Scalar.cmpi .eq c4_i32_910 c0_i32_911
  let c1_i32_912 : BitVec 32 := 1#32
  let v1090 : BitVec 32 := Scalar.select v1089 c1_i32_912 c4_i32_910
  let v1091 : BitVec 32 := Scalar.remsi v1070 v1090
  let c0_i32_914 : BitVec 32 := 0#32
  let v1093 : BitVec 1 := Scalar.cmpi .slt v1091 c0_i32_914
  let c0_i32_915 : BitVec 32 := 0#32
  let v1094 : BitVec 1 := Scalar.cmpi .slt v1090 c0_i32_915
  let v1095 : BitVec 1 := Scalar.xori v1093 v1094
  let c0_i32_913 : BitVec 32 := 0#32
  let v1092 : BitVec 1 := Scalar.cmpi .ne v1091 c0_i32_913
  let v1096 : BitVec 1 := Scalar.andi v1095 v1092
  let v1097 : BitVec 32 := Scalar.addi v1091 v1090
  let v1098 : BitVec 32 := Scalar.select v1096 v1097 v1091
  let c512_i32_916 : BitVec 32 := 512#32
  let v1099 : BitVec 32 := Scalar.muli v1098 c512_i32_916
  let c0_i32_921 : BitVec 32 := 0#32
  ![2, v1088.toNat, v1099.toNat, 0]
def k0_off39 (k0_t3 : Fin k0_t3_loop.trips) : Fin 2 → Nat :=
  let c1_i32_902 : BitVec 32 := 1#32
  let c10_i32 : BitVec 32 := 10#32
  let c0_i32_273 : BitVec 32 := 0#32
  let c1_i32_275 : BitVec 32 := 1#32
  let arg14 : BitVec 32 := Scf.iv c0_i32_273 c1_i32_275 k0_t3
  let v982 : BitVec 32 := Scalar.addi c10_i32 arg14
  let c2_i32_862 : BitVec 32 := 2#32
  let v983 : BitVec 32 := Scalar.remsi v982 c2_i32_862
  let v1071 : BitVec 32 := Scalar.subi c1_i32_902 v983
  let c1_i32_923 : BitVec 32 := 1#32
  ![v1071.toNat, 1]
def k0_off40 (k0_t3 : Fin k0_t3_loop.trips) : Fin 3 → Nat :=
  let c10_i32 : BitVec 32 := 10#32
  let c0_i32_273 : BitVec 32 := 0#32
  let c1_i32_275 : BitVec 32 := 1#32
  let arg14 : BitVec 32 := Scf.iv c0_i32_273 c1_i32_275 k0_t3
  let v982 : BitVec 32 := Scalar.addi c10_i32 arg14
  let c2_i32_862 : BitVec 32 := 2#32
  let v983 : BitVec 32 := Scalar.remsi v982 c2_i32_862
  let v1028 : Index := Scalar.indexCast v983
  let c0_890 : Index := 0#32
  let c0_891 : Index := 0#32
  ![v1028.toNat, 0, 0]
@[reducible] def k0_t4_loop : Scf.Loop 32 :=
  let c0_i32_325 : BitVec 32 := 0#32
  let c5_i32_326 : BitVec 32 := 5#32
  let v358 : BitVec 32 := Scalar.addi c0_i32_325 c5_i32_326
  let c1_i32_327 : BitVec 32 := 1#32
  ⟨c0_i32_325, v358, c1_i32_327⟩
def k0_off41 (k0_t4 : Fin k0_t4_loop.trips) : Fin 2 → Nat :=
  let c15_i32 : BitVec 32 := 15#32
  let c0_i32_325 : BitVec 32 := 0#32
  let c1_i32_327 : BitVec 32 := 1#32
  let arg14 : BitVec 32 := Scf.iv c0_i32_325 c1_i32_327 k0_t4
  let v982 : BitVec 32 := Scalar.addi c15_i32 arg14
  let c2_i32_862 : BitVec 32 := 2#32
  let v983 : BitVec 32 := Scalar.remsi v982 c2_i32_862
  let c0_i32_878 : BitVec 32 := 0#32
  ![v983.toNat, 0]
def k0_off42 (k0_t4 : Fin k0_t4_loop.trips) : Fin 3 → Nat :=
  let c15_i32 : BitVec 32 := 15#32
  let c0_i32_325 : BitVec 32 := 0#32
  let c1_i32_327 : BitVec 32 := 1#32
  let arg14 : BitVec 32 := Scf.iv c0_i32_325 c1_i32_327 k0_t4
  let v982 : BitVec 32 := Scalar.addi c15_i32 arg14
  let c2_i32_862 : BitVec 32 := 2#32
  let v983 : BitVec 32 := Scalar.remsi v982 c2_i32_862
  let c0_i32_879 : BitVec 32 := 0#32
  let c0_i32_880 : BitVec 32 := 0#32
  ![v983.toNat, 0, 0]
def k0_off43 (k0_t4 : Fin k0_t4_loop.trips) : Fin 4 → Nat :=
  let c3_i32_877 : BitVec 32 := 3#32
  let c0_i32_325 : BitVec 32 := 0#32
  let c1_i32_327 : BitVec 32 := 1#32
  let arg14 : BitVec 32 := Scf.iv c0_i32_325 c1_i32_327 k0_t4
  let c0_i32_864 : BitVec 32 := 0#32
  let v985 : BitVec 1 := Scalar.cmpi .sgt arg14 c0_i32_864
  let v986 : BitVec 32 := Scalar.extui v985
  let c0_i32_865 : BitVec 32 := 0#32
  let v987 : BitVec 1 := Scalar.cmpi .slt arg14 c0_i32_865
  let v988 : BitVec 32 := Scalar.extui v987
  let v989 : BitVec 32 := Scalar.subi v986 v988
  let c4_i32_863 : BitVec 32 := 4#32
  let c0_i32_866 : BitVec 32 := 0#32
  let v990 : BitVec 1 := Scalar.cmpi .sgt c4_i32_863 c0_i32_866
  let v991 : BitVec 32 := Scalar.extui v990
  let c0_i32_867 : BitVec 32 := 0#32
  let v992 : BitVec 1 := Scalar.cmpi .slt c4_i32_863 c0_i32_867
  let v993 : BitVec 32 := Scalar.extui v992
  let v994 : BitVec 32 := Scalar.subi v991 v993
  let v995 : BitVec 1 := Scalar.cmpi .ne v989 v994
  let v996 : BitVec 32 := Scalar.remsi arg14 c4_i32_863
  let c0_i32_868 : BitVec 32 := 0#32
  let v997 : BitVec 1 := Scalar.cmpi .ne v996 c0_i32_868
  let v998 : BitVec 1 := Scalar.andi v995 v997
  let v984 : BitVec 32 := Scalar.divsi arg14 c4_i32_863
  let c1_i32_869 : BitVec 32 := 1#32
  let v999 : BitVec 32 := Scalar.subi v984 c1_i32_869
  let v1000 : BitVec 32 := Scalar.select v998 v999 v984
  let c4_i32_870 : BitVec 32 := 4#32
  let c0_i32_871 : BitVec 32 := 0#32
  let v1001 : BitVec 1 := Scalar.cmpi .eq c4_i32_870 c0_i32_871
  let c1_i32_872 : BitVec 32 := 1#32
  let v1002 : BitVec 32 := Scalar.select v1001 c1_i32_872 c4_i32_870
  let v1003 : BitVec 32 := Scalar.remsi arg14 v1002
  let c0_i32_874 : BitVec 32 := 0#32
  let v1005 : BitVec 1 := Scalar.cmpi .slt v1003 c0_i32_874
  let c0_i32_875 : BitVec 32 := 0#32
  let v1006 : BitVec 1 := Scalar.cmpi .slt v1002 c0_i32_875
  let v1007 : BitVec 1 := Scalar.xori v1005 v1006
  let c0_i32_873 : BitVec 32 := 0#32
  let v1004 : BitVec 1 := Scalar.cmpi .ne v1003 c0_i32_873
  let v1008 : BitVec 1 := Scalar.andi v1007 v1004
  let v1009 : BitVec 32 := Scalar.addi v1003 v1002
  let v1010 : BitVec 32 := Scalar.select v1008 v1009 v1003
  let c512_i32_876 : BitVec 32 := 512#32
  let v1011 : BitVec 32 := Scalar.muli v1010 c512_i32_876
  let c0_i32_881 : BitVec 32 := 0#32
  ![3, v1000.toNat, v1011.toNat, 0]
def k0_off44 (k0_t4 : Fin k0_t4_loop.trips) : Fin 2 → Nat :=
  let c15_i32 : BitVec 32 := 15#32
  let c0_i32_325 : BitVec 32 := 0#32
  let c1_i32_327 : BitVec 32 := 1#32
  let arg14 : BitVec 32 := Scf.iv c0_i32_325 c1_i32_327 k0_t4
  let v982 : BitVec 32 := Scalar.addi c15_i32 arg14
  let c2_i32_862 : BitVec 32 := 2#32
  let v983 : BitVec 32 := Scalar.remsi v982 c2_i32_862
  let c1_i32_883 : BitVec 32 := 1#32
  ![v983.toNat, 1]
def k0_cond12 (k0_t4 : Fin k0_t4_loop.trips) : BitVec 1 :=
  let c0_i32_325 : BitVec 32 := 0#32
  let c1_i32_327 : BitVec 32 := 1#32
  let arg14 : BitVec 32 := Scf.iv c0_i32_325 c1_i32_327 k0_t4
  let c1_i32_887 : BitVec 32 := 1#32
  let v1024 : BitVec 32 := Scalar.addi arg14 c1_i32_887
  let c5_i32_888 : BitVec 32 := 5#32
  let v1025 : BitVec 1 := Scalar.cmpi .slt v1024 c5_i32_888
  let v1026 : BitVec 32 := Scalar.extui v1025
  let c0_i32_889 : BitVec 32 := 0#32
  let v1027 : BitVec 1 := Scalar.cmpi .ne v1026 c0_i32_889
  v1027

def k0_off45 (k0_t4 : Fin k0_t4_loop.trips) : Fin 2 → Nat :=
  let c1_i32_902 : BitVec 32 := 1#32
  let c15_i32 : BitVec 32 := 15#32
  let c0_i32_325 : BitVec 32 := 0#32
  let c1_i32_327 : BitVec 32 := 1#32
  let arg14 : BitVec 32 := Scf.iv c0_i32_325 c1_i32_327 k0_t4
  let v982 : BitVec 32 := Scalar.addi c15_i32 arg14
  let c2_i32_862 : BitVec 32 := 2#32
  let v983 : BitVec 32 := Scalar.remsi v982 c2_i32_862
  let v1071 : BitVec 32 := Scalar.subi c1_i32_902 v983
  let c0_i32_918 : BitVec 32 := 0#32
  ![v1071.toNat, 0]
def k0_off46 (k0_t4 : Fin k0_t4_loop.trips) : Fin 3 → Nat :=
  let c1_i32_902 : BitVec 32 := 1#32
  let c15_i32 : BitVec 32 := 15#32
  let c0_i32_325 : BitVec 32 := 0#32
  let c1_i32_327 : BitVec 32 := 1#32
  let arg14 : BitVec 32 := Scf.iv c0_i32_325 c1_i32_327 k0_t4
  let v982 : BitVec 32 := Scalar.addi c15_i32 arg14
  let c2_i32_862 : BitVec 32 := 2#32
  let v983 : BitVec 32 := Scalar.remsi v982 c2_i32_862
  let v1071 : BitVec 32 := Scalar.subi c1_i32_902 v983
  let c0_i32_919 : BitVec 32 := 0#32
  let c0_i32_920 : BitVec 32 := 0#32
  ![v1071.toNat, 0, 0]
def k0_off47 (k0_t4 : Fin k0_t4_loop.trips) : Fin 4 → Nat :=
  let c3_i32_917 : BitVec 32 := 3#32
  let c0_i32_325 : BitVec 32 := 0#32
  let c1_i32_327 : BitVec 32 := 1#32
  let arg14 : BitVec 32 := Scf.iv c0_i32_325 c1_i32_327 k0_t4
  let c1_i32_901 : BitVec 32 := 1#32
  let v1070 : BitVec 32 := Scalar.addi arg14 c1_i32_901
  let c0_i32_904 : BitVec 32 := 0#32
  let v1073 : BitVec 1 := Scalar.cmpi .sgt v1070 c0_i32_904
  let v1074 : BitVec 32 := Scalar.extui v1073
  let c0_i32_905 : BitVec 32 := 0#32
  let v1075 : BitVec 1 := Scalar.cmpi .slt v1070 c0_i32_905
  let v1076 : BitVec 32 := Scalar.extui v1075
  let v1077 : BitVec 32 := Scalar.subi v1074 v1076
  let c4_i32_903 : BitVec 32 := 4#32
  let c0_i32_906 : BitVec 32 := 0#32
  let v1078 : BitVec 1 := Scalar.cmpi .sgt c4_i32_903 c0_i32_906
  let v1079 : BitVec 32 := Scalar.extui v1078
  let c0_i32_907 : BitVec 32 := 0#32
  let v1080 : BitVec 1 := Scalar.cmpi .slt c4_i32_903 c0_i32_907
  let v1081 : BitVec 32 := Scalar.extui v1080
  let v1082 : BitVec 32 := Scalar.subi v1079 v1081
  let v1083 : BitVec 1 := Scalar.cmpi .ne v1077 v1082
  let v1084 : BitVec 32 := Scalar.remsi v1070 c4_i32_903
  let c0_i32_908 : BitVec 32 := 0#32
  let v1085 : BitVec 1 := Scalar.cmpi .ne v1084 c0_i32_908
  let v1086 : BitVec 1 := Scalar.andi v1083 v1085
  let v1072 : BitVec 32 := Scalar.divsi v1070 c4_i32_903
  let c1_i32_909 : BitVec 32 := 1#32
  let v1087 : BitVec 32 := Scalar.subi v1072 c1_i32_909
  let v1088 : BitVec 32 := Scalar.select v1086 v1087 v1072
  let c4_i32_910 : BitVec 32 := 4#32
  let c0_i32_911 : BitVec 32 := 0#32
  let v1089 : BitVec 1 := Scalar.cmpi .eq c4_i32_910 c0_i32_911
  let c1_i32_912 : BitVec 32 := 1#32
  let v1090 : BitVec 32 := Scalar.select v1089 c1_i32_912 c4_i32_910
  let v1091 : BitVec 32 := Scalar.remsi v1070 v1090
  let c0_i32_914 : BitVec 32 := 0#32
  let v1093 : BitVec 1 := Scalar.cmpi .slt v1091 c0_i32_914
  let c0_i32_915 : BitVec 32 := 0#32
  let v1094 : BitVec 1 := Scalar.cmpi .slt v1090 c0_i32_915
  let v1095 : BitVec 1 := Scalar.xori v1093 v1094
  let c0_i32_913 : BitVec 32 := 0#32
  let v1092 : BitVec 1 := Scalar.cmpi .ne v1091 c0_i32_913
  let v1096 : BitVec 1 := Scalar.andi v1095 v1092
  let v1097 : BitVec 32 := Scalar.addi v1091 v1090
  let v1098 : BitVec 32 := Scalar.select v1096 v1097 v1091
  let c512_i32_916 : BitVec 32 := 512#32
  let v1099 : BitVec 32 := Scalar.muli v1098 c512_i32_916
  let c0_i32_921 : BitVec 32 := 0#32
  ![3, v1088.toNat, v1099.toNat, 0]
def k0_off48 (k0_t4 : Fin k0_t4_loop.trips) : Fin 2 → Nat :=
  let c1_i32_902 : BitVec 32 := 1#32
  let c15_i32 : BitVec 32 := 15#32
  let c0_i32_325 : BitVec 32 := 0#32
  let c1_i32_327 : BitVec 32 := 1#32
  let arg14 : BitVec 32 := Scf.iv c0_i32_325 c1_i32_327 k0_t4
  let v982 : BitVec 32 := Scalar.addi c15_i32 arg14
  let c2_i32_862 : BitVec 32 := 2#32
  let v983 : BitVec 32 := Scalar.remsi v982 c2_i32_862
  let v1071 : BitVec 32 := Scalar.subi c1_i32_902 v983
  let c1_i32_923 : BitVec 32 := 1#32
  ![v1071.toNat, 1]
def k0_off49 (k0_t4 : Fin k0_t4_loop.trips) : Fin 3 → Nat :=
  let c15_i32 : BitVec 32 := 15#32
  let c0_i32_325 : BitVec 32 := 0#32
  let c1_i32_327 : BitVec 32 := 1#32
  let arg14 : BitVec 32 := Scf.iv c0_i32_325 c1_i32_327 k0_t4
  let v982 : BitVec 32 := Scalar.addi c15_i32 arg14
  let c2_i32_862 : BitVec 32 := 2#32
  let v983 : BitVec 32 := Scalar.remsi v982 c2_i32_862
  let v1028 : Index := Scalar.indexCast v983
  let c0_890 : Index := 0#32
  let c0_891 : Index := 0#32
  ![v1028.toNat, 0, 0]
@[reducible] def k0_t5_loop : Scf.Loop 32 :=
  let c0_i32_377 : BitVec 32 := 0#32
  let c5_i32_378 : BitVec 32 := 5#32
  let v414 : BitVec 32 := Scalar.addi c0_i32_377 c5_i32_378
  let c1_i32_379 : BitVec 32 := 1#32
  ⟨c0_i32_377, v414, c1_i32_379⟩
def k0_off50 (k0_t5 : Fin k0_t5_loop.trips) : Fin 2 → Nat :=
  let c20_i32 : BitVec 32 := 20#32
  let c0_i32_377 : BitVec 32 := 0#32
  let c1_i32_379 : BitVec 32 := 1#32
  let arg14 : BitVec 32 := Scf.iv c0_i32_377 c1_i32_379 k0_t5
  let v982 : BitVec 32 := Scalar.addi c20_i32 arg14
  let c2_i32_862 : BitVec 32 := 2#32
  let v983 : BitVec 32 := Scalar.remsi v982 c2_i32_862
  let c0_i32_878 : BitVec 32 := 0#32
  ![v983.toNat, 0]
def k0_off51 (k0_t5 : Fin k0_t5_loop.trips) : Fin 3 → Nat :=
  let c20_i32 : BitVec 32 := 20#32
  let c0_i32_377 : BitVec 32 := 0#32
  let c1_i32_379 : BitVec 32 := 1#32
  let arg14 : BitVec 32 := Scf.iv c0_i32_377 c1_i32_379 k0_t5
  let v982 : BitVec 32 := Scalar.addi c20_i32 arg14
  let c2_i32_862 : BitVec 32 := 2#32
  let v983 : BitVec 32 := Scalar.remsi v982 c2_i32_862
  let c0_i32_879 : BitVec 32 := 0#32
  let c0_i32_880 : BitVec 32 := 0#32
  ![v983.toNat, 0, 0]
def k0_off52 (k0_t5 : Fin k0_t5_loop.trips) : Fin 4 → Nat :=
  let c4_i32_877 : BitVec 32 := 4#32
  let c0_i32_377 : BitVec 32 := 0#32
  let c1_i32_379 : BitVec 32 := 1#32
  let arg14 : BitVec 32 := Scf.iv c0_i32_377 c1_i32_379 k0_t5
  let c0_i32_864 : BitVec 32 := 0#32
  let v985 : BitVec 1 := Scalar.cmpi .sgt arg14 c0_i32_864
  let v986 : BitVec 32 := Scalar.extui v985
  let c0_i32_865 : BitVec 32 := 0#32
  let v987 : BitVec 1 := Scalar.cmpi .slt arg14 c0_i32_865
  let v988 : BitVec 32 := Scalar.extui v987
  let v989 : BitVec 32 := Scalar.subi v986 v988
  let c4_i32_863 : BitVec 32 := 4#32
  let c0_i32_866 : BitVec 32 := 0#32
  let v990 : BitVec 1 := Scalar.cmpi .sgt c4_i32_863 c0_i32_866
  let v991 : BitVec 32 := Scalar.extui v990
  let c0_i32_867 : BitVec 32 := 0#32
  let v992 : BitVec 1 := Scalar.cmpi .slt c4_i32_863 c0_i32_867
  let v993 : BitVec 32 := Scalar.extui v992
  let v994 : BitVec 32 := Scalar.subi v991 v993
  let v995 : BitVec 1 := Scalar.cmpi .ne v989 v994
  let v996 : BitVec 32 := Scalar.remsi arg14 c4_i32_863
  let c0_i32_868 : BitVec 32 := 0#32
  let v997 : BitVec 1 := Scalar.cmpi .ne v996 c0_i32_868
  let v998 : BitVec 1 := Scalar.andi v995 v997
  let v984 : BitVec 32 := Scalar.divsi arg14 c4_i32_863
  let c1_i32_869 : BitVec 32 := 1#32
  let v999 : BitVec 32 := Scalar.subi v984 c1_i32_869
  let v1000 : BitVec 32 := Scalar.select v998 v999 v984
  let c4_i32_870 : BitVec 32 := 4#32
  let c0_i32_871 : BitVec 32 := 0#32
  let v1001 : BitVec 1 := Scalar.cmpi .eq c4_i32_870 c0_i32_871
  let c1_i32_872 : BitVec 32 := 1#32
  let v1002 : BitVec 32 := Scalar.select v1001 c1_i32_872 c4_i32_870
  let v1003 : BitVec 32 := Scalar.remsi arg14 v1002
  let c0_i32_874 : BitVec 32 := 0#32
  let v1005 : BitVec 1 := Scalar.cmpi .slt v1003 c0_i32_874
  let c0_i32_875 : BitVec 32 := 0#32
  let v1006 : BitVec 1 := Scalar.cmpi .slt v1002 c0_i32_875
  let v1007 : BitVec 1 := Scalar.xori v1005 v1006
  let c0_i32_873 : BitVec 32 := 0#32
  let v1004 : BitVec 1 := Scalar.cmpi .ne v1003 c0_i32_873
  let v1008 : BitVec 1 := Scalar.andi v1007 v1004
  let v1009 : BitVec 32 := Scalar.addi v1003 v1002
  let v1010 : BitVec 32 := Scalar.select v1008 v1009 v1003
  let c512_i32_876 : BitVec 32 := 512#32
  let v1011 : BitVec 32 := Scalar.muli v1010 c512_i32_876
  let c0_i32_881 : BitVec 32 := 0#32
  ![4, v1000.toNat, v1011.toNat, 0]
def k0_off53 (k0_t5 : Fin k0_t5_loop.trips) : Fin 2 → Nat :=
  let c20_i32 : BitVec 32 := 20#32
  let c0_i32_377 : BitVec 32 := 0#32
  let c1_i32_379 : BitVec 32 := 1#32
  let arg14 : BitVec 32 := Scf.iv c0_i32_377 c1_i32_379 k0_t5
  let v982 : BitVec 32 := Scalar.addi c20_i32 arg14
  let c2_i32_862 : BitVec 32 := 2#32
  let v983 : BitVec 32 := Scalar.remsi v982 c2_i32_862
  let c1_i32_883 : BitVec 32 := 1#32
  ![v983.toNat, 1]
def k0_cond13 (k0_t5 : Fin k0_t5_loop.trips) : BitVec 1 :=
  let c0_i32_377 : BitVec 32 := 0#32
  let c1_i32_379 : BitVec 32 := 1#32
  let arg14 : BitVec 32 := Scf.iv c0_i32_377 c1_i32_379 k0_t5
  let c1_i32_887 : BitVec 32 := 1#32
  let v1024 : BitVec 32 := Scalar.addi arg14 c1_i32_887
  let c5_i32_888 : BitVec 32 := 5#32
  let v1025 : BitVec 1 := Scalar.cmpi .slt v1024 c5_i32_888
  let v1026 : BitVec 32 := Scalar.extui v1025
  let c0_i32_889 : BitVec 32 := 0#32
  let v1027 : BitVec 1 := Scalar.cmpi .ne v1026 c0_i32_889
  v1027

def k0_off54 (k0_t5 : Fin k0_t5_loop.trips) : Fin 2 → Nat :=
  let c1_i32_902 : BitVec 32 := 1#32
  let c20_i32 : BitVec 32 := 20#32
  let c0_i32_377 : BitVec 32 := 0#32
  let c1_i32_379 : BitVec 32 := 1#32
  let arg14 : BitVec 32 := Scf.iv c0_i32_377 c1_i32_379 k0_t5
  let v982 : BitVec 32 := Scalar.addi c20_i32 arg14
  let c2_i32_862 : BitVec 32 := 2#32
  let v983 : BitVec 32 := Scalar.remsi v982 c2_i32_862
  let v1071 : BitVec 32 := Scalar.subi c1_i32_902 v983
  let c0_i32_918 : BitVec 32 := 0#32
  ![v1071.toNat, 0]
def k0_off55 (k0_t5 : Fin k0_t5_loop.trips) : Fin 3 → Nat :=
  let c1_i32_902 : BitVec 32 := 1#32
  let c20_i32 : BitVec 32 := 20#32
  let c0_i32_377 : BitVec 32 := 0#32
  let c1_i32_379 : BitVec 32 := 1#32
  let arg14 : BitVec 32 := Scf.iv c0_i32_377 c1_i32_379 k0_t5
  let v982 : BitVec 32 := Scalar.addi c20_i32 arg14
  let c2_i32_862 : BitVec 32 := 2#32
  let v983 : BitVec 32 := Scalar.remsi v982 c2_i32_862
  let v1071 : BitVec 32 := Scalar.subi c1_i32_902 v983
  let c0_i32_919 : BitVec 32 := 0#32
  let c0_i32_920 : BitVec 32 := 0#32
  ![v1071.toNat, 0, 0]
def k0_off56 (k0_t5 : Fin k0_t5_loop.trips) : Fin 4 → Nat :=
  let c4_i32_917 : BitVec 32 := 4#32
  let c0_i32_377 : BitVec 32 := 0#32
  let c1_i32_379 : BitVec 32 := 1#32
  let arg14 : BitVec 32 := Scf.iv c0_i32_377 c1_i32_379 k0_t5
  let c1_i32_901 : BitVec 32 := 1#32
  let v1070 : BitVec 32 := Scalar.addi arg14 c1_i32_901
  let c0_i32_904 : BitVec 32 := 0#32
  let v1073 : BitVec 1 := Scalar.cmpi .sgt v1070 c0_i32_904
  let v1074 : BitVec 32 := Scalar.extui v1073
  let c0_i32_905 : BitVec 32 := 0#32
  let v1075 : BitVec 1 := Scalar.cmpi .slt v1070 c0_i32_905
  let v1076 : BitVec 32 := Scalar.extui v1075
  let v1077 : BitVec 32 := Scalar.subi v1074 v1076
  let c4_i32_903 : BitVec 32 := 4#32
  let c0_i32_906 : BitVec 32 := 0#32
  let v1078 : BitVec 1 := Scalar.cmpi .sgt c4_i32_903 c0_i32_906
  let v1079 : BitVec 32 := Scalar.extui v1078
  let c0_i32_907 : BitVec 32 := 0#32
  let v1080 : BitVec 1 := Scalar.cmpi .slt c4_i32_903 c0_i32_907
  let v1081 : BitVec 32 := Scalar.extui v1080
  let v1082 : BitVec 32 := Scalar.subi v1079 v1081
  let v1083 : BitVec 1 := Scalar.cmpi .ne v1077 v1082
  let v1084 : BitVec 32 := Scalar.remsi v1070 c4_i32_903
  let c0_i32_908 : BitVec 32 := 0#32
  let v1085 : BitVec 1 := Scalar.cmpi .ne v1084 c0_i32_908
  let v1086 : BitVec 1 := Scalar.andi v1083 v1085
  let v1072 : BitVec 32 := Scalar.divsi v1070 c4_i32_903
  let c1_i32_909 : BitVec 32 := 1#32
  let v1087 : BitVec 32 := Scalar.subi v1072 c1_i32_909
  let v1088 : BitVec 32 := Scalar.select v1086 v1087 v1072
  let c4_i32_910 : BitVec 32 := 4#32
  let c0_i32_911 : BitVec 32 := 0#32
  let v1089 : BitVec 1 := Scalar.cmpi .eq c4_i32_910 c0_i32_911
  let c1_i32_912 : BitVec 32 := 1#32
  let v1090 : BitVec 32 := Scalar.select v1089 c1_i32_912 c4_i32_910
  let v1091 : BitVec 32 := Scalar.remsi v1070 v1090
  let c0_i32_914 : BitVec 32 := 0#32
  let v1093 : BitVec 1 := Scalar.cmpi .slt v1091 c0_i32_914
  let c0_i32_915 : BitVec 32 := 0#32
  let v1094 : BitVec 1 := Scalar.cmpi .slt v1090 c0_i32_915
  let v1095 : BitVec 1 := Scalar.xori v1093 v1094
  let c0_i32_913 : BitVec 32 := 0#32
  let v1092 : BitVec 1 := Scalar.cmpi .ne v1091 c0_i32_913
  let v1096 : BitVec 1 := Scalar.andi v1095 v1092
  let v1097 : BitVec 32 := Scalar.addi v1091 v1090
  let v1098 : BitVec 32 := Scalar.select v1096 v1097 v1091
  let c512_i32_916 : BitVec 32 := 512#32
  let v1099 : BitVec 32 := Scalar.muli v1098 c512_i32_916
  let c0_i32_921 : BitVec 32 := 0#32
  ![4, v1088.toNat, v1099.toNat, 0]
def k0_off57 (k0_t5 : Fin k0_t5_loop.trips) : Fin 2 → Nat :=
  let c1_i32_902 : BitVec 32 := 1#32
  let c20_i32 : BitVec 32 := 20#32
  let c0_i32_377 : BitVec 32 := 0#32
  let c1_i32_379 : BitVec 32 := 1#32
  let arg14 : BitVec 32 := Scf.iv c0_i32_377 c1_i32_379 k0_t5
  let v982 : BitVec 32 := Scalar.addi c20_i32 arg14
  let c2_i32_862 : BitVec 32 := 2#32
  let v983 : BitVec 32 := Scalar.remsi v982 c2_i32_862
  let v1071 : BitVec 32 := Scalar.subi c1_i32_902 v983
  let c1_i32_923 : BitVec 32 := 1#32
  ![v1071.toNat, 1]
def k0_off58 (k0_t5 : Fin k0_t5_loop.trips) : Fin 3 → Nat :=
  let c20_i32 : BitVec 32 := 20#32
  let c0_i32_377 : BitVec 32 := 0#32
  let c1_i32_379 : BitVec 32 := 1#32
  let arg14 : BitVec 32 := Scf.iv c0_i32_377 c1_i32_379 k0_t5
  let v982 : BitVec 32 := Scalar.addi c20_i32 arg14
  let c2_i32_862 : BitVec 32 := 2#32
  let v983 : BitVec 32 := Scalar.remsi v982 c2_i32_862
  let v1028 : Index := Scalar.indexCast v983
  let c0_890 : Index := 0#32
  let c0_891 : Index := 0#32
  ![v1028.toNat, 0, 0]
@[reducible] def k0_t6_loop : Scf.Loop 32 :=
  let c0_i32_430 : BitVec 32 := 0#32
  let c5_i32_431 : BitVec 32 := 5#32
  let v470 : BitVec 32 := Scalar.addi c0_i32_430 c5_i32_431
  let c1_i32_432 : BitVec 32 := 1#32
  ⟨c0_i32_430, v470, c1_i32_432⟩
def k0_off59 (k0_t6 : Fin k0_t6_loop.trips) : Fin 2 → Nat :=
  let c25_i32 : BitVec 32 := 25#32
  let c0_i32_430 : BitVec 32 := 0#32
  let c1_i32_432 : BitVec 32 := 1#32
  let arg14 : BitVec 32 := Scf.iv c0_i32_430 c1_i32_432 k0_t6
  let v982 : BitVec 32 := Scalar.addi c25_i32 arg14
  let c2_i32_862 : BitVec 32 := 2#32
  let v983 : BitVec 32 := Scalar.remsi v982 c2_i32_862
  let c0_i32_878 : BitVec 32 := 0#32
  ![v983.toNat, 0]
def k0_off60 (k0_t6 : Fin k0_t6_loop.trips) : Fin 3 → Nat :=
  let c25_i32 : BitVec 32 := 25#32
  let c0_i32_430 : BitVec 32 := 0#32
  let c1_i32_432 : BitVec 32 := 1#32
  let arg14 : BitVec 32 := Scf.iv c0_i32_430 c1_i32_432 k0_t6
  let v982 : BitVec 32 := Scalar.addi c25_i32 arg14
  let c2_i32_862 : BitVec 32 := 2#32
  let v983 : BitVec 32 := Scalar.remsi v982 c2_i32_862
  let c0_i32_879 : BitVec 32 := 0#32
  let c0_i32_880 : BitVec 32 := 0#32
  ![v983.toNat, 0, 0]
def k0_off61 (k0_t6 : Fin k0_t6_loop.trips) : Fin 4 → Nat :=
  let c5_i32_877 : BitVec 32 := 5#32
  let c0_i32_430 : BitVec 32 := 0#32
  let c1_i32_432 : BitVec 32 := 1#32
  let arg14 : BitVec 32 := Scf.iv c0_i32_430 c1_i32_432 k0_t6
  let c0_i32_864 : BitVec 32 := 0#32
  let v985 : BitVec 1 := Scalar.cmpi .sgt arg14 c0_i32_864
  let v986 : BitVec 32 := Scalar.extui v985
  let c0_i32_865 : BitVec 32 := 0#32
  let v987 : BitVec 1 := Scalar.cmpi .slt arg14 c0_i32_865
  let v988 : BitVec 32 := Scalar.extui v987
  let v989 : BitVec 32 := Scalar.subi v986 v988
  let c4_i32_863 : BitVec 32 := 4#32
  let c0_i32_866 : BitVec 32 := 0#32
  let v990 : BitVec 1 := Scalar.cmpi .sgt c4_i32_863 c0_i32_866
  let v991 : BitVec 32 := Scalar.extui v990
  let c0_i32_867 : BitVec 32 := 0#32
  let v992 : BitVec 1 := Scalar.cmpi .slt c4_i32_863 c0_i32_867
  let v993 : BitVec 32 := Scalar.extui v992
  let v994 : BitVec 32 := Scalar.subi v991 v993
  let v995 : BitVec 1 := Scalar.cmpi .ne v989 v994
  let v996 : BitVec 32 := Scalar.remsi arg14 c4_i32_863
  let c0_i32_868 : BitVec 32 := 0#32
  let v997 : BitVec 1 := Scalar.cmpi .ne v996 c0_i32_868
  let v998 : BitVec 1 := Scalar.andi v995 v997
  let v984 : BitVec 32 := Scalar.divsi arg14 c4_i32_863
  let c1_i32_869 : BitVec 32 := 1#32
  let v999 : BitVec 32 := Scalar.subi v984 c1_i32_869
  let v1000 : BitVec 32 := Scalar.select v998 v999 v984
  let c4_i32_870 : BitVec 32 := 4#32
  let c0_i32_871 : BitVec 32 := 0#32
  let v1001 : BitVec 1 := Scalar.cmpi .eq c4_i32_870 c0_i32_871
  let c1_i32_872 : BitVec 32 := 1#32
  let v1002 : BitVec 32 := Scalar.select v1001 c1_i32_872 c4_i32_870
  let v1003 : BitVec 32 := Scalar.remsi arg14 v1002
  let c0_i32_874 : BitVec 32 := 0#32
  let v1005 : BitVec 1 := Scalar.cmpi .slt v1003 c0_i32_874
  let c0_i32_875 : BitVec 32 := 0#32
  let v1006 : BitVec 1 := Scalar.cmpi .slt v1002 c0_i32_875
  let v1007 : BitVec 1 := Scalar.xori v1005 v1006
  let c0_i32_873 : BitVec 32 := 0#32
  let v1004 : BitVec 1 := Scalar.cmpi .ne v1003 c0_i32_873
  let v1008 : BitVec 1 := Scalar.andi v1007 v1004
  let v1009 : BitVec 32 := Scalar.addi v1003 v1002
  let v1010 : BitVec 32 := Scalar.select v1008 v1009 v1003
  let c512_i32_876 : BitVec 32 := 512#32
  let v1011 : BitVec 32 := Scalar.muli v1010 c512_i32_876
  let c0_i32_881 : BitVec 32 := 0#32
  ![5, v1000.toNat, v1011.toNat, 0]
def k0_off62 (k0_t6 : Fin k0_t6_loop.trips) : Fin 2 → Nat :=
  let c25_i32 : BitVec 32 := 25#32
  let c0_i32_430 : BitVec 32 := 0#32
  let c1_i32_432 : BitVec 32 := 1#32
  let arg14 : BitVec 32 := Scf.iv c0_i32_430 c1_i32_432 k0_t6
  let v982 : BitVec 32 := Scalar.addi c25_i32 arg14
  let c2_i32_862 : BitVec 32 := 2#32
  let v983 : BitVec 32 := Scalar.remsi v982 c2_i32_862
  let c1_i32_883 : BitVec 32 := 1#32
  ![v983.toNat, 1]
def k0_cond14 (k0_t6 : Fin k0_t6_loop.trips) : BitVec 1 :=
  let c0_i32_430 : BitVec 32 := 0#32
  let c1_i32_432 : BitVec 32 := 1#32
  let arg14 : BitVec 32 := Scf.iv c0_i32_430 c1_i32_432 k0_t6
  let c1_i32_887 : BitVec 32 := 1#32
  let v1024 : BitVec 32 := Scalar.addi arg14 c1_i32_887
  let c5_i32_888 : BitVec 32 := 5#32
  let v1025 : BitVec 1 := Scalar.cmpi .slt v1024 c5_i32_888
  let v1026 : BitVec 32 := Scalar.extui v1025
  let c0_i32_889 : BitVec 32 := 0#32
  let v1027 : BitVec 1 := Scalar.cmpi .ne v1026 c0_i32_889
  v1027

def k0_off63 (k0_t6 : Fin k0_t6_loop.trips) : Fin 2 → Nat :=
  let c1_i32_902 : BitVec 32 := 1#32
  let c25_i32 : BitVec 32 := 25#32
  let c0_i32_430 : BitVec 32 := 0#32
  let c1_i32_432 : BitVec 32 := 1#32
  let arg14 : BitVec 32 := Scf.iv c0_i32_430 c1_i32_432 k0_t6
  let v982 : BitVec 32 := Scalar.addi c25_i32 arg14
  let c2_i32_862 : BitVec 32 := 2#32
  let v983 : BitVec 32 := Scalar.remsi v982 c2_i32_862
  let v1071 : BitVec 32 := Scalar.subi c1_i32_902 v983
  let c0_i32_918 : BitVec 32 := 0#32
  ![v1071.toNat, 0]
def k0_off64 (k0_t6 : Fin k0_t6_loop.trips) : Fin 3 → Nat :=
  let c1_i32_902 : BitVec 32 := 1#32
  let c25_i32 : BitVec 32 := 25#32
  let c0_i32_430 : BitVec 32 := 0#32
  let c1_i32_432 : BitVec 32 := 1#32
  let arg14 : BitVec 32 := Scf.iv c0_i32_430 c1_i32_432 k0_t6
  let v982 : BitVec 32 := Scalar.addi c25_i32 arg14
  let c2_i32_862 : BitVec 32 := 2#32
  let v983 : BitVec 32 := Scalar.remsi v982 c2_i32_862
  let v1071 : BitVec 32 := Scalar.subi c1_i32_902 v983
  let c0_i32_919 : BitVec 32 := 0#32
  let c0_i32_920 : BitVec 32 := 0#32
  ![v1071.toNat, 0, 0]
def k0_off65 (k0_t6 : Fin k0_t6_loop.trips) : Fin 4 → Nat :=
  let c5_i32_917 : BitVec 32 := 5#32
  let c0_i32_430 : BitVec 32 := 0#32
  let c1_i32_432 : BitVec 32 := 1#32
  let arg14 : BitVec 32 := Scf.iv c0_i32_430 c1_i32_432 k0_t6
  let c1_i32_901 : BitVec 32 := 1#32
  let v1070 : BitVec 32 := Scalar.addi arg14 c1_i32_901
  let c0_i32_904 : BitVec 32 := 0#32
  let v1073 : BitVec 1 := Scalar.cmpi .sgt v1070 c0_i32_904
  let v1074 : BitVec 32 := Scalar.extui v1073
  let c0_i32_905 : BitVec 32 := 0#32
  let v1075 : BitVec 1 := Scalar.cmpi .slt v1070 c0_i32_905
  let v1076 : BitVec 32 := Scalar.extui v1075
  let v1077 : BitVec 32 := Scalar.subi v1074 v1076
  let c4_i32_903 : BitVec 32 := 4#32
  let c0_i32_906 : BitVec 32 := 0#32
  let v1078 : BitVec 1 := Scalar.cmpi .sgt c4_i32_903 c0_i32_906
  let v1079 : BitVec 32 := Scalar.extui v1078
  let c0_i32_907 : BitVec 32 := 0#32
  let v1080 : BitVec 1 := Scalar.cmpi .slt c4_i32_903 c0_i32_907
  let v1081 : BitVec 32 := Scalar.extui v1080
  let v1082 : BitVec 32 := Scalar.subi v1079 v1081
  let v1083 : BitVec 1 := Scalar.cmpi .ne v1077 v1082
  let v1084 : BitVec 32 := Scalar.remsi v1070 c4_i32_903
  let c0_i32_908 : BitVec 32 := 0#32
  let v1085 : BitVec 1 := Scalar.cmpi .ne v1084 c0_i32_908
  let v1086 : BitVec 1 := Scalar.andi v1083 v1085
  let v1072 : BitVec 32 := Scalar.divsi v1070 c4_i32_903
  let c1_i32_909 : BitVec 32 := 1#32
  let v1087 : BitVec 32 := Scalar.subi v1072 c1_i32_909
  let v1088 : BitVec 32 := Scalar.select v1086 v1087 v1072
  let c4_i32_910 : BitVec 32 := 4#32
  let c0_i32_911 : BitVec 32 := 0#32
  let v1089 : BitVec 1 := Scalar.cmpi .eq c4_i32_910 c0_i32_911
  let c1_i32_912 : BitVec 32 := 1#32
  let v1090 : BitVec 32 := Scalar.select v1089 c1_i32_912 c4_i32_910
  let v1091 : BitVec 32 := Scalar.remsi v1070 v1090
  let c0_i32_914 : BitVec 32 := 0#32
  let v1093 : BitVec 1 := Scalar.cmpi .slt v1091 c0_i32_914
  let c0_i32_915 : BitVec 32 := 0#32
  let v1094 : BitVec 1 := Scalar.cmpi .slt v1090 c0_i32_915
  let v1095 : BitVec 1 := Scalar.xori v1093 v1094
  let c0_i32_913 : BitVec 32 := 0#32
  let v1092 : BitVec 1 := Scalar.cmpi .ne v1091 c0_i32_913
  let v1096 : BitVec 1 := Scalar.andi v1095 v1092
  let v1097 : BitVec 32 := Scalar.addi v1091 v1090
  let v1098 : BitVec 32 := Scalar.select v1096 v1097 v1091
  let c512_i32_916 : BitVec 32 := 512#32
  let v1099 : BitVec 32 := Scalar.muli v1098 c512_i32_916
  let c0_i32_921 : BitVec 32 := 0#32
  ![5, v1088.toNat, v1099.toNat, 0]
def k0_off66 (k0_t6 : Fin k0_t6_loop.trips) : Fin 2 → Nat :=
  let c1_i32_902 : BitVec 32 := 1#32
  let c25_i32 : BitVec 32 := 25#32
  let c0_i32_430 : BitVec 32 := 0#32
  let c1_i32_432 : BitVec 32 := 1#32
  let arg14 : BitVec 32 := Scf.iv c0_i32_430 c1_i32_432 k0_t6
  let v982 : BitVec 32 := Scalar.addi c25_i32 arg14
  let c2_i32_862 : BitVec 32 := 2#32
  let v983 : BitVec 32 := Scalar.remsi v982 c2_i32_862
  let v1071 : BitVec 32 := Scalar.subi c1_i32_902 v983
  let c1_i32_923 : BitVec 32 := 1#32
  ![v1071.toNat, 1]
def k0_off67 (k0_t6 : Fin k0_t6_loop.trips) : Fin 3 → Nat :=
  let c25_i32 : BitVec 32 := 25#32
  let c0_i32_430 : BitVec 32 := 0#32
  let c1_i32_432 : BitVec 32 := 1#32
  let arg14 : BitVec 32 := Scf.iv c0_i32_430 c1_i32_432 k0_t6
  let v982 : BitVec 32 := Scalar.addi c25_i32 arg14
  let c2_i32_862 : BitVec 32 := 2#32
  let v983 : BitVec 32 := Scalar.remsi v982 c2_i32_862
  let v1028 : Index := Scalar.indexCast v983
  let c0_890 : Index := 0#32
  let c0_891 : Index := 0#32
  ![v1028.toNat, 0, 0]
@[reducible] def k0_t7_loop : Scf.Loop 32 :=
  let c0_i32_481 : BitVec 32 := 0#32
  let c5_i32_482 : BitVec 32 := 5#32
  let v526 : BitVec 32 := Scalar.addi c0_i32_481 c5_i32_482
  let c1_i32_483 : BitVec 32 := 1#32
  ⟨c0_i32_481, v526, c1_i32_483⟩
def k0_off68 (k0_t7 : Fin k0_t7_loop.trips) : Fin 2 → Nat :=
  let c30_i32 : BitVec 32 := 30#32
  let c0_i32_481 : BitVec 32 := 0#32
  let c1_i32_483 : BitVec 32 := 1#32
  let arg14 : BitVec 32 := Scf.iv c0_i32_481 c1_i32_483 k0_t7
  let v982 : BitVec 32 := Scalar.addi c30_i32 arg14
  let c2_i32_862 : BitVec 32 := 2#32
  let v983 : BitVec 32 := Scalar.remsi v982 c2_i32_862
  let c0_i32_878 : BitVec 32 := 0#32
  ![v983.toNat, 0]
def k0_off69 (k0_t7 : Fin k0_t7_loop.trips) : Fin 3 → Nat :=
  let c30_i32 : BitVec 32 := 30#32
  let c0_i32_481 : BitVec 32 := 0#32
  let c1_i32_483 : BitVec 32 := 1#32
  let arg14 : BitVec 32 := Scf.iv c0_i32_481 c1_i32_483 k0_t7
  let v982 : BitVec 32 := Scalar.addi c30_i32 arg14
  let c2_i32_862 : BitVec 32 := 2#32
  let v983 : BitVec 32 := Scalar.remsi v982 c2_i32_862
  let c0_i32_879 : BitVec 32 := 0#32
  let c0_i32_880 : BitVec 32 := 0#32
  ![v983.toNat, 0, 0]
def k0_off70 (k0_t7 : Fin k0_t7_loop.trips) : Fin 4 → Nat :=
  let c6_i32_877 : BitVec 32 := 6#32
  let c0_i32_481 : BitVec 32 := 0#32
  let c1_i32_483 : BitVec 32 := 1#32
  let arg14 : BitVec 32 := Scf.iv c0_i32_481 c1_i32_483 k0_t7
  let c0_i32_864 : BitVec 32 := 0#32
  let v985 : BitVec 1 := Scalar.cmpi .sgt arg14 c0_i32_864
  let v986 : BitVec 32 := Scalar.extui v985
  let c0_i32_865 : BitVec 32 := 0#32
  let v987 : BitVec 1 := Scalar.cmpi .slt arg14 c0_i32_865
  let v988 : BitVec 32 := Scalar.extui v987
  let v989 : BitVec 32 := Scalar.subi v986 v988
  let c4_i32_863 : BitVec 32 := 4#32
  let c0_i32_866 : BitVec 32 := 0#32
  let v990 : BitVec 1 := Scalar.cmpi .sgt c4_i32_863 c0_i32_866
  let v991 : BitVec 32 := Scalar.extui v990
  let c0_i32_867 : BitVec 32 := 0#32
  let v992 : BitVec 1 := Scalar.cmpi .slt c4_i32_863 c0_i32_867
  let v993 : BitVec 32 := Scalar.extui v992
  let v994 : BitVec 32 := Scalar.subi v991 v993
  let v995 : BitVec 1 := Scalar.cmpi .ne v989 v994
  let v996 : BitVec 32 := Scalar.remsi arg14 c4_i32_863
  let c0_i32_868 : BitVec 32 := 0#32
  let v997 : BitVec 1 := Scalar.cmpi .ne v996 c0_i32_868
  let v998 : BitVec 1 := Scalar.andi v995 v997
  let v984 : BitVec 32 := Scalar.divsi arg14 c4_i32_863
  let c1_i32_869 : BitVec 32 := 1#32
  let v999 : BitVec 32 := Scalar.subi v984 c1_i32_869
  let v1000 : BitVec 32 := Scalar.select v998 v999 v984
  let c4_i32_870 : BitVec 32 := 4#32
  let c0_i32_871 : BitVec 32 := 0#32
  let v1001 : BitVec 1 := Scalar.cmpi .eq c4_i32_870 c0_i32_871
  let c1_i32_872 : BitVec 32 := 1#32
  let v1002 : BitVec 32 := Scalar.select v1001 c1_i32_872 c4_i32_870
  let v1003 : BitVec 32 := Scalar.remsi arg14 v1002
  let c0_i32_874 : BitVec 32 := 0#32
  let v1005 : BitVec 1 := Scalar.cmpi .slt v1003 c0_i32_874
  let c0_i32_875 : BitVec 32 := 0#32
  let v1006 : BitVec 1 := Scalar.cmpi .slt v1002 c0_i32_875
  let v1007 : BitVec 1 := Scalar.xori v1005 v1006
  let c0_i32_873 : BitVec 32 := 0#32
  let v1004 : BitVec 1 := Scalar.cmpi .ne v1003 c0_i32_873
  let v1008 : BitVec 1 := Scalar.andi v1007 v1004
  let v1009 : BitVec 32 := Scalar.addi v1003 v1002
  let v1010 : BitVec 32 := Scalar.select v1008 v1009 v1003
  let c512_i32_876 : BitVec 32 := 512#32
  let v1011 : BitVec 32 := Scalar.muli v1010 c512_i32_876
  let c0_i32_881 : BitVec 32 := 0#32
  ![6, v1000.toNat, v1011.toNat, 0]
def k0_off71 (k0_t7 : Fin k0_t7_loop.trips) : Fin 2 → Nat :=
  let c30_i32 : BitVec 32 := 30#32
  let c0_i32_481 : BitVec 32 := 0#32
  let c1_i32_483 : BitVec 32 := 1#32
  let arg14 : BitVec 32 := Scf.iv c0_i32_481 c1_i32_483 k0_t7
  let v982 : BitVec 32 := Scalar.addi c30_i32 arg14
  let c2_i32_862 : BitVec 32 := 2#32
  let v983 : BitVec 32 := Scalar.remsi v982 c2_i32_862
  let c1_i32_883 : BitVec 32 := 1#32
  ![v983.toNat, 1]
def k0_cond15 (k0_t7 : Fin k0_t7_loop.trips) : BitVec 1 :=
  let c0_i32_481 : BitVec 32 := 0#32
  let c1_i32_483 : BitVec 32 := 1#32
  let arg14 : BitVec 32 := Scf.iv c0_i32_481 c1_i32_483 k0_t7
  let c1_i32_887 : BitVec 32 := 1#32
  let v1024 : BitVec 32 := Scalar.addi arg14 c1_i32_887
  let c5_i32_888 : BitVec 32 := 5#32
  let v1025 : BitVec 1 := Scalar.cmpi .slt v1024 c5_i32_888
  let v1026 : BitVec 32 := Scalar.extui v1025
  let c0_i32_889 : BitVec 32 := 0#32
  let v1027 : BitVec 1 := Scalar.cmpi .ne v1026 c0_i32_889
  v1027

def k0_off72 (k0_t7 : Fin k0_t7_loop.trips) : Fin 2 → Nat :=
  let c1_i32_902 : BitVec 32 := 1#32
  let c30_i32 : BitVec 32 := 30#32
  let c0_i32_481 : BitVec 32 := 0#32
  let c1_i32_483 : BitVec 32 := 1#32
  let arg14 : BitVec 32 := Scf.iv c0_i32_481 c1_i32_483 k0_t7
  let v982 : BitVec 32 := Scalar.addi c30_i32 arg14
  let c2_i32_862 : BitVec 32 := 2#32
  let v983 : BitVec 32 := Scalar.remsi v982 c2_i32_862
  let v1071 : BitVec 32 := Scalar.subi c1_i32_902 v983
  let c0_i32_918 : BitVec 32 := 0#32
  ![v1071.toNat, 0]
def k0_off73 (k0_t7 : Fin k0_t7_loop.trips) : Fin 3 → Nat :=
  let c1_i32_902 : BitVec 32 := 1#32
  let c30_i32 : BitVec 32 := 30#32
  let c0_i32_481 : BitVec 32 := 0#32
  let c1_i32_483 : BitVec 32 := 1#32
  let arg14 : BitVec 32 := Scf.iv c0_i32_481 c1_i32_483 k0_t7
  let v982 : BitVec 32 := Scalar.addi c30_i32 arg14
  let c2_i32_862 : BitVec 32 := 2#32
  let v983 : BitVec 32 := Scalar.remsi v982 c2_i32_862
  let v1071 : BitVec 32 := Scalar.subi c1_i32_902 v983
  let c0_i32_919 : BitVec 32 := 0#32
  let c0_i32_920 : BitVec 32 := 0#32
  ![v1071.toNat, 0, 0]
def k0_off74 (k0_t7 : Fin k0_t7_loop.trips) : Fin 4 → Nat :=
  let c6_i32_917 : BitVec 32 := 6#32
  let c0_i32_481 : BitVec 32 := 0#32
  let c1_i32_483 : BitVec 32 := 1#32
  let arg14 : BitVec 32 := Scf.iv c0_i32_481 c1_i32_483 k0_t7
  let c1_i32_901 : BitVec 32 := 1#32
  let v1070 : BitVec 32 := Scalar.addi arg14 c1_i32_901
  let c0_i32_904 : BitVec 32 := 0#32
  let v1073 : BitVec 1 := Scalar.cmpi .sgt v1070 c0_i32_904
  let v1074 : BitVec 32 := Scalar.extui v1073
  let c0_i32_905 : BitVec 32 := 0#32
  let v1075 : BitVec 1 := Scalar.cmpi .slt v1070 c0_i32_905
  let v1076 : BitVec 32 := Scalar.extui v1075
  let v1077 : BitVec 32 := Scalar.subi v1074 v1076
  let c4_i32_903 : BitVec 32 := 4#32
  let c0_i32_906 : BitVec 32 := 0#32
  let v1078 : BitVec 1 := Scalar.cmpi .sgt c4_i32_903 c0_i32_906
  let v1079 : BitVec 32 := Scalar.extui v1078
  let c0_i32_907 : BitVec 32 := 0#32
  let v1080 : BitVec 1 := Scalar.cmpi .slt c4_i32_903 c0_i32_907
  let v1081 : BitVec 32 := Scalar.extui v1080
  let v1082 : BitVec 32 := Scalar.subi v1079 v1081
  let v1083 : BitVec 1 := Scalar.cmpi .ne v1077 v1082
  let v1084 : BitVec 32 := Scalar.remsi v1070 c4_i32_903
  let c0_i32_908 : BitVec 32 := 0#32
  let v1085 : BitVec 1 := Scalar.cmpi .ne v1084 c0_i32_908
  let v1086 : BitVec 1 := Scalar.andi v1083 v1085
  let v1072 : BitVec 32 := Scalar.divsi v1070 c4_i32_903
  let c1_i32_909 : BitVec 32 := 1#32
  let v1087 : BitVec 32 := Scalar.subi v1072 c1_i32_909
  let v1088 : BitVec 32 := Scalar.select v1086 v1087 v1072
  let c4_i32_910 : BitVec 32 := 4#32
  let c0_i32_911 : BitVec 32 := 0#32
  let v1089 : BitVec 1 := Scalar.cmpi .eq c4_i32_910 c0_i32_911
  let c1_i32_912 : BitVec 32 := 1#32
  let v1090 : BitVec 32 := Scalar.select v1089 c1_i32_912 c4_i32_910
  let v1091 : BitVec 32 := Scalar.remsi v1070 v1090
  let c0_i32_914 : BitVec 32 := 0#32
  let v1093 : BitVec 1 := Scalar.cmpi .slt v1091 c0_i32_914
  let c0_i32_915 : BitVec 32 := 0#32
  let v1094 : BitVec 1 := Scalar.cmpi .slt v1090 c0_i32_915
  let v1095 : BitVec 1 := Scalar.xori v1093 v1094
  let c0_i32_913 : BitVec 32 := 0#32
  let v1092 : BitVec 1 := Scalar.cmpi .ne v1091 c0_i32_913
  let v1096 : BitVec 1 := Scalar.andi v1095 v1092
  let v1097 : BitVec 32 := Scalar.addi v1091 v1090
  let v1098 : BitVec 32 := Scalar.select v1096 v1097 v1091
  let c512_i32_916 : BitVec 32 := 512#32
  let v1099 : BitVec 32 := Scalar.muli v1098 c512_i32_916
  let c0_i32_921 : BitVec 32 := 0#32
  ![6, v1088.toNat, v1099.toNat, 0]
def k0_off75 (k0_t7 : Fin k0_t7_loop.trips) : Fin 2 → Nat :=
  let c1_i32_902 : BitVec 32 := 1#32
  let c30_i32 : BitVec 32 := 30#32
  let c0_i32_481 : BitVec 32 := 0#32
  let c1_i32_483 : BitVec 32 := 1#32
  let arg14 : BitVec 32 := Scf.iv c0_i32_481 c1_i32_483 k0_t7
  let v982 : BitVec 32 := Scalar.addi c30_i32 arg14
  let c2_i32_862 : BitVec 32 := 2#32
  let v983 : BitVec 32 := Scalar.remsi v982 c2_i32_862
  let v1071 : BitVec 32 := Scalar.subi c1_i32_902 v983
  let c1_i32_923 : BitVec 32 := 1#32
  ![v1071.toNat, 1]
def k0_off76 (k0_t7 : Fin k0_t7_loop.trips) : Fin 3 → Nat :=
  let c30_i32 : BitVec 32 := 30#32
  let c0_i32_481 : BitVec 32 := 0#32
  let c1_i32_483 : BitVec 32 := 1#32
  let arg14 : BitVec 32 := Scf.iv c0_i32_481 c1_i32_483 k0_t7
  let v982 : BitVec 32 := Scalar.addi c30_i32 arg14
  let c2_i32_862 : BitVec 32 := 2#32
  let v983 : BitVec 32 := Scalar.remsi v982 c2_i32_862
  let v1028 : Index := Scalar.indexCast v983
  let c0_890 : Index := 0#32
  let c0_891 : Index := 0#32
  ![v1028.toNat, 0, 0]
@[reducible] def k0_t8_loop : Scf.Loop 32 :=
  let c0_i32_532 : BitVec 32 := 0#32
  let c5_i32_533 : BitVec 32 := 5#32
  let v582 : BitVec 32 := Scalar.addi c0_i32_532 c5_i32_533
  let c1_i32_534 : BitVec 32 := 1#32
  ⟨c0_i32_532, v582, c1_i32_534⟩
def k0_off77 (k0_t8 : Fin k0_t8_loop.trips) : Fin 2 → Nat :=
  let c35_i32 : BitVec 32 := 35#32
  let c0_i32_532 : BitVec 32 := 0#32
  let c1_i32_534 : BitVec 32 := 1#32
  let arg14 : BitVec 32 := Scf.iv c0_i32_532 c1_i32_534 k0_t8
  let v982 : BitVec 32 := Scalar.addi c35_i32 arg14
  let c2_i32_862 : BitVec 32 := 2#32
  let v983 : BitVec 32 := Scalar.remsi v982 c2_i32_862
  let c0_i32_878 : BitVec 32 := 0#32
  ![v983.toNat, 0]
def k0_off78 (k0_t8 : Fin k0_t8_loop.trips) : Fin 3 → Nat :=
  let c35_i32 : BitVec 32 := 35#32
  let c0_i32_532 : BitVec 32 := 0#32
  let c1_i32_534 : BitVec 32 := 1#32
  let arg14 : BitVec 32 := Scf.iv c0_i32_532 c1_i32_534 k0_t8
  let v982 : BitVec 32 := Scalar.addi c35_i32 arg14
  let c2_i32_862 : BitVec 32 := 2#32
  let v983 : BitVec 32 := Scalar.remsi v982 c2_i32_862
  let c0_i32_879 : BitVec 32 := 0#32
  let c0_i32_880 : BitVec 32 := 0#32
  ![v983.toNat, 0, 0]
def k0_off79 (k0_t8 : Fin k0_t8_loop.trips) : Fin 4 → Nat :=
  let c7_i32_877 : BitVec 32 := 7#32
  let c0_i32_532 : BitVec 32 := 0#32
  let c1_i32_534 : BitVec 32 := 1#32
  let arg14 : BitVec 32 := Scf.iv c0_i32_532 c1_i32_534 k0_t8
  let c0_i32_864 : BitVec 32 := 0#32
  let v985 : BitVec 1 := Scalar.cmpi .sgt arg14 c0_i32_864
  let v986 : BitVec 32 := Scalar.extui v985
  let c0_i32_865 : BitVec 32 := 0#32
  let v987 : BitVec 1 := Scalar.cmpi .slt arg14 c0_i32_865
  let v988 : BitVec 32 := Scalar.extui v987
  let v989 : BitVec 32 := Scalar.subi v986 v988
  let c4_i32_863 : BitVec 32 := 4#32
  let c0_i32_866 : BitVec 32 := 0#32
  let v990 : BitVec 1 := Scalar.cmpi .sgt c4_i32_863 c0_i32_866
  let v991 : BitVec 32 := Scalar.extui v990
  let c0_i32_867 : BitVec 32 := 0#32
  let v992 : BitVec 1 := Scalar.cmpi .slt c4_i32_863 c0_i32_867
  let v993 : BitVec 32 := Scalar.extui v992
  let v994 : BitVec 32 := Scalar.subi v991 v993
  let v995 : BitVec 1 := Scalar.cmpi .ne v989 v994
  let v996 : BitVec 32 := Scalar.remsi arg14 c4_i32_863
  let c0_i32_868 : BitVec 32 := 0#32
  let v997 : BitVec 1 := Scalar.cmpi .ne v996 c0_i32_868
  let v998 : BitVec 1 := Scalar.andi v995 v997
  let v984 : BitVec 32 := Scalar.divsi arg14 c4_i32_863
  let c1_i32_869 : BitVec 32 := 1#32
  let v999 : BitVec 32 := Scalar.subi v984 c1_i32_869
  let v1000 : BitVec 32 := Scalar.select v998 v999 v984
  let c4_i32_870 : BitVec 32 := 4#32
  let c0_i32_871 : BitVec 32 := 0#32
  let v1001 : BitVec 1 := Scalar.cmpi .eq c4_i32_870 c0_i32_871
  let c1_i32_872 : BitVec 32 := 1#32
  let v1002 : BitVec 32 := Scalar.select v1001 c1_i32_872 c4_i32_870
  let v1003 : BitVec 32 := Scalar.remsi arg14 v1002
  let c0_i32_874 : BitVec 32 := 0#32
  let v1005 : BitVec 1 := Scalar.cmpi .slt v1003 c0_i32_874
  let c0_i32_875 : BitVec 32 := 0#32
  let v1006 : BitVec 1 := Scalar.cmpi .slt v1002 c0_i32_875
  let v1007 : BitVec 1 := Scalar.xori v1005 v1006
  let c0_i32_873 : BitVec 32 := 0#32
  let v1004 : BitVec 1 := Scalar.cmpi .ne v1003 c0_i32_873
  let v1008 : BitVec 1 := Scalar.andi v1007 v1004
  let v1009 : BitVec 32 := Scalar.addi v1003 v1002
  let v1010 : BitVec 32 := Scalar.select v1008 v1009 v1003
  let c512_i32_876 : BitVec 32 := 512#32
  let v1011 : BitVec 32 := Scalar.muli v1010 c512_i32_876
  let c0_i32_881 : BitVec 32 := 0#32
  ![7, v1000.toNat, v1011.toNat, 0]
def k0_off80 (k0_t8 : Fin k0_t8_loop.trips) : Fin 2 → Nat :=
  let c35_i32 : BitVec 32 := 35#32
  let c0_i32_532 : BitVec 32 := 0#32
  let c1_i32_534 : BitVec 32 := 1#32
  let arg14 : BitVec 32 := Scf.iv c0_i32_532 c1_i32_534 k0_t8
  let v982 : BitVec 32 := Scalar.addi c35_i32 arg14
  let c2_i32_862 : BitVec 32 := 2#32
  let v983 : BitVec 32 := Scalar.remsi v982 c2_i32_862
  let c1_i32_883 : BitVec 32 := 1#32
  ![v983.toNat, 1]
def k0_cond16 (k0_t8 : Fin k0_t8_loop.trips) : BitVec 1 :=
  let c0_i32_532 : BitVec 32 := 0#32
  let c1_i32_534 : BitVec 32 := 1#32
  let arg14 : BitVec 32 := Scf.iv c0_i32_532 c1_i32_534 k0_t8
  let c1_i32_887 : BitVec 32 := 1#32
  let v1024 : BitVec 32 := Scalar.addi arg14 c1_i32_887
  let c5_i32_888 : BitVec 32 := 5#32
  let v1025 : BitVec 1 := Scalar.cmpi .slt v1024 c5_i32_888
  let v1026 : BitVec 32 := Scalar.extui v1025
  let c0_i32_889 : BitVec 32 := 0#32
  let v1027 : BitVec 1 := Scalar.cmpi .ne v1026 c0_i32_889
  v1027

def k0_off81 (k0_t8 : Fin k0_t8_loop.trips) : Fin 2 → Nat :=
  let c1_i32_902 : BitVec 32 := 1#32
  let c35_i32 : BitVec 32 := 35#32
  let c0_i32_532 : BitVec 32 := 0#32
  let c1_i32_534 : BitVec 32 := 1#32
  let arg14 : BitVec 32 := Scf.iv c0_i32_532 c1_i32_534 k0_t8
  let v982 : BitVec 32 := Scalar.addi c35_i32 arg14
  let c2_i32_862 : BitVec 32 := 2#32
  let v983 : BitVec 32 := Scalar.remsi v982 c2_i32_862
  let v1071 : BitVec 32 := Scalar.subi c1_i32_902 v983
  let c0_i32_918 : BitVec 32 := 0#32
  ![v1071.toNat, 0]
def k0_off82 (k0_t8 : Fin k0_t8_loop.trips) : Fin 3 → Nat :=
  let c1_i32_902 : BitVec 32 := 1#32
  let c35_i32 : BitVec 32 := 35#32
  let c0_i32_532 : BitVec 32 := 0#32
  let c1_i32_534 : BitVec 32 := 1#32
  let arg14 : BitVec 32 := Scf.iv c0_i32_532 c1_i32_534 k0_t8
  let v982 : BitVec 32 := Scalar.addi c35_i32 arg14
  let c2_i32_862 : BitVec 32 := 2#32
  let v983 : BitVec 32 := Scalar.remsi v982 c2_i32_862
  let v1071 : BitVec 32 := Scalar.subi c1_i32_902 v983
  let c0_i32_919 : BitVec 32 := 0#32
  let c0_i32_920 : BitVec 32 := 0#32
  ![v1071.toNat, 0, 0]
def k0_off83 (k0_t8 : Fin k0_t8_loop.trips) : Fin 4 → Nat :=
  let c7_i32_917 : BitVec 32 := 7#32
  let c0_i32_532 : BitVec 32 := 0#32
  let c1_i32_534 : BitVec 32 := 1#32
  let arg14 : BitVec 32 := Scf.iv c0_i32_532 c1_i32_534 k0_t8
  let c1_i32_901 : BitVec 32 := 1#32
  let v1070 : BitVec 32 := Scalar.addi arg14 c1_i32_901
  let c0_i32_904 : BitVec 32 := 0#32
  let v1073 : BitVec 1 := Scalar.cmpi .sgt v1070 c0_i32_904
  let v1074 : BitVec 32 := Scalar.extui v1073
  let c0_i32_905 : BitVec 32 := 0#32
  let v1075 : BitVec 1 := Scalar.cmpi .slt v1070 c0_i32_905
  let v1076 : BitVec 32 := Scalar.extui v1075
  let v1077 : BitVec 32 := Scalar.subi v1074 v1076
  let c4_i32_903 : BitVec 32 := 4#32
  let c0_i32_906 : BitVec 32 := 0#32
  let v1078 : BitVec 1 := Scalar.cmpi .sgt c4_i32_903 c0_i32_906
  let v1079 : BitVec 32 := Scalar.extui v1078
  let c0_i32_907 : BitVec 32 := 0#32
  let v1080 : BitVec 1 := Scalar.cmpi .slt c4_i32_903 c0_i32_907
  let v1081 : BitVec 32 := Scalar.extui v1080
  let v1082 : BitVec 32 := Scalar.subi v1079 v1081
  let v1083 : BitVec 1 := Scalar.cmpi .ne v1077 v1082
  let v1084 : BitVec 32 := Scalar.remsi v1070 c4_i32_903
  let c0_i32_908 : BitVec 32 := 0#32
  let v1085 : BitVec 1 := Scalar.cmpi .ne v1084 c0_i32_908
  let v1086 : BitVec 1 := Scalar.andi v1083 v1085
  let v1072 : BitVec 32 := Scalar.divsi v1070 c4_i32_903
  let c1_i32_909 : BitVec 32 := 1#32
  let v1087 : BitVec 32 := Scalar.subi v1072 c1_i32_909
  let v1088 : BitVec 32 := Scalar.select v1086 v1087 v1072
  let c4_i32_910 : BitVec 32 := 4#32
  let c0_i32_911 : BitVec 32 := 0#32
  let v1089 : BitVec 1 := Scalar.cmpi .eq c4_i32_910 c0_i32_911
  let c1_i32_912 : BitVec 32 := 1#32
  let v1090 : BitVec 32 := Scalar.select v1089 c1_i32_912 c4_i32_910
  let v1091 : BitVec 32 := Scalar.remsi v1070 v1090
  let c0_i32_914 : BitVec 32 := 0#32
  let v1093 : BitVec 1 := Scalar.cmpi .slt v1091 c0_i32_914
  let c0_i32_915 : BitVec 32 := 0#32
  let v1094 : BitVec 1 := Scalar.cmpi .slt v1090 c0_i32_915
  let v1095 : BitVec 1 := Scalar.xori v1093 v1094
  let c0_i32_913 : BitVec 32 := 0#32
  let v1092 : BitVec 1 := Scalar.cmpi .ne v1091 c0_i32_913
  let v1096 : BitVec 1 := Scalar.andi v1095 v1092
  let v1097 : BitVec 32 := Scalar.addi v1091 v1090
  let v1098 : BitVec 32 := Scalar.select v1096 v1097 v1091
  let c512_i32_916 : BitVec 32 := 512#32
  let v1099 : BitVec 32 := Scalar.muli v1098 c512_i32_916
  let c0_i32_921 : BitVec 32 := 0#32
  ![7, v1088.toNat, v1099.toNat, 0]
def k0_off84 (k0_t8 : Fin k0_t8_loop.trips) : Fin 2 → Nat :=
  let c1_i32_902 : BitVec 32 := 1#32
  let c35_i32 : BitVec 32 := 35#32
  let c0_i32_532 : BitVec 32 := 0#32
  let c1_i32_534 : BitVec 32 := 1#32
  let arg14 : BitVec 32 := Scf.iv c0_i32_532 c1_i32_534 k0_t8
  let v982 : BitVec 32 := Scalar.addi c35_i32 arg14
  let c2_i32_862 : BitVec 32 := 2#32
  let v983 : BitVec 32 := Scalar.remsi v982 c2_i32_862
  let v1071 : BitVec 32 := Scalar.subi c1_i32_902 v983
  let c1_i32_923 : BitVec 32 := 1#32
  ![v1071.toNat, 1]
def k0_off85 (k0_t8 : Fin k0_t8_loop.trips) : Fin 3 → Nat :=
  let c35_i32 : BitVec 32 := 35#32
  let c0_i32_532 : BitVec 32 := 0#32
  let c1_i32_534 : BitVec 32 := 1#32
  let arg14 : BitVec 32 := Scf.iv c0_i32_532 c1_i32_534 k0_t8
  let v982 : BitVec 32 := Scalar.addi c35_i32 arg14
  let c2_i32_862 : BitVec 32 := 2#32
  let v983 : BitVec 32 := Scalar.remsi v982 c2_i32_862
  let v1028 : Index := Scalar.indexCast v983
  let c0_890 : Index := 0#32
  let c0_891 : Index := 0#32
  ![v1028.toNat, 0, 0]
def k0_cond17 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_563 : BitVec 32 := 2#32
  let v622 : BitVec 1 := Scalar.cmpi .eq v2 c2_i32_563
  let v623 : BitVec 32 := Scalar.extui v622
  let c0_i32_565 : BitVec 32 := 0#32
  let v624 : BitVec 1 := Scalar.cmpi .ne v623 c0_i32_565
  v624

def k0_off86 (d0 : Dev nD) : Fin 4 → Nat :=
  let c0_i32_862 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_863 : BitVec 32 := 0#32
  let c0_i32_864 : BitVec 32 := 0#32
  ![0, v2.toNat, 0, 0]
def k0_off87 (d0 : Dev nD) : Fin 3 → Nat :=
  let c8_i32_120 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v142 : BitVec 32 := Scalar.muli c8_i32_120 v2
  let c0_i32_865 : BitVec 32 := 0#32
  let c0_i32_866 : BitVec 32 := 0#32
  ![v142.toNat, 0, 0]
def k0_cond19 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_568 : BitVec 32 := 2#32
  let v628 : BitVec 1 := Scalar.cmpi .eq v2 c2_i32_568
  let v629 : BitVec 32 := Scalar.extui v628
  let c0_i32_570 : BitVec 32 := 0#32
  let v630 : BitVec 1 := Scalar.cmpi .ne v629 c0_i32_570
  v630

def k0_off88 (d0 : Dev nD) : Fin 4 → Nat :=
  let c0_i32_862 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_863 : BitVec 32 := 0#32
  let c0_i32_864 : BitVec 32 := 0#32
  ![0, v2.toNat, 0, 0]
def k0_off89 (d0 : Dev nD) : Fin 3 → Nat :=
  let c8_i32_127 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v148 : BitVec 32 := Scalar.muli c8_i32_127 v2
  let c0_i32_865 : BitVec 32 := 0#32
  let c0_i32_866 : BitVec 32 := 0#32
  ![v148.toNat, 0, 0]
def k0_cond21 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_573 : BitVec 32 := 3#32
  let v634 : BitVec 1 := Scalar.cmpi .eq v2 c3_i32_573
  let v635 : BitVec 32 := Scalar.extui v634
  let c0_i32_575 : BitVec 32 := 0#32
  let v636 : BitVec 1 := Scalar.cmpi .ne v635 c0_i32_575
  v636

def k0_off90 (d0 : Dev nD) : Fin 4 → Nat :=
  let c0_i32_862 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_863 : BitVec 32 := 0#32
  let c0_i32_864 : BitVec 32 := 0#32
  ![0, v2.toNat, 0, 0]
def k0_off91 (d0 : Dev nD) : Fin 3 → Nat :=
  let c8_i32_120 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v142 : BitVec 32 := Scalar.muli c8_i32_120 v2
  let c0_i32_865 : BitVec 32 := 0#32
  let c0_i32_866 : BitVec 32 := 0#32
  ![v142.toNat, 0, 0]
def k0_cond23 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_578 : BitVec 32 := 3#32
  let v640 : BitVec 1 := Scalar.cmpi .eq v2 c3_i32_578
  let v641 : BitVec 32 := Scalar.extui v640
  let c0_i32_580 : BitVec 32 := 0#32
  let v642 : BitVec 1 := Scalar.cmpi .ne v641 c0_i32_580
  v642

def k0_off92 (d0 : Dev nD) : Fin 4 → Nat :=
  let c0_i32_862 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_863 : BitVec 32 := 0#32
  let c0_i32_864 : BitVec 32 := 0#32
  ![0, v2.toNat, 0, 0]
def k0_off93 (d0 : Dev nD) : Fin 3 → Nat :=
  let c8_i32_127 : BitVec 32 := 8#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v148 : BitVec 32 := Scalar.muli c8_i32_127 v2
  let c0_i32_865 : BitVec 32 := 0#32
  let c0_i32_866 : BitVec 32 := 0#32
  ![v148.toNat, 0, 0]
@[reducible] def k0_t9_loop : Scf.Loop 32 :=
  let c5_i32_604 : BitVec 32 := 5#32
  let c11_i32 : BitVec 32 := 11#32
  let v663 : BitVec 32 := Scalar.addi c5_i32_604 c11_i32
  let c1_i32_605 : BitVec 32 := 1#32
  ⟨c5_i32_604, v663, c1_i32_605⟩
def k0_off94 (k0_t9 : Fin k0_t9_loop.trips) : Fin 2 → Nat :=
  let c0_i32_862 : BitVec 32 := 0#32
  let c5_i32_604 : BitVec 32 := 5#32
  let c1_i32_605 : BitVec 32 := 1#32
  let arg14 : BitVec 32 := Scf.iv c5_i32_604 c1_i32_605 k0_t9
  let v982 : BitVec 32 := Scalar.addi c0_i32_862 arg14
  let c5_i32_863 : BitVec 32 := 5#32
  let v983 : BitVec 32 := Scalar.subi v982 c5_i32_863
  let c2_i32_864 : BitVec 32 := 2#32
  let v984 : BitVec 32 := Scalar.remsi v983 c2_i32_864
  let c0_i32_880 : BitVec 32 := 0#32
  ![v984.toNat, 0]
def k0_off95 (k0_t9 : Fin k0_t9_loop.trips) : Fin 3 → Nat :=
  let c0_i32_862 : BitVec 32 := 0#32
  let c5_i32_604 : BitVec 32 := 5#32
  let c1_i32_605 : BitVec 32 := 1#32
  let arg14 : BitVec 32 := Scf.iv c5_i32_604 c1_i32_605 k0_t9
  let v982 : BitVec 32 := Scalar.addi c0_i32_862 arg14
  let c5_i32_863 : BitVec 32 := 5#32
  let v983 : BitVec 32 := Scalar.subi v982 c5_i32_863
  let c2_i32_864 : BitVec 32 := 2#32
  let v984 : BitVec 32 := Scalar.remsi v983 c2_i32_864
  let c0_i32_881 : BitVec 32 := 0#32
  let c0_i32_882 : BitVec 32 := 0#32
  ![v984.toNat, 0, 0]
def k0_off96 (k0_t9 : Fin k0_t9_loop.trips) : Fin 4 → Nat :=
  let c0_i32_879 : BitVec 32 := 0#32
  let c5_i32_604 : BitVec 32 := 5#32
  let c1_i32_605 : BitVec 32 := 1#32
  let arg14 : BitVec 32 := Scf.iv c5_i32_604 c1_i32_605 k0_t9
  let c0_i32_866 : BitVec 32 := 0#32
  let v986 : BitVec 1 := Scalar.cmpi .sgt arg14 c0_i32_866
  let v987 : BitVec 32 := Scalar.extui v986
  let c0_i32_867 : BitVec 32 := 0#32
  let v988 : BitVec 1 := Scalar.cmpi .slt arg14 c0_i32_867
  let v989 : BitVec 32 := Scalar.extui v988
  let v990 : BitVec 32 := Scalar.subi v987 v989
  let c4_i32_865 : BitVec 32 := 4#32
  let c0_i32_868 : BitVec 32 := 0#32
  let v991 : BitVec 1 := Scalar.cmpi .sgt c4_i32_865 c0_i32_868
  let v992 : BitVec 32 := Scalar.extui v991
  let c0_i32_869 : BitVec 32 := 0#32
  let v993 : BitVec 1 := Scalar.cmpi .slt c4_i32_865 c0_i32_869
  let v994 : BitVec 32 := Scalar.extui v993
  let v995 : BitVec 32 := Scalar.subi v992 v994
  let v996 : BitVec 1 := Scalar.cmpi .ne v990 v995
  let v997 : BitVec 32 := Scalar.remsi arg14 c4_i32_865
  let c0_i32_870 : BitVec 32 := 0#32
  let v998 : BitVec 1 := Scalar.cmpi .ne v997 c0_i32_870
  let v999 : BitVec 1 := Scalar.andi v996 v998
  let v985 : BitVec 32 := Scalar.divsi arg14 c4_i32_865
  let c1_i32_871 : BitVec 32 := 1#32
  let v1000 : BitVec 32 := Scalar.subi v985 c1_i32_871
  let v1001 : BitVec 32 := Scalar.select v999 v1000 v985
  let c4_i32_872 : BitVec 32 := 4#32
  let c0_i32_873 : BitVec 32 := 0#32
  let v1002 : BitVec 1 := Scalar.cmpi .eq c4_i32_872 c0_i32_873
  let c1_i32_874 : BitVec 32 := 1#32
  let v1003 : BitVec 32 := Scalar.select v1002 c1_i32_874 c4_i32_872
  let v1004 : BitVec 32 := Scalar.remsi arg14 v1003
  let c0_i32_876 : BitVec 32 := 0#32
  let v1006 : BitVec 1 := Scalar.cmpi .slt v1004 c0_i32_876
  let c0_i32_877 : BitVec 32 := 0#32
  let v1007 : BitVec 1 := Scalar.cmpi .slt v1003 c0_i32_877
  let v1008 : BitVec 1 := Scalar.xori v1006 v1007
  let c0_i32_875 : BitVec 32 := 0#32
  let v1005 : BitVec 1 := Scalar.cmpi .ne v1004 c0_i32_875
  let v1009 : BitVec 1 := Scalar.andi v1008 v1005
  let v1010 : BitVec 32 := Scalar.addi v1004 v1003
  let v1011 : BitVec 32 := Scalar.select v1009 v1010 v1004
  let c512_i32_878 : BitVec 32 := 512#32
  let v1012 : BitVec 32 := Scalar.muli v1011 c512_i32_878
  let c0_i32_883 : BitVec 32 := 0#32
  ![0, v1001.toNat, v1012.toNat, 0]
def k0_off97 (k0_t9 : Fin k0_t9_loop.trips) : Fin 2 → Nat :=
  let c0_i32_862 : BitVec 32 := 0#32
  let c5_i32_604 : BitVec 32 := 5#32
  let c1_i32_605 : BitVec 32 := 1#32
  let arg14 : BitVec 32 := Scf.iv c5_i32_604 c1_i32_605 k0_t9
  let v982 : BitVec 32 := Scalar.addi c0_i32_862 arg14
  let c5_i32_863 : BitVec 32 := 5#32
  let v983 : BitVec 32 := Scalar.subi v982 c5_i32_863
  let c2_i32_864 : BitVec 32 := 2#32
  let v984 : BitVec 32 := Scalar.remsi v983 c2_i32_864
  let c1_i32_885 : BitVec 32 := 1#32
  ![v984.toNat, 1]
def k0_cond25 (k0_t9 : Fin k0_t9_loop.trips) : BitVec 1 :=
  let c5_i32_604 : BitVec 32 := 5#32
  let c1_i32_605 : BitVec 32 := 1#32
  let arg14 : BitVec 32 := Scf.iv c5_i32_604 c1_i32_605 k0_t9
  let c1_i32_889 : BitVec 32 := 1#32
  let v1025 : BitVec 32 := Scalar.addi arg14 c1_i32_889
  let c16_i32 : BitVec 32 := 16#32
  let v1026 : BitVec 1 := Scalar.cmpi .slt v1025 c16_i32
  let v1027 : BitVec 32 := Scalar.extui v1026
  let c0_i32_890 : BitVec 32 := 0#32
  let v1028 : BitVec 1 := Scalar.cmpi .ne v1027 c0_i32_890
  v1028

def k0_off98 (k0_t9 : Fin k0_t9_loop.trips) : Fin 2 → Nat :=
  let c1_i32_900 : BitVec 32 := 1#32
  let c0_i32_862 : BitVec 32 := 0#32
  let c5_i32_604 : BitVec 32 := 5#32
  let c1_i32_605 : BitVec 32 := 1#32
  let arg14 : BitVec 32 := Scf.iv c5_i32_604 c1_i32_605 k0_t9
  let v982 : BitVec 32 := Scalar.addi c0_i32_862 arg14
  let c5_i32_863 : BitVec 32 := 5#32
  let v983 : BitVec 32 := Scalar.subi v982 c5_i32_863
  let c2_i32_864 : BitVec 32 := 2#32
  let v984 : BitVec 32 := Scalar.remsi v983 c2_i32_864
  let v1055 : BitVec 32 := Scalar.subi c1_i32_900 v984
  let c0_i32_916 : BitVec 32 := 0#32
  ![v1055.toNat, 0]
def k0_off99 (k0_t9 : Fin k0_t9_loop.trips) : Fin 3 → Nat :=
  let c1_i32_900 : BitVec 32 := 1#32
  let c0_i32_862 : BitVec 32 := 0#32
  let c5_i32_604 : BitVec 32 := 5#32
  let c1_i32_605 : BitVec 32 := 1#32
  let arg14 : BitVec 32 := Scf.iv c5_i32_604 c1_i32_605 k0_t9
  let v982 : BitVec 32 := Scalar.addi c0_i32_862 arg14
  let c5_i32_863 : BitVec 32 := 5#32
  let v983 : BitVec 32 := Scalar.subi v982 c5_i32_863
  let c2_i32_864 : BitVec 32 := 2#32
  let v984 : BitVec 32 := Scalar.remsi v983 c2_i32_864
  let v1055 : BitVec 32 := Scalar.subi c1_i32_900 v984
  let c0_i32_917 : BitVec 32 := 0#32
  let c0_i32_918 : BitVec 32 := 0#32
  ![v1055.toNat, 0, 0]
def k0_off100 (k0_t9 : Fin k0_t9_loop.trips) : Fin 4 → Nat :=
  let c0_i32_915 : BitVec 32 := 0#32
  let c5_i32_604 : BitVec 32 := 5#32
  let c1_i32_605 : BitVec 32 := 1#32
  let arg14 : BitVec 32 := Scf.iv c5_i32_604 c1_i32_605 k0_t9
  let c1_i32_899 : BitVec 32 := 1#32
  let v1054 : BitVec 32 := Scalar.addi arg14 c1_i32_899
  let c0_i32_902 : BitVec 32 := 0#32
  let v1057 : BitVec 1 := Scalar.cmpi .sgt v1054 c0_i32_902
  let v1058 : BitVec 32 := Scalar.extui v1057
  let c0_i32_903 : BitVec 32 := 0#32
  let v1059 : BitVec 1 := Scalar.cmpi .slt v1054 c0_i32_903
  let v1060 : BitVec 32 := Scalar.extui v1059
  let v1061 : BitVec 32 := Scalar.subi v1058 v1060
  let c4_i32_901 : BitVec 32 := 4#32
  let c0_i32_904 : BitVec 32 := 0#32
  let v1062 : BitVec 1 := Scalar.cmpi .sgt c4_i32_901 c0_i32_904
  let v1063 : BitVec 32 := Scalar.extui v1062
  let c0_i32_905 : BitVec 32 := 0#32
  let v1064 : BitVec 1 := Scalar.cmpi .slt c4_i32_901 c0_i32_905
  let v1065 : BitVec 32 := Scalar.extui v1064
  let v1066 : BitVec 32 := Scalar.subi v1063 v1065
  let v1067 : BitVec 1 := Scalar.cmpi .ne v1061 v1066
  let v1068 : BitVec 32 := Scalar.remsi v1054 c4_i32_901
  let c0_i32_906 : BitVec 32 := 0#32
  let v1069 : BitVec 1 := Scalar.cmpi .ne v1068 c0_i32_906
  let v1070 : BitVec 1 := Scalar.andi v1067 v1069
  let v1056 : BitVec 32 := Scalar.divsi v1054 c4_i32_901
  let c1_i32_907 : BitVec 32 := 1#32
  let v1071 : BitVec 32 := Scalar.subi v1056 c1_i32_907
  let v1072 : BitVec 32 := Scalar.select v1070 v1071 v1056
  let c4_i32_908 : BitVec 32 := 4#32
  let c0_i32_909 : BitVec 32 := 0#32
  let v1073 : BitVec 1 := Scalar.cmpi .eq c4_i32_908 c0_i32_909
  let c1_i32_910 : BitVec 32 := 1#32
  let v1074 : BitVec 32 := Scalar.select v1073 c1_i32_910 c4_i32_908
  let v1075 : BitVec 32 := Scalar.remsi v1054 v1074
  let c0_i32_912 : BitVec 32 := 0#32
  let v1077 : BitVec 1 := Scalar.cmpi .slt v1075 c0_i32_912
  let c0_i32_913 : BitVec 32 := 0#32
  let v1078 : BitVec 1 := Scalar.cmpi .slt v1074 c0_i32_913
  let v1079 : BitVec 1 := Scalar.xori v1077 v1078
  let c0_i32_911 : BitVec 32 := 0#32
  let v1076 : BitVec 1 := Scalar.cmpi .ne v1075 c0_i32_911
  let v1080 : BitVec 1 := Scalar.andi v1079 v1076
  let v1081 : BitVec 32 := Scalar.addi v1075 v1074
  let v1082 : BitVec 32 := Scalar.select v1080 v1081 v1075
  let c512_i32_914 : BitVec 32 := 512#32
  let v1083 : BitVec 32 := Scalar.muli v1082 c512_i32_914
  let c0_i32_919 : BitVec 32 := 0#32
  ![0, v1072.toNat, v1083.toNat, 0]
def k0_off101 (k0_t9 : Fin k0_t9_loop.trips) : Fin 2 → Nat :=
  let c1_i32_900 : BitVec 32 := 1#32
  let c0_i32_862 : BitVec 32 := 0#32
  let c5_i32_604 : BitVec 32 := 5#32
  let c1_i32_605 : BitVec 32 := 1#32
  let arg14 : BitVec 32 := Scf.iv c5_i32_604 c1_i32_605 k0_t9
  let v982 : BitVec 32 := Scalar.addi c0_i32_862 arg14
  let c5_i32_863 : BitVec 32 := 5#32
  let v983 : BitVec 32 := Scalar.subi v982 c5_i32_863
  let c2_i32_864 : BitVec 32 := 2#32
  let v984 : BitVec 32 := Scalar.remsi v983 c2_i32_864
  let v1055 : BitVec 32 := Scalar.subi c1_i32_900 v984
  let c1_i32_921 : BitVec 32 := 1#32
  ![v1055.toNat, 1]
def k0_off102 (k0_t9 : Fin k0_t9_loop.trips) : Fin 3 → Nat :=
  let c0_i32_862 : BitVec 32 := 0#32
  let c5_i32_604 : BitVec 32 := 5#32
  let c1_i32_605 : BitVec 32 := 1#32
  let arg14 : BitVec 32 := Scf.iv c5_i32_604 c1_i32_605 k0_t9
  let v982 : BitVec 32 := Scalar.addi c0_i32_862 arg14
  let c5_i32_863 : BitVec 32 := 5#32
  let v983 : BitVec 32 := Scalar.subi v982 c5_i32_863
  let c2_i32_864 : BitVec 32 := 2#32
  let v984 : BitVec 32 := Scalar.remsi v983 c2_i32_864
  let v1029 : Index := Scalar.indexCast v984
  let c0_891 : Index := 0#32
  let c0_892 : Index := 0#32
  ![v1029.toNat, 0, 0]
@[reducible] def k0_t10_loop : Scf.Loop 32 :=
  let c5_i32_631 : BitVec 32 := 5#32
  let c11_i32_632 : BitVec 32 := 11#32
  let v701 : BitVec 32 := Scalar.addi c5_i32_631 c11_i32_632
  let c1_i32_633 : BitVec 32 := 1#32
  ⟨c5_i32_631, v701, c1_i32_633⟩
def k0_off103 (k0_t10 : Fin k0_t10_loop.trips) : Fin 2 → Nat :=
  let c11_i32_862 : BitVec 32 := 11#32
  let c5_i32_631 : BitVec 32 := 5#32
  let c1_i32_633 : BitVec 32 := 1#32
  let arg14 : BitVec 32 := Scf.iv c5_i32_631 c1_i32_633 k0_t10
  let v982 : BitVec 32 := Scalar.addi c11_i32_862 arg14
  let c5_i32_863 : BitVec 32 := 5#32
  let v983 : BitVec 32 := Scalar.subi v982 c5_i32_863
  let c2_i32_864 : BitVec 32 := 2#32
  let v984 : BitVec 32 := Scalar.remsi v983 c2_i32_864
  let c0_i32_880 : BitVec 32 := 0#32
  ![v984.toNat, 0]
def k0_off104 (k0_t10 : Fin k0_t10_loop.trips) : Fin 3 → Nat :=
  let c11_i32_862 : BitVec 32 := 11#32
  let c5_i32_631 : BitVec 32 := 5#32
  let c1_i32_633 : BitVec 32 := 1#32
  let arg14 : BitVec 32 := Scf.iv c5_i32_631 c1_i32_633 k0_t10
  let v982 : BitVec 32 := Scalar.addi c11_i32_862 arg14
  let c5_i32_863 : BitVec 32 := 5#32
  let v983 : BitVec 32 := Scalar.subi v982 c5_i32_863
  let c2_i32_864 : BitVec 32 := 2#32
  let v984 : BitVec 32 := Scalar.remsi v983 c2_i32_864
  let c0_i32_881 : BitVec 32 := 0#32
  let c0_i32_882 : BitVec 32 := 0#32
  ![v984.toNat, 0, 0]
def k0_off105 (k0_t10 : Fin k0_t10_loop.trips) : Fin 4 → Nat :=
  let c1_i32_879 : BitVec 32 := 1#32
  let c5_i32_631 : BitVec 32 := 5#32
  let c1_i32_633 : BitVec 32 := 1#32
  let arg14 : BitVec 32 := Scf.iv c5_i32_631 c1_i32_633 k0_t10
  let c0_i32_866 : BitVec 32 := 0#32
  let v986 : BitVec 1 := Scalar.cmpi .sgt arg14 c0_i32_866
  let v987 : BitVec 32 := Scalar.extui v986
  let c0_i32_867 : BitVec 32 := 0#32
  let v988 : BitVec 1 := Scalar.cmpi .slt arg14 c0_i32_867
  let v989 : BitVec 32 := Scalar.extui v988
  let v990 : BitVec 32 := Scalar.subi v987 v989
  let c4_i32_865 : BitVec 32 := 4#32
  let c0_i32_868 : BitVec 32 := 0#32
  let v991 : BitVec 1 := Scalar.cmpi .sgt c4_i32_865 c0_i32_868
  let v992 : BitVec 32 := Scalar.extui v991
  let c0_i32_869 : BitVec 32 := 0#32
  let v993 : BitVec 1 := Scalar.cmpi .slt c4_i32_865 c0_i32_869
  let v994 : BitVec 32 := Scalar.extui v993
  let v995 : BitVec 32 := Scalar.subi v992 v994
  let v996 : BitVec 1 := Scalar.cmpi .ne v990 v995
  let v997 : BitVec 32 := Scalar.remsi arg14 c4_i32_865
  let c0_i32_870 : BitVec 32 := 0#32
  let v998 : BitVec 1 := Scalar.cmpi .ne v997 c0_i32_870
  let v999 : BitVec 1 := Scalar.andi v996 v998
  let v985 : BitVec 32 := Scalar.divsi arg14 c4_i32_865
  let c1_i32_871 : BitVec 32 := 1#32
  let v1000 : BitVec 32 := Scalar.subi v985 c1_i32_871
  let v1001 : BitVec 32 := Scalar.select v999 v1000 v985
  let c4_i32_872 : BitVec 32 := 4#32
  let c0_i32_873 : BitVec 32 := 0#32
  let v1002 : BitVec 1 := Scalar.cmpi .eq c4_i32_872 c0_i32_873
  let c1_i32_874 : BitVec 32 := 1#32
  let v1003 : BitVec 32 := Scalar.select v1002 c1_i32_874 c4_i32_872
  let v1004 : BitVec 32 := Scalar.remsi arg14 v1003
  let c0_i32_876 : BitVec 32 := 0#32
  let v1006 : BitVec 1 := Scalar.cmpi .slt v1004 c0_i32_876
  let c0_i32_877 : BitVec 32 := 0#32
  let v1007 : BitVec 1 := Scalar.cmpi .slt v1003 c0_i32_877
  let v1008 : BitVec 1 := Scalar.xori v1006 v1007
  let c0_i32_875 : BitVec 32 := 0#32
  let v1005 : BitVec 1 := Scalar.cmpi .ne v1004 c0_i32_875
  let v1009 : BitVec 1 := Scalar.andi v1008 v1005
  let v1010 : BitVec 32 := Scalar.addi v1004 v1003
  let v1011 : BitVec 32 := Scalar.select v1009 v1010 v1004
  let c512_i32_878 : BitVec 32 := 512#32
  let v1012 : BitVec 32 := Scalar.muli v1011 c512_i32_878
  let c0_i32_883 : BitVec 32 := 0#32
  ![1, v1001.toNat, v1012.toNat, 0]
def k0_off106 (k0_t10 : Fin k0_t10_loop.trips) : Fin 2 → Nat :=
  let c11_i32_862 : BitVec 32 := 11#32
  let c5_i32_631 : BitVec 32 := 5#32
  let c1_i32_633 : BitVec 32 := 1#32
  let arg14 : BitVec 32 := Scf.iv c5_i32_631 c1_i32_633 k0_t10
  let v982 : BitVec 32 := Scalar.addi c11_i32_862 arg14
  let c5_i32_863 : BitVec 32 := 5#32
  let v983 : BitVec 32 := Scalar.subi v982 c5_i32_863
  let c2_i32_864 : BitVec 32 := 2#32
  let v984 : BitVec 32 := Scalar.remsi v983 c2_i32_864
  let c1_i32_885 : BitVec 32 := 1#32
  ![v984.toNat, 1]
def k0_cond26 (k0_t10 : Fin k0_t10_loop.trips) : BitVec 1 :=
  let c5_i32_631 : BitVec 32 := 5#32
  let c1_i32_633 : BitVec 32 := 1#32
  let arg14 : BitVec 32 := Scf.iv c5_i32_631 c1_i32_633 k0_t10
  let c1_i32_889 : BitVec 32 := 1#32
  let v1025 : BitVec 32 := Scalar.addi arg14 c1_i32_889
  let c16_i32 : BitVec 32 := 16#32
  let v1026 : BitVec 1 := Scalar.cmpi .slt v1025 c16_i32
  let v1027 : BitVec 32 := Scalar.extui v1026
  let c0_i32_890 : BitVec 32 := 0#32
  let v1028 : BitVec 1 := Scalar.cmpi .ne v1027 c0_i32_890
  v1028

def k0_off107 (k0_t10 : Fin k0_t10_loop.trips) : Fin 2 → Nat :=
  let c1_i32_900 : BitVec 32 := 1#32
  let c11_i32_862 : BitVec 32 := 11#32
  let c5_i32_631 : BitVec 32 := 5#32
  let c1_i32_633 : BitVec 32 := 1#32
  let arg14 : BitVec 32 := Scf.iv c5_i32_631 c1_i32_633 k0_t10
  let v982 : BitVec 32 := Scalar.addi c11_i32_862 arg14
  let c5_i32_863 : BitVec 32 := 5#32
  let v983 : BitVec 32 := Scalar.subi v982 c5_i32_863
  let c2_i32_864 : BitVec 32 := 2#32
  let v984 : BitVec 32 := Scalar.remsi v983 c2_i32_864
  let v1055 : BitVec 32 := Scalar.subi c1_i32_900 v984
  let c0_i32_916 : BitVec 32 := 0#32
  ![v1055.toNat, 0]
def k0_off108 (k0_t10 : Fin k0_t10_loop.trips) : Fin 3 → Nat :=
  let c1_i32_900 : BitVec 32 := 1#32
  let c11_i32_862 : BitVec 32 := 11#32
  let c5_i32_631 : BitVec 32 := 5#32
  let c1_i32_633 : BitVec 32 := 1#32
  let arg14 : BitVec 32 := Scf.iv c5_i32_631 c1_i32_633 k0_t10
  let v982 : BitVec 32 := Scalar.addi c11_i32_862 arg14
  let c5_i32_863 : BitVec 32 := 5#32
  let v983 : BitVec 32 := Scalar.subi v982 c5_i32_863
  let c2_i32_864 : BitVec 32 := 2#32
  let v984 : BitVec 32 := Scalar.remsi v983 c2_i32_864
  let v1055 : BitVec 32 := Scalar.subi c1_i32_900 v984
  let c0_i32_917 : BitVec 32 := 0#32
  let c0_i32_918 : BitVec 32 := 0#32
  ![v1055.toNat, 0, 0]
def k0_off109 (k0_t10 : Fin k0_t10_loop.trips) : Fin 4 → Nat :=
  let c1_i32_915 : BitVec 32 := 1#32
  let c5_i32_631 : BitVec 32 := 5#32
  let c1_i32_633 : BitVec 32 := 1#32
  let arg14 : BitVec 32 := Scf.iv c5_i32_631 c1_i32_633 k0_t10
  let c1_i32_899 : BitVec 32 := 1#32
  let v1054 : BitVec 32 := Scalar.addi arg14 c1_i32_899
  let c0_i32_902 : BitVec 32 := 0#32
  let v1057 : BitVec 1 := Scalar.cmpi .sgt v1054 c0_i32_902
  let v1058 : BitVec 32 := Scalar.extui v1057
  let c0_i32_903 : BitVec 32 := 0#32
  let v1059 : BitVec 1 := Scalar.cmpi .slt v1054 c0_i32_903
  let v1060 : BitVec 32 := Scalar.extui v1059
  let v1061 : BitVec 32 := Scalar.subi v1058 v1060
  let c4_i32_901 : BitVec 32 := 4#32
  let c0_i32_904 : BitVec 32 := 0#32
  let v1062 : BitVec 1 := Scalar.cmpi .sgt c4_i32_901 c0_i32_904
  let v1063 : BitVec 32 := Scalar.extui v1062
  let c0_i32_905 : BitVec 32 := 0#32
  let v1064 : BitVec 1 := Scalar.cmpi .slt c4_i32_901 c0_i32_905
  let v1065 : BitVec 32 := Scalar.extui v1064
  let v1066 : BitVec 32 := Scalar.subi v1063 v1065
  let v1067 : BitVec 1 := Scalar.cmpi .ne v1061 v1066
  let v1068 : BitVec 32 := Scalar.remsi v1054 c4_i32_901
  let c0_i32_906 : BitVec 32 := 0#32
  let v1069 : BitVec 1 := Scalar.cmpi .ne v1068 c0_i32_906
  let v1070 : BitVec 1 := Scalar.andi v1067 v1069
  let v1056 : BitVec 32 := Scalar.divsi v1054 c4_i32_901
  let c1_i32_907 : BitVec 32 := 1#32
  let v1071 : BitVec 32 := Scalar.subi v1056 c1_i32_907
  let v1072 : BitVec 32 := Scalar.select v1070 v1071 v1056
  let c4_i32_908 : BitVec 32 := 4#32
  let c0_i32_909 : BitVec 32 := 0#32
  let v1073 : BitVec 1 := Scalar.cmpi .eq c4_i32_908 c0_i32_909
  let c1_i32_910 : BitVec 32 := 1#32
  let v1074 : BitVec 32 := Scalar.select v1073 c1_i32_910 c4_i32_908
  let v1075 : BitVec 32 := Scalar.remsi v1054 v1074
  let c0_i32_912 : BitVec 32 := 0#32
  let v1077 : BitVec 1 := Scalar.cmpi .slt v1075 c0_i32_912
  let c0_i32_913 : BitVec 32 := 0#32
  let v1078 : BitVec 1 := Scalar.cmpi .slt v1074 c0_i32_913
  let v1079 : BitVec 1 := Scalar.xori v1077 v1078
  let c0_i32_911 : BitVec 32 := 0#32
  let v1076 : BitVec 1 := Scalar.cmpi .ne v1075 c0_i32_911
  let v1080 : BitVec 1 := Scalar.andi v1079 v1076
  let v1081 : BitVec 32 := Scalar.addi v1075 v1074
  let v1082 : BitVec 32 := Scalar.select v1080 v1081 v1075
  let c512_i32_914 : BitVec 32 := 512#32
  let v1083 : BitVec 32 := Scalar.muli v1082 c512_i32_914
  let c0_i32_919 : BitVec 32 := 0#32
  ![1, v1072.toNat, v1083.toNat, 0]
def k0_off110 (k0_t10 : Fin k0_t10_loop.trips) : Fin 2 → Nat :=
  let c1_i32_900 : BitVec 32 := 1#32
  let c11_i32_862 : BitVec 32 := 11#32
  let c5_i32_631 : BitVec 32 := 5#32
  let c1_i32_633 : BitVec 32 := 1#32
  let arg14 : BitVec 32 := Scf.iv c5_i32_631 c1_i32_633 k0_t10
  let v982 : BitVec 32 := Scalar.addi c11_i32_862 arg14
  let c5_i32_863 : BitVec 32 := 5#32
  let v983 : BitVec 32 := Scalar.subi v982 c5_i32_863
  let c2_i32_864 : BitVec 32 := 2#32
  let v984 : BitVec 32 := Scalar.remsi v983 c2_i32_864
  let v1055 : BitVec 32 := Scalar.subi c1_i32_900 v984
  let c1_i32_921 : BitVec 32 := 1#32
  ![v1055.toNat, 1]
def k0_off111 (k0_t10 : Fin k0_t10_loop.trips) : Fin 3 → Nat :=
  let c11_i32_862 : BitVec 32 := 11#32
  let c5_i32_631 : BitVec 32 := 5#32
  let c1_i32_633 : BitVec 32 := 1#32
  let arg14 : BitVec 32 := Scf.iv c5_i32_631 c1_i32_633 k0_t10
  let v982 : BitVec 32 := Scalar.addi c11_i32_862 arg14
  let c5_i32_863 : BitVec 32 := 5#32
  let v983 : BitVec 32 := Scalar.subi v982 c5_i32_863
  let c2_i32_864 : BitVec 32 := 2#32
  let v984 : BitVec 32 := Scalar.remsi v983 c2_i32_864
  let v1029 : Index := Scalar.indexCast v984
  let c0_891 : Index := 0#32
  let c0_892 : Index := 0#32
  ![v1029.toNat, 0, 0]
@[reducible] def k0_t11_loop : Scf.Loop 32 :=
  let c5_i32_659 : BitVec 32 := 5#32
  let c11_i32_660 : BitVec 32 := 11#32
  let v739 : BitVec 32 := Scalar.addi c5_i32_659 c11_i32_660
  let c1_i32_661 : BitVec 32 := 1#32
  ⟨c5_i32_659, v739, c1_i32_661⟩
def k0_off112 (k0_t11 : Fin k0_t11_loop.trips) : Fin 2 → Nat :=
  let c22_i32 : BitVec 32 := 22#32
  let c5_i32_659 : BitVec 32 := 5#32
  let c1_i32_661 : BitVec 32 := 1#32
  let arg14 : BitVec 32 := Scf.iv c5_i32_659 c1_i32_661 k0_t11
  let v982 : BitVec 32 := Scalar.addi c22_i32 arg14
  let c5_i32_862 : BitVec 32 := 5#32
  let v983 : BitVec 32 := Scalar.subi v982 c5_i32_862
  let c2_i32_863 : BitVec 32 := 2#32
  let v984 : BitVec 32 := Scalar.remsi v983 c2_i32_863
  let c0_i32_879 : BitVec 32 := 0#32
  ![v984.toNat, 0]
def k0_off113 (k0_t11 : Fin k0_t11_loop.trips) : Fin 3 → Nat :=
  let c22_i32 : BitVec 32 := 22#32
  let c5_i32_659 : BitVec 32 := 5#32
  let c1_i32_661 : BitVec 32 := 1#32
  let arg14 : BitVec 32 := Scf.iv c5_i32_659 c1_i32_661 k0_t11
  let v982 : BitVec 32 := Scalar.addi c22_i32 arg14
  let c5_i32_862 : BitVec 32 := 5#32
  let v983 : BitVec 32 := Scalar.subi v982 c5_i32_862
  let c2_i32_863 : BitVec 32 := 2#32
  let v984 : BitVec 32 := Scalar.remsi v983 c2_i32_863
  let c0_i32_880 : BitVec 32 := 0#32
  let c0_i32_881 : BitVec 32 := 0#32
  ![v984.toNat, 0, 0]
def k0_off114 (k0_t11 : Fin k0_t11_loop.trips) : Fin 4 → Nat :=
  let c2_i32_878 : BitVec 32 := 2#32
  let c5_i32_659 : BitVec 32 := 5#32
  let c1_i32_661 : BitVec 32 := 1#32
  let arg14 : BitVec 32 := Scf.iv c5_i32_659 c1_i32_661 k0_t11
  let c0_i32_865 : BitVec 32 := 0#32
  let v986 : BitVec 1 := Scalar.cmpi .sgt arg14 c0_i32_865
  let v987 : BitVec 32 := Scalar.extui v986
  let c0_i32_866 : BitVec 32 := 0#32
  let v988 : BitVec 1 := Scalar.cmpi .slt arg14 c0_i32_866
  let v989 : BitVec 32 := Scalar.extui v988
  let v990 : BitVec 32 := Scalar.subi v987 v989
  let c4_i32_864 : BitVec 32 := 4#32
  let c0_i32_867 : BitVec 32 := 0#32
  let v991 : BitVec 1 := Scalar.cmpi .sgt c4_i32_864 c0_i32_867
  let v992 : BitVec 32 := Scalar.extui v991
  let c0_i32_868 : BitVec 32 := 0#32
  let v993 : BitVec 1 := Scalar.cmpi .slt c4_i32_864 c0_i32_868
  let v994 : BitVec 32 := Scalar.extui v993
  let v995 : BitVec 32 := Scalar.subi v992 v994
  let v996 : BitVec 1 := Scalar.cmpi .ne v990 v995
  let v997 : BitVec 32 := Scalar.remsi arg14 c4_i32_864
  let c0_i32_869 : BitVec 32 := 0#32
  let v998 : BitVec 1 := Scalar.cmpi .ne v997 c0_i32_869
  let v999 : BitVec 1 := Scalar.andi v996 v998
  let v985 : BitVec 32 := Scalar.divsi arg14 c4_i32_864
  let c1_i32_870 : BitVec 32 := 1#32
  let v1000 : BitVec 32 := Scalar.subi v985 c1_i32_870
  let v1001 : BitVec 32 := Scalar.select v999 v1000 v985
  let c4_i32_871 : BitVec 32 := 4#32
  let c0_i32_872 : BitVec 32 := 0#32
  let v1002 : BitVec 1 := Scalar.cmpi .eq c4_i32_871 c0_i32_872
  let c1_i32_873 : BitVec 32 := 1#32
  let v1003 : BitVec 32 := Scalar.select v1002 c1_i32_873 c4_i32_871
  let v1004 : BitVec 32 := Scalar.remsi arg14 v1003
  let c0_i32_875 : BitVec 32 := 0#32
  let v1006 : BitVec 1 := Scalar.cmpi .slt v1004 c0_i32_875
  let c0_i32_876 : BitVec 32 := 0#32
  let v1007 : BitVec 1 := Scalar.cmpi .slt v1003 c0_i32_876
  let v1008 : BitVec 1 := Scalar.xori v1006 v1007
  let c0_i32_874 : BitVec 32 := 0#32
  let v1005 : BitVec 1 := Scalar.cmpi .ne v1004 c0_i32_874
  let v1009 : BitVec 1 := Scalar.andi v1008 v1005
  let v1010 : BitVec 32 := Scalar.addi v1004 v1003
  let v1011 : BitVec 32 := Scalar.select v1009 v1010 v1004
  let c512_i32_877 : BitVec 32 := 512#32
  let v1012 : BitVec 32 := Scalar.muli v1011 c512_i32_877
  let c0_i32_882 : BitVec 32 := 0#32
  ![2, v1001.toNat, v1012.toNat, 0]
def k0_off115 (k0_t11 : Fin k0_t11_loop.trips) : Fin 2 → Nat :=
  let c22_i32 : BitVec 32 := 22#32
  let c5_i32_659 : BitVec 32 := 5#32
  let c1_i32_661 : BitVec 32 := 1#32
  let arg14 : BitVec 32 := Scf.iv c5_i32_659 c1_i32_661 k0_t11
  let v982 : BitVec 32 := Scalar.addi c22_i32 arg14
  let c5_i32_862 : BitVec 32 := 5#32
  let v983 : BitVec 32 := Scalar.subi v982 c5_i32_862
  let c2_i32_863 : BitVec 32 := 2#32
  let v984 : BitVec 32 := Scalar.remsi v983 c2_i32_863
  let c1_i32_884 : BitVec 32 := 1#32
  ![v984.toNat, 1]
def k0_cond27 (k0_t11 : Fin k0_t11_loop.trips) : BitVec 1 :=
  let c5_i32_659 : BitVec 32 := 5#32
  let c1_i32_661 : BitVec 32 := 1#32
  let arg14 : BitVec 32 := Scf.iv c5_i32_659 c1_i32_661 k0_t11
  let c1_i32_888 : BitVec 32 := 1#32
  let v1025 : BitVec 32 := Scalar.addi arg14 c1_i32_888
  let c16_i32 : BitVec 32 := 16#32
  let v1026 : BitVec 1 := Scalar.cmpi .slt v1025 c16_i32
  let v1027 : BitVec 32 := Scalar.extui v1026
  let c0_i32_889 : BitVec 32 := 0#32
  let v1028 : BitVec 1 := Scalar.cmpi .ne v1027 c0_i32_889
  v1028

def k0_off116 (k0_t11 : Fin k0_t11_loop.trips) : Fin 2 → Nat :=
  let c1_i32_899 : BitVec 32 := 1#32
  let c22_i32 : BitVec 32 := 22#32
  let c5_i32_659 : BitVec 32 := 5#32
  let c1_i32_661 : BitVec 32 := 1#32
  let arg14 : BitVec 32 := Scf.iv c5_i32_659 c1_i32_661 k0_t11
  let v982 : BitVec 32 := Scalar.addi c22_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c0_i32_915 : BitVec 32 := 0#32
  ![v1055.toNat, 0]
def k0_off117 (k0_t11 : Fin k0_t11_loop.trips) : Fin 3 → Nat :=
  let c1_i32_899 : BitVec 32 := 1#32
  let c22_i32 : BitVec 32 := 22#32
  let c5_i32_659 : BitVec 32 := 5#32
  let c1_i32_661 : BitVec 32 := 1#32
  let arg14 : BitVec 32 := Scf.iv c5_i32_659 c1_i32_661 k0_t11
  let v982 : BitVec 32 := Scalar.addi c22_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c0_i32_916 : BitVec 32 := 0#32
  let c0_i32_917 : BitVec 32 := 0#32
  ![v1055.toNat, 0, 0]
def k0_off118 (k0_t11 : Fin k0_t11_loop.trips) : Fin 4 → Nat :=
  let c2_i32_914 : BitVec 32 := 2#32
  let c5_i32_659 : BitVec 32 := 5#32
  let c1_i32_661 : BitVec 32 := 1#32
  let arg14 : BitVec 32 := Scf.iv c5_i32_659 c1_i32_661 k0_t11
  let c1_i32_898 : BitVec 32 := 1#32
  let v1054 : BitVec 32 := Scalar.addi arg14 c1_i32_898
  let c0_i32_901 : BitVec 32 := 0#32
  let v1057 : BitVec 1 := Scalar.cmpi .sgt v1054 c0_i32_901
  let v1058 : BitVec 32 := Scalar.extui v1057
  let c0_i32_902 : BitVec 32 := 0#32
  let v1059 : BitVec 1 := Scalar.cmpi .slt v1054 c0_i32_902
  let v1060 : BitVec 32 := Scalar.extui v1059
  let v1061 : BitVec 32 := Scalar.subi v1058 v1060
  let c4_i32_900 : BitVec 32 := 4#32
  let c0_i32_903 : BitVec 32 := 0#32
  let v1062 : BitVec 1 := Scalar.cmpi .sgt c4_i32_900 c0_i32_903
  let v1063 : BitVec 32 := Scalar.extui v1062
  let c0_i32_904 : BitVec 32 := 0#32
  let v1064 : BitVec 1 := Scalar.cmpi .slt c4_i32_900 c0_i32_904
  let v1065 : BitVec 32 := Scalar.extui v1064
  let v1066 : BitVec 32 := Scalar.subi v1063 v1065
  let v1067 : BitVec 1 := Scalar.cmpi .ne v1061 v1066
  let v1068 : BitVec 32 := Scalar.remsi v1054 c4_i32_900
  let c0_i32_905 : BitVec 32 := 0#32
  let v1069 : BitVec 1 := Scalar.cmpi .ne v1068 c0_i32_905
  let v1070 : BitVec 1 := Scalar.andi v1067 v1069
  let v1056 : BitVec 32 := Scalar.divsi v1054 c4_i32_900
  let c1_i32_906 : BitVec 32 := 1#32
  let v1071 : BitVec 32 := Scalar.subi v1056 c1_i32_906
  let v1072 : BitVec 32 := Scalar.select v1070 v1071 v1056
  let c4_i32_907 : BitVec 32 := 4#32
  let c0_i32_908 : BitVec 32 := 0#32
  let v1073 : BitVec 1 := Scalar.cmpi .eq c4_i32_907 c0_i32_908
  let c1_i32_909 : BitVec 32 := 1#32
  let v1074 : BitVec 32 := Scalar.select v1073 c1_i32_909 c4_i32_907
  let v1075 : BitVec 32 := Scalar.remsi v1054 v1074
  let c0_i32_911 : BitVec 32 := 0#32
  let v1077 : BitVec 1 := Scalar.cmpi .slt v1075 c0_i32_911
  let c0_i32_912 : BitVec 32 := 0#32
  let v1078 : BitVec 1 := Scalar.cmpi .slt v1074 c0_i32_912
  let v1079 : BitVec 1 := Scalar.xori v1077 v1078
  let c0_i32_910 : BitVec 32 := 0#32
  let v1076 : BitVec 1 := Scalar.cmpi .ne v1075 c0_i32_910
  let v1080 : BitVec 1 := Scalar.andi v1079 v1076
  let v1081 : BitVec 32 := Scalar.addi v1075 v1074
  let v1082 : BitVec 32 := Scalar.select v1080 v1081 v1075
  let c512_i32_913 : BitVec 32 := 512#32
  let v1083 : BitVec 32 := Scalar.muli v1082 c512_i32_913
  let c0_i32_918 : BitVec 32 := 0#32
  ![2, v1072.toNat, v1083.toNat, 0]
def k0_off119 (k0_t11 : Fin k0_t11_loop.trips) : Fin 2 → Nat :=
  let c1_i32_899 : BitVec 32 := 1#32
  let c22_i32 : BitVec 32 := 22#32
  let c5_i32_659 : BitVec 32 := 5#32
  let c1_i32_661 : BitVec 32 := 1#32
  let arg14 : BitVec 32 := Scf.iv c5_i32_659 c1_i32_661 k0_t11
  let v982 : BitVec 32 := Scalar.addi c22_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c1_i32_920 : BitVec 32 := 1#32
  ![v1055.toNat, 1]
def k0_off120 (k0_t11 : Fin k0_t11_loop.trips) : Fin 3 → Nat :=
  let c22_i32 : BitVec 32 := 22#32
  let c5_i32_659 : BitVec 32 := 5#32
  let c1_i32_661 : BitVec 32 := 1#32
  let arg14 : BitVec 32 := Scf.iv c5_i32_659 c1_i32_661 k0_t11
  let v982 : BitVec 32 := Scalar.addi c22_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1029 : Index := Scalar.indexCast v984
  let c0_890 : Index := 0#32
  let c0_891 : Index := 0#32
  ![v1029.toNat, 0, 0]
@[reducible] def k0_t12_loop : Scf.Loop 32 :=
  let c5_i32_687 : BitVec 32 := 5#32
  let c11_i32_688 : BitVec 32 := 11#32
  let v777 : BitVec 32 := Scalar.addi c5_i32_687 c11_i32_688
  let c1_i32_689 : BitVec 32 := 1#32
  ⟨c5_i32_687, v777, c1_i32_689⟩
def k0_off121 (k0_t12 : Fin k0_t12_loop.trips) : Fin 2 → Nat :=
  let c33_i32 : BitVec 32 := 33#32
  let c5_i32_687 : BitVec 32 := 5#32
  let c1_i32_689 : BitVec 32 := 1#32
  let arg14 : BitVec 32 := Scf.iv c5_i32_687 c1_i32_689 k0_t12
  let v982 : BitVec 32 := Scalar.addi c33_i32 arg14
  let c5_i32_862 : BitVec 32 := 5#32
  let v983 : BitVec 32 := Scalar.subi v982 c5_i32_862
  let c2_i32_863 : BitVec 32 := 2#32
  let v984 : BitVec 32 := Scalar.remsi v983 c2_i32_863
  let c0_i32_879 : BitVec 32 := 0#32
  ![v984.toNat, 0]
def k0_off122 (k0_t12 : Fin k0_t12_loop.trips) : Fin 3 → Nat :=
  let c33_i32 : BitVec 32 := 33#32
  let c5_i32_687 : BitVec 32 := 5#32
  let c1_i32_689 : BitVec 32 := 1#32
  let arg14 : BitVec 32 := Scf.iv c5_i32_687 c1_i32_689 k0_t12
  let v982 : BitVec 32 := Scalar.addi c33_i32 arg14
  let c5_i32_862 : BitVec 32 := 5#32
  let v983 : BitVec 32 := Scalar.subi v982 c5_i32_862
  let c2_i32_863 : BitVec 32 := 2#32
  let v984 : BitVec 32 := Scalar.remsi v983 c2_i32_863
  let c0_i32_880 : BitVec 32 := 0#32
  let c0_i32_881 : BitVec 32 := 0#32
  ![v984.toNat, 0, 0]
def k0_off123 (k0_t12 : Fin k0_t12_loop.trips) : Fin 4 → Nat :=
  let c3_i32_878 : BitVec 32 := 3#32
  let c5_i32_687 : BitVec 32 := 5#32
  let c1_i32_689 : BitVec 32 := 1#32
  let arg14 : BitVec 32 := Scf.iv c5_i32_687 c1_i32_689 k0_t12
  let c0_i32_865 : BitVec 32 := 0#32
  let v986 : BitVec 1 := Scalar.cmpi .sgt arg14 c0_i32_865
  let v987 : BitVec 32 := Scalar.extui v986
  let c0_i32_866 : BitVec 32 := 0#32
  let v988 : BitVec 1 := Scalar.cmpi .slt arg14 c0_i32_866
  let v989 : BitVec 32 := Scalar.extui v988
  let v990 : BitVec 32 := Scalar.subi v987 v989
  let c4_i32_864 : BitVec 32 := 4#32
  let c0_i32_867 : BitVec 32 := 0#32
  let v991 : BitVec 1 := Scalar.cmpi .sgt c4_i32_864 c0_i32_867
  let v992 : BitVec 32 := Scalar.extui v991
  let c0_i32_868 : BitVec 32 := 0#32
  let v993 : BitVec 1 := Scalar.cmpi .slt c4_i32_864 c0_i32_868
  let v994 : BitVec 32 := Scalar.extui v993
  let v995 : BitVec 32 := Scalar.subi v992 v994
  let v996 : BitVec 1 := Scalar.cmpi .ne v990 v995
  let v997 : BitVec 32 := Scalar.remsi arg14 c4_i32_864
  let c0_i32_869 : BitVec 32 := 0#32
  let v998 : BitVec 1 := Scalar.cmpi .ne v997 c0_i32_869
  let v999 : BitVec 1 := Scalar.andi v996 v998
  let v985 : BitVec 32 := Scalar.divsi arg14 c4_i32_864
  let c1_i32_870 : BitVec 32 := 1#32
  let v1000 : BitVec 32 := Scalar.subi v985 c1_i32_870
  let v1001 : BitVec 32 := Scalar.select v999 v1000 v985
  let c4_i32_871 : BitVec 32 := 4#32
  let c0_i32_872 : BitVec 32 := 0#32
  let v1002 : BitVec 1 := Scalar.cmpi .eq c4_i32_871 c0_i32_872
  let c1_i32_873 : BitVec 32 := 1#32
  let v1003 : BitVec 32 := Scalar.select v1002 c1_i32_873 c4_i32_871
  let v1004 : BitVec 32 := Scalar.remsi arg14 v1003
  let c0_i32_875 : BitVec 32 := 0#32
  let v1006 : BitVec 1 := Scalar.cmpi .slt v1004 c0_i32_875
  let c0_i32_876 : BitVec 32 := 0#32
  let v1007 : BitVec 1 := Scalar.cmpi .slt v1003 c0_i32_876
  let v1008 : BitVec 1 := Scalar.xori v1006 v1007
  let c0_i32_874 : BitVec 32 := 0#32
  let v1005 : BitVec 1 := Scalar.cmpi .ne v1004 c0_i32_874
  let v1009 : BitVec 1 := Scalar.andi v1008 v1005
  let v1010 : BitVec 32 := Scalar.addi v1004 v1003
  let v1011 : BitVec 32 := Scalar.select v1009 v1010 v1004
  let c512_i32_877 : BitVec 32 := 512#32
  let v1012 : BitVec 32 := Scalar.muli v1011 c512_i32_877
  let c0_i32_882 : BitVec 32 := 0#32
  ![3, v1001.toNat, v1012.toNat, 0]
def k0_off124 (k0_t12 : Fin k0_t12_loop.trips) : Fin 2 → Nat :=
  let c33_i32 : BitVec 32 := 33#32
  let c5_i32_687 : BitVec 32 := 5#32
  let c1_i32_689 : BitVec 32 := 1#32
  let arg14 : BitVec 32 := Scf.iv c5_i32_687 c1_i32_689 k0_t12
  let v982 : BitVec 32 := Scalar.addi c33_i32 arg14
  let c5_i32_862 : BitVec 32 := 5#32
  let v983 : BitVec 32 := Scalar.subi v982 c5_i32_862
  let c2_i32_863 : BitVec 32 := 2#32
  let v984 : BitVec 32 := Scalar.remsi v983 c2_i32_863
  let c1_i32_884 : BitVec 32 := 1#32
  ![v984.toNat, 1]
def k0_cond28 (k0_t12 : Fin k0_t12_loop.trips) : BitVec 1 :=
  let c5_i32_687 : BitVec 32 := 5#32
  let c1_i32_689 : BitVec 32 := 1#32
  let arg14 : BitVec 32 := Scf.iv c5_i32_687 c1_i32_689 k0_t12
  let c1_i32_888 : BitVec 32 := 1#32
  let v1025 : BitVec 32 := Scalar.addi arg14 c1_i32_888
  let c16_i32 : BitVec 32 := 16#32
  let v1026 : BitVec 1 := Scalar.cmpi .slt v1025 c16_i32
  let v1027 : BitVec 32 := Scalar.extui v1026
  let c0_i32_889 : BitVec 32 := 0#32
  let v1028 : BitVec 1 := Scalar.cmpi .ne v1027 c0_i32_889
  v1028

def k0_off125 (k0_t12 : Fin k0_t12_loop.trips) : Fin 2 → Nat :=
  let c1_i32_899 : BitVec 32 := 1#32
  let c33_i32 : BitVec 32 := 33#32
  let c5_i32_687 : BitVec 32 := 5#32
  let c1_i32_689 : BitVec 32 := 1#32
  let arg14 : BitVec 32 := Scf.iv c5_i32_687 c1_i32_689 k0_t12
  let v982 : BitVec 32 := Scalar.addi c33_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c0_i32_915 : BitVec 32 := 0#32
  ![v1055.toNat, 0]
def k0_off126 (k0_t12 : Fin k0_t12_loop.trips) : Fin 3 → Nat :=
  let c1_i32_899 : BitVec 32 := 1#32
  let c33_i32 : BitVec 32 := 33#32
  let c5_i32_687 : BitVec 32 := 5#32
  let c1_i32_689 : BitVec 32 := 1#32
  let arg14 : BitVec 32 := Scf.iv c5_i32_687 c1_i32_689 k0_t12
  let v982 : BitVec 32 := Scalar.addi c33_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c0_i32_916 : BitVec 32 := 0#32
  let c0_i32_917 : BitVec 32 := 0#32
  ![v1055.toNat, 0, 0]
def k0_off127 (k0_t12 : Fin k0_t12_loop.trips) : Fin 4 → Nat :=
  let c3_i32_914 : BitVec 32 := 3#32
  let c5_i32_687 : BitVec 32 := 5#32
  let c1_i32_689 : BitVec 32 := 1#32
  let arg14 : BitVec 32 := Scf.iv c5_i32_687 c1_i32_689 k0_t12
  let c1_i32_898 : BitVec 32 := 1#32
  let v1054 : BitVec 32 := Scalar.addi arg14 c1_i32_898
  let c0_i32_901 : BitVec 32 := 0#32
  let v1057 : BitVec 1 := Scalar.cmpi .sgt v1054 c0_i32_901
  let v1058 : BitVec 32 := Scalar.extui v1057
  let c0_i32_902 : BitVec 32 := 0#32
  let v1059 : BitVec 1 := Scalar.cmpi .slt v1054 c0_i32_902
  let v1060 : BitVec 32 := Scalar.extui v1059
  let v1061 : BitVec 32 := Scalar.subi v1058 v1060
  let c4_i32_900 : BitVec 32 := 4#32
  let c0_i32_903 : BitVec 32 := 0#32
  let v1062 : BitVec 1 := Scalar.cmpi .sgt c4_i32_900 c0_i32_903
  let v1063 : BitVec 32 := Scalar.extui v1062
  let c0_i32_904 : BitVec 32 := 0#32
  let v1064 : BitVec 1 := Scalar.cmpi .slt c4_i32_900 c0_i32_904
  let v1065 : BitVec 32 := Scalar.extui v1064
  let v1066 : BitVec 32 := Scalar.subi v1063 v1065
  let v1067 : BitVec 1 := Scalar.cmpi .ne v1061 v1066
  let v1068 : BitVec 32 := Scalar.remsi v1054 c4_i32_900
  let c0_i32_905 : BitVec 32 := 0#32
  let v1069 : BitVec 1 := Scalar.cmpi .ne v1068 c0_i32_905
  let v1070 : BitVec 1 := Scalar.andi v1067 v1069
  let v1056 : BitVec 32 := Scalar.divsi v1054 c4_i32_900
  let c1_i32_906 : BitVec 32 := 1#32
  let v1071 : BitVec 32 := Scalar.subi v1056 c1_i32_906
  let v1072 : BitVec 32 := Scalar.select v1070 v1071 v1056
  let c4_i32_907 : BitVec 32 := 4#32
  let c0_i32_908 : BitVec 32 := 0#32
  let v1073 : BitVec 1 := Scalar.cmpi .eq c4_i32_907 c0_i32_908
  let c1_i32_909 : BitVec 32 := 1#32
  let v1074 : BitVec 32 := Scalar.select v1073 c1_i32_909 c4_i32_907
  let v1075 : BitVec 32 := Scalar.remsi v1054 v1074
  let c0_i32_911 : BitVec 32 := 0#32
  let v1077 : BitVec 1 := Scalar.cmpi .slt v1075 c0_i32_911
  let c0_i32_912 : BitVec 32 := 0#32
  let v1078 : BitVec 1 := Scalar.cmpi .slt v1074 c0_i32_912
  let v1079 : BitVec 1 := Scalar.xori v1077 v1078
  let c0_i32_910 : BitVec 32 := 0#32
  let v1076 : BitVec 1 := Scalar.cmpi .ne v1075 c0_i32_910
  let v1080 : BitVec 1 := Scalar.andi v1079 v1076
  let v1081 : BitVec 32 := Scalar.addi v1075 v1074
  let v1082 : BitVec 32 := Scalar.select v1080 v1081 v1075
  let c512_i32_913 : BitVec 32 := 512#32
  let v1083 : BitVec 32 := Scalar.muli v1082 c512_i32_913
  let c0_i32_918 : BitVec 32 := 0#32
  ![3, v1072.toNat, v1083.toNat, 0]
def k0_off128 (k0_t12 : Fin k0_t12_loop.trips) : Fin 2 → Nat :=
  let c1_i32_899 : BitVec 32 := 1#32
  let c33_i32 : BitVec 32 := 33#32
  let c5_i32_687 : BitVec 32 := 5#32
  let c1_i32_689 : BitVec 32 := 1#32
  let arg14 : BitVec 32 := Scf.iv c5_i32_687 c1_i32_689 k0_t12
  let v982 : BitVec 32 := Scalar.addi c33_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c1_i32_920 : BitVec 32 := 1#32
  ![v1055.toNat, 1]
def k0_off129 (k0_t12 : Fin k0_t12_loop.trips) : Fin 3 → Nat :=
  let c33_i32 : BitVec 32 := 33#32
  let c5_i32_687 : BitVec 32 := 5#32
  let c1_i32_689 : BitVec 32 := 1#32
  let arg14 : BitVec 32 := Scf.iv c5_i32_687 c1_i32_689 k0_t12
  let v982 : BitVec 32 := Scalar.addi c33_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1029 : Index := Scalar.indexCast v984
  let c0_890 : Index := 0#32
  let c0_891 : Index := 0#32
  ![v1029.toNat, 0, 0]
@[reducible] def k0_t13_loop : Scf.Loop 32 :=
  let c5_i32_715 : BitVec 32 := 5#32
  let c11_i32_716 : BitVec 32 := 11#32
  let v815 : BitVec 32 := Scalar.addi c5_i32_715 c11_i32_716
  let c1_i32_717 : BitVec 32 := 1#32
  ⟨c5_i32_715, v815, c1_i32_717⟩
def k0_off130 (k0_t13 : Fin k0_t13_loop.trips) : Fin 2 → Nat :=
  let c44_i32 : BitVec 32 := 44#32
  let c5_i32_715 : BitVec 32 := 5#32
  let c1_i32_717 : BitVec 32 := 1#32
  let arg14 : BitVec 32 := Scf.iv c5_i32_715 c1_i32_717 k0_t13
  let v982 : BitVec 32 := Scalar.addi c44_i32 arg14
  let c5_i32_862 : BitVec 32 := 5#32
  let v983 : BitVec 32 := Scalar.subi v982 c5_i32_862
  let c2_i32_863 : BitVec 32 := 2#32
  let v984 : BitVec 32 := Scalar.remsi v983 c2_i32_863
  let c0_i32_879 : BitVec 32 := 0#32
  ![v984.toNat, 0]
def k0_off131 (k0_t13 : Fin k0_t13_loop.trips) : Fin 3 → Nat :=
  let c44_i32 : BitVec 32 := 44#32
  let c5_i32_715 : BitVec 32 := 5#32
  let c1_i32_717 : BitVec 32 := 1#32
  let arg14 : BitVec 32 := Scf.iv c5_i32_715 c1_i32_717 k0_t13
  let v982 : BitVec 32 := Scalar.addi c44_i32 arg14
  let c5_i32_862 : BitVec 32 := 5#32
  let v983 : BitVec 32 := Scalar.subi v982 c5_i32_862
  let c2_i32_863 : BitVec 32 := 2#32
  let v984 : BitVec 32 := Scalar.remsi v983 c2_i32_863
  let c0_i32_880 : BitVec 32 := 0#32
  let c0_i32_881 : BitVec 32 := 0#32
  ![v984.toNat, 0, 0]
def k0_off132 (k0_t13 : Fin k0_t13_loop.trips) : Fin 4 → Nat :=
  let c4_i32_878 : BitVec 32 := 4#32
  let c5_i32_715 : BitVec 32 := 5#32
  let c1_i32_717 : BitVec 32 := 1#32
  let arg14 : BitVec 32 := Scf.iv c5_i32_715 c1_i32_717 k0_t13
  let c0_i32_865 : BitVec 32 := 0#32
  let v986 : BitVec 1 := Scalar.cmpi .sgt arg14 c0_i32_865
  let v987 : BitVec 32 := Scalar.extui v986
  let c0_i32_866 : BitVec 32 := 0#32
  let v988 : BitVec 1 := Scalar.cmpi .slt arg14 c0_i32_866
  let v989 : BitVec 32 := Scalar.extui v988
  let v990 : BitVec 32 := Scalar.subi v987 v989
  let c4_i32_864 : BitVec 32 := 4#32
  let c0_i32_867 : BitVec 32 := 0#32
  let v991 : BitVec 1 := Scalar.cmpi .sgt c4_i32_864 c0_i32_867
  let v992 : BitVec 32 := Scalar.extui v991
  let c0_i32_868 : BitVec 32 := 0#32
  let v993 : BitVec 1 := Scalar.cmpi .slt c4_i32_864 c0_i32_868
  let v994 : BitVec 32 := Scalar.extui v993
  let v995 : BitVec 32 := Scalar.subi v992 v994
  let v996 : BitVec 1 := Scalar.cmpi .ne v990 v995
  let v997 : BitVec 32 := Scalar.remsi arg14 c4_i32_864
  let c0_i32_869 : BitVec 32 := 0#32
  let v998 : BitVec 1 := Scalar.cmpi .ne v997 c0_i32_869
  let v999 : BitVec 1 := Scalar.andi v996 v998
  let v985 : BitVec 32 := Scalar.divsi arg14 c4_i32_864
  let c1_i32_870 : BitVec 32 := 1#32
  let v1000 : BitVec 32 := Scalar.subi v985 c1_i32_870
  let v1001 : BitVec 32 := Scalar.select v999 v1000 v985
  let c4_i32_871 : BitVec 32 := 4#32
  let c0_i32_872 : BitVec 32 := 0#32
  let v1002 : BitVec 1 := Scalar.cmpi .eq c4_i32_871 c0_i32_872
  let c1_i32_873 : BitVec 32 := 1#32
  let v1003 : BitVec 32 := Scalar.select v1002 c1_i32_873 c4_i32_871
  let v1004 : BitVec 32 := Scalar.remsi arg14 v1003
  let c0_i32_875 : BitVec 32 := 0#32
  let v1006 : BitVec 1 := Scalar.cmpi .slt v1004 c0_i32_875
  let c0_i32_876 : BitVec 32 := 0#32
  let v1007 : BitVec 1 := Scalar.cmpi .slt v1003 c0_i32_876
  let v1008 : BitVec 1 := Scalar.xori v1006 v1007
  let c0_i32_874 : BitVec 32 := 0#32
  let v1005 : BitVec 1 := Scalar.cmpi .ne v1004 c0_i32_874
  let v1009 : BitVec 1 := Scalar.andi v1008 v1005
  let v1010 : BitVec 32 := Scalar.addi v1004 v1003
  let v1011 : BitVec 32 := Scalar.select v1009 v1010 v1004
  let c512_i32_877 : BitVec 32 := 512#32
  let v1012 : BitVec 32 := Scalar.muli v1011 c512_i32_877
  let c0_i32_882 : BitVec 32 := 0#32
  ![4, v1001.toNat, v1012.toNat, 0]
def k0_off133 (k0_t13 : Fin k0_t13_loop.trips) : Fin 2 → Nat :=
  let c44_i32 : BitVec 32 := 44#32
  let c5_i32_715 : BitVec 32 := 5#32
  let c1_i32_717 : BitVec 32 := 1#32
  let arg14 : BitVec 32 := Scf.iv c5_i32_715 c1_i32_717 k0_t13
  let v982 : BitVec 32 := Scalar.addi c44_i32 arg14
  let c5_i32_862 : BitVec 32 := 5#32
  let v983 : BitVec 32 := Scalar.subi v982 c5_i32_862
  let c2_i32_863 : BitVec 32 := 2#32
  let v984 : BitVec 32 := Scalar.remsi v983 c2_i32_863
  let c1_i32_884 : BitVec 32 := 1#32
  ![v984.toNat, 1]
def k0_cond29 (k0_t13 : Fin k0_t13_loop.trips) : BitVec 1 :=
  let c5_i32_715 : BitVec 32 := 5#32
  let c1_i32_717 : BitVec 32 := 1#32
  let arg14 : BitVec 32 := Scf.iv c5_i32_715 c1_i32_717 k0_t13
  let c1_i32_888 : BitVec 32 := 1#32
  let v1025 : BitVec 32 := Scalar.addi arg14 c1_i32_888
  let c16_i32 : BitVec 32 := 16#32
  let v1026 : BitVec 1 := Scalar.cmpi .slt v1025 c16_i32
  let v1027 : BitVec 32 := Scalar.extui v1026
  let c0_i32_889 : BitVec 32 := 0#32
  let v1028 : BitVec 1 := Scalar.cmpi .ne v1027 c0_i32_889
  v1028

def k0_off134 (k0_t13 : Fin k0_t13_loop.trips) : Fin 2 → Nat :=
  let c1_i32_899 : BitVec 32 := 1#32
  let c44_i32 : BitVec 32 := 44#32
  let c5_i32_715 : BitVec 32 := 5#32
  let c1_i32_717 : BitVec 32 := 1#32
  let arg14 : BitVec 32 := Scf.iv c5_i32_715 c1_i32_717 k0_t13
  let v982 : BitVec 32 := Scalar.addi c44_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c0_i32_915 : BitVec 32 := 0#32
  ![v1055.toNat, 0]
def k0_off135 (k0_t13 : Fin k0_t13_loop.trips) : Fin 3 → Nat :=
  let c1_i32_899 : BitVec 32 := 1#32
  let c44_i32 : BitVec 32 := 44#32
  let c5_i32_715 : BitVec 32 := 5#32
  let c1_i32_717 : BitVec 32 := 1#32
  let arg14 : BitVec 32 := Scf.iv c5_i32_715 c1_i32_717 k0_t13
  let v982 : BitVec 32 := Scalar.addi c44_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c0_i32_916 : BitVec 32 := 0#32
  let c0_i32_917 : BitVec 32 := 0#32
  ![v1055.toNat, 0, 0]
def k0_off136 (k0_t13 : Fin k0_t13_loop.trips) : Fin 4 → Nat :=
  let c4_i32_914 : BitVec 32 := 4#32
  let c5_i32_715 : BitVec 32 := 5#32
  let c1_i32_717 : BitVec 32 := 1#32
  let arg14 : BitVec 32 := Scf.iv c5_i32_715 c1_i32_717 k0_t13
  let c1_i32_898 : BitVec 32 := 1#32
  let v1054 : BitVec 32 := Scalar.addi arg14 c1_i32_898
  let c0_i32_901 : BitVec 32 := 0#32
  let v1057 : BitVec 1 := Scalar.cmpi .sgt v1054 c0_i32_901
  let v1058 : BitVec 32 := Scalar.extui v1057
  let c0_i32_902 : BitVec 32 := 0#32
  let v1059 : BitVec 1 := Scalar.cmpi .slt v1054 c0_i32_902
  let v1060 : BitVec 32 := Scalar.extui v1059
  let v1061 : BitVec 32 := Scalar.subi v1058 v1060
  let c4_i32_900 : BitVec 32 := 4#32
  let c0_i32_903 : BitVec 32 := 0#32
  let v1062 : BitVec 1 := Scalar.cmpi .sgt c4_i32_900 c0_i32_903
  let v1063 : BitVec 32 := Scalar.extui v1062
  let c0_i32_904 : BitVec 32 := 0#32
  let v1064 : BitVec 1 := Scalar.cmpi .slt c4_i32_900 c0_i32_904
  let v1065 : BitVec 32 := Scalar.extui v1064
  let v1066 : BitVec 32 := Scalar.subi v1063 v1065
  let v1067 : BitVec 1 := Scalar.cmpi .ne v1061 v1066
  let v1068 : BitVec 32 := Scalar.remsi v1054 c4_i32_900
  let c0_i32_905 : BitVec 32 := 0#32
  let v1069 : BitVec 1 := Scalar.cmpi .ne v1068 c0_i32_905
  let v1070 : BitVec 1 := Scalar.andi v1067 v1069
  let v1056 : BitVec 32 := Scalar.divsi v1054 c4_i32_900
  let c1_i32_906 : BitVec 32 := 1#32
  let v1071 : BitVec 32 := Scalar.subi v1056 c1_i32_906
  let v1072 : BitVec 32 := Scalar.select v1070 v1071 v1056
  let c4_i32_907 : BitVec 32 := 4#32
  let c0_i32_908 : BitVec 32 := 0#32
  let v1073 : BitVec 1 := Scalar.cmpi .eq c4_i32_907 c0_i32_908
  let c1_i32_909 : BitVec 32 := 1#32
  let v1074 : BitVec 32 := Scalar.select v1073 c1_i32_909 c4_i32_907
  let v1075 : BitVec 32 := Scalar.remsi v1054 v1074
  let c0_i32_911 : BitVec 32 := 0#32
  let v1077 : BitVec 1 := Scalar.cmpi .slt v1075 c0_i32_911
  let c0_i32_912 : BitVec 32 := 0#32
  let v1078 : BitVec 1 := Scalar.cmpi .slt v1074 c0_i32_912
  let v1079 : BitVec 1 := Scalar.xori v1077 v1078
  let c0_i32_910 : BitVec 32 := 0#32
  let v1076 : BitVec 1 := Scalar.cmpi .ne v1075 c0_i32_910
  let v1080 : BitVec 1 := Scalar.andi v1079 v1076
  let v1081 : BitVec 32 := Scalar.addi v1075 v1074
  let v1082 : BitVec 32 := Scalar.select v1080 v1081 v1075
  let c512_i32_913 : BitVec 32 := 512#32
  let v1083 : BitVec 32 := Scalar.muli v1082 c512_i32_913
  let c0_i32_918 : BitVec 32 := 0#32
  ![4, v1072.toNat, v1083.toNat, 0]
def k0_off137 (k0_t13 : Fin k0_t13_loop.trips) : Fin 2 → Nat :=
  let c1_i32_899 : BitVec 32 := 1#32
  let c44_i32 : BitVec 32 := 44#32
  let c5_i32_715 : BitVec 32 := 5#32
  let c1_i32_717 : BitVec 32 := 1#32
  let arg14 : BitVec 32 := Scf.iv c5_i32_715 c1_i32_717 k0_t13
  let v982 : BitVec 32 := Scalar.addi c44_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c1_i32_920 : BitVec 32 := 1#32
  ![v1055.toNat, 1]
def k0_off138 (k0_t13 : Fin k0_t13_loop.trips) : Fin 3 → Nat :=
  let c44_i32 : BitVec 32 := 44#32
  let c5_i32_715 : BitVec 32 := 5#32
  let c1_i32_717 : BitVec 32 := 1#32
  let arg14 : BitVec 32 := Scf.iv c5_i32_715 c1_i32_717 k0_t13
  let v982 : BitVec 32 := Scalar.addi c44_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1029 : Index := Scalar.indexCast v984
  let c0_890 : Index := 0#32
  let c0_891 : Index := 0#32
  ![v1029.toNat, 0, 0]
@[reducible] def k0_t14_loop : Scf.Loop 32 :=
  let c5_i32_743 : BitVec 32 := 5#32
  let c11_i32_744 : BitVec 32 := 11#32
  let v853 : BitVec 32 := Scalar.addi c5_i32_743 c11_i32_744
  let c1_i32_745 : BitVec 32 := 1#32
  ⟨c5_i32_743, v853, c1_i32_745⟩
def k0_off139 (k0_t14 : Fin k0_t14_loop.trips) : Fin 2 → Nat :=
  let c55_i32 : BitVec 32 := 55#32
  let c5_i32_743 : BitVec 32 := 5#32
  let c1_i32_745 : BitVec 32 := 1#32
  let arg14 : BitVec 32 := Scf.iv c5_i32_743 c1_i32_745 k0_t14
  let v982 : BitVec 32 := Scalar.addi c55_i32 arg14
  let c5_i32_862 : BitVec 32 := 5#32
  let v983 : BitVec 32 := Scalar.subi v982 c5_i32_862
  let c2_i32_863 : BitVec 32 := 2#32
  let v984 : BitVec 32 := Scalar.remsi v983 c2_i32_863
  let c0_i32_879 : BitVec 32 := 0#32
  ![v984.toNat, 0]
def k0_off140 (k0_t14 : Fin k0_t14_loop.trips) : Fin 3 → Nat :=
  let c55_i32 : BitVec 32 := 55#32
  let c5_i32_743 : BitVec 32 := 5#32
  let c1_i32_745 : BitVec 32 := 1#32
  let arg14 : BitVec 32 := Scf.iv c5_i32_743 c1_i32_745 k0_t14
  let v982 : BitVec 32 := Scalar.addi c55_i32 arg14
  let c5_i32_862 : BitVec 32 := 5#32
  let v983 : BitVec 32 := Scalar.subi v982 c5_i32_862
  let c2_i32_863 : BitVec 32 := 2#32
  let v984 : BitVec 32 := Scalar.remsi v983 c2_i32_863
  let c0_i32_880 : BitVec 32 := 0#32
  let c0_i32_881 : BitVec 32 := 0#32
  ![v984.toNat, 0, 0]
def k0_off141 (k0_t14 : Fin k0_t14_loop.trips) : Fin 4 → Nat :=
  let c5_i32_878 : BitVec 32 := 5#32
  let c5_i32_743 : BitVec 32 := 5#32
  let c1_i32_745 : BitVec 32 := 1#32
  let arg14 : BitVec 32 := Scf.iv c5_i32_743 c1_i32_745 k0_t14
  let c0_i32_865 : BitVec 32 := 0#32
  let v986 : BitVec 1 := Scalar.cmpi .sgt arg14 c0_i32_865
  let v987 : BitVec 32 := Scalar.extui v986
  let c0_i32_866 : BitVec 32 := 0#32
  let v988 : BitVec 1 := Scalar.cmpi .slt arg14 c0_i32_866
  let v989 : BitVec 32 := Scalar.extui v988
  let v990 : BitVec 32 := Scalar.subi v987 v989
  let c4_i32_864 : BitVec 32 := 4#32
  let c0_i32_867 : BitVec 32 := 0#32
  let v991 : BitVec 1 := Scalar.cmpi .sgt c4_i32_864 c0_i32_867
  let v992 : BitVec 32 := Scalar.extui v991
  let c0_i32_868 : BitVec 32 := 0#32
  let v993 : BitVec 1 := Scalar.cmpi .slt c4_i32_864 c0_i32_868
  let v994 : BitVec 32 := Scalar.extui v993
  let v995 : BitVec 32 := Scalar.subi v992 v994
  let v996 : BitVec 1 := Scalar.cmpi .ne v990 v995
  let v997 : BitVec 32 := Scalar.remsi arg14 c4_i32_864
  let c0_i32_869 : BitVec 32 := 0#32
  let v998 : BitVec 1 := Scalar.cmpi .ne v997 c0_i32_869
  let v999 : BitVec 1 := Scalar.andi v996 v998
  let v985 : BitVec 32 := Scalar.divsi arg14 c4_i32_864
  let c1_i32_870 : BitVec 32 := 1#32
  let v1000 : BitVec 32 := Scalar.subi v985 c1_i32_870
  let v1001 : BitVec 32 := Scalar.select v999 v1000 v985
  let c4_i32_871 : BitVec 32 := 4#32
  let c0_i32_872 : BitVec 32 := 0#32
  let v1002 : BitVec 1 := Scalar.cmpi .eq c4_i32_871 c0_i32_872
  let c1_i32_873 : BitVec 32 := 1#32
  let v1003 : BitVec 32 := Scalar.select v1002 c1_i32_873 c4_i32_871
  let v1004 : BitVec 32 := Scalar.remsi arg14 v1003
  let c0_i32_875 : BitVec 32 := 0#32
  let v1006 : BitVec 1 := Scalar.cmpi .slt v1004 c0_i32_875
  let c0_i32_876 : BitVec 32 := 0#32
  let v1007 : BitVec 1 := Scalar.cmpi .slt v1003 c0_i32_876
  let v1008 : BitVec 1 := Scalar.xori v1006 v1007
  let c0_i32_874 : BitVec 32 := 0#32
  let v1005 : BitVec 1 := Scalar.cmpi .ne v1004 c0_i32_874
  let v1009 : BitVec 1 := Scalar.andi v1008 v1005
  let v1010 : BitVec 32 := Scalar.addi v1004 v1003
  let v1011 : BitVec 32 := Scalar.select v1009 v1010 v1004
  let c512_i32_877 : BitVec 32 := 512#32
  let v1012 : BitVec 32 := Scalar.muli v1011 c512_i32_877
  let c0_i32_882 : BitVec 32 := 0#32
  ![5, v1001.toNat, v1012.toNat, 0]
def k0_off142 (k0_t14 : Fin k0_t14_loop.trips) : Fin 2 → Nat :=
  let c55_i32 : BitVec 32 := 55#32
  let c5_i32_743 : BitVec 32 := 5#32
  let c1_i32_745 : BitVec 32 := 1#32
  let arg14 : BitVec 32 := Scf.iv c5_i32_743 c1_i32_745 k0_t14
  let v982 : BitVec 32 := Scalar.addi c55_i32 arg14
  let c5_i32_862 : BitVec 32 := 5#32
  let v983 : BitVec 32 := Scalar.subi v982 c5_i32_862
  let c2_i32_863 : BitVec 32 := 2#32
  let v984 : BitVec 32 := Scalar.remsi v983 c2_i32_863
  let c1_i32_884 : BitVec 32 := 1#32
  ![v984.toNat, 1]
def k0_cond30 (k0_t14 : Fin k0_t14_loop.trips) : BitVec 1 :=
  let c5_i32_743 : BitVec 32 := 5#32
  let c1_i32_745 : BitVec 32 := 1#32
  let arg14 : BitVec 32 := Scf.iv c5_i32_743 c1_i32_745 k0_t14
  let c1_i32_888 : BitVec 32 := 1#32
  let v1025 : BitVec 32 := Scalar.addi arg14 c1_i32_888
  let c16_i32 : BitVec 32 := 16#32
  let v1026 : BitVec 1 := Scalar.cmpi .slt v1025 c16_i32
  let v1027 : BitVec 32 := Scalar.extui v1026
  let c0_i32_889 : BitVec 32 := 0#32
  let v1028 : BitVec 1 := Scalar.cmpi .ne v1027 c0_i32_889
  v1028

def k0_off143 (k0_t14 : Fin k0_t14_loop.trips) : Fin 2 → Nat :=
  let c1_i32_899 : BitVec 32 := 1#32
  let c55_i32 : BitVec 32 := 55#32
  let c5_i32_743 : BitVec 32 := 5#32
  let c1_i32_745 : BitVec 32 := 1#32
  let arg14 : BitVec 32 := Scf.iv c5_i32_743 c1_i32_745 k0_t14
  let v982 : BitVec 32 := Scalar.addi c55_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c0_i32_915 : BitVec 32 := 0#32
  ![v1055.toNat, 0]
def k0_off144 (k0_t14 : Fin k0_t14_loop.trips) : Fin 3 → Nat :=
  let c1_i32_899 : BitVec 32 := 1#32
  let c55_i32 : BitVec 32 := 55#32
  let c5_i32_743 : BitVec 32 := 5#32
  let c1_i32_745 : BitVec 32 := 1#32
  let arg14 : BitVec 32 := Scf.iv c5_i32_743 c1_i32_745 k0_t14
  let v982 : BitVec 32 := Scalar.addi c55_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c0_i32_916 : BitVec 32 := 0#32
  let c0_i32_917 : BitVec 32 := 0#32
  ![v1055.toNat, 0, 0]
def k0_off145 (k0_t14 : Fin k0_t14_loop.trips) : Fin 4 → Nat :=
  let c5_i32_914 : BitVec 32 := 5#32
  let c5_i32_743 : BitVec 32 := 5#32
  let c1_i32_745 : BitVec 32 := 1#32
  let arg14 : BitVec 32 := Scf.iv c5_i32_743 c1_i32_745 k0_t14
  let c1_i32_898 : BitVec 32 := 1#32
  let v1054 : BitVec 32 := Scalar.addi arg14 c1_i32_898
  let c0_i32_901 : BitVec 32 := 0#32
  let v1057 : BitVec 1 := Scalar.cmpi .sgt v1054 c0_i32_901
  let v1058 : BitVec 32 := Scalar.extui v1057
  let c0_i32_902 : BitVec 32 := 0#32
  let v1059 : BitVec 1 := Scalar.cmpi .slt v1054 c0_i32_902
  let v1060 : BitVec 32 := Scalar.extui v1059
  let v1061 : BitVec 32 := Scalar.subi v1058 v1060
  let c4_i32_900 : BitVec 32 := 4#32
  let c0_i32_903 : BitVec 32 := 0#32
  let v1062 : BitVec 1 := Scalar.cmpi .sgt c4_i32_900 c0_i32_903
  let v1063 : BitVec 32 := Scalar.extui v1062
  let c0_i32_904 : BitVec 32 := 0#32
  let v1064 : BitVec 1 := Scalar.cmpi .slt c4_i32_900 c0_i32_904
  let v1065 : BitVec 32 := Scalar.extui v1064
  let v1066 : BitVec 32 := Scalar.subi v1063 v1065
  let v1067 : BitVec 1 := Scalar.cmpi .ne v1061 v1066
  let v1068 : BitVec 32 := Scalar.remsi v1054 c4_i32_900
  let c0_i32_905 : BitVec 32 := 0#32
  let v1069 : BitVec 1 := Scalar.cmpi .ne v1068 c0_i32_905
  let v1070 : BitVec 1 := Scalar.andi v1067 v1069
  let v1056 : BitVec 32 := Scalar.divsi v1054 c4_i32_900
  let c1_i32_906 : BitVec 32 := 1#32
  let v1071 : BitVec 32 := Scalar.subi v1056 c1_i32_906
  let v1072 : BitVec 32 := Scalar.select v1070 v1071 v1056
  let c4_i32_907 : BitVec 32 := 4#32
  let c0_i32_908 : BitVec 32 := 0#32
  let v1073 : BitVec 1 := Scalar.cmpi .eq c4_i32_907 c0_i32_908
  let c1_i32_909 : BitVec 32 := 1#32
  let v1074 : BitVec 32 := Scalar.select v1073 c1_i32_909 c4_i32_907
  let v1075 : BitVec 32 := Scalar.remsi v1054 v1074
  let c0_i32_911 : BitVec 32 := 0#32
  let v1077 : BitVec 1 := Scalar.cmpi .slt v1075 c0_i32_911
  let c0_i32_912 : BitVec 32 := 0#32
  let v1078 : BitVec 1 := Scalar.cmpi .slt v1074 c0_i32_912
  let v1079 : BitVec 1 := Scalar.xori v1077 v1078
  let c0_i32_910 : BitVec 32 := 0#32
  let v1076 : BitVec 1 := Scalar.cmpi .ne v1075 c0_i32_910
  let v1080 : BitVec 1 := Scalar.andi v1079 v1076
  let v1081 : BitVec 32 := Scalar.addi v1075 v1074
  let v1082 : BitVec 32 := Scalar.select v1080 v1081 v1075
  let c512_i32_913 : BitVec 32 := 512#32
  let v1083 : BitVec 32 := Scalar.muli v1082 c512_i32_913
  let c0_i32_918 : BitVec 32 := 0#32
  ![5, v1072.toNat, v1083.toNat, 0]
def k0_off146 (k0_t14 : Fin k0_t14_loop.trips) : Fin 2 → Nat :=
  let c1_i32_899 : BitVec 32 := 1#32
  let c55_i32 : BitVec 32 := 55#32
  let c5_i32_743 : BitVec 32 := 5#32
  let c1_i32_745 : BitVec 32 := 1#32
  let arg14 : BitVec 32 := Scf.iv c5_i32_743 c1_i32_745 k0_t14
  let v982 : BitVec 32 := Scalar.addi c55_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c1_i32_920 : BitVec 32 := 1#32
  ![v1055.toNat, 1]
def k0_off147 (k0_t14 : Fin k0_t14_loop.trips) : Fin 3 → Nat :=
  let c55_i32 : BitVec 32 := 55#32
  let c5_i32_743 : BitVec 32 := 5#32
  let c1_i32_745 : BitVec 32 := 1#32
  let arg14 : BitVec 32 := Scf.iv c5_i32_743 c1_i32_745 k0_t14
  let v982 : BitVec 32 := Scalar.addi c55_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1029 : Index := Scalar.indexCast v984
  let c0_890 : Index := 0#32
  let c0_891 : Index := 0#32
  ![v1029.toNat, 0, 0]
@[reducible] def k0_t15_loop : Scf.Loop 32 :=
  let c5_i32_771 : BitVec 32 := 5#32
  let c11_i32_772 : BitVec 32 := 11#32
  let v891 : BitVec 32 := Scalar.addi c5_i32_771 c11_i32_772
  let c1_i32_773 : BitVec 32 := 1#32
  ⟨c5_i32_771, v891, c1_i32_773⟩
def k0_off148 (k0_t15 : Fin k0_t15_loop.trips) : Fin 2 → Nat :=
  let c66_i32 : BitVec 32 := 66#32
  let c5_i32_771 : BitVec 32 := 5#32
  let c1_i32_773 : BitVec 32 := 1#32
  let arg14 : BitVec 32 := Scf.iv c5_i32_771 c1_i32_773 k0_t15
  let v982 : BitVec 32 := Scalar.addi c66_i32 arg14
  let c5_i32_862 : BitVec 32 := 5#32
  let v983 : BitVec 32 := Scalar.subi v982 c5_i32_862
  let c2_i32_863 : BitVec 32 := 2#32
  let v984 : BitVec 32 := Scalar.remsi v983 c2_i32_863
  let c0_i32_879 : BitVec 32 := 0#32
  ![v984.toNat, 0]
def k0_off149 (k0_t15 : Fin k0_t15_loop.trips) : Fin 3 → Nat :=
  let c66_i32 : BitVec 32 := 66#32
  let c5_i32_771 : BitVec 32 := 5#32
  let c1_i32_773 : BitVec 32 := 1#32
  let arg14 : BitVec 32 := Scf.iv c5_i32_771 c1_i32_773 k0_t15
  let v982 : BitVec 32 := Scalar.addi c66_i32 arg14
  let c5_i32_862 : BitVec 32 := 5#32
  let v983 : BitVec 32 := Scalar.subi v982 c5_i32_862
  let c2_i32_863 : BitVec 32 := 2#32
  let v984 : BitVec 32 := Scalar.remsi v983 c2_i32_863
  let c0_i32_880 : BitVec 32 := 0#32
  let c0_i32_881 : BitVec 32 := 0#32
  ![v984.toNat, 0, 0]
def k0_off150 (k0_t15 : Fin k0_t15_loop.trips) : Fin 4 → Nat :=
  let c6_i32_878 : BitVec 32 := 6#32
  let c5_i32_771 : BitVec 32 := 5#32
  let c1_i32_773 : BitVec 32 := 1#32
  let arg14 : BitVec 32 := Scf.iv c5_i32_771 c1_i32_773 k0_t15
  let c0_i32_865 : BitVec 32 := 0#32
  let v986 : BitVec 1 := Scalar.cmpi .sgt arg14 c0_i32_865
  let v987 : BitVec 32 := Scalar.extui v986
  let c0_i32_866 : BitVec 32 := 0#32
  let v988 : BitVec 1 := Scalar.cmpi .slt arg14 c0_i32_866
  let v989 : BitVec 32 := Scalar.extui v988
  let v990 : BitVec 32 := Scalar.subi v987 v989
  let c4_i32_864 : BitVec 32 := 4#32
  let c0_i32_867 : BitVec 32 := 0#32
  let v991 : BitVec 1 := Scalar.cmpi .sgt c4_i32_864 c0_i32_867
  let v992 : BitVec 32 := Scalar.extui v991
  let c0_i32_868 : BitVec 32 := 0#32
  let v993 : BitVec 1 := Scalar.cmpi .slt c4_i32_864 c0_i32_868
  let v994 : BitVec 32 := Scalar.extui v993
  let v995 : BitVec 32 := Scalar.subi v992 v994
  let v996 : BitVec 1 := Scalar.cmpi .ne v990 v995
  let v997 : BitVec 32 := Scalar.remsi arg14 c4_i32_864
  let c0_i32_869 : BitVec 32 := 0#32
  let v998 : BitVec 1 := Scalar.cmpi .ne v997 c0_i32_869
  let v999 : BitVec 1 := Scalar.andi v996 v998
  let v985 : BitVec 32 := Scalar.divsi arg14 c4_i32_864
  let c1_i32_870 : BitVec 32 := 1#32
  let v1000 : BitVec 32 := Scalar.subi v985 c1_i32_870
  let v1001 : BitVec 32 := Scalar.select v999 v1000 v985
  let c4_i32_871 : BitVec 32 := 4#32
  let c0_i32_872 : BitVec 32 := 0#32
  let v1002 : BitVec 1 := Scalar.cmpi .eq c4_i32_871 c0_i32_872
  let c1_i32_873 : BitVec 32 := 1#32
  let v1003 : BitVec 32 := Scalar.select v1002 c1_i32_873 c4_i32_871
  let v1004 : BitVec 32 := Scalar.remsi arg14 v1003
  let c0_i32_875 : BitVec 32 := 0#32
  let v1006 : BitVec 1 := Scalar.cmpi .slt v1004 c0_i32_875
  let c0_i32_876 : BitVec 32 := 0#32
  let v1007 : BitVec 1 := Scalar.cmpi .slt v1003 c0_i32_876
  let v1008 : BitVec 1 := Scalar.xori v1006 v1007
  let c0_i32_874 : BitVec 32 := 0#32
  let v1005 : BitVec 1 := Scalar.cmpi .ne v1004 c0_i32_874
  let v1009 : BitVec 1 := Scalar.andi v1008 v1005
  let v1010 : BitVec 32 := Scalar.addi v1004 v1003
  let v1011 : BitVec 32 := Scalar.select v1009 v1010 v1004
  let c512_i32_877 : BitVec 32 := 512#32
  let v1012 : BitVec 32 := Scalar.muli v1011 c512_i32_877
  let c0_i32_882 : BitVec 32 := 0#32
  ![6, v1001.toNat, v1012.toNat, 0]
def k0_off151 (k0_t15 : Fin k0_t15_loop.trips) : Fin 2 → Nat :=
  let c66_i32 : BitVec 32 := 66#32
  let c5_i32_771 : BitVec 32 := 5#32
  let c1_i32_773 : BitVec 32 := 1#32
  let arg14 : BitVec 32 := Scf.iv c5_i32_771 c1_i32_773 k0_t15
  let v982 : BitVec 32 := Scalar.addi c66_i32 arg14
  let c5_i32_862 : BitVec 32 := 5#32
  let v983 : BitVec 32 := Scalar.subi v982 c5_i32_862
  let c2_i32_863 : BitVec 32 := 2#32
  let v984 : BitVec 32 := Scalar.remsi v983 c2_i32_863
  let c1_i32_884 : BitVec 32 := 1#32
  ![v984.toNat, 1]
def k0_cond31 (k0_t15 : Fin k0_t15_loop.trips) : BitVec 1 :=
  let c5_i32_771 : BitVec 32 := 5#32
  let c1_i32_773 : BitVec 32 := 1#32
  let arg14 : BitVec 32 := Scf.iv c5_i32_771 c1_i32_773 k0_t15
  let c1_i32_888 : BitVec 32 := 1#32
  let v1025 : BitVec 32 := Scalar.addi arg14 c1_i32_888
  let c16_i32 : BitVec 32 := 16#32
  let v1026 : BitVec 1 := Scalar.cmpi .slt v1025 c16_i32
  let v1027 : BitVec 32 := Scalar.extui v1026
  let c0_i32_889 : BitVec 32 := 0#32
  let v1028 : BitVec 1 := Scalar.cmpi .ne v1027 c0_i32_889
  v1028

def k0_off152 (k0_t15 : Fin k0_t15_loop.trips) : Fin 2 → Nat :=
  let c1_i32_899 : BitVec 32 := 1#32
  let c66_i32 : BitVec 32 := 66#32
  let c5_i32_771 : BitVec 32 := 5#32
  let c1_i32_773 : BitVec 32 := 1#32
  let arg14 : BitVec 32 := Scf.iv c5_i32_771 c1_i32_773 k0_t15
  let v982 : BitVec 32 := Scalar.addi c66_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c0_i32_915 : BitVec 32 := 0#32
  ![v1055.toNat, 0]
def k0_off153 (k0_t15 : Fin k0_t15_loop.trips) : Fin 3 → Nat :=
  let c1_i32_899 : BitVec 32 := 1#32
  let c66_i32 : BitVec 32 := 66#32
  let c5_i32_771 : BitVec 32 := 5#32
  let c1_i32_773 : BitVec 32 := 1#32
  let arg14 : BitVec 32 := Scf.iv c5_i32_771 c1_i32_773 k0_t15
  let v982 : BitVec 32 := Scalar.addi c66_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c0_i32_916 : BitVec 32 := 0#32
  let c0_i32_917 : BitVec 32 := 0#32
  ![v1055.toNat, 0, 0]
def k0_off154 (k0_t15 : Fin k0_t15_loop.trips) : Fin 4 → Nat :=
  let c6_i32_914 : BitVec 32 := 6#32
  let c5_i32_771 : BitVec 32 := 5#32
  let c1_i32_773 : BitVec 32 := 1#32
  let arg14 : BitVec 32 := Scf.iv c5_i32_771 c1_i32_773 k0_t15
  let c1_i32_898 : BitVec 32 := 1#32
  let v1054 : BitVec 32 := Scalar.addi arg14 c1_i32_898
  let c0_i32_901 : BitVec 32 := 0#32
  let v1057 : BitVec 1 := Scalar.cmpi .sgt v1054 c0_i32_901
  let v1058 : BitVec 32 := Scalar.extui v1057
  let c0_i32_902 : BitVec 32 := 0#32
  let v1059 : BitVec 1 := Scalar.cmpi .slt v1054 c0_i32_902
  let v1060 : BitVec 32 := Scalar.extui v1059
  let v1061 : BitVec 32 := Scalar.subi v1058 v1060
  let c4_i32_900 : BitVec 32 := 4#32
  let c0_i32_903 : BitVec 32 := 0#32
  let v1062 : BitVec 1 := Scalar.cmpi .sgt c4_i32_900 c0_i32_903
  let v1063 : BitVec 32 := Scalar.extui v1062
  let c0_i32_904 : BitVec 32 := 0#32
  let v1064 : BitVec 1 := Scalar.cmpi .slt c4_i32_900 c0_i32_904
  let v1065 : BitVec 32 := Scalar.extui v1064
  let v1066 : BitVec 32 := Scalar.subi v1063 v1065
  let v1067 : BitVec 1 := Scalar.cmpi .ne v1061 v1066
  let v1068 : BitVec 32 := Scalar.remsi v1054 c4_i32_900
  let c0_i32_905 : BitVec 32 := 0#32
  let v1069 : BitVec 1 := Scalar.cmpi .ne v1068 c0_i32_905
  let v1070 : BitVec 1 := Scalar.andi v1067 v1069
  let v1056 : BitVec 32 := Scalar.divsi v1054 c4_i32_900
  let c1_i32_906 : BitVec 32 := 1#32
  let v1071 : BitVec 32 := Scalar.subi v1056 c1_i32_906
  let v1072 : BitVec 32 := Scalar.select v1070 v1071 v1056
  let c4_i32_907 : BitVec 32 := 4#32
  let c0_i32_908 : BitVec 32 := 0#32
  let v1073 : BitVec 1 := Scalar.cmpi .eq c4_i32_907 c0_i32_908
  let c1_i32_909 : BitVec 32 := 1#32
  let v1074 : BitVec 32 := Scalar.select v1073 c1_i32_909 c4_i32_907
  let v1075 : BitVec 32 := Scalar.remsi v1054 v1074
  let c0_i32_911 : BitVec 32 := 0#32
  let v1077 : BitVec 1 := Scalar.cmpi .slt v1075 c0_i32_911
  let c0_i32_912 : BitVec 32 := 0#32
  let v1078 : BitVec 1 := Scalar.cmpi .slt v1074 c0_i32_912
  let v1079 : BitVec 1 := Scalar.xori v1077 v1078
  let c0_i32_910 : BitVec 32 := 0#32
  let v1076 : BitVec 1 := Scalar.cmpi .ne v1075 c0_i32_910
  let v1080 : BitVec 1 := Scalar.andi v1079 v1076
  let v1081 : BitVec 32 := Scalar.addi v1075 v1074
  let v1082 : BitVec 32 := Scalar.select v1080 v1081 v1075
  let c512_i32_913 : BitVec 32 := 512#32
  let v1083 : BitVec 32 := Scalar.muli v1082 c512_i32_913
  let c0_i32_918 : BitVec 32 := 0#32
  ![6, v1072.toNat, v1083.toNat, 0]
def k0_off155 (k0_t15 : Fin k0_t15_loop.trips) : Fin 2 → Nat :=
  let c1_i32_899 : BitVec 32 := 1#32
  let c66_i32 : BitVec 32 := 66#32
  let c5_i32_771 : BitVec 32 := 5#32
  let c1_i32_773 : BitVec 32 := 1#32
  let arg14 : BitVec 32 := Scf.iv c5_i32_771 c1_i32_773 k0_t15
  let v982 : BitVec 32 := Scalar.addi c66_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c1_i32_920 : BitVec 32 := 1#32
  ![v1055.toNat, 1]
def k0_off156 (k0_t15 : Fin k0_t15_loop.trips) : Fin 3 → Nat :=
  let c66_i32 : BitVec 32 := 66#32
  let c5_i32_771 : BitVec 32 := 5#32
  let c1_i32_773 : BitVec 32 := 1#32
  let arg14 : BitVec 32 := Scf.iv c5_i32_771 c1_i32_773 k0_t15
  let v982 : BitVec 32 := Scalar.addi c66_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1029 : Index := Scalar.indexCast v984
  let c0_890 : Index := 0#32
  let c0_891 : Index := 0#32
  ![v1029.toNat, 0, 0]
@[reducible] def k0_t16_loop : Scf.Loop 32 :=
  let c5_i32_799 : BitVec 32 := 5#32
  let c11_i32_800 : BitVec 32 := 11#32
  let v929 : BitVec 32 := Scalar.addi c5_i32_799 c11_i32_800
  let c1_i32_801 : BitVec 32 := 1#32
  ⟨c5_i32_799, v929, c1_i32_801⟩
def k0_off157 (k0_t16 : Fin k0_t16_loop.trips) : Fin 2 → Nat :=
  let c77_i32 : BitVec 32 := 77#32
  let c5_i32_799 : BitVec 32 := 5#32
  let c1_i32_801 : BitVec 32 := 1#32
  let arg14 : BitVec 32 := Scf.iv c5_i32_799 c1_i32_801 k0_t16
  let v982 : BitVec 32 := Scalar.addi c77_i32 arg14
  let c5_i32_862 : BitVec 32 := 5#32
  let v983 : BitVec 32 := Scalar.subi v982 c5_i32_862
  let c2_i32_863 : BitVec 32 := 2#32
  let v984 : BitVec 32 := Scalar.remsi v983 c2_i32_863
  let c0_i32_879 : BitVec 32 := 0#32
  ![v984.toNat, 0]
def k0_off158 (k0_t16 : Fin k0_t16_loop.trips) : Fin 3 → Nat :=
  let c77_i32 : BitVec 32 := 77#32
  let c5_i32_799 : BitVec 32 := 5#32
  let c1_i32_801 : BitVec 32 := 1#32
  let arg14 : BitVec 32 := Scf.iv c5_i32_799 c1_i32_801 k0_t16
  let v982 : BitVec 32 := Scalar.addi c77_i32 arg14
  let c5_i32_862 : BitVec 32 := 5#32
  let v983 : BitVec 32 := Scalar.subi v982 c5_i32_862
  let c2_i32_863 : BitVec 32 := 2#32
  let v984 : BitVec 32 := Scalar.remsi v983 c2_i32_863
  let c0_i32_880 : BitVec 32 := 0#32
  let c0_i32_881 : BitVec 32 := 0#32
  ![v984.toNat, 0, 0]
def k0_off159 (k0_t16 : Fin k0_t16_loop.trips) : Fin 4 → Nat :=
  let c7_i32_878 : BitVec 32 := 7#32
  let c5_i32_799 : BitVec 32 := 5#32
  let c1_i32_801 : BitVec 32 := 1#32
  let arg14 : BitVec 32 := Scf.iv c5_i32_799 c1_i32_801 k0_t16
  let c0_i32_865 : BitVec 32 := 0#32
  let v986 : BitVec 1 := Scalar.cmpi .sgt arg14 c0_i32_865
  let v987 : BitVec 32 := Scalar.extui v986
  let c0_i32_866 : BitVec 32 := 0#32
  let v988 : BitVec 1 := Scalar.cmpi .slt arg14 c0_i32_866
  let v989 : BitVec 32 := Scalar.extui v988
  let v990 : BitVec 32 := Scalar.subi v987 v989
  let c4_i32_864 : BitVec 32 := 4#32
  let c0_i32_867 : BitVec 32 := 0#32
  let v991 : BitVec 1 := Scalar.cmpi .sgt c4_i32_864 c0_i32_867
  let v992 : BitVec 32 := Scalar.extui v991
  let c0_i32_868 : BitVec 32 := 0#32
  let v993 : BitVec 1 := Scalar.cmpi .slt c4_i32_864 c0_i32_868
  let v994 : BitVec 32 := Scalar.extui v993
  let v995 : BitVec 32 := Scalar.subi v992 v994
  let v996 : BitVec 1 := Scalar.cmpi .ne v990 v995
  let v997 : BitVec 32 := Scalar.remsi arg14 c4_i32_864
  let c0_i32_869 : BitVec 32 := 0#32
  let v998 : BitVec 1 := Scalar.cmpi .ne v997 c0_i32_869
  let v999 : BitVec 1 := Scalar.andi v996 v998
  let v985 : BitVec 32 := Scalar.divsi arg14 c4_i32_864
  let c1_i32_870 : BitVec 32 := 1#32
  let v1000 : BitVec 32 := Scalar.subi v985 c1_i32_870
  let v1001 : BitVec 32 := Scalar.select v999 v1000 v985
  let c4_i32_871 : BitVec 32 := 4#32
  let c0_i32_872 : BitVec 32 := 0#32
  let v1002 : BitVec 1 := Scalar.cmpi .eq c4_i32_871 c0_i32_872
  let c1_i32_873 : BitVec 32 := 1#32
  let v1003 : BitVec 32 := Scalar.select v1002 c1_i32_873 c4_i32_871
  let v1004 : BitVec 32 := Scalar.remsi arg14 v1003
  let c0_i32_875 : BitVec 32 := 0#32
  let v1006 : BitVec 1 := Scalar.cmpi .slt v1004 c0_i32_875
  let c0_i32_876 : BitVec 32 := 0#32
  let v1007 : BitVec 1 := Scalar.cmpi .slt v1003 c0_i32_876
  let v1008 : BitVec 1 := Scalar.xori v1006 v1007
  let c0_i32_874 : BitVec 32 := 0#32
  let v1005 : BitVec 1 := Scalar.cmpi .ne v1004 c0_i32_874
  let v1009 : BitVec 1 := Scalar.andi v1008 v1005
  let v1010 : BitVec 32 := Scalar.addi v1004 v1003
  let v1011 : BitVec 32 := Scalar.select v1009 v1010 v1004
  let c512_i32_877 : BitVec 32 := 512#32
  let v1012 : BitVec 32 := Scalar.muli v1011 c512_i32_877
  let c0_i32_882 : BitVec 32 := 0#32
  ![7, v1001.toNat, v1012.toNat, 0]
def k0_off160 (k0_t16 : Fin k0_t16_loop.trips) : Fin 2 → Nat :=
  let c77_i32 : BitVec 32 := 77#32
  let c5_i32_799 : BitVec 32 := 5#32
  let c1_i32_801 : BitVec 32 := 1#32
  let arg14 : BitVec 32 := Scf.iv c5_i32_799 c1_i32_801 k0_t16
  let v982 : BitVec 32 := Scalar.addi c77_i32 arg14
  let c5_i32_862 : BitVec 32 := 5#32
  let v983 : BitVec 32 := Scalar.subi v982 c5_i32_862
  let c2_i32_863 : BitVec 32 := 2#32
  let v984 : BitVec 32 := Scalar.remsi v983 c2_i32_863
  let c1_i32_884 : BitVec 32 := 1#32
  ![v984.toNat, 1]
def k0_cond32 (k0_t16 : Fin k0_t16_loop.trips) : BitVec 1 :=
  let c5_i32_799 : BitVec 32 := 5#32
  let c1_i32_801 : BitVec 32 := 1#32
  let arg14 : BitVec 32 := Scf.iv c5_i32_799 c1_i32_801 k0_t16
  let c1_i32_888 : BitVec 32 := 1#32
  let v1025 : BitVec 32 := Scalar.addi arg14 c1_i32_888
  let c16_i32 : BitVec 32 := 16#32
  let v1026 : BitVec 1 := Scalar.cmpi .slt v1025 c16_i32
  let v1027 : BitVec 32 := Scalar.extui v1026
  let c0_i32_889 : BitVec 32 := 0#32
  let v1028 : BitVec 1 := Scalar.cmpi .ne v1027 c0_i32_889
  v1028

def k0_off161 (k0_t16 : Fin k0_t16_loop.trips) : Fin 2 → Nat :=
  let c1_i32_899 : BitVec 32 := 1#32
  let c77_i32 : BitVec 32 := 77#32
  let c5_i32_799 : BitVec 32 := 5#32
  let c1_i32_801 : BitVec 32 := 1#32
  let arg14 : BitVec 32 := Scf.iv c5_i32_799 c1_i32_801 k0_t16
  let v982 : BitVec 32 := Scalar.addi c77_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c0_i32_915 : BitVec 32 := 0#32
  ![v1055.toNat, 0]
def k0_off162 (k0_t16 : Fin k0_t16_loop.trips) : Fin 3 → Nat :=
  let c1_i32_899 : BitVec 32 := 1#32
  let c77_i32 : BitVec 32 := 77#32
  let c5_i32_799 : BitVec 32 := 5#32
  let c1_i32_801 : BitVec 32 := 1#32
  let arg14 : BitVec 32 := Scf.iv c5_i32_799 c1_i32_801 k0_t16
  let v982 : BitVec 32 := Scalar.addi c77_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c0_i32_916 : BitVec 32 := 0#32
  let c0_i32_917 : BitVec 32 := 0#32
  ![v1055.toNat, 0, 0]
def k0_off163 (k0_t16 : Fin k0_t16_loop.trips) : Fin 4 → Nat :=
  let c7_i32_914 : BitVec 32 := 7#32
  let c5_i32_799 : BitVec 32 := 5#32
  let c1_i32_801 : BitVec 32 := 1#32
  let arg14 : BitVec 32 := Scf.iv c5_i32_799 c1_i32_801 k0_t16
  let c1_i32_898 : BitVec 32 := 1#32
  let v1054 : BitVec 32 := Scalar.addi arg14 c1_i32_898
  let c0_i32_901 : BitVec 32 := 0#32
  let v1057 : BitVec 1 := Scalar.cmpi .sgt v1054 c0_i32_901
  let v1058 : BitVec 32 := Scalar.extui v1057
  let c0_i32_902 : BitVec 32 := 0#32
  let v1059 : BitVec 1 := Scalar.cmpi .slt v1054 c0_i32_902
  let v1060 : BitVec 32 := Scalar.extui v1059
  let v1061 : BitVec 32 := Scalar.subi v1058 v1060
  let c4_i32_900 : BitVec 32 := 4#32
  let c0_i32_903 : BitVec 32 := 0#32
  let v1062 : BitVec 1 := Scalar.cmpi .sgt c4_i32_900 c0_i32_903
  let v1063 : BitVec 32 := Scalar.extui v1062
  let c0_i32_904 : BitVec 32 := 0#32
  let v1064 : BitVec 1 := Scalar.cmpi .slt c4_i32_900 c0_i32_904
  let v1065 : BitVec 32 := Scalar.extui v1064
  let v1066 : BitVec 32 := Scalar.subi v1063 v1065
  let v1067 : BitVec 1 := Scalar.cmpi .ne v1061 v1066
  let v1068 : BitVec 32 := Scalar.remsi v1054 c4_i32_900
  let c0_i32_905 : BitVec 32 := 0#32
  let v1069 : BitVec 1 := Scalar.cmpi .ne v1068 c0_i32_905
  let v1070 : BitVec 1 := Scalar.andi v1067 v1069
  let v1056 : BitVec 32 := Scalar.divsi v1054 c4_i32_900
  let c1_i32_906 : BitVec 32 := 1#32
  let v1071 : BitVec 32 := Scalar.subi v1056 c1_i32_906
  let v1072 : BitVec 32 := Scalar.select v1070 v1071 v1056
  let c4_i32_907 : BitVec 32 := 4#32
  let c0_i32_908 : BitVec 32 := 0#32
  let v1073 : BitVec 1 := Scalar.cmpi .eq c4_i32_907 c0_i32_908
  let c1_i32_909 : BitVec 32 := 1#32
  let v1074 : BitVec 32 := Scalar.select v1073 c1_i32_909 c4_i32_907
  let v1075 : BitVec 32 := Scalar.remsi v1054 v1074
  let c0_i32_911 : BitVec 32 := 0#32
  let v1077 : BitVec 1 := Scalar.cmpi .slt v1075 c0_i32_911
  let c0_i32_912 : BitVec 32 := 0#32
  let v1078 : BitVec 1 := Scalar.cmpi .slt v1074 c0_i32_912
  let v1079 : BitVec 1 := Scalar.xori v1077 v1078
  let c0_i32_910 : BitVec 32 := 0#32
  let v1076 : BitVec 1 := Scalar.cmpi .ne v1075 c0_i32_910
  let v1080 : BitVec 1 := Scalar.andi v1079 v1076
  let v1081 : BitVec 32 := Scalar.addi v1075 v1074
  let v1082 : BitVec 32 := Scalar.select v1080 v1081 v1075
  let c512_i32_913 : BitVec 32 := 512#32
  let v1083 : BitVec 32 := Scalar.muli v1082 c512_i32_913
  let c0_i32_918 : BitVec 32 := 0#32
  ![7, v1072.toNat, v1083.toNat, 0]
def k0_off164 (k0_t16 : Fin k0_t16_loop.trips) : Fin 2 → Nat :=
  let c1_i32_899 : BitVec 32 := 1#32
  let c77_i32 : BitVec 32 := 77#32
  let c5_i32_799 : BitVec 32 := 5#32
  let c1_i32_801 : BitVec 32 := 1#32
  let arg14 : BitVec 32 := Scf.iv c5_i32_799 c1_i32_801 k0_t16
  let v982 : BitVec 32 := Scalar.addi c77_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1055 : BitVec 32 := Scalar.subi c1_i32_899 v984
  let c1_i32_920 : BitVec 32 := 1#32
  ![v1055.toNat, 1]
def k0_off165 (k0_t16 : Fin k0_t16_loop.trips) : Fin 3 → Nat :=
  let c77_i32 : BitVec 32 := 77#32
  let c5_i32_799 : BitVec 32 := 5#32
  let c1_i32_801 : BitVec 32 := 1#32
  let arg14 : BitVec 32 := Scf.iv c5_i32_799 c1_i32_801 k0_t16
  let v982 : BitVec 32 := Scalar.addi c77_i32 arg14
  let c5_i32_862 : BitVec 32 := 5#32
  let v983 : BitVec 32 := Scalar.subi v982 c5_i32_862
  let c2_i32_863 : BitVec 32 := 2#32
  let v984 : BitVec 32 := Scalar.remsi v983 c2_i32_863
  let v1029 : Index := Scalar.indexCast v984
  let c0_890 : Index := 0#32
  let c0_891 : Index := 0#32
  ![v1029.toNat, 0, 0]
abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

def k1_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c0_i32 : BitVec 32 := 0#32
  let v5 : BitVec 32 := Scalar.addi v4 c0_i32
  let c4_i32_1 : BitVec 32 := 4#32
  let c0_i32_2 : BitVec 32 := 0#32
  let v6 : BitVec 1 := Scalar.cmpi .eq c4_i32_1 c0_i32_2
  let c1_i32_3 : BitVec 32 := 1#32
  let v7 : BitVec 32 := Scalar.select v6 c1_i32_3 c4_i32_1
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_8 : BitVec 32 := 1#32
  let v16 : BitVec 32 := Scalar.muli v15 c1_i32_8
  let v17 : BitVec 32 := Scalar.addi c0_i32_9 v16
  v17.toNat
def k1_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v18 : BitVec 32 := Scalar.addi v2 c1_i32_10
  let c1_i32_11 : BitVec 32 := 1#32
  let v19 : BitVec 32 := Scalar.addi v18 c1_i32_11
  let c4_i32_12 : BitVec 32 := 4#32
  let c0_i32_13 : BitVec 32 := 0#32
  let v20 : BitVec 1 := Scalar.cmpi .eq c4_i32_12 c0_i32_13
  let c1_i32_14 : BitVec 32 := 1#32
  let v21 : BitVec 32 := Scalar.select v20 c1_i32_14 c4_i32_12
  let v22 : BitVec 32 := Scalar.remsi v19 v21
  let c0_i32_16 : BitVec 32 := 0#32
  let v24 : BitVec 1 := Scalar.cmpi .slt v22 c0_i32_16
  let c0_i32_17 : BitVec 32 := 0#32
  let v25 : BitVec 1 := Scalar.cmpi .slt v21 c0_i32_17
  let v26 : BitVec 1 := Scalar.xori v24 v25
  let c0_i32_15 : BitVec 32 := 0#32
  let v23 : BitVec 1 := Scalar.cmpi .ne v22 c0_i32_15
  let v27 : BitVec 1 := Scalar.andi v26 v23
  let v28 : BitVec 32 := Scalar.addi v22 v21
  let v29 : BitVec 32 := Scalar.select v27 v28 v22
  let c1_i32_19 : BitVec 32 := 1#32
  let v30 : BitVec 32 := Scalar.muli v29 c1_i32_19
  let v31 : BitVec 32 := Scalar.addi c0_i32_20 v30
  v31.toNat
def k1_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_21 : BitVec 32 := 1#32
  let v32 : BitVec 32 := Scalar.addi v2 c1_i32_21
  let c2_i32 : BitVec 32 := 2#32
  let v33 : BitVec 32 := Scalar.addi v32 c2_i32
  let c4_i32_22 : BitVec 32 := 4#32
  let c0_i32_23 : BitVec 32 := 0#32
  let v34 : BitVec 1 := Scalar.cmpi .eq c4_i32_22 c0_i32_23
  let c1_i32_24 : BitVec 32 := 1#32
  let v35 : BitVec 32 := Scalar.select v34 c1_i32_24 c4_i32_22
  let v36 : BitVec 32 := Scalar.remsi v33 v35
  let c0_i32_26 : BitVec 32 := 0#32
  let v38 : BitVec 1 := Scalar.cmpi .slt v36 c0_i32_26
  let c0_i32_27 : BitVec 32 := 0#32
  let v39 : BitVec 1 := Scalar.cmpi .slt v35 c0_i32_27
  let v40 : BitVec 1 := Scalar.xori v38 v39
  let c0_i32_25 : BitVec 32 := 0#32
  let v37 : BitVec 1 := Scalar.cmpi .ne v36 c0_i32_25
  let v41 : BitVec 1 := Scalar.andi v40 v37
  let v42 : BitVec 32 := Scalar.addi v36 v35
  let v43 : BitVec 32 := Scalar.select v41 v42 v36
  let c1_i32_29 : BitVec 32 := 1#32
  let v44 : BitVec 32 := Scalar.muli v43 c1_i32_29
  let v45 : BitVec 32 := Scalar.addi c0_i32_30 v44
  v45.toNat
def k1_off1 (d0 : Dev nD) (c0_i32_32 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v46 : BitVec 32 := Scalar.addi v2 c1_i32_31
  let v47 : BitVec 32 := Scalar.addi v46 c0_i32_32
  let c4_i32_33 : BitVec 32 := 4#32
  let c0_i32_34 : BitVec 32 := 0#32
  let v48 : BitVec 1 := Scalar.cmpi .eq c4_i32_33 c0_i32_34
  let c1_i32_35 : BitVec 32 := 1#32
  let v49 : BitVec 32 := Scalar.select v48 c1_i32_35 c4_i32_33
  let v50 : BitVec 32 := Scalar.remsi v47 v49
  let c0_i32_37 : BitVec 32 := 0#32
  let v52 : BitVec 1 := Scalar.cmpi .slt v50 c0_i32_37
  let c0_i32_38 : BitVec 32 := 0#32
  let v53 : BitVec 1 := Scalar.cmpi .slt v49 c0_i32_38
  let v54 : BitVec 1 := Scalar.xori v52 v53
  let c0_i32_36 : BitVec 32 := 0#32
  let v51 : BitVec 1 := Scalar.cmpi .ne v50 c0_i32_36
  let v55 : BitVec 1 := Scalar.andi v54 v51
  let v56 : BitVec 32 := Scalar.addi v50 v49
  let v57 : BitVec 32 := Scalar.select v55 v56 v50
  let v58 : BitVec 32 := Scalar.subi v2 v57
  let c1_i32_39 : BitVec 32 := 1#32
  let v59 : BitVec 32 := Scalar.subi v58 c1_i32_39
  let c4_i32_40 : BitVec 32 := 4#32
  let c0_i32_41 : BitVec 32 := 0#32
  let v60 : BitVec 1 := Scalar.cmpi .eq c4_i32_40 c0_i32_41
  let c1_i32_42 : BitVec 32 := 1#32
  let v61 : BitVec 32 := Scalar.select v60 c1_i32_42 c4_i32_40
  let v62 : BitVec 32 := Scalar.remsi v59 v61
  let c0_i32_44 : BitVec 32 := 0#32
  let v64 : BitVec 1 := Scalar.cmpi .slt v62 c0_i32_44
  let c0_i32_45 : BitVec 32 := 0#32
  let v65 : BitVec 1 := Scalar.cmpi .slt v61 c0_i32_45
  let v66 : BitVec 1 := Scalar.xori v64 v65
  let c0_i32_43 : BitVec 32 := 0#32
  let v63 : BitVec 1 := Scalar.cmpi .ne v62 c0_i32_43
  let v67 : BitVec 1 := Scalar.andi v66 v63
  let v68 : BitVec 32 := Scalar.addi v62 v61
  let v69 : BitVec 32 := Scalar.select v67 v68 v62
  ![v69.toNat]
def k1_off2 (d0 : Dev nD) (c0_i32_32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v46 : BitVec 32 := Scalar.addi v2 c1_i32_31
  let v47 : BitVec 32 := Scalar.addi v46 c0_i32_32
  let c4_i32_33 : BitVec 32 := 4#32
  let c0_i32_34 : BitVec 32 := 0#32
  let v48 : BitVec 1 := Scalar.cmpi .eq c4_i32_33 c0_i32_34
  let c1_i32_35 : BitVec 32 := 1#32
  let v49 : BitVec 32 := Scalar.select v48 c1_i32_35 c4_i32_33
  let v50 : BitVec 32 := Scalar.remsi v47 v49
  let c0_i32_37 : BitVec 32 := 0#32
  let v52 : BitVec 1 := Scalar.cmpi .slt v50 c0_i32_37
  let c0_i32_38 : BitVec 32 := 0#32
  let v53 : BitVec 1 := Scalar.cmpi .slt v49 c0_i32_38
  let v54 : BitVec 1 := Scalar.xori v52 v53
  let c0_i32_36 : BitVec 32 := 0#32
  let v51 : BitVec 1 := Scalar.cmpi .ne v50 c0_i32_36
  let v55 : BitVec 1 := Scalar.andi v54 v51
  let v56 : BitVec 32 := Scalar.addi v50 v49
  let v57 : BitVec 32 := Scalar.select v55 v56 v50
  let v58 : BitVec 32 := Scalar.subi v2 v57
  let c1_i32_39 : BitVec 32 := 1#32
  let v59 : BitVec 32 := Scalar.subi v58 c1_i32_39
  let c4_i32_40 : BitVec 32 := 4#32
  let c0_i32_41 : BitVec 32 := 0#32
  let v60 : BitVec 1 := Scalar.cmpi .eq c4_i32_40 c0_i32_41
  let c1_i32_42 : BitVec 32 := 1#32
  let v61 : BitVec 32 := Scalar.select v60 c1_i32_42 c4_i32_40
  let v62 : BitVec 32 := Scalar.remsi v59 v61
  let c0_i32_44 : BitVec 32 := 0#32
  let v64 : BitVec 1 := Scalar.cmpi .slt v62 c0_i32_44
  let c0_i32_45 : BitVec 32 := 0#32
  let v65 : BitVec 1 := Scalar.cmpi .slt v61 c0_i32_45
  let v66 : BitVec 1 := Scalar.xori v64 v65
  let c0_i32_43 : BitVec 32 := 0#32
  let v63 : BitVec 1 := Scalar.cmpi .ne v62 c0_i32_43
  let v67 : BitVec 1 := Scalar.andi v66 v63
  let v68 : BitVec 32 := Scalar.addi v62 v61
  let v69 : BitVec 32 := Scalar.select v67 v68 v62
  let c0_i32_49 : BitVec 32 := 0#32
  let c0_i32_50 : BitVec 32 := 0#32
  ![v69.toNat, 0, 0]
def k1_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v46 : BitVec 32 := Scalar.addi v2 c1_i32_31
  let c0_i32_32 : BitVec 32 := 0#32
  let v47 : BitVec 32 := Scalar.addi v46 c0_i32_32
  let c4_i32_33 : BitVec 32 := 4#32
  let c0_i32_34 : BitVec 32 := 0#32
  let v48 : BitVec 1 := Scalar.cmpi .eq c4_i32_33 c0_i32_34
  let c1_i32_35 : BitVec 32 := 1#32
  let v49 : BitVec 32 := Scalar.select v48 c1_i32_35 c4_i32_33
  let v50 : BitVec 32 := Scalar.remsi v47 v49
  let c0_i32_37 : BitVec 32 := 0#32
  let v52 : BitVec 1 := Scalar.cmpi .slt v50 c0_i32_37
  let c0_i32_38 : BitVec 32 := 0#32
  let v53 : BitVec 1 := Scalar.cmpi .slt v49 c0_i32_38
  let v54 : BitVec 1 := Scalar.xori v52 v53
  let c0_i32_36 : BitVec 32 := 0#32
  let v51 : BitVec 1 := Scalar.cmpi .ne v50 c0_i32_36
  let v55 : BitVec 1 := Scalar.andi v54 v51
  let v56 : BitVec 32 := Scalar.addi v50 v49
  let v57 : BitVec 32 := Scalar.select v55 v56 v50
  let c1_i32_47 : BitVec 32 := 1#32
  let v70 : BitVec 32 := Scalar.muli v57 c1_i32_47
  let v71 : BitVec 32 := Scalar.addi c0_i32_48 v70
  v71.toNat
def k1_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_51 : BitVec 32 := 1#32
  let v78 : BitVec 32 := Scalar.addi v2 c1_i32_51
  let c1_i32_52 : BitVec 32 := 1#32
  let v79 : BitVec 32 := Scalar.addi v78 c1_i32_52
  let c4_i32_53 : BitVec 32 := 4#32
  let c0_i32_54 : BitVec 32 := 0#32
  let v80 : BitVec 1 := Scalar.cmpi .eq c4_i32_53 c0_i32_54
  let c1_i32_55 : BitVec 32 := 1#32
  let v81 : BitVec 32 := Scalar.select v80 c1_i32_55 c4_i32_53
  let v82 : BitVec 32 := Scalar.remsi v79 v81
  let c0_i32_57 : BitVec 32 := 0#32
  let v84 : BitVec 1 := Scalar.cmpi .slt v82 c0_i32_57
  let c0_i32_58 : BitVec 32 := 0#32
  let v85 : BitVec 1 := Scalar.cmpi .slt v81 c0_i32_58
  let v86 : BitVec 1 := Scalar.xori v84 v85
  let c0_i32_56 : BitVec 32 := 0#32
  let v83 : BitVec 1 := Scalar.cmpi .ne v82 c0_i32_56
  let v87 : BitVec 1 := Scalar.andi v86 v83
  let v88 : BitVec 32 := Scalar.addi v82 v81
  let v89 : BitVec 32 := Scalar.select v87 v88 v82
  let c1_i32_67 : BitVec 32 := 1#32
  let v102 : BitVec 32 := Scalar.muli v89 c1_i32_67
  let v103 : BitVec 32 := Scalar.addi c0_i32_68 v102
  v103.toNat
def k1_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_71 : BitVec 32 := 1#32
  let v110 : BitVec 32 := Scalar.addi v2 c1_i32_71
  let c2_i32_72 : BitVec 32 := 2#32
  let v111 : BitVec 32 := Scalar.addi v110 c2_i32_72
  let c4_i32_73 : BitVec 32 := 4#32
  let c0_i32_74 : BitVec 32 := 0#32
  let v112 : BitVec 1 := Scalar.cmpi .eq c4_i32_73 c0_i32_74
  let c1_i32_75 : BitVec 32 := 1#32
  let v113 : BitVec 32 := Scalar.select v112 c1_i32_75 c4_i32_73
  let v114 : BitVec 32 := Scalar.remsi v111 v113
  let c0_i32_77 : BitVec 32 := 0#32
  let v116 : BitVec 1 := Scalar.cmpi .slt v114 c0_i32_77
  let c0_i32_78 : BitVec 32 := 0#32
  let v117 : BitVec 1 := Scalar.cmpi .slt v113 c0_i32_78
  let v118 : BitVec 1 := Scalar.xori v116 v117
  let c0_i32_76 : BitVec 32 := 0#32
  let v115 : BitVec 1 := Scalar.cmpi .ne v114 c0_i32_76
  let v119 : BitVec 1 := Scalar.andi v118 v115
  let v120 : BitVec 32 := Scalar.addi v114 v113
  let v121 : BitVec 32 := Scalar.select v119 v120 v114
  let c1_i32_87 : BitVec 32 := 1#32
  let v134 : BitVec 32 := Scalar.muli v121 c1_i32_87
  let v135 : BitVec 32 := Scalar.addi c0_i32_88 v134
  v135.toNat
abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x4096 : Shape := ⟨2, ![1024, 4096]⟩
abbrev S1x8192x32x128 : Shape := ⟨4, ![1, 8192, 32, 128]⟩
abbrev S4096x1024 : Shape := ⟨2, ![4096, 1024]⟩
abbrev S1x2048x4096 : Shape := ⟨3, ![1, 2048, 4096]⟩
abbrev S1x2048x32x128 : Shape := ⟨4, ![1, 2048, 32, 128]⟩
abbrev S2048 : Shape := ⟨1, ![2048]⟩
abbrev S2048x1 : Shape := ⟨2, ![2048, 1]⟩
abbrev S8192 : Shape := ⟨1, ![8192]⟩
abbrev S1x8192 : Shape := ⟨2, ![1, 8192]⟩
abbrev S2048x8192 : Shape := ⟨2, ![2048, 8192]⟩
abbrev S_ : Shape := ⟨0, ![]⟩
abbrev S1x32x2048x8192 : Shape := ⟨4, ![1, 32, 2048, 8192]⟩
abbrev S1x1x2048x8192 : Shape := ⟨4, ![1, 1, 2048, 8192]⟩
abbrev S1x32x2048 : Shape := ⟨3, ![1, 32, 2048]⟩
abbrev S1x32x2048x1 : Shape := ⟨4, ![1, 32, 2048, 1]⟩
abbrev S1x1x2048x1 : Shape := ⟨4, ![1, 1, 2048, 1]⟩
abbrev S1x32x128x2048 : Shape := ⟨4, ![1, 32, 128, 2048]⟩

abbrev nBuf : Space → Nat
  | .hbm => 67
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x4096, .f32⟩
  | .hbm, ⟨2, _⟩ => ⟨S1x8192x32x128, .f32⟩
  | .hbm, ⟨3, _⟩ => ⟨S1x8192x32x128, .f32⟩
  | .hbm, ⟨4, _⟩ => ⟨S4096x1024, .f32⟩
  | .hbm, ⟨5, _⟩ => ⟨S1x2048x4096, .f32⟩
  | .hbm, ⟨6, _⟩ => ⟨S1x2048x32x128, .f32⟩
  | .hbm, ⟨7, _⟩ => ⟨S2048, .i32⟩
  | .hbm, ⟨8, _⟩ => ⟨S2048x1, .i32⟩
  | .hbm, ⟨9, _⟩ => ⟨S8192, .i32⟩
  | .hbm, ⟨10, _⟩ => ⟨S1x8192, .i32⟩
  | .hbm, ⟨11, _⟩ => ⟨S2048x8192, .i32⟩
  | .hbm, ⟨12, _⟩ => ⟨S2048x8192, .i32⟩
  | .hbm, ⟨13, _⟩ => ⟨S2048x8192, .i32⟩
  | .hbm, ⟨14, _⟩ => ⟨S2048x8192, .i32⟩
  | .hbm, ⟨15, _⟩ => ⟨S_, .i32⟩
  | .hbm, ⟨16, _⟩ => ⟨S2048x8192, .i32⟩
  | .hbm, ⟨17, _⟩ => ⟨S2048x8192, .i1⟩
  | .hbm, ⟨18, _⟩ => ⟨S_, .i32⟩
  | .hbm, ⟨19, _⟩ => ⟨S1x8192, .i32⟩
  | .hbm, ⟨20, _⟩ => ⟨S1x8192, .i1⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S2048x8192, .i1⟩
  | .hbm, ⟨25, _⟩ => ⟨S2048x8192, .i1⟩
  | .hbm, ⟨26, _⟩ => ⟨S2048x8192, .i1⟩
  | .hbm, ⟨27, _⟩ => ⟨S2048x8192, .i1⟩
  | .hbm, ⟨28, _⟩ => ⟨S1x32x2048x8192, .f32⟩
  | .hbm, ⟨29, _⟩ => ⟨S_, .f32⟩
  | .hbm, ⟨30, _⟩ => ⟨S1x32x2048x8192, .f32⟩
  | .hbm, ⟨31, _⟩ => ⟨S1x32x2048x8192, .f32⟩
  | .hbm, ⟨32, _⟩ => ⟨S1x1x2048x8192, .i1⟩
  | .hbm, ⟨33, _⟩ => ⟨S_, .f32⟩
  | .hbm, ⟨34, _⟩ => ⟨S_, .f32⟩
  | .hbm, ⟨35, _⟩ => ⟨S1x32x2048x8192, .i1⟩
  | .hbm, ⟨36, _⟩ => ⟨S1x32x2048x8192, .f32⟩
  | .hbm, ⟨37, _⟩ => ⟨S1x32x2048x8192, .f32⟩
  | .hbm, ⟨38, _⟩ => ⟨S_, .f32⟩
  | .hbm, ⟨39, _⟩ => ⟨S1x32x2048, .f32⟩
  | .hbm, ⟨40, _⟩ => ⟨S1x32x2048x1, .f32⟩
  | .hbm, ⟨41, _⟩ => ⟨S1x32x2048x8192, .f32⟩
  | .hbm, ⟨42, _⟩ => ⟨S1x32x2048x8192, .f32⟩
  | .hbm, ⟨43, _⟩ => ⟨S1x32x2048x8192, .f32⟩
  | .hbm, ⟨44, _⟩ => ⟨S_, .i1⟩
  | .hbm, ⟨45, _⟩ => ⟨S2048, .i1⟩
  | .hbm, ⟨46, _⟩ => ⟨S1x1x2048x1, .i1⟩
  | .hbm, ⟨47, _⟩ => ⟨S_, .f32⟩
  | .hbm, ⟨48, _⟩ => ⟨S1x32x2048, .f32⟩
  | .hbm, ⟨49, _⟩ => ⟨S1x32x2048x1, .f32⟩
  | .hbm, ⟨50, _⟩ => ⟨S_, .f32⟩
  | .hbm, ⟨51, _⟩ => ⟨S_, .f32⟩
  | .hbm, ⟨52, _⟩ => ⟨S1x32x2048x1, .i1⟩
  | .hbm, ⟨53, _⟩ => ⟨S1x32x2048x1, .f32⟩
  | .hbm, ⟨54, _⟩ => ⟨S1x32x2048x1, .f32⟩
  | .hbm, ⟨55, _⟩ => ⟨S1x32x2048x8192, .f32⟩
  | .hbm, ⟨56, _⟩ => ⟨S1x32x2048x8192, .f32⟩
  | .hbm, ⟨57, _⟩ => ⟨S1x1x2048x1, .i1⟩
  | .hbm, ⟨58, _⟩ => ⟨S_, .f32⟩
  | .hbm, ⟨59, _⟩ => ⟨S_, .f32⟩
  | .hbm, ⟨60, _⟩ => ⟨S1x32x2048x8192, .i1⟩
  | .hbm, ⟨61, _⟩ => ⟨S1x32x2048x8192, .f32⟩
  | .hbm, ⟨62, _⟩ => ⟨S1x32x2048x8192, .f32⟩
  | .hbm, ⟨63, _⟩ => ⟨S1x32x128x2048, .f32⟩
  | .hbm, ⟨64, _⟩ => ⟨S1x2048x32x128, .f32⟩
  | .hbm, ⟨65, _⟩ => ⟨S1x2048x4096, .f32⟩
  | .hbm, ⟨66, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Exchange.lean ====
/-
  One exchange among four devices, as both kernels run it: every device gives each of the three others one unit on that
  device's barrier semaphore, waits for three units on its own, sends each of the others `n` pieces, each with a
  semaphore of its own at either end, and waits for its pieces to leave and for the others' to arrive.

  The protocol is stated over what the devices hand each other (`Goods`): the barrier unit carries the space that the
  receiver gives up for the sender's pieces (`B`) together with the fact that its receiving semaphores are in use; the
  piece that arrives carries that space, filled (`R`); the piece that has left carries the source back (`S`).
  Devices are named by steps round the ring of four: step `p` of device `c` is device `c + 1 + p`.
-/
module

public import Idealize.ShloMosaic.Lib.Rounds.Family
public import Idealize.ShloMosaic.Lib.Pipeline.Regions
public import Idealize.ShloMosaic.Lib.Pipeline.Kit
public import Idealize.ShloMosaic.Lib.Tactic

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Steps round the ring -/

/-- The device `p + 1` steps after `c`. -/
def sh (p : Fin 3) (c : Dev 4) : Dev 4 := ⟨(c.val + 1 + p.val) % 4, Nat.mod_lt _ (by decide)⟩
/-- The step that leads back. -/
def rv (p : Fin 3) : Fin 3 := ⟨2 - p.val, by omega⟩

theorem sh_rv : ∀ (p : Fin 3) (c : Dev 4), sh p (sh (rv p) c) = c := by decide
theorem rv_sh : ∀ (p : Fin 3) (c : Dev 4), sh (rv p) (sh p c) = c := by decide
theorem rv_rv : ∀ p : Fin 3, rv (rv p) = p := by decide

/-- A step as a bijection of the devices. -/
def shE (p : Fin 3) : Dev 4 ≃ Dev 4 := ⟨sh p, sh (rv p), rv_sh p, sh_rv p⟩
/-- The reversal of the steps. -/
def rvE : Fin 3 ≃ Fin 3 := ⟨rv, rv, rv_rv, rv_rv⟩

/-! ## The semaphores of an exchange -/

/-- The semaphores: the barrier's; the sending ones by step and piece; the receiving ones, on the receiver, by the SENDER's
    step and piece. Every piece credits `amt`. -/
structure Wires (sig : RefSig) (n : ℕ) where
  bar : Sem sig
  ss : Fin 3 → Fin n → DmaSem sig
  rs : Dev 4 → Fin 3 → Fin n → DmaSem sig
  amt : ℕ
  amt_pos : 0 < amt
  ss_inj : ∀ p i p' i', ss p i = ss p' i' → p = p' ∧ i = i'
  rs_inj : ∀ c p i p' i', rs c p i = rs c p' i' → p = p' ∧ i = i'
  ne : ∀ c p i p' i', ss p i ≠ rs c p' i'

/-- The roles a semaphore cell plays: a device's barrier; a device's piece leaving; a device's piece arriving. -/
abbrev Role (n : ℕ) : Type := Dev 4 ⊕ ((Dev 4 × Fin 3 × Fin n) ⊕ (Dev 4 × Fin 3 × Fin n))

namespace Wires

variable {sig : RefSig} {n : ℕ} (W : Wires sig n) {τ : Topo}

abbrev barC (c : Dev 4) : GSem 4 τ sig := ((c.tc : Thread 4 τ), .reg W.bar)
abbrev sndC (c : Dev 4) (p : Fin 3) (i : Fin n) : GSem 4 τ sig := ((c.tc : Thread 4 τ), .dma (W.ss p i))
abbrev rcvC (c : Dev 4) (p : Fin 3) (i : Fin n) : GSem 4 τ sig := ((c.tc : Thread 4 τ), .dma (W.rs c p i))

/-- The cell of a role. -/
def cell : Role n → GSem 4 τ sig
  | .inl c => W.barC c
  | .inr (.inl x) => W.sndC x.1 x.2.1 x.2.2
  | .inr (.inr x) => W.rcvC x.1 x.2.1 x.2.2

theorem dev_of_eq {c c' : Dev 4} {s s' : SemLoc sig} (h : ((c.tc : Thread 4 τ), s) = ((c'.tc : Thread 4 τ), s')) : c = c' ∧ s = s' :=
  ⟨congrArg (fun g : GSem 4 τ sig => g.1.1) h, congrArg Prod.snd h⟩

theorem cell_inj : Function.Injective (W.cell (τ := τ)) := by
  rintro (c | ⟨c, p, i⟩ | ⟨c, p, i⟩) (c' | ⟨c', p', i'⟩ | ⟨c', p', i'⟩) h <;> obtain ⟨h1, h2⟩ := dev_of_eq h
  · rw [h1]
  · exact absurd h2 (fun h => by cases h)
  · exact absurd h2 (fun h => by cases h)
  · exact absurd h2 (fun h => by cases h)
  · obtain ⟨h3, h4⟩ := W.ss_inj p i p' i' (SemLoc.dma.inj h2)
    dsimp only at h1; rw [h1, h3, h4]
  · exact absurd (SemLoc.dma.inj h2) (W.ne _ _ _ _ _)
  · exact absurd h2 (fun h => by cases h)
  · exact absurd (SemLoc.dma.inj h2).symm (W.ne _ _ _ _ _)
  · dsimp only at h1; subst h1
    obtain ⟨h3, h4⟩ := W.rs_inj c p i p' i' (SemLoc.dma.inj h2)
    rw [h3, h4]

open Classical in
/-- The role of a cell, if it plays any. -/
def role (g : GSem 4 τ sig) : Option (Role n) := if h : ∃ x, W.cell x = g then some h.choose else none

theorem role_cell (x : Role n) : W.role (τ := τ) (W.cell x) = some x := by
  have h : ∃ y, W.cell (τ := τ) y = W.cell x := ⟨x, rfl⟩
  unfold role; rw [dif_pos h]
  exact congrArg some (W.cell_inj h.choose_spec)

/-- The barrier cells; the cells of the pieces. -/
def bars : Finset (GSem 4 τ sig) := Finset.univ.map ⟨fun c : Dev 4 => W.cell (.inl c), fun _ _ h => Sum.inl_injective (W.cell_inj h)⟩
def pieces : Finset (GSem 4 τ sig) :=
  Finset.univ.map ⟨fun x : (Dev 4 × Fin 3 × Fin n) ⊕ (Dev 4 × Fin 3 × Fin n) => W.cell (.inr x), fun _ _ h => Sum.inr_injective (W.cell_inj h)⟩

theorem disj : Disjoint (W.bars (τ := τ)) W.pieces := Finset.disjoint_left.mpr fun g hg hg' => by
  obtain ⟨c, -, rfl⟩ := Finset.mem_map.mp hg
  obtain ⟨x, -, h⟩ := Finset.mem_map.mp hg'
  have h' : (.inr x : Role n) = .inl c := W.cell_inj (τ := τ) h
  cases h'

theorem mem_cells (x : Role n) : W.cell (τ := τ) x ∈ W.bars ∪ W.pieces := by
  rcases x with c | x
  · exact Finset.mem_union_left _ (Finset.mem_map.mpr ⟨c, Finset.mem_univ _, rfl⟩)
  · exact Finset.mem_union_right _ (Finset.mem_map.mpr ⟨x, Finset.mem_univ _, rfl⟩)

/-- The tokens: of device `c`, the unit it gives at step `p`; the piece it sends at step `p`, at its own cell and at the receiver's. -/
def tokOf : (Dev 4 × Fin 3) ⊕ ((Dev 4 × Fin 3 × Fin n) ⊕ (Dev 4 × Fin 3 × Fin n)) → GSem 4 τ sig × ℕ × Fin 3
  | .inl x => (W.barC (sh x.2 x.1), 0, x.2)
  | .inr (.inl x) => (W.sndC x.1 x.2.1 x.2.2, 0, 0)
  | .inr (.inr x) => (W.rcvC (sh x.2.1 x.1) x.2.1 x.2.2, 0, 0)

theorem sh_inj {p : Fin 3} {c c' : Dev 4} (h : sh p c = sh p c') : c = c' := (shE p).injective h

theorem tokOf_inj : Function.Injective (W.tokOf (τ := τ)) := by
  have key {x y : Role n} {d d' : Fin 3} (h : (W.cell (τ := τ) x, 0, d) = (W.cell y, 0, d')) : x = y ∧ d = d' :=
    ⟨W.cell_inj (congrArg (fun t : GSem 4 τ sig × ℕ × Fin 3 => t.1) h), congrArg (fun t : GSem 4 τ sig × ℕ × Fin 3 => t.2.2) h⟩
  rintro (⟨c, p⟩ | ⟨c, p, i⟩ | ⟨c, p, i⟩) (⟨c', p'⟩ | ⟨c', p', i'⟩ | ⟨c', p', i'⟩) h
  · obtain ⟨h1, h2⟩ := key (x := .inl (sh p c)) (y := .inl (sh p' c')) h
    subst h2; rw [sh_inj (Sum.inl_injective h1)]
  · exact absurd (key (x := .inl (sh p c)) (y := .inr (.inl (c', p', i'))) h).1 (fun h => by cases h)
  · exact absurd (key (x := .inl (sh p c)) (y := .inr (.inr (sh p' c', p', i'))) h).1 (fun h => by cases h)
  · exact absurd (key (x := .inr (.inl (c, p, i))) (y := .inl (sh p' c')) h).1 (fun h => by cases h)
  · have h1 := (key (x := .inr (.inl (c, p, i))) (y := .inr (.inl (c', p', i'))) h).1
    rw [Sum.inl_injective (Sum.inr_injective h1)]
  · exact absurd (key (x := .inr (.inl (c, p, i))) (y := .inr (.inr (sh p' c', p', i'))) h).1 (fun h => by cases h)
  · exact absurd (key (x := .inr (.inr (sh p c, p, i))) (y := .inl (sh p' c')) h).1 (fun h => by cases h)
  · exact absurd (key (x := .inr (.inr (sh p c, p, i))) (y := .inr (.inl (c', p', i'))) h).1 (fun h => by cases h)
  · have h1 := Sum.inr_injective (Sum.inr_injective (key (x := .inr (.inr (sh p c, p, i))) (y := .inr (.inr (sh p' c', p', i'))) h).1)
    have h2 : p = p' := congrArg (fun x : Dev 4 × Fin 3 × Fin n => x.2.1) h1
    have h3 : i = i' := congrArg (fun x : Dev 4 × Fin 3 × Fin n => x.2.2) h1
    subst h2; subst h3
    rw [sh_inj (congrArg Prod.fst h1)]

def toks : Finset (GSem 4 τ sig × ℕ × Fin 3) := Finset.univ.map ⟨W.tokOf, W.tokOf_inj⟩

end Wires

/-! ## The protocol -/

section Protocol

variable {τ : Topo} {sig : RefSig} {n : ℕ} {Val : EltTy → Type} {U : Type} [URA U]

local notation "𝕄" => MT 4 τ sig Unit Val ℕ U ℕ

variable (τ sig n Val U) in
/-- What the devices hand each other: `B c p`, the space on device `sh p c` for the pieces `c` sends there; `S c p i`, what comes
    back to `c` when its piece has left; `R c p i`, what device `c` finds when the piece sent to it at its sender's step `p` arrives. -/
structure Goods where
  B : Dev 4 → Fin 3 → sProp (MT 4 τ sig Unit Val ℕ U ℕ)
  S : Dev 4 → Fin 3 → Fin n → sProp (MT 4 τ sig Unit Val ℕ U ℕ)
  R : Dev 4 → Fin 3 → Fin n → sProp (MT 4 τ sig Unit Val ℕ U ℕ)
  hB : ∀ c p, BI.Storable (upEmb : UEmb _ (MT 4 τ sig Unit Val ℕ U ℕ)) (B c p)
  hS : ∀ c p i, BI.Storable (upEmb : UEmb _ (MT 4 τ sig Unit Val ℕ U ℕ)) (S c p i)
  hR : ∀ c p i, BI.Storable (upEmb : UEmb _ (MT 4 τ sig Unit Val ℕ U ℕ)) (R c p i)

variable (W : Wires sig n) (G : Goods τ sig n Val U) (E : Emb (URounds (GSem 4 τ sig) (Fin 3)) (MT 4 τ sig Unit Val ℕ U ℕ))

/-- The unit that device `c`'s step `d'` gives, where it arrives at device `c` as duty `d`: the space there and the receiving semaphores. -/
def unitPay (c : Dev 4) (p : Fin 3) : sProp 𝕄 :=
  iprop(G.B c p ∗ bigSep Finset.univ fun i : Fin n => reached E (W.rcvC (sh p c) p i) 0)

def payOf : Role n → Fin 3 → sProp 𝕄
  | .inl c, d => unitPay W G E c (rv d)
  | .inr (.inl x), _ => G.S x.1 x.2.1 x.2.2
  | .inr (.inr x), _ => G.R x.1 x.2.1 x.2.2

def dutiesOf : Role n → Finset (Fin 3)
  | .inl _ => Finset.univ
  | .inr _ => {0}

def amountOf (W : Wires sig n) : Role n → ℕ
  | .inl _ => 1
  | .inr _ => W.amt

theorem amountOf_pos (x : Role n) : 0 < amountOf W x := by
  rcases x with c | x
  · exact Nat.one_pos
  · exact W.amt_pos

/-- The schedule: every cell has one round. -/
def sched : Schedule (GSem 4 τ sig) (Fin 3) (MT 4 τ sig Unit Val ℕ U ℕ) where
  duties g r := if r = 0 then (W.role g).elim ∅ dutiesOf else ∅
  amount g _ _ := (W.role g).elim 1 (amountOf W)
  payload g _ d := (W.role g).elim iprop(emp) fun x => payOf W G E x d
  amount_pos g r d _ := by
    cases h : W.role g with
    | none => exact Nat.one_pos
    | some x => exact amountOf_pos W x

theorem duties_cell (x : Role n) : (sched W G E).duties (W.cell x) 0 = dutiesOf x := by
  show (if (0 : ℕ) = 0 then (W.role (W.cell (τ := τ) x)).elim ∅ dutiesOf else ∅) = _
  rw [if_pos rfl, W.role_cell]; rfl
theorem duties_later (g : GSem 4 τ sig) (r : ℕ) (h : 1 ≤ r) : (sched W G E).duties g r = ∅ := if_neg (by omega)
theorem amount_cell (x : Role n) (r : ℕ) (d : Fin 3) : (sched W G E).amount (W.cell x) r d = amountOf W x := by
  show (W.role (W.cell (τ := τ) x)).elim 1 (amountOf W) = _
  rw [W.role_cell]; rfl
theorem payload_cell (x : Role n) (r : ℕ) (d : Fin 3) : (sched W G E).payload (W.cell x) r d = payOf W G E x d := by
  show (W.role (W.cell (τ := τ) x)).elim iprop(emp) (fun x => payOf W G E x d) = _
  rw [W.role_cell]; rfl

theorem expect_bar (c : Dev 4) : (sched W G E).expect (W.barC c) 0 = 3 := by
  unfold Schedule.expect Schedule.amountOf
  rw [show W.barC (τ := τ) c = W.cell (.inl c) from rfl, duties_cell]
  rw [Finset.sum_congr rfl fun d _ => amount_cell W G E (.inl c) 0 d]
  rfl
theorem expect_piece (x : (Dev 4 × Fin 3 × Fin n) ⊕ (Dev 4 × Fin 3 × Fin n)) : (sched W G E).expect (W.cell (.inr x)) 0 = W.amt := by
  unfold Schedule.expect Schedule.amountOf
  rw [duties_cell, show dutiesOf (.inr x : Role n) = {0} from rfl, Finset.sum_singleton, amount_cell]
  rfl

variable [E.LandsIn (upEmb : UEmb _ (MT 4 τ sig Unit Val ℕ U ℕ))]

instance sched_storable (g : GSem 4 τ sig) (r : ℕ) (d : Fin 3) :
    BI.Storable (upEmb : UEmb _ (MT 4 τ sig Unit Val ℕ U ℕ)) ((sched W G E).payload g r d) := by
  show BI.Storable _ ((W.role g).elim iprop(emp) fun x => payOf W G E x d)
  cases h : W.role g with
  | none => dsimp only [Option.elim]; infer_instance
  | some x =>
    dsimp only [Option.elim]
    rcases x with c | x | x
    · haveI := G.hB c (rv d)
      show BI.Storable _ (unitPay W G E c (rv d))
      unfold unitPay; infer_instance
    · exact G.hS _ _ _
    · exact G.hR _ _ _

omit [E.LandsIn (upEmb : UEmb _ (MT 4 τ sig Unit Val ℕ U ℕ))]

/-! ## What is known, and what each device is dealt -/

/-- Every cell is under its invariant, and every barrier is in use. -/
def known (κ : GSem 4 τ sig → ℕ) : sProp 𝕄 :=
  iprop((bigSep (W.bars ∪ W.pieces) fun g => cellInv E (sched W G E) (κ g) g) ∗ bigSep Finset.univ fun c : Dev 4 => reached E (W.barC c) 0)

instance known_persistent (κ : GSem 4 τ sig → ℕ) : BI.Persistent (known W G E κ) := by unfold known; infer_instance

theorem known_inv (κ : GSem 4 τ sig → ℕ) (x : Role n) : known W G E κ ⊢ cellInv E (sched W G E) (κ (W.cell x)) (W.cell x) := by
  have h : (bigSep (W.bars ∪ W.pieces) fun g => cellInv E (sched W G E) (κ g) g) ⊢ cellInv E (sched W G E) (κ (W.cell x)) (W.cell x) :=
    bigSep_elim (W.mem_cells x)
  unfold known
  iintro ⟨H, -⟩
  iapply h; iexact H
theorem known_bar (κ : GSem 4 τ sig → ℕ) (c : Dev 4) : known W G E κ ⊢ reached E (W.barC c) 0 := by
  have h : (bigSep Finset.univ fun c : Dev 4 => reached E (W.barC c) 0) ⊢ (reached E (W.barC c) 0 : sProp 𝕄) := bigSep_elim (Finset.mem_univ c)
  unfold known
  iintro ⟨-, H⟩
  iapply h; iexact H

/-- What device `c` is dealt at the launch beside its credit: its place at its barrier, the right to open its cells, and the
    tokens of what it does. -/
def dealt (c : Dev 4) : sProp 𝕄 :=
  iprop(atPos E (W.barC c) 0 ∅ 0
    ∗ (bigSep Finset.univ fun x : Fin 3 × Fin n => iprop(openTok E (W.sndC c x.1 x.2) ∗ openTok E (W.rcvC c x.1 x.2)))
    ∗ (bigSep Finset.univ fun p : Fin 3 => dutyTok E (W.barC (sh p c)) 0 p)
    ∗ bigSep Finset.univ fun x : Fin 3 × Fin n => iprop(dutyTok E (W.sndC c x.1 x.2) 0 0 ∗ dutyTok E (W.rcvC (sh x.1 c) x.1 x.2) 0 0))

/-- The credit of device `c`: its three barrier units and the pieces that arrive. -/
def credit (c : Dev 4) : sProp 𝕄 :=
  iprop(cred (tallyAt (W.barC c) () 3) ∗ bigSep Finset.univ fun x : Fin 3 × Fin n => cred (tallyAt (W.rcvC c x.1 x.2) () W.amt))

/-! ## Funding -/

theorem bigSep_bars (Φ : GSem 4 τ sig → sProp 𝕄) : bigSep (W.bars (τ := τ)) Φ = bigSep Finset.univ fun c : Dev 4 => Φ (W.barC c) := by
  unfold Wires.bars; rw [bigSep_map]; rfl

theorem bigSep_sum' {A B : Type} [Fintype A] [Fintype B] (Φ : A ⊕ B → sProp 𝕄) :
    bigSep Finset.univ Φ = iprop((bigSep Finset.univ fun a => Φ (.inl a)) ∗ bigSep Finset.univ fun b => Φ (.inr b)) := by
  classical
  rw [← Finset.univ_disjSum_univ, show (Finset.univ.disjSum Finset.univ : Finset (A ⊕ B))
    = Finset.univ.map Function.Embedding.inl ∪ Finset.univ.map Function.Embedding.inr from by
      ext x; rcases x with a | b <;> simp, bigSep_union (Finset.disjoint_left.mpr fun x hx hy => by
        obtain ⟨a, -, rfl⟩ := Finset.mem_map.mp hx
        obtain ⟨b, -, h⟩ := Finset.mem_map.mp hy
        exact absurd h (fun h => by cases h)), bigSep_map, bigSep_map]
  rfl

theorem bigSep_pieces (Φ : GSem 4 τ sig → sProp 𝕄) : bigSep (W.pieces (τ := τ)) Φ
    = bigSep Finset.univ fun c : Dev 4 => bigSep Finset.univ fun x : Fin 3 × Fin n => iprop(Φ (W.sndC c x.1 x.2) ∗ Φ (W.rcvC c x.1 x.2)) := by
  unfold Wires.pieces
  rw [bigSep_map, bigSep_sum', bigSep_univ_prod, bigSep_univ_prod, ← bigSep_sep']
  exact bigSep_congr fun c _ => (bigSep_sep' _ _ _).symm

theorem bigSep_toks (Φ : GSem 4 τ sig × ℕ × Fin 3 → sProp 𝕄) : bigSep (W.toks (τ := τ)) Φ
    = bigSep Finset.univ fun c : Dev 4 => iprop((bigSep Finset.univ fun p : Fin 3 => Φ (W.barC (sh p c), 0, p))
        ∗ bigSep Finset.univ fun x : Fin 3 × Fin n => iprop(Φ (W.sndC c x.1 x.2, 0, 0) ∗ Φ (W.rcvC (sh x.1 c) x.1 x.2, 0, 0))) := by
  unfold Wires.toks
  rw [bigSep_map, bigSep_sum', bigSep_sum', bigSep_univ_prod, bigSep_univ_prod, bigSep_univ_prod, ← bigSep_sep', ← bigSep_sep']
  exact bigSep_congr fun c _ => congrArg _ (bigSep_sep' _ _ _).symm

/-- The element of the launch. -/
def elt : URounds (GSem 4 τ sig) (Fin 3) := launchOf W.bars W.pieces W.toks

theorem bigSep_dealt : (bigSep Finset.univ fun c : Dev 4 => (dealt W E c : sProp 𝕄))
    = iprop((bigSep Finset.univ fun c : Dev 4 => atPos E (W.barC c) 0 ∅ 0)
      ∗ (bigSep Finset.univ fun c : Dev 4 => bigSep Finset.univ fun x : Fin 3 × Fin n => iprop(openTok E (W.sndC c x.1 x.2) ∗ openTok E (W.rcvC c x.1 x.2)))
      ∗ bigSep Finset.univ fun c : Dev 4 => iprop((bigSep Finset.univ fun p : Fin 3 => dutyTok E (W.barC (sh p c)) 0 p)
        ∗ bigSep Finset.univ fun x : Fin 3 × Fin n => iprop(dutyTok E (W.sndC c x.1 x.2) 0 0 ∗ dutyTok E (W.rcvC (sh x.1 c) x.1 x.2) 0 0))) := by
  unfold dealt; rw [bigSep_sep', bigSep_sep']

theorem funds [E.LandsIn (upEmb : UEmb _ (MT 4 τ sig Unit Val ℕ U ℕ))] {Es : Set ℕ} :
    iprop((bigSep Finset.univ fun c : Dev 4 => semVal (W.barC c) 0) ∗ BI.own (E (elt W)))
      ⊢ (|={Es}=> ∃ κ, known W G E κ ∗ bigSep Finset.univ fun c : Dev 4 => dealt W E c : sProp 𝕄) := by
  iintro ⟨Hv, Hu⟩
  ihave Hv' := (Entails.of_eq (bigSep_bars W fun g => (semVal g 0 : sProp 𝕄)).symm) $$ Hv
  unfold elt
  imod (fund_launch E (sched W G E) W.disj (fun g _ h => h) W.toks (Es := Es)) $$ [Hv' Hu] with ⟨%κ, -, HI, Hr, Hat, Hop, Htok⟩
  · isplitl [Hv'] <;> iassumption
  imodintro
  ihave Hr' := (Entails.of_eq (bigSep_bars W fun g => (reached E g 0 : sProp 𝕄))) $$ Hr
  ihave Hat' := (Entails.of_eq (bigSep_bars W fun g => (atPos E g 0 ∅ 0 : sProp 𝕄))) $$ Hat
  ihave Hop' := (Entails.of_eq (bigSep_pieces W fun g => (openTok E g : sProp 𝕄))) $$ Hop
  ihave Htok' := (Entails.of_eq (bigSep_toks W fun x => (dutyTok E x.1 x.2.1 x.2.2 : sProp 𝕄))) $$ Htok
  iexists κ
  isplitl [HI Hr']
  · unfold known; isplitl [HI] <;> iassumption
  iapply (Entails.of_eq (bigSep_dealt W E).symm)
  isplitl [Hat']; · iexact Hat'
  isplitl [Hop']; · iexact Hop'
  iexact Htok'

/-! ## Opening and closing the cells of the pieces -/

/-- The role of a piece's cell on device `c`. -/
def roleAt (c : Dev 4) (k : (Fin 3 × Fin n) ⊕ (Fin 3 × Fin n)) : Role n := k.elim (fun x => .inr (.inl (c, x))) fun x => .inr (.inr (c, x))

theorem bigSep_roleAt (c : Dev 4) (Φ : GSem 4 τ sig → sProp 𝕄) : (bigSep Finset.univ fun k => Φ (W.cell (roleAt c k)))
    = bigSep Finset.univ fun x : Fin 3 × Fin n => iprop(Φ (W.sndC c x.1 x.2) ∗ Φ (W.rcvC c x.1 x.2)) := by
  rw [bigSep_sum', bigSep_sep']; rfl

theorem known_pieces (κ : GSem 4 τ sig → ℕ) (c : Dev 4) : known W G E κ ⊢ bigSep Finset.univ fun k : (Fin 3 × Fin n) ⊕ (Fin 3 × Fin n) =>
    cellInv E (sched W G E) (κ (W.cell (roleAt c k))) (W.cell (roleAt c k)) :=
  bigSep_intro_persistent fun k _ => known_inv W G E κ (roleAt c k)

theorem open_pieces (κ : GSem 4 τ sig → ℕ) (c : Dev 4) :
    iprop(known W G E κ ∗ (bigSep Finset.univ fun x : Fin 3 × Fin n => iprop(openTok E (W.sndC c x.1 x.2) ∗ openTok E (W.rcvC c x.1 x.2)))
        ∗ bigSep Finset.univ fun x : Fin 3 × Fin n => iprop(semVal (W.sndC c x.1 x.2) 0 ∗ semVal (W.rcvC c x.1 x.2) 0))
      ⊢ (|={Set.univ}=> bigSep Finset.univ fun x : Fin 3 × Fin n => iprop((atPos E (W.sndC c x.1 x.2) 0 ∅ 0 ∗ reached E (W.sndC c x.1 x.2) 0)
          ∗ (atPos E (W.rcvC c x.1 x.2) 0 ∅ 0 ∗ reached E (W.rcvC c x.1 x.2) 0)) : sProp 𝕄) := by
  have h := cells_open E (sched W G E) Finset.univ (fun k => W.cell (roleAt c k)) (fun k => κ (W.cell (roleAt c k))) (Es := Set.univ) fun _ _ => Set.mem_univ _
  rw [bigSep_sep'] at h
  rw [← bigSep_roleAt W c fun g => (openTok E g : sProp 𝕄), ← bigSep_roleAt W c fun g => (semVal g 0 : sProp 𝕄),
    ← bigSep_roleAt W c fun g => (iprop(atPos E g 0 ∅ 0 ∗ reached E g 0) : sProp 𝕄)]
  iintro ⟨#HK, Ho, Hs⟩
  iapply h
  isplitl [Ho]
  · isplitr [Ho]
    · iapply (known_pieces W G E κ c); iexact HK
    iexact Ho
  iexact Hs

theorem close_pieces (κ : GSem 4 τ sig → ℕ) (c : Dev 4) :
    iprop(known W G E κ ∗ bigSep Finset.univ fun x : Fin 3 × Fin n => iprop(atPos E (W.sndC c x.1 x.2) 1 ∅ 0 ∗ atPos E (W.rcvC c x.1 x.2) 1 ∅ 0))
      ⊢ (|={Set.univ}=> bigSep Finset.univ fun x : Fin 3 × Fin n => iprop(semVal (W.sndC c x.1 x.2) 0 ∗ semVal (W.rcvC c x.1 x.2) 0) : sProp 𝕄) := by
  have h := cells_close E (sched W G E) Finset.univ (fun k => W.cell (roleAt c k)) (fun k => κ (W.cell (roleAt c k))) (Es := Set.univ)
    (fun _ _ => Set.mem_univ _) (fun _ _ h => h) (fun _ => 1) (fun k _ r hr => duties_later W G E _ r hr)
  rw [bigSep_sep'] at h
  rw [← bigSep_roleAt W c fun g => (semVal g 0 : sProp 𝕄), ← bigSep_roleAt W c fun g => (atPos E g 1 ∅ 0 : sProp 𝕄)]
  iintro ⟨#HK, Ha⟩
  iapply h
  isplitr [Ha]
  · iapply (known_pieces W G E κ c); iexact HK
  iexact Ha

/-- The barrier's cell, its round over, gives its counter back at zero. -/
theorem close_bar (κ : GSem 4 τ sig → ℕ) (c : Dev 4) : iprop(known W G E κ ∗ atPos E (W.barC c) 1 ∅ 0) ⊢ (|={Set.univ}=> semVal (W.barC c) 0 : sProp 𝕄) := by
  have h := cell_close E (sched W G E) (g := W.barC c) (κ := κ (W.barC c)) (Es := Set.univ) (Set.mem_univ _) (fun h => h) (R := 1) (duties_later W G E _)
  iintro ⟨#HK, Ha⟩
  iapply h
  isplitr [Ha]
  · iapply (known_inv W G E κ (.inl c)); iexact HK
  iexact Ha

/-! ## What is owed, and the credit of a launch -/

/-- One payment a device owes other devices at the launch: a unit on a barrier, or a piece. -/
abbrev Pay (n : ℕ) := Fin 3 ⊕ (Fin 3 × Fin n)

def tal (c : Dev 4) : Pay n → CellTallies 4 τ sig Unit
  | .inl p => tallyAt (W.barC (sh p c)) () 1
  | .inr x => tallyAt (W.rcvC (sh x.1 c) x.1 x.2) () W.amt

/-- `D` and the payments of the list, in the order they are made. -/
def dueOn (D : CellTallies 4 τ sig Unit) (c : Dev 4) : List (Pay n) → CellTallies 4 τ sig Unit
  | [] => D
  | x :: l => dueOn D c l + tal W c x

theorem dueOn_sum (D : CellTallies 4 τ sig Unit) (c : Dev 4) (l : List (Pay n)) : dueOn W D c l = D + (l.map (tal W c)).sum := by
  induction l with
  | nil => simp [dueOn]
  | cons x l ih => rw [dueOn, ih, List.map_cons, List.sum_cons, add_assoc, add_comm (tal W c x)]

theorem dueOn_pos {D : CellTallies 4 τ sig Unit} {c : Dev 4} {l : List (Pay n)} {g : GSem 4 τ sig} {u : Unit} (h : 0 < dueOn W D c l g u) :
    0 < D g u ∨ ∃ x ∈ l, 0 < tal W c x g u := by
  induction l with
  | nil => exact .inl h
  | cons x l ih =>
    have h' : 0 < dueOn W D c l g u + tal W c x g u := h
    rcases Nat.eq_zero_or_pos (tal W c x g u) with hz | hp
    · rw [hz, Nat.add_zero] at h'
      rcases ih h' with h | ⟨y, hy, hp⟩
      · exact .inl h
      · exact .inr ⟨y, List.mem_cons_of_mem _ hy, hp⟩
    · exact .inr ⟨x, List.mem_cons_self, hp⟩

/-- What device `c` waits for, as tallies. -/
def creditT (c : Dev 4) : CellTallies 4 τ sig Unit :=
  tallyAt (W.barC c) () 3 + ∑ x : Fin 3 × Fin n, tallyAt (W.rcvC c x.1 x.2) () W.amt

theorem cred_creditT (c : Dev 4) : (cred (creditT W c) : sProp 𝕄) = credit W c := by
  unfold creditT credit
  rw [← Pipeline.cred_finsetSum]
  exact BI.Entails.antisymm (cred_add _ _).1 (cred_add _ _).2

theorem sum_tal : (∑ c : Dev 4, ∑ x : Pay n, tal (τ := τ) W c x) = ∑ c : Dev 4, creditT W c := by
  have hbar : (∑ c : Dev 4, ∑ p : Fin 3, tal (τ := τ) W c (.inl p)) = ∑ c : Dev 4, tallyAt (W.barC c) () 3 := by
    rw [Finset.sum_comm]
    refine (Finset.sum_congr rfl fun p _ => Equiv.sum_comp (shE p) fun c : Dev 4 => (tallyAt (W.barC c) () 1 : CellTallies 4 τ sig Unit)).trans ?_
    rw [Finset.sum_comm]
    refine Finset.sum_congr rfl fun c _ => ?_
    rw [Fin.sum_univ_three, tallyAt_add, tallyAt_add]
  have hp : (∑ c : Dev 4, ∑ x : Fin 3 × Fin n, tal (τ := τ) W c (.inr x))
      = ∑ c : Dev 4, ∑ x : Fin 3 × Fin n, tallyAt (W.rcvC c x.1 x.2) () W.amt := by
    rw [Finset.sum_comm]
    refine (Finset.sum_congr rfl fun x _ => Equiv.sum_comp (shE x.1) fun c : Dev 4 => (tallyAt (W.rcvC c x.1 x.2) () W.amt : CellTallies 4 τ sig Unit)).trans ?_
    rw [Finset.sum_comm]
  unfold creditT
  rw [Finset.sum_add_distrib, ← hbar, ← hp, ← Finset.sum_add_distrib]
  exact Finset.sum_congr rfl fun c _ => Fintype.sum_sum_type _

theorem creditT_core (c : Dev 4) (g : GSem 4 τ sig) (h : creditT W c g ≠ 0) : g.1 = (c.tc : Thread 4 τ) := by
  by_contra hg
  refine h ?_
  unfold creditT
  rw [Pi.add_apply, tallyAt_ne_cell (fun h => hg (congrArg Prod.fst h)), zero_add, Finset.sum_apply]
  exact Finset.sum_eq_zero fun x _ => tallyAt_ne_cell (fun h => hg (congrArg Prod.fst h)) _ _

/-- The launch credit of a program whose devices owe, beside `D`, all payments of the exchange. -/
theorem launchCred_due (D : Dev 4 → CellTallies 4 τ sig Unit) (l : List (Pay n)) (hl : l.Nodup) (hall : ∀ x, x ∈ l) (c : Dev 4) :
    (Pipeline.launchCred (fun d => dueOn W (D d) d l) c : sProp 𝕄) = iprop(Pipeline.launchCred D c ∗ credit W c) := by
  have h : (fun d => dueOn W (D d) d l) = fun d => D d + ∑ x : Pay n, tal (τ := τ) W d x := by
    funext d
    rw [dueOn_sum, ← List.sum_toFinset _ hl, show l.toFinset = Finset.univ from Finset.eq_univ_iff_forall.mpr fun x => List.mem_toFinset.mpr (hall x)]
  rw [h, Pipeline.launchCred_add, Pipeline.launchCred_of_sum _ (creditT W) (sum_tal W) (creditT_core W), cred_creditT]

/-! ## The steps of a body -/

section Steps

variable {Λ : Labels} {defs : Defs 4 τ sig Val Λ} (𝒱 : Variants) (κ : GSem 4 τ sig → ℕ) (c : Dev 4) (bd : Option 𝒱.V)
variable {α : Type} {Q : α → sProp (MT 4 τ sig Unit Val ℕ U ℕ)} {k : PUnit → Prog (TpuEff 4 τ sig Val Λ .tc) α}

/-- A unit given to the barrier of the device `p + 1` steps on, with the space for its pieces here. -/
theorem wp_sig (p : Fin 3) {j : Dev 4} (hj : j = sh p c) {m : ℤ} (hm : m = 1) (O : CellTallies 4 τ sig Unit) {O₀ : CellTallies 4 τ sig Unit}
    (hO : O₀ = O + tal W c (.inl p)) {Ws : Waits sig Unit} :
    iprop(known W G E κ ∗ owes (c.tc : Thread 4 τ) O₀ Ws ∗ dutyTok E (W.barC (sh p c)) 0 p ∗ G.B (sh p c) (rv p)
        ∗ bigSep Finset.univ fun i : Fin n => reached E (W.rcvC c (rv p) i) 0)
      ⊢ iprop((owes (c.tc : Thread 4 τ) O Ws -∗ wp frame (wpE defs 𝒱 (c.tc : Thread 4 τ) bd) Set.univ (k ⟨⟩) Q)
          -∗ wp frame (wpE defs 𝒱 (c.tc : Thread 4 τ) bd) Set.univ (.op (.semSignal (j.tc : Thread 4 τ) W.bar m) k) Q) := by
  subst hj hm
  have h := wp_signal (defs := defs) (Γ := .empty) (k := k) (Q := Q) 𝒱 E (sched W G E) (c.tc : Thread 4 τ) bd (dst := ((sh p c).tc : Thread 4 τ)) (sem := W.bar) (r := 0) (d := p)
    (κ := κ (W.barC (sh p c))) (by show p ∈ (sched W G E).duties (W.cell (.inl (sh p c))) 0; rw [duties_cell]; exact Finset.mem_univ p)
    (amount_cell W G E (.inl (sh p c)) 0 p) () O hO (W := Ws) (Es := Set.univ)
  have hp : (sched W G E).payload (W.barC (sh p c)) 0 p = iprop(G.B (sh p c) (rv p) ∗ bigSep Finset.univ fun i : Fin n => reached E (W.rcvC c (rv p) i) 0) := by
    rw [show W.barC (τ := τ) (sh p c) = W.cell (.inl (sh p c)) from rfl, payload_cell]
    show unitPay W G E (sh p c) (rv p) = _
    unfold unitPay; rw [rv_sh]
  iintro ⟨#HK, Ho, Ht, HB, Hr⟩
  iapply h
  isplitr; · iapply (known_inv W G E κ (.inl (sh p c))); iexact HK
  isplitl [Ho]; · iexact Ho
  isplitl [Ht]; · iexact Ht
  isplitl
  · iapply (Entails.of_eq hp.symm); isplitl [HB] <;> iassumption
  iapply (known_bar W G E κ (sh p c)); iexact HK

theorem bar_rest : (bigSep ((sched W G E).duties (W.barC c) 0 \ ∅) fun d => (sched W G E).payload (W.barC c) 0 d)
    = bigSep Finset.univ fun p : Fin 3 => unitPay W G E c p := by
  rw [Finset.sdiff_empty, show W.barC (τ := τ) c = W.cell (.inl c) from rfl, duties_cell]
  rw [bigSep_congr fun d _ => payload_cell W G E (.inl c) 0 d]
  exact (bigSep_univ_equiv rvE fun p => unitPay W G E c p).symm

/-- The wait for the three units. -/
theorem wp_barWait {m : ℤ} (hm : m = 3) {O : CellTallies 4 τ sig Unit} {Ws : Waits sig Unit} :
    iprop(known W G E κ ∗ cred (tallyAt (W.barC c) () 3) ∗ owes (c.tc : Thread 4 τ) O Ws ∗ MayWait (c.tc : Thread 4 τ) (.reg W.bar) () O ∗ atPos E (W.barC c) 0 ∅ 0)
      ⊢ iprop(((owes (c.tc : Thread 4 τ) O (insert (.reg W.bar, ()) Ws) ∗ atPos E (W.barC c) 1 ∅ 0 ∗ bigSep Finset.univ fun p : Fin 3 => unitPay W G E c p)
            -∗ wp frame (wpE defs 𝒱 (c.tc : Thread 4 τ) bd) Set.univ (k ⟨⟩) Q)
          -∗ wp frame (wpE defs 𝒱 (c.tc : Thread 4 τ) bd) Set.univ (.op (.semWait W.bar m) k) Q) := by
  subst hm
  have h := wp_wait_rest_token (defs := defs) (Γ := .empty) (k := k) (Q := Q) 𝒱 E (sched W G E) (c.tc : Thread 4 τ) bd (κ := κ (W.barC c))
    (wpE_semWait_eq (sem := W.bar) (k := 3) 𝒱 (c.tc : Thread 4 τ) bd Set.univ) (Set.mem_univ _) () (O := O) (W := Ws) (R := 0) (m := 0) (T := ∅)
    (by rw [Nat.zero_add]; exact (expect_bar W G E c).symm)
  iintro ⟨#HK, Hc, Ho, Hw, Ha⟩ Hk
  iapply h $$ [Hc Ho Hw Ha]
  · isplitr; · iapply (known_inv W G E κ (.inl c)); iexact HK
    isplitl [Hc]; · iexact Hc
    isplitl [Ho]; · iexact Ho
    isplitl [Hw] <;> iassumption
  iintro ⟨Ho, Ha, -, Hp⟩
  iapply Hk
  isplitl [Ho]; · iexact Ho
  isplitl [Ha]; · iexact Ha
  iapply (Entails.of_eq (bar_rest W G E c)); iexact Hp

/-- What a device holds to send one piece. -/
def ticket (p : Fin 3) (i : Fin n) : sProp 𝕄 :=
  iprop((dutyTok E (W.sndC c p i) 0 0 ∗ dutyTok E (W.rcvC (sh p c) p i) 0 0) ∗ reached E (W.sndC c p i) 0 ∗ reached E (W.rcvC (sh p c) p i) 0)

/-- A piece sent. -/
theorem wp_snd (p : Fin 3) (i : Fin n) {j : Dev 4} (hj : j = sh p c) {sp sp' : Space} {s : Shape} {e : EltTy}
    {src : Memref sig .tc sp s e} {dst : Memref sig .tc sp' s e} {hsc : dst.view.ref.isScScratch = false} {sS sR : DmaSem sig} (hs : sS = W.ss p i) (hr : sR = W.rs (sh p c) p i)
    {hsrc : src.view.WordExact} {hdst : dst.view.WordExact} {hsem : DmaTarget.Typed sp (.dma sR) (.remote (j.tc : Thread 4 τ) dst (.dma sS) hsc)}
    {q : PosShare TreeShare} {fs : Buf Val (src.view.loc (c.tc : Thread 4 τ))} {fd : Buf Val (dst.view.loc ((sh p c).tc : Thread 4 τ))}
    (hN : dst.view.amount (.dma sR) = W.amt)
    (O : CellTallies 4 τ sig Unit) {O₀ : CellTallies 4 τ sig Unit} (hO : O₀ = O + tal W c (.inr (p, i))) {Ws : Waits sig Unit}
    (hS : (src.view.loc (c.tc : Thread 4 τ) ↦[src.view.set]{q} fs) ⊢ G.S c p i)
    (hR : (dst.view.loc ((sh p c).tc : Thread 4 τ) ↦[dst.view.set]{fullShare} (dst.view.write Val fd (src.view.read Val fs) Finset.univ)) ⊢ G.R (sh p c) p i) :
    iprop(known W G E κ ∗ ticket W E c p i ∗ (src.view.loc (c.tc : Thread 4 τ) ↦[src.view.set]{q} fs)
        ∗ (dst.view.loc ((sh p c).tc : Thread 4 τ) ↦[dst.view.set]{fullShare} fd) ∗ owes (c.tc : Thread 4 τ) O₀ Ws)
      ⊢ iprop(((cred (tallyAt (W.sndC c p i) () W.amt) ∗ owes (c.tc : Thread 4 τ) O Ws) -∗ wp frame (wpE defs 𝒱 (c.tc : Thread 4 τ) bd) Set.univ (k ⟨⟩) Q)
          -∗ wp frame (wpE defs 𝒱 (c.tc : Thread 4 τ) bd) Set.univ (.op (.enqueueDma src (.remote (j.tc : Thread 4 τ) dst (.dma sS) hsc) (.dma sR) hsrc hdst hsem) k) Q) := by
  subst hj hs hr
  have h := wp_send_pointsTo (defs := defs) (Γ := .empty) (k := k) (Q := Q) 𝒱 E (sched W G E) (c.tc : Thread 4 τ) bd (c' := ((sh p c).tc : Thread 4 τ))
    (src := src) (dst := dst) (hsc := hsc) (hsrc := hsrc) (hdst := hdst) (hsem := hsem) (q := q) (fs := fs) (fd := fd)
    (κ₁ := κ (W.sndC c p i)) (κ₂ := κ (W.rcvC (sh p c) p i)) (r₁ := 0) (r₂ := 0) (d₁ := 0) (d₂ := 0)
    (by show (0 : Fin 3) ∈ (sched W G E).duties (W.cell (.inr (.inl (c, p, i)))) 0; rw [duties_cell]; exact Finset.mem_singleton_self _)
    (by show (0 : Fin 3) ∈ (sched W G E).duties (W.cell (.inr (.inr (sh p c, p, i)))) 0; rw [duties_cell]; exact Finset.mem_singleton_self _)
    () () W.amt hN (amount_cell W G E (.inr (.inl (c, p, i))) 0 0) (amount_cell W G E (.inr (.inr (sh p c, p, i))) 0 0) O hO (W := Ws)
    (hS.trans (Entails.of_eq (payload_cell W G E (.inr (.inl (c, p, i))) 0 0).symm))
    (hR.trans (Entails.of_eq (payload_cell W G E (.inr (.inr (sh p c, p, i))) 0 0).symm)) (Es := Set.univ)
  unfold ticket
  iintro ⟨#HK, ⟨⟨HtS, HtR⟩, HrS, HrR⟩, Hsrc, Hdst, Ho⟩
  iapply h
  isplitr; · iapply (known_inv W G E κ (.inr (.inl (c, p, i)))); iexact HK
  isplitr; · iapply (known_inv W G E κ (.inr (.inr (sh p c, p, i)))); iexact HK
  isplitl [Hsrc]; · iexact Hsrc
  isplitl [Hdst]; · iexact Hdst
  isplitl [Ho]; · iexact Ho
  isplitl [HtS]; · iexact HtS
  isplitl [HrS]; · iexact HrS
  isplitl [HtR] <;> iassumption

theorem piece_rest (x : (Dev 4 × Fin 3 × Fin n) ⊕ (Dev 4 × Fin 3 × Fin n)) :
    (bigSep ((sched W G E).duties (W.cell (.inr x)) 0 \ ∅) fun d => (sched W G E).payload (W.cell (.inr x)) 0 d) = payOf W G E (.inr x) 0 := by
  rw [Finset.sdiff_empty, duties_cell, show dutiesOf (.inr x : Role n) = {0} from rfl, bigSep_singleton, payload_cell]

/-- The wait for a piece to arrive. -/
theorem wp_rcvWait (p : Fin 3) (i : Fin n) {sR : DmaSem sig} (hr : sR = W.rs c p i) {sp sp' : Space} {s s' : Shape} {e e' : EltTy}
    {src : Memref sig .tc sp' s' e'} {dst : Memref sig .tc sp s e} {hsrc : src.view.WordExact} {hdst : dst.view.WordExact}
    (hN : dst.view.dmaCredit = W.amt) {O : CellTallies 4 τ sig Unit} {Ws : Waits sig Unit} :
    iprop(known W G E κ ∗ cred (tallyAt (W.rcvC c p i) () W.amt) ∗ owes (c.tc : Thread 4 τ) O Ws ∗ MayWait (c.tc : Thread 4 τ) (.dma (W.rs c p i)) () O
        ∗ atPos E (W.rcvC c p i) 0 ∅ 0)
      ⊢ iprop(((owes (c.tc : Thread 4 τ) O (insert (.dma (W.rs c p i), ()) Ws) ∗ atPos E (W.rcvC c p i) 1 ∅ 0 ∗ G.R c p i)
            -∗ wp frame (wpE defs 𝒱 (c.tc : Thread 4 τ) bd) Set.univ (k ⟨⟩) Q)
          -∗ wp frame (wpE defs 𝒱 (c.tc : Thread 4 τ) bd) Set.univ (.op (.waitDma2 sR src dst hsrc hdst) k) Q) := by
  subst hr
  have h := wp_wait_rest_token (defs := defs) (Γ := .empty) (k := k) (Q := Q) 𝒱 E (sched W G E) (c.tc : Thread 4 τ) bd (κ := κ (W.rcvC c p i))
    (wpE_waitDma2_eq (sem := W.rs c p i) (src := src) (dst := dst) (hsrc := hsrc) (hdst := hdst) 𝒱 (c.tc : Thread 4 τ) bd Set.univ) (Set.mem_univ _) () (O := O) (W := Ws) (R := 0) (m := 0) (T := ∅)
    (by rw [Nat.zero_add, hN]; exact (expect_piece W G E (.inr (c, p, i))).symm)
  rw [hN] at h
  iintro ⟨#HK, Hc, Ho, Hw, Ha⟩ Hk
  iapply h $$ [Hc Ho Hw Ha]
  · isplitr; · iapply (known_inv W G E κ (.inr (.inr (c, p, i)))); iexact HK
    isplitl [Hc]; · iexact Hc
    isplitl [Ho]; · iexact Ho
    isplitl [Hw] <;> iassumption
  iintro ⟨Ho, Ha, -, Hp⟩
  iapply Hk
  isplitl [Ho]; · iexact Ho
  isplitl [Ha]; · iexact Ha
  iapply (show _ ⊢ G.R c p i from Entails.of_eq (piece_rest W G E (.inr (c, p, i)))); iexact Hp

/-- The wait for a piece to leave. -/
theorem wp_sndWait (p : Fin 3) (i : Fin n) {sS : DmaSem sig} (hs : sS = W.ss p i) {sp sp' : Space} {s s' : Shape} {e e' : EltTy}
    {src : Memref sig .tc sp' s' e'} {dst : Memref sig .tc sp s e} {hsrc : src.view.WordExact} {hdst : dst.view.WordExact}
    (hN : dst.view.dmaCredit = W.amt) {O : CellTallies 4 τ sig Unit} {Ws : Waits sig Unit} :
    iprop(known W G E κ ∗ cred (tallyAt (W.sndC c p i) () W.amt) ∗ owes (c.tc : Thread 4 τ) O Ws ∗ MayWait (c.tc : Thread 4 τ) (.dma (W.ss p i)) () O
        ∗ atPos E (W.sndC c p i) 0 ∅ 0)
      ⊢ iprop(((owes (c.tc : Thread 4 τ) O (insert (.dma (W.ss p i), ()) Ws) ∗ atPos E (W.sndC c p i) 1 ∅ 0 ∗ G.S c p i)
            -∗ wp frame (wpE defs 𝒱 (c.tc : Thread 4 τ) bd) Set.univ (k ⟨⟩) Q)
          -∗ wp frame (wpE defs 𝒱 (c.tc : Thread 4 τ) bd) Set.univ (.op (.waitDma2 sS src dst hsrc hdst) k) Q) := by
  subst hs
  have h := wp_wait_rest_token (defs := defs) (Γ := .empty) (k := k) (Q := Q) 𝒱 E (sched W G E) (c.tc : Thread 4 τ) bd (κ := κ (W.sndC c p i))
    (wpE_waitDma2_eq (sem := W.ss p i) (src := src) (dst := dst) (hsrc := hsrc) (hdst := hdst) 𝒱 (c.tc : Thread 4 τ) bd Set.univ) (Set.mem_univ _) () (O := O) (W := Ws) (R := 0) (m := 0) (T := ∅)
    (by rw [Nat.zero_add, hN]; exact (expect_piece W G E (.inl (c, p, i))).symm)
  rw [hN] at h
  iintro ⟨#HK, Hc, Ho, Hw, Ha⟩ Hk
  iapply h $$ [Hc Ho Hw Ha]
  · isplitr; · iapply (known_inv W G E κ (.inr (.inl (c, p, i)))); iexact HK
    isplitl [Hc]; · iexact Hc
    isplitl [Ho]; · iexact Ho
    isplitl [Hw] <;> iassumption
  iintro ⟨Ho, Ha, -, Hp⟩
  iapply Hk
  isplitl [Ho]; · iexact Ho
  isplitl [Ha]; · iexact Ha
  iapply (show _ ⊢ G.S c p i from Entails.of_eq (piece_rest W G E (.inl (c, p, i)))); iexact Hp

end Steps

end Protocol

end Cert.Exchange

end
-- ==== Proof.Stream.lean ====
/-
  The stream of key and value blocks: each of the two sides copies one block of 512 rows at a time out of the gathered
  array into one half of a two-slot buffer, while the other half is read.
-/
module

public import proofs.«01_k».proof.Proof.Exchange
public import proofs.«01_k».proof.Proof.Gen.KernelIdeal.Skeleton
public import Idealize.ShloMosaic.Lib.ValueLayout
public import Idealize.ShloMosaic.Lib.ViewIndex
public import Idealize.ShloMosaic.Lib.Transfers

@[expose] public section

noncomputable section

namespace Cert.Attn

open Cert.KernelIdeal Cert.KernelIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocalO)

variable {F : FTy → Type} [FloatOps F] [Named F]

abbrev UA : Type := URounds (GSem nD τ sig) (Fin 3)
abbrev UU : Type := UR sig nD τ × (UA × (UA × Counters))

local notation "𝕄" => MT nD τ sig Unit (Elt F) ℕ UU ℕ

abbrev EC : UEmb Counters (MT nD τ sig Unit (Elt F) ℕ UU ℕ) := countersEmb

abbrev 𝒱₀ : Variants := Variants.none

/-! ## The views -/

/-- A block of the gathered array at an offset, as the kernel writes it. -/
abbrev blkM (C : Memref sig .tc .hbm S8x4x2048x128 .bf16) (o : Fin 4 → ℕ) (h : ∀ a, o a + S1x1x512x128.size a ≤ S8x4x2048x128.size a) : Memref sig .tc .hbm S512x128 .bf16 :=
  (C.slice (Rect.unit (s := S8x4x2048x128) o S1x1x512x128.size h) (fun _ => rfl)).squeeze S512x128 squeezes_S1x1x512x128_S512x128
/-- A slot of a two-slot buffer at an offset. -/
abbrev slotM (B : Memref sig .tc .vmem S2x512x128 .bf16) (o : Fin 3 → ℕ) (h : ∀ a, o a + S1x512x128.size a ≤ S2x512x128.size a) : Memref sig .tc .vmem S512x128 .bf16 :=
  (B.slice (Rect.unit (s := S2x512x128) o S1x512x128.size h) (fun _ => rfl)).squeeze S512x128 squeezes_S1x512x128_S512x128
/-- A semaphore of the stream at an offset. -/
abbrev strS (o : Fin 2 → ℕ) (h : ∀ a, o a + S1x1.size a ≤ S2x2.size a) : DmaSem sig :=
  ((cc0_scratch5.slice (Rect.unit (s := S2x2) o S1x1.size h)).squeeze S_ squeezes_S1x1_S_).sem

theorem os_inb (b t : Fin 2) : ∀ a, (![b.val, t.val] : Fin 2 → ℕ) a + S1x1.size a ≤ S2x2.size a := by revert b t; decide
theorem ob_inb (b : Fin 2) : ∀ a, (![b.val, 0, 0] : Fin 3 → ℕ) a + S1x512x128.size a ≤ S2x512x128.size a := by revert b; decide
theorem oc_inb (h : Fin 8) (k : Fin 16) : ∀ a, (![h.val, k.val / 4, k.val % 4 * 512, 0] : Fin 4 → ℕ) a + S1x1x512x128.size a ≤ S8x4x2048x128.size a := by
  revert h k; decide

/-- A side of the stream: the gathered array, the two slots, and the second index of its semaphores. -/
structure Side where
  C : Memref sig .tc .hbm S8x4x2048x128 .bf16
  B : Memref sig .tc .vmem S2x512x128 .bf16
  t : Fin 2

namespace Side
variable (σ : Side)
/-- The semaphore of slot `b`. -/
abbrev sem (b : Fin 2) : DmaSem sig := strS ![b.val, σ.t.val] (os_inb b σ.t)
/-- Slot `b`. -/
abbrev slot (b : Fin 2) : Memref sig .tc .vmem S512x128 .bf16 := slotM σ.B ![b.val, 0, 0] (ob_inb b)
/-- Block `k` of head `h`. -/
abbrev blk (h : Fin 8) (k : Fin 16) : Memref sig .tc .hbm S512x128 .bf16 := blkM σ.C ![h.val, k.val / 4, k.val % 4 * 512, 0] (oc_inb h k)
/-- What the array's contents are. -/
abbrev Con (c : Dev nD) : Type := Buf (Elt F) (σ.C.view.loc (c : Thread nD τ))

/-- The block as the load of the slot gives it. -/
def val (c : Dev nD) (f : σ.Con (F := F) c) (h : Fin 8) (k : Fin 16) : Vec F S1x512x128 .bf16 := fun i =>
  (σ.blk h k).view.read (Elt F) f ((Shape.reshapeEquiv squeezes_S1x512x128_S512x128.numel_eq).symm i)

/-- Slot `b`, whatever it holds. -/
def Free (c : Dev nD) (b : Fin 2) : sProp 𝕄 :=
  iprop(∃ f : Buf (Elt F) ((σ.slot b).view.loc (c : Thread nD τ)), (σ.slot b).view.loc (c : Thread nD τ) ↦[(σ.slot b).view.set]{fullShare} f)
/-- Slot `b` at the contents `Y`. -/
def Full (c : Dev nD) (b : Fin 2) (Y : Vec F S1x512x128 .bf16) : sProp 𝕄 :=
  iprop(∃ f : Buf (Elt F) ((σ.slot b).view.loc (c : Thread nD τ)),
    ⌜(σ.B.view.slice (Rect.unit (s := S2x512x128) ![b.val, 0, 0] S1x512x128.size (ob_inb b))).read (Elt F) f = Y⌝
    ∗ (σ.slot b).view.loc (c : Thread nD τ) ↦[(σ.slot b).view.set]{fullShare} f)
/-- Slot `b` with its semaphore at rest. -/
def Rest (c : Dev nD) (b : Fin 2) : sProp 𝕄 := iprop(σ.Free c b ∗ semVal ((c : Thread nD τ), .dma (σ.sem b)) 0)
/-- The part of the array that the stream reads from. -/
def Src (c : Dev nD) (f : σ.Con (F := F) c) (R : Finset (Idx (σ.C.view.loc (c : Thread nD τ)))) : sProp 𝕄 := σ.C.view.loc (c : Thread nD τ) ↦[R]{fullShare} f
/-- Block `k` of head `h` on its way into slot `b`. -/
def Fly (c : Dev nD) (f : σ.Con (F := F) c) (R : Finset (Idx (σ.C.view.loc (c : Thread nD τ)))) (b : Fin 2) (h : Fin 8) (k : Fin 16) : sProp 𝕄 :=
  iprop(Flight EC (c : Thread nD τ) (.dma (σ.sem b)) () (σ.slot b).view.dmaCredit iprop(σ.Full c b (σ.val c f h k) ∗ σ.C.view.loc (c : Thread nD τ) ↦[(σ.blk h k).view.set]{fullShare} f)
    ∗ ⌜(σ.blk h k).view.set ⊆ R⌝ ∗ σ.C.view.loc (c : Thread nD τ) ↦[R \ (σ.blk h k).view.set]{fullShare} f)

theorem full_free (c : Dev nD) (b : Fin 2) (Y : Vec F S1x512x128 .bf16) : (σ.Full c b Y : sProp 𝕄) ⊢ σ.Free c b := by
  unfold Full Free
  iintro ⟨%f, -, H⟩
  iexists f; iexact H

/-- Nothing on its way. -/
def Idle (c : Dev nD) (f : σ.Con (F := F) c) (R : Finset (Idx (σ.C.view.loc (c : Thread nD τ)))) : sProp 𝕄 := iprop(σ.Rest c 0 ∗ σ.Rest c 1 ∗ σ.Src c f R)
theorem idle_open (c : Dev nD) (f : σ.Con (F := F) c) (R) (b : Fin 2) : (σ.Idle c f R : sProp 𝕄) ⊣⊢ iprop(σ.Rest c b ∗ σ.Rest c (1 - b) ∗ σ.Src c f R) := by
  unfold Idle
  obtain rfl | rfl : b = 0 ∨ b = 1 := by revert b; decide
  · exact .rfl
  · show _ ⊣⊢ iprop(σ.Rest c 1 ∗ σ.Rest c 0 ∗ σ.Src c f R)
    constructor <;> (iintro ⟨H0, H1, H2⟩; isplitl [H1]; (· iexact H1); isplitl [H0] <;> iassumption)

end Side

/-! ## The steps -/

variable {defs : Defs nD τ sig (Elt F) Λ₀}

/-- What the core still owes, with the order of the waits. -/
def Owe (c : Dev nD) (L : GSem nD τ sig → Finset Unit) (lv : GSem nD τ sig → Unit → ℕ) (O : CellTallies nD τ sig Unit) : sProp 𝕄 :=
  iprop(levAts L lv ∗ ∃ W, owes (c : Thread nD τ) O W)

section Steps
variable (σ : Side) (c : Dev nD) (f : σ.Con (F := F) c) (R : Finset (Idx (σ.C.view.loc (c : Thread nD τ))))

omit [Named F] in
theorem slot_read (σ : Side) (b : Fin 2) (W : (σ.B.view.ty).Contents (Elt F)) (i : S1x512x128.Idx) :
    View.read (Elt F) (σ.slot b).view W ((Shape.reshapeEquiv squeezes_S1x512x128_S512x128.numel_eq).symm i)
      = View.read (Elt F) (σ.B.view.slice (Rect.unit (s := S2x512x128) ![b.val, 0, 0] S1x512x128.size (ob_inb b))) W i := by
  refine (show View.read (Elt F) (σ.slot b).view W ((Shape.reshapeEquiv squeezes_S1x512x128_S512x128.numel_eq).symm i)
    = View.read (Elt F) (σ.B.view.slice (Rect.unit (s := S2x512x128) ![b.val, 0, 0] S1x512x128.size (ob_inb b))) W
      ((Shape.reshapeEquiv squeezes_S1x512x128_S512x128.numel_eq) ((Shape.reshapeEquiv squeezes_S1x512x128_S512x128.numel_eq).symm i)) from rfl).trans ?_
  rw [Equiv.apply_symm_apply]

/-- What a copy leaves in the slot. -/
theorem filled (b : Fin 2) (h : Fin 8) (k : Fin 16) (fd : Buf (Elt F) ((σ.slot b).view.loc (c : Thread nD τ))) :
    ((σ.slot b).view.loc (c : Thread nD τ) ↦[(σ.slot b).view.set]{fullShare} ((σ.slot b).view.write (Elt F) fd ((σ.blk h k).view.read (Elt F) f) Finset.univ) : sProp 𝕄)
      ⊢ σ.Full c b (σ.val c f h k) := by
  unfold Side.Full
  iintro H
  iexists _
  isplitr
  swap
  · iexact H
  ipureintro
  funext i
  have h1 := congrFun (View.read_write_univ (v := (σ.slot b).view) (Val := Elt F) fd ((σ.blk h k).view.read (Elt F) f)) ((Shape.reshapeEquiv squeezes_S1x512x128_S512x128.numel_eq).symm i)
  unfold Side.val
  rw [← h1]
  generalize View.write (Elt F) (σ.slot b).view fd (View.read (Elt F) (σ.blk h k).view f) Finset.univ = W
  exact (slot_read σ b W i).symm

/-- A copy started. -/
theorem wp_start {α : Type} {Q : α → sProp 𝕄} {k : PUnit → Prog (TpuEff nD τ sig (Elt F) Λ₀ .tc) α} (b : Fin 2) (h : Fin 8) (kb : Fin 16) {oc : Fin 4 → ℕ} {hc} {ob : Fin 3 → ℕ} {hb} {os : Fin 2 → ℕ} {hs}
    (ec : oc = ![h.val, kb.val / 4, kb.val % 4 * 512, 0]) (eb : ob = ![b.val, 0, 0]) (es : os = ![b.val, σ.t.val])
    {hsrc : (blkM σ.C oc hc).view.WordExact} {hdst : (slotM σ.B ob hb).view.WordExact} {hsem}
    (hR : (σ.blk h kb).view.set ⊆ R) :
    iprop(σ.Rest c b ∗ σ.Src c f R)
      ⊢ iprop((σ.Fly c f R b h kb -∗ wp frame (wpE defs 𝒱₀ (c : Thread nD τ) none) Set.univ (k ⟨⟩) Q)
        -∗ wp frame (wpE defs 𝒱₀ (c : Thread nD τ) none) Set.univ
          (.op (.enqueueDma (blkM σ.C oc hc) (.here (slotM σ.B ob hb)) (.dma (strS os hs)) hsrc hdst hsem) k) Q) := by
  subst ec eb es
  unfold Side.Rest Side.Free Side.Src
  iintro ⟨⟨⟨%fd, Hd⟩, Hv⟩, Hs⟩ Hk
  ihave Hs' := (pointsTo_split_subset hR).1 $$ Hs
  icases Hs' with ⟨Hb, Hr⟩
  iapply (wp_dmaLocal EC 𝒱₀ (c : Thread nD τ) none () (σ.slot b).view.dmaCredit rfl (View.dmaCredit_pos _ (by decide)) (Finset.Subset.refl _)) $$ [Hb Hd Hv]
  · isplitl [Hb]; · iexact Hb
    isplitl [Hd]; · iexact Hd
    iexact Hv
  iintro HF
  iapply Hk
  unfold Side.Fly
  isplitl [HF]
  · iapply (Transfers.Flight_mono EC _ (BIClass.sep_mono (filled σ c f b h kb fd) (Entails.refl _))) $$ HF
  isplitr; · ipureintro; exact hR
  iexact Hr

/-- A copy waited for. -/
theorem wp_arrive {α : Type} {Q : α → sProp 𝕄} {k : PUnit → Prog (TpuEff nD τ sig (Elt F) Λ₀ .tc) α} (b : Fin 2) (h : Fin 8) (kb : Fin 16) {L : GSem nD τ sig → Finset Unit} {lv : GSem nD τ sig → Unit → ℕ} {O : CellTallies nD τ sig Unit}
    (hO : (levAts L lv : sProp 𝕄) ⊢ MayWait (c : Thread nD τ) (.dma (σ.sem b)) () O)
    {ob : Fin 3 → ℕ} {hb} {os : Fin 2 → ℕ} {hs} (eb : ob = ![b.val, 0, 0]) (es : os = ![b.val, σ.t.val])
    {sp' : Space} {s' : Shape} {e' : EltTy} {srcw : Memref sig .tc sp' s' e'} {hsrc : srcw.view.WordExact} {hdst : (slotM σ.B ob hb).view.WordExact} :
    iprop(σ.Fly c f R b h kb ∗ Owe c L lv O)
      ⊢ iprop(((σ.Full c b (σ.val c f h kb) ∗ semVal ((c : Thread nD τ), .dma (σ.sem b)) 0 ∗ σ.Src c f R ∗ Owe c L lv O)
          -∗ wp frame (wpE defs 𝒱₀ (c : Thread nD τ) none) Set.univ (k ⟨⟩) Q)
        -∗ wp frame (wpE defs 𝒱₀ (c : Thread nD τ) none) Set.univ
          (.op (.waitDma2 (strS os hs) srcw (slotM σ.B ob hb) hsrc hdst) k) Q) := by
  subst eb es
  unfold Side.Fly Owe
  iintro ⟨⟨HF, %hR, Hr⟩, #HL, %W, HO⟩ Hk
  iapply (wp_waitLocalO EC 𝒱₀ (c : Thread nD τ) none () rfl) $$ [HF HO]
  · isplitl [HF]; · iexact HF
    isplitl [HO]; · iexact HO
    iapply hO; iexact HL
  iintro ⟨⟨Hd, Hs⟩, Hv, HO⟩
  iapply Hk
  isplitl [Hd]; · iexact Hd
  isplitl [Hv]; · iexact Hv
  isplitl [Hs Hr]
  · unfold Side.Src
    iapply (pointsTo_split_subset hR).2
    isplitl [Hs] <;> iassumption
  isplitr; · iexact HL
  iexists _; iexact HO

/-- A slot read. -/
theorem wp_look {α : Type} {Q : α → sProp 𝕄} (b : Fin 2) (Y : Vec F S1x512x128 .bf16) {ob : Fin 3 → ℕ} {hb : ∀ a, ob a + S1x512x128.size a ≤ S2x512x128.size a} (eb : ob = ![b.val, 0, 0]) {hl}
    {kk : Vec F S1x512x128 .bf16 → Prog (TpuEff nD τ sig (Elt F) Λ₀ .tc) α} :
    (σ.Full c b Y : sProp 𝕄)
      ⊢ iprop((σ.Full c b Y -∗ wp frame (wpE defs 𝒱₀ (c : Thread nD τ) none) Set.univ (kk Y) Q)
        -∗ wp frame (wpE defs 𝒱₀ (c : Thread nD τ) none) Set.univ
          (.op (.load σ.B (Rect.unit (s := S2x512x128) ob S1x512x128.size hb).toLoadRect hl) kk) Q) := by
  subst eb
  unfold Side.Full
  iintro ⟨%g, %hg, H⟩ Hk
  iapply (wp_load_rect 𝒱₀ (c : Thread nD τ) none Set.univ (m := σ.B) (r := Rect.unit (s := S2x512x128) ![b.val, 0, 0] S1x512x128.size (ob_inb b)) (S := (σ.slot b).view.set) (by rw [View.set_reshape])) $$ H
  iintro H
  subst hg
  iapply Hk
  iexists g
  isplitr
  swap
  · iexact H
  ipureintro; rfl

end Steps

/-! ## The two sides together -/

abbrev kcM : Memref sig .tc .hbm S8x4x2048x128 .bf16 := Memref.whole main_v10_1
abbrev vcM : Memref sig .tc .hbm S8x4x2048x128 .bf16 := Memref.whole main_v10_2
abbrev kbM : Memref sig .tc .vmem S2x512x128 .bf16 := Memref.whole cc0_scratch0
abbrev vbM : Memref sig .tc .vmem S2x512x128 .bf16 := Memref.whole cc0_scratch1

abbrev sK : Side := ⟨kcM, kbM, 0⟩
abbrev sV : Side := ⟨vcM, vbM, 1⟩

/-- The contents of a gathered array. -/
abbrev Arr (F : FTy → Type) : Type := S8x4x2048x128.Idx → Elt F .bf16

/-- The slot of the block at trip `i` of a loop of head `h`. -/
def slotAt (h : Fin 8) (i : ℕ) : Fin 2 := ⟨(h.val + i) % 2, Nat.mod_lt _ (by decide)⟩
/-- The block of trip `i` of a loop that starts at block `o`. -/
def blockAt (o i : ℕ) : Fin 16 := ⟨(o + i) % 16, Nat.mod_lt _ (by decide)⟩

theorem slotAt_succ (h : Fin 8) (i : ℕ) : 1 - slotAt h i = slotAt h (i + 1) := by
  have : ∀ a : Fin 2, 1 - a = ⟨(a.val + 1) % 2, Nat.mod_lt _ (by decide)⟩ := by decide
  rw [this]; apply Fin.ext; show ((h.val + i) % 2 + 1) % 2 = (h.val + (i + 1)) % 2; omega
theorem slotAt_succ' (h : Fin 8) (i : ℕ) : slotAt h (i + 1 + 1) = slotAt h i := by
  apply Fin.ext; show (h.val + (i + 1 + 1)) % 2 = (h.val + i) % 2; omega

/-- Block `k` of head `h` lies in `R`. -/
def Within (R : Finset S8x4x2048x128.Idx) (h : Fin 8) (k : Fin 16) : Prop :=
  (Rect.unit (s := S8x4x2048x128) ![h.val, k.val / 4, k.val % 4 * 512, 0] S1x1x512x128.size (oc_inb h k)).set ⊆ R

theorem blk_set_K (h : Fin 8) (k : Fin 16) : (sK.blk h k).view.set = (Rect.unit (s := S8x4x2048x128) ![h.val, k.val / 4, k.val % 4 * 512, 0] S1x1x512x128.size (oc_inb h k)).set := by
  rw [View.set_reshape]; exact View.set_slice_whole _ _
theorem blk_set_V (h : Fin 8) (k : Fin 16) : (sV.blk h k).view.set = (Rect.unit (s := S8x4x2048x128) ![h.val, k.val / 4, k.val % 4 * 512, 0] S1x1x512x128.size (oc_inb h k)).set := by
  rw [View.set_reshape]; exact View.set_slice_whole _ _
theorem sub_K {R : Finset S8x4x2048x128.Idx} {h : Fin 8} {k : Fin 16} (hw : Within R h k) : (sK.blk h k).view.set ⊆ (show Finset (sK.blk h k).view.ty.Idx from R) := by
  rw [blk_set_K]; exact hw
theorem sub_V {R : Finset S8x4x2048x128.Idx} {h : Fin 8} {k : Fin 16} (hw : Within R h k) : (sV.blk h k).view.set ⊆ (show Finset (sV.blk h k).view.ty.Idx from R) := by
  rw [blk_set_V]; exact hw

/-- Nothing on its way on either side. -/
def Quiet (c : Dev nD) (K V : Arr F) (R : Finset S8x4x2048x128.Idx) : sProp 𝕄 := iprop(sK.Idle c K R ∗ sV.Idle c V R)
/-- The block of trip `i` on its way on both sides. -/
def Busy (c : Dev nD) (K V : Arr F) (R : Finset S8x4x2048x128.Idx) (h : Fin 8) (o i : ℕ) : sProp 𝕄 :=
  iprop((sK.Fly c K R (slotAt h i) h (blockAt o i) ∗ sK.Rest c (slotAt h (i + 1))) ∗ sV.Fly c V R (slotAt h i) h (blockAt o i) ∗ sV.Rest c (slotAt h (i + 1)))

/-- A trip of a stream loop: both blocks waited for, the next two started where there are more, both slots read. -/
theorem wp_trip (c : Dev nD) (K V : Arr F) (R : Finset S8x4x2048x128.Idx) (h : Fin 8) (o i : ℕ)
    {L : GSem nD τ sig → Finset Unit} {lv : GSem nD τ sig → Unit → ℕ} {O : CellTallies nD τ sig Unit}
    (hO : ∀ o h, (levAts L lv : sProp 𝕄) ⊢ MayWait (c : Thread nD τ) (.dma (strS o h)) () O)
    {β : Type} {g : Vec F S1x512x128 .bf16 → Vec F S1x512x128 .bf16 → β}
    {p : Prop} [Decidable p]
    {o1 : Fin 2 → ℕ} {h1} (e1 : o1 = ![(slotAt h i).val, 0]) {o2 : Fin 2 → ℕ} {h2} (e2 : o2 = ![(slotAt h i).val, 1])
    {o3 : Fin 3 → ℕ} {h3} (e3 : o3 = ![(slotAt h i).val, 0, 0])
    {sp1 sp2 : Space} {s1 s2 : Shape} {y1 y2 : EltTy} {src1 : Memref sig .tc sp1 s1 y1} {src2 : Memref sig .tc sp2 s2 y2} {x1 x2 x3 x4}
    {o4 o5 : Fin 2 → ℕ} {h4 : p → ∀ a, o4 a + S1x1.size a ≤ S2x2.size a} {h5 : p → ∀ a, o5 a + S1x1.size a ≤ S2x2.size a}
    {o6 : Fin 3 → ℕ} {h6 : p → ∀ a, o6 a + S1x512x128.size a ≤ S2x512x128.size a}
    {o7 : Fin 4 → ℕ} {h7 : p → ∀ a, o7 a + S1x1x512x128.size a ≤ S8x4x2048x128.size a}
    (e4 : p → o4 = ![(slotAt h (i + 1)).val, 0]) (e5 : p → o5 = ![(slotAt h (i + 1)).val, 1]) (e6 : p → o6 = ![(slotAt h (i + 1)).val, 0, 0])
    (e7 : p → o7 = ![h.val, (blockAt o (i + 1)).val / 4, (blockAt o (i + 1)).val % 4 * 512, 0])
    {x5 : ∀ hp : p, (blkM kcM o7 (h7 hp)).view.WordExact} {x6 : ∀ hp : p, (slotM kbM o6 (h6 hp)).view.WordExact}
    {x7 : ∀ hp : p, DmaTarget.Typed (nD := nD) (τ := τ) .hbm (.dma (strS o4 (h4 hp))) (.here (p := .tc) (slotM kbM o6 (h6 hp)))}
    {x8 : ∀ hp : p, (blkM vcM o7 (h7 hp)).view.WordExact} {x9 : ∀ hp : p, (slotM vbM o6 (h6 hp)).view.WordExact}
    {x10 : ∀ hp : p, DmaTarget.Typed (nD := nD) (τ := τ) .hbm (.dma (strS o5 (h5 hp))) (.here (p := .tc) (slotM vbM o6 (h6 hp)))}
    (hR : p → Within R h (blockAt o (i + 1)))
    {o8 : Fin 3 → ℕ} {h8 : ∀ a, o8 a + S1x512x128.size a ≤ S2x512x128.size a} (e8 : o8 = ![(slotAt h i).val, 0, 0]) {x11 x12 x13 x14} :
    iprop(Busy c K V R h o i ∗ Owe c L lv O)
      ⊢ wp frame (wpE defs 𝒱₀ (c : Thread nD τ) none) Set.univ
          (.op (.waitDma2 (strS o1 h1) src1 (slotM kbM o3 h3) x1 x2) fun _ => .op (.waitDma2 (strS o2 h2) src2 (slotM vbM o3 h3) x3 x4) fun _ =>
            if hp : p then
              .op (.enqueueDma (blkM kcM o7 (h7 hp)) (.here (slotM kbM o6 (h6 hp))) (.dma (strS o4 (h4 hp))) (x5 hp) (x6 hp) (x7 hp)) fun _ =>
              .op (.enqueueDma (blkM vcM o7 (h7 hp)) (.here (slotM vbM o6 (h6 hp))) (.dma (strS o5 (h5 hp))) (x8 hp) (x9 hp) (x10 hp)) fun _ =>
              .op (.load kbM (Rect.unit (s := S2x512x128) o8 S1x512x128.size h8).toLoadRect x11) fun kv =>
              .op (.load vbM (Rect.unit (s := S2x512x128) o8 S1x512x128.size h8).toLoadRect x12) fun vv => .ret (g kv vv)
            else
              .op (.load kbM (Rect.unit (s := S2x512x128) o8 S1x512x128.size h8).toLoadRect x13) fun kv =>
              .op (.load vbM (Rect.unit (s := S2x512x128) o8 S1x512x128.size h8).toLoadRect x14) fun vv => .ret (g kv vv))
          fun r => iprop(⌜r = g (sK.val c K h (blockAt o i)) (sV.val c V h (blockAt o i))⌝
            ∗ (if p then Busy c K V R h o (i + 1) else Quiet c K V R) ∗ Owe c L lv O) := by
  unfold Busy
  iintro ⟨⟨⟨HK, HK'⟩, HV, HV'⟩, HO⟩
  iapply (wp_arrive sK c K R (slotAt h i) h (blockAt o i) (hO _ _) e3 e1) $$ [HK HO]
  · isplitl [HK] <;> iassumption
  iintro ⟨HfK, HvK, HsK, HO⟩
  iapply (wp_arrive sV c V R (slotAt h i) h (blockAt o i) (hO _ _) e3 e2) $$ [HV HO]
  · isplitl [HV] <;> iassumption
  iintro ⟨HfV, HvV, HsV, HO⟩
  by_cases hp : p
  · rw [dif_pos hp]
    iapply (wp_start sK c K R (slotAt h (i + 1)) h (blockAt o (i + 1)) (e7 hp) (e6 hp) (e4 hp) (sub_K (hR hp))) $$ [HK' HsK]
    · isplitl [HK'] <;> iassumption
    iintro HK
    iapply (wp_start sV c V R (slotAt h (i + 1)) h (blockAt o (i + 1)) (e7 hp) (e6 hp) (e5 hp) (sub_V (hR hp))) $$ [HV' HsV]
    · isplitl [HV'] <;> iassumption
    iintro HV
    iapply (wp_look sK c (slotAt h i) _ e8) $$ HfK
    iintro HfK
    iapply (wp_look sV c (slotAt h i) _ e8) $$ HfV
    iintro HfV
    rw [wp_ret]
    imodintro
    isplitr; · ipureintro; rfl
    rw [if_pos hp, slotAt_succ']
    ihave HfK := (sK.full_free c (slotAt h i) _) $$ HfK
    ihave HfV := (sV.full_free c (slotAt h i) _) $$ HfV
    unfold Side.Rest
    isplitr [HO]
    swap
    · iexact HO
    isplitl [HK HfK HvK]
    · isplitl [HK]; · iexact HK
      isplitl [HfK] <;> iassumption
    · isplitl [HV]; · iexact HV
      isplitl [HfV] <;> iassumption
  · rw [dif_neg hp]
    iapply (wp_look sK c (slotAt h i) _ e8) $$ HfK
    iintro HfK
    iapply (wp_look sV c (slotAt h i) _ e8) $$ HfV
    iintro HfV
    rw [wp_ret]
    imodintro
    isplitr; · ipureintro; rfl
    rw [if_neg hp]
    ihave HfK := (sK.full_free c (slotAt h i) _) $$ HfK
    ihave HfV := (sV.full_free c (slotAt h i) _) $$ HfV
    isplitr [HO]
    swap
    · iexact HO
    unfold Quiet
    isplitl [HfK HvK HK' HsK]
    · iapply (sK.idle_open c K R (slotAt h i)).2
      rw [slotAt_succ h i]
      isplitl [HfK HvK]
      · unfold Side.Rest; isplitl [HfK] <;> iassumption
      isplitl [HK'] <;> iassumption
    · iapply (sV.idle_open c V R (slotAt h i)).2
      rw [slotAt_succ h i]
      isplitl [HfV HvV]
      · unfold Side.Rest; isplitl [HfV] <;> iassumption
      isplitl [HV'] <;> iassumption

/-- Where the stream stands before trip `i` of `n`. -/
def At (c : Dev nD) (K V : Arr F) (R : Finset S8x4x2048x128.Idx) (h : Fin 8) (o n i : ℕ) : sProp 𝕄 :=
  if i < n then Busy c K V R h o i else Quiet c K V R

theorem stand (c : Dev nD) (K V : Arr F) (R : Finset S8x4x2048x128.Idx) (h : Fin 8) (o : ℕ)
    {L : GSem nD τ sig → Finset Unit} {lv : GSem nD τ sig → Unit → ℕ} {O : CellTallies nD τ sig Unit} {n i : ℕ} {p : Prop} [Decidable p] (hp : p ↔ i + 1 < n)
    {P P' : Prop} (hP : P → P') :
    iprop(⌜P⌝ ∗ (if p then Busy c K V R h o (i + 1) else Quiet c K V R) ∗ Owe c L lv O) ⊢ iprop(⌜P'⌝ ∗ At c K V R h o n (i + 1) ∗ Owe (F := F) c L lv O) := by
  iintro ⟨%h1, HS, HO⟩
  isplitr; · ipureintro; exact hP h1
  isplitl [HS]
  · by_cases hq : p
    · ihave HS := (Entails.of_eq (show (if p then Busy c K V R h o (i + 1) else Quiet c K V R : sProp 𝕄) = At c K V R h o n (i + 1) from
        (if_pos hq).trans (if_pos (hp.1 hq)).symm)) $$ HS
      iexact HS
    · ihave HS := (Entails.of_eq (show (if p then Busy c K V R h o (i + 1) else Quiet c K V R : sProp 𝕄) = At c K V R h o n (i + 1) from
        (if_neg hq).trans (if_neg (fun hh => hq (hp.2 hh))).symm)) $$ HS
      iexact HS
  iexact HO

/-- A stream loop whose trips are as `wp_trip` says. -/
theorem wp_stream (c : Dev nD) (K V : Arr F) (R : Finset S8x4x2048x128.Idx) (h : Fin 8) (o : ℕ)
    {L : GSem nD τ sig → Finset Unit} {lv : GSem nD τ sig → Unit → ℕ} {O : CellTallies nD τ sig Unit}
    {β γ : Type} {l : Scf.Loop 32} {hok} {init : β} {body : Fin l.trips → β → Prog (TpuEff nD τ sig (Elt F) Λ₀ .tc) β}
    (p : Fin l.trips → Prop) [∀ t, Decidable (p t)] (hp : ∀ t, p t ↔ t.val + 1 < l.trips) (h0 : 0 < l.trips)
    (g : ℕ → β → Vec F S1x512x128 .bf16 → Vec F S1x512x128 .bf16 → β) (run : ℕ → β) (hr0 : run 0 = init)
    (hr : ∀ i, run (i + 1) = g i (run i) (sK.val c K h (blockAt o i)) (sV.val c V h (blockAt o i)))
    (hbody : ∀ (t : Fin l.trips) (a : β), iprop(Busy c K V R h o t.val ∗ Owe c L lv O)
      ⊢ wp frame (wpE defs 𝒱₀ (c : Thread nD τ) none) Set.univ (body t a)
          fun r => iprop(⌜r = g t.val a (sK.val c K h (blockAt o t.val)) (sV.val c V h (blockAt o t.val))⌝
            ∗ (if p t then Busy c K V R h o (t.val + 1) else Quiet c K V R) ∗ Owe c L lv O))
    {kk : β → Prog (TpuEff nD τ sig (Elt F) Λ₀ .tc) γ} {Q : γ → sProp 𝕄} :
    iprop(Busy c K V R h o 0 ∗ Owe c L lv O)
      ⊢ iprop(((Quiet c K V R ∗ Owe c L lv O) -∗ wp frame (wpE defs 𝒱₀ (c : Thread nD τ) none) Set.univ (kk (run l.trips)) Q)
        -∗ wp frame (wpE defs 𝒱₀ (c : Thread nD τ) none) Set.univ (Scf.Loop.for l hok init body >>= kk) Q) := by
  have hl := Scf.wp_for_bind frame (wpE defs 𝒱₀ (c : Thread nD τ) none) Set.univ _ _ _ hok init body
    (fun i a => iprop(⌜a = run i⌝ ∗ At c K V R h o l.trips i ∗ Owe c L lv O)) (fun t a => by
      iintro ⟨%ha, HS, HO⟩
      subst ha
      ihave HS := (Entails.of_eq (show (At c K V R h o l.trips t.val : sProp 𝕄) = Busy c K V R h o t.val from if_pos t.isLt)) $$ HS
      iapply ((hbody t (run t.val)).trans (wp_mono _ _ _ fun r => stand c K V R h o (hp t) (fun hr' => (hr t.val).symm ▸ hr')))
      isplitl [HS] <;> iassumption) (kk := kk) (Q := Q)
  iintro ⟨HS, HO⟩ Hk
  iapply hl $$ [HS HO]
  · isplitr; · ipureintro; exact hr0.symm
    isplitl [HS]
    · unfold At; rw [if_pos h0]; iexact HS
    iexact HO
  iintro %a ⟨%ha, HS, HO⟩
  subst ha
  iapply Hk
  isplitl [HS]
  · ihave HS := (Entails.of_eq (show (At c K V R h o l.trips l.trips : sProp 𝕄) = Quiet c K V R from if_neg (Nat.lt_irrefl _))) $$ HS
    iexact HS
  iexact HO

end Cert.Attn

end
-- ==== Proof.Loops.lean ====
/-
  The sixteen stream loops of the attention: what each computes, head by head, out of the blocks it is given.
-/
module

public import proofs.«01_k».proof.Proof.Stream

@[expose] public section

noncomputable section

namespace Cert.Attn

open Cert.KernelIdeal Cert.KernelIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ UU ℕ

abbrev xM : Memref sig .tc .vmem S1x2048x1024 .bf16 := Memref.whole cc0_stg0_0
abbrev qM : Memref sig .tc .vmem S1024x1024 .bf16 := Memref.whole cc0_stg1_0
abbrev wM : Memref sig .tc .vmem S1024x1024 .bf16 := Memref.whole cc0_stg2_0
abbrev oM : Memref sig .tc .vmem S2048x1024 .f32 := Memref.whole cc0_stg3_0
abbrev kM : Memref sig .tc .hbm S32x2048x128 .bf16 := Memref.whole main_v6
abbrev vM : Memref sig .tc .hbm S32x2048x128 .bf16 := Memref.whole main_v9

/-! ## The mathematics of a loop -/

/-- What a loop over all rows carries: running maximum, running sum, weighted values. -/
abbrev StA (F : FTy → Type) : Type := FVec F S2048x1 .f32 × FVec F S2048x1 .f32 × FVec F S2048x128 .f32
/-- The same for the first 32 rows. -/
abbrev StB (F : FTy → Type) : Type := FVec F S32x1 .f32 × FVec F S32x1 .f32 × FVec F S32x128 .f32
abbrev Blk (F : FTy → Type) : Type := Vec F S1x512x128 .bf16

def initA : StA F := (k0_pay35, k0_pay36, k0_pay37)
def stepA (q : FVec F S2048x128 .bf16) (i : ℕ) (a : StA F) (k v : Blk F) : StA F :=
  (k0_pay3 q a.1 (Scf.iv 0#32 1#32 i) k,
    k0_pay40 a.1 a.2.1 (k0_pay3 q a.1 (Scf.iv 0#32 1#32 i) k) (k0_pay4 q a.1 (Scf.iv 0#32 1#32 i) k),
    k0_pay41 a.1 a.2.2 (k0_pay1 v) (k0_pay3 q a.1 (Scf.iv 0#32 1#32 i) k) (k0_pay4 q a.1 (Scf.iv 0#32 1#32 i) k))
def runA (q : FVec F S2048x128 .bf16) (kv vv : ℕ → Blk F) : ℕ → StA F
  | 0 => initA
  | i + 1 => stepA q i (runA q kv vv i) (kv i) (vv i)
def initB : StB F := (k0_pay168, k0_pay169, k0_pay170)
def stepB (q : FVec F S32x128 .bf16) (a : StB F) (k v : Blk F) : StB F :=
  (k0_pay183 q a.1 k, k0_pay186 q a.1 a.2.1 k, k0_pay187 q a.1 a.2.2 k v)
def runB (q : FVec F S32x128 .bf16) (kv vv : ℕ → Blk F) : ℕ → StB F
  | 0 => initB
  | i + 1 => stepB q (runB q kv vv i) (kv i) (vv i)

theorem qA_ok (h : Fin 8) : Shape.Slices S2048x1024 ![0, 128 * h.val] S2048x128 := by revert h; decide
theorem qB_ok (h : Fin 8) : Shape.Slices S2048x1024 ![0, 128 * h.val] S32x128 := by revert h; decide
/-- The queries of head `h`. -/
def qA (h : Fin 8) (q : FVec F S2048x1024 .bf16) : FVec F S2048x128 .bf16 := extractStridedSlice S2048x128 ![0, 128 * h.val] q (qA_ok h)
/-- The queries of head `h`, first 32 rows. -/
def qB (h : Fin 8) (q : FVec F S2048x1024 .bf16) : FVec F S32x128 .bf16 := extractStridedSlice S32x128 ![0, 128 * h.val] q (qB_ok h)

/-- The blocks of head `h` from block `o` on. -/
def kAt (c : Dev nD) (K : Arr F) (h : Fin 8) (o i : ℕ) : Blk F := sK.val c K h (blockAt o i)
def vAt (c : Dev nD) (V : Arr F) (h : Fin 8) (o i : ℕ) : Blk F := sV.val c V h (blockAt o i)

/-! ## The loops -/

variable {defs : Defs nD τ sig (Elt F) Λ₀}

/-- A step of the loops over all rows, as every one of them writes it. -/
theorem wp_loopA (c : Dev nD) (K V : Arr F) (R : Finset S8x4x2048x128.Idx) (h : Fin 8)
    {L : GSem nD τ sig → Finset Unit} {lv : GSem nD τ sig → Unit → ℕ} {O : CellTallies nD τ sig Unit}
    {γ : Type} {l : Scf.Loop 32} {hok} {init : StA F} {body : Fin l.trips → StA F → Prog (TpuEff nD τ sig (Elt F) Λ₀ .tc) (StA F)}
    (p : Fin l.trips → Prop) [∀ t, Decidable (p t)] (hl : l.trips = 5) (hp : ∀ t, p t ↔ t.val + 1 < l.trips) (q : FVec F S2048x128 .bf16) (hi : init = initA)
    (hbody : ∀ (t : Fin l.trips) (a : StA F), iprop(Busy c K V R h 0 t.val ∗ Owe c L lv O)
      ⊢ wp frame (wpE defs 𝒱₀ (c : Thread nD τ) none) Set.univ (body t a)
          fun r => iprop(⌜r = stepA q t.val a (sK.val c K h (blockAt 0 t.val)) (sV.val c V h (blockAt 0 t.val))⌝
            ∗ (if p t then Busy c K V R h 0 (t.val + 1) else Quiet c K V R) ∗ Owe c L lv O))
    {kk : StA F → Prog (TpuEff nD τ sig (Elt F) Λ₀ .tc) γ} {Q : γ → sProp 𝕄} :
    iprop(Busy c K V R h 0 0 ∗ Owe c L lv O)
      ⊢ iprop(((Quiet c K V R ∗ Owe c L lv O) -∗ wp frame (wpE defs 𝒱₀ (c : Thread nD τ) none) Set.univ (kk (runA q (kAt c K h 0) (vAt c V h 0) 5)) Q)
        -∗ wp frame (wpE defs 𝒱₀ (c : Thread nD τ) none) Set.univ (Scf.Loop.for l hok init body >>= kk) Q) := by
  rw [← hl]
  exact wp_stream c K V R h 0 p hp (by omega) (fun i a k v => stepA q i a k v) (runA q (kAt c K h 0) (vAt c V h 0)) hi.symm (fun _ => rfl) hbody

theorem wp_loopB (c : Dev nD) (K V : Arr F) (R : Finset S8x4x2048x128.Idx) (h : Fin 8)
    {L : GSem nD τ sig → Finset Unit} {lv : GSem nD τ sig → Unit → ℕ} {O : CellTallies nD τ sig Unit}
    {γ : Type} {l : Scf.Loop 32} {hok} {init : StB F} {body : Fin l.trips → StB F → Prog (TpuEff nD τ sig (Elt F) Λ₀ .tc) (StB F)}
    (p : Fin l.trips → Prop) [∀ t, Decidable (p t)] (hl : l.trips = 11) (hp : ∀ t, p t ↔ t.val + 1 < l.trips) (q : FVec F S32x128 .bf16) (hi : init = initB)
    (hbody : ∀ (t : Fin l.trips) (a : StB F), iprop(Busy c K V R h 5 t.val ∗ Owe c L lv O)
      ⊢ wp frame (wpE defs 𝒱₀ (c : Thread nD τ) none) Set.univ (body t a)
          fun r => iprop(⌜r = stepB q a (sK.val c K h (blockAt 5 t.val)) (sV.val c V h (blockAt 5 t.val))⌝
            ∗ (if p t then Busy c K V R h 5 (t.val + 1) else Quiet c K V R) ∗ Owe c L lv O))
    {kk : StB F → Prog (TpuEff nD τ sig (Elt F) Λ₀ .tc) γ} {Q : γ → sProp 𝕄} :
    iprop(Busy c K V R h 5 0 ∗ Owe c L lv O)
      ⊢ iprop(((Quiet c K V R ∗ Owe c L lv O) -∗ wp frame (wpE defs 𝒱₀ (c : Thread nD τ) none) Set.univ (kk (runB q (kAt c K h 5) (vAt c V h 5) 11)) Q)
        -∗ wp frame (wpE defs 𝒱₀ (c : Thread nD τ) none) Set.univ (Scf.Loop.for l hok init body >>= kk) Q) := by
  rw [← hl]
  exact wp_stream c K V R h 5 p hp (by omega) (fun _ a k v => stepB q a k v) (runB q (kAt c K h 5) (vAt c V h 5)) hi.symm (fun _ => rfl) hbody

theorem dite_bind {Eff : Type → Type} {α β : Type} {p : Prop} [Decidable p] (x : p → Prog Eff α) (y : ¬ p → Prog Eff α) (k : α → Prog Eff β) :
    ((dite p x y) >>= k) = dite p (fun h => x h >>= k) (fun h => y h >>= k) := by
  by_cases h : p <;> simp only [h, dite_true, dite_false]

/-- Where a loop's trips take their semaphores, slots and blocks. -/
def Course (l : Scf.Loop 32) (h : Fin 8) (o : ℕ) (p : Fin l.trips → BitVec 1) (o1 : Fin l.trips → Fin 2 → ℕ) (o2 : Fin l.trips → Fin 3 → ℕ)
    (o3 o4 : Fin l.trips → Fin 2 → ℕ) (o5 : Fin l.trips → Fin 3 → ℕ) (o6 : Fin l.trips → Fin 4 → ℕ) (o7 : Fin l.trips → Fin 2 → ℕ) (o8 : Fin l.trips → Fin 3 → ℕ) : Prop :=
  ∀ t, (p t = 1#1 ↔ t.val + 1 < l.trips) ∧ o1 t = ![(slotAt h t.val).val, 0] ∧ o2 t = ![(slotAt h t.val).val, 0, 0] ∧ o3 t = ![(slotAt h t.val).val, 1]
    ∧ (p t = 1#1 → o4 t = ![(slotAt h (t.val + 1)).val, 0] ∧ o5 t = ![(slotAt h (t.val + 1)).val, 0, 0]
      ∧ o6 t = ![h.val, (blockAt o (t.val + 1)).val / 4, (blockAt o (t.val + 1)).val % 4 * 512, 0] ∧ o7 t = ![(slotAt h (t.val + 1)).val, 1])
    ∧ o8 t = ![(slotAt h t.val).val, 0, 0]

theorem course1 : Course k0_t1_loop 0 0 k0_cond9 k0_off14 k0_off15 k0_off17 k0_off18 k0_off19 k0_off20 k0_off21 k0_off22 := by unfold Course; decide
set_option maxRecDepth 65536 in
theorem wp_t1 (c : Dev nD) (K V : Arr F) (R : Finset S8x4x2048x128.Idx) {L : GSem nD τ sig → Finset Unit} {lv : GSem nD τ sig → Unit → ℕ} {O : CellTallies nD τ sig Unit}
    (hO : ∀ o h, (levAts L lv : sProp 𝕄) ⊢ MayWait (c : Thread nD τ) (.dma (strS o h)) () O) (hR : ∀ i < 5, Within R 0 (blockAt 0 i)) (v2 : BitVec 32) (v161 : FVec F S2048x1024 .bf16) (v178 : BitVec 32) (c0_i32_153 : BitVec 32) {γ : Type} {kk : StA F → Prog (TpuEff nD τ sig (Elt F) Λ₀ .tc) γ} {Q : γ → sProp 𝕄} {init : StA F} (hi : init = initA) :
    iprop(Busy c K V R 0 0 0 ∗ Owe c L lv O)
      ⊢ iprop(((Quiet c K V R ∗ Owe c L lv O) -∗ wp frame (wpE defs 𝒱₀ (c : Thread nD τ) none) Set.univ (kk (runA (k0_pay34 v161) (kAt c K 0 0) (vAt c V 0 0) 5)) Q)
        -∗ wp frame (wpE defs 𝒱₀ (c : Thread nD τ) none) Set.univ (Scf.Loop.for k0_t1_loop k0_t1_ok init (k0_t1_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 c v2 v161 v178 c0_i32_153) >>= kk) Q) := by
  refine wp_loopA c K V R 0 (fun t => k0_cond9 t = 1#1) (by decide) (fun t => (course1 t).1) (k0_pay34 v161) hi fun t a => ?_
  obtain ⟨hp, e1, e3, e2, e4, e8⟩ := course1 t
  unfold k0_t1_body
  simp only [k0_part2_eq_skeleton, k0_part3_eq_skeleton]
  unfold k0_part2_skel k0_part3_skel
  simp only [k0_part1_eq_skeleton]
  unfold k0_part1_skel
  simp only [Prog.lift, Prog.bind_op, Prog.bind_ret, Prog.pure_eq_ret, dite_bind]
  exact wp_trip c K V R 0 0 t.val hO (g := stepA (k0_pay34 v161) t.val a) e1 e2 e3 (fun hq => (e4 hq).1) (fun hq => (e4 hq).2.2.2) (fun hq => (e4 hq).2.1) (fun hq => (e4 hq).2.2.1)
    (fun hq => hR _ (hp.1 hq)) e8

theorem course2 : Course k0_t2_loop 1 0 k0_cond10 k0_off23 k0_off24 k0_off26 k0_off27 k0_off28 k0_off29 k0_off30 k0_off31 := by unfold Course; decide
set_option maxRecDepth 65536 in
theorem wp_t2 (c : Dev nD) (K V : Arr F) (R : Finset S8x4x2048x128.Idx) {L : GSem nD τ sig → Finset Unit} {lv : GSem nD τ sig → Unit → ℕ} {O : CellTallies nD τ sig Unit}
    (hO : ∀ o h, (levAts L lv : sProp 𝕄) ⊢ MayWait (c : Thread nD τ) (.dma (strS o h)) () O) (hR : ∀ i < 5, Within R 1 (blockAt 0 i)) (v161 : FVec F S2048x1024 .bf16) (v221 : FVec F S2048x128 .bf16) {γ : Type} {kk : StA F → Prog (TpuEff nD τ sig (Elt F) Λ₀ .tc) γ} {Q : γ → sProp 𝕄} {init : StA F} (hi : init = initA) :
    iprop(Busy c K V R 1 0 0 ∗ Owe c L lv O)
      ⊢ iprop(((Quiet c K V R ∗ Owe c L lv O) -∗ wp frame (wpE defs 𝒱₀ (c : Thread nD τ) none) Set.univ (kk (runA (k0_pay50 v161) (kAt c K 1 0) (vAt c V 1 0) 5)) Q)
        -∗ wp frame (wpE defs 𝒱₀ (c : Thread nD τ) none) Set.univ (Scf.Loop.for k0_t2_loop k0_t2_ok init (k0_t2_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v221) >>= kk) Q) := by
  refine wp_loopA c K V R 1 (fun t => k0_cond10 t = 1#1) (by decide) (fun t => (course2 t).1) (k0_pay50 v161) hi fun t a => ?_
  obtain ⟨hp, e1, e3, e2, e4, e8⟩ := course2 t
  unfold k0_t2_body
  simp only [k0_part5_eq_skeleton, k0_part6_eq_skeleton]
  unfold k0_part5_skel k0_part6_skel
  simp only [k0_part4_eq_skeleton]
  unfold k0_part4_skel
  simp only [Prog.lift, Prog.bind_op, Prog.bind_ret, Prog.pure_eq_ret, dite_bind]
  rw [show stepA (k0_pay50 v161) t.val a = fun k v => (k0_pay7 (k0_pay50 v161) a.1 (Scf.iv 0#32 1#32 t.val) k, k0_pay56 a.1 a.2.1 (k0_pay7 (k0_pay50 v161) a.1 (Scf.iv 0#32 1#32 t.val) k) (k0_pay8 (k0_pay50 v161) a.1 (Scf.iv 0#32 1#32 t.val) k), k0_pay57 a.1 a.2.2 (k0_pay5 v) (k0_pay7 (k0_pay50 v161) a.1 (Scf.iv 0#32 1#32 t.val) k) (k0_pay8 (k0_pay50 v161) a.1 (Scf.iv 0#32 1#32 t.val) k)) from rfl]
  exact wp_trip c K V R 1 0 t.val hO  e1 e2 e3 (fun hq => (e4 hq).1) (fun hq => (e4 hq).2.2.2) (fun hq => (e4 hq).2.1) (fun hq => (e4 hq).2.2.1)
    (fun hq => hR _ (hp.1 hq)) e8

theorem course3 : Course k0_t3_loop 2 0 k0_cond11 k0_off32 k0_off33 k0_off35 k0_off36 k0_off37 k0_off38 k0_off39 k0_off40 := by unfold Course; decide
set_option maxRecDepth 65536 in
theorem wp_t3 (c : Dev nD) (K V : Arr F) (R : Finset S8x4x2048x128.Idx) {L : GSem nD τ sig → Finset Unit} {lv : GSem nD τ sig → Unit → ℕ} {O : CellTallies nD τ sig Unit}
    (hO : ∀ o h, (levAts L lv : sProp 𝕄) ⊢ MayWait (c : Thread nD τ) (.dma (strS o h)) () O) (hR : ∀ i < 5, Within R 2 (blockAt 0 i)) (v161 : FVec F S2048x1024 .bf16) (v265 : FVec F S2048x128 .bf16) (v288 : FVec F S512x1024 .f32) {γ : Type} {kk : StA F → Prog (TpuEff nD τ sig (Elt F) Λ₀ .tc) γ} {Q : γ → sProp 𝕄} {init : StA F} (hi : init = initA) :
    iprop(Busy c K V R 2 0 0 ∗ Owe c L lv O)
      ⊢ iprop(((Quiet c K V R ∗ Owe c L lv O) -∗ wp frame (wpE defs 𝒱₀ (c : Thread nD τ) none) Set.univ (kk (runA (k0_pay66 v161) (kAt c K 2 0) (vAt c V 2 0) 5)) Q)
        -∗ wp frame (wpE defs 𝒱₀ (c : Thread nD τ) none) Set.univ (Scf.Loop.for k0_t3_loop k0_t3_ok init (k0_t3_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v265 v288) >>= kk) Q) := by
  refine wp_loopA c K V R 2 (fun t => k0_cond11 t = 1#1) (by decide) (fun t => (course3 t).1) (k0_pay66 v161) hi fun t a => ?_
  obtain ⟨hp, e1, e3, e2, e4, e8⟩ := course3 t
  unfold k0_t3_body
  simp only [k0_part8_eq_skeleton, k0_part9_eq_skeleton]
  unfold k0_part8_skel k0_part9_skel
  simp only [k0_part7_eq_skeleton]
  unfold k0_part7_skel
  simp only [Prog.lift, Prog.bind_op, Prog.bind_ret, Prog.pure_eq_ret, dite_bind]
  rw [show stepA (k0_pay66 v161) t.val a = fun k v => (k0_pay11 (k0_pay66 v161) a.1 (Scf.iv 0#32 1#32 t.val) k, k0_pay72 a.1 a.2.1 (k0_pay11 (k0_pay66 v161) a.1 (Scf.iv 0#32 1#32 t.val) k) (k0_pay12 (k0_pay66 v161) a.1 (Scf.iv 0#32 1#32 t.val) k), k0_pay73 a.1 a.2.2 (k0_pay9 v) (k0_pay11 (k0_pay66 v161) a.1 (Scf.iv 0#32 1#32 t.val) k) (k0_pay12 (k0_pay66 v161) a.1 (Scf.iv 0#32 1#32 t.val) k)) from rfl]
  exact wp_trip c K V R 2 0 t.val hO  e1 e2 e3 (fun hq => (e4 hq).1) (fun hq => (e4 hq).2.2.2) (fun hq => (e4 hq).2.1) (fun hq => (e4 hq).2.2.1)
    (fun hq => hR _ (hp.1 hq)) e8

theorem course4 : Course k0_t4_loop 3 0 k0_cond12 k0_off41 k0_off42 k0_off44 k0_off45 k0_off46 k0_off47 k0_off48 k0_off49 := by unfold Course; decide
set_option maxRecDepth 65536 in
theorem wp_t4 (c : Dev nD) (K V : Arr F) (R : Finset S8x4x2048x128.Idx) {L : GSem nD τ sig → Finset Unit} {lv : GSem nD τ sig → Unit → ℕ} {O : CellTallies nD τ sig Unit}
    (hO : ∀ o h, (levAts L lv : sProp 𝕄) ⊢ MayWait (c : Thread nD τ) (.dma (strS o h)) () O) (hR : ∀ i < 5, Within R 3 (blockAt 0 i)) (v161 : FVec F S2048x1024 .bf16) (v346 : FVec F S512x128 .bf16) (v347 : Vec F S128x1024 .bf16) {γ : Type} {kk : StA F → Prog (TpuEff nD τ sig (Elt F) Λ₀ .tc) γ} {Q : γ → sProp 𝕄} {init : StA F} (hi : init = initA) :
    iprop(Busy c K V R 3 0 0 ∗ Owe c L lv O)
      ⊢ iprop(((Quiet c K V R ∗ Owe c L lv O) -∗ wp frame (wpE defs 𝒱₀ (c : Thread nD τ) none) Set.univ (kk (runA (k0_pay83 v161) (kAt c K 3 0) (vAt c V 3 0) 5)) Q)
        -∗ wp frame (wpE defs 𝒱₀ (c : Thread nD τ) none) Set.univ (Scf.Loop.for k0_t4_loop k0_t4_ok init (k0_t4_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v346 v347) >>= kk) Q) := by
  refine wp_loopA c K V R 3 (fun t => k0_cond12 t = 1#1) (by decide) (fun t => (course4 t).1) (k0_pay83 v161) hi fun t a => ?_
  obtain ⟨hp, e1, e3, e2, e4, e8⟩ := course4 t
  unfold k0_t4_body
  simp only [k0_part11_eq_skeleton, k0_part12_eq_skeleton]
  unfold k0_part11_skel k0_part12_skel
  simp only [k0_part10_eq_skeleton]
  unfold k0_part10_skel
  simp only [Prog.lift, Prog.bind_op, Prog.bind_ret, Prog.pure_eq_ret, dite_bind]
  rw [show stepA (k0_pay83 v161) t.val a = fun k v => (k0_pay15 (k0_pay83 v161) a.1 (Scf.iv 0#32 1#32 t.val) k, k0_pay89 a.1 a.2.1 (k0_pay15 (k0_pay83 v161) a.1 (Scf.iv 0#32 1#32 t.val) k) (k0_pay16 (k0_pay83 v161) a.1 (Scf.iv 0#32 1#32 t.val) k), k0_pay90 a.1 a.2.2 (k0_pay13 v) (k0_pay15 (k0_pay83 v161) a.1 (Scf.iv 0#32 1#32 t.val) k) (k0_pay16 (k0_pay83 v161) a.1 (Scf.iv 0#32 1#32 t.val) k)) from rfl]
  exact wp_trip c K V R 3 0 t.val hO  e1 e2 e3 (fun hq => (e4 hq).1) (fun hq => (e4 hq).2.2.2) (fun hq => (e4 hq).2.1) (fun hq => (e4 hq).2.2.1)
    (fun hq => hR _ (hp.1 hq)) e8

theorem course5 : Course k0_t5_loop 4 0 k0_cond13 k0_off50 k0_off51 k0_off53 k0_off54 k0_off55 k0_off56 k0_off57 k0_off58 := by unfold Course; decide
set_option maxRecDepth 65536 in
theorem wp_t5 (c : Dev nD) (K V : Arr F) (R : Finset S8x4x2048x128.Idx) {L : GSem nD τ sig → Finset Unit} {lv : GSem nD τ sig → Unit → ℕ} {O : CellTallies nD τ sig Unit}
    (hO : ∀ o h, (levAts L lv : sProp 𝕄) ⊢ MayWait (c : Thread nD τ) (.dma (strS o h)) () O) (hR : ∀ i < 5, Within R 4 (blockAt 0 i)) (v161 : FVec F S2048x1024 .bf16) (v405 : FVec F S512x1024 .f32) {γ : Type} {kk : StA F → Prog (TpuEff nD τ sig (Elt F) Λ₀ .tc) γ} {Q : γ → sProp 𝕄} {init : StA F} (hi : init = initA) :
    iprop(Busy c K V R 4 0 0 ∗ Owe c L lv O)
      ⊢ iprop(((Quiet c K V R ∗ Owe c L lv O) -∗ wp frame (wpE defs 𝒱₀ (c : Thread nD τ) none) Set.univ (kk (runA (k0_pay100 v161) (kAt c K 4 0) (vAt c V 4 0) 5)) Q)
        -∗ wp frame (wpE defs 𝒱₀ (c : Thread nD τ) none) Set.univ (Scf.Loop.for k0_t5_loop k0_t5_ok init (k0_t5_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v405) >>= kk) Q) := by
  refine wp_loopA c K V R 4 (fun t => k0_cond13 t = 1#1) (by decide) (fun t => (course5 t).1) (k0_pay100 v161) hi fun t a => ?_
  obtain ⟨hp, e1, e3, e2, e4, e8⟩ := course5 t
  unfold k0_t5_body
  simp only [k0_part14_eq_skeleton, k0_part15_eq_skeleton]
  unfold k0_part14_skel k0_part15_skel
  simp only [k0_part13_eq_skeleton]
  unfold k0_part13_skel
  simp only [Prog.lift, Prog.bind_op, Prog.bind_ret, Prog.pure_eq_ret, dite_bind]
  rw [show stepA (k0_pay100 v161) t.val a = fun k v => (k0_pay19 (k0_pay100 v161) a.1 (Scf.iv 0#32 1#32 t.val) k, k0_pay106 a.1 a.2.1 (k0_pay19 (k0_pay100 v161) a.1 (Scf.iv 0#32 1#32 t.val) k) (k0_pay20 (k0_pay100 v161) a.1 (Scf.iv 0#32 1#32 t.val) k), k0_pay107 a.1 a.2.2 (k0_pay17 v) (k0_pay19 (k0_pay100 v161) a.1 (Scf.iv 0#32 1#32 t.val) k) (k0_pay20 (k0_pay100 v161) a.1 (Scf.iv 0#32 1#32 t.val) k)) from rfl]
  exact wp_trip c K V R 4 0 t.val hO  e1 e2 e3 (fun hq => (e4 hq).1) (fun hq => (e4 hq).2.2.2) (fun hq => (e4 hq).2.1) (fun hq => (e4 hq).2.2.1)
    (fun hq => hR _ (hp.1 hq)) e8

theorem course6 : Course k0_t6_loop 5 0 k0_cond14 k0_off59 k0_off60 k0_off62 k0_off63 k0_off64 k0_off65 k0_off66 k0_off67 := by unfold Course; decide
set_option maxRecDepth 65536 in
theorem wp_t6 (c : Dev nD) (K V : Arr F) (R : Finset S8x4x2048x128.Idx) {L : GSem nD τ sig → Finset Unit} {lv : GSem nD τ sig → Unit → ℕ} {O : CellTallies nD τ sig Unit}
    (hO : ∀ o h, (levAts L lv : sProp 𝕄) ⊢ MayWait (c : Thread nD τ) (.dma (strS o h)) () O) (hR : ∀ i < 5, Within R 5 (blockAt 0 i)) (v161 : FVec F S2048x1024 .bf16) (v464 : FVec F S512x1024 .f32) {γ : Type} {kk : StA F → Prog (TpuEff nD τ sig (Elt F) Λ₀ .tc) γ} {Q : γ → sProp 𝕄} {init : StA F} (hi : init = initA) :
    iprop(Busy c K V R 5 0 0 ∗ Owe c L lv O)
      ⊢ iprop(((Quiet c K V R ∗ Owe c L lv O) -∗ wp frame (wpE defs 𝒱₀ (c : Thread nD τ) none) Set.univ (kk (runA (k0_pay117 v161) (kAt c K 5 0) (vAt c V 5 0) 5)) Q)
        -∗ wp frame (wpE defs 𝒱₀ (c : Thread nD τ) none) Set.univ (Scf.Loop.for k0_t6_loop k0_t6_ok init (k0_t6_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v464) >>= kk) Q) := by
  refine wp_loopA c K V R 5 (fun t => k0_cond14 t = 1#1) (by decide) (fun t => (course6 t).1) (k0_pay117 v161) hi fun t a => ?_
  obtain ⟨hp, e1, e3, e2, e4, e8⟩ := course6 t
  unfold k0_t6_body
  simp only [k0_part17_eq_skeleton, k0_part18_eq_skeleton]
  unfold k0_part17_skel k0_part18_skel
  simp only [k0_part16_eq_skeleton]
  unfold k0_part16_skel
  simp only [Prog.lift, Prog.bind_op, Prog.bind_ret, Prog.pure_eq_ret, dite_bind]
  rw [show stepA (k0_pay117 v161) t.val a = fun k v => (k0_pay23 (k0_pay117 v161) a.1 (Scf.iv 0#32 1#32 t.val) k, k0_pay123 a.1 a.2.1 (k0_pay23 (k0_pay117 v161) a.1 (Scf.iv 0#32 1#32 t.val) k) (k0_pay24 (k0_pay117 v161) a.1 (Scf.iv 0#32 1#32 t.val) k), k0_pay124 a.1 a.2.2 (k0_pay21 v) (k0_pay23 (k0_pay117 v161) a.1 (Scf.iv 0#32 1#32 t.val) k) (k0_pay24 (k0_pay117 v161) a.1 (Scf.iv 0#32 1#32 t.val) k)) from rfl]
  exact wp_trip c K V R 5 0 t.val hO  e1 e2 e3 (fun hq => (e4 hq).1) (fun hq => (e4 hq).2.2.2) (fun hq => (e4 hq).2.1) (fun hq => (e4 hq).2.2.1)
    (fun hq => hR _ (hp.1 hq)) e8

theorem course7 : Course k0_t7_loop 6 0 k0_cond15 k0_off68 k0_off69 k0_off71 k0_off72 k0_off73 k0_off74 k0_off75 k0_off76 := by unfold Course; decide
set_option maxRecDepth 65536 in
theorem wp_t7 (c : Dev nD) (K V : Arr F) (R : Finset S8x4x2048x128.Idx) {L : GSem nD τ sig → Finset Unit} {lv : GSem nD τ sig → Unit → ℕ} {O : CellTallies nD τ sig Unit}
    (hO : ∀ o h, (levAts L lv : sProp 𝕄) ⊢ MayWait (c : Thread nD τ) (.dma (strS o h)) () O) (hR : ∀ i < 5, Within R 6 (blockAt 0 i)) (v522 : FVec F S2048x128 .bf16) (v523 : FVec F S2048x1 .f32) {γ : Type} {kk : StA F → Prog (TpuEff nD τ sig (Elt F) Λ₀ .tc) γ} {Q : γ → sProp 𝕄} {init : StA F} (hi : init = initA) :
    iprop(Busy c K V R 6 0 0 ∗ Owe c L lv O)
      ⊢ iprop(((Quiet c K V R ∗ Owe c L lv O) -∗ wp frame (wpE defs 𝒱₀ (c : Thread nD τ) none) Set.univ (kk (runA v522 (kAt c K 6 0) (vAt c V 6 0) 5)) Q)
        -∗ wp frame (wpE defs 𝒱₀ (c : Thread nD τ) none) Set.univ (Scf.Loop.for k0_t7_loop k0_t7_ok init (k0_t7_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v522 v523) >>= kk) Q) := by
  refine wp_loopA c K V R 6 (fun t => k0_cond15 t = 1#1) (by decide) (fun t => (course7 t).1) v522 hi fun t a => ?_
  obtain ⟨hp, e1, e3, e2, e4, e8⟩ := course7 t
  unfold k0_t7_body
  simp only [k0_part20_eq_skeleton, k0_part21_eq_skeleton]
  unfold k0_part20_skel k0_part21_skel
  simp only [k0_part19_eq_skeleton]
  unfold k0_part19_skel
  simp only [Prog.lift, Prog.bind_op, Prog.bind_ret, Prog.pure_eq_ret, dite_bind]
  rw [show stepA v522 t.val a = fun k v => (k0_pay27 v522 a.1 (Scf.iv 0#32 1#32 t.val) k, k0_pay140 a.1 a.2.1 (k0_pay27 v522 a.1 (Scf.iv 0#32 1#32 t.val) k) (k0_pay28 v522 a.1 (Scf.iv 0#32 1#32 t.val) k), k0_pay141 a.1 a.2.2 (k0_pay25 v) (k0_pay27 v522 a.1 (Scf.iv 0#32 1#32 t.val) k) (k0_pay28 v522 a.1 (Scf.iv 0#32 1#32 t.val) k)) from rfl]
  exact wp_trip c K V R 6 0 t.val hO  e1 e2 e3 (fun hq => (e4 hq).1) (fun hq => (e4 hq).2.2.2) (fun hq => (e4 hq).2.1) (fun hq => (e4 hq).2.2.1)
    (fun hq => hR _ (hp.1 hq)) e8

theorem course8 : Course k0_t8_loop 7 0 k0_cond16 k0_off77 k0_off78 k0_off80 k0_off81 k0_off82 k0_off83 k0_off84 k0_off85 := by unfold Course; decide
set_option maxRecDepth 65536 in
theorem wp_t8 (c : Dev nD) (K V : Arr F) (R : Finset S8x4x2048x128.Idx) {L : GSem nD τ sig → Finset Unit} {lv : GSem nD τ sig → Unit → ℕ} {O : CellTallies nD τ sig Unit}
    (hO : ∀ o h, (levAts L lv : sProp 𝕄) ⊢ MayWait (c : Thread nD τ) (.dma (strS o h)) () O) (hR : ∀ i < 5, Within R 7 (blockAt 0 i)) (v578 : FVec F S2048x128 .bf16) (v579 : FVec F S2048x1 .f32) (v580 : FVec F S2048x1 .f32) (v581 : FVec F S2048x128 .f32) (c0_i32_532 : BitVec 32) (hz : c0_i32_532 = 0#32) {γ : Type} {kk : StA F → Prog (TpuEff nD τ sig (Elt F) Λ₀ .tc) γ} {Q : γ → sProp 𝕄} {init : StA F} (hi : init = initA) :
    iprop(Busy c K V R 7 0 0 ∗ Owe c L lv O)
      ⊢ iprop(((Quiet c K V R ∗ Owe c L lv O) -∗ wp frame (wpE defs 𝒱₀ (c : Thread nD τ) none) Set.univ (kk (runA v578 (kAt c K 7 0) (vAt c V 7 0) 5)) Q)
        -∗ wp frame (wpE defs 𝒱₀ (c : Thread nD τ) none) Set.univ (Scf.Loop.for k0_t8_loop k0_t8_ok init (k0_t8_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v578 v579 v580 v581 c0_i32_532) >>= kk) Q) := by
  subst hz
  refine wp_loopA c K V R 7 (fun t => k0_cond16 t = 1#1) (by decide) (fun t => (course8 t).1) v578 hi fun t a => ?_
  obtain ⟨hp, e1, e3, e2, e4, e8⟩ := course8 t
  unfold k0_t8_body
  simp only [k0_part23_eq_skeleton, k0_part24_eq_skeleton]
  unfold k0_part23_skel k0_part24_skel
  simp only [k0_part22_eq_skeleton]
  unfold k0_part22_skel
  simp only [Prog.lift, Prog.bind_op, Prog.bind_ret, Prog.pure_eq_ret, dite_bind]
  rw [show stepA v578 t.val a = fun k v => (k0_pay31 v578 a.1 (Scf.iv 0#32 1#32 t.val) k, k0_pay156 a.1 a.2.1 (k0_pay31 v578 a.1 (Scf.iv 0#32 1#32 t.val) k) (k0_pay32 v578 a.1 (Scf.iv 0#32 1#32 t.val) k), k0_pay157 a.1 a.2.2 (k0_pay29 v) (k0_pay31 v578 a.1 (Scf.iv 0#32 1#32 t.val) k) (k0_pay32 v578 a.1 (Scf.iv 0#32 1#32 t.val) k)) from rfl]
  exact wp_trip c K V R 7 0 t.val hO  e1 e2 e3 (fun hq => (e4 hq).1) (fun hq => (e4 hq).2.2.2) (fun hq => (e4 hq).2.1) (fun hq => (e4 hq).2.2.1)
    (fun hq => hR _ (hp.1 hq)) e8

theorem course9 : Course k0_t9_loop 0 5 k0_cond25 k0_off94 k0_off95 k0_off97 k0_off98 k0_off99 k0_off100 k0_off101 k0_off102 := by unfold Course; decide
set_option maxRecDepth 65536 in
theorem wp_t9 (c : Dev nD) (K V : Arr F) (R : Finset S8x4x2048x128.Idx) {L : GSem nD τ sig → Finset Unit} {lv : GSem nD τ sig → Unit → ℕ} {O : CellTallies nD τ sig Unit}
    (hO : ∀ o h, (levAts L lv : sProp 𝕄) ⊢ MayWait (c : Thread nD τ) (.dma (strS o h)) () O) (hR : ∀ i < 11, Within R 0 (blockAt 5 i)) (v2 : BitVec 32) (v161 : FVec F S2048x1024 .bf16) {γ : Type} {kk : StB F → Prog (TpuEff nD τ sig (Elt F) Λ₀ .tc) γ} {Q : γ → sProp 𝕄} {init : StB F} (hi : init = initB) :
    iprop(Busy c K V R 0 5 0 ∗ Owe c L lv O)
      ⊢ iprop(((Quiet c K V R ∗ Owe c L lv O) -∗ wp frame (wpE defs 𝒱₀ (c : Thread nD τ) none) Set.univ (kk (runB (qB 0 v161) (kAt c K 0 5) (vAt c V 0 5) 11)) Q)
        -∗ wp frame (wpE defs 𝒱₀ (c : Thread nD τ) none) Set.univ (Scf.Loop.for k0_t9_loop k0_t9_ok init (k0_t9_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 c v2 v161) >>= kk) Q) := by
  refine wp_loopB c K V R 0 (fun t => k0_cond25 t = 1#1) (by decide) (fun t => (course9 t).1) (qB 0 v161) hi fun t a => ?_
  obtain ⟨hp, e1, e3, e2, e4, e8⟩ := course9 t
  unfold k0_t9_body
  simp only [k0_part26_eq_skeleton, k0_part25_eq_skeleton]
  unfold k0_part25_skel k0_part26_skel
  simp only [Prog.lift, Prog.bind_op, Prog.bind_ret, Prog.pure_eq_ret, dite_bind]
  rw [show stepB (qB 0 v161) a = fun k v => (k0_pay172 v161 a.1 k, k0_pay175 v161 a.1 a.2.1 k, k0_pay176 v161 a.1 a.2.2 k v) from rfl]
  exact wp_trip c K V R 0 5 t.val hO  e1 e2 e3 (fun hq => (e4 hq).1) (fun hq => (e4 hq).2.2.2) (fun hq => (e4 hq).2.1) (fun hq => (e4 hq).2.2.1)
    (fun hq => hR _ (hp.1 hq)) e8

theorem course10 : Course k0_t10_loop 1 5 k0_cond26 k0_off103 k0_off104 k0_off106 k0_off107 k0_off108 k0_off109 k0_off110 k0_off111 := by unfold Course; decide
set_option maxRecDepth 65536 in
theorem wp_t10 (c : Dev nD) (K V : Arr F) (R : Finset S8x4x2048x128.Idx) {L : GSem nD τ sig → Finset Unit} {lv : GSem nD τ sig → Unit → ℕ} {O : CellTallies nD τ sig Unit}
    (hO : ∀ o h, (levAts L lv : sProp 𝕄) ⊢ MayWait (c : Thread nD τ) (.dma (strS o h)) () O) (hR : ∀ i < 11, Within R 1 (blockAt 5 i)) (v161 : FVec F S2048x1024 .bf16) (v260 : FVec F S32x1 .f32) (v261 : FVec F S32x1 .f32) (v262 : FVec F S32x128 .f32) (v696 : FVec F S32x1024 .f32) (v697 : FVec F S32x128 .bf16) (v698 : FVec F S32x1 .f32) (v699 : FVec F S32x1 .f32) (v700 : FVec F S32x128 .f32) (c5_i32_631 : BitVec 32) (c1_i32_633 : BitVec 32) (hz : c5_i32_631 = 5#32) (hz1 : c1_i32_633 = 1#32) {γ : Type} {kk : StB F → Prog (TpuEff nD τ sig (Elt F) Λ₀ .tc) γ} {Q : γ → sProp 𝕄} {init : StB F} (hi : init = initB) :
    iprop(Busy c K V R 1 5 0 ∗ Owe c L lv O)
      ⊢ iprop(((Quiet c K V R ∗ Owe c L lv O) -∗ wp frame (wpE defs 𝒱₀ (c : Thread nD τ) none) Set.univ (kk (runB v697 (kAt c K 1 5) (vAt c V 1 5) 11)) Q)
        -∗ wp frame (wpE defs 𝒱₀ (c : Thread nD τ) none) Set.univ (Scf.Loop.for k0_t10_loop k0_t10_ok init (k0_t10_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v260 v261 v262 v696 v697 v698 v699 v700 c5_i32_631 c1_i32_633) >>= kk) Q) := by
  subst hz hz1
  refine wp_loopB c K V R 1 (fun t => k0_cond26 t = 1#1) (by decide) (fun t => (course10 t).1) v697 hi fun t a => ?_
  obtain ⟨hp, e1, e3, e2, e4, e8⟩ := course10 t
  unfold k0_t10_body
  simp only [k0_part28_eq_skeleton, k0_part27_eq_skeleton]
  unfold k0_part27_skel k0_part28_skel
  simp only [Prog.lift, Prog.bind_op, Prog.bind_ret, Prog.pure_eq_ret, dite_bind]
  exact wp_trip c K V R 1 5 t.val hO (g := stepB v697 a) e1 e2 e3 (fun hq => (e4 hq).1) (fun hq => (e4 hq).2.2.2) (fun hq => (e4 hq).2.1) (fun hq => (e4 hq).2.2.1)
    (fun hq => hR _ (hp.1 hq)) e8

theorem course11 : Course k0_t11_loop 2 5 k0_cond27 k0_off112 k0_off113 k0_off115 k0_off116 k0_off117 k0_off118 k0_off119 k0_off120 := by unfold Course; decide
set_option maxRecDepth 65536 in
theorem wp_t11 (c : Dev nD) (K V : Arr F) (R : Finset S8x4x2048x128.Idx) {L : GSem nD τ sig → Finset Unit} {lv : GSem nD τ sig → Unit → ℕ} {O : CellTallies nD τ sig Unit}
    (hO : ∀ o h, (levAts L lv : sProp 𝕄) ⊢ MayWait (c : Thread nD τ) (.dma (strS o h)) () O) (hR : ∀ i < 11, Within R 2 (blockAt 5 i)) (v316 : FVec F S32x1 .f32) (v317 : FVec F S32x1 .f32) (v318 : FVec F S32x128 .f32) (v735 : FVec F S32x128 .bf16) (v736 : FVec F S32x1 .f32) {γ : Type} {kk : StB F → Prog (TpuEff nD τ sig (Elt F) Λ₀ .tc) γ} {Q : γ → sProp 𝕄} {init : StB F} (hi : init = initB) :
    iprop(Busy c K V R 2 5 0 ∗ Owe c L lv O)
      ⊢ iprop(((Quiet c K V R ∗ Owe c L lv O) -∗ wp frame (wpE defs 𝒱₀ (c : Thread nD τ) none) Set.univ (kk (runB v735 (kAt c K 2 5) (vAt c V 2 5) 11)) Q)
        -∗ wp frame (wpE defs 𝒱₀ (c : Thread nD τ) none) Set.univ (Scf.Loop.for k0_t11_loop k0_t11_ok init (k0_t11_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v316 v317 v318 v735 v736) >>= kk) Q) := by
  refine wp_loopB c K V R 2 (fun t => k0_cond27 t = 1#1) (by decide) (fun t => (course11 t).1) v735 hi fun t a => ?_
  obtain ⟨hp, e1, e3, e2, e4, e8⟩ := course11 t
  unfold k0_t11_body
  simp only [k0_part30_eq_skeleton, k0_part29_eq_skeleton]
  unfold k0_part29_skel k0_part30_skel
  simp only [Prog.lift, Prog.bind_op, Prog.bind_ret, Prog.pure_eq_ret, dite_bind]
  rw [show stepB v735 a = fun k v => (k0_pay194 v735 a.1 k, k0_pay197 v735 a.1 a.2.1 k, k0_pay198 v735 a.1 a.2.2 k v) from rfl]
  exact wp_trip c K V R 2 5 t.val hO  e1 e2 e3 (fun hq => (e4 hq).1) (fun hq => (e4 hq).2.2.2) (fun hq => (e4 hq).2.1) (fun hq => (e4 hq).2.2.1)
    (fun hq => hR _ (hp.1 hq)) e8

theorem course12 : Course k0_t12_loop 3 5 k0_cond28 k0_off121 k0_off122 k0_off124 k0_off125 k0_off126 k0_off127 k0_off128 k0_off129 := by unfold Course; decide
set_option maxRecDepth 65536 in
theorem wp_t12 (c : Dev nD) (K V : Arr F) (R : Finset S8x4x2048x128.Idx) {L : GSem nD τ sig → Finset Unit} {lv : GSem nD τ sig → Unit → ℕ} {O : CellTallies nD τ sig Unit}
    (hO : ∀ o h, (levAts L lv : sProp 𝕄) ⊢ MayWait (c : Thread nD τ) (.dma (strS o h)) () O) (hR : ∀ i < 11, Within R 3 (blockAt 5 i)) (v161 : FVec F S2048x1024 .bf16) (v372 : FVec F S32x1 .f32) (v374 : FVec F S32x128 .f32) (v734 : FVec F S32x1024 .f32) (v768 : FVec F S32x128 .bf16) {γ : Type} {kk : StB F → Prog (TpuEff nD τ sig (Elt F) Λ₀ .tc) γ} {Q : γ → sProp 𝕄} {init : StB F} (hi : init = initB) :
    iprop(Busy c K V R 3 5 0 ∗ Owe c L lv O)
      ⊢ iprop(((Quiet c K V R ∗ Owe c L lv O) -∗ wp frame (wpE defs 𝒱₀ (c : Thread nD τ) none) Set.univ (kk (runB (qB 3 v161) (kAt c K 3 5) (vAt c V 3 5) 11)) Q)
        -∗ wp frame (wpE defs 𝒱₀ (c : Thread nD τ) none) Set.univ (Scf.Loop.for k0_t12_loop k0_t12_ok init (k0_t12_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v372 v374 v734 v768) >>= kk) Q) := by
  refine wp_loopB c K V R 3 (fun t => k0_cond28 t = 1#1) (by decide) (fun t => (course12 t).1) (qB 3 v161) hi fun t a => ?_
  obtain ⟨hp, e1, e3, e2, e4, e8⟩ := course12 t
  unfold k0_t12_body
  simp only [k0_part32_eq_skeleton, k0_part31_eq_skeleton]
  unfold k0_part31_skel k0_part32_skel
  simp only [Prog.lift, Prog.bind_op, Prog.bind_ret, Prog.pure_eq_ret, dite_bind]
  rw [show stepB (qB 3 v161) a = fun k v => (k0_pay205 v161 a.1 k, k0_pay208 v161 a.1 a.2.1 k, k0_pay209 v161 a.1 a.2.2 k v) from rfl]
  exact wp_trip c K V R 3 5 t.val hO  e1 e2 e3 (fun hq => (e4 hq).1) (fun hq => (e4 hq).2.2.2) (fun hq => (e4 hq).2.1) (fun hq => (e4 hq).2.2.1)
    (fun hq => hR _ (hp.1 hq)) e8

theorem course13 : Course k0_t13_loop 4 5 k0_cond29 k0_off130 k0_off131 k0_off133 k0_off134 k0_off135 k0_off136 k0_off137 k0_off138 := by unfold Course; decide
set_option maxRecDepth 65536 in
theorem wp_t13 (c : Dev nD) (K V : Arr F) (R : Finset S8x4x2048x128.Idx) {L : GSem nD τ sig → Finset Unit} {lv : GSem nD τ sig → Unit → ℕ} {O : CellTallies nD τ sig Unit}
    (hO : ∀ o h, (levAts L lv : sProp 𝕄) ⊢ MayWait (c : Thread nD τ) (.dma (strS o h)) () O) (hR : ∀ i < 11, Within R 4 (blockAt 5 i)) (v161 : FVec F S2048x1024 .bf16) (v373 : FVec F S32x1 .f32) (v428 : FVec F S32x1 .f32) (v772 : FVec F S32x1024 .f32) (v778_1 : FVec F S32x1 .f32) (v793 : FVec F S32x1 .f32) (v795 : FVec F S32x1 .f32) (v800 : FVec F S32x128 .f32) {γ : Type} {kk : StB F → Prog (TpuEff nD τ sig (Elt F) Λ₀ .tc) γ} {Q : γ → sProp 𝕄} {init : StB F} (hi : init = initB) :
    iprop(Busy c K V R 4 5 0 ∗ Owe c L lv O)
      ⊢ iprop(((Quiet c K V R ∗ Owe c L lv O) -∗ wp frame (wpE defs 𝒱₀ (c : Thread nD τ) none) Set.univ (kk (runB (qB 4 v161) (kAt c K 4 5) (vAt c V 4 5) 11)) Q)
        -∗ wp frame (wpE defs 𝒱₀ (c : Thread nD τ) none) Set.univ (Scf.Loop.for k0_t13_loop k0_t13_ok init (k0_t13_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v373 v428 v772 v778_1 v793 v795 v800) >>= kk) Q) := by
  refine wp_loopB c K V R 4 (fun t => k0_cond29 t = 1#1) (by decide) (fun t => (course13 t).1) (qB 4 v161) hi fun t a => ?_
  obtain ⟨hp, e1, e3, e2, e4, e8⟩ := course13 t
  unfold k0_t13_body
  simp only [k0_part34_eq_skeleton, k0_part33_eq_skeleton]
  unfold k0_part33_skel k0_part34_skel
  simp only [Prog.lift, Prog.bind_op, Prog.bind_ret, Prog.pure_eq_ret, dite_bind]
  rw [show stepB (qB 4 v161) a = fun k v => (k0_pay219 v161 a.1 k, k0_pay222 v161 a.1 a.2.1 k, k0_pay223 v161 a.1 a.2.2 k v) from rfl]
  exact wp_trip c K V R 4 5 t.val hO  e1 e2 e3 (fun hq => (e4 hq).1) (fun hq => (e4 hq).2.2.2) (fun hq => (e4 hq).2.1) (fun hq => (e4 hq).2.2.1)
    (fun hq => hR _ (hp.1 hq)) e8

theorem course14 : Course k0_t14_loop 5 5 k0_cond30 k0_off139 k0_off140 k0_off142 k0_off143 k0_off144 k0_off145 k0_off146 k0_off147 := by unfold Course; decide
set_option maxRecDepth 65536 in
theorem wp_t14 (c : Dev nD) (K V : Arr F) (R : Finset S8x4x2048x128.Idx) {L : GSem nD τ sig → Finset Unit} {lv : GSem nD τ sig → Unit → ℕ} {O : CellTallies nD τ sig Unit}
    (hO : ∀ o h, (levAts L lv : sProp 𝕄) ⊢ MayWait (c : Thread nD τ) (.dma (strS o h)) () O) (hR : ∀ i < 11, Within R 5 (blockAt 5 i)) (v161 : FVec F S2048x1024 .bf16) (v429 : FVec F S32x1 .f32) (v430 : FVec F S32x128 .f32) (v810 : FVec F S32x1024 .f32) (v816_0 : FVec F S32x1 .f32) (v816_1 : FVec F S32x1 .f32) (v816_2 : FVec F S32x128 .f32) (v829 : FVec F S32x1 .f32) (v830 : FVec F S32x1 .f32) {γ : Type} {kk : StB F → Prog (TpuEff nD τ sig (Elt F) Λ₀ .tc) γ} {Q : γ → sProp 𝕄} {init : StB F} (hi : init = initB) :
    iprop(Busy c K V R 5 5 0 ∗ Owe c L lv O)
      ⊢ iprop(((Quiet c K V R ∗ Owe c L lv O) -∗ wp frame (wpE defs 𝒱₀ (c : Thread nD τ) none) Set.univ (kk (runB (qB 5 v161) (kAt c K 5 5) (vAt c V 5 5) 11)) Q)
        -∗ wp frame (wpE defs 𝒱₀ (c : Thread nD τ) none) Set.univ (Scf.Loop.for k0_t14_loop k0_t14_ok init (k0_t14_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v429 v430 v810 v816_0 v816_1 v816_2 v829 v830) >>= kk) Q) := by
  refine wp_loopB c K V R 5 (fun t => k0_cond30 t = 1#1) (by decide) (fun t => (course14 t).1) (qB 5 v161) hi fun t a => ?_
  obtain ⟨hp, e1, e3, e2, e4, e8⟩ := course14 t
  unfold k0_t14_body
  simp only [k0_part36_eq_skeleton, k0_part35_eq_skeleton]
  unfold k0_part35_skel k0_part36_skel
  simp only [Prog.lift, Prog.bind_op, Prog.bind_ret, Prog.pure_eq_ret, dite_bind]
  rw [show stepB (qB 5 v161) a = fun k v => (k0_pay231 v161 a.1 k, k0_pay234 v161 a.1 a.2.1 k, k0_pay235 v161 a.1 a.2.2 k v) from rfl]
  exact wp_trip c K V R 5 5 t.val hO  e1 e2 e3 (fun hq => (e4 hq).1) (fun hq => (e4 hq).2.2.2) (fun hq => (e4 hq).2.1) (fun hq => (e4 hq).2.2.1)
    (fun hq => hR _ (hp.1 hq)) e8

theorem course15 : Course k0_t15_loop 6 5 k0_cond31 k0_off148 k0_off149 k0_off151 k0_off152 k0_off153 k0_off154 k0_off155 k0_off156 := by unfold Course; decide
set_option maxRecDepth 65536 in
theorem wp_t15 (c : Dev nD) (K V : Arr F) (R : Finset S8x4x2048x128.Idx) {L : GSem nD τ sig → Finset Unit} {lv : GSem nD τ sig → Unit → ℕ} {O : CellTallies nD τ sig Unit}
    (hO : ∀ o h, (levAts L lv : sProp 𝕄) ⊢ MayWait (c : Thread nD τ) (.dma (strS o h)) () O) (hR : ∀ i < 11, Within R 6 (blockAt 5 i)) (v161 : FVec F S2048x1024 .bf16) (v484 : FVec F S32x1 .f32) (v485 : FVec F S32x1 .f32) (v486 : FVec F S32x128 .f32) (v848 : FVec F S32x1024 .f32) (v854_0 : FVec F S32x1 .f32) (v854_1 : FVec F S32x1 .f32) (v854_2 : FVec F S32x128 .f32) {γ : Type} {kk : StB F → Prog (TpuEff nD τ sig (Elt F) Λ₀ .tc) γ} {Q : γ → sProp 𝕄} {init : StB F} (hi : init = initB) :
    iprop(Busy c K V R 6 5 0 ∗ Owe c L lv O)
      ⊢ iprop(((Quiet c K V R ∗ Owe c L lv O) -∗ wp frame (wpE defs 𝒱₀ (c : Thread nD τ) none) Set.univ (kk (runB (qB 6 v161) (kAt c K 6 5) (vAt c V 6 5) 11)) Q)
        -∗ wp frame (wpE defs 𝒱₀ (c : Thread nD τ) none) Set.univ (Scf.Loop.for k0_t15_loop k0_t15_ok init (k0_t15_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v484 v485 v486 v848 v854_0 v854_1 v854_2) >>= kk) Q) := by
  refine wp_loopB c K V R 6 (fun t => k0_cond31 t = 1#1) (by decide) (fun t => (course15 t).1) (qB 6 v161) hi fun t a => ?_
  obtain ⟨hp, e1, e3, e2, e4, e8⟩ := course15 t
  unfold k0_t15_body
  simp only [k0_part38_eq_skeleton, k0_part37_eq_skeleton]
  unfold k0_part37_skel k0_part38_skel
  simp only [Prog.lift, Prog.bind_op, Prog.bind_ret, Prog.pure_eq_ret, dite_bind]
  rw [show stepB (qB 6 v161) a = fun k v => (k0_pay241 v161 a.1 k, k0_pay244 v161 a.1 a.2.1 k, k0_pay245 v161 a.1 a.2.2 k v) from rfl]
  exact wp_trip c K V R 6 5 t.val hO  e1 e2 e3 (fun hq => (e4 hq).1) (fun hq => (e4 hq).2.2.2) (fun hq => (e4 hq).2.1) (fun hq => (e4 hq).2.2.1)
    (fun hq => hR _ (hp.1 hq)) e8

theorem course16 : Course k0_t16_loop 7 5 k0_cond32 k0_off157 k0_off158 k0_off160 k0_off161 k0_off162 k0_off163 k0_off164 k0_off165 := by unfold Course; decide
set_option maxRecDepth 65536 in
theorem wp_t16 (c : Dev nD) (K V : Arr F) (R : Finset S8x4x2048x128.Idx) {L : GSem nD τ sig → Finset Unit} {lv : GSem nD τ sig → Unit → ℕ} {O : CellTallies nD τ sig Unit}
    (hO : ∀ o h, (levAts L lv : sProp 𝕄) ⊢ MayWait (c : Thread nD τ) (.dma (strS o h)) () O) (hR : ∀ i < 11, Within R 7 (blockAt 5 i)) (v161 : FVec F S2048x1024 .bf16) (v540 : FVec F S32x1 .f32) (v541 : FVec F S32x1 .f32) (v542 : FVec F S32x128 .f32) (v584 : FVec F S32x1 .f32) (v586 : FVec F S32x128 .f32) (v886 : FVec F S32x1024 .f32) (v892_0 : FVec F S32x1 .f32) (v892_1 : FVec F S32x1 .f32) (v892_2 : FVec F S32x128 .f32) {γ : Type} {kk : StB F → Prog (TpuEff nD τ sig (Elt F) Λ₀ .tc) γ} {Q : γ → sProp 𝕄} {init : StB F} (hi : init = initB) :
    iprop(Busy c K V R 7 5 0 ∗ Owe c L lv O)
      ⊢ iprop(((Quiet c K V R ∗ Owe c L lv O) -∗ wp frame (wpE defs 𝒱₀ (c : Thread nD τ) none) Set.univ (kk (runB (qB 7 v161) (kAt c K 7 5) (vAt c V 7 5) 11)) Q)
        -∗ wp frame (wpE defs 𝒱₀ (c : Thread nD τ) none) Set.univ (Scf.Loop.for k0_t16_loop k0_t16_ok init (k0_t16_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v540 v541 v542 v584 v586 v886 v892_0 v892_1 v892_2) >>= kk) Q) := by
  refine wp_loopB c K V R 7 (fun t => k0_cond32 t = 1#1) (by decide) (fun t => (course16 t).1) (qB 7 v161) hi fun t a => ?_
  obtain ⟨hp, e1, e3, e2, e4, e8⟩ := course16 t
  unfold k0_t16_body
  simp only [k0_part40_eq_skeleton, k0_part39_eq_skeleton]
  unfold k0_part39_skel k0_part40_skel
  simp only [Prog.lift, Prog.bind_op, Prog.bind_ret, Prog.pure_eq_ret, dite_bind]
  rw [show stepB (qB 7 v161) a = fun k v => (k0_pay251 v161 a.1 k, k0_pay254 v161 a.1 a.2.1 k, k0_pay255 v161 a.1 a.2.2 k v) from rfl]
  exact wp_trip c K V R 7 5 t.val hO  e1 e2 e3 (fun hq => (e4 hq).1) (fun hq => (e4 hq).2.2.2) (fun hq => (e4 hq).2.1) (fun hq => (e4 hq).2.2.1)
    (fun hq => hR _ (hp.1 hq)) e8

end Cert.Attn

end
-- ==== Proof.Blocks.lean ====
/-
  The steps between the stream loops: a block's two copies started, the projection's rows read, a quarter of the output
  read and stored.
-/
module

public import proofs.«01_k».proof.Proof.Loops

@[expose] public section

noncomputable section

namespace Cert.Attn

open Cert.KernelIdeal Cert.KernelIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ UU ℕ
variable {defs : Defs nD τ sig (Elt F) Λ₀}

/-! ## Results of the loops -/

abbrev fA (c : Dev nD) (K V : Arr F) (h : Fin 8) (q : FVec F S2048x128 .bf16) : StA F := runA q (kAt c K h 0) (vAt c V h 0) 5
abbrev fB (c : Dev nD) (K V : Arr F) (h : Fin 8) (q : FVec F S32x128 .bf16) : StB F := runB q (kAt c K h 5) (vAt c V h 5) 11

/-! ## The stream between the loops -/

/-- The first block on its way on the key side alone. -/
def Half (c : Dev nD) (K V : Arr F) (R : Finset S8x4x2048x128.Idx) (h : Fin 8) (o : ℕ) : sProp 𝕄 :=
  iprop((sK.Fly c K R (slotAt h 0) h (blockAt o 0) ∗ sK.Rest c (slotAt h 1)) ∗ sV.Idle c V R)

theorem wp_k0 (c : Dev nD) (K V : Arr F) (R : Finset S8x4x2048x128.Idx) (h : Fin 8) (o : ℕ) (hR : Within R h (blockAt o 0))
    {α : Type} {Q : α → sProp 𝕄} {k : PUnit → Prog (TpuEff nD τ sig (Elt F) Λ₀ .tc) α}
    {oc : Fin 4 → ℕ} {hc} {ob : Fin 3 → ℕ} {hb} {os : Fin 2 → ℕ} {hs}
    (ec : oc = ![h.val, (blockAt o 0).val / 4, (blockAt o 0).val % 4 * 512, 0]) (eb : ob = ![(slotAt h 0).val, 0, 0]) (es : os = ![(slotAt h 0).val, 0])
    {hsrc : (blkM kcM oc hc).view.WordExact} {hdst : (slotM kbM ob hb).view.WordExact} {hsem} :
    (Quiet c K V R : sProp 𝕄)
      ⊢ iprop((Half c K V R h o -∗ wp frame (wpE defs 𝒱₀ (c : Thread nD τ) none) Set.univ (k ⟨⟩) Q)
        -∗ wp frame (wpE defs 𝒱₀ (c : Thread nD τ) none) Set.univ
          (.op (.enqueueDma (blkM kcM oc hc) (.here (slotM kbM ob hb)) (.dma (strS os hs)) hsrc hdst hsem) k) Q) := by
  unfold Quiet Half
  iintro ⟨HK, HV⟩ Hk
  ihave HK := (sK.idle_open c K R (slotAt h 0)).1 $$ HK
  icases HK with ⟨H0, H1, HS⟩
  iapply (wp_start sK c K R (slotAt h 0) h (blockAt o 0) ec eb es (sub_K hR)) $$ [H0 HS]
  · isplitl [H0] <;> iassumption
  iintro HF
  iapply Hk
  isplitr [HV]
  swap; · iexact HV
  isplitl [HF]; · iexact HF
  ihave H1 := (Entails.of_eq (show (sK.Rest c (1 - slotAt h 0) : sProp 𝕄) = sK.Rest c (slotAt h 1) from by rw [slotAt_succ h 0])) $$ H1
  iexact H1

theorem wp_v0 (c : Dev nD) (K V : Arr F) (R : Finset S8x4x2048x128.Idx) (h : Fin 8) (o : ℕ) (hR : Within R h (blockAt o 0))
    {α : Type} {Q : α → sProp 𝕄} {k : PUnit → Prog (TpuEff nD τ sig (Elt F) Λ₀ .tc) α}
    {oc : Fin 4 → ℕ} {hc} {ob : Fin 3 → ℕ} {hb} {os : Fin 2 → ℕ} {hs}
    (ec : oc = ![h.val, (blockAt o 0).val / 4, (blockAt o 0).val % 4 * 512, 0]) (eb : ob = ![(slotAt h 0).val, 0, 0]) (es : os = ![(slotAt h 0).val, 1])
    {hsrc : (blkM vcM oc hc).view.WordExact} {hdst : (slotM vbM ob hb).view.WordExact} {hsem} :
    (Half c K V R h o : sProp 𝕄)
      ⊢ iprop((Busy c K V R h o 0 -∗ wp frame (wpE defs 𝒱₀ (c : Thread nD τ) none) Set.univ (k ⟨⟩) Q)
        -∗ wp frame (wpE defs 𝒱₀ (c : Thread nD τ) none) Set.univ
          (.op (.enqueueDma (blkM vcM oc hc) (.here (slotM vbM ob hb)) (.dma (strS os hs)) hsrc hdst hsem) k) Q) := by
  unfold Half Busy
  iintro ⟨⟨HK, HK'⟩, HV⟩ Hk
  ihave HV := (sV.idle_open c V R (slotAt h 0)).1 $$ HV
  icases HV with ⟨H0, H1, HS⟩
  iapply (wp_start sV c V R (slotAt h 0) h (blockAt o 0) ec eb es (sub_V hR)) $$ [H0 HS]
  · isplitl [H0] <;> iassumption
  iintro HF
  iapply Hk
  isplitl [HK HK']
  · isplitl [HK] <;> iassumption
  isplitl [HF]; · iexact HF
  ihave H1 := (Entails.of_eq (show (sV.Rest c (1 - slotAt h 0) : sProp 𝕄) = sV.Rest c (slotAt h 1) from by rw [slotAt_succ h 0])) $$ H1
  iexact H1

/-! ## The projection and the output -/

theorem wo_inb (h : Fin 8) : ∀ a, (![128 * h.val, 0] : Fin 2 → ℕ) a + S128x1024.size a ≤ S1024x1024.size a := by revert h; decide
theorem ob_in (r : Fin 4) : ∀ a, (![512 * r.val, 0] : Fin 2 → ℕ) a + S512x1024.size a ≤ S2048x1024.size a := by revert r; decide

/-- The projection's rows of head `h`. -/
def woB (W : S1024x1024.Idx → Elt F .bf16) (h : Fin 8) : Vec F S128x1024 .bf16 :=
  (wM.access (Rect.unit (s := S1024x1024) ![128 * h.val, 0] S128x1024.size (wo_inb h))).read (Elt F) W
/-- The projection, held whole. -/
def Wo (c : Dev nD) (W : S1024x1024.Idx → Elt F .bf16) : sProp 𝕄 := wM.view.loc (c : Thread nD τ) ↦[Finset.univ]{fullShare} W

theorem wp_wo (c : Dev nD) (W : S1024x1024.Idx → Elt F .bf16) (h : Fin 8) {α : Type} {Q : α → sProp 𝕄} {kk : Vec F S128x1024 .bf16 → Prog (TpuEff nD τ sig (Elt F) Λ₀ .tc) α}
    {o : Fin 2 → ℕ} {hb : ∀ a, o a + S128x1024.size a ≤ S1024x1024.size a} (e : o = ![128 * h.val, 0]) {hl} :
    (Wo c W : sProp 𝕄)
      ⊢ iprop((Wo c W -∗ wp frame (wpE defs 𝒱₀ (c : Thread nD τ) none) Set.univ (kk (woB W h)) Q)
        -∗ wp frame (wpE defs 𝒱₀ (c : Thread nD τ) none) Set.univ (.op (.load wM (Rect.unit (s := S1024x1024) o S128x1024.size hb).toLoadRect hl) kk) Q) := by
  subst e
  unfold Wo
  iintro H Hk
  iapply (wp_load_rect 𝒱₀ (c : Thread nD τ) none Set.univ (m := wM) (r := Rect.unit (s := S1024x1024) ![128 * h.val, 0] S128x1024.size (wo_inb h)) (S := Finset.univ) (Finset.subset_univ _)) $$ H
  iintro H
  iapply Hk
  iexact H

abbrev obV (r : Fin 4) := oM.access (Rect.unit (s := S2048x1024) ![512 * r.val, 0] S512x1024.size (ob_in r))
/-- A quarter of the output at the contents `X`. -/
def Ob (c : Dev nD) (r : Fin 4) (X : Vec F S512x1024 .f32) : sProp 𝕄 :=
  iprop(∃ f : Buf (Elt F) (oM.view.loc (c : Thread nD τ)), ⌜(obV r).read (Elt F) f = X⌝ ∗ oM.view.loc (c : Thread nD τ) ↦[(obV r).set]{fullShare} f)

theorem wp_oload (c : Dev nD) (r : Fin 4) (X : Vec F S512x1024 .f32) {α : Type} {Q : α → sProp 𝕄} {kk : Vec F S512x1024 .f32 → Prog (TpuEff nD τ sig (Elt F) Λ₀ .tc) α}
    {o : Fin 2 → ℕ} {hb : ∀ a, o a + S512x1024.size a ≤ S2048x1024.size a} (e : o = ![512 * r.val, 0]) {hl} :
    (Ob c r X : sProp 𝕄)
      ⊢ iprop((Ob c r X -∗ wp frame (wpE defs 𝒱₀ (c : Thread nD τ) none) Set.univ (kk X) Q)
        -∗ wp frame (wpE defs 𝒱₀ (c : Thread nD τ) none) Set.univ (.op (.load oM (Rect.unit (s := S2048x1024) o S512x1024.size hb).toLoadRect hl) kk) Q) := by
  subst e
  unfold Ob
  iintro ⟨%f, %hf, H⟩ Hk
  iapply (wp_load_rect 𝒱₀ (c : Thread nD τ) none Set.univ (m := oM) (r := Rect.unit (s := S2048x1024) ![512 * r.val, 0] S512x1024.size (ob_in r)) (S := (obV r).set) (Finset.Subset.refl _)) $$ H
  iintro H
  subst hf
  iapply Hk
  iexists f
  isplitr
  swap
  · iexact H
  ipureintro; rfl

theorem wp_ostore (c : Dev nD) (r : Fin 4) (X w : Vec F S512x1024 .f32) {α : Type} {Q : α → sProp 𝕄} {k : PUnit → Prog (TpuEff nD τ sig (Elt F) Λ₀ .tc) α}
    {o : Fin 2 → ℕ} {hb : ∀ a, o a + S512x1024.size a ≤ S2048x1024.size a} (e : o = ![512 * r.val, 0]) {hx hm} :
    (Ob c r X : sProp 𝕄)
      ⊢ iprop((Ob c r w -∗ wp frame (wpE defs 𝒱₀ (c : Thread nD τ) none) Set.univ (k ⟨⟩) Q)
        -∗ wp frame (wpE defs 𝒱₀ (c : Thread nD τ) none) Set.univ (.op (.store oM (Rect.unit (s := S2048x1024) o S512x1024.size hb) w Finset.univ hx hm) k) Q) := by
  subst e
  unfold Ob
  iintro ⟨%f, -, H⟩ Hk
  iapply (wp_store 𝒱₀ (c : Thread nD τ) none Set.univ (m := oM) (r := Rect.unit (s := S2048x1024) ![512 * r.val, 0] S512x1024.size (ob_in r)) (w := w) (Mk := Finset.univ) (S := (obV r).set) (f := f) (hx := hx) (hm := hm) (k := k) (Q := Q) (Finset.Subset.refl _)) $$ H
  iintro H
  iapply Hk
  iexists _
  isplitr
  swap
  · iexact H
  ipureintro
  exact View.read_write_univ (v := obV r) (Val := Elt F) f w

theorem mem_obV (r : Fin 4) (i : S2048x1024.Idx) : i ∈ (obV r).set ↔ 512 * r.val ≤ (i 0).val ∧ (i 0).val < 512 * r.val + 512 := by
  rw [show (obV r).set = (Rect.unit (s := S2048x1024) ![512 * r.val, 0] S512x1024.size (ob_in r)).set from View.set_slice_whole _ _, Rect.mem_set_unit]
  constructor
  · intro h; exact h 0
  · intro h a
    fin_cases a
    · exact h
    · exact ⟨Nat.zero_le _, by have := (i 1).isLt; simpa using this⟩
theorem mem_o32 (hb : ∀ a, (![0, 0] : Fin 2 → ℕ) a + S32x1024.size a ≤ S2048x1024.size a) (i : S2048x1024.Idx) :
    i ∈ (oM.access (Rect.unit (s := S2048x1024) ![0, 0] S32x1024.size hb)).set ↔ (i 0).val < 32 := by
  rw [show (oM.access (Rect.unit (s := S2048x1024) ![0, 0] S32x1024.size hb)).set = (Rect.unit (s := S2048x1024) ![0, 0] S32x1024.size hb).set from View.set_slice_whole _ _, Rect.mem_set_unit]
  constructor
  · intro h; exact lt_of_lt_of_le (h 0).2 (by decide)
  · intro h a
    fin_cases a
    · exact ⟨Nat.zero_le _, by simpa using h⟩
    · exact ⟨Nat.zero_le _, by have := (i 1).isLt; simpa using this⟩
theorem sub32 (hb : ∀ a, (![0, 0] : Fin 2 → ℕ) a + S32x1024.size a ≤ S2048x1024.size a) :
    (oM.access (Rect.unit (s := S2048x1024) ![0, 0] S32x1024.size hb)).set ⊆ (obV 0).set := by
  intro i hi
  have h := (mem_o32 hb i).1 hi
  exact (mem_obV 0 i).2 ⟨Nat.zero_le _, by show (i 0).val < 512; omega⟩

/-- The first 32 rows of a quarter are read too, to no effect. -/
theorem wp_oload32 (c : Dev nD) (X : Vec F S512x1024 .f32) {α : Type} {Q : α → sProp 𝕄} {kk : Vec F S32x1024 .f32 → Prog (TpuEff nD τ sig (Elt F) Λ₀ .tc) α}
    {hb : ∀ a, (![0, 0] : Fin 2 → ℕ) a + S32x1024.size a ≤ S2048x1024.size a} {hl} :
    (Ob c 0 X : sProp 𝕄)
      ⊢ iprop((∀ v, Ob c 0 X -∗ wp frame (wpE defs 𝒱₀ (c : Thread nD τ) none) Set.univ (kk v) Q)
        -∗ wp frame (wpE defs 𝒱₀ (c : Thread nD τ) none) Set.univ (.op (.load oM (Rect.unit (s := S2048x1024) ![0, 0] S32x1024.size hb).toLoadRect hl) kk) Q) := by
  unfold Ob
  iintro ⟨%f, %hf, H⟩ Hk
  iapply (wp_load_rect 𝒱₀ (c : Thread nD τ) none Set.univ (m := oM) (r := Rect.unit (s := S2048x1024) ![0, 0] S32x1024.size hb) (S := (obV 0).set) (sub32 hb)) $$ H
  iintro H
  ispecialize Hk $$ %_
  iapply Hk
  iexists f
  isplitr
  swap
  · iexact H
  ipureintro; exact hf

/-- The first quarter after its first 32 rows have been overwritten. -/
def ObF (c : Dev nD) (X : Vec F S512x1024 .f32) (w : Vec F S32x1024 .f32) : sProp 𝕄 :=
  iprop(∃ f : Buf (Elt F) (oM.view.loc (c : Thread nD τ)), ⌜∀ (i : Fin 2048) (i' : Fin 512) (j : Fin 1024), i.val = i'.val →
      f (ix2 i j) = if hi : i.val < 32 then w (ix2 ⟨i.val, hi⟩ j) else X (ix2 i' j)⌝
    ∗ oM.view.loc (c : Thread nD τ) ↦[(obV 0).set]{fullShare} f)

theorem ofix (X : Vec F S512x1024 .f32) (w : Vec F S32x1024 .f32) (f : S2048x1024.Idx → Elt F .f32) (hf : (obV 0).read (Elt F) f = X)
    (hb : ∀ a, (![0, 0] : Fin 2 → ℕ) a + S32x1024.size a ≤ S2048x1024.size a) (i : Fin 2048) (i' : Fin 512) (j : Fin 1024) (hi' : i.val = i'.val) :
    (View.write (Elt F) (oM.access (Rect.unit (s := S2048x1024) ![0, 0] S32x1024.size hb)) f w Finset.univ : S2048x1024.Idx → Elt F .f32) (ix2 i j)
      = if hi : i.val < 32 then w (ix2 ⟨i.val, hi⟩ j) else X (ix2 i' j) := by
  by_cases hi : i.val < 32
  · rw [dif_pos hi]
    have h1 : (oM.access (Rect.unit (s := S2048x1024) ![0, 0] S32x1024.size hb)).emb (ix2 ⟨i.val, hi⟩ j) = (ix2 i j : S2048x1024.Idx) := by
      funext a; apply Fin.ext; fin_cases a
      · show 0 + 1 * i.val = i.val; omega
      · show 0 + 1 * j.val = j.val; omega
    have h2 := View.write_emb_of_mem (Val := Elt F) (v := oM.access (Rect.unit (s := S2048x1024) ![0, 0] S32x1024.size hb)) f w (Finset.mem_univ (ix2 ⟨i.val, hi⟩ j))
    rw [h1] at h2
    exact h2
  · rw [dif_neg hi, ← hf]
    have h1 : (obV 0).emb (ix2 i' j) = (ix2 i j : S2048x1024.Idx) := by
      funext a; apply Fin.ext; fin_cases a
      · show 512 * 0 + 1 * i'.val = i.val; omega
      · show 0 + 1 * j.val = j.val; omega
    have h2 : (obV 0).read (Elt F) f (ix2 i' j) = f ((obV 0).emb (ix2 i' j)) := rfl
    rw [h2, h1]
    exact View.write_of_not_mem (Val := Elt F) (v := oM.access (Rect.unit (s := S2048x1024) ![0, 0] S32x1024.size hb)) f w Finset.univ
      (fun hm => hi ((mem_o32 hb (ix2 i j)).1 hm))

theorem wp_ofix (c : Dev nD) (X : Vec F S512x1024 .f32) (w : Vec F S32x1024 .f32) {α : Type} {Q : α → sProp 𝕄} {k : PUnit → Prog (TpuEff nD τ sig (Elt F) Λ₀ .tc) α}
    {hb : ∀ a, (![0, 0] : Fin 2 → ℕ) a + S32x1024.size a ≤ S2048x1024.size a} {hx hm} :
    (Ob c 0 X : sProp 𝕄)
      ⊢ iprop((ObF c X w -∗ wp frame (wpE defs 𝒱₀ (c : Thread nD τ) none) Set.univ (k ⟨⟩) Q)
        -∗ wp frame (wpE defs 𝒱₀ (c : Thread nD τ) none) Set.univ (.op (.store oM (Rect.unit (s := S2048x1024) ![0, 0] S32x1024.size hb) w Finset.univ hx hm) k) Q) := by
  unfold Ob ObF
  iintro ⟨%f, %hf, H⟩ Hk
  iapply (wp_store 𝒱₀ (c : Thread nD τ) none Set.univ (m := oM) (r := Rect.unit (s := S2048x1024) ![0, 0] S32x1024.size hb) (w := w) (Mk := Finset.univ) (S := (obV 0).set) (f := f) (hx := hx) (hm := hm) (k := k) (Q := Q) (sub32 hb)) $$ H
  iintro H
  iapply Hk
  iexists _
  isplitr
  swap
  · iexact H
  ipureintro
  exact ofix X w f hf hb

end Cert.Attn

end
-- ==== Proof.Swap.lean ====
/-
  The exchange of the attention: every device sends each other device the rows of keys and values of that device's heads, and
  copies the rows of its own.
-/
module

public import proofs.«01_k».proof.Proof.Blocks

@[expose] public section

noncomputable section

namespace Cert.Attn

open Cert.KernelIdeal Cert.KernelIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocalO)

variable {F : FTy → Type} [FloatOps F] [Named F]
local notation "𝕄" => MT nD τ sig Unit (Elt F) ℕ UU ℕ
variable {defs : Defs nD τ sig (Elt F) Λ₀}

/-! ## Views and semaphores -/

/-- Eight heads of a device's rows. -/
abbrev rowM (A : Memref sig .tc .hbm S32x2048x128 .bf16) (o : Fin 3 → ℕ) (h : ∀ a, o a + S8x2048x128.size a ≤ S32x2048x128.size a) : Memref sig .tc .hbm S8x2048x128 .bf16 :=
  A.slice (Rect.unit (s := S32x2048x128) o S8x2048x128.size h) (fun _ => rfl)
/-- One device's part of the gathered array. -/
abbrev chkM (C : Memref sig .tc .hbm S8x4x2048x128 .bf16) (o : Fin 4 → ℕ) (h : ∀ a, o a + S8x1x2048x128.size a ≤ S8x4x2048x128.size a) : Memref sig .tc .hbm S8x2048x128 .bf16 :=
  (C.slice (Rect.unit (s := S8x4x2048x128) o S8x1x2048x128.size h) (fun _ => rfl)).squeeze S8x2048x128 squeezes_S8x1x2048x128_S8x2048x128
abbrev sndS (o : Fin 2 → ℕ) (h : ∀ a, o a + S1x1.size a ≤ S3x2.size a) : DmaSem sig :=
  ((cc0_scratch2.slice (Rect.unit (s := S3x2) o S1x1.size h)).squeeze S_ squeezes_S1x1_S_).sem
abbrev rcvS (o : Fin 2 → ℕ) (h : ∀ a, o a + S1x1.size a ≤ S4x2.size a) : DmaSem sig :=
  ((cc0_scratch3.slice (Rect.unit (s := S4x2) o S1x1.size h)).squeeze S_ squeezes_S1x1_S_).sem
abbrev cpyS (o : Fin 1 → ℕ) (h : ∀ a, o a + S1.size a ≤ S2.size a) : DmaSem sig :=
  ((cc0_scratch4.slice (Rect.unit (s := S2) o S1.size h)).squeeze S_ squeezes_S1_S_).sem

theorem row_inb (j : Dev 4) : ∀ a, (![8 * j.val, 0, 0] : Fin 3 → ℕ) a + S8x2048x128.size a ≤ S32x2048x128.size a := by revert j; decide
theorem chk_inb (j : Dev 4) : ∀ a, (![0, j.val, 0, 0] : Fin 4 → ℕ) a + S8x1x2048x128.size a ≤ S8x4x2048x128.size a := by revert j; decide
theorem snd_inb (p : Fin 3) (i : Fin 2) : ∀ a, (![p.val, i.val] : Fin 2 → ℕ) a + S1x1.size a ≤ S3x2.size a := by revert p i; decide
theorem rcv_inb (j : Dev 4) (i : Fin 2) : ∀ a, (![j.val, i.val] : Fin 2 → ℕ) a + S1x1.size a ≤ S4x2.size a := by revert j i; decide
theorem cpy_inb (i : Fin 2) : ∀ a, (![i.val] : Fin 1 → ℕ) a + S1.size a ≤ S2.size a := by revert i; decide

theorem off1_eq : ∀ c : Dev nD, k0_off1 c = ![c.val, 0] := by decide
theorem off4_eq : ∀ c : Dev nD, k0_off4 c = ![c.val, 1] := by decide
theorem off2_eq : ∀ c : Dev nD, k0_off2 c = ![0, c.val, 0, 0] := by decide
theorem off3_0 : ∀ c : Dev nD, k0_off3 c 0#32 = ![8 * (sh 0 c).val, 0, 0] := by decide
theorem off3_1 : ∀ c : Dev nD, k0_off3 c 1#32 = ![8 * (sh 1 c).val, 0, 0] := by decide
theorem off3_2 : ∀ c : Dev nD, k0_off3 c 2#32 = ![8 * (sh 2 c).val, 0, 0] := by decide
theorem off5_eq : ∀ c : Dev nD, k0_off5 c = ![8 * c.val, 0, 0] := by decide
theorem dev1_eq (c : Dev nD) : (⟨k0_dev1 c, k0_dev1_lt c⟩ : Dev nD) = sh 0 c := by revert c; decide
theorem dev2_eq (c : Dev nD) : (⟨k0_dev2 c, k0_dev2_lt c⟩ : Dev nD) = sh 1 c := by revert c; decide
theorem dev3_eq (c : Dev nD) : (⟨k0_dev3 c, k0_dev3_lt c⟩ : Dev nD) = sh 2 c := by revert c; decide
theorem dev4_eq (c : Dev nD) : (⟨k0_dev4 c, k0_dev4_lt c⟩ : Dev nD) = sh 0 c := by revert c; decide
theorem dev5_eq (c : Dev nD) : (⟨k0_dev5 c, k0_dev5_lt c⟩ : Dev nD) = sh 0 c := by revert c; decide
theorem dev6_eq (c : Dev nD) : (⟨k0_dev6 c, k0_dev6_lt c⟩ : Dev nD) = sh 1 c := by revert c; decide
theorem dev7_eq (c : Dev nD) : (⟨k0_dev7 c, k0_dev7_lt c⟩ : Dev nD) = sh 1 c := by revert c; decide
theorem dev8_eq (c : Dev nD) : (⟨k0_dev8 c, k0_dev8_lt c⟩ : Dev nD) = sh 2 c := by revert c; decide
theorem dev9_eq (c : Dev nD) : (⟨k0_dev9 c, k0_dev9_lt c⟩ : Dev nD) = sh 2 c := by revert c; decide

/-- A side of the exchange: the rows, the gathered array, and the second index of its semaphores. -/
structure Pipe where
  A : Memref sig .tc .hbm S32x2048x128 .bf16
  C : Memref sig .tc .hbm S8x4x2048x128 .bf16
  t : Fin 2

namespace Pipe
variable (π : Pipe)
abbrev row (j : Dev 4) := rowM π.A ![8 * j.val, 0, 0] (row_inb j)
abbrev chk (j : Dev 4) := chkM π.C ![0, j.val, 0, 0] (chk_inb j)
abbrev Rows (F : FTy → Type) (c : Dev nD) : Type := Buf (Elt F) (π.A.view.loc (c : Thread nD τ))
abbrev Got (F : FTy → Type) (c : Dev nD) : Type := Buf (Elt F) (π.C.view.loc (c : Thread nD τ))
/-- The rows for device `j`. -/
def lent (c : Dev nD) (j : Dev 4) (f : π.Rows F c) : sProp 𝕄 := π.A.view.loc (c : Thread nD τ) ↦[(π.row j).view.set]{fullShare} f
/-- The part of device `j`. -/
def part (c : Dev nD) (j : Dev 4) (f : π.Got F c) : sProp 𝕄 := π.C.view.loc (c : Thread nD τ) ↦[(π.chk j).view.set]{fullShare} f
/-- Room for the part of device `j`. -/
def room (c : Dev nD) (j : Dev 4) : sProp 𝕄 := iprop(∃ f : π.Got F c, π.part c j f)

instance part_storable (c j) (f : π.Got F c) : BI.Storable (upEmb : UEmb _ 𝕄) (π.part c j f) := by unfold part; infer_instance
instance lent_storable (c j) (f : π.Rows F c) : BI.Storable (upEmb : UEmb _ 𝕄) (π.lent c j f) := by unfold lent; infer_instance
instance room_storable (c j) : BI.Storable (upEmb : UEmb _ 𝕄) (π.room (F := F) c j) := by unfold room; infer_instance

/-- A copy of rows leaves them in the part. -/
theorem lands (c c' : Dev nD) (j j' : Dev 4) (f : π.Rows F c) (g : π.Got F c')
    (h : ∀ x, (π.chk j).view.read (Elt F) g x = (π.row j').view.read (Elt F) f x) (fd : π.Got F c') :
    ((π.chk j).view.loc (c' : Thread nD τ) ↦[(π.chk j).view.set]{fullShare} ((π.chk j).view.write (Elt F) fd ((π.row j').view.read (Elt F) f) Finset.univ) : sProp 𝕄)
      ⊢ π.part c' j g := by
  unfold part
  refine Entails.of_eq (pointsTo_congr fun i hi => ?_)
  obtain ⟨x, -, rfl⟩ := Finset.mem_map.1 hi
  rw [View.write_emb_of_mem _ _ (Finset.mem_univ x), ← h x]
  exact (cast_cast _ _ _).trans (cast_eq _ _)

end Pipe

abbrev pK : Pipe := ⟨kM, kcM, 0⟩
abbrev pV : Pipe := ⟨vM, vcM, 1⟩

/-! ## The data -/

abbrev Rws (F : FTy → Type) : Type := S32x2048x128.Idx → Elt F .bf16
/-- The rows of every device. -/
structure Data (F : FTy → Type) where
  k : Dev nD → Rws F
  v : Dev nD → Rws F

/-- What device `c` gathers: of device `j`, the rows of the heads of `c`. -/
def gath (Z : Dev nD → Rws F) (c : Dev nD) : Arr F := fun i =>
  Z (i 1) (ix3 (⟨8 * c.val + (i 0).val, by have h1 : (i 0).val < 8 := (i 0).isLt; have h2 := c.isLt; show _ < 32; have h3 : c.val < 4 := h2; omega⟩ : Fin 32) (i 2 : Fin 2048) (i 3 : Fin 128))

theorem reshape_chk (h : S8x2048x128.numel = S8x1x2048x128.numel) (x : Fin 8) (y : Fin 2048) (z : Fin 128) :
    Shape.reshapeEquiv h (ix3 x y z : S8x2048x128.Idx) = (ix4 x (0 : Fin 1) y z : S8x1x2048x128.Idx) :=
  Shape.reshapeEquiv_eq_of_rowMajor h (by
    rw [Shape.rowMajor_val_four, Shape.rowMajor_val_three]
    show ((x.val * 1 + 0) * 2048 + y.val) * 128 + z.val = (x.val * 2048 + y.val) * 128 + z.val
    omega)

theorem chk_emb (j : Dev nD) (x : Fin 8) (y : Fin 2048) (z : Fin 128) :
    (Rect.unit (s := S8x4x2048x128) ![0, j.val, 0, 0] S8x1x2048x128.size (chk_inb j)).emb (ix4 x (0 : Fin 1) y z) = (ix4 x (j : Fin 4) y z : S8x4x2048x128.Idx) := by
  funext a; apply Fin.ext; fin_cases a
  · show 0 + 1 * x.val = x.val; omega
  · show j.val + 1 * 0 = j.val; omega
  · show 0 + 1 * y.val = y.val; omega
  · show 0 + 1 * z.val = z.val; omega
theorem row_emb (c : Dev nD) (x : Fin 8) (y : Fin 2048) (z : Fin 128) (hx : 8 * c.val + x.val < 32) :
    (Rect.unit (s := S32x2048x128) ![8 * c.val, 0, 0] S8x2048x128.size (row_inb c)).emb (ix3 x y z) = (ix3 (⟨8 * c.val + x.val, hx⟩ : Fin 32) y z : S32x2048x128.Idx) := by
  refine Shape.idx3_ext ?_ ?_ ?_
  · show 8 * c.val + 1 * x.val = 8 * c.val + x.val; omega
  · show 0 + 1 * y.val = y.val; omega
  · show 0 + 1 * z.val = z.val; omega

theorem fits (Z : Dev nD → Rws F) (c j : Dev nD) (h : S8x2048x128.numel = S8x1x2048x128.numel) (x : S8x2048x128.Idx) :
    gath Z c ((Rect.unit (s := S8x4x2048x128) ![0, j.val, 0, 0] S8x1x2048x128.size (chk_inb j)).emb (Shape.reshapeEquiv h x))
      = Z j ((Rect.unit (s := S32x2048x128) ![8 * c.val, 0, 0] S8x2048x128.size (row_inb c)).emb x) := by
  obtain ⟨x, y, z, rfl⟩ : ∃ (x' : Fin 8) (y : Fin 2048) (z : Fin 128), x = ix3 x' y z := ⟨x 0, x 1, x 2, Shape.idx3_ext rfl rfl rfl⟩
  have hc : 8 * c.val + x.val < 32 := by have h2 : c.val < 4 := c.isLt; omega
  rw [reshape_chk, chk_emb, row_emb c x y z hc]
  rfl

theorem fitsK (Z : Dev nD → Rws F) (c j : Dev nD) (x : S8x2048x128.Idx) :
    (pK.chk j).view.read (Elt F) (gath Z c) x = (pK.row c).view.read (Elt F) (Z j) x := fits Z c j _ x
theorem fitsV (Z : Dev nD → Rws F) (c j : Dev nD) (x : S8x2048x128.Idx) :
    (pV.chk j).view.read (Elt F) (gath Z c) x = (pV.row c).view.read (Elt F) (Z j) x := fits Z c j _ x

/-! ## The exchange -/

def WA : Wires sig 2 where
  bar := sig.barrier 0 rfl
  ss p i := sndS ![p.val, i.val] (snd_inb p i)
  rs c p i := rcvS ![(sh (rv p) c).val, i.val] (rcv_inb _ i)
  amt := (pK.chk 0).view.dmaCredit
  amt_pos := View.dmaCredit_pos _ (by decide)
  ss_inj := by decide
  rs_inj := by decide
  ne := by decide

def lentI (X : Data F) (c : Dev nD) (p : Fin 3) : Fin 2 → sProp 𝕄
  | 0 => pK.lent c (sh p c) (X.k c)
  | 1 => pV.lent c (sh p c) (X.v c)
def partI (X : Data F) (c : Dev nD) (p : Fin 3) : Fin 2 → sProp 𝕄
  | 0 => pK.part c (sh (rv p) c) (gath X.k c)
  | 1 => pV.part c (sh (rv p) c) (gath X.v c)

def GA (X : Data F) : Goods τ sig 2 (Elt F) UU where
  B c p := iprop(pK.room (sh p c) c ∗ pV.room (sh p c) c)
  S c p i := lentI X c p i
  R c p i := partI X c p i
  hB _ _ := inferInstance
  hS c p i := by
    match i with
    | 0 => show BI.Storable _ (pK.lent c (sh p c) (X.k c)); infer_instance
    | 1 => show BI.Storable _ (pV.lent c (sh p c) (X.v c)); infer_instance
  hR c p i := by
    match i with
    | 0 => show BI.Storable _ (pK.part c (sh (rv p) c) (gath X.k c)); infer_instance
    | 1 => show BI.Storable _ (pV.part c (sh (rv p) c) (gath X.v c)); infer_instance

abbrev EA : Emb UA (MT nD τ sig Unit (Elt F) ℕ UU ℕ) := ((Emb.inl : Emb UA (UA × (UA × Counters))).trans embR)
instance EA_lands : (EA (F := F)).LandsIn (upEmb : UEmb _ 𝕄) := by unfold EA; infer_instance

/-- One side of the exchange on device `c`: its rows, what it gathers, and how they enter the exchange. -/
structure Lane (X : Data F) (π : Pipe) (c : Dev nD) where
  f : π.Rows F c
  g : π.Got F c
  hS : ∀ p, (π.lent c (sh p c) f : sProp 𝕄) ⊢ (GA X).S c p π.t
  hS' : ∀ p, (GA X).S c p π.t ⊢ (π.lent c (sh p c) f : sProp 𝕄)
  hW : ∀ p (fd : π.Got F (sh p c)), ((π.chk c).view.loc ((sh p c : Dev nD) : Thread nD τ) ↦[(π.chk c).view.set]{fullShare}
    ((π.chk c).view.write (Elt F) fd ((π.row (sh p c)).view.read (Elt F) f) Finset.univ) : sProp 𝕄) ⊢ (GA X).R (sh p c) p π.t
  hR : ∀ p, (GA X).R c p π.t ⊢ (π.part c (sh (rv p) c) g : sProp 𝕄)
  hO : ∀ fd : π.Got F c, ((π.chk c).view.loc (c : Thread nD τ) ↦[(π.chk c).view.set]{fullShare}
    ((π.chk c).view.write (Elt F) fd ((π.row c).view.read (Elt F) f) Finset.univ) : sProp 𝕄) ⊢ π.part c c g

def laneK (X : Data F) (c : Dev nD) : Lane X pK c where
  f := X.k c
  g := gath X.k c
  hS _ := Entails.refl _
  hS' _ := Entails.refl _
  hW p fd := (pK.lands c (sh p c) c (sh p c) (X.k c) (gath X.k (sh p c)) (fitsK X.k (sh p c) c) fd).trans (Entails.of_eq (by
    show _ = pK.part (sh p c) (sh (rv p) (sh p c)) (gath X.k (sh p c)); rw [rv_sh]))
  hR _ := Entails.refl _
  hO fd := pK.lands c c c c (X.k c) (gath X.k c) (fitsK X.k c c) fd
def laneV (X : Data F) (c : Dev nD) : Lane X pV c where
  f := X.v c
  g := gath X.v c
  hS _ := Entails.refl _
  hS' _ := Entails.refl _
  hW p fd := (pV.lands c (sh p c) c (sh p c) (X.v c) (gath X.v (sh p c)) (fitsV X.v (sh p c) c) fd).trans (Entails.of_eq (by
    show _ = pV.part (sh p c) (sh (rv p) (sh p c)) (gath X.v (sh p c)); rw [rv_sh]))
  hR _ := Entails.refl _
  hO fd := pV.lands c c c c (X.v c) (gath X.v c) (fitsV X.v c c) fd

/-! ## The steps -/

section Steps
variable {X : Data F} (κ : GSem nD τ sig → ℕ) {π : Pipe} {c : Dev nD} (ℓ : Lane X π c)

/-- The rows for the device `p + 1` steps on, sent there. -/
theorem wp_give {α : Type} {Q : α → sProp 𝕄} {k : PUnit → Prog (TpuEff nD τ sig (Elt F) Λ₀ .tc) α} (p : Fin 3) {j : Dev nD} (hj : j = sh p c)
    {o1 : Fin 3 → ℕ} {h1} (e1 : o1 = ![8 * (sh p c).val, 0, 0]) {o2 : Fin 4 → ℕ} {h2} (e2 : o2 = ![0, c.val, 0, 0])
    {o3 : Fin 2 → ℕ} {h3} (e3 : o3 = ![p.val, π.t.val]) {o4 : Fin 2 → ℕ} {h4} (e4 : o4 = ![c.val, π.t.val])
    {hsc : (chkM π.C o2 h2).view.ref.isScScratch = false} {x1 x2 x3} (D : CellTallies nD τ sig Unit) (l : List (Pay 2)) {Ws : Waits sig Unit} :
    iprop(known WA (GA X) EA κ ∗ ticket WA EA c p π.t ∗ π.lent c (sh p c) ℓ.f ∗ π.room (sh p c) c ∗ owes (c : Thread nD τ) (dueOn WA D c (.inr (p, π.t) :: l)) Ws)
      ⊢ iprop(((cred (tallyAt (WA.sndC c p π.t) () WA.amt) ∗ owes (c : Thread nD τ) (dueOn WA D c l) Ws) -∗ wp frame (wpE defs 𝒱₀ (c : Thread nD τ) none) Set.univ (k ⟨⟩) Q)
        -∗ wp frame (wpE defs 𝒱₀ (c : Thread nD τ) none) Set.univ
          (.op (.enqueueDma (rowM π.A o1 h1) (.remote (j : Thread nD τ) (chkM π.C o2 h2) (.dma (sndS o3 h3)) hsc) (.dma (rcvS o4 h4)) x1 x2 x3) k) Q) := by
  subst e1 e2 e3 e4
  unfold Pipe.room Pipe.part Pipe.lent
  iintro ⟨#HK, Ht, Hs, ⟨%fd, Hd⟩, HO⟩
  iapply (wp_snd WA (GA X) EA 𝒱₀ κ c none p π.t hj (src := π.row (sh p c)) (dst := π.chk c) (sS := sndS ![p.val, π.t.val] (snd_inb p π.t)) (sR := rcvS ![c.val, π.t.val] (rcv_inb c π.t)) rfl
    (show rcvS ![c.val, π.t.val] (rcv_inb c π.t) = rcvS ![(sh (rv p) (sh p c)).val, π.t.val] (rcv_inb _ π.t) by simp only [rv_sh])
    rfl (dueOn WA D c l) rfl (ℓ.hS p) (ℓ.hW p fd))
  isplitr; · iexact HK
  isplitl [Ht]; · iexact Ht
  isplitl [Hs]; · iexact Hs
  isplitl [Hd]; · iexact Hd
  iexact HO

/-- The own rows copied. -/
theorem wp_keep {α : Type} {Q : α → sProp 𝕄} {k : PUnit → Prog (TpuEff nD τ sig (Elt F) Λ₀ .tc) α}
    {o1 : Fin 3 → ℕ} {h1} (e1 : o1 = ![8 * c.val, 0, 0]) {o2 : Fin 4 → ℕ} {h2} (e2 : o2 = ![0, c.val, 0, 0])
    {o3 : Fin 1 → ℕ} {h3} (e3 : o3 = ![π.t.val]) {x1 x2 x3} :
    iprop(π.lent c c ℓ.f ∗ π.room c c ∗ semVal ((c : Thread nD τ), .dma (cpyS ![π.t.val] (cpy_inb π.t))) 0)
      ⊢ iprop((Flight EC (c : Thread nD τ) (.dma (cpyS ![π.t.val] (cpy_inb π.t))) () (π.chk c).view.dmaCredit iprop(π.part c c ℓ.g ∗ π.lent c c ℓ.f)
          -∗ wp frame (wpE defs 𝒱₀ (c : Thread nD τ) none) Set.univ (k ⟨⟩) Q)
        -∗ wp frame (wpE defs 𝒱₀ (c : Thread nD τ) none) Set.univ
          (.op (.enqueueDma (rowM π.A o1 h1) (.here (chkM π.C o2 h2)) (.dma (cpyS o3 h3)) x1 x2 x3) k) Q) := by
  subst e1 e2 e3
  unfold Pipe.room
  iintro ⟨Hs, ⟨%fd, Hd⟩, Hv⟩ Hk
  ihave Hs := (show (π.lent c c ℓ.f : sProp 𝕄) ⊢ ((π.row c).view.loc (c : Thread nD τ) ↦[(π.row c).view.set]{fullShare} ℓ.f) from Entails.refl _) $$ Hs
  ihave Hd := (show (π.part c c fd : sProp 𝕄) ⊢ ((π.chk c).view.loc (c : Thread nD τ) ↦[(π.chk c).view.set]{fullShare} fd) from Entails.refl _) $$ Hd
  iapply (wp_dmaLocal EC 𝒱₀ (c : Thread nD τ) none () (π.chk c).view.dmaCredit rfl (View.dmaCredit_pos _ (by decide)) (Finset.Subset.refl _)) $$ [Hs Hd Hv]
  · isplitl [Hs]; · iexact Hs
    isplitl [Hd]; · iexact Hd
    iexact Hv
  iintro HF
  iapply Hk
  iapply (Transfers.Flight_mono EC _ (BIClass.sep_mono (ℓ.hO fd) (Entails.refl _))) $$ HF

/-- The step at which device `j` sends to device `c`. -/
def frm (c j : Dev 4) : Fin 3 := if h : (c.val + 7 - j.val) % 4 < 3 then ⟨(c.val + 7 - j.val) % 4, h⟩ else 0
theorem frm_sh : ∀ c j : Dev 4, c ≠ j → sh (rv (frm c j)) c = j := by decide
theorem frm_of : ∀ (c : Dev 4) (p : Fin 3), frm c (sh p c) = rv p := by decide
theorem sh_ne : ∀ (c : Dev 4) (p : Fin 3), c ≠ sh p c := by decide

/-- The part of device `j` on its way: the own copy, or the piece sent here. -/
def Pnd (j : Dev nD) : sProp 𝕄 :=
  if c = j then Flight EC (c : Thread nD τ) (.dma (cpyS ![π.t.val] (cpy_inb π.t))) () (π.chk c).view.dmaCredit iprop(π.part c c ℓ.g ∗ π.lent c c ℓ.f)
  else iprop(cred (tallyAt (WA.rcvC c (frm c j) π.t) () WA.amt) ∗ atPos EA (WA.rcvC c (frm c j) π.t) 0 ∅ 0)
/-- What is left beside the part once it is there. -/
def Dne (j : Dev nD) : sProp 𝕄 :=
  if c = j then iprop(π.lent c c ℓ.f ∗ semVal ((c : Thread nD τ), .dma (cpyS ![π.t.val] (cpy_inb π.t))) 0)
  else atPos EA (WA.rcvC c (frm c j) π.t) 1 ∅ 0

variable {L : GSem nD τ sig → Finset Unit} {lv : GSem nD τ sig → Unit → ℕ} {O : CellTallies nD τ sig Unit}

/-- The own copy waited for. -/
theorem wp_own {α : Type} {Q : α → sProp 𝕄} {k : PUnit → Prog (TpuEff nD τ sig (Elt F) Λ₀ .tc) α} {j : Dev nD} (hj : c = j)
    (hO : ∀ o h, (levAts L lv : sProp 𝕄) ⊢ MayWait (c : Thread nD τ) (.dma (cpyS o h)) () O)
    {o2 : Fin 4 → ℕ} {h2} {o3 : Fin 1 → ℕ} {h3} (e3 : o3 = ![π.t.val]) {sp' : Space} {s' : Shape} {e' : EltTy} {srcw : Memref sig .tc sp' s' e'} {x1 x2} :
    iprop(Pnd ℓ j ∗ Owe c L lv O)
      ⊢ iprop(((π.part c j ℓ.g ∗ Dne ℓ j ∗ Owe c L lv O) -∗ wp frame (wpE defs 𝒱₀ (c : Thread nD τ) none) Set.univ (k ⟨⟩) Q)
        -∗ wp frame (wpE defs 𝒱₀ (c : Thread nD τ) none) Set.univ (.op (.waitDma2 (cpyS o3 h3) srcw (chkM π.C o2 h2) x1 x2) k) Q) := by
  subst e3 hj
  unfold Pnd Dne Owe
  rw [if_pos rfl, if_pos rfl]
  iintro ⟨HF, #HL, %W, HO⟩ Hk
  iapply (wp_waitLocalO EC 𝒱₀ (c : Thread nD τ) none () rfl) $$ [HF HO]
  · isplitl [HF]; · iexact HF
    isplitl [HO]; · iexact HO
    iapply (hO _ _); iexact HL
  iintro ⟨⟨Hd, Hs⟩, Hv, HO⟩
  iapply Hk
  isplitl [Hd]; · iexact Hd
  isplitl [Hv Hs]; · isplitl [Hs] <;> iassumption
  isplitr; · iexact HL
  iexists _; iexact HO

/-- A piece waited for. -/
theorem wp_got {α : Type} {Q : α → sProp 𝕄} {k : PUnit → Prog (TpuEff nD τ sig (Elt F) Λ₀ .tc) α} {j : Dev nD} (hj : c ≠ j)
    (hO : ∀ o h, (levAts L lv : sProp 𝕄) ⊢ MayWait (c : Thread nD τ) (.dma (rcvS o h)) () O)
    {o2 : Fin 4 → ℕ} {h2} {o3 : Fin 2 → ℕ} {h3} (e3 : o3 = ![j.val, π.t.val]) {sp' : Space} {s' : Shape} {e' : EltTy} {srcw : Memref sig .tc sp' s' e'} {x1 x2} :
    iprop(known WA (GA X) EA κ ∗ Pnd ℓ j ∗ Owe c L lv O)
      ⊢ iprop(((π.part c j ℓ.g ∗ Dne ℓ j ∗ Owe c L lv O) -∗ wp frame (wpE defs 𝒱₀ (c : Thread nD τ) none) Set.univ (k ⟨⟩) Q)
        -∗ wp frame (wpE defs 𝒱₀ (c : Thread nD τ) none) Set.univ (.op (.waitDma2 (rcvS o3 h3) srcw (chkM π.C o2 h2) x1 x2) k) Q) := by
  subst e3
  unfold Pnd Dne Owe
  rw [if_neg hj, if_neg hj]
  iintro ⟨#HK, ⟨HC, Ha⟩, #HL, %W, HO⟩ Hk
  iapply (wp_rcvWait WA (GA X) EA 𝒱₀ κ c none (frm c j) π.t (sR := rcvS ![j.val, π.t.val] (rcv_inb j π.t))
    (show rcvS ![j.val, π.t.val] (rcv_inb j π.t) = rcvS ![(sh (rv (frm c j)) c).val, π.t.val] (rcv_inb _ π.t) by simp only [frm_sh c j hj]) (dst := chkM π.C o2 h2) rfl) $$ [HC Ha HO]
  · isplitr; · iexact HK
    isplitl [HC]; · iexact HC
    isplitl [HO]; · iexact HO
    isplitr; · iapply (hO _ _); iexact HL
    iexact Ha
  iintro ⟨HO, Ha, HR⟩
  iapply Hk
  isplitl [HR]
  · ihave HR := (ℓ.hR (frm c j)) $$ HR
    rw [frm_sh c j hj]
    iexact HR
  isplitl [Ha]; · iexact Ha
  isplitr; · iexact HL
  iexists _; iexact HO

/-- The rows sent, waited for. -/
theorem wp_gone {α : Type} {Q : α → sProp 𝕄} {k : PUnit → Prog (TpuEff nD τ sig (Elt F) Λ₀ .tc) α} (p : Fin 3)
    (hO : ∀ o h, (levAts L lv : sProp 𝕄) ⊢ MayWait (c : Thread nD τ) (.dma (sndS o h)) () O)
    {o2 : Fin 3 → ℕ} {h2} {o3 : Fin 2 → ℕ} {h3} (e3 : o3 = ![p.val, π.t.val]) {sp' : Space} {s' : Shape} {e' : EltTy} {srcw : Memref sig .tc sp' s' e'} {x1 x2} :
    iprop(known WA (GA X) EA κ ∗ (cred (tallyAt (WA.sndC c p π.t) () WA.amt) ∗ atPos EA (WA.sndC c p π.t) 0 ∅ 0) ∗ Owe c L lv O)
      ⊢ iprop(((π.lent c (sh p c) ℓ.f ∗ atPos EA (WA.sndC c p π.t) 1 ∅ 0 ∗ Owe c L lv O) -∗ wp frame (wpE defs 𝒱₀ (c : Thread nD τ) none) Set.univ (k ⟨⟩) Q)
        -∗ wp frame (wpE defs 𝒱₀ (c : Thread nD τ) none) Set.univ (.op (.waitDma2 (sndS o3 h3) srcw (rowM π.A o2 h2) x1 x2) k) Q) := by
  subst e3
  unfold Owe
  iintro ⟨#HK, ⟨HC, Ha⟩, #HL, %W, HO⟩ Hk
  iapply (wp_sndWait WA (GA X) EA 𝒱₀ κ c none p π.t (sS := sndS ![p.val, π.t.val] (snd_inb p π.t)) rfl (dst := rowM π.A o2 h2) rfl) $$ [HC Ha HO]
  · isplitr; · iexact HK
    isplitl [HC]; · iexact HC
    isplitl [HO]; · iexact HO
    isplitr; · iapply (hO _ _); iexact HL
    iexact Ha
  iintro ⟨HO, Ha, HS⟩
  iapply Hk
  isplitl [HS]; · iapply (ℓ.hS' p); iexact HS
  isplitl [Ha]; · iexact Ha
  isplitr; · iexact HL
  iexists _; iexact HO

end Steps

end Cert.Attn

end
-- ==== Proof.Steps.lean ====
/-
  What the body of the attention does between its loops: parts of the gathered arrays put together, inputs read whole, and
  which waits a device makes.
-/
module

public import proofs.«01_k».proof.Proof.Swap

@[expose] public section

noncomputable section

namespace Cert.Attn

open Cert.KernelIdeal Cert.KernelIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocalO)

variable {F : FTy → Type} [FloatOps F] [Named F]
local notation "𝕄" => MT nD τ sig Unit (Elt F) ℕ UU ℕ
variable {defs : Defs nD τ sig (Elt F) Λ₀}

/-- The part of device `j` of a gathered array. -/
def Ch (j : Fin 4) : Finset S8x4x2048x128.Idx := Finset.univ.filter fun i => (i 1).val = j.val
theorem mem_Ch (j : Fin 4) (i : S8x4x2048x128.Idx) : i ∈ Ch j ↔ (i 1).val = j.val := by
  unfold Ch; rw [Finset.mem_filter]; exact ⟨fun h => h.2, fun h => ⟨Finset.mem_univ _, h⟩⟩

theorem chk_set_eq (j : Dev nD) : (Rect.unit (s := S8x4x2048x128) ![0, j.val, 0, 0] S8x1x2048x128.size (chk_inb j)).set = Ch j := by
  ext i
  rw [Rect.mem_set_unit, mem_Ch]
  constructor
  · intro h
    have h1 := h 1
    have e1 : (![0, j.val, 0, 0] : Fin 4 → ℕ) 1 = j.val := rfl
    have e2 : S8x1x2048x128.size 1 = 1 := rfl
    rw [e1, e2] at h1
    omega
  · intro h a
    fin_cases a
    · exact ⟨Nat.zero_le _, by have := (i 0).isLt; simpa using this⟩
    · refine ⟨?_, ?_⟩
      · show j.val ≤ (i 1).val; rw [h]
      · show (i 1).val < j.val + 1; rw [h]; exact Nat.lt_succ_self _
    · exact ⟨Nat.zero_le _, by have := (i 2).isLt; simpa using this⟩
    · exact ⟨Nat.zero_le _, by have := (i 3).isLt; simpa using this⟩
/-- What the first phase reads from: the parts of devices 0 and 1. -/
def R2 : Finset S8x4x2048x128.Idx := Finset.univ.filter fun i => (i 1).val < 2

theorem within_univ (h : Fin 8) (k : Fin 16) : Within Finset.univ h k := Finset.subset_univ _
theorem within_R2 (h : Fin 8) (i : ℕ) (hi : i < 5) : Within R2 h (blockAt 0 i) := by
  intro x hx
  rw [Rect.mem_set_unit] at hx
  have h1 := (hx 1).2
  refine Finset.mem_filter.2 ⟨Finset.mem_univ _, ?_⟩
  have h2 : (![h.val, (blockAt 0 i).val / 4, (blockAt 0 i).val % 4 * 512, 0] : Fin 4 → ℕ) 1 + S1x1x512x128.size 1 = (blockAt 0 i).val / 4 + 1 := rfl
  rw [h2] at h1
  have h3 : (blockAt 0 i).val = (0 + i) % 16 := rfl
  omega

/-! ## The parts put together -/

theorem chk_setK (j : Dev nD) : (pK.chk j).view.set = Ch j := by
  rw [View.set_reshape, show ((kcM.slice (Rect.unit (s := S8x4x2048x128) ![0, j.val, 0, 0] S8x1x2048x128.size (chk_inb j)) (fun _ => rfl)).view.set) = (Rect.unit (s := S8x4x2048x128) ![0, j.val, 0, 0] S8x1x2048x128.size (chk_inb j)).set from View.set_slice_whole _ _]
  exact chk_set_eq j
theorem chk_setV (j : Dev nD) : (pV.chk j).view.set = Ch j := by
  rw [View.set_reshape, show ((vcM.slice (Rect.unit (s := S8x4x2048x128) ![0, j.val, 0, 0] S8x1x2048x128.size (chk_inb j)) (fun _ => rfl)).view.set) = (Rect.unit (s := S8x4x2048x128) ![0, j.val, 0, 0] S8x1x2048x128.size (chk_inb j)).set from View.set_slice_whole _ _]
  exact chk_set_eq j

theorem lt_two {n : ℕ} : n < 2 ↔ n = 0 ∨ n = 1 := by omega
theorem lt_all {n : ℕ} (h : n < 4) : n < 2 ∨ n = 2 ∨ n = 3 := by omega
theorem R2_eq : R2 = Ch 0 ∪ Ch 1 := by
  ext i
  rw [R2, Finset.mem_filter, Finset.mem_union, mem_Ch, mem_Ch]
  exact ⟨fun h => lt_two.1 h.2, fun h => ⟨Finset.mem_univ _, lt_two.2 h⟩⟩
theorem all_eq : (Finset.univ : Finset S8x4x2048x128.Idx) = R2 ∪ (Ch 2 ∪ Ch 3) := by
  ext i
  rw [R2, Finset.mem_union, Finset.mem_union, Finset.mem_filter, mem_Ch, mem_Ch]
  have h4 : (i 1).val < 4 := (i 1).isLt
  exact ⟨fun _ => (lt_all h4).imp (fun h => ⟨Finset.mem_univ _, h⟩) id, fun _ => Finset.mem_univ _⟩
theorem chk_disj (a b : Fin 4) (h : a ≠ b) : Disjoint (Ch a) (Ch b) := by
  rw [Finset.disjoint_left]
  intro i h1 h2
  exact h (Fin.ext ((((mem_Ch a i).1 h1).symm).trans ((mem_Ch b i).1 h2)))
theorem R2_disj (b : Fin 4) (h : 2 ≤ b.val) : Disjoint R2 (Ch b) := by
  rw [Finset.disjoint_left]
  intro i h1 h2
  have h3 := (Finset.mem_filter.1 h1).2
  have h4 := (mem_Ch b i).1 h2
  omega

theorem first2_K (c : Dev nD) (g : Arr F) : iprop(pK.part c 0 g ∗ pK.part c 1 g) ⊢ (sK.Src c g R2 : sProp 𝕄) := by
  unfold Pipe.part Side.Src
  rw [chk_setK, chk_setK, R2_eq]
  exact (pointsTo_union (chk_disj 0 1 (by decide))).2
theorem first2_V (c : Dev nD) (g : Arr F) : iprop(pV.part c 0 g ∗ pV.part c 1 g) ⊢ (sV.Src c g R2 : sProp 𝕄) := by
  unfold Pipe.part Side.Src
  rw [chk_setV, chk_setV, R2_eq]
  exact (pointsTo_union (chk_disj 0 1 (by decide))).2
theorem all4_K (c : Dev nD) (g : Arr F) : iprop(sK.Src c g R2 ∗ pK.part c 2 g ∗ pK.part c 3 g) ⊢ (sK.Src c g Finset.univ : sProp 𝕄) := by
  unfold Pipe.part Side.Src
  rw [chk_setK, chk_setK]
  refine (BIClass.sep_mono (Entails.refl _) (pointsTo_union (chk_disj 2 3 (by decide))).2).trans ?_
  refine ((pointsTo_union (Finset.disjoint_union_right.2 ⟨R2_disj 2 (by decide), R2_disj 3 (by decide)⟩)).2).trans ?_
  rw [← all_eq]
theorem all4_V (c : Dev nD) (g : Arr F) : iprop(sV.Src c g R2 ∗ pV.part c 2 g ∗ pV.part c 3 g) ⊢ (sV.Src c g Finset.univ : sProp 𝕄) := by
  unfold Pipe.part Side.Src
  rw [chk_setV, chk_setV]
  refine (BIClass.sep_mono (Entails.refl _) (pointsTo_union (chk_disj 2 3 (by decide))).2).trans ?_
  refine ((pointsTo_union (Finset.disjoint_union_right.2 ⟨R2_disj 2 (by decide), R2_disj 3 (by decide)⟩)).2).trans ?_
  rw [← all_eq]

/-- The slots of the stream at rest. -/
def Slots (c : Dev nD) : sProp 𝕄 := iprop((sK.Rest c 0 ∗ sK.Rest c 1) ∗ sV.Rest c 0 ∗ sV.Rest c 1)

theorem begin_quiet (c : Dev nD) (K V : Arr F) :
    iprop(Slots c ∗ pK.part c 0 K ∗ pK.part c 1 K ∗ pV.part c 0 V ∗ pV.part c 1 V) ⊢ (Quiet c K V R2 : sProp 𝕄) := by
  unfold Quiet Side.Idle Slots
  iintro ⟨⟨⟨H0, H1⟩, H2, H3⟩, K0, K1, V0, V1⟩
  isplitl [H0 H1 K0 K1]
  · isplitl [H0]; · iexact H0
    isplitl [H1]; · iexact H1
    iapply (first2_K c K)
    isplitl [K0] <;> iassumption
  · isplitl [H2]; · iexact H2
    isplitl [H3]; · iexact H3
    iapply (first2_V c V)
    isplitl [V0] <;> iassumption
theorem grow_quiet (c : Dev nD) (K V : Arr F) :
    iprop(Quiet c K V R2 ∗ pK.part c 2 K ∗ pK.part c 3 K ∗ pV.part c 2 V ∗ pV.part c 3 V) ⊢ (Quiet c K V Finset.univ : sProp 𝕄) := by
  unfold Quiet Side.Idle
  iintro ⟨⟨⟨H0, H1, HK⟩, H2, H3, HV⟩, K2, K3, V2, V3⟩
  isplitl [H0 H1 HK K2 K3]
  · isplitl [H0]; · iexact H0
    isplitl [H1]; · iexact H1
    iapply (all4_K c K)
    isplitl [HK]; · iexact HK
    isplitl [K2] <;> iassumption
  · isplitl [H2]; · iexact H2
    isplitl [H3]; · iexact H3
    iapply (all4_V c V)
    isplitl [HV]; · iexact HV
    isplitl [V2] <;> iassumption

/-! ## The inputs read whole -/

def Xi (c : Dev nD) (x : S1x2048x1024.Idx → Elt F .bf16) : sProp 𝕄 := xM.view.loc (c : Thread nD τ) ↦[Finset.univ]{fullShare} x
def Qi (c : Dev nD) (x : S1024x1024.Idx → Elt F .bf16) : sProp 𝕄 := qM.view.loc (c : Thread nD τ) ↦[Finset.univ]{fullShare} x

theorem wp_x (c : Dev nD) (x : S1x2048x1024.Idx → Elt F .bf16) {α : Type} {Q : α → sProp 𝕄} {kk : Vec F S1x2048x1024 .bf16 → Prog (TpuEff nD τ sig (Elt F) Λ₀ .tc) α}
    {hb : ∀ a, (![0, 0, 0] : Fin 3 → ℕ) a + S1x2048x1024.size a ≤ S1x2048x1024.size a} {hl} :
    (Xi c x : sProp 𝕄)
      ⊢ iprop((Xi c x -∗ wp frame (wpE defs 𝒱₀ (c : Thread nD τ) none) Set.univ (kk x) Q)
        -∗ wp frame (wpE defs 𝒱₀ (c : Thread nD τ) none) Set.univ (.op (.load xM (Rect.unit (s := S1x2048x1024) ![0, 0, 0] S1x2048x1024.size hb).toLoadRect hl) kk) Q) := by
  unfold Xi
  iintro H Hk
  iapply (wp_load_rect 𝒱₀ (c : Thread nD τ) none Set.univ (m := xM) (r := Rect.unit (s := S1x2048x1024) ![0, 0, 0] S1x2048x1024.size hb) (S := Finset.univ) (Finset.subset_univ _)) $$ H
  iintro H
  rw [show ((xM.access (Rect.unit (s := S1x2048x1024) ![0, 0, 0] S1x2048x1024.size hb)).read (Elt F) x) = x from Memref.read_access_unit_zero (Elt F) xM.view.ref (off := ![0, 0, 0]) (by funext a; fin_cases a <;> rfl) hb x]
  iapply Hk
  iexact H
theorem wp_q (c : Dev nD) (x : S1024x1024.Idx → Elt F .bf16) {α : Type} {Q : α → sProp 𝕄} {kk : Vec F S1024x1024 .bf16 → Prog (TpuEff nD τ sig (Elt F) Λ₀ .tc) α}
    {hb : ∀ a, (![0, 0] : Fin 2 → ℕ) a + S1024x1024.size a ≤ S1024x1024.size a} {hl} :
    (Qi c x : sProp 𝕄)
      ⊢ iprop((Qi c x -∗ wp frame (wpE defs 𝒱₀ (c : Thread nD τ) none) Set.univ (kk x) Q)
        -∗ wp frame (wpE defs 𝒱₀ (c : Thread nD τ) none) Set.univ (.op (.load qM (Rect.unit (s := S1024x1024) ![0, 0] S1024x1024.size hb).toLoadRect hl) kk) Q) := by
  unfold Qi
  iintro H Hk
  iapply (wp_load_rect 𝒱₀ (c : Thread nD τ) none Set.univ (m := qM) (r := Rect.unit (s := S1024x1024) ![0, 0] S1024x1024.size hb) (S := Finset.univ) (Finset.subset_univ _)) $$ H
  iintro H
  rw [show ((qM.access (Rect.unit (s := S1024x1024) ![0, 0] S1024x1024.size hb)).read (Elt F) x) = x from Memref.read_access_unit_zero (Elt F) qM.view.ref (off := ![0, 0]) (by funext a; fin_cases a <;> rfl) hb x]
  iapply Hk
  iexact H

/-! ## The devices in a ring -/

theorem ring_out (Φ : Dev nD → sProp 𝕄) (c : Dev nD) : iprop(Φ c ∗ Φ (sh 0 c) ∗ Φ (sh 1 c) ∗ Φ (sh 2 c)) ⊢ iprop(Φ 0 ∗ Φ 1 ∗ Φ 2 ∗ Φ 3) := by
  obtain rfl | rfl | rfl | rfl : c = 0 ∨ c = 1 ∨ c = 2 ∨ c = 3 := by revert c; decide
  · show iprop(Φ 0 ∗ Φ 1 ∗ Φ 2 ∗ Φ 3) ⊢ _
    exact Entails.refl _
  · show iprop(Φ 1 ∗ Φ 2 ∗ Φ 3 ∗ Φ 0) ⊢ _
    iintro ⟨H1, H2, H3, H0⟩
    isplitl [H0]; · iexact H0
    isplitl [H1]; · iexact H1
    isplitl [H2]; · iexact H2
    iexact H3
  · show iprop(Φ 2 ∗ Φ 3 ∗ Φ 0 ∗ Φ 1) ⊢ _
    iintro ⟨H2, H3, H0, H1⟩
    isplitl [H0]; · iexact H0
    isplitl [H1]; · iexact H1
    isplitl [H2]; · iexact H2
    iexact H3
  · show iprop(Φ 3 ∗ Φ 0 ∗ Φ 1 ∗ Φ 2) ⊢ _
    iintro ⟨H3, H0, H1, H2⟩
    isplitl [H0]; · iexact H0
    isplitl [H1]; · iexact H1
    isplitl [H2]; · iexact H2
    iexact H3
theorem ring_in (Φ : Dev nD → sProp 𝕄) (c : Dev nD) : iprop(Φ 0 ∗ Φ 1 ∗ Φ 2 ∗ Φ 3) ⊢ iprop(Φ c ∗ Φ (sh 0 c) ∗ Φ (sh 1 c) ∗ Φ (sh 2 c)) := by
  obtain rfl | rfl | rfl | rfl : c = 0 ∨ c = 1 ∨ c = 2 ∨ c = 3 := by revert c; decide
  · show _ ⊢ iprop(Φ 0 ∗ Φ 1 ∗ Φ 2 ∗ Φ 3)
    exact Entails.refl _
  · show _ ⊢ iprop(Φ 1 ∗ Φ 2 ∗ Φ 3 ∗ Φ 0)
    iintro ⟨H0, H1, H2, H3⟩
    isplitl [H1]; · iexact H1
    isplitl [H2]; · iexact H2
    isplitl [H3]; · iexact H3
    iexact H0
  · show _ ⊢ iprop(Φ 2 ∗ Φ 3 ∗ Φ 0 ∗ Φ 1)
    iintro ⟨H0, H1, H2, H3⟩
    isplitl [H2]; · iexact H2
    isplitl [H3]; · iexact H3
    isplitl [H0]; · iexact H0
    iexact H1
  · show _ ⊢ iprop(Φ 3 ∗ Φ 0 ∗ Φ 1 ∗ Φ 2)
    iintro ⟨H0, H1, H2, H3⟩
    isplitl [H3]; · iexact H3
    isplitl [H0]; · iexact H0
    isplitl [H1]; · iexact H1
    iexact H2

/-- What waiting for the piece of step `p` takes. -/
def Oth (π : Pipe) (c : Dev nD) (p : Fin 3) : sProp 𝕄 :=
  iprop(cred (tallyAt (WA.rcvC c p π.t) () WA.amt) ∗ atPos EA (WA.rcvC c p π.t) 0 ∅ 0)
/-- The own copy on its way. -/
abbrev Own {X : Data F} {π : Pipe} {c : Dev nD} (ℓ : Lane X π c) : sProp 𝕄 :=
  Flight EC (c : Thread nD τ) (.dma (cpyS ![π.t.val] (cpy_inb π.t))) () (π.chk c).view.dmaCredit iprop(π.part c c ℓ.g ∗ π.lent c c ℓ.f)

theorem pnd_own {X : Data F} {π : Pipe} {c : Dev nD} (ℓ : Lane X π c) : Own ℓ ⊢ Pnd ℓ c := by
  unfold Pnd; rw [if_pos rfl]
theorem pnd_oth {X : Data F} {π : Pipe} {c : Dev nD} (ℓ : Lane X π c) (p : Fin 3) : Oth π c (rv p) ⊢ Pnd ℓ (sh p c) := by
  unfold Oth Pnd; rw [if_neg (sh_ne c p), frm_of]
theorem pnds {X : Data F} {π : Pipe} {c : Dev nD} (ℓ : Lane X π c) :
    iprop(Own ℓ ∗ Oth π c 0 ∗ Oth π c 1 ∗ Oth π c 2) ⊢ iprop(Pnd ℓ 0 ∗ Pnd ℓ 1 ∗ Pnd ℓ 2 ∗ Pnd ℓ 3) := by
  refine BIBase.Entails.trans ?_ (ring_out (Pnd ℓ) c)
  iintro ⟨HO, H0, H1, H2⟩
  isplitl [HO]; · iapply (pnd_own ℓ); iexact HO
  isplitl [H2]; · iapply (pnd_oth ℓ 0); iexact H2
  isplitl [H1]; · iapply (pnd_oth ℓ 1); iexact H1
  iapply (pnd_oth ℓ 2); iexact H0

/-- After the last wait: the own rows back, the copy's semaphore at rest, every piece's position at its end. -/
theorem dnes {X : Data F} {π : Pipe} {c : Dev nD} (ℓ : Lane X π c) :
    iprop(Dne ℓ 0 ∗ Dne ℓ 1 ∗ Dne ℓ 2 ∗ Dne ℓ 3) ⊢ iprop((π.lent c c ℓ.f ∗ semVal ((c : Thread nD τ), .dma (cpyS ![π.t.val] (cpy_inb π.t))) 0)
      ∗ atPos EA (WA.rcvC c 2 π.t) 1 ∅ 0 ∗ atPos EA (WA.rcvC c 1 π.t) 1 ∅ 0 ∗ atPos EA (WA.rcvC c 0 π.t) 1 ∅ 0) := by
  refine (ring_in (Dne ℓ) c).trans ?_
  unfold Dne
  rw [if_pos rfl, if_neg (sh_ne c 0), if_neg (sh_ne c 1), if_neg (sh_ne c 2), frm_of, frm_of, frm_of]
  exact Entails.refl _

/-- The part of device `j` once the own copy, if it is that, has been waited for. -/
def Md {X : Data F} {π : Pipe} {c : Dev nD} (ℓ : Lane X π c) (j : Dev nD) : sProp 𝕄 :=
  if c = j then iprop(π.part c j ℓ.g ∗ Dne ℓ j) else Pnd ℓ j
theorem md_yes {X : Data F} {π : Pipe} {c : Dev nD} (ℓ : Lane X π c) {j : Dev nD} (h : c = j) : iprop(π.part c j ℓ.g ∗ Dne ℓ j) ⊢ Md ℓ j := by
  unfold Md; rw [if_pos h]
theorem md_open {X : Data F} {π : Pipe} {c : Dev nD} (ℓ : Lane X π c) {j : Dev nD} (h : c = j) : Md ℓ j ⊢ iprop(π.part c j ℓ.g ∗ Dne ℓ j) := by
  unfold Md; rw [if_pos h]
theorem md_no {X : Data F} {π : Pipe} {c : Dev nD} (ℓ : Lane X π c) {j : Dev nD} (h : c ≠ j) : Pnd ℓ j ⊢ Md ℓ j := by
  unfold Md; rw [if_neg h]
theorem md_wait {X : Data F} {π : Pipe} {c : Dev nD} (ℓ : Lane X π c) {j : Dev nD} (h : c ≠ j) : Md ℓ j ⊢ Pnd ℓ j := by
  unfold Md; rw [if_neg h]

/-! ## The waits that each device makes -/

/-- What may be waited for while `O` is owed. -/
structure May (c : Dev nD) (L : GSem nD τ sig → Finset Unit) (lv : GSem nD τ sig → Unit → ℕ) (O : CellTallies nD τ sig Unit) : Prop where
  str : ∀ o h, (levAts L lv : sProp 𝕄) ⊢ MayWait (c : Thread nD τ) (.dma (strS o h)) () O
  cpy : ∀ o h, (levAts L lv : sProp 𝕄) ⊢ MayWait (c : Thread nD τ) (.dma (cpyS o h)) () O
  rcv : ∀ o h, (levAts L lv : sProp 𝕄) ⊢ MayWait (c : Thread nD τ) (.dma (rcvS o h)) () O
  snd : ∀ o h, (levAts L lv : sProp 𝕄) ⊢ MayWait (c : Thread nD τ) (.dma (sndS o h)) () O

theorem cases2 (a b : Dev nD) (h : a ≠ b) (c : Dev nD) :
    (c = a ∧ c ≠ b ∧ (c = a) = True ∧ (c = b) = False) ∨ (c ≠ a ∧ c = b ∧ (c = a) = False ∧ (c = b) = True) ∨ (c ≠ a ∧ c ≠ b ∧ (c = a) = False ∧ (c = b) = False) := by
  revert a b c; decide
theorem cases1 (a : Dev nD) (c : Dev nD) : (c = a ∧ (c = a) = True) ∨ (c ≠ a ∧ (c = a) = False) := by
  revert a c; decide

theorem rcv_iff0 : ∀ c : Dev nD, (Scalar.cmpi .ne (Scalar.extui (Scalar.cmpi .ne (Scalar.remsi (Scalar.divsi (Dev.word c) 1#32) 4#32) 0#32) : BitVec 32) 0#32 = 1#1) ↔ ¬ c = 0 := by decide
theorem rcv_iff1 : ∀ c : Dev nD, (Scalar.cmpi .ne (Scalar.extui (Scalar.cmpi .ne (Scalar.remsi (Scalar.divsi (Dev.word c) 1#32) 4#32) 1#32) : BitVec 32) 0#32 = 1#1) ↔ ¬ c = 1 := by decide
theorem rcv_iff2 : ∀ c : Dev nD, (Scalar.cmpi .ne (Scalar.extui (Scalar.cmpi .ne (Scalar.remsi (Scalar.divsi (Dev.word c) 1#32) 4#32) 2#32) : BitVec 32) 0#32 = 1#1) ↔ ¬ c = 2 := by decide
theorem rcv_iff3 : ∀ c : Dev nD, (Scalar.cmpi .ne (Scalar.extui (Scalar.cmpi .ne (Scalar.remsi (Scalar.divsi (Dev.word c) 1#32) 4#32) 3#32) : BitVec 32) 0#32 = 1#1) ↔ ¬ c = 3 := by decide
theorem cond1_iff : ∀ c : Dev nD, k0_cond1 c = 1#1 ↔ c = 0 := by decide
theorem cond3_iff : ∀ c : Dev nD, k0_cond3 c = 1#1 ↔ c = 0 := by decide
theorem cond5_iff : ∀ c : Dev nD, k0_cond5 c = 1#1 ↔ c = 1 := by decide
theorem cond7_iff : ∀ c : Dev nD, k0_cond7 c = 1#1 ↔ c = 1 := by decide
theorem cond17_iff : ∀ c : Dev nD, k0_cond17 c = 1#1 ↔ c = 2 := by decide
theorem cond19_iff : ∀ c : Dev nD, k0_cond19 c = 1#1 ↔ c = 2 := by decide
theorem cond21_iff : ∀ c : Dev nD, k0_cond21 c = 1#1 ↔ c = 3 := by decide
theorem cond23_iff : ∀ c : Dev nD, k0_cond23 c = 1#1 ↔ c = 3 := by decide

end Cert.Attn

end
-- ==== Proof.PartsA.lean ====
/-
  The parts of the body from the first loop to the sixth.
-/
module

public import proofs.«01_k».proof.Proof.Steps

@[expose] public section

noncomputable section

namespace Cert.Attn

open Cert.KernelIdeal Cert.KernelIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocalO)

variable {F : FTy → Type} [FloatOps F] [Named F]
local notation "𝕄" => MT nD τ sig Unit (Elt F) ℕ UU ℕ
variable {defs : Defs nD τ sig (Elt F) Λ₀}

theorem wp_p48 (c : Dev nD) (K V : Arr F) (W : S1024x1024.Idx → Elt F .bf16) (X0 : Vec F S512x1024 .f32) (X1 : Vec F S512x1024 .f32) (v203_0 : FVec F S2048x1 .f32) (v203_1 : FVec F S2048x1 .f32) (v203_2 : FVec F S2048x128 .f32) {γ : Type} {kk : (Σ' (v216 : FVec F S32x1 .f32) (v217 : FVec F S32x1 .f32) (v218 : FVec F S32x128 .f32), FVec F S2048x128 .bf16) → Prog (TpuEff nD τ sig (Elt F) Λ₀ .tc) γ} {Q : γ → sProp 𝕄} :
    iprop(Quiet c K V R2 ∗ Wo c W ∗ Ob c 0 X0 ∗ Ob c 1 X1)
      ⊢ iprop(((Busy c K V R2 1 0 0 ∗ Wo c W ∗ Ob c 0 (k0_pay46 v203_1 v203_2 (woB W 0)) ∗ Ob c 1 (k0_pay47 v203_1 v203_2 (woB W 0))) -∗ wp frame (wpE defs 𝒱₀ (c : Thread nD τ) none) Set.univ (kk ⟨k0_pay42 v203_0, k0_pay43 v203_1, k0_pay44 v203_2, k0_pay45 v203_1 v203_2⟩) Q)
        -∗ wp frame (wpE defs 𝒱₀ (c : Thread nD τ) none) Set.univ (k0_part48 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v203_0 v203_1 v203_2 >>= kk) Q) := by
  simp only [k0_part48_eq_skeleton]
  unfold k0_part48_skel
  simp only [Prog.lift, Prog.bind_op, Prog.bind_ret, Prog.pure_eq_ret, bind_assoc]
  iintro ⟨HS, HW, H0, H1⟩ Hk
  iapply (wp_k0 c K V R2 1 0 (within_R2 1 0 (by decide)) rfl rfl rfl) $$ HS
  iintro HS
  iapply (wp_v0 c K V R2 1 0 (within_R2 1 0 (by decide)) rfl rfl rfl) $$ HS
  iintro HS
  iapply (wp_wo c W 0 rfl) $$ HW
  iintro HW
  iapply (wp_oload c 0 X0 rfl) $$ H0
  iintro H0
  iapply (wp_ostore c 0 X0 (k0_pay46 v203_1 v203_2 (woB W 0)) rfl) $$ H0
  iintro H0
  iapply (wp_wo c W 0 rfl) $$ HW
  iintro HW
  iapply (wp_oload c 1 X1 rfl) $$ H1
  iintro H1
  iapply (wp_ostore c 1 X1 (k0_pay47 v203_1 v203_2 (woB W 0)) rfl) $$ H1
  iintro H1
  iapply Hk
  isplitl [HS]; · iexact HS
  isplitl [HW]; · iexact HW
  isplitl [H0]; · iexact H0
  iexact H1

theorem wp_p49 (c : Dev nD) (K V : Arr F) (W : S1024x1024.Idx → Elt F .bf16) (X2 : Vec F S512x1024 .f32) (X3 : Vec F S512x1024 .f32) {L : GSem nD τ sig → Finset Unit} {lv : GSem nD τ sig → Unit → ℕ} {O : CellTallies nD τ sig Unit} (HM : May (F := F) c L lv O) (v161 : FVec F S2048x1024 .bf16) (v221 : FVec F S2048x128 .bf16) {γ : Type} {kk : (Σ' (v247_0 : FVec F S2048x1 .f32) (v247_1 : FVec F S2048x1 .f32), FVec F S2048x128 .f32) → Prog (TpuEff nD τ sig (Elt F) Λ₀ .tc) γ} {Q : γ → sProp 𝕄} :
    iprop(Wo c W ∗ Ob c 2 X2 ∗ Ob c 3 X3 ∗ Busy c K V R2 1 0 0 ∗ Owe c L lv O)
      ⊢ iprop(((Wo c W ∗ Ob c 2 (k0_pay48 v221 (woB W 0)) ∗ Ob c 3 (k0_pay49 v221 (woB W 0)) ∗ Half c K V R2 2 0 ∗ Owe c L lv O) -∗ wp frame (wpE defs 𝒱₀ (c : Thread nD τ) none) Set.univ (kk ⟨(fA c K V 1 (k0_pay50 v161)).1, (fA c K V 1 (k0_pay50 v161)).2.1, (fA c K V 1 (k0_pay50 v161)).2.2⟩) Q)
        -∗ wp frame (wpE defs 𝒱₀ (c : Thread nD τ) none) Set.univ (k0_part49 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v221 >>= kk) Q) := by
  simp only [k0_part49_eq_skeleton]
  unfold k0_part49_skel
  simp only [Prog.lift, Prog.bind_op, Prog.bind_ret, Prog.pure_eq_ret, bind_assoc]
  iintro ⟨HW, H2, H3, HS, HO⟩ Hk
  iapply (wp_wo c W 0 rfl) $$ HW
  iintro HW
  iapply (wp_oload c 2 X2 rfl) $$ H2
  iintro H2
  iapply (wp_ostore c 2 X2 (k0_pay48 v221 (woB W 0)) rfl) $$ H2
  iintro H2
  iapply (wp_wo c W 0 rfl) $$ HW
  iintro HW
  iapply (wp_oload c 3 X3 rfl) $$ H3
  iintro H3
  iapply (wp_ostore c 3 X3 (k0_pay49 v221 (woB W 0)) rfl) $$ H3
  iintro H3
  iapply (wp_t2 c K V R2 HM.str (within_R2 1) v161 v221 rfl) $$ [HS HO]
  · isplitl [HS] <;> iassumption
  iintro ⟨HS, HO⟩
  iapply (wp_k0 c K V R2 2 0 (within_R2 2 0 (by decide)) rfl rfl rfl) $$ HS
  iintro HS
  iapply Hk
  isplitl [HW]; · iexact HW
  isplitl [H2]; · iexact H2
  isplitl [H3]; · iexact H3
  isplitl [HS]; · iexact HS
  iexact HO

theorem wp_p50 (c : Dev nD) (K V : Arr F) (W : S1024x1024.Idx → Elt F .bf16) (X0 : Vec F S512x1024 .f32) (X1 : Vec F S512x1024 .f32) (X2 : Vec F S512x1024 .f32) (v247_0 : FVec F S2048x1 .f32) (v247_1 : FVec F S2048x1 .f32) (v247_2 : FVec F S2048x128 .f32) {γ : Type} {kk : (Σ' (v260 : FVec F S32x1 .f32) (v261 : FVec F S32x1 .f32) (v262 : FVec F S32x128 .f32) (v265 : FVec F S2048x128 .bf16), FVec F S512x1024 .f32) → Prog (TpuEff nD τ sig (Elt F) Λ₀ .tc) γ} {Q : γ → sProp 𝕄} :
    iprop(Half c K V R2 2 0 ∗ Wo c W ∗ Ob c 0 X0 ∗ Ob c 1 X1 ∗ Ob c 2 X2)
      ⊢ iprop(((Busy c K V R2 2 0 0 ∗ Wo c W ∗ Ob c 0 (k0_pay62 v247_1 v247_2 (woB W 1) X0) ∗ Ob c 1 (k0_pay63 v247_1 v247_2 (woB W 1) X1) ∗ Ob c 2 X2) -∗ wp frame (wpE defs 𝒱₀ (c : Thread nD τ) none) Set.univ (kk ⟨k0_pay58 v247_0, k0_pay59 v247_1, k0_pay60 v247_2, k0_pay61 v247_1 v247_2, k0_pay64 v247_1 v247_2 (woB W 1) X2⟩) Q)
        -∗ wp frame (wpE defs 𝒱₀ (c : Thread nD τ) none) Set.univ (k0_part50 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v247_0 v247_1 v247_2 >>= kk) Q) := by
  simp only [k0_part50_eq_skeleton]
  unfold k0_part50_skel
  simp only [Prog.lift, Prog.bind_op, Prog.bind_ret, Prog.pure_eq_ret, bind_assoc]
  iintro ⟨HS, HW, H0, H1, H2⟩ Hk
  iapply (wp_v0 c K V R2 2 0 (within_R2 2 0 (by decide)) rfl rfl rfl) $$ HS
  iintro HS
  iapply (wp_wo c W 1 rfl) $$ HW
  iintro HW
  iapply (wp_oload c 0 X0 rfl) $$ H0
  iintro H0
  iapply (wp_oload c 0 X0 rfl) $$ H0
  iintro H0
  iapply (wp_ostore c 0 X0 (k0_pay62 v247_1 v247_2 (woB W 1) X0) rfl) $$ H0
  iintro H0
  iapply (wp_wo c W 1 rfl) $$ HW
  iintro HW
  iapply (wp_oload c 1 X1 rfl) $$ H1
  iintro H1
  iapply (wp_oload c 1 X1 rfl) $$ H1
  iintro H1
  iapply (wp_ostore c 1 X1 (k0_pay63 v247_1 v247_2 (woB W 1) X1) rfl) $$ H1
  iintro H1
  iapply (wp_wo c W 1 rfl) $$ HW
  iintro HW
  iapply (wp_oload c 2 X2 rfl) $$ H2
  iintro H2
  iapply (wp_oload c 2 X2 rfl) $$ H2
  iintro H2
  iapply Hk
  isplitl [HS]; · iexact HS
  isplitl [HW]; · iexact HW
  isplitl [H0]; · iexact H0
  isplitl [H1]; · iexact H1
  iexact H2

theorem wp_p51 (c : Dev nD) (K V : Arr F) (W : S1024x1024.Idx → Elt F .bf16) (X2 : Vec F S512x1024 .f32) (X3 : Vec F S512x1024 .f32) {L : GSem nD τ sig → Finset Unit} {lv : GSem nD τ sig → Unit → ℕ} {O : CellTallies nD τ sig Unit} (HM : May (F := F) c L lv O) (v161 : FVec F S2048x1024 .bf16) (v265 : FVec F S2048x128 .bf16) (v288 : FVec F S512x1024 .f32) {γ : Type} {kk : (Σ' (v303_0 : FVec F S2048x1 .f32) (v303_1 : FVec F S2048x1 .f32), FVec F S2048x128 .f32) → Prog (TpuEff nD τ sig (Elt F) Λ₀ .tc) γ} {Q : γ → sProp 𝕄} :
    iprop(Ob c 2 X2 ∗ Wo c W ∗ Ob c 3 X3 ∗ Busy c K V R2 2 0 0 ∗ Owe c L lv O)
      ⊢ iprop(((Ob c 2 v288 ∗ Wo c W ∗ Ob c 3 (k0_pay65 v265 (woB W 1) X3) ∗ Half c K V R2 3 0 ∗ Owe c L lv O) -∗ wp frame (wpE defs 𝒱₀ (c : Thread nD τ) none) Set.univ (kk ⟨(fA c K V 2 (k0_pay66 v161)).1, (fA c K V 2 (k0_pay66 v161)).2.1, (fA c K V 2 (k0_pay66 v161)).2.2⟩) Q)
        -∗ wp frame (wpE defs 𝒱₀ (c : Thread nD τ) none) Set.univ (k0_part51 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v265 v288 >>= kk) Q) := by
  simp only [k0_part51_eq_skeleton]
  unfold k0_part51_skel
  simp only [Prog.lift, Prog.bind_op, Prog.bind_ret, Prog.pure_eq_ret, bind_assoc]
  iintro ⟨H2, HW, H3, HS, HO⟩ Hk
  iapply (wp_ostore c 2 X2 v288 rfl) $$ H2
  iintro H2
  iapply (wp_wo c W 1 rfl) $$ HW
  iintro HW
  iapply (wp_oload c 3 X3 rfl) $$ H3
  iintro H3
  iapply (wp_oload c 3 X3 rfl) $$ H3
  iintro H3
  iapply (wp_ostore c 3 X3 (k0_pay65 v265 (woB W 1) X3) rfl) $$ H3
  iintro H3
  iapply (wp_t3 c K V R2 HM.str (within_R2 2) v161 v265 v288 rfl) $$ [HS HO]
  · isplitl [HS] <;> iassumption
  iintro ⟨HS, HO⟩
  iapply (wp_k0 c K V R2 3 0 (within_R2 3 0 (by decide)) rfl rfl rfl) $$ HS
  iintro HS
  iapply Hk
  isplitl [H2]; · iexact H2
  isplitl [HW]; · iexact HW
  isplitl [H3]; · iexact H3
  isplitl [HS]; · iexact HS
  iexact HO

theorem wp_p52 (c : Dev nD) (K V : Arr F) (W : S1024x1024.Idx → Elt F .bf16) (X0 : Vec F S512x1024 .f32) (X1 : Vec F S512x1024 .f32) (X2 : Vec F S512x1024 .f32) (v303_0 : FVec F S2048x1 .f32) (v303_1 : FVec F S2048x1 .f32) (v303_2 : FVec F S2048x128 .f32) {γ : Type} {kk : (Σ' (v316 : FVec F S32x1 .f32) (v317 : FVec F S32x1 .f32) (v318 : FVec F S32x128 .f32) (v346 : FVec F S512x128 .bf16), Vec F S128x1024 .bf16) → Prog (TpuEff nD τ sig (Elt F) Λ₀ .tc) γ} {Q : γ → sProp 𝕄} :
    iprop(Half c K V R2 3 0 ∗ Wo c W ∗ Ob c 0 X0 ∗ Ob c 1 X1 ∗ Ob c 2 X2)
      ⊢ iprop(((Busy c K V R2 3 0 0 ∗ Wo c W ∗ Ob c 0 (k0_pay78 v303_1 v303_2 (woB W 2) X0) ∗ Ob c 1 (k0_pay79 v303_1 v303_2 (woB W 2) X1) ∗ Ob c 2 (k0_pay80 v303_1 v303_2 (woB W 2) X2)) -∗ wp frame (wpE defs 𝒱₀ (c : Thread nD τ) none) Set.univ (kk ⟨k0_pay74 v303_0, k0_pay75 v303_1, k0_pay76 v303_2, k0_pay81 v303_1 v303_2, (woB W 2)⟩) Q)
        -∗ wp frame (wpE defs 𝒱₀ (c : Thread nD τ) none) Set.univ (k0_part52 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v303_0 v303_1 v303_2 >>= kk) Q) := by
  simp only [k0_part52_eq_skeleton]
  unfold k0_part52_skel
  simp only [Prog.lift, Prog.bind_op, Prog.bind_ret, Prog.pure_eq_ret, bind_assoc]
  iintro ⟨HS, HW, H0, H1, H2⟩ Hk
  iapply (wp_v0 c K V R2 3 0 (within_R2 3 0 (by decide)) rfl rfl rfl) $$ HS
  iintro HS
  iapply (wp_wo c W 2 rfl) $$ HW
  iintro HW
  iapply (wp_oload c 0 X0 rfl) $$ H0
  iintro H0
  iapply (wp_oload c 0 X0 rfl) $$ H0
  iintro H0
  iapply (wp_ostore c 0 X0 (k0_pay78 v303_1 v303_2 (woB W 2) X0) rfl) $$ H0
  iintro H0
  iapply (wp_wo c W 2 rfl) $$ HW
  iintro HW
  iapply (wp_oload c 1 X1 rfl) $$ H1
  iintro H1
  iapply (wp_oload c 1 X1 rfl) $$ H1
  iintro H1
  iapply (wp_ostore c 1 X1 (k0_pay79 v303_1 v303_2 (woB W 2) X1) rfl) $$ H1
  iintro H1
  iapply (wp_wo c W 2 rfl) $$ HW
  iintro HW
  iapply (wp_oload c 2 X2 rfl) $$ H2
  iintro H2
  iapply (wp_oload c 2 X2 rfl) $$ H2
  iintro H2
  iapply (wp_ostore c 2 X2 (k0_pay80 v303_1 v303_2 (woB W 2) X2) rfl) $$ H2
  iintro H2
  iapply (wp_wo c W 2 rfl) $$ HW
  iintro HW
  iapply Hk
  isplitl [HS]; · iexact HS
  isplitl [HW]; · iexact HW
  isplitl [H0]; · iexact H0
  isplitl [H1]; · iexact H1
  iexact H2

theorem wp_p53 (c : Dev nD) (K V : Arr F) (X3 : Vec F S512x1024 .f32) {L : GSem nD τ sig → Finset Unit} {lv : GSem nD τ sig → Unit → ℕ} {O : CellTallies nD τ sig Unit} (HM : May (F := F) c L lv O) (v161 : FVec F S2048x1024 .bf16) (v346 : FVec F S512x128 .bf16) (v347 : Vec F S128x1024 .bf16) {γ : Type} {kk : (Σ' (v359_1 : FVec F S2048x1 .f32) (v359_2 : FVec F S2048x128 .f32) (v372 : FVec F S32x1 .f32) (v373 : FVec F S32x1 .f32), FVec F S32x128 .f32) → Prog (TpuEff nD τ sig (Elt F) Λ₀ .tc) γ} {Q : γ → sProp 𝕄} :
    iprop(Ob c 3 X3 ∗ Busy c K V R2 3 0 0 ∗ Owe c L lv O)
      ⊢ iprop(((Ob c 3 (k0_pay82 v346 v347 X3) ∗ Busy c K V R2 4 0 0 ∗ Owe c L lv O) -∗ wp frame (wpE defs 𝒱₀ (c : Thread nD τ) none) Set.univ (kk ⟨(fA c K V 3 (k0_pay83 v161)).2.1, (fA c K V 3 (k0_pay83 v161)).2.2, k0_pay91 (fA c K V 3 (k0_pay83 v161)).1, k0_pay92 (fA c K V 3 (k0_pay83 v161)).2.1, k0_pay93 (fA c K V 3 (k0_pay83 v161)).2.2⟩) Q)
        -∗ wp frame (wpE defs 𝒱₀ (c : Thread nD τ) none) Set.univ (k0_part53 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v346 v347 >>= kk) Q) := by
  simp only [k0_part53_eq_skeleton]
  unfold k0_part53_skel
  simp only [Prog.lift, Prog.bind_op, Prog.bind_ret, Prog.pure_eq_ret, bind_assoc]
  iintro ⟨H3, HS, HO⟩ Hk
  iapply (wp_oload c 3 X3 rfl) $$ H3
  iintro H3
  iapply (wp_oload c 3 X3 rfl) $$ H3
  iintro H3
  iapply (wp_ostore c 3 X3 (k0_pay82 v346 v347 X3) rfl) $$ H3
  iintro H3
  iapply (wp_t4 c K V R2 HM.str (within_R2 3) v161 v346 v347 rfl) $$ [HS HO]
  · isplitl [HS] <;> iassumption
  iintro ⟨HS, HO⟩
  iapply (wp_k0 c K V R2 4 0 (within_R2 4 0 (by decide)) rfl rfl rfl) $$ HS
  iintro HS
  iapply (wp_v0 c K V R2 4 0 (within_R2 4 0 (by decide)) rfl rfl rfl) $$ HS
  iintro HS
  iapply Hk
  isplitl [H3]; · iexact H3
  isplitl [HS]; · iexact HS
  iexact HO

theorem wp_p54 (c : Dev nD) (W : S1024x1024.Idx → Elt F .bf16) (X0 : Vec F S512x1024 .f32) (X1 : Vec F S512x1024 .f32) (X2 : Vec F S512x1024 .f32) (v359_1 : FVec F S2048x1 .f32) (v359_2 : FVec F S2048x128 .f32) {γ : Type} {kk : (FVec F S512x1024 .f32) → Prog (TpuEff nD τ sig (Elt F) Λ₀ .tc) γ} {Q : γ → sProp 𝕄} :
    iprop(Wo c W ∗ Ob c 0 X0 ∗ Ob c 1 X1 ∗ Ob c 2 X2)
      ⊢ iprop(((Wo c W ∗ Ob c 0 (k0_pay95 v359_1 v359_2 (woB W 3) X0) ∗ Ob c 1 (k0_pay96 v359_1 v359_2 (woB W 3) X1) ∗ Ob c 2 (k0_pay97 v359_1 v359_2 (woB W 3) X2)) -∗ wp frame (wpE defs 𝒱₀ (c : Thread nD τ) none) Set.univ (kk (k0_pay98 v359_1 v359_2 (woB W 3))) Q)
        -∗ wp frame (wpE defs 𝒱₀ (c : Thread nD τ) none) Set.univ (k0_part54 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v359_1 v359_2 >>= kk) Q) := by
  simp only [k0_part54_eq_skeleton]
  unfold k0_part54_skel
  simp only [Prog.lift, Prog.bind_op, Prog.bind_ret, Prog.pure_eq_ret, bind_assoc]
  iintro ⟨HW, H0, H1, H2⟩ Hk
  iapply (wp_wo c W 3 rfl) $$ HW
  iintro HW
  iapply (wp_oload c 0 X0 rfl) $$ H0
  iintro H0
  iapply (wp_oload c 0 X0 rfl) $$ H0
  iintro H0
  iapply (wp_ostore c 0 X0 (k0_pay95 v359_1 v359_2 (woB W 3) X0) rfl) $$ H0
  iintro H0
  iapply (wp_wo c W 3 rfl) $$ HW
  iintro HW
  iapply (wp_oload c 1 X1 rfl) $$ H1
  iintro H1
  iapply (wp_oload c 1 X1 rfl) $$ H1
  iintro H1
  iapply (wp_ostore c 1 X1 (k0_pay96 v359_1 v359_2 (woB W 3) X1) rfl) $$ H1
  iintro H1
  iapply (wp_wo c W 3 rfl) $$ HW
  iintro HW
  iapply (wp_oload c 2 X2 rfl) $$ H2
  iintro H2
  iapply (wp_oload c 2 X2 rfl) $$ H2
  iintro H2
  iapply (wp_ostore c 2 X2 (k0_pay97 v359_1 v359_2 (woB W 3) X2) rfl) $$ H2
  iintro H2
  iapply (wp_wo c W 3 rfl) $$ HW
  iintro HW
  iapply Hk
  isplitl [HW]; · iexact HW
  isplitl [H0]; · iexact H0
  isplitl [H1]; · iexact H1
  iexact H2

theorem wp_p55 (c : Dev nD) (K V : Arr F) (X3 : Vec F S512x1024 .f32) {L : GSem nD τ sig → Finset Unit} {lv : GSem nD τ sig → Unit → ℕ} {O : CellTallies nD τ sig Unit} (HM : May (F := F) c L lv O) (v161 : FVec F S2048x1024 .bf16) (v405 : FVec F S512x1024 .f32) {γ : Type} {kk : (Σ' (v428 : FVec F S32x1 .f32) (v429 : FVec F S32x1 .f32) (v430 : FVec F S32x128 .f32) (v433 : FVec F S2048x128 .bf16), FVec F S512x128 .bf16) → Prog (TpuEff nD τ sig (Elt F) Λ₀ .tc) γ} {Q : γ → sProp 𝕄} :
    iprop(Ob c 3 X3 ∗ Busy c K V R2 4 0 0 ∗ Owe c L lv O)
      ⊢ iprop(((Ob c 3 (k0_pay99 v405 X3) ∗ Busy c K V R2 5 0 0 ∗ Owe c L lv O) -∗ wp frame (wpE defs 𝒱₀ (c : Thread nD τ) none) Set.univ (kk ⟨k0_pay108 (fA c K V 4 (k0_pay100 v161)).1, k0_pay109 (fA c K V 4 (k0_pay100 v161)).2.1, k0_pay110 (fA c K V 4 (k0_pay100 v161)).2.2, k0_pay111 (fA c K V 4 (k0_pay100 v161)).2.1 (fA c K V 4 (k0_pay100 v161)).2.2, k0_pay112 (fA c K V 4 (k0_pay100 v161)).2.1 (fA c K V 4 (k0_pay100 v161)).2.2⟩) Q)
        -∗ wp frame (wpE defs 𝒱₀ (c : Thread nD τ) none) Set.univ (k0_part55 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v405 >>= kk) Q) := by
  simp only [k0_part55_eq_skeleton]
  unfold k0_part55_skel
  simp only [Prog.lift, Prog.bind_op, Prog.bind_ret, Prog.pure_eq_ret, bind_assoc]
  iintro ⟨H3, HS, HO⟩ Hk
  iapply (wp_oload c 3 X3 rfl) $$ H3
  iintro H3
  iapply (wp_oload c 3 X3 rfl) $$ H3
  iintro H3
  iapply (wp_ostore c 3 X3 (k0_pay99 v405 X3) rfl) $$ H3
  iintro H3
  iapply (wp_t5 c K V R2 HM.str (within_R2 4) v161 v405 rfl) $$ [HS HO]
  · isplitl [HS] <;> iassumption
  iintro ⟨HS, HO⟩
  iapply (wp_k0 c K V R2 5 0 (within_R2 5 0 (by decide)) rfl rfl rfl) $$ HS
  iintro HS
  iapply (wp_v0 c K V R2 5 0 (within_R2 5 0 (by decide)) rfl rfl rfl) $$ HS
  iintro HS
  iapply Hk
  isplitl [H3]; · iexact H3
  isplitl [HS]; · iexact HS
  iexact HO

theorem wp_p56 (c : Dev nD) (W : S1024x1024.Idx → Elt F .bf16) (X0 : Vec F S512x1024 .f32) (X1 : Vec F S512x1024 .f32) (X2 : Vec F S512x1024 .f32) (X3 : Vec F S512x1024 .f32) (v433 : FVec F S2048x128 .bf16) (v434 : FVec F S512x128 .bf16) {γ : Type} {kk : (FVec F S512x1024 .f32) → Prog (TpuEff nD τ sig (Elt F) Λ₀ .tc) γ} {Q : γ → sProp 𝕄} :
    iprop(Wo c W ∗ Ob c 0 X0 ∗ Ob c 1 X1 ∗ Ob c 2 X2 ∗ Ob c 3 X3)
      ⊢ iprop(((Wo c W ∗ Ob c 0 (k0_pay113 v434 (woB W 4) X0) ∗ Ob c 1 (k0_pay114 v433 (woB W 4) X1) ∗ Ob c 2 (k0_pay115 v433 (woB W 4) X2) ∗ Ob c 3 X3) -∗ wp frame (wpE defs 𝒱₀ (c : Thread nD τ) none) Set.univ (kk (k0_pay116 v433 (woB W 4) X3)) Q)
        -∗ wp frame (wpE defs 𝒱₀ (c : Thread nD τ) none) Set.univ (k0_part56 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v433 v434 >>= kk) Q) := by
  simp only [k0_part56_eq_skeleton]
  unfold k0_part56_skel
  simp only [Prog.lift, Prog.bind_op, Prog.bind_ret, Prog.pure_eq_ret, bind_assoc]
  iintro ⟨HW, H0, H1, H2, H3⟩ Hk
  iapply (wp_wo c W 4 rfl) $$ HW
  iintro HW
  iapply (wp_oload c 0 X0 rfl) $$ H0
  iintro H0
  iapply (wp_oload c 0 X0 rfl) $$ H0
  iintro H0
  iapply (wp_ostore c 0 X0 (k0_pay113 v434 (woB W 4) X0) rfl) $$ H0
  iintro H0
  iapply (wp_wo c W 4 rfl) $$ HW
  iintro HW
  iapply (wp_oload c 1 X1 rfl) $$ H1
  iintro H1
  iapply (wp_oload c 1 X1 rfl) $$ H1
  iintro H1
  iapply (wp_ostore c 1 X1 (k0_pay114 v433 (woB W 4) X1) rfl) $$ H1
  iintro H1
  iapply (wp_wo c W 4 rfl) $$ HW
  iintro HW
  iapply (wp_oload c 2 X2 rfl) $$ H2
  iintro H2
  iapply (wp_oload c 2 X2 rfl) $$ H2
  iintro H2
  iapply (wp_ostore c 2 X2 (k0_pay115 v433 (woB W 4) X2) rfl) $$ H2
  iintro H2
  iapply (wp_wo c W 4 rfl) $$ HW
  iintro HW
  iapply (wp_oload c 3 X3 rfl) $$ H3
  iintro H3
  iapply Hk
  isplitl [HW]; · iexact HW
  isplitl [H0]; · iexact H0
  isplitl [H1]; · iexact H1
  isplitl [H2]; · iexact H2
  iexact H3

theorem wp_p57 (c : Dev nD) (K V : Arr F) (W : S1024x1024.Idx → Elt F .bf16) (X3 : Vec F S512x1024 .f32) {L : GSem nD τ sig → Finset Unit} {lv : GSem nD τ sig → Unit → ℕ} {O : CellTallies nD τ sig Unit} (HM : May (F := F) c L lv O) (v161 : FVec F S2048x1024 .bf16) (v464 : FVec F S512x1024 .f32) {γ : Type} {kk : (Σ' (v484 : FVec F S32x1 .f32) (v485 : FVec F S32x1 .f32) (v486 : FVec F S32x128 .f32) (v489 : FVec F S2048x128 .bf16), FVec F S512x1024 .f32) → Prog (TpuEff nD τ sig (Elt F) Λ₀ .tc) γ} {Q : γ → sProp 𝕄} :
    iprop(Ob c 3 X3 ∗ Busy c K V R2 5 0 0 ∗ Owe c L lv O ∗ Wo c W)
      ⊢ iprop(((Ob c 3 v464 ∗ Busy c K V R2 6 0 0 ∗ Owe c L lv O ∗ Wo c W) -∗ wp frame (wpE defs 𝒱₀ (c : Thread nD τ) none) Set.univ (kk ⟨k0_pay125 (fA c K V 5 (k0_pay117 v161)).1, k0_pay126 (fA c K V 5 (k0_pay117 v161)).2.1, k0_pay127 (fA c K V 5 (k0_pay117 v161)).2.2, k0_pay128 (fA c K V 5 (k0_pay117 v161)).2.1 (fA c K V 5 (k0_pay117 v161)).2.2, k0_pay129 (fA c K V 5 (k0_pay117 v161)).2.1 (fA c K V 5 (k0_pay117 v161)).2.2 (woB W 5)⟩) Q)
        -∗ wp frame (wpE defs 𝒱₀ (c : Thread nD τ) none) Set.univ (k0_part57 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v464 >>= kk) Q) := by
  simp only [k0_part57_eq_skeleton]
  unfold k0_part57_skel
  simp only [Prog.lift, Prog.bind_op, Prog.bind_ret, Prog.pure_eq_ret, bind_assoc]
  iintro ⟨H3, HS, HO, HW⟩ Hk
  iapply (wp_oload c 3 X3 rfl) $$ H3
  iintro H3
  iapply (wp_ostore c 3 X3 v464 rfl) $$ H3
  iintro H3
  iapply (wp_t6 c K V R2 HM.str (within_R2 5) v161 v464 rfl) $$ [HS HO]
  · isplitl [HS] <;> iassumption
  iintro ⟨HS, HO⟩
  iapply (wp_k0 c K V R2 6 0 (within_R2 6 0 (by decide)) rfl rfl rfl) $$ HS
  iintro HS
  iapply (wp_v0 c K V R2 6 0 (within_R2 6 0 (by decide)) rfl rfl rfl) $$ HS
  iintro HS
  iapply (wp_wo c W 5 rfl) $$ HW
  iintro HW
  iapply Hk
  isplitl [H3]; · iexact H3
  isplitl [HS]; · iexact HS
  isplitl [HO]; · iexact HO
  iexact HW

end Cert.Attn

end
-- ==== Proof.PartsB.lean ====
/-
  The parts of the body from the sixth loop to the last.
-/
module

public import proofs.«01_k».proof.Proof.Steps

@[expose] public section

noncomputable section

namespace Cert.Attn

open Cert.KernelIdeal Cert.KernelIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocalO)

variable {F : FTy → Type} [FloatOps F] [Named F]
local notation "𝕄" => MT nD τ sig Unit (Elt F) ℕ UU ℕ
variable {defs : Defs nD τ sig (Elt F) Λ₀}

theorem wp_p58 (c : Dev nD) (W : S1024x1024.Idx → Elt F .bf16) (X0 : Vec F S512x1024 .f32) (X1 : Vec F S512x1024 .f32) (X2 : Vec F S512x1024 .f32) (X3 : Vec F S512x1024 .f32) (v161 : FVec F S2048x1024 .bf16) (v489 : FVec F S2048x128 .bf16) (v493 : FVec F S512x1024 .f32) {γ : Type} {kk : (Σ' (v522 : FVec F S2048x128 .bf16), FVec F S2048x1 .f32) → Prog (TpuEff nD τ sig (Elt F) Λ₀ .tc) γ} {Q : γ → sProp 𝕄} :
    iprop(Ob c 0 X0 ∗ Wo c W ∗ Ob c 1 X1 ∗ Ob c 2 X2 ∗ Ob c 3 X3)
      ⊢ iprop(((Ob c 0 (k0_pay130 v493 X0) ∗ Wo c W ∗ Ob c 1 (k0_pay131 v489 (woB W 5) X1) ∗ Ob c 2 (k0_pay132 v489 (woB W 5) X2) ∗ Ob c 3 (k0_pay133 v489 (woB W 5) X3)) -∗ wp frame (wpE defs 𝒱₀ (c : Thread nD τ) none) Set.univ (kk ⟨k0_pay134 v161, k0_pay135 (F := F)⟩) Q)
        -∗ wp frame (wpE defs 𝒱₀ (c : Thread nD τ) none) Set.univ (k0_part58 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v489 v493 >>= kk) Q) := by
  simp only [k0_part58_eq_skeleton]
  unfold k0_part58_skel
  simp only [Prog.lift, Prog.bind_op, Prog.bind_ret, Prog.pure_eq_ret, bind_assoc]
  iintro ⟨H0, HW, H1, H2, H3⟩ Hk
  iapply (wp_oload c 0 X0 rfl) $$ H0
  iintro H0
  iapply (wp_oload c 0 X0 rfl) $$ H0
  iintro H0
  iapply (wp_ostore c 0 X0 (k0_pay130 v493 X0) rfl) $$ H0
  iintro H0
  iapply (wp_wo c W 5 rfl) $$ HW
  iintro HW
  iapply (wp_oload c 1 X1 rfl) $$ H1
  iintro H1
  iapply (wp_oload c 1 X1 rfl) $$ H1
  iintro H1
  iapply (wp_ostore c 1 X1 (k0_pay131 v489 (woB W 5) X1) rfl) $$ H1
  iintro H1
  iapply (wp_wo c W 5 rfl) $$ HW
  iintro HW
  iapply (wp_oload c 2 X2 rfl) $$ H2
  iintro H2
  iapply (wp_oload c 2 X2 rfl) $$ H2
  iintro H2
  iapply (wp_ostore c 2 X2 (k0_pay132 v489 (woB W 5) X2) rfl) $$ H2
  iintro H2
  iapply (wp_wo c W 5 rfl) $$ HW
  iintro HW
  iapply (wp_oload c 3 X3 rfl) $$ H3
  iintro H3
  iapply (wp_oload c 3 X3 rfl) $$ H3
  iintro H3
  iapply (wp_ostore c 3 X3 (k0_pay133 v489 (woB W 5) X3) rfl) $$ H3
  iintro H3
  iapply Hk
  isplitl [H0]; · iexact H0
  isplitl [HW]; · iexact HW
  isplitl [H1]; · iexact H1
  isplitl [H2]; · iexact H2
  iexact H3

theorem wp_p59 (c : Dev nD) (K V : Arr F) (W : S1024x1024.Idx → Elt F .bf16) (X0 : Vec F S512x1024 .f32) {L : GSem nD τ sig → Finset Unit} {lv : GSem nD τ sig → Unit → ℕ} {O : CellTallies nD τ sig Unit} (HM : May (F := F) c L lv O) (v522 : FVec F S2048x128 .bf16) {γ : Type} {kk : (Σ' (v540 : FVec F S32x1 .f32) (v541 : FVec F S32x1 .f32) (v542 : FVec F S32x128 .f32) (v545 : FVec F S2048x128 .bf16), FVec F S512x1024 .f32) → Prog (TpuEff nD τ sig (Elt F) Λ₀ .tc) γ} {Q : γ → sProp 𝕄} :
    iprop(Busy c K V R2 6 0 0 ∗ Owe c L lv O ∗ Wo c W ∗ Ob c 0 X0)
      ⊢ iprop(((Busy c K V R2 7 0 0 ∗ Owe c L lv O ∗ Wo c W ∗ Ob c 0 X0) -∗ wp frame (wpE defs 𝒱₀ (c : Thread nD τ) none) Set.univ (kk ⟨k0_pay142 (fA c K V 6 v522).1, k0_pay143 (fA c K V 6 v522).2.1, k0_pay144 (fA c K V 6 v522).2.2, k0_pay145 (fA c K V 6 v522).2.1 (fA c K V 6 v522).2.2, k0_pay146 (fA c K V 6 v522).2.1 (fA c K V 6 v522).2.2 (woB W 6) X0⟩) Q)
        -∗ wp frame (wpE defs 𝒱₀ (c : Thread nD τ) none) Set.univ (k0_part59 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v522 (k0_pay135 (F := F)) >>= kk) Q) := by
  simp only [k0_part59_eq_skeleton]
  unfold k0_part59_skel
  simp only [Prog.lift, Prog.bind_op, Prog.bind_ret, Prog.pure_eq_ret, bind_assoc]
  iintro ⟨HS, HO, HW, H0⟩ Hk
  iapply (wp_t7 c K V R2 HM.str (within_R2 6) v522 (k0_pay135 (F := F)) rfl) $$ [HS HO]
  · isplitl [HS] <;> iassumption
  iintro ⟨HS, HO⟩
  iapply (wp_k0 c K V R2 7 0 (within_R2 7 0 (by decide)) rfl rfl rfl) $$ HS
  iintro HS
  iapply (wp_v0 c K V R2 7 0 (within_R2 7 0 (by decide)) rfl rfl rfl) $$ HS
  iintro HS
  iapply (wp_wo c W 6 rfl) $$ HW
  iintro HW
  iapply (wp_oload c 0 X0 rfl) $$ H0
  iintro H0
  iapply Hk
  isplitl [HS]; · iexact HS
  isplitl [HO]; · iexact HO
  isplitl [HW]; · iexact HW
  iexact H0

theorem wp_p60 (c : Dev nD) (W : S1024x1024.Idx → Elt F .bf16) (X0 : Vec F S512x1024 .f32) (X1 : Vec F S512x1024 .f32) (X2 : Vec F S512x1024 .f32) (X3 : Vec F S512x1024 .f32) (v161 : FVec F S2048x1024 .bf16) (v545 : FVec F S2048x128 .bf16) (v552 : FVec F S512x1024 .f32) {γ : Type} {kk : (Σ' (v578 : FVec F S2048x128 .bf16) (v579 : FVec F S2048x1 .f32) (v580 : FVec F S2048x1 .f32) (v581 : FVec F S2048x128 .f32), BitVec 32) → Prog (TpuEff nD τ sig (Elt F) Λ₀ .tc) γ} {Q : γ → sProp 𝕄} :
    iprop(Ob c 0 X0 ∗ Wo c W ∗ Ob c 1 X1 ∗ Ob c 2 X2 ∗ Ob c 3 X3)
      ⊢ iprop(((Ob c 0 v552 ∗ Wo c W ∗ Ob c 1 (k0_pay147 v545 (woB W 6) X1) ∗ Ob c 2 (k0_pay148 v545 (woB W 6) X2) ∗ Ob c 3 (k0_pay149 v545 (woB W 6) X3)) -∗ wp frame (wpE defs 𝒱₀ (c : Thread nD τ) none) Set.univ (kk ⟨k0_pay150 v161, k0_pay151 (F := F), k0_pay152 (F := F), k0_pay153 (F := F), 0#32⟩) Q)
        -∗ wp frame (wpE defs 𝒱₀ (c : Thread nD τ) none) Set.univ (k0_part60 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v545 v552 >>= kk) Q) := by
  simp only [k0_part60_eq_skeleton]
  unfold k0_part60_skel
  simp only [Prog.lift, Prog.bind_op, Prog.bind_ret, Prog.pure_eq_ret, bind_assoc]
  iintro ⟨H0, HW, H1, H2, H3⟩ Hk
  iapply (wp_oload c 0 X0 rfl) $$ H0
  iintro H0
  iapply (wp_ostore c 0 X0 v552 rfl) $$ H0
  iintro H0
  iapply (wp_wo c W 6 rfl) $$ HW
  iintro HW
  iapply (wp_oload c 1 X1 rfl) $$ H1
  iintro H1
  iapply (wp_oload c 1 X1 rfl) $$ H1
  iintro H1
  iapply (wp_ostore c 1 X1 (k0_pay147 v545 (woB W 6) X1) rfl) $$ H1
  iintro H1
  iapply (wp_wo c W 6 rfl) $$ HW
  iintro HW
  iapply (wp_oload c 2 X2 rfl) $$ H2
  iintro H2
  iapply (wp_oload c 2 X2 rfl) $$ H2
  iintro H2
  iapply (wp_ostore c 2 X2 (k0_pay148 v545 (woB W 6) X2) rfl) $$ H2
  iintro H2
  iapply (wp_wo c W 6 rfl) $$ HW
  iintro HW
  iapply (wp_oload c 3 X3 rfl) $$ H3
  iintro H3
  iapply (wp_oload c 3 X3 rfl) $$ H3
  iintro H3
  iapply (wp_ostore c 3 X3 (k0_pay149 v545 (woB W 6) X3) rfl) $$ H3
  iintro H3
  iapply Hk
  isplitl [H0]; · iexact H0
  isplitl [HW]; · iexact HW
  isplitl [H1]; · iexact H1
  isplitl [H2]; · iexact H2
  iexact H3

theorem wp_p61 (c : Dev nD) (K V : Arr F) (W : S1024x1024.Idx → Elt F .bf16) (X0 : Vec F S512x1024 .f32) (X1 : Vec F S512x1024 .f32) (X2 : Vec F S512x1024 .f32) {L : GSem nD τ sig → Finset Unit} {lv : GSem nD τ sig → Unit → ℕ} {O : CellTallies nD τ sig Unit} (HM : May (F := F) c L lv O) (v578 : FVec F S2048x128 .bf16) {γ : Type} {kk : (Σ' (v584 : FVec F S32x1 .f32) (v585 : FVec F S32x1 .f32) (v586 : FVec F S32x128 .f32), FVec F S512x128 .bf16) → Prog (TpuEff nD τ sig (Elt F) Λ₀ .tc) γ} {Q : γ → sProp 𝕄} :
    iprop(Busy c K V R2 7 0 0 ∗ Owe c L lv O ∗ Wo c W ∗ Ob c 0 X0 ∗ Ob c 1 X1 ∗ Ob c 2 X2)
      ⊢ iprop(((Quiet c K V R2 ∗ Owe c L lv O ∗ Wo c W ∗ Ob c 0 (k0_pay162 (fA c K V 7 v578).2.1 (fA c K V 7 v578).2.2 (woB W 7) X0) ∗ Ob c 1 (k0_pay163 (fA c K V 7 v578).2.1 (fA c K V 7 v578).2.2 (woB W 7) X1) ∗ Ob c 2 (k0_pay164 (fA c K V 7 v578).2.1 (fA c K V 7 v578).2.2 (woB W 7) X2)) -∗ wp frame (wpE defs 𝒱₀ (c : Thread nD τ) none) Set.univ (kk ⟨k0_pay158 (fA c K V 7 v578).1, k0_pay159 (fA c K V 7 v578).2.1, k0_pay160 (fA c K V 7 v578).2.2, k0_pay165 (fA c K V 7 v578).2.1 (fA c K V 7 v578).2.2⟩) Q)
        -∗ wp frame (wpE defs 𝒱₀ (c : Thread nD τ) none) Set.univ (k0_part61 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v578 (k0_pay151 (F := F)) (k0_pay152 (F := F)) (k0_pay153 (F := F)) 0#32 >>= kk) Q) := by
  simp only [k0_part61_eq_skeleton]
  unfold k0_part61_skel
  simp only [Prog.lift, Prog.bind_op, Prog.bind_ret, Prog.pure_eq_ret, bind_assoc]
  iintro ⟨HS, HO, HW, H0, H1, H2⟩ Hk
  iapply (wp_t8 c K V R2 HM.str (within_R2 7) v578 (k0_pay151 (F := F)) (k0_pay152 (F := F)) (k0_pay153 (F := F)) 0#32 rfl rfl) $$ [HS HO]
  · isplitl [HS] <;> iassumption
  iintro ⟨HS, HO⟩
  iapply (wp_wo c W 7 rfl) $$ HW
  iintro HW
  iapply (wp_oload c 0 X0 rfl) $$ H0
  iintro H0
  iapply (wp_oload c 0 X0 rfl) $$ H0
  iintro H0
  iapply (wp_ostore c 0 X0 (k0_pay162 (fA c K V 7 v578).2.1 (fA c K V 7 v578).2.2 (woB W 7) X0) rfl) $$ H0
  iintro H0
  iapply (wp_wo c W 7 rfl) $$ HW
  iintro HW
  iapply (wp_oload c 1 X1 rfl) $$ H1
  iintro H1
  iapply (wp_oload c 1 X1 rfl) $$ H1
  iintro H1
  iapply (wp_ostore c 1 X1 (k0_pay163 (fA c K V 7 v578).2.1 (fA c K V 7 v578).2.2 (woB W 7) X1) rfl) $$ H1
  iintro H1
  iapply (wp_wo c W 7 rfl) $$ HW
  iintro HW
  iapply (wp_oload c 2 X2 rfl) $$ H2
  iintro H2
  iapply (wp_oload c 2 X2 rfl) $$ H2
  iintro H2
  iapply (wp_ostore c 2 X2 (k0_pay164 (fA c K V 7 v578).2.1 (fA c K V 7 v578).2.2 (woB W 7) X2) rfl) $$ H2
  iintro H2
  iapply Hk
  isplitl [HS]; · iexact HS
  isplitl [HO]; · iexact HO
  isplitl [HW]; · iexact HW
  isplitl [H0]; · iexact H0
  isplitl [H1]; · iexact H1
  iexact H2

theorem wp_p64 (c : Dev nD) (K V : Arr F) (W : S1024x1024.Idx → Elt F .bf16) (v161 : FVec F S2048x1024 .bf16) (v216 : FVec F S32x1 .f32) (v217 : FVec F S32x1 .f32) (v218 : FVec F S32x128 .f32) (v658 : FVec F S32x1024 .f32) (v664_0 : FVec F S32x1 .f32) (v664_1 : FVec F S32x1 .f32) (v664_2 : FVec F S32x128 .f32) {γ : Type} {kk : (Σ' (v696 : FVec F S32x1024 .f32) (v697 : FVec F S32x128 .bf16) (v698 : FVec F S32x1 .f32) (v699 : FVec F S32x1 .f32) (v700 : FVec F S32x128 .f32) (c5_i32_631 : BitVec 32), BitVec 32) → Prog (TpuEff nD τ sig (Elt F) Λ₀ .tc) γ} {Q : γ → sProp 𝕄} :
    iprop(Quiet c K V Finset.univ ∗ Wo c W)
      ⊢ iprop(((Busy c K V Finset.univ 1 5 0 ∗ Wo c W) -∗ wp frame (wpE defs 𝒱₀ (c : Thread nD τ) none) Set.univ (kk ⟨k0_pay177 v216 v217 v218 v658 v664_0 v664_1 v664_2 (woB W 0), k0_pay178 v161, k0_pay179 (F := F), k0_pay180 (F := F), k0_pay181 (F := F), 5#32, 1#32⟩) Q)
        -∗ wp frame (wpE defs 𝒱₀ (c : Thread nD τ) none) Set.univ (k0_part64 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v216 v217 v218 v658 v664_0 v664_1 v664_2 >>= kk) Q) := by
  simp only [k0_part64_eq_skeleton]
  unfold k0_part64_skel
  simp only [Prog.lift, Prog.bind_op, Prog.bind_ret, Prog.pure_eq_ret, bind_assoc]
  iintro ⟨HS, HW⟩ Hk
  iapply (wp_k0 c K V Finset.univ 1 5 (within_univ _ _) rfl rfl rfl) $$ HS
  iintro HS
  iapply (wp_v0 c K V Finset.univ 1 5 (within_univ _ _) rfl rfl rfl) $$ HS
  iintro HS
  iapply (wp_wo c W 0 rfl) $$ HW
  iintro HW
  iapply Hk
  isplitl [HS]; · iexact HS
  iexact HW

theorem wp_p65 (c : Dev nD) (K V : Arr F) (W : S1024x1024.Idx → Elt F .bf16) {L : GSem nD τ sig → Finset Unit} {lv : GSem nD τ sig → Unit → ℕ} {O : CellTallies nD τ sig Unit} (HM : May (F := F) c L lv O) (v161 : FVec F S2048x1024 .bf16) (v260 : FVec F S32x1 .f32) (v261 : FVec F S32x1 .f32) (v262 : FVec F S32x128 .f32) (v696 : FVec F S32x1024 .f32) (v697 : FVec F S32x128 .bf16) {γ : Type} {kk : (Σ' (v734 : FVec F S32x1024 .f32) (v735 : FVec F S32x128 .bf16), FVec F S32x1 .f32) → Prog (TpuEff nD τ sig (Elt F) Λ₀ .tc) γ} {Q : γ → sProp 𝕄} :
    iprop(Busy c K V Finset.univ 1 5 0 ∗ Owe c L lv O ∗ Wo c W)
      ⊢ iprop(((Busy c K V Finset.univ 2 5 0 ∗ Owe c L lv O ∗ Wo c W) -∗ wp frame (wpE defs 𝒱₀ (c : Thread nD τ) none) Set.univ (kk ⟨k0_pay188 v260 v261 v262 v696 (fB c K V 1 v697).1 (fB c K V 1 v697).2.1 (fB c K V 1 v697).2.2 (woB W 1), k0_pay189 v161, k0_pay190 (F := F)⟩) Q)
        -∗ wp frame (wpE defs 𝒱₀ (c : Thread nD τ) none) Set.univ (k0_part65 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v260 v261 v262 v696 v697 (k0_pay179 (F := F)) (k0_pay180 (F := F)) (k0_pay181 (F := F)) 5#32 1#32 >>= kk) Q) := by
  simp only [k0_part65_eq_skeleton]
  unfold k0_part65_skel
  simp only [Prog.lift, Prog.bind_op, Prog.bind_ret, Prog.pure_eq_ret, bind_assoc]
  iintro ⟨HS, HO, HW⟩ Hk
  iapply (wp_t10 c K V Finset.univ HM.str (fun i _ => within_univ _ _) v161 v260 v261 v262 v696 v697 (k0_pay179 (F := F)) (k0_pay180 (F := F)) (k0_pay181 (F := F)) 5#32 1#32 rfl rfl rfl) $$ [HS HO]
  · isplitl [HS] <;> iassumption
  iintro ⟨HS, HO⟩
  iapply (wp_k0 c K V Finset.univ 2 5 (within_univ _ _) rfl rfl rfl) $$ HS
  iintro HS
  iapply (wp_v0 c K V Finset.univ 2 5 (within_univ _ _) rfl rfl rfl) $$ HS
  iintro HS
  iapply (wp_wo c W 1 rfl) $$ HW
  iintro HW
  iapply Hk
  isplitl [HS]; · iexact HS
  isplitl [HO]; · iexact HO
  iexact HW

theorem wp_p66 (c : Dev nD) (K V : Arr F) {L : GSem nD τ sig → Finset Unit} {lv : GSem nD τ sig → Unit → ℕ} {O : CellTallies nD τ sig Unit} (HM : May (F := F) c L lv O) (v316 : FVec F S32x1 .f32) (v317 : FVec F S32x1 .f32) (v318 : FVec F S32x128 .f32) (v735 : FVec F S32x128 .bf16) {γ : Type} {kk : (FVec F S32x128 .bf16) → Prog (TpuEff nD τ sig (Elt F) Λ₀ .tc) γ} {Q : γ → sProp 𝕄} :
    iprop(Busy c K V Finset.univ 2 5 0 ∗ Owe c L lv O)
      ⊢ iprop(((Busy c K V Finset.univ 3 5 0 ∗ Owe c L lv O) -∗ wp frame (wpE defs 𝒱₀ (c : Thread nD τ) none) Set.univ (kk (k0_pay199 v316 v317 v318 (fB c K V 2 v735).1 (fB c K V 2 v735).2.1 (fB c K V 2 v735).2.2)) Q)
        -∗ wp frame (wpE defs 𝒱₀ (c : Thread nD τ) none) Set.univ (k0_part66 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v316 v317 v318 v735 (k0_pay190 (F := F)) >>= kk) Q) := by
  simp only [k0_part66_eq_skeleton]
  unfold k0_part66_skel
  simp only [Prog.lift, Prog.bind_op, Prog.bind_ret, Prog.pure_eq_ret, bind_assoc]
  iintro ⟨HS, HO⟩ Hk
  iapply (wp_t11 c K V Finset.univ HM.str (fun i _ => within_univ _ _) v316 v317 v318 v735 (k0_pay190 (F := F)) rfl) $$ [HS HO]
  · isplitl [HS] <;> iassumption
  iintro ⟨HS, HO⟩
  iapply (wp_k0 c K V Finset.univ 3 5 (within_univ _ _) rfl rfl rfl) $$ HS
  iintro HS
  iapply (wp_v0 c K V Finset.univ 3 5 (within_univ _ _) rfl rfl rfl) $$ HS
  iintro HS
  iapply Hk
  isplitl [HS]; · iexact HS
  iexact HO

theorem wp_p67 (c : Dev nD) (K V : Arr F) (W : S1024x1024.Idx → Elt F .bf16) {L : GSem nD τ sig → Finset Unit} {lv : GSem nD τ sig → Unit → ℕ} {O : CellTallies nD τ sig Unit} (HM : May (F := F) c L lv O) (v161 : FVec F S2048x1024 .bf16) (v372 : FVec F S32x1 .f32) (v374 : FVec F S32x128 .f32) (v734 : FVec F S32x1024 .f32) (v768 : FVec F S32x128 .bf16) {γ : Type} {kk : (Σ' (v772 : FVec F S32x1024 .f32) (v778_1 : FVec F S32x1 .f32) (v793 : FVec F S32x1 .f32) (v795 : FVec F S32x1 .f32), FVec F S32x128 .f32) → Prog (TpuEff nD τ sig (Elt F) Λ₀ .tc) γ} {Q : γ → sProp 𝕄} :
    iprop(Wo c W ∗ Busy c K V Finset.univ 3 5 0 ∗ Owe c L lv O)
      ⊢ iprop(((Wo c W ∗ Busy c K V Finset.univ 4 5 0 ∗ Owe c L lv O) -∗ wp frame (wpE defs 𝒱₀ (c : Thread nD τ) none) Set.univ (kk ⟨k0_pay200 v734 v768 (woB W 2), (fB c K V 3 (qB 3 v161)).2.1, k0_pay211 v372 (fB c K V 3 (qB 3 v161)).1, k0_pay212 v372 (fB c K V 3 (qB 3 v161)).1, k0_pay213 v372 v374 (fB c K V 3 (qB 3 v161)).1 (fB c K V 3 (qB 3 v161)).2.2⟩) Q)
        -∗ wp frame (wpE defs 𝒱₀ (c : Thread nD τ) none) Set.univ (k0_part67 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v372 v374 v734 v768 >>= kk) Q) := by
  simp only [k0_part67_eq_skeleton]
  unfold k0_part67_skel
  simp only [Prog.lift, Prog.bind_op, Prog.bind_ret, Prog.pure_eq_ret, bind_assoc]
  iintro ⟨HW, HS, HO⟩ Hk
  iapply (wp_wo c W 2 rfl) $$ HW
  iintro HW
  iapply (wp_t12 c K V Finset.univ HM.str (fun i _ => within_univ _ _) v161 v372 v374 v734 v768 rfl) $$ [HS HO]
  · isplitl [HS] <;> iassumption
  iintro ⟨HS, HO⟩
  iapply (wp_k0 c K V Finset.univ 4 5 (within_univ _ _) rfl rfl rfl) $$ HS
  iintro HS
  iapply (wp_v0 c K V Finset.univ 4 5 (within_univ _ _) rfl rfl rfl) $$ HS
  iintro HS
  iapply Hk
  isplitl [HW]; · iexact HW
  isplitl [HS]; · iexact HS
  iexact HO

theorem wp_p68 (c : Dev nD) (K V : Arr F) (W : S1024x1024.Idx → Elt F .bf16) {L : GSem nD τ sig → Finset Unit} {lv : GSem nD τ sig → Unit → ℕ} {O : CellTallies nD τ sig Unit} (HM : May (F := F) c L lv O) (v161 : FVec F S2048x1024 .bf16) (v373 : FVec F S32x1 .f32) (v428 : FVec F S32x1 .f32) (v772 : FVec F S32x1024 .f32) (v778_1 : FVec F S32x1 .f32) (v793 : FVec F S32x1 .f32) (v795 : FVec F S32x1 .f32) (v800 : FVec F S32x128 .f32) {γ : Type} {kk : (Σ' (v810 : FVec F S32x1024 .f32) (v816_0 : FVec F S32x1 .f32) (v816_1 : FVec F S32x1 .f32) (v816_2 : FVec F S32x128 .f32) (v829 : FVec F S32x1 .f32), FVec F S32x1 .f32) → Prog (TpuEff nD τ sig (Elt F) Λ₀ .tc) γ} {Q : γ → sProp 𝕄} :
    iprop(Wo c W ∗ Busy c K V Finset.univ 4 5 0 ∗ Owe c L lv O)
      ⊢ iprop(((Wo c W ∗ Busy c K V Finset.univ 5 5 0 ∗ Owe c L lv O) -∗ wp frame (wpE defs 𝒱₀ (c : Thread nD τ) none) Set.univ (kk ⟨k0_pay214 v373 v772 v778_1 v793 v795 v800 (woB W 3), (fB c K V 4 (qB 4 v161)).1, (fB c K V 4 (qB 4 v161)).2.1, (fB c K V 4 (qB 4 v161)).2.2, k0_pay224 v428 (fB c K V 4 (qB 4 v161)).1, k0_pay225 v428 (fB c K V 4 (qB 4 v161)).1⟩) Q)
        -∗ wp frame (wpE defs 𝒱₀ (c : Thread nD τ) none) Set.univ (k0_part68 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v373 v428 v772 v778_1 v793 v795 v800 >>= kk) Q) := by
  simp only [k0_part68_eq_skeleton]
  unfold k0_part68_skel
  simp only [Prog.lift, Prog.bind_op, Prog.bind_ret, Prog.pure_eq_ret, bind_assoc]
  iintro ⟨HW, HS, HO⟩ Hk
  iapply (wp_wo c W 3 rfl) $$ HW
  iintro HW
  iapply (wp_t13 c K V Finset.univ HM.str (fun i _ => within_univ _ _) v161 v373 v428 v772 v778_1 v793 v795 v800 rfl) $$ [HS HO]
  · isplitl [HS] <;> iassumption
  iintro ⟨HS, HO⟩
  iapply (wp_k0 c K V Finset.univ 5 5 (within_univ _ _) rfl rfl rfl) $$ HS
  iintro HS
  iapply (wp_v0 c K V Finset.univ 5 5 (within_univ _ _) rfl rfl rfl) $$ HS
  iintro HS
  iapply Hk
  isplitl [HW]; · iexact HW
  isplitl [HS]; · iexact HS
  iexact HO

theorem wp_p69 (c : Dev nD) (K V : Arr F) (W : S1024x1024.Idx → Elt F .bf16) {L : GSem nD τ sig → Finset Unit} {lv : GSem nD τ sig → Unit → ℕ} {O : CellTallies nD τ sig Unit} (HM : May (F := F) c L lv O) (v161 : FVec F S2048x1024 .bf16) (v429 : FVec F S32x1 .f32) (v430 : FVec F S32x128 .f32) (v810 : FVec F S32x1024 .f32) (v816_0 : FVec F S32x1 .f32) (v816_1 : FVec F S32x1 .f32) (v816_2 : FVec F S32x128 .f32) (v829 : FVec F S32x1 .f32) (v830 : FVec F S32x1 .f32) {γ : Type} {kk : (Σ' (v848 : FVec F S32x1024 .f32) (v854_0 : FVec F S32x1 .f32) (v854_1 : FVec F S32x1 .f32), FVec F S32x128 .f32) → Prog (TpuEff nD τ sig (Elt F) Λ₀ .tc) γ} {Q : γ → sProp 𝕄} :
    iprop(Wo c W ∗ Busy c K V Finset.univ 5 5 0 ∗ Owe c L lv O)
      ⊢ iprop(((Wo c W ∗ Half c K V Finset.univ 6 5 ∗ Owe c L lv O) -∗ wp frame (wpE defs 𝒱₀ (c : Thread nD τ) none) Set.univ (kk ⟨k0_pay226 v429 v430 v810 v816_0 v816_1 v816_2 v829 v830 (woB W 4), (fB c K V 5 (qB 5 v161)).1, (fB c K V 5 (qB 5 v161)).2.1, (fB c K V 5 (qB 5 v161)).2.2⟩) Q)
        -∗ wp frame (wpE defs 𝒱₀ (c : Thread nD τ) none) Set.univ (k0_part69 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v429 v430 v810 v816_0 v816_1 v816_2 v829 v830 >>= kk) Q) := by
  simp only [k0_part69_eq_skeleton]
  unfold k0_part69_skel
  simp only [Prog.lift, Prog.bind_op, Prog.bind_ret, Prog.pure_eq_ret, bind_assoc]
  iintro ⟨HW, HS, HO⟩ Hk
  iapply (wp_wo c W 4 rfl) $$ HW
  iintro HW
  iapply (wp_t14 c K V Finset.univ HM.str (fun i _ => within_univ _ _) v161 v429 v430 v810 v816_0 v816_1 v816_2 v829 v830 rfl) $$ [HS HO]
  · isplitl [HS] <;> iassumption
  iintro ⟨HS, HO⟩
  iapply (wp_k0 c K V Finset.univ 6 5 (within_univ _ _) rfl rfl rfl) $$ HS
  iintro HS
  iapply Hk
  isplitl [HW]; · iexact HW
  isplitl [HS]; · iexact HS
  iexact HO

theorem wp_p70 (c : Dev nD) (K V : Arr F) (W : S1024x1024.Idx → Elt F .bf16) {L : GSem nD τ sig → Finset Unit} {lv : GSem nD τ sig → Unit → ℕ} {O : CellTallies nD τ sig Unit} (HM : May (F := F) c L lv O) (v161 : FVec F S2048x1024 .bf16) (v484 : FVec F S32x1 .f32) (v485 : FVec F S32x1 .f32) (v486 : FVec F S32x128 .f32) (v848 : FVec F S32x1024 .f32) (v854_0 : FVec F S32x1 .f32) (v854_1 : FVec F S32x1 .f32) (v854_2 : FVec F S32x128 .f32) {γ : Type} {kk : (Σ' (v886 : FVec F S32x1024 .f32) (v892_0 : FVec F S32x1 .f32) (v892_1 : FVec F S32x1 .f32), FVec F S32x128 .f32) → Prog (TpuEff nD τ sig (Elt F) Λ₀ .tc) γ} {Q : γ → sProp 𝕄} :
    iprop(Half c K V Finset.univ 6 5 ∗ Wo c W ∗ Owe c L lv O)
      ⊢ iprop(((Half c K V Finset.univ 7 5 ∗ Wo c W ∗ Owe c L lv O) -∗ wp frame (wpE defs 𝒱₀ (c : Thread nD τ) none) Set.univ (kk ⟨k0_pay236 v484 v485 v486 v848 v854_0 v854_1 v854_2 (woB W 5), (fB c K V 6 (qB 6 v161)).1, (fB c K V 6 (qB 6 v161)).2.1, (fB c K V 6 (qB 6 v161)).2.2⟩) Q)
        -∗ wp frame (wpE defs 𝒱₀ (c : Thread nD τ) none) Set.univ (k0_part70 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v484 v485 v486 v848 v854_0 v854_1 v854_2 >>= kk) Q) := by
  simp only [k0_part70_eq_skeleton]
  unfold k0_part70_skel
  simp only [Prog.lift, Prog.bind_op, Prog.bind_ret, Prog.pure_eq_ret, bind_assoc]
  iintro ⟨HS, HW, HO⟩ Hk
  iapply (wp_v0 c K V Finset.univ 6 5 (within_univ _ _) rfl rfl rfl) $$ HS
  iintro HS
  iapply (wp_wo c W 5 rfl) $$ HW
  iintro HW
  iapply (wp_t15 c K V Finset.univ HM.str (fun i _ => within_univ _ _) v161 v484 v485 v486 v848 v854_0 v854_1 v854_2 rfl) $$ [HS HO]
  · isplitl [HS] <;> iassumption
  iintro ⟨HS, HO⟩
  iapply (wp_k0 c K V Finset.univ 7 5 (within_univ _ _) rfl rfl rfl) $$ HS
  iintro HS
  iapply Hk
  isplitl [HS]; · iexact HS
  isplitl [HW]; · iexact HW
  iexact HO

theorem wp_p71 (c : Dev nD) (K V : Arr F) (W : S1024x1024.Idx → Elt F .bf16) {L : GSem nD τ sig → Finset Unit} {lv : GSem nD τ sig → Unit → ℕ} {O : CellTallies nD τ sig Unit} (HM : May (F := F) c L lv O) (v161 : FVec F S2048x1024 .bf16) (v540 : FVec F S32x1 .f32) (v541 : FVec F S32x1 .f32) (v542 : FVec F S32x128 .f32) (v584 : FVec F S32x1 .f32) (v586 : FVec F S32x128 .f32) (v886 : FVec F S32x1024 .f32) (v892_0 : FVec F S32x1 .f32) (v892_1 : FVec F S32x1 .f32) (v892_2 : FVec F S32x128 .f32) {γ : Type} {kk : (Σ' (v924 : FVec F S32x1024 .f32) (v930_1 : FVec F S32x1 .f32) (v933 : FVec F S32x1 .f32) (v935 : FVec F S32x1 .f32), FVec F S32x128 .f32) → Prog (TpuEff nD τ sig (Elt F) Λ₀ .tc) γ} {Q : γ → sProp 𝕄} :
    iprop(Half c K V Finset.univ 7 5 ∗ Wo c W ∗ Owe c L lv O)
      ⊢ iprop(((Quiet c K V Finset.univ ∗ Wo c W ∗ Owe c L lv O) -∗ wp frame (wpE defs 𝒱₀ (c : Thread nD τ) none) Set.univ (kk ⟨k0_pay246 v540 v541 v542 v886 v892_0 v892_1 v892_2 (woB W 6), (fB c K V 7 (qB 7 v161)).2.1, k0_pay257 v584 (fB c K V 7 (qB 7 v161)).1, k0_pay258 v584 (fB c K V 7 (qB 7 v161)).1, k0_pay259 v584 v586 (fB c K V 7 (qB 7 v161)).1 (fB c K V 7 (qB 7 v161)).2.2⟩) Q)
        -∗ wp frame (wpE defs 𝒱₀ (c : Thread nD τ) none) Set.univ (k0_part71 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 v161 v540 v541 v542 v584 v586 v886 v892_0 v892_1 v892_2 >>= kk) Q) := by
  simp only [k0_part71_eq_skeleton]
  unfold k0_part71_skel
  simp only [Prog.lift, Prog.bind_op, Prog.bind_ret, Prog.pure_eq_ret, bind_assoc]
  iintro ⟨HS, HW, HO⟩ Hk
  iapply (wp_v0 c K V Finset.univ 7 5 (within_univ _ _) rfl rfl rfl) $$ HS
  iintro HS
  iapply (wp_wo c W 6 rfl) $$ HW
  iintro HW
  iapply (wp_t16 c K V Finset.univ HM.str (fun i _ => within_univ _ _) v161 v540 v541 v542 v584 v586 v886 v892_0 v892_1 v892_2 rfl) $$ [HS HO]
  · isplitl [HS] <;> iassumption
  iintro ⟨HS, HO⟩
  iapply Hk
  isplitl [HS]; · iexact HS
  isplitl [HW]; · iexact HW
  iexact HO

end Cert.Attn

end
-- ==== Proof.PartsC.lean ====
/-
  The parts of the body that wait for the exchange.
-/
module

public import proofs.«01_k».proof.Proof.Steps

@[expose] public section

noncomputable section

namespace Cert.Attn

open Cert.KernelIdeal Cert.KernelIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocalO)

variable {F : FTy → Type} [FloatOps F] [Named F]
local notation "𝕄" => MT nD τ sig Unit (Elt F) ℕ UU ℕ
variable {defs : Defs nD τ sig (Elt F) Λ₀}

set_option maxHeartbeats 800000 in
theorem wp_p46 {X : Data F} (κ : GSem nD τ sig → ℕ) (c : Dev nD) (x : S1x2048x1024.Idx → Elt F .bf16) (wq : S1024x1024.Idx → Elt F .bf16) {L : GSem nD τ sig → Finset Unit} {lv : GSem nD τ sig → Unit → ℕ} {O : CellTallies nD τ sig Unit} (HM : May (F := F) c L lv O) {γ : Type} {kk : (Σ' (v161 : FVec F S2048x1024 .bf16) (v178 : BitVec 32), BitVec 32) → Prog (TpuEff nD τ sig (Elt F) Λ₀ .tc) γ} {Q : γ → sProp 𝕄} :
    iprop(known WA (GA X) EA κ ∗ pV.lent c c (laneV X c).f ∗ pV.room c c ∗ semVal ((c : Thread nD τ), .dma (cpyS ![pV.t.val] (cpy_inb pV.t))) 0 ∗ Oth pV c 0 ∗ Oth pV c 1 ∗ Oth pV c 2 ∗ Pnd (laneK X c) 0 ∗ Pnd (laneK X c) 1 ∗ Xi c x ∗ Qi c wq ∗ Owe c L lv O)
      ⊢ iprop(((pK.part c 0 (laneK X c).g ∗ pV.part c 0 (laneV X c).g ∗ Pnd (laneV X c) 1 ∗ Pnd (laneV X c) 2 ∗ Pnd (laneV X c) 3 ∗ Xi c x ∗ Qi c wq ∗ Owe c L lv O ∗ Dne (laneK X c) 0 ∗ Dne (laneV X c) 0 ∗ Md (laneK X c) 1) -∗ wp frame (wpE defs 𝒱₀ (c : Thread nD τ) none) Set.univ (kk ⟨k0_pay33 x wq, (Scalar.extui (Scalar.cmpi .ne (Scalar.remsi (Scalar.divsi (Dev.word c) 1#32) 4#32) 1#32)), 0#32⟩) Q)
        -∗ wp frame (wpE defs 𝒱₀ (c : Thread nD τ) none) Set.univ (k0_part46 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 c (Scalar.remsi (Scalar.divsi (Dev.word c) 1#32) 4#32) >>= kk) Q) := by
  simp only [k0_part46_eq_skeleton]
  unfold k0_part46_skel
  have gg : (¬ True) = False := not_true_eq_false
  rcases cases2 0 1 (by decide) c with ⟨hj0, hj1, g0, g1⟩ | ⟨hj0, hj1, g0, g1⟩ | ⟨hj0, hj1, g0, g1⟩
  all_goals
    simp only [Prog.lift, Prog.bind_op, Prog.bind_ret, Prog.pure_eq_ret, bind_assoc, cond1_iff, cond3_iff, cond5_iff, rcv_iff0, rcv_iff1, g0, g1, not_true_eq_false, not_false_eq_true, ↓reduceDIte]
    iintro ⟨#HKn, HS1, HS2, HS3, HA0, HA1, HA2, PK0, PK1, HX, HQ, HO⟩ Hk
    iapply (wp_keep (laneV X c) (off5_eq c) (off2_eq c) rfl) $$ [HS1 HS2 HS3]
    · isplitl [HS1]; · iexact HS1
      isplitl [HS2]; · iexact HS2
      iexact HS3
    iintro HF
    ihave HF := (pnds (laneV X c)) $$ [HF HA0 HA1 HA2]
    · isplitl [HF]; · iexact HF
      isplitl [HA0]; · iexact HA0
      isplitl [HA1]; · iexact HA1
      iexact HA2
    icases HF with ⟨PV0, PV1, PV2, PV3⟩
    iapply (wp_x c x) $$ HX
    iintro HX
    iapply (wp_q c wq) $$ HQ
    iintro HQ
    first
      | (iapply (wp_own (laneK X c) (j := 0) hj0 HM.cpy rfl) $$ [PK0 HO]
         · isplitl [PK0] <;> iassumption)
      | (iapply (wp_got κ (laneK X c) (j := 0) hj0 HM.rcv rfl) $$ [PK0 HO]
         · isplitr
           · iexact HKn
           isplitl [PK0] <;> iassumption)
    iintro ⟨PK0, DK0, HO⟩
    first
      | (iapply (wp_own (laneV X c) (j := 0) hj0 HM.cpy rfl) $$ [PV0 HO]
         · isplitl [PV0] <;> iassumption)
      | (iapply (wp_got κ (laneV X c) (j := 0) hj0 HM.rcv rfl) $$ [PV0 HO]
         · isplitr
           · iexact HKn
           isplitl [PV0] <;> iassumption)
    iintro ⟨PV0, DV0, HO⟩
    first
      | (ihave M1 := (md_no (laneK X c) hj1) $$ PK1)
      | (iapply (wp_own (laneK X c) (j := 1) hj1 HM.cpy rfl) $$ [PK1 HO]
         · isplitl [PK1] <;> iassumption
         iintro ⟨PK1, DK1, HO⟩
         ihave M1 := (md_yes (laneK X c) hj1) $$ [PK1 DK1]
         · isplitl [PK1] <;> iassumption)
    iapply Hk
    isplitl [PK0]; · iexact PK0
    isplitl [PV0]; · iexact PV0
    isplitl [PV1]; · iexact PV1
    isplitl [PV2]; · iexact PV2
    isplitl [PV3]; · iexact PV3
    isplitl [HX]; · iexact HX
    isplitl [HQ]; · iexact HQ
    isplitl [HO]; · iexact HO
    isplitl [DK0]; · iexact DK0
    isplitl [DV0]; · iexact DV0
    iexact M1

set_option maxHeartbeats 800000 in
theorem wp_p47 {X : Data F} (κ : GSem nD τ sig → ℕ) (c : Dev nD) {L : GSem nD τ sig → Finset Unit} {lv : GSem nD τ sig → Unit → ℕ} {O : CellTallies nD τ sig Unit} (HM : May (F := F) c L lv O) (v161 : FVec F S2048x1024 .bf16) {γ : Type} {kk : (Σ' (v203_0 : FVec F S2048x1 .f32) (v203_1 : FVec F S2048x1 .f32), FVec F S2048x128 .f32) → Prog (TpuEff nD τ sig (Elt F) Λ₀ .tc) γ} {Q : γ → sProp 𝕄} :
    iprop(known WA (GA X) EA κ ∗ Md (laneK X c) 1 ∗ Owe c L lv O ∗ Pnd (laneV X c) 1 ∗ pK.part c 0 (laneK X c).g ∗ pV.part c 0 (laneV X c).g ∗ Slots c)
      ⊢ iprop(((Owe c L lv O ∗ Dne (laneK X c) 1 ∗ Dne (laneV X c) 1 ∗ Quiet c (gath X.k c) (gath X.v c) R2) -∗ wp frame (wpE defs 𝒱₀ (c : Thread nD τ) none) Set.univ (kk ⟨(fA c (gath X.k c) (gath X.v c) 0 (k0_pay34 v161)).1, (fA c (gath X.k c) (gath X.v c) 0 (k0_pay34 v161)).2.1, (fA c (gath X.k c) (gath X.v c) 0 (k0_pay34 v161)).2.2⟩) Q)
        -∗ wp frame (wpE defs 𝒱₀ (c : Thread nD τ) none) Set.univ (k0_part47 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 c (Scalar.remsi (Scalar.divsi (Dev.word c) 1#32) 4#32) v161 (Scalar.extui (Scalar.cmpi .ne (Scalar.remsi (Scalar.divsi (Dev.word c) 1#32) 4#32) 1#32) : BitVec 32) 0#32 >>= kk) Q) := by
  simp only [k0_part47_eq_skeleton]
  unfold k0_part47_skel
  have gg : (¬ True) = False := not_true_eq_false
  rcases cases1 1 c with ⟨hj1, g1⟩ | ⟨hj1, g1⟩
  all_goals
    simp only [Prog.lift, Prog.bind_op, Prog.bind_ret, Prog.pure_eq_ret, bind_assoc, cond7_iff, rcv_iff1, g1, not_true_eq_false, not_false_eq_true, ↓reduceDIte]
    iintro ⟨#HKn, M1, HO, PV1, PK0, PV0, HS⟩ Hk
    first
      | (ihave M1 := (md_open (laneK X c) hj1) $$ M1
         icases M1 with ⟨PK1, DK1⟩)
      | (ihave M1 := (md_wait (laneK X c) hj1) $$ M1
         iapply (wp_got κ (laneK X c) (j := 1) hj1 HM.rcv rfl) $$ [M1 HO]
         · isplitr
           · iexact HKn
           isplitl [M1] <;> iassumption
         iintro ⟨PK1, DK1, HO⟩)
    first
      | (iapply (wp_own (laneV X c) (j := 1) hj1 HM.cpy rfl) $$ [PV1 HO]
         · isplitl [PV1] <;> iassumption)
      | (iapply (wp_got κ (laneV X c) (j := 1) hj1 HM.rcv rfl) $$ [PV1 HO]
         · isplitr
           · iexact HKn
           isplitl [PV1] <;> iassumption)
    iintro ⟨PV1, DV1, HO⟩
    ihave HS := (begin_quiet c (gath X.k c) (gath X.v c)) $$ [HS PK0 PK1 PV0 PV1]
    · isplitl [HS]; · iexact HS
      isplitl [PK0]; · iexact PK0
      isplitl [PK1]; · iexact PK1
      isplitl [PV0]; · iexact PV0
      iexact PV1
    iapply (wp_k0 c (gath X.k c) (gath X.v c) R2 0 0 (within_R2 0 0 (by decide)) rfl rfl rfl) $$ HS
    iintro HS
    iapply (wp_v0 c (gath X.k c) (gath X.v c) R2 0 0 (within_R2 0 0 (by decide)) rfl rfl rfl) $$ HS
    iintro HS
    iapply (wp_t1 c (gath X.k c) (gath X.v c) R2 HM.str (within_R2 0) (Scalar.remsi (Scalar.divsi (Dev.word c) 1#32) 4#32) v161 (Scalar.extui (Scalar.cmpi .ne (Scalar.remsi (Scalar.divsi (Dev.word c) 1#32) 4#32) 1#32) : BitVec 32) 0#32 rfl) $$ [HS HO]
    · isplitl [HS] <;> iassumption
    iintro ⟨HS, HO⟩
    iapply Hk
    isplitl [HO]; · iexact HO
    isplitl [DK1]; · iexact DK1
    isplitl [DV1]; · iexact DV1
    iexact HS

set_option maxHeartbeats 800000 in
theorem wp_p62 {X : Data F} (κ : GSem nD τ sig → ℕ) (c : Dev nD) (W : S1024x1024.Idx → Elt F .bf16) (X3 : Vec F S512x1024 .f32) {L : GSem nD τ sig → Finset Unit} {lv : GSem nD τ sig → Unit → ℕ} {O : CellTallies nD τ sig Unit} (HM : May (F := F) c L lv O) (v614 : FVec F S512x128 .bf16) {γ : Type} {kk : (PUnit) → Prog (TpuEff nD τ sig (Elt F) Λ₀ .tc) γ} {Q : γ → sProp 𝕄} :
    iprop(known WA (GA X) EA κ ∗ Wo c W ∗ Ob c 3 X3 ∗ Pnd (laneK X c) 2 ∗ Owe c L lv O ∗ Pnd (laneV X c) 2 ∗ Pnd (laneK X c) 3)
      ⊢ iprop(((Wo c W ∗ Ob c 3 (k0_pay166 v614 (woB W 7) X3) ∗ pK.part c 2 (laneK X c).g ∗ Owe c L lv O ∗ Dne (laneK X c) 2 ∗ pV.part c 2 (laneV X c).g ∗ Dne (laneV X c) 2 ∗ pK.part c 3 (laneK X c).g ∗ Dne (laneK X c) 3) -∗ wp frame (wpE defs 𝒱₀ (c : Thread nD τ) none) Set.univ (kk ⟨⟩) Q)
        -∗ wp frame (wpE defs 𝒱₀ (c : Thread nD τ) none) Set.univ (k0_part62 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 c (Scalar.remsi (Scalar.divsi (Dev.word c) 1#32) 4#32) v614 >>= kk) Q) := by
  simp only [k0_part62_eq_skeleton]
  unfold k0_part62_skel
  have gg : (¬ True) = False := not_true_eq_false
  rcases cases2 2 3 (by decide) c with ⟨hj2, hj3, g2, g3⟩ | ⟨hj2, hj3, g2, g3⟩ | ⟨hj2, hj3, g2, g3⟩
  all_goals
    simp only [Prog.lift, Prog.bind_op, Prog.bind_ret, Prog.pure_eq_ret, bind_assoc, cond17_iff, cond19_iff, cond21_iff, rcv_iff2, rcv_iff3, g2, g3, not_true_eq_false, not_false_eq_true, ↓reduceDIte]
    iintro ⟨#HKn, HW, H3, PK2, HO, PV2, PK3⟩ Hk
    iapply (wp_wo c W 7 rfl) $$ HW
    iintro HW
    iapply (wp_oload c 3 X3 rfl) $$ H3
    iintro H3
    iapply (wp_oload c 3 X3 rfl) $$ H3
    iintro H3
    iapply (wp_ostore c 3 X3 (k0_pay166 v614 (woB W 7) X3) rfl) $$ H3
    iintro H3
    first
      | (iapply (wp_own (laneK X c) (j := 2) hj2 HM.cpy rfl) $$ [PK2 HO]
         · isplitl [PK2] <;> iassumption)
      | (iapply (wp_got κ (laneK X c) (j := 2) hj2 HM.rcv rfl) $$ [PK2 HO]
         · isplitr
           · iexact HKn
           isplitl [PK2] <;> iassumption)
    iintro ⟨PK2, DK2, HO⟩
    first
      | (iapply (wp_own (laneV X c) (j := 2) hj2 HM.cpy rfl) $$ [PV2 HO]
         · isplitl [PV2] <;> iassumption)
      | (iapply (wp_got κ (laneV X c) (j := 2) hj2 HM.rcv rfl) $$ [PV2 HO]
         · isplitr
           · iexact HKn
           isplitl [PV2] <;> iassumption)
    iintro ⟨PV2, DV2, HO⟩
    first
      | (iapply (wp_own (laneK X c) (j := 3) hj3 HM.cpy rfl) $$ [PK3 HO]
         · isplitl [PK3] <;> iassumption)
      | (iapply (wp_got κ (laneK X c) (j := 3) hj3 HM.rcv rfl) $$ [PK3 HO]
         · isplitr
           · iexact HKn
           isplitl [PK3] <;> iassumption)
    iintro ⟨PK3, DK3, HO⟩
    iapply Hk
    isplitl [HW]; · iexact HW
    isplitl [H3]; · iexact H3
    isplitl [PK2]; · iexact PK2
    isplitl [HO]; · iexact HO
    isplitl [DK2]; · iexact DK2
    isplitl [PV2]; · iexact PV2
    isplitl [DV2]; · iexact DV2
    isplitl [PK3]; · iexact PK3
    iexact DK3

set_option maxHeartbeats 800000 in
theorem wp_p63 {X : Data F} (κ : GSem nD τ sig → ℕ) (c : Dev nD) {L : GSem nD τ sig → Finset Unit} {lv : GSem nD τ sig → Unit → ℕ} {O : CellTallies nD τ sig Unit} (HM : May (F := F) c L lv O) (v161 : FVec F S2048x1024 .bf16) {γ : Type} {kk : (Σ' (v658 : FVec F S32x1024 .f32) (v664_0 : FVec F S32x1 .f32) (v664_1 : FVec F S32x1 .f32), FVec F S32x128 .f32) → Prog (TpuEff nD τ sig (Elt F) Λ₀ .tc) γ} {Q : γ → sProp 𝕄} :
    iprop(known WA (GA X) EA κ ∗ Pnd (laneV X c) 3 ∗ Owe c L lv O ∗ pK.part c 2 (laneK X c).g ∗ pK.part c 3 (laneK X c).g ∗ pV.part c 2 (laneV X c).g ∗ Quiet c (gath X.k c) (gath X.v c) R2)
      ⊢ iprop(((Owe c L lv O ∗ Dne (laneV X c) 3 ∗ Quiet c (gath X.k c) (gath X.v c) Finset.univ) -∗ wp frame (wpE defs 𝒱₀ (c : Thread nD τ) none) Set.univ (kk ⟨k0_pay167 (F := F), (fB c (gath X.k c) (gath X.v c) 0 (qB 0 v161)).1, (fB c (gath X.k c) (gath X.v c) 0 (qB 0 v161)).2.1, (fB c (gath X.k c) (gath X.v c) 0 (qB 0 v161)).2.2⟩) Q)
        -∗ wp frame (wpE defs 𝒱₀ (c : Thread nD τ) none) Set.univ (k0_part63 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 c (Scalar.remsi (Scalar.divsi (Dev.word c) 1#32) 4#32) v161 >>= kk) Q) := by
  simp only [k0_part63_eq_skeleton]
  unfold k0_part63_skel
  have gg : (¬ True) = False := not_true_eq_false
  rcases cases1 3 c with ⟨hj3, g3⟩ | ⟨hj3, g3⟩
  all_goals
    simp only [Prog.lift, Prog.bind_op, Prog.bind_ret, Prog.pure_eq_ret, bind_assoc, cond23_iff, rcv_iff3, g3, not_true_eq_false, not_false_eq_true, ↓reduceDIte]
    iintro ⟨#HKn, PV3, HO, PK2, PK3, PV2, HS⟩ Hk
    first
      | (iapply (wp_own (laneV X c) (j := 3) hj3 HM.cpy rfl) $$ [PV3 HO]
         · isplitl [PV3] <;> iassumption)
      | (iapply (wp_got κ (laneV X c) (j := 3) hj3 HM.rcv rfl) $$ [PV3 HO]
         · isplitr
           · iexact HKn
           isplitl [PV3] <;> iassumption)
    iintro ⟨PV3, DV3, HO⟩
    ihave HS := (grow_quiet c (gath X.k c) (gath X.v c)) $$ [HS PK2 PK3 PV2 PV3]
    · isplitl [HS]; · iexact HS
      isplitl [PK2]; · iexact PK2
      isplitl [PK3]; · iexact PK3
      isplitl [PV2]; · iexact PV2
      iexact PV3
    iapply (wp_k0 c (gath X.k c) (gath X.v c) Finset.univ 0 5 (within_univ _ _) rfl rfl rfl) $$ HS
    iintro HS
    iapply (wp_v0 c (gath X.k c) (gath X.v c) Finset.univ 0 5 (within_univ _ _) rfl rfl rfl) $$ HS
    iintro HS
    iapply (wp_t9 c (gath X.k c) (gath X.v c) Finset.univ HM.str (fun i _ => within_univ _ _) (Scalar.remsi (Scalar.divsi (Dev.word c) 1#32) 4#32) v161 rfl) $$ [HS HO]
    · isplitl [HS] <;> iassumption
    iintro ⟨HS, HO⟩
    iapply Hk
    isplitl [HO]; · iexact HO
    isplitl [DV3]; · iexact DV3
    iexact HS

theorem wp_p72 {X : Data F} (κ : GSem nD τ sig → ℕ) (c : Dev nD) (W : S1024x1024.Idx → Elt F .bf16) (X0 : Vec F S512x1024 .f32) {L : GSem nD τ sig → Finset Unit} {lv : GSem nD τ sig → Unit → ℕ} {O : CellTallies nD τ sig Unit} (HM : May (F := F) c L lv O) (v585 : FVec F S32x1 .f32) (v924 : FVec F S32x1024 .f32) (v930_1 : FVec F S32x1 .f32) (v933 : FVec F S32x1 .f32) (v935 : FVec F S32x1 .f32) (v940 : FVec F S32x128 .f32) {γ : Type} {kk : (PUnit) → Prog (TpuEff nD τ sig (Elt F) Λ₀ .tc) γ} {Q : γ → sProp 𝕄} :
    iprop(known WA (GA X) EA κ ∗ Wo c W ∗ Ob c 0 X0 ∗ (cred (tallyAt (WA.sndC c 0 pK.t) () WA.amt) ∗ atPos EA (WA.sndC c 0 pK.t) 0 ∅ 0) ∗ Owe c L lv O ∗ (cred (tallyAt (WA.sndC c 0 pV.t) () WA.amt) ∗ atPos EA (WA.sndC c 0 pV.t) 0 ∅ 0))
      ⊢ iprop(((Wo c W ∗ ObF c X0 (k0_pay260 v585 v924 v930_1 v933 v935 v940 (woB W 7)) ∗ (pK.lent c (sh 0 c) (laneK X c).f ∗ atPos EA (WA.sndC c 0 pK.t) 1 ∅ 0) ∗ Owe c L lv O ∗ (pV.lent c (sh 0 c) (laneV X c).f ∗ atPos EA (WA.sndC c 0 pV.t) 1 ∅ 0)) -∗ wp frame (wpE defs 𝒱₀ (c : Thread nD τ) none) Set.univ (kk ⟨⟩) Q)
        -∗ wp frame (wpE defs 𝒱₀ (c : Thread nD τ) none) Set.univ (k0_part72 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 c v585 v924 v930_1 v933 v935 v940 >>= kk) Q) := by
  simp only [k0_part72_eq_skeleton]
  unfold k0_part72_skel
  simp only [Prog.lift, Prog.bind_op, Prog.bind_ret, Prog.pure_eq_ret, bind_assoc]
  iintro ⟨#HKn, HW, H0, GK0, HO, GV0⟩ Hk
  iapply (wp_wo c W 7 rfl) $$ HW
  iintro HW
  iapply (wp_oload32 c X0) $$ H0
  iintro %v951 H0
  iapply (wp_ofix c X0 (k0_pay260 v585 v924 v930_1 v933 v935 v940 (woB W 7))) $$ H0
  iintro H0
  iapply (wp_gone κ (laneK X c) 0 HM.snd rfl) $$ [GK0 HO]
  · isplitr; · iexact HKn
    isplitl [GK0] <;> iassumption
  iintro ⟨GK0, GK0', HO⟩
  ihave GK0 := (show (iprop((pK.lent c (sh 0 c) (laneK X c).f ∗ atPos EA (WA.sndC c 0 pK.t) 1 ∅ 0)) : sProp 𝕄) ⊢ (pK.lent c (sh 0 c) (laneK X c).f ∗ atPos EA (WA.sndC c 0 pK.t) 1 ∅ 0) from Entails.refl _) $$ [GK0 GK0']
  · isplitl [GK0] <;> iassumption
  iapply (wp_gone κ (laneV X c) 0 HM.snd rfl) $$ [GV0 HO]
  · isplitr; · iexact HKn
    isplitl [GV0] <;> iassumption
  iintro ⟨GV0, GV0', HO⟩
  ihave GV0 := (show (iprop((pV.lent c (sh 0 c) (laneV X c).f ∗ atPos EA (WA.sndC c 0 pV.t) 1 ∅ 0)) : sProp 𝕄) ⊢ (pV.lent c (sh 0 c) (laneV X c).f ∗ atPos EA (WA.sndC c 0 pV.t) 1 ∅ 0) from Entails.refl _) $$ [GV0 GV0']
  · isplitl [GV0] <;> iassumption
  iapply Hk
  isplitl [HW]; · iexact HW
  isplitl [H0]; · iexact H0
  isplitl [GK0]; · iexact GK0
  isplitl [HO]; · iexact HO
  iexact GV0

end Cert.Attn

end
-- ==== Proof.Open.lean ====
/-
  How the body begins: the handshake, and the pieces sent.
-/
module

public import proofs.«01_k».proof.Proof.Steps

@[expose] public section

noncomputable section

namespace Cert.Attn

open Cert.KernelIdeal Cert.KernelIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocalO)

variable {F : FTy → Type} [FloatOps F] [Named F]
local notation "𝕄" => MT nD τ sig Unit (Elt F) ℕ UU ℕ
variable {defs : Defs nD τ sig (Elt F) Λ₀}

section Open
variable {X : Data F} (κ : GSem nD τ sig → ℕ) {π : Pipe} {c : Dev nD} {L : GSem nD τ sig → Finset Unit} {lv : GSem nD τ sig → Unit → ℕ}

theorem bigSep3 (Φ : Fin 3 → sProp 𝕄) : bigSep Finset.univ Φ = iprop(Φ 0 ∗ Φ 1 ∗ Φ 2) :=
  bigSep_univ_eq_bigSepL [0, 1, 2] (by decide) (by decide) Φ
theorem bigSep2 (Φ : Fin 2 → sProp 𝕄) : bigSep Finset.univ Φ = iprop(Φ 0 ∗ Φ 1) :=
  bigSep_univ_eq_bigSepL [0, 1] (by decide) (by decide) Φ

/-- What one signal of the handshake takes along. -/
def Tik (c : Dev nD) (p : Fin 3) : sProp 𝕄 :=
  iprop(dutyTok EA (WA.barC (sh p c)) 0 p ∗ (pK.room c (sh p c) ∗ pV.room c (sh p c)) ∗ bigSep Finset.univ fun i : Fin 2 => reached EA (WA.rcvC c (rv p) i) 0)

/-- What a piece to be sent needs beside the handshake. -/
def Prep (ℓ : Lane X π c) (p : Fin 3) : sProp 𝕄 :=
  iprop((dutyTok EA (WA.sndC c p π.t) 0 0 ∗ dutyTok EA (WA.rcvC (sh p c) p π.t) 0 0) ∗ reached EA (WA.sndC c p π.t) 0 ∗ π.lent c (sh p c) ℓ.f)
/-- What a piece to be sent needs. -/
def Give (ℓ : Lane X π c) (p : Fin 3) : sProp 𝕄 :=
  iprop(ticket WA EA c p π.t ∗ π.lent c (sh p c) ℓ.f ∗ π.room (sh p c) c)

theorem givenAll (p : Fin 3) : iprop(unitPay WA (GA X) EA c p ∗ Prep (laneK X c) p ∗ Prep (laneV X c) p) ⊢ iprop(Give (laneK X c) p ∗ Give (laneV X c) p) := by
  unfold unitPay Prep Give ticket
  rw [bigSep2]
  iintro ⟨⟨HB, #H0, #H1⟩, ⟨HtK, #HsK, HlK⟩, HtV, #HsV, HlV⟩
  ihave HB := (show (GA X).B c p ⊢ iprop(pK.room (sh p c) c ∗ pV.room (sh p c) c) from Entails.refl _) $$ HB
  icases HB with ⟨HrK, HrV⟩
  isplitl [HtK HlK HrK]
  · isplitl [HtK]
    · isplitl [HtK]; · iexact HtK
      isplitr; · iexact HsK
      iexact H0
    isplitl [HlK]; · iexact HlK
    iexact HrK
  · isplitl [HtV]
    · isplitl [HtV]; · iexact HtV
      isplitr; · iexact HsV
      iexact H1
    isplitl [HlV]; · iexact HlV
    iexact HrV

theorem wp_unit {α : Type} {Q : α → sProp 𝕄} {k : PUnit → Prog (TpuEff nD τ sig (Elt F) Λ₀ .tc) α} (p : Fin 3) {j : Dev nD} (hj : j = sh p c) {m : ℤ} (hm : m = 1)
    (D : CellTallies nD τ sig Unit) (l : List (Pay 2)) :
    iprop(known WA (GA X) EA κ ∗ Tik c p ∗ Owe c L lv (dueOn WA D c (.inl p :: l)))
      ⊢ iprop((Owe c L lv (dueOn WA D c l) -∗ wp frame (wpE defs 𝒱₀ (c : Thread nD τ) none) Set.univ (k ⟨⟩) Q)
        -∗ wp frame (wpE defs 𝒱₀ (c : Thread nD τ) none) Set.univ (.op (.semSignal (j : Thread nD τ) (SemArray.scalar (sig.barrier 0 rfl) : Sems sig S_).sem m) k) Q) := by
  unfold Tik Owe
  iintro ⟨#HK, ⟨Ht, HB, Hr⟩, #HL, %Ws, HO⟩ Hk
  ihave HB := (show iprop(pK.room c (sh p c) ∗ pV.room c (sh p c)) ⊢ (GA X).B (sh p c) (rv p) from (Entails.of_eq (by
    show _ = iprop(pK.room (sh (rv p) (sh p c)) (sh p c) ∗ pV.room (sh (rv p) (sh p c)) (sh p c)); rw [rv_sh]))) $$ HB
  iapply (wp_sig WA (GA X) EA 𝒱₀ κ c none p hj hm (dueOn WA D c l) rfl) $$ [Ht HB Hr HO]
  · isplitr; · iexact HK
    isplitl [HO]; · iexact HO
    isplitl [Ht]; · iexact Ht
    isplitl [HB]; · iexact HB
    iexact Hr
  iintro HO
  iapply Hk
  isplitr; · iexact HL
  iexists Ws
  iexact HO

theorem wp_meet {α : Type} {Q : α → sProp 𝕄} {k : PUnit → Prog (TpuEff nD τ sig (Elt F) Λ₀ .tc) α} {m : ℤ} (hm : m = 3) {O : CellTallies nD τ sig Unit}
    (hO : (levAts L lv : sProp 𝕄) ⊢ MayWait (c : Thread nD τ) (.reg WA.bar) () O) :
    iprop(known WA (GA X) EA κ ∗ cred (tallyAt (WA.barC c) () 3) ∗ atPos EA (WA.barC c) 0 ∅ 0 ∗ Owe c L lv O
        ∗ (Prep (laneK X c) 0 ∗ Prep (laneV X c) 0) ∗ (Prep (laneK X c) 1 ∗ Prep (laneV X c) 1) ∗ (Prep (laneK X c) 2 ∗ Prep (laneV X c) 2))
      ⊢ iprop(((Owe c L lv O ∗ atPos EA (WA.barC c) 1 ∅ 0 ∗ (Give (laneK X c) 0 ∗ Give (laneV X c) 0) ∗ (Give (laneK X c) 1 ∗ Give (laneV X c) 1) ∗ (Give (laneK X c) 2 ∗ Give (laneV X c) 2))
            -∗ wp frame (wpE defs 𝒱₀ (c : Thread nD τ) none) Set.univ (k ⟨⟩) Q)
        -∗ wp frame (wpE defs 𝒱₀ (c : Thread nD τ) none) Set.univ (.op (.semWait (SemArray.scalar (sig.barrier 0 rfl) : Sems sig S_).sem m) k) Q) := by
  unfold Owe
  iintro ⟨#HK, HC, Ha, ⟨#HL, %Ws, HO⟩, H0, H1, H2⟩ Hk
  iapply (wp_barWait WA (GA X) EA 𝒱₀ κ c none hm) $$ [HC HO Ha]
  · isplitr; · iexact HK
    isplitl [HC]; · iexact HC
    isplitl [HO]; · iexact HO
    isplitr; · iapply hO; iexact HL
    iexact Ha
  rw [bigSep3]
  iintro ⟨HO, Ha, P0, P1, P2⟩
  ihave G0 := (givenAll 0) $$ [P0 H0]
  · isplitl [P0] <;> iassumption
  ihave G1 := (givenAll 1) $$ [P1 H1]
  · isplitl [P1] <;> iassumption
  ihave G2 := (givenAll 2) $$ [P2 H2]
  · isplitl [P2] <;> iassumption
  iapply Hk
  isplitl [HO]
  · isplitr; · iexact HL
    iexists _
    iexact HO
  isplitl [Ha]; · iexact Ha
  isplitl [G0]; · iexact G0
  isplitl [G1]; · iexact G1
  iexact G2

theorem wp_giveO (ℓ : Lane X π c) {α : Type} {Q : α → sProp 𝕄} {k : PUnit → Prog (TpuEff nD τ sig (Elt F) Λ₀ .tc) α} (p : Fin 3) {j : Dev nD} (hj : j = sh p c)
    {o1 : Fin 3 → ℕ} {h1} (e1 : o1 = ![8 * (sh p c).val, 0, 0]) {o2 : Fin 4 → ℕ} {h2} (e2 : o2 = ![0, c.val, 0, 0])
    {o3 : Fin 2 → ℕ} {h3} (e3 : o3 = ![p.val, π.t.val]) {o4 : Fin 2 → ℕ} {h4} (e4 : o4 = ![c.val, π.t.val])
    {hsc : (chkM π.C o2 h2).view.ref.isScScratch = false} {x1 x2 x3} (D : CellTallies nD τ sig Unit) (l : List (Pay 2)) :
    iprop(known WA (GA X) EA κ ∗ Give ℓ p ∗ Owe c L lv (dueOn WA D c (.inr (p, π.t) :: l)))
      ⊢ iprop(((cred (tallyAt (WA.sndC c p π.t) () WA.amt) ∗ Owe c L lv (dueOn WA D c l)) -∗ wp frame (wpE defs 𝒱₀ (c : Thread nD τ) none) Set.univ (k ⟨⟩) Q)
        -∗ wp frame (wpE defs 𝒱₀ (c : Thread nD τ) none) Set.univ
          (.op (.enqueueDma (rowM π.A o1 h1) (.remote (j : Thread nD τ) (chkM π.C o2 h2) (.dma (sndS o3 h3)) hsc) (.dma (rcvS o4 h4)) x1 x2 x3) k) Q) := by
  unfold Give Owe
  iintro ⟨#HK, ⟨Ht, Hl, Hr⟩, #HL, %Ws, HO⟩ Hk
  iapply (wp_give κ ℓ p hj e1 e2 e3 e4 D l) $$ [Ht Hl Hr HO]
  · isplitr; · iexact HK
    isplitl [Ht]; · iexact Ht
    isplitl [Hl]; · iexact Hl
    isplitl [Hr]; · iexact Hr
    iexact HO
  iintro ⟨HC, HO⟩
  iapply Hk
  isplitl [HC]; · iexact HC
  isplitr; · iexact HL
  iexists Ws
  iexact HO
end Open

section Parts
variable {X : Data F} (κ : GSem nD τ sig → ℕ) (c : Dev nD) {L : GSem nD τ sig → Finset Unit} {lv : GSem nD τ sig → Unit → ℕ} (D : CellTallies nD τ sig Unit)

theorem wp_p41  {γ : Type} {kk : (Σ' (_ : Dev nD) (_ : BitVec 32) (_ : Sems sig S_), BitVec 32) → Prog (TpuEff nD τ sig (Elt F) Λ₀ .tc) γ} {Q : γ → sProp 𝕄} :
    iprop(known WA (GA X) EA κ ∗ Tik c 0 ∗ Tik c 1 ∗ Owe c L lv (dueOn WA D c [.inl 0, .inl 1, .inl 2, .inr (0, 0), .inr (0, 1), .inr (1, 0), .inr (1, 1), .inr (2, 0), .inr (2, 1)]))
      ⊢ iprop((Owe c L lv (dueOn WA D c [.inl 2, .inr (0, 0), .inr (0, 1), .inr (1, 0), .inr (1, 1), .inr (2, 0), .inr (2, 1)]) -∗ wp frame (wpE defs 𝒱₀ (c : Thread nD τ) none) Set.univ (kk ⟨c, (Scalar.remsi (Scalar.divsi (Dev.word c) 1#32) 4#32), SemArray.scalar (sig.barrier 0 rfl), 1#32⟩) Q)
        -∗ wp frame (wpE defs 𝒱₀ (c : Thread nD τ) none) Set.univ (k0_part41 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5  >>= kk) Q) := by
  simp only [k0_part41_eq_skeleton]
  unfold k0_part41_skel
  simp only [wp_deviceId, Prog.lift, semSignalWord, semWaitWord, Prog.bind_op, Prog.bind_ret, Prog.pure_eq_ret, bind_assoc]
  iintro ⟨#HK, T0, T1, HO⟩ Hk
  iapply (wp_unit κ 0 (dev1_eq c) rfl D _) $$ [T0 HO]
  · isplitr; · iexact HK
    isplitl [T0] <;> iassumption
  iintro HO
  iapply (wp_unit κ 1 (dev2_eq c) rfl D _) $$ [T1 HO]
  · isplitr; · iexact HK
    isplitl [T1] <;> iassumption
  iintro HO
  iapply Hk
  iexact HO

theorem wp_p42 (hB : (levAts L lv : sProp 𝕄) ⊢ MayWait (c : Thread nD τ) (.reg WA.bar) () (dueOn WA D c [.inr (0, 0), .inr (0, 1), .inr (1, 0), .inr (1, 1), .inr (2, 0), .inr (2, 1)])) {γ : Type} {kk : BitVec 32 → Prog (TpuEff nD τ sig (Elt F) Λ₀ .tc) γ} {Q : γ → sProp 𝕄} :
    iprop(known WA (GA X) EA κ ∗ Tik c 2 ∗ Owe c L lv (dueOn WA D c [.inl 2, .inr (0, 0), .inr (0, 1), .inr (1, 0), .inr (1, 1), .inr (2, 0), .inr (2, 1)]) ∗ cred (tallyAt (WA.barC c) () 3) ∗ atPos EA (WA.barC c) 0 ∅ 0 ∗ (Prep (laneK X c) 0 ∗ Prep (laneV X c) 0) ∗ (Prep (laneK X c) 1 ∗ Prep (laneV X c) 1) ∗ (Prep (laneK X c) 2 ∗ Prep (laneV X c) 2))
      ⊢ iprop((∀ v, (Owe c L lv (dueOn WA D c [.inr (0, 0), .inr (0, 1), .inr (1, 0), .inr (1, 1), .inr (2, 0), .inr (2, 1)]) ∗ atPos EA (WA.barC c) 1 ∅ 0 ∗ (Give (laneK X c) 0 ∗ Give (laneV X c) 0) ∗ (Give (laneK X c) 1 ∗ Give (laneV X c) 1) ∗ (Give (laneK X c) 2 ∗ Give (laneV X c) 2)) -∗ wp frame (wpE defs 𝒱₀ (c : Thread nD τ) none) Set.univ (kk v) Q)
        -∗ wp frame (wpE defs 𝒱₀ (c : Thread nD τ) none) Set.univ (k0_part42 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 c (Scalar.remsi (Scalar.divsi (Dev.word c) 1#32) 4#32) (SemArray.scalar (sig.barrier 0 rfl)) 1#32 >>= kk) Q) := by
  simp only [k0_part42_eq_skeleton]
  unfold k0_part42_skel
  simp only [wp_deviceId, Prog.lift, semSignalWord, semWaitWord, Prog.bind_op, Prog.bind_ret, Prog.pure_eq_ret, bind_assoc]
  iintro ⟨#HK, T2, HO, HC, Ha, HP⟩ Hk
  iapply (wp_unit κ 2 (dev3_eq c) rfl D _) $$ [T2 HO]
  · isplitr; · iexact HK
    isplitl [T2] <;> iassumption
  iintro HO
  iapply (wp_meet κ rfl hB) $$ [HO HC Ha HP]
  · isplitr; · iexact HK
    isplitl [HC]; · iexact HC
    isplitl [Ha]; · iexact Ha
    isplitl [HO]; · iexact HO
    iexact HP
  iintro H
  iapply Hk
  iexact H

theorem wp_p43 (v57 : BitVec 32) {γ : Type} {kk : (Σ' (_ : BitVec 32) (_ : BitVec 32), BitVec 32) → Prog (TpuEff nD τ sig (Elt F) Λ₀ .tc) γ} {Q : γ → sProp 𝕄} :
    iprop(known WA (GA X) EA κ ∗ (Give (laneK X c) 0 ∗ Give (laneV X c) 0) ∗ Owe c L lv (dueOn WA D c [.inr (0, 0), .inr (0, 1), .inr (1, 0), .inr (1, 1), .inr (2, 0), .inr (2, 1)]))
      ⊢ iprop((∀ v, (cred (tallyAt (WA.sndC c 0 pK.t) () WA.amt) ∗ cred (tallyAt (WA.sndC c 0 pV.t) () WA.amt) ∗ Owe c L lv (dueOn WA D c [.inr (1, 0), .inr (1, 1), .inr (2, 0), .inr (2, 1)])) -∗ wp frame (wpE defs 𝒱₀ (c : Thread nD τ) none) Set.univ (kk v) Q)
        -∗ wp frame (wpE defs 𝒱₀ (c : Thread nD τ) none) Set.univ (k0_part43 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 c (Scalar.remsi (Scalar.divsi (Dev.word c) 1#32) 4#32) v57 >>= kk) Q) := by
  simp only [k0_part43_eq_skeleton]
  unfold k0_part43_skel
  simp only [wp_deviceId, Prog.lift, semSignalWord, semWaitWord, Prog.bind_op, Prog.bind_ret, Prog.pure_eq_ret, bind_assoc]
  iintro ⟨#HK, ⟨GK, GV⟩, HO⟩ Hk
  iapply (wp_giveO κ (laneK X c) 0 (dev4_eq c) (off3_0 c) (off2_eq c) rfl (off1_eq c) D _) $$ [GK HO]
  · isplitr; · iexact HK
    isplitl [GK] <;> iassumption
  iintro ⟨CK, HO⟩
  iapply (wp_giveO κ (laneV X c) 0 (dev5_eq c) (off3_0 c) (off2_eq c) rfl (off4_eq c) D _) $$ [GV HO]
  · isplitr; · iexact HK
    isplitl [GV] <;> iassumption
  iintro ⟨CV, HO⟩
  iapply Hk
  isplitl [CK]; · iexact CK
  isplitl [CV]; · iexact CV
  iexact HO

theorem wp_p44 (v89 v91 c0 : BitVec 32) {γ : Type} {kk : BitVec 32 → Prog (TpuEff nD τ sig (Elt F) Λ₀ .tc) γ} {Q : γ → sProp 𝕄} :
    iprop(known WA (GA X) EA κ ∗ (Give (laneK X c) 1 ∗ Give (laneV X c) 1) ∗ Owe c L lv (dueOn WA D c [.inr (1, 0), .inr (1, 1), .inr (2, 0), .inr (2, 1)]))
      ⊢ iprop((∀ v, (cred (tallyAt (WA.sndC c 1 pK.t) () WA.amt) ∗ cred (tallyAt (WA.sndC c 1 pV.t) () WA.amt) ∗ Owe c L lv (dueOn WA D c [.inr (2, 0), .inr (2, 1)])) -∗ wp frame (wpE defs 𝒱₀ (c : Thread nD τ) none) Set.univ (kk v) Q)
        -∗ wp frame (wpE defs 𝒱₀ (c : Thread nD τ) none) Set.univ (k0_part44 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 c (Scalar.remsi (Scalar.divsi (Dev.word c) 1#32) 4#32) v89 v91 c0 >>= kk) Q) := by
  simp only [k0_part44_eq_skeleton]
  unfold k0_part44_skel
  simp only [wp_deviceId, Prog.lift, semSignalWord, semWaitWord, Prog.bind_op, Prog.bind_ret, Prog.pure_eq_ret, bind_assoc]
  iintro ⟨#HK, ⟨GK, GV⟩, HO⟩ Hk
  iapply (wp_giveO κ (laneK X c) 1 (dev6_eq c) (off3_1 c) (off2_eq c) rfl (off1_eq c) D _) $$ [GK HO]
  · isplitr; · iexact HK
    isplitl [GK] <;> iassumption
  iintro ⟨CK, HO⟩
  iapply (wp_giveO κ (laneV X c) 1 (dev7_eq c) (off3_1 c) (off2_eq c) rfl (off4_eq c) D _) $$ [GV HO]
  · isplitr; · iexact HK
    isplitl [GV] <;> iassumption
  iintro ⟨CV, HO⟩
  iapply Hk
  isplitl [CK]; · iexact CK
  isplitl [CV]; · iexact CV
  iexact HO

theorem wp_p45 (v121 : BitVec 32) {γ : Type} {kk : PUnit → Prog (TpuEff nD τ sig (Elt F) Λ₀ .tc) γ} {Q : γ → sProp 𝕄} :
    iprop(known WA (GA X) EA κ ∗ (Give (laneK X c) 2 ∗ Give (laneV X c) 2) ∗ Owe c L lv (dueOn WA D c [.inr (2, 0), .inr (2, 1)]) ∗ (pK.lent c c (laneK X c).f ∗ pK.room c c ∗ semVal ((c : Thread nD τ), .dma (cpyS ![pK.t.val] (cpy_inb pK.t))) 0) ∗ Oth pK c 0 ∗ Oth pK c 1 ∗ Oth pK c 2)
      ⊢ iprop(((cred (tallyAt (WA.sndC c 2 pK.t) () WA.amt) ∗ cred (tallyAt (WA.sndC c 2 pV.t) () WA.amt) ∗ Owe c L lv D ∗ Pnd (laneK X c) 0 ∗ Pnd (laneK X c) 1 ∗ Pnd (laneK X c) 2 ∗ Pnd (laneK X c) 3) -∗ wp frame (wpE defs 𝒱₀ (c : Thread nD τ) none) Set.univ (kk ⟨⟩) Q)
        -∗ wp frame (wpE defs 𝒱₀ (c : Thread nD τ) none) Set.univ (k0_part45 xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5 c (Scalar.remsi (Scalar.divsi (Dev.word c) 1#32) 4#32) v121 >>= kk) Q) := by
  simp only [k0_part45_eq_skeleton]
  unfold k0_part45_skel
  simp only [wp_deviceId, Prog.lift, semSignalWord, semWaitWord, Prog.bind_op, Prog.bind_ret, Prog.pure_eq_ret, bind_assoc]
  iintro ⟨#HK, ⟨GK, GV⟩, HO, HW, A0, A1, A2⟩ Hk
  iapply (wp_giveO κ (laneK X c) 2 (dev8_eq c) (off3_2 c) (off2_eq c) rfl (off1_eq c) D _) $$ [GK HO]
  · isplitr; · iexact HK
    isplitl [GK] <;> iassumption
  iintro ⟨CK, HO⟩
  iapply (wp_giveO κ (laneV X c) 2 (dev9_eq c) (off3_2 c) (off2_eq c) rfl (off4_eq c) D _) $$ [GV HO]
  · isplitr; · iexact HK
    isplitl [GV] <;> iassumption
  iintro ⟨CV, HO⟩
  iapply (wp_keep (laneK X c) (off5_eq c) (off2_eq c) rfl) $$ HW
  iintro HF
  ihave HF := (pnds (laneK X c)) $$ [HF A0 A1 A2]
  · isplitl [HF]; · iexact HF
    isplitl [A0]; · iexact A0
    isplitl [A1]; · iexact A1
    iexact A2
  iapply Hk
  isplitl [CK]; · iexact CK
  isplitl [CV]; · iexact CV
  isplitl [HO]; · iexact HO
  iexact HF

end Parts

end Cert.Attn

end
-- ==== Proof.Values.lean ====
/-
  What the body holds as it goes: the queries, the state of every head, the blocks of the output.
-/
module

public import proofs.«01_k».proof.Proof.PartsA

@[expose] public section

noncomputable section

namespace Cert.Attn

open Cert.KernelIdeal Cert.KernelIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocalO)

variable {F : FTy → Type} [FloatOps F] [Named F]
local notation "𝕄" => MT nD τ sig Unit (Elt F) ℕ UU ℕ
variable {defs : Defs nD τ sig (Elt F) Λ₀}

/-- What one device works from: the exchanged arrays of all, its queries' inputs, its output projection. -/
structure Env (F : FTy → Type) where
  c : Dev nD
  X : Data F
  x : S1x2048x1024.Idx → Elt F .bf16
  wq : S1024x1024.Idx → Elt F .bf16
  W : S1024x1024.Idx → Elt F .bf16

namespace Env

abbrev v161 (e : Env F) : FVec F S2048x1024 .bf16 := k0_pay33 e.x e.wq
abbrev v203_0 (e : Env F) : FVec F S2048x1 .f32 := (fA e.c (gath e.X.k e.c) (gath e.X.v e.c) 0 (k0_pay34 e.v161)).1
abbrev v203_1 (e : Env F) : FVec F S2048x1 .f32 := (fA e.c (gath e.X.k e.c) (gath e.X.v e.c) 0 (k0_pay34 e.v161)).2.1
abbrev v203_2 (e : Env F) : FVec F S2048x128 .f32 := (fA e.c (gath e.X.k e.c) (gath e.X.v e.c) 0 (k0_pay34 e.v161)).2.2
abbrev o48_0 (e : Env F) : Vec F S512x1024 .f32 := k0_pay46 e.v203_1 e.v203_2 (woB e.W 0)
abbrev o48_1 (e : Env F) : Vec F S512x1024 .f32 := k0_pay47 e.v203_1 e.v203_2 (woB e.W 0)
abbrev v216 (e : Env F) : FVec F S32x1 .f32 := k0_pay42 e.v203_0
abbrev v217 (e : Env F) : FVec F S32x1 .f32 := k0_pay43 e.v203_1
abbrev v218 (e : Env F) : FVec F S32x128 .f32 := k0_pay44 e.v203_2
abbrev v221 (e : Env F) : FVec F S2048x128 .bf16 := k0_pay45 e.v203_1 e.v203_2
abbrev o49_2 (e : Env F) : Vec F S512x1024 .f32 := k0_pay48 e.v221 (woB e.W 0)
abbrev o49_3 (e : Env F) : Vec F S512x1024 .f32 := k0_pay49 e.v221 (woB e.W 0)
abbrev v247_0 (e : Env F) : FVec F S2048x1 .f32 := (fA e.c (gath e.X.k e.c) (gath e.X.v e.c) 1 (k0_pay50 e.v161)).1
abbrev v247_1 (e : Env F) : FVec F S2048x1 .f32 := (fA e.c (gath e.X.k e.c) (gath e.X.v e.c) 1 (k0_pay50 e.v161)).2.1
abbrev v247_2 (e : Env F) : FVec F S2048x128 .f32 := (fA e.c (gath e.X.k e.c) (gath e.X.v e.c) 1 (k0_pay50 e.v161)).2.2
abbrev o50_0 (e : Env F) : Vec F S512x1024 .f32 := k0_pay62 e.v247_1 e.v247_2 (woB e.W 1) (e.o48_0)
abbrev o50_1 (e : Env F) : Vec F S512x1024 .f32 := k0_pay63 e.v247_1 e.v247_2 (woB e.W 1) (e.o48_1)
abbrev v260 (e : Env F) : FVec F S32x1 .f32 := k0_pay58 e.v247_0
abbrev v261 (e : Env F) : FVec F S32x1 .f32 := k0_pay59 e.v247_1
abbrev v262 (e : Env F) : FVec F S32x128 .f32 := k0_pay60 e.v247_2
abbrev v265 (e : Env F) : FVec F S2048x128 .bf16 := k0_pay61 e.v247_1 e.v247_2
abbrev v288 (e : Env F) : FVec F S512x1024 .f32 := k0_pay64 e.v247_1 e.v247_2 (woB e.W 1) (e.o49_2)
abbrev o51_2 (e : Env F) : Vec F S512x1024 .f32 := e.v288
abbrev o51_3 (e : Env F) : Vec F S512x1024 .f32 := k0_pay65 e.v265 (woB e.W 1) (e.o49_3)
abbrev v303_0 (e : Env F) : FVec F S2048x1 .f32 := (fA e.c (gath e.X.k e.c) (gath e.X.v e.c) 2 (k0_pay66 e.v161)).1
abbrev v303_1 (e : Env F) : FVec F S2048x1 .f32 := (fA e.c (gath e.X.k e.c) (gath e.X.v e.c) 2 (k0_pay66 e.v161)).2.1
abbrev v303_2 (e : Env F) : FVec F S2048x128 .f32 := (fA e.c (gath e.X.k e.c) (gath e.X.v e.c) 2 (k0_pay66 e.v161)).2.2
abbrev o52_0 (e : Env F) : Vec F S512x1024 .f32 := k0_pay78 e.v303_1 e.v303_2 (woB e.W 2) (e.o50_0)
abbrev o52_1 (e : Env F) : Vec F S512x1024 .f32 := k0_pay79 e.v303_1 e.v303_2 (woB e.W 2) (e.o50_1)
abbrev o52_2 (e : Env F) : Vec F S512x1024 .f32 := k0_pay80 e.v303_1 e.v303_2 (woB e.W 2) (e.o51_2)
abbrev v316 (e : Env F) : FVec F S32x1 .f32 := k0_pay74 e.v303_0
abbrev v317 (e : Env F) : FVec F S32x1 .f32 := k0_pay75 e.v303_1
abbrev v318 (e : Env F) : FVec F S32x128 .f32 := k0_pay76 e.v303_2
abbrev v346 (e : Env F) : FVec F S512x128 .bf16 := k0_pay81 e.v303_1 e.v303_2
abbrev v347 (e : Env F) : Vec F S128x1024 .bf16 := (woB e.W 2)
abbrev o53_3 (e : Env F) : Vec F S512x1024 .f32 := k0_pay82 e.v346 e.v347 (e.o51_3)
abbrev v359_1 (e : Env F) : FVec F S2048x1 .f32 := (fA e.c (gath e.X.k e.c) (gath e.X.v e.c) 3 (k0_pay83 e.v161)).2.1
abbrev v359_2 (e : Env F) : FVec F S2048x128 .f32 := (fA e.c (gath e.X.k e.c) (gath e.X.v e.c) 3 (k0_pay83 e.v161)).2.2
abbrev v372 (e : Env F) : FVec F S32x1 .f32 := k0_pay91 (fA e.c (gath e.X.k e.c) (gath e.X.v e.c) 3 (k0_pay83 e.v161)).1
abbrev v373 (e : Env F) : FVec F S32x1 .f32 := k0_pay92 (fA e.c (gath e.X.k e.c) (gath e.X.v e.c) 3 (k0_pay83 e.v161)).2.1
abbrev v374 (e : Env F) : FVec F S32x128 .f32 := k0_pay93 (fA e.c (gath e.X.k e.c) (gath e.X.v e.c) 3 (k0_pay83 e.v161)).2.2
abbrev o54_0 (e : Env F) : Vec F S512x1024 .f32 := k0_pay95 e.v359_1 e.v359_2 (woB e.W 3) (e.o52_0)
abbrev o54_1 (e : Env F) : Vec F S512x1024 .f32 := k0_pay96 e.v359_1 e.v359_2 (woB e.W 3) (e.o52_1)
abbrev o54_2 (e : Env F) : Vec F S512x1024 .f32 := k0_pay97 e.v359_1 e.v359_2 (woB e.W 3) (e.o52_2)
abbrev v405 (e : Env F) : FVec F S512x1024 .f32 := (k0_pay98 e.v359_1 e.v359_2 (woB e.W 3))
abbrev o55_3 (e : Env F) : Vec F S512x1024 .f32 := k0_pay99 e.v405 (e.o53_3)
abbrev v428 (e : Env F) : FVec F S32x1 .f32 := k0_pay108 (fA e.c (gath e.X.k e.c) (gath e.X.v e.c) 4 (k0_pay100 e.v161)).1
abbrev v429 (e : Env F) : FVec F S32x1 .f32 := k0_pay109 (fA e.c (gath e.X.k e.c) (gath e.X.v e.c) 4 (k0_pay100 e.v161)).2.1
abbrev v430 (e : Env F) : FVec F S32x128 .f32 := k0_pay110 (fA e.c (gath e.X.k e.c) (gath e.X.v e.c) 4 (k0_pay100 e.v161)).2.2
abbrev v433 (e : Env F) : FVec F S2048x128 .bf16 := k0_pay111 (fA e.c (gath e.X.k e.c) (gath e.X.v e.c) 4 (k0_pay100 e.v161)).2.1 (fA e.c (gath e.X.k e.c) (gath e.X.v e.c) 4 (k0_pay100 e.v161)).2.2
abbrev v434 (e : Env F) : FVec F S512x128 .bf16 := k0_pay112 (fA e.c (gath e.X.k e.c) (gath e.X.v e.c) 4 (k0_pay100 e.v161)).2.1 (fA e.c (gath e.X.k e.c) (gath e.X.v e.c) 4 (k0_pay100 e.v161)).2.2
abbrev o56_0 (e : Env F) : Vec F S512x1024 .f32 := k0_pay113 e.v434 (woB e.W 4) (e.o54_0)
abbrev o56_1 (e : Env F) : Vec F S512x1024 .f32 := k0_pay114 e.v433 (woB e.W 4) (e.o54_1)
abbrev o56_2 (e : Env F) : Vec F S512x1024 .f32 := k0_pay115 e.v433 (woB e.W 4) (e.o54_2)
abbrev v464 (e : Env F) : FVec F S512x1024 .f32 := (k0_pay116 e.v433 (woB e.W 4) (e.o55_3))
abbrev o57_3 (e : Env F) : Vec F S512x1024 .f32 := e.v464
abbrev v484 (e : Env F) : FVec F S32x1 .f32 := k0_pay125 (fA e.c (gath e.X.k e.c) (gath e.X.v e.c) 5 (k0_pay117 e.v161)).1
abbrev v485 (e : Env F) : FVec F S32x1 .f32 := k0_pay126 (fA e.c (gath e.X.k e.c) (gath e.X.v e.c) 5 (k0_pay117 e.v161)).2.1
abbrev v486 (e : Env F) : FVec F S32x128 .f32 := k0_pay127 (fA e.c (gath e.X.k e.c) (gath e.X.v e.c) 5 (k0_pay117 e.v161)).2.2
abbrev v489 (e : Env F) : FVec F S2048x128 .bf16 := k0_pay128 (fA e.c (gath e.X.k e.c) (gath e.X.v e.c) 5 (k0_pay117 e.v161)).2.1 (fA e.c (gath e.X.k e.c) (gath e.X.v e.c) 5 (k0_pay117 e.v161)).2.2
abbrev v493 (e : Env F) : FVec F S512x1024 .f32 := k0_pay129 (fA e.c (gath e.X.k e.c) (gath e.X.v e.c) 5 (k0_pay117 e.v161)).2.1 (fA e.c (gath e.X.k e.c) (gath e.X.v e.c) 5 (k0_pay117 e.v161)).2.2 (woB e.W 5)
abbrev o58_0 (e : Env F) : Vec F S512x1024 .f32 := k0_pay130 e.v493 (e.o56_0)
abbrev o58_1 (e : Env F) : Vec F S512x1024 .f32 := k0_pay131 e.v489 (woB e.W 5) (e.o56_1)
abbrev o58_2 (e : Env F) : Vec F S512x1024 .f32 := k0_pay132 e.v489 (woB e.W 5) (e.o56_2)
abbrev o58_3 (e : Env F) : Vec F S512x1024 .f32 := k0_pay133 e.v489 (woB e.W 5) (e.o57_3)
abbrev v522 (e : Env F) : FVec F S2048x128 .bf16 := k0_pay134 e.v161
abbrev v523 (e : Env F) : FVec F S2048x1 .f32 := k0_pay135 (F := F)
abbrev v540 (e : Env F) : FVec F S32x1 .f32 := k0_pay142 (fA e.c (gath e.X.k e.c) (gath e.X.v e.c) 6 e.v522).1
abbrev v541 (e : Env F) : FVec F S32x1 .f32 := k0_pay143 (fA e.c (gath e.X.k e.c) (gath e.X.v e.c) 6 e.v522).2.1
abbrev v542 (e : Env F) : FVec F S32x128 .f32 := k0_pay144 (fA e.c (gath e.X.k e.c) (gath e.X.v e.c) 6 e.v522).2.2
abbrev v545 (e : Env F) : FVec F S2048x128 .bf16 := k0_pay145 (fA e.c (gath e.X.k e.c) (gath e.X.v e.c) 6 e.v522).2.1 (fA e.c (gath e.X.k e.c) (gath e.X.v e.c) 6 e.v522).2.2
abbrev v552 (e : Env F) : FVec F S512x1024 .f32 := k0_pay146 (fA e.c (gath e.X.k e.c) (gath e.X.v e.c) 6 e.v522).2.1 (fA e.c (gath e.X.k e.c) (gath e.X.v e.c) 6 e.v522).2.2 (woB e.W 6) (e.o58_0)
abbrev o60_0 (e : Env F) : Vec F S512x1024 .f32 := e.v552
abbrev o60_1 (e : Env F) : Vec F S512x1024 .f32 := k0_pay147 e.v545 (woB e.W 6) (e.o58_1)
abbrev o60_2 (e : Env F) : Vec F S512x1024 .f32 := k0_pay148 e.v545 (woB e.W 6) (e.o58_2)
abbrev o60_3 (e : Env F) : Vec F S512x1024 .f32 := k0_pay149 e.v545 (woB e.W 6) (e.o58_3)
abbrev v578 (e : Env F) : FVec F S2048x128 .bf16 := k0_pay150 e.v161
abbrev v579 (e : Env F) : FVec F S2048x1 .f32 := k0_pay151 (F := F)
abbrev v580 (e : Env F) : FVec F S2048x1 .f32 := k0_pay152 (F := F)
abbrev v581 (e : Env F) : FVec F S2048x128 .f32 := k0_pay153 (F := F)
abbrev o61_0 (e : Env F) : Vec F S512x1024 .f32 := k0_pay162 (fA e.c (gath e.X.k e.c) (gath e.X.v e.c) 7 e.v578).2.1 (fA e.c (gath e.X.k e.c) (gath e.X.v e.c) 7 e.v578).2.2 (woB e.W 7) (e.o60_0)
abbrev o61_1 (e : Env F) : Vec F S512x1024 .f32 := k0_pay163 (fA e.c (gath e.X.k e.c) (gath e.X.v e.c) 7 e.v578).2.1 (fA e.c (gath e.X.k e.c) (gath e.X.v e.c) 7 e.v578).2.2 (woB e.W 7) (e.o60_1)
abbrev o61_2 (e : Env F) : Vec F S512x1024 .f32 := k0_pay164 (fA e.c (gath e.X.k e.c) (gath e.X.v e.c) 7 e.v578).2.1 (fA e.c (gath e.X.k e.c) (gath e.X.v e.c) 7 e.v578).2.2 (woB e.W 7) (e.o60_2)
abbrev v584 (e : Env F) : FVec F S32x1 .f32 := k0_pay158 (fA e.c (gath e.X.k e.c) (gath e.X.v e.c) 7 e.v578).1
abbrev v585 (e : Env F) : FVec F S32x1 .f32 := k0_pay159 (fA e.c (gath e.X.k e.c) (gath e.X.v e.c) 7 e.v578).2.1
abbrev v586 (e : Env F) : FVec F S32x128 .f32 := k0_pay160 (fA e.c (gath e.X.k e.c) (gath e.X.v e.c) 7 e.v578).2.2
abbrev v614 (e : Env F) : FVec F S512x128 .bf16 := k0_pay165 (fA e.c (gath e.X.k e.c) (gath e.X.v e.c) 7 e.v578).2.1 (fA e.c (gath e.X.k e.c) (gath e.X.v e.c) 7 e.v578).2.2
abbrev o62_3 (e : Env F) : Vec F S512x1024 .f32 := k0_pay166 e.v614 (woB e.W 7) (e.o60_3)
abbrev v658 (e : Env F) : FVec F S32x1024 .f32 := k0_pay167 (F := F)
abbrev v664_0 (e : Env F) : FVec F S32x1 .f32 := (fB e.c (gath e.X.k e.c) (gath e.X.v e.c) 0 (qB 0 e.v161)).1
abbrev v664_1 (e : Env F) : FVec F S32x1 .f32 := (fB e.c (gath e.X.k e.c) (gath e.X.v e.c) 0 (qB 0 e.v161)).2.1
abbrev v664_2 (e : Env F) : FVec F S32x128 .f32 := (fB e.c (gath e.X.k e.c) (gath e.X.v e.c) 0 (qB 0 e.v161)).2.2
abbrev v696 (e : Env F) : FVec F S32x1024 .f32 := k0_pay177 e.v216 e.v217 e.v218 e.v658 e.v664_0 e.v664_1 e.v664_2 (woB e.W 0)
abbrev v697 (e : Env F) : FVec F S32x128 .bf16 := k0_pay178 e.v161
abbrev v698 (e : Env F) : FVec F S32x1 .f32 := k0_pay179 (F := F)
abbrev v699 (e : Env F) : FVec F S32x1 .f32 := k0_pay180 (F := F)
abbrev v700 (e : Env F) : FVec F S32x128 .f32 := k0_pay181 (F := F)
abbrev v734 (e : Env F) : FVec F S32x1024 .f32 := k0_pay188 e.v260 e.v261 e.v262 e.v696 (fB e.c (gath e.X.k e.c) (gath e.X.v e.c) 1 e.v697).1 (fB e.c (gath e.X.k e.c) (gath e.X.v e.c) 1 e.v697).2.1 (fB e.c (gath e.X.k e.c) (gath e.X.v e.c) 1 e.v697).2.2 (woB e.W 1)
abbrev v735 (e : Env F) : FVec F S32x128 .bf16 := k0_pay189 e.v161
abbrev v736 (e : Env F) : FVec F S32x1 .f32 := k0_pay190 (F := F)
abbrev v768 (e : Env F) : FVec F S32x128 .bf16 := (k0_pay199 e.v316 e.v317 e.v318 (fB e.c (gath e.X.k e.c) (gath e.X.v e.c) 2 e.v735).1 (fB e.c (gath e.X.k e.c) (gath e.X.v e.c) 2 e.v735).2.1 (fB e.c (gath e.X.k e.c) (gath e.X.v e.c) 2 e.v735).2.2)
abbrev v772 (e : Env F) : FVec F S32x1024 .f32 := k0_pay200 e.v734 e.v768 (woB e.W 2)
abbrev v778_1 (e : Env F) : FVec F S32x1 .f32 := (fB e.c (gath e.X.k e.c) (gath e.X.v e.c) 3 (qB 3 e.v161)).2.1
abbrev v793 (e : Env F) : FVec F S32x1 .f32 := k0_pay211 e.v372 (fB e.c (gath e.X.k e.c) (gath e.X.v e.c) 3 (qB 3 e.v161)).1
abbrev v795 (e : Env F) : FVec F S32x1 .f32 := k0_pay212 e.v372 (fB e.c (gath e.X.k e.c) (gath e.X.v e.c) 3 (qB 3 e.v161)).1
abbrev v800 (e : Env F) : FVec F S32x128 .f32 := k0_pay213 e.v372 e.v374 (fB e.c (gath e.X.k e.c) (gath e.X.v e.c) 3 (qB 3 e.v161)).1 (fB e.c (gath e.X.k e.c) (gath e.X.v e.c) 3 (qB 3 e.v161)).2.2
abbrev v810 (e : Env F) : FVec F S32x1024 .f32 := k0_pay214 e.v373 e.v772 e.v778_1 e.v793 e.v795 e.v800 (woB e.W 3)
abbrev v816_0 (e : Env F) : FVec F S32x1 .f32 := (fB e.c (gath e.X.k e.c) (gath e.X.v e.c) 4 (qB 4 e.v161)).1
abbrev v816_1 (e : Env F) : FVec F S32x1 .f32 := (fB e.c (gath e.X.k e.c) (gath e.X.v e.c) 4 (qB 4 e.v161)).2.1
abbrev v816_2 (e : Env F) : FVec F S32x128 .f32 := (fB e.c (gath e.X.k e.c) (gath e.X.v e.c) 4 (qB 4 e.v161)).2.2
abbrev v829 (e : Env F) : FVec F S32x1 .f32 := k0_pay224 e.v428 (fB e.c (gath e.X.k e.c) (gath e.X.v e.c) 4 (qB 4 e.v161)).1
abbrev v830 (e : Env F) : FVec F S32x1 .f32 := k0_pay225 e.v428 (fB e.c (gath e.X.k e.c) (gath e.X.v e.c) 4 (qB 4 e.v161)).1
abbrev v848 (e : Env F) : FVec F S32x1024 .f32 := k0_pay226 e.v429 e.v430 e.v810 e.v816_0 e.v816_1 e.v816_2 e.v829 e.v830 (woB e.W 4)
abbrev v854_0 (e : Env F) : FVec F S32x1 .f32 := (fB e.c (gath e.X.k e.c) (gath e.X.v e.c) 5 (qB 5 e.v161)).1
abbrev v854_1 (e : Env F) : FVec F S32x1 .f32 := (fB e.c (gath e.X.k e.c) (gath e.X.v e.c) 5 (qB 5 e.v161)).2.1
abbrev v854_2 (e : Env F) : FVec F S32x128 .f32 := (fB e.c (gath e.X.k e.c) (gath e.X.v e.c) 5 (qB 5 e.v161)).2.2
abbrev v886 (e : Env F) : FVec F S32x1024 .f32 := k0_pay236 e.v484 e.v485 e.v486 e.v848 e.v854_0 e.v854_1 e.v854_2 (woB e.W 5)
abbrev v892_0 (e : Env F) : FVec F S32x1 .f32 := (fB e.c (gath e.X.k e.c) (gath e.X.v e.c) 6 (qB 6 e.v161)).1
abbrev v892_1 (e : Env F) : FVec F S32x1 .f32 := (fB e.c (gath e.X.k e.c) (gath e.X.v e.c) 6 (qB 6 e.v161)).2.1
abbrev v892_2 (e : Env F) : FVec F S32x128 .f32 := (fB e.c (gath e.X.k e.c) (gath e.X.v e.c) 6 (qB 6 e.v161)).2.2
abbrev v924 (e : Env F) : FVec F S32x1024 .f32 := k0_pay246 e.v540 e.v541 e.v542 e.v886 e.v892_0 e.v892_1 e.v892_2 (woB e.W 6)
abbrev v930_1 (e : Env F) : FVec F S32x1 .f32 := (fB e.c (gath e.X.k e.c) (gath e.X.v e.c) 7 (qB 7 e.v161)).2.1
abbrev v933 (e : Env F) : FVec F S32x1 .f32 := k0_pay257 e.v584 (fB e.c (gath e.X.k e.c) (gath e.X.v e.c) 7 (qB 7 e.v161)).1
abbrev v935 (e : Env F) : FVec F S32x1 .f32 := k0_pay258 e.v584 (fB e.c (gath e.X.k e.c) (gath e.X.v e.c) 7 (qB 7 e.v161)).1
abbrev v940 (e : Env F) : FVec F S32x128 .f32 := k0_pay259 e.v584 e.v586 (fB e.c (gath e.X.k e.c) (gath e.X.v e.c) 7 (qB 7 e.v161)).1 (fB e.c (gath e.X.k e.c) (gath e.X.v e.c) 7 (qB 7 e.v161)).2.2
abbrev fix (e : Env F) : Vec F S32x1024 .f32 := k0_pay260 e.v585 e.v924 e.v930_1 e.v933 e.v935 e.v940 (woB e.W 7)
end Env

end Cert.Attn

end
-- ==== Proof.Body.lean ====
/-
  The body of the attention, part after part.
-/
module

public import proofs.«01_k».proof.Proof.PartsA
public import proofs.«01_k».proof.Proof.PartsB
public import proofs.«01_k».proof.Proof.PartsC
public import proofs.«01_k».proof.Proof.Open
public import proofs.«01_k».proof.Proof.Values

@[expose] public section

noncomputable section

namespace Cert.Attn

open Cert.KernelIdeal Cert.KernelIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocalO)

variable {F : FTy → Type} [FloatOps F] [Named F]
local notation "𝕄" => MT nD τ sig Unit (Elt F) ℕ UU ℕ
variable {defs : Defs nD τ sig (Elt F) Λ₀}

abbrev paysA : List (Pay 2) := [.inl 0, .inl 1, .inl 2, .inr (0, 0), .inr (0, 1), .inr (1, 0), .inr (1, 1), .inr (2, 0), .inr (2, 1)]

/-- What the body starts from. -/
def Start (κ : GSem nD τ sig → ℕ) (L : GSem nD τ sig → Finset Unit) (lv : GSem nD τ sig → Unit → ℕ) (D : CellTallies nD τ sig Unit) (e : Env F) (z0 z1 z2 z3 : Vec F S512x1024 .f32) : sProp 𝕄 :=
  iprop(known WA (GA e.X) EA κ ∗ Owe e.c L lv (dueOn WA D e.c paysA) ∗ (Tik e.c 0 ∗ Tik e.c 1 ∗ Tik e.c 2) ∗ cred (tallyAt (WA.barC e.c) () 3) ∗ atPos EA (WA.barC e.c) 0 ∅ 0 ∗ ((Prep (laneK e.X e.c) 0 ∗ Prep (laneV e.X e.c) 0) ∗ (Prep (laneK e.X e.c) 1 ∗ Prep (laneV e.X e.c) 1) ∗ (Prep (laneK e.X e.c) 2 ∗ Prep (laneV e.X e.c) 2)) ∗ (pK.lent e.c e.c (laneK e.X e.c).f ∗ pK.room e.c e.c ∗ semVal ((e.c : Thread nD τ), .dma (cpyS ![pK.t.val] (cpy_inb pK.t))) 0) ∗ (Oth pK e.c 0 ∗ Oth pK e.c 1 ∗ Oth pK e.c 2) ∗ (pV.lent e.c e.c (laneV e.X e.c).f ∗ pV.room e.c e.c ∗ semVal ((e.c : Thread nD τ), .dma (cpyS ![pV.t.val] (cpy_inb pV.t))) 0) ∗ (Oth pV e.c 0 ∗ Oth pV e.c 1 ∗ Oth pV e.c 2) ∗ ((atPos EA (WA.sndC e.c 0 pK.t) 0 ∅ 0 ∗ atPos EA (WA.sndC e.c 0 pV.t) 0 ∅ 0) ∗ (atPos EA (WA.sndC e.c 1 pK.t) 0 ∅ 0 ∗ atPos EA (WA.sndC e.c 1 pV.t) 0 ∅ 0) ∗ (atPos EA (WA.sndC e.c 2 pK.t) 0 ∅ 0 ∗ atPos EA (WA.sndC e.c 2 pV.t) 0 ∅ 0)) ∗ Slots e.c ∗ Xi e.c e.x ∗ Qi e.c e.wq ∗ Wo e.c e.W ∗ Ob e.c 0 z0 ∗ Ob e.c 1 z1 ∗ Ob e.c 2 z2 ∗ Ob e.c 3 z3)
/-- What the body ends with. -/
def Finish (L : GSem nD τ sig → Finset Unit) (lv : GSem nD τ sig → Unit → ℕ) (D : CellTallies nD τ sig Unit) (e : Env F) : sProp 𝕄 :=
  iprop(Owe e.c L lv D ∗ atPos EA (WA.barC e.c) 1 ∅ 0 ∗ ((pK.lent e.c e.c (laneK e.X e.c).f ∗ semVal ((e.c : Thread nD τ), .dma (cpyS ![pK.t.val] (cpy_inb pK.t))) 0) ∗ atPos EA (WA.rcvC e.c 2 pK.t) 1 ∅ 0 ∗ atPos EA (WA.rcvC e.c 1 pK.t) 1 ∅ 0 ∗ atPos EA (WA.rcvC e.c 0 pK.t) 1 ∅ 0) ∗ ((pV.lent e.c e.c (laneV e.X e.c).f ∗ semVal ((e.c : Thread nD τ), .dma (cpyS ![pV.t.val] (cpy_inb pV.t))) 0) ∗ atPos EA (WA.rcvC e.c 2 pV.t) 1 ∅ 0 ∗ atPos EA (WA.rcvC e.c 1 pV.t) 1 ∅ 0 ∗ atPos EA (WA.rcvC e.c 0 pV.t) 1 ∅ 0) ∗ (pK.lent e.c (sh 0 e.c) (laneK e.X e.c).f ∗ atPos EA (WA.sndC e.c 0 pK.t) 1 ∅ 0) ∗ (pV.lent e.c (sh 0 e.c) (laneV e.X e.c).f ∗ atPos EA (WA.sndC e.c 0 pV.t) 1 ∅ 0) ∗ (pK.lent e.c (sh 1 e.c) (laneK e.X e.c).f ∗ atPos EA (WA.sndC e.c 1 pK.t) 1 ∅ 0) ∗ (pV.lent e.c (sh 1 e.c) (laneV e.X e.c).f ∗ atPos EA (WA.sndC e.c 1 pV.t) 1 ∅ 0) ∗ (pK.lent e.c (sh 2 e.c) (laneK e.X e.c).f ∗ atPos EA (WA.sndC e.c 2 pK.t) 1 ∅ 0) ∗ (pV.lent e.c (sh 2 e.c) (laneV e.X e.c).f ∗ atPos EA (WA.sndC e.c 2 pV.t) 1 ∅ 0) ∗ Quiet e.c (gath e.X.k e.c) (gath e.X.v e.c) Finset.univ ∗ Xi e.c e.x ∗ Qi e.c e.wq ∗ Wo e.c e.W ∗ ObF e.c e.o61_0 e.fix ∗ Ob e.c 1 e.o61_1 ∗ Ob e.c 2 e.o61_2 ∗ Ob e.c 3 e.o62_3)

set_option maxHeartbeats 1600000 in
theorem wp_attn (κ : GSem nD τ sig → ℕ) {L : GSem nD τ sig → Finset Unit} {lv : GSem nD τ sig → Unit → ℕ} (D : CellTallies nD τ sig Unit) (e : Env F) (z0 z1 z2 z3 : Vec F S512x1024 .f32) (HM : May (F := F) e.c L lv D)
    (hB : (levAts L lv : sProp 𝕄) ⊢ MayWait (e.c : Thread nD τ) (.reg WA.bar) () (dueOn WA D e.c [.inr (0, 0), .inr (0, 1), .inr (1, 0), .inr (1, 1), .inr (2, 0), .inr (2, 1)])) :
    Start κ L lv D e z0 z1 z2 z3 ⊢ wp frame (wpE defs 𝒱₀ (e.c : Thread nD τ) none) Set.univ (cc0__attn_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5) (fun _ => Finish L lv D e) := by
  rw [cc0__attn_body_eq_skeleton]
  unfold cc0__attn_body_skel
  simp only [k0_part73_eq_skeleton]
  unfold k0_part73_skel
  simp only [Prog.lift, bind_assoc]
  unfold Start
  iintro ⟨#HK, HO, ⟨T0, T1, T2⟩, HC, Hb, HP, OK, ⟨AK0, AK1, AK2⟩, ⟨HS1, HS2, HS3⟩, ⟨HA0, HA1, HA2⟩, ⟨⟨SK0, SV0⟩, ⟨SK1, SV1⟩, SK2, SV2⟩, HS, HX, HQ, HW, H0, H1, H2, H3⟩
  iapply (wp_p41 κ e.c D) $$ [T0 T1 HO]
  · isplitr; · iexact HK
    isplitl [T0]; · iexact T0
    isplitl [T1]; · iexact T1
    iexact HO
  iintro HO
  iapply (wp_p42 κ e.c D hB) $$ [T2 HO HC Hb HP]
  · isplitr; · iexact HK
    isplitl [T2]; · iexact T2
    isplitl [HO]; · iexact HO
    isplitl [HC]; · iexact HC
    isplitl [Hb]; · iexact Hb
    iexact HP
  iintro %w57 ⟨HO, Hb, G0, G1, G2⟩
  iapply (wp_p43 κ e.c D w57) $$ [G0 HO]
  · isplitr; · iexact HK
    isplitl [G0]; · iexact G0
    iexact HO
  iintro %w89 ⟨CK0, CV0, HO⟩
  iapply (wp_p44 κ e.c D _ _ _) $$ [G1 HO]
  · isplitr; · iexact HK
    isplitl [G1]; · iexact G1
    iexact HO
  iintro %w121 ⟨CK1, CV1, HO⟩
  iapply (wp_p45 κ e.c D w121) $$ [G2 HO OK AK0 AK1 AK2]
  · isplitr; · iexact HK
    isplitl [G2]; · iexact G2
    isplitl [HO]; · iexact HO
    isplitl [OK]; · iexact OK
    isplitl [AK0]; · iexact AK0
    isplitl [AK1]; · iexact AK1
    iexact AK2
  iintro ⟨CK2, CV2, HO, PK0, PK1, PK2, PK3⟩
  iapply (wp_p46 κ e.c e.x e.wq HM) $$ [HS1 HS2 HS3 HA0 HA1 HA2 PK0 PK1 HX HQ HO]
  · isplitr; · iexact HK
    isplitl [HS1]; · iexact HS1
    isplitl [HS2]; · iexact HS2
    isplitl [HS3]; · iexact HS3
    isplitl [HA0]; · iexact HA0
    isplitl [HA1]; · iexact HA1
    isplitl [HA2]; · iexact HA2
    isplitl [PK0]; · iexact PK0
    isplitl [PK1]; · iexact PK1
    isplitl [HX]; · iexact HX
    isplitl [HQ]; · iexact HQ
    iexact HO
  iintro ⟨PK0, PV0, PV1, PV2, PV3, HX, HQ, HO, DK0, DV0, M1⟩
  iapply (wp_p47 κ e.c HM e.v161) $$ [M1 HO PV1 PK0 PV0 HS]
  · isplitr; · iexact HK
    isplitl [M1]; · iexact M1
    isplitl [HO]; · iexact HO
    isplitl [PV1]; · iexact PV1
    isplitl [PK0]; · iexact PK0
    isplitl [PV0]; · iexact PV0
    iexact HS
  iintro ⟨HO, DK1, DV1, HS⟩
  iapply (wp_p48 e.c (gath e.X.k e.c) (gath e.X.v e.c) e.W z0 z1 e.v203_0 e.v203_1 e.v203_2) $$ [HS HW H0 H1]
  · isplitl [HS]; · iexact HS
    isplitl [HW]; · iexact HW
    isplitl [H0]; · iexact H0
    iexact H1
  iintro ⟨HS, HW, H0, H1⟩
  iapply (wp_p49 e.c (gath e.X.k e.c) (gath e.X.v e.c) e.W z2 z3 HM e.v161 e.v221) $$ [HW H2 H3 HS HO]
  · isplitl [HW]; · iexact HW
    isplitl [H2]; · iexact H2
    isplitl [H3]; · iexact H3
    isplitl [HS]; · iexact HS
    iexact HO
  iintro ⟨HW, H2, H3, HS, HO⟩
  iapply (wp_p50 e.c (gath e.X.k e.c) (gath e.X.v e.c) e.W (e.o48_0) (e.o48_1) (e.o49_2) e.v247_0 e.v247_1 e.v247_2) $$ [HS HW H0 H1 H2]
  · isplitl [HS]; · iexact HS
    isplitl [HW]; · iexact HW
    isplitl [H0]; · iexact H0
    isplitl [H1]; · iexact H1
    iexact H2
  iintro ⟨HS, HW, H0, H1, H2⟩
  iapply (wp_p51 e.c (gath e.X.k e.c) (gath e.X.v e.c) e.W (e.o49_2) (e.o49_3) HM e.v161 e.v265 e.v288) $$ [H2 HW H3 HS HO]
  · isplitl [H2]; · iexact H2
    isplitl [HW]; · iexact HW
    isplitl [H3]; · iexact H3
    isplitl [HS]; · iexact HS
    iexact HO
  iintro ⟨H2, HW, H3, HS, HO⟩
  iapply (wp_p52 e.c (gath e.X.k e.c) (gath e.X.v e.c) e.W (e.o50_0) (e.o50_1) (e.o51_2) e.v303_0 e.v303_1 e.v303_2) $$ [HS HW H0 H1 H2]
  · isplitl [HS]; · iexact HS
    isplitl [HW]; · iexact HW
    isplitl [H0]; · iexact H0
    isplitl [H1]; · iexact H1
    iexact H2
  iintro ⟨HS, HW, H0, H1, H2⟩
  iapply (wp_p53 e.c (gath e.X.k e.c) (gath e.X.v e.c) (e.o51_3) HM e.v161 e.v346 e.v347) $$ [H3 HS HO]
  · isplitl [H3]; · iexact H3
    isplitl [HS]; · iexact HS
    iexact HO
  iintro ⟨H3, HS, HO⟩
  iapply (wp_p54 e.c e.W (e.o52_0) (e.o52_1) (e.o52_2) e.v359_1 e.v359_2) $$ [HW H0 H1 H2]
  · isplitl [HW]; · iexact HW
    isplitl [H0]; · iexact H0
    isplitl [H1]; · iexact H1
    iexact H2
  iintro ⟨HW, H0, H1, H2⟩
  iapply (wp_p55 e.c (gath e.X.k e.c) (gath e.X.v e.c) (e.o53_3) HM e.v161 e.v405) $$ [H3 HS HO]
  · isplitl [H3]; · iexact H3
    isplitl [HS]; · iexact HS
    iexact HO
  iintro ⟨H3, HS, HO⟩
  iapply (wp_p56 e.c e.W (e.o54_0) (e.o54_1) (e.o54_2) (e.o55_3) e.v433 e.v434) $$ [HW H0 H1 H2 H3]
  · isplitl [HW]; · iexact HW
    isplitl [H0]; · iexact H0
    isplitl [H1]; · iexact H1
    isplitl [H2]; · iexact H2
    iexact H3
  iintro ⟨HW, H0, H1, H2, H3⟩
  iapply (wp_p57 e.c (gath e.X.k e.c) (gath e.X.v e.c) e.W (e.o55_3) HM e.v161 e.v464) $$ [H3 HS HO HW]
  · isplitl [H3]; · iexact H3
    isplitl [HS]; · iexact HS
    isplitl [HO]; · iexact HO
    iexact HW
  iintro ⟨H3, HS, HO, HW⟩
  iapply (wp_p58 e.c e.W (e.o56_0) (e.o56_1) (e.o56_2) (e.o57_3) e.v161 e.v489 e.v493) $$ [H0 HW H1 H2 H3]
  · isplitl [H0]; · iexact H0
    isplitl [HW]; · iexact HW
    isplitl [H1]; · iexact H1
    isplitl [H2]; · iexact H2
    iexact H3
  iintro ⟨H0, HW, H1, H2, H3⟩
  iapply (wp_p59 e.c (gath e.X.k e.c) (gath e.X.v e.c) e.W (e.o58_0) HM e.v522) $$ [HS HO HW H0]
  · isplitl [HS]; · iexact HS
    isplitl [HO]; · iexact HO
    isplitl [HW]; · iexact HW
    iexact H0
  iintro ⟨HS, HO, HW, H0⟩
  iapply (wp_p60 e.c e.W (e.o58_0) (e.o58_1) (e.o58_2) (e.o58_3) e.v161 e.v545 e.v552) $$ [H0 HW H1 H2 H3]
  · isplitl [H0]; · iexact H0
    isplitl [HW]; · iexact HW
    isplitl [H1]; · iexact H1
    isplitl [H2]; · iexact H2
    iexact H3
  iintro ⟨H0, HW, H1, H2, H3⟩
  iapply (wp_p61 e.c (gath e.X.k e.c) (gath e.X.v e.c) e.W (e.o60_0) (e.o60_1) (e.o60_2) HM e.v578) $$ [HS HO HW H0 H1 H2]
  · isplitl [HS]; · iexact HS
    isplitl [HO]; · iexact HO
    isplitl [HW]; · iexact HW
    isplitl [H0]; · iexact H0
    isplitl [H1]; · iexact H1
    iexact H2
  iintro ⟨HS, HO, HW, H0, H1, H2⟩
  iapply (wp_p62 κ e.c e.W (e.o60_3) HM e.v614) $$ [HW H3 PK2 HO PV2 PK3]
  · isplitr; · iexact HK
    isplitl [HW]; · iexact HW
    isplitl [H3]; · iexact H3
    isplitl [PK2]; · iexact PK2
    isplitl [HO]; · iexact HO
    isplitl [PV2]; · iexact PV2
    iexact PK3
  iintro ⟨HW, H3, PK2, HO, DK2, PV2, DV2, PK3, DK3⟩
  iapply (wp_p63 κ e.c HM e.v161) $$ [PV3 HO PK2 PK3 PV2 HS]
  · isplitr; · iexact HK
    isplitl [PV3]; · iexact PV3
    isplitl [HO]; · iexact HO
    isplitl [PK2]; · iexact PK2
    isplitl [PK3]; · iexact PK3
    isplitl [PV2]; · iexact PV2
    iexact HS
  iintro ⟨HO, DV3, HS⟩
  iapply (wp_p64 e.c (gath e.X.k e.c) (gath e.X.v e.c) e.W e.v161 e.v216 e.v217 e.v218 e.v658 e.v664_0 e.v664_1 e.v664_2) $$ [HS HW]
  · isplitl [HS]; · iexact HS
    iexact HW
  iintro ⟨HS, HW⟩
  iapply (wp_p65 e.c (gath e.X.k e.c) (gath e.X.v e.c) e.W HM e.v161 e.v260 e.v261 e.v262 e.v696 e.v697) $$ [HS HO HW]
  · isplitl [HS]; · iexact HS
    isplitl [HO]; · iexact HO
    iexact HW
  iintro ⟨HS, HO, HW⟩
  iapply (wp_p66 e.c (gath e.X.k e.c) (gath e.X.v e.c) HM e.v316 e.v317 e.v318 e.v735) $$ [HS HO]
  · isplitl [HS]; · iexact HS
    iexact HO
  iintro ⟨HS, HO⟩
  iapply (wp_p67 e.c (gath e.X.k e.c) (gath e.X.v e.c) e.W HM e.v161 e.v372 e.v374 e.v734 e.v768) $$ [HW HS HO]
  · isplitl [HW]; · iexact HW
    isplitl [HS]; · iexact HS
    iexact HO
  iintro ⟨HW, HS, HO⟩
  iapply (wp_p68 e.c (gath e.X.k e.c) (gath e.X.v e.c) e.W HM e.v161 e.v373 e.v428 e.v772 e.v778_1 e.v793 e.v795 e.v800) $$ [HW HS HO]
  · isplitl [HW]; · iexact HW
    isplitl [HS]; · iexact HS
    iexact HO
  iintro ⟨HW, HS, HO⟩
  iapply (wp_p69 e.c (gath e.X.k e.c) (gath e.X.v e.c) e.W HM e.v161 e.v429 e.v430 e.v810 e.v816_0 e.v816_1 e.v816_2 e.v829 e.v830) $$ [HW HS HO]
  · isplitl [HW]; · iexact HW
    isplitl [HS]; · iexact HS
    iexact HO
  iintro ⟨HW, HS, HO⟩
  iapply (wp_p70 e.c (gath e.X.k e.c) (gath e.X.v e.c) e.W HM e.v161 e.v484 e.v485 e.v486 e.v848 e.v854_0 e.v854_1 e.v854_2) $$ [HS HW HO]
  · isplitl [HS]; · iexact HS
    isplitl [HW]; · iexact HW
    iexact HO
  iintro ⟨HS, HW, HO⟩
  iapply (wp_p71 e.c (gath e.X.k e.c) (gath e.X.v e.c) e.W HM e.v161 e.v540 e.v541 e.v542 e.v584 e.v586 e.v886 e.v892_0 e.v892_1 e.v892_2) $$ [HS HW HO]
  · isplitl [HS]; · iexact HS
    isplitl [HW]; · iexact HW
    iexact HO
  iintro ⟨HS, HW, HO⟩
  iapply (wp_p72 κ e.c e.W (e.o61_0) HM e.v585 e.v924 e.v930_1 e.v933 e.v935 e.v940) $$ [HW H0 CK0 SK0 HO CV0 SV0]
  · isplitr; · iexact HK
    isplitl [HW]; · iexact HW
    isplitl [H0]; · iexact H0
    isplitl [CK0 SK0]
    · isplitl [CK0]; · iexact CK0
      iexact SK0
    isplitl [HO]; · iexact HO
    isplitl [CV0]; · iexact CV0
    iexact SV0
  iintro ⟨HW, H0, ⟨LK0, SK0⟩, HO, ⟨LV0, SV0⟩⟩
  iapply (wp_gone κ (laneK e.X e.c) 1 HM.snd rfl) $$ [CK1 SK1 HO]
  · isplitr; · iexact HK
    isplitl [CK1 SK1]
    · isplitl [CK1]; · iexact CK1
      iexact SK1
    iexact HO
  iintro ⟨LK1, SK1, HO⟩
  iapply (wp_gone κ (laneV e.X e.c) 1 HM.snd rfl) $$ [CV1 SV1 HO]
  · isplitr; · iexact HK
    isplitl [CV1 SV1]
    · isplitl [CV1]; · iexact CV1
      iexact SV1
    iexact HO
  iintro ⟨LV1, SV1, HO⟩
  iapply (wp_gone κ (laneK e.X e.c) 2 HM.snd rfl) $$ [CK2 SK2 HO]
  · isplitr; · iexact HK
    isplitl [CK2 SK2]
    · isplitl [CK2]; · iexact CK2
      iexact SK2
    iexact HO
  iintro ⟨LK2, SK2, HO⟩
  iapply (wp_gone κ (laneV e.X e.c) 2 HM.snd rfl) $$ [CV2 SV2 HO]
  · isplitr; · iexact HK
    isplitl [CV2 SV2]
    · isplitl [CV2]; · iexact CV2
      iexact SV2
    iexact HO
  iintro ⟨LV2, SV2, HO⟩
  ihave DK := (dnes (laneK e.X e.c)) $$ [DK0 DK1 DK2 DK3]
  · isplitl [DK0]; · iexact DK0
    isplitl [DK1]; · iexact DK1
    isplitl [DK2]; · iexact DK2
    iexact DK3
  ihave DV := (dnes (laneV e.X e.c)) $$ [DV0 DV1 DV2 DV3]
  · isplitl [DV0]; · iexact DV0
    isplitl [DV1]; · iexact DV1
    isplitl [DV2]; · iexact DV2
    iexact DV3
  rw [Prog.pure_eq_ret, show ((Prog.ret PUnit.unit : Prog (TpuEff nD τ sig (Elt F) Λ₀ .tc) PUnit).bind fun _ => Prog.ret PUnit.unit) = Prog.ret PUnit.unit from rfl]
  rw [wp_ret]
  imodintro
  unfold Finish
  isplitl [HO]; · iexact HO
  isplitl [Hb]; · iexact Hb
  isplitl [DK]; · iexact DK
  isplitl [DV]; · iexact DV
  isplitl [LK0 SK0]
  · isplitl [LK0]; · iexact LK0
    iexact SK0
  isplitl [LV0 SV0]
  · isplitl [LV0]; · iexact LV0
    iexact SV0
  isplitl [LK1 SK1]
  · isplitl [LK1]; · iexact LK1
    iexact SK1
  isplitl [LV1 SV1]
  · isplitl [LV1]; · iexact LV1
    iexact SV1
  isplitl [LK2 SK2]
  · isplitl [LK2]; · iexact LK2
    iexact SK2
  isplitl [LV2 SV2]
  · isplitl [LV2]; · iexact LV2
    iexact SV2
  isplitl [HS]; · iexact HS
  isplitl [HX]; · iexact HX
  isplitl [HQ]; · iexact HQ
  isplitl [HW]; · iexact HW
  isplitl [H0]; · iexact H0
  isplitl [H1]; · iexact H1
  isplitl [H2]; · iexact H2
  iexact H3

end Cert.Attn

end
-- ==== Proof.Sum.lean ====
/-
  The all-reduce kernel: every device sends its partial to the three others, each into a slab of its own on the receiver,
  and adds the four.
-/
module

public import proofs.«01_k».proof.Proof.Swap

@[expose] public section

noncomputable section

namespace Cert.Sum

open Cert.KernelIdeal Cert.KernelIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation cellOf)
open Cert.Attn (UA UU 𝒱₀)

variable {F : FTy → Type} [FloatOps F] [Named F]

local notation "𝕄" => MT nD τ sig Unit (Elt F) ℕ UU ℕ

abbrev ER : Emb UA (MT nD τ sig Unit (Elt F) ℕ UU ℕ) := (((Emb.inl : Emb UA (UA × Counters)).trans (Emb.inr : Emb (UA × Counters) (UA × (UA × Counters)))).trans embR)
instance ER_lands : (ER (F := F)).LandsIn (upEmb : UEmb _ 𝕄) := by unfold ER; infer_instance

/-! ## The buffers, the slabs, the semaphores -/

abbrev xM : Memref sig .tc .vmem S2048x1024 .bf16 := Memref.whole cc1_stg0_0
abbrev oM : Memref sig .tc .vmem S1x2048x1024 .f32 := Memref.whole cc1_stg1_0
abbrev rM : Memref sig .tc .vmem S3x2048x1024 .bf16 := Memref.whole cc1_scratch0

theorem x_set : (xM : Memref sig .tc .vmem S2048x1024 .bf16).view.set = Finset.univ := View.set_whole _

/-- Slab `d` of the receive buffer starts at row block `d`. -/
theorem slab_inb (d : Fin 3) : ∀ a, (![d.val, 0, 0] : Fin 3 → ℕ) a + S1x2048x1024.size a ≤ S3x2048x1024.size a := by
  revert d; decide
abbrev slabR (d : Fin 3) : Rect S3x2048x1024 := Rect.unit (s := S3x2048x1024) ![d.val, 0, 0] S1x2048x1024.size (slab_inb d)
/-- The elements of slab `d`. -/
abbrev slab (d : Fin 3) : Finset rM.view.ty.Idx := (rM.view.slice (slabR d)).set

abbrev sndS (p : Fin 3) : DmaSem sig := ⟨26 + p.val, by have := p.isLt; show _ < 32; omega⟩
abbrev rcvS (d : Fin 3) : DmaSem sig := ⟨29 + d.val, by have := d.isLt; show _ < 32; omega⟩

/-- The squeezed slab at an offset, as the kernel writes it. -/
abbrev slotM (off : Fin 3 → ℕ) (h : ∀ a, off a + S1x2048x1024.size a ≤ S3x2048x1024.size a) : Memref sig .tc .vmem S2048x1024 .bf16 :=
  (rM.slice (Rect.unit (s := S3x2048x1024) off S1x2048x1024.size h) (fun _ => rfl)).squeeze S2048x1024 squeezes_S1x2048x1024_S2048x1024

abbrev N : ℕ := xM.view.dmaCredit
theorem N_pos : 0 < N := View.dmaCredit_pos _ (by decide)

def WR : Wires sig 1 where
  bar := (SemArray.scalar (sig.barrier 1 rfl) : Sems sig S_).sem
  ss p _ := sndS p
  rs _ p _ := rcvS (rv p)
  amt := N
  amt_pos := N_pos
  ss_inj p i p' i' h := ⟨by revert p p' ; decide, Subsingleton.elim _ _⟩
  rs_inj c p i p' i' h := ⟨by revert p p' ; decide, Subsingleton.elim _ _⟩
  ne _ p _ p' _ := by revert p p'; decide

/-! ## Which device, which slab, which semaphore -/

theorem dev1_eq (c : Dev nD) : (⟨k1_dev1 c, k1_dev1_lt c⟩ : Dev nD) = sh 0 c := by revert c; decide
theorem dev2_eq (c : Dev nD) : (⟨k1_dev2 c, k1_dev2_lt c⟩ : Dev nD) = sh 1 c := by revert c; decide
theorem dev3_eq (c : Dev nD) : (⟨k1_dev3 c, k1_dev3_lt c⟩ : Dev nD) = sh 2 c := by revert c; decide
theorem dev4_eq (c : Dev nD) : (⟨k1_dev4 c, k1_dev4_lt c⟩ : Dev nD) = sh 0 c := by revert c; decide
theorem dev5_eq (c : Dev nD) : (⟨k1_dev5 c, k1_dev5_lt c⟩ : Dev nD) = sh 1 c := by revert c; decide
theorem dev6_eq (c : Dev nD) : (⟨k1_dev6 c, k1_dev6_lt c⟩ : Dev nD) = sh 2 c := by revert c; decide

theorem off1_eq (p : Fin 3) (c : Dev nD) : k1_off1 c (BitVec.ofNat 32 p.val) = ![(rv p).val] := by revert p c; decide
theorem off2_eq (p : Fin 3) (c : Dev nD) : k1_off2 c (BitVec.ofNat 32 p.val) = ![(rv p).val, 0, 0] := by revert p c; decide

theorem sem1_eq (p : Fin 3) (c : Dev nD) (h) :
    ((cc1_scratch2.slice (Rect.unit (s := S3) (k1_off1 c (BitVec.ofNat 32 p.val)) S1.size h)).squeeze S_ squeezes_S1_S_).sem = rcvS (rv p) := by
  revert p c; decide

theorem slot_set (d : Fin 3) (off : Fin 3 → ℕ) (h) (hd : off = ![d.val, 0, 0]) : (slotM off h).view.set = slab d := by
  subst hd; exact View.set_reshape _ _

/-- Element `(a, b)` of a slab is element `(d, a, b)` of the buffer. -/
theorem slot_emb (d : Fin 3) (off : Fin 3 → ℕ) (h) (hd : off = ![d.val, 0, 0]) (a : Fin 2048) (b : Fin 1024) :
    (slotM off h).view.emb (ix2 a b) = ix3 d a b := by
  subst hd
  show (rM.view.slice (slabR d)).emb (Shape.reshapeEquiv _ (ix2 a b)) = _
  rw [reshapeEquiv_ix2_1ab]
  refine Shape.idx3_ext ?_ ?_ ?_
  · show d.val + 1 * 0 = d.val; omega
  · show 0 + 1 * a.val = a.val; omega
  · show 0 + 1 * b.val = b.val; omega

theorem mem_slab (d : Fin 3) (i : S3x2048x1024.Idx) : i ∈ slab d ↔ i 0 = d := by
  constructor
  · intro h
    obtain ⟨x, hx⟩ := View.exists_of_mem_set_slice h
    rw [← hx]
    apply Fin.ext
    have h0 : (x 0).val < 1 := (x 0).isLt
    show d.val + 1 * (x 0).val = d.val
    omega
  · intro h
    have hm : (slotM ![d.val, 0, 0] (slab_inb d)).view.emb (ix2 (i 1) (i 2)) ∈ (slotM ![d.val, 0, 0] (slab_inb d)).view.set :=
      Finset.mem_map_of_mem _ (Finset.mem_univ _)
    have he : (slotM ![d.val, 0, 0] (slab_inb d)).view.emb (ix2 (i 1) (i 2)) = i :=
      (slot_emb d _ (slab_inb d) rfl (i 1) (i 2)).trans (Shape.idx3_ext (congrArg Fin.val h.symm) rfl rfl)
    rw [slot_set d _ _ rfl] at hm
    exact he ▸ hm

theorem slab_disj (d d' : Fin 3) (h : d ≠ d') : Disjoint (slab d) (slab d') :=
  Finset.disjoint_left.mpr fun i hi hi' => h (((mem_slab d i).mp hi).symm.trans ((mem_slab d' i).mp hi'))

theorem slab_cover : (Finset.univ : Finset (Fin 3)).biUnion slab = Finset.univ :=
  Finset.eq_univ_iff_forall.mpr fun i => Finset.mem_biUnion.mpr ⟨i 0, Finset.mem_univ _, (mem_slab _ i).mpr rfl⟩

theorem bigSep3 (Φ : Fin 3 → sProp 𝕄) : bigSep Finset.univ Φ = iprop(Φ 0 ∗ Φ 1 ∗ Φ 2) :=
  bigSep_univ_eq_bigSepL [0, 1, 2] (by decide) (by decide) Φ
theorem bigSep31 (Φ : Fin 3 × Fin 1 → sProp 𝕄) : bigSep Finset.univ Φ = iprop(Φ (0, 0) ∗ Φ (1, 0) ∗ Φ (2, 0)) :=
  bigSep_univ_eq_bigSepL [(0, 0), (1, 0), (2, 0)] (by decide) (by decide) Φ
theorem bigSep1 (Φ : Fin 1 → sProp 𝕄) : bigSep Finset.univ Φ = iprop(Φ 0) := bigSep_univ_eq_bigSepL [0] (by decide) (by decide) Φ

abbrev rLoc (c : Dev nD) : Loc nD τ sig := rM.view.loc (c : Thread nD τ)
abbrev xLoc (c : Dev nD) : Loc nD τ sig := xM.view.loc (c : Thread nD τ)

/-- The receive buffer whole is its three slabs. -/
theorem whole_slabs (c : Dev nD) (f : Buf (Elt F) (rLoc c)) :
    (rLoc c ↦{fullShare} f : sProp 𝕄) = iprop((rLoc c ↦[slab 0]{fullShare} f) ∗ (rLoc c ↦[slab 1]{fullShare} f) ∗ (rLoc c ↦[slab 2]{fullShare} f)) := by
  have h := pointsTo_biUnion (Ix := Unit) (Name := ℕ) (U := UU) (Lvl := ℕ) (ℓ := rLoc c) (q := fullShare) (f := f) Finset.univ slab fun d _ d' _ h => slab_disj d d' h
  rw [slab_cover, bigSep3] at h
  exact h

/-! ## What the devices hand each other -/

/-- What the devices bring: the partial of each, as its staging buffer holds it. -/
abbrev Parts (F : FTy → Type) : Type := Dev nD → S2048x1024.Idx → Elt F .bf16

/-- What the receive buffer of device `c` holds once all have arrived: in slab `d` the partial of the device `d + 1` steps on. -/
def landed (X : Parts F) (c : Dev nD) : Buf (Elt F) (rLoc c) := fun i : S3x2048x1024.Idx => X (sh (i 0) c) (ix2 (i 1) (i 2))

def space (c : Dev nD) (d : Fin 3) : sProp 𝕄 := iprop(∃ f : Buf (Elt F) (rLoc c), rLoc c ↦[slab d]{fullShare} f)
def arrived (X : Parts F) (c : Dev nD) (d : Fin 3) : sProp 𝕄 := rLoc c ↦[slab d]{fullShare} landed X c
def lent (X : Parts F) (c : Dev nD) (p : Fin 3) : sProp 𝕄 := xLoc c ↦[xM.view.set]{Transfers.shareTok fullShare 3 p} (X c : Buf (Elt F) (xLoc c))

instance (c : Dev nD) (d : Fin 3) : BI.Storable (upEmb : UEmb _ 𝕄) (space (F := F) c d) := by unfold space; infer_instance
instance (X : Parts F) (c : Dev nD) (d : Fin 3) : BI.Storable (upEmb : UEmb _ 𝕄) (arrived X c d) := by unfold arrived; infer_instance
instance (X : Parts F) (c : Dev nD) (d : Fin 3) : BI.Storable (upEmb : UEmb _ 𝕄) (lent X c d) := by unfold lent; infer_instance

def GR (X : Parts F) : Goods τ sig 1 (Elt F) UU where
  B c p := space (sh p c) (rv p)
  S c p _ := lent X c p
  R c p _ := arrived X c (rv p)
  hB _ _ := inferInstance
  hS _ _ _ := inferInstance
  hR _ _ _ := inferInstance

theorem give_space (X : Parts F) (c : Dev nD) (p : Fin 3) : (GR X).B (sh p c) (rv p) = space c p := by
  show space (sh (rv p) (sh p c)) (rv (rv p)) = _; rw [rv_sh, rv_rv]

/-- A partial written through the squeezed slab is what the slab is to hold. -/
theorem write_arrived (X : Parts F) (c : Dev nD) (p : Fin 3) (off : Fin 3 → ℕ) (h) (hd : off = ![(rv p).val, 0, 0]) (fd : Buf (Elt F) (rLoc (sh p c))) :
    ((slotM off h).view.loc ((sh p c : Dev nD) : Thread nD τ) ↦[(slotM off h).view.set]{fullShare}
      ((slotM off h).view.write (Elt F) fd (xM.view.read (Elt F) (X c)) Finset.univ) : sProp 𝕄) ⊢ (GR X).R (sh p c) p 0 := by
  show _ ⊢ arrived X (sh p c) (rv p)
  unfold arrived
  refine Entails.of_eq ?_
  rw [slot_set (rv p) off h hd]
  refine pointsTo_congr fun i hi => ?_
  obtain ⟨x, -, rfl⟩ := Finset.mem_map.mp ((slot_set (rv p) off h hd).symm ▸ hi)
  rw [View.write_emb_of_mem _ _ (Finset.mem_univ x)]
  obtain ⟨a, b, rfl⟩ : ∃ a b, x = ix2 a b := ⟨x 0, x 1, by funext j; fin_cases j <;> rfl⟩
  show _ = landed X (sh p c) ((slotM off h).view.emb (ix2 a b))
  rw [slot_emb (rv p) off h hd]
  show X c (ix2 a b) = X (sh (rv p) (sh p c)) (ix2 a b)
  rw [rv_sh]

/-! ## What the kernel leaves -/

/-- A partial read as a matrix of the result's shape and type. -/
def up (x : S2048x1024.Idx → Elt F .bf16) : FVec F S1x2048x1024 .f32 := fun i => extf .f32 (fun j => x j : FVec F S2048x1024 .bf16) bitsLt_bf16_f32 (ix2 (i 1) (i 2))

/-- The result: the sum of the four partials, in pairs. -/
def total (X : Parts F) (c : Dev nD) : FVec F S1x2048x1024 .f32 :=
  addf (addf (up (X c)) (up (X (sh 0 c)))) (addf (up (X (sh 1 c))) (up (X (sh 2 c))))

/-! ## The order of the dues, and the levels -/

abbrev pays : List (Pay 1) := [.inl 0, .inl 1, .inl 2, .inr (0, 0), .inr (1, 0), .inr (2, 0)]

variable {L : GSem nD τ sig → Finset Unit} {lv : GSem nD τ sig → Unit → ℕ}

/-! ## The body -/

abbrev pl (c : Dev nD) (b : Ref sig .tc) (f : b.ty.Contents (Elt F)) : sProp 𝕄 := ((c : Thread nD τ).loc b) ↦{fullShare} f

/-- What the body starts from beside its buffers: the exchange's cells in use, its places and tokens, its credit. -/
def ready (L : GSem nD τ sig → Finset Unit) (lv : GSem nD τ sig → Unit → ℕ) (X : Parts F) (κ : GSem nD τ sig → ℕ) (c : Dev nD) : sProp 𝕄 :=
  iprop(known WR (GR X) ER κ
    ∗ atPos ER (WR.barC c) 0 ∅ 0
    ∗ (bigSep Finset.univ fun x : Fin 3 × Fin 1 => iprop((atPos ER (WR.sndC c x.1 x.2) 0 ∅ 0 ∗ reached ER (WR.sndC c x.1 x.2) 0)
        ∗ (atPos ER (WR.rcvC c x.1 x.2) 0 ∅ 0 ∗ reached ER (WR.rcvC c x.1 x.2) 0)))
    ∗ (bigSep Finset.univ fun p : Fin 3 => dutyTok ER (WR.barC (sh p c)) 0 p)
    ∗ (bigSep Finset.univ fun x : Fin 3 × Fin 1 => iprop(dutyTok ER (WR.sndC c x.1 x.2) 0 0 ∗ dutyTok ER (WR.rcvC (sh x.1 c) x.1 x.2) 0 0))
    ∗ credit WR c ∗ levAts L lv)

/-- The semaphores the exchange gives back. -/
def spent (c : Dev nD) : sProp 𝕄 :=
  iprop(semVal (WR.barC c) 0 ∗ bigSep Finset.univ fun x : Fin 3 × Fin 1 => iprop(semVal (WR.sndC c x.1 x.2) 0 ∗ semVal (WR.rcvC c x.1 x.2) 0))

/-- The staging buffer in shares: one to read from, and one for each copy out. -/
theorem shares (X : Parts F) (c : Dev nD) : (xLoc c ↦{fullShare} (X c : Buf (Elt F) (xLoc c)) : sProp 𝕄)
    ⊣⊢ iprop((xLoc c ↦[xM.view.set]{Transfers.shareDrop fullShare 3} (X c : Buf (Elt F) (xLoc c))) ∗ lent X c 0 ∗ lent X c 1 ∗ lent X c 2) := by
  have h := Transfers.pointsTo_toks (Ix := Unit) (Name := ℕ) (U := UU) (Lvl := ℕ) (ℓ := xLoc c) (S := Finset.univ) (f := (X c : Buf (Elt F) (xLoc c))) fullShare 3
  rw [bigSep3] at h
  unfold lent
  rw [x_set]
  exact h

/-- The partial sent at step `p`, from the token's share of the staging buffer into the slab the receiver gave up. -/
theorem wp_send (X : Parts F) (κ : GSem nD τ sig → ℕ) (c : Dev nD) (p : Fin 3) {off : Fin 3 → ℕ} {h : ∀ a, off a + S1x2048x1024.size a ≤ S3x2048x1024.size a}
    (hd : off = ![(rv p).val, 0, 0]) {j : Dev nD} (hj : j = sh p c) {sS sR : DmaSem sig} (hs : sS = sndS p) (hr : sR = rcvS (rv p))
    {hsc : (slotM off h).view.ref.isScScratch = false} {hsrc : (xM : Memref sig .tc .vmem S2048x1024 .bf16).view.WordExact} {hdst : (slotM off h).view.WordExact}
    {hsem : DmaTarget.Typed .vmem (.dma sR) (.remote (j.tc : Thread nD τ) (slotM off h) (.dma sS) hsc)}
    {α : Type} {Q : α → sProp 𝕄} {k : PUnit → Prog (TpuEff nD τ sig (Elt F) Λ₀ .tc) α}
    (l : List (Pay 1)) {Ws : Waits sig Unit} :
    iprop(known WR (GR X) ER κ ∗ (dutyTok ER (WR.sndC c p 0) 0 0 ∗ dutyTok ER (WR.rcvC (sh p c) p 0) 0 0)
        ∗ reached ER (WR.sndC c p 0) 0 ∗ unitPay WR (GR X) ER c p ∗ lent X c p ∗ owes (c : Thread nD τ) (dueOn WR 0 c (.inr (p, 0) :: l)) Ws)
      ⊢ iprop(((cred (tallyAt (WR.sndC c p 0) () N) ∗ owes (c : Thread nD τ) (dueOn WR 0 c l) Ws)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (j.tc : Thread nD τ) (slotM off h) (.dma sS) hsc) (.dma sR) hsrc hdst hsem) k) Q) := by
  iintro ⟨#HK, Ht, #HrS, Hp, Hx, HO⟩ Hk
  unfold unitPay
  rw [bigSep1]
  icases Hp with ⟨HB, #HrR⟩
  ihave HB' := (show (GR X).B c p ⊢ iprop(∃ f : Buf (Elt F) (rLoc (sh p c)), rLoc (sh p c) ↦[slab (rv p)]{fullShare} f) from Entails.refl _) $$ HB
  icases HB' with ⟨%fd, HB⟩
  iapply (wp_snd WR (GR X) ER 𝒱₀ κ c none p 0 hj hs hr rfl (dueOn WR 0 c l) rfl
    (show (xLoc c ↦[xM.view.set]{Transfers.shareTok fullShare 3 p} (X c : Buf (Elt F) (xLoc c)) : sProp 𝕄) ⊢ (GR X).S c p 0 from Entails.refl _)
    (write_arrived X c p off h hd fd)) $$ [Ht Hx HB HO]
  · isplitr; · iexact HK
    isplitl [Ht]
    · unfold ticket
      isplitl [Ht]; · iexact Ht
      isplitr <;> iassumption
    isplitl [Hx]; · unfold lent; iexact Hx
    isplitl [HB]; · rw [slot_set (rv p) off h hd]; iexact HB
    iexact HO
  iexact Hk

/-! ## The value of the four stores -/

/-- One block: the payload of its store is the total's rows from `o` on. -/
theorem pay_eq (X : Parts F) (c : Dev nD) (o : ℕ) (ho : o + 512 ≤ 2048) (v : Vec F S512x1024 .bf16) (a b d : Vec F S1x512x1024 .bf16)
    (hv : ∀ (i : Fin 512) (j : Fin 1024), v (ix2 i j) = X c (ix2 (⟨o + i.val, by omega⟩ : Fin 2048) j))
    (ha : ∀ (i : Fin 512) (j : Fin 1024), a (ix3 (0 : Fin 1) i j) = X (sh 0 c) (ix2 (⟨o + i.val, by omega⟩ : Fin 2048) j))
    (hb : ∀ (i : Fin 512) (j : Fin 1024), b (ix3 (0 : Fin 1) i j) = X (sh 1 c) (ix2 (⟨o + i.val, by omega⟩ : Fin 2048) j))
    (hd : ∀ (i : Fin 512) (j : Fin 1024), d (ix3 (0 : Fin 1) i j) = X (sh 2 c) (ix2 (⟨o + i.val, by omega⟩ : Fin 2048) j))
    (u : Fin 1) (i : Fin 512) (j : Fin 1024) :
    k1_pay7 v a b d (ix3 u i j) = total X c (ix3 (0 : Fin 1) (⟨o + i.val, by omega⟩ : Fin 2048) j) := by
  have h1 (h) : shapeCast S512x1024 v h (ix2 i j) = X c (ix2 (⟨o + i.val, by omega⟩ : Fin 2048) j) := (shapeCast_apply v h _ _ rfl).trans (hv i j)
  have h2 (h) : shapeCast S512x1024 a h (ix2 i j) = _ := (shapeCast_1ab_ab_apply a h i j).trans (ha i j)
  have h3 (h) : shapeCast S512x1024 b h (ix2 i j) = _ := (shapeCast_1ab_ab_apply b h i j).trans (hb i j)
  have h4 (h) : shapeCast S512x1024 d h (ix2 i j) = _ := (shapeCast_1ab_ab_apply d h i j).trans (hd i j)
  unfold k1_pay7
  refine (shapeCast_ab_1ab_apply _ _ u i j).trans ?_
  show FloatOps.addf (FloatOps.addf (FloatOps.extf .f32 bitsLt_bf16_f32 (shapeCast S512x1024 v _ (ix2 i j))) (FloatOps.extf .f32 bitsLt_bf16_f32 (shapeCast S512x1024 a _ (ix2 i j))))
    (FloatOps.addf (FloatOps.extf .f32 bitsLt_bf16_f32 (shapeCast S512x1024 b _ (ix2 i j))) (FloatOps.extf .f32 bitsLt_bf16_f32 (shapeCast S512x1024 d _ (ix2 i j)))) = _
  rw [h1, h2, h3, h4]
  rfl

theorem read_x (X : Parts F) (c : Dev nD) (o : ℕ) (ho : o + 512 ≤ 2048) (h : ∀ a, (![o, 0] : Fin 2 → ℕ) a + S512x1024.size a ≤ S2048x1024.size a) (i : Fin 512) (j : Fin 1024) :
    xM.view.readAt (Elt F) (Rect.unit (s := S2048x1024) ![o, 0] S512x1024.size h).toLoadRect (X c) (ix2 i j) = X c (ix2 (⟨o + i.val, by omega⟩ : Fin 2048) j) := by
  show X c ((Rect.unit (s := S2048x1024) ![o, 0] S512x1024.size h).emb (ix2 i j)) = _
  refine congrArg (X c) (funext fun a => Fin.ext ?_)
  fin_cases a
  · show o + 1 * i.val = o + i.val; omega
  · show 0 + 1 * j.val = j.val; omega

theorem read_r (X : Parts F) (c : Dev nD) (d : Fin 3) (o : ℕ) (ho : o + 512 ≤ 2048) (h : ∀ a, (![d.val, o, 0] : Fin 3 → ℕ) a + S1x512x1024.size a ≤ S3x2048x1024.size a)
    (i : Fin 512) (j : Fin 1024) :
    rM.view.readAt (Elt F) (Rect.unit (s := S3x2048x1024) ![d.val, o, 0] S1x512x1024.size h).toLoadRect (landed X c) (ix3 (0 : Fin 1) i j)
      = X (sh d c) (ix2 (⟨o + i.val, by omega⟩ : Fin 2048) j) := by
  have he : (Rect.unit (s := S3x2048x1024) ![d.val, o, 0] S1x512x1024.size h).emb (ix3 (0 : Fin 1) i j) = ix3 d (⟨o + i.val, by omega⟩ : Fin 2048) j := by
    refine Shape.idx3_ext ?_ ?_ ?_
    · show d.val + 1 * 0 = d.val; omega
    · show o + 1 * i.val = o + i.val; omega
    · show 0 + 1 * j.val = j.val; omega
  show landed X c ((Rect.unit (s := S3x2048x1024) ![d.val, o, 0] S1x512x1024.size h).emb (ix3 (0 : Fin 1) i j)) = _
  rw [he]; rfl

/-- The piece stored for the rows from `o` on. -/
abbrev piece (X : Parts F) (c : Dev nD) (o : ℕ) (hx : ∀ a, (![o, 0] : Fin 2 → ℕ) a + S512x1024.size a ≤ S2048x1024.size a)
    (hr : ∀ (d : Fin 3) a, (![d.val, o, 0] : Fin 3 → ℕ) a + S1x512x1024.size a ≤ S3x2048x1024.size a)
    (ho : ∀ a, (![0, o, 0] : Fin 3 → ℕ) a + S1x512x1024.size a ≤ S1x2048x1024.size a) : View.Piece (Elt F) S1x2048x1024 .f32 :=
  ⟨Rect.unit (s := S1x2048x1024) ![0, o, 0] S1x512x1024.size ho,
    k1_pay7 (xM.view.readAt (Elt F) (Rect.unit (s := S2048x1024) ![o, 0] S512x1024.size hx).toLoadRect (X c))
      (rM.view.readAt (Elt F) (Rect.unit (s := S3x2048x1024) ![(0 : Fin 3).val, o, 0] S1x512x1024.size (hr 0)).toLoadRect (landed X c))
      (rM.view.readAt (Elt F) (Rect.unit (s := S3x2048x1024) ![(1 : Fin 3).val, o, 0] S1x512x1024.size (hr 1)).toLoadRect (landed X c))
      (rM.view.readAt (Elt F) (Rect.unit (s := S3x2048x1024) ![(2 : Fin 3).val, o, 0] S1x512x1024.size (hr 2)).toLoadRect (landed X c))⟩

theorem emb_o (o : ℕ) (ho' : o + 512 ≤ 2048) (ho : ∀ a, (![0, o, 0] : Fin 3 → ℕ) a + S1x512x1024.size a ≤ S1x2048x1024.size a) (u : Fin 1) (i : Fin 512) (j : Fin 1024) :
    (Rect.unit (s := S1x2048x1024) ![0, o, 0] S1x512x1024.size ho).emb (ix3 u i j) = ix3 (0 : Fin 1) (⟨o + i.val, by omega⟩ : Fin 2048) j := by
  refine Shape.idx3_ext ?_ ?_ ?_
  · show 0 + 1 * u.val = 0; omega
  · show o + 1 * i.val = o + i.val; omega
  · show 0 + 1 * j.val = j.val; omega

theorem piece_ix (X : Parts F) (c : Dev nD) (o : ℕ) (ho' : o + 512 ≤ 2048) (hx) (hr) (ho) (u : Fin 1) (i : Fin 512) (j : Fin 1024) :
    (piece X c o hx hr ho).2 (ix3 u i j) = total X c (ix3 (0 : Fin 1) (⟨o + i.val, by omega⟩ : Fin 2048) j) :=
  pay_eq X c o ho' _ _ _ _ (read_x X c o ho' hx) (read_r X c 0 o ho' (hr 0)) (read_r X c 1 o ho' (hr 1)) (read_r X c 2 o ho' (hr 2)) u i j

theorem idx_ix (x : S1x512x1024.Idx) : ∃ (u : Fin 1) (i : Fin 512) (j : Fin 1024), x = ix3 u i j := ⟨x 0, x 1, x 2, Shape.idx3_ext rfl rfl rfl⟩

theorem piece_eq (X : Parts F) (c : Dev nD) (o : ℕ) (ho' : o + 512 ≤ 2048) (hx) (hr) (ho) (x : S1x512x1024.Idx) :
    (piece X c o hx hr ho).2 x = total X c ((Rect.unit (s := S1x2048x1024) ![0, o, 0] S1x512x1024.size ho).emb x) := by
  obtain ⟨u, i, j, rfl⟩ := idx_ix x
  rw [emb_o o ho' ho u i j]
  exact piece_ix X c o ho' hx hr ho u i j

theorem inbX (k : Fin 4) : ∀ a, (![512 * k.val, 0] : Fin 2 → ℕ) a + S512x1024.size a ≤ S2048x1024.size a := by revert k; decide
theorem inbR (k : Fin 4) : ∀ (d : Fin 3) a, (![d.val, 512 * k.val, 0] : Fin 3 → ℕ) a + S1x512x1024.size a ≤ S3x2048x1024.size a := by revert k; decide
theorem inbO (k : Fin 4) : ∀ a, (![0, 512 * k.val, 0] : Fin 3 → ℕ) a + S1x512x1024.size a ≤ S1x2048x1024.size a := by revert k; decide

abbrev pieceK (X : Parts F) (c : Dev nD) (k : Fin 4) : View.Piece (Elt F) S1x2048x1024 .f32 := piece X c (512 * k.val) (inbX k) (inbR k) (inbO k)

abbrev piecesO (X : Parts F) (c : Dev nD) : List (View.Piece (Elt F) S1x2048x1024 .f32) := [pieceK X c 3, pieceK X c 2, pieceK X c 1, pieceK X c 0]

theorem piecesO_eq (X : Parts F) (c : Dev nD) : ∀ p ∈ piecesO X c, ∀ x, p.2 x = total X c (p.1.emb x) := by
  intro p hp
  simp only [piecesO, List.mem_cons, List.not_mem_nil, or_false] at hp
  rcases hp with rfl | rfl | rfl | rfl
  · exact piece_eq X c _ (by decide) (inbX 3) (inbR 3) (inbO 3)
  · exact piece_eq X c _ (by decide) (inbX 2) (inbR 2) (inbO 2)
  · exact piece_eq X c _ (by decide) (inbX 1) (inbR 1) (inbO 1)
  · exact piece_eq X c _ (by decide) (inbX 0) (inbR 0) (inbO 0)

theorem pieceK_mem (X : Parts F) (c : Dev nD) (k : Fin 4) : pieceK X c k ∈ piecesO X c := by
  unfold piecesO
  fin_cases k
  · exact .tail _ (.tail _ (.tail _ (.head _)))
  · exact .tail _ (.tail _ (.head _))
  · exact .tail _ (.head _)
  · exact .head _

theorem row_block (y : S1x2048x1024.Idx) (k : Fin 4) (h1 : 512 * k.val ≤ (y 1).val) (h2 : (y 1).val < 512 * k.val + 512) :
    y ∈ (Rect.unit (s := S1x2048x1024) ![0, 512 * k.val, 0] S1x512x1024.size (inbO k)).set := by
  refine Rect.mem_set_unit.mpr fun a => ?_
  fin_cases a
  · exact ⟨Nat.zero_le _, (y 0).isLt⟩
  · exact ⟨h1, h2⟩
  · refine ⟨Nat.zero_le _, ?_⟩
    show (y 2).val < 0 + 1024
    rw [Nat.zero_add]
    exact (y 2).isLt

theorem piecesO_cover (X : Parts F) (c : Dev nD) (y : S1x2048x1024.Idx) : ∃ p ∈ piecesO X c, y ∈ p.1.set := by
  have hlt : (y 1).val < 2048 := (y 1).isLt
  obtain ⟨k, hk1, hk2⟩ : ∃ k : Fin 4, 512 * k.val ≤ (y 1).val ∧ (y 1).val < 512 * k.val + 512 :=
    ⟨⟨(y 1).val / 512, by omega⟩, by show 512 * ((y 1).val / 512) ≤ _; omega, by show _ < 512 * ((y 1).val / 512) + 512; omega⟩
  exact ⟨pieceK X c k, pieceK_mem X c k, row_block y k hk1 hk2⟩

theorem stored_at (X : Parts F) (c : Dev nD) (f : oM.view.ty.Contents (Elt F)) (y : S1x2048x1024.Idx) :
    oM.view.read (Elt F) (oM.view.writes (Elt F) f (piecesO X c)) y = total X c y :=
  View.read_writes_apply_of_pieces oM.view f (total X c) (piecesO X c) (piecesO_eq X c) y (piecesO_cover X c y)

/-- The four stores leave the total. -/
theorem stored_eq (X : Parts F) (c : Dev nD) (f : oM.view.ty.Contents (Elt F)) :
    oM.view.writes (Elt F) f (piecesO X c) = total X c :=
  (View.read_whole (Val := Elt F) cc1_stg1_0 (oM.view.writes (Elt F) f (piecesO X c))).symm.trans (funext (stored_at X c f))

theorem put_total (X : Parts F) (c : Dev nD) (f : Buf (Elt F) (oM.view.loc (c : Thread nD τ))) (Ps : List (View.Piece (Elt F) S1x2048x1024 .f32)) (h : Ps = piecesO X c) :
    (oM.view.loc (c : Thread nD τ) ↦{fullShare} oM.view.writes (Elt F) f Ps : sProp 𝕄) ⊢ (oM.view.loc (c : Thread nD τ) ↦{fullShare} total X c) := by
  subst h; rw [stored_eq X c f]

/-- A block of the result stored. -/
theorem wp_put (c : Dev nD) {r : Rect S1x2048x1024} {w : r.shape.Idx → Elt F .f32} {hx : (oM.access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} {f : Buf (Elt F) (oM.view.loc (c : Thread nD τ))}
    {Ps : List (View.Piece (Elt F) S1x2048x1024 .f32)} :
    (oM.view.loc (c : Thread nD τ) ↦{fullShare} oM.view.writes (Elt F) f Ps : sProp 𝕄)
      ⊢ iprop(((oM.view.loc (c : Thread nD τ) ↦{fullShare} oM.view.writes (Elt F) f (⟨r, w⟩ :: Ps))
            -∗ wp frame (wpE (defs₀ (F := F)) 𝒱₀ (c : Thread nD τ) none) Set.univ (k ⟨⟩) Q)
          -∗ wp frame (wpE (defs₀ (F := F)) 𝒱₀ (c : Thread nD τ) none) Set.univ (.op (.store oM r w Finset.univ hx hm) k) Q) :=
  wp_store_writes (L := Ps) (m := oM) (r := r) (w := w) (hx := hx) (hm := hm) (k := k) (f := f) (S := Finset.univ) (Q := Q) 𝒱₀ (c : Thread nD τ) none Set.univ
    (fun i _ => Finset.mem_univ i)

set_option maxHeartbeats 1000000 in
theorem sound_body (X : Parts F) (κ : GSem nD τ sig → ℕ) (c : Dev nD)
    (hB : (levAts L lv : sProp 𝕄) ⊢ MayWait (c : Thread nD τ) (.reg WR.bar) () (dueOn WR 0 c [.inr (0, 0), .inr (1, 0), .inr (2, 0)])) (f0 : Buf (Elt F) (rLoc c)) (f1 : Buf (Elt F) (oM.view.loc (c : Thread nD τ)))
    (Ws : Waits sig Unit) (Kt : PUnit → sProp 𝕄) :
    iprop((ready L lv X κ c ∗ owes (c : Thread nD τ) (dueOn WR 0 c pays) Ws ∗ (xLoc c ↦{fullShare} (X c : Buf (Elt F) (xLoc c))) ∗ (oM.view.loc (c : Thread nD τ) ↦{fullShare} f1) ∗ (rLoc c ↦{fullShare} f0))
        ∗ ((spent c ∗ (∃ W, owes (c : Thread nD τ) 0 W) ∗ (xLoc c ↦{fullShare} (X c : Buf (Elt F) (xLoc c)))
            ∗ (oM.view.loc (c : Thread nD τ) ↦{fullShare} (total X c : Buf (Elt F) (oM.view.loc (c : Thread nD τ)))) ∗ ∃ f, rLoc c ↦{fullShare} f) -∗ Kt ⟨⟩))
      ⊢ wp frame (wpE (defs₀ (F := F)) 𝒱₀ c none) Set.univ
          (cc1__allreduce_body xM (Memref.isWhole_whole _) oM (Memref.isWhole_whole _) rM (Memref.isWhole_whole _) cc1_scratch1 cc1_scratch2) Kt := by
  simp only [cc1__allreduce_body_eq_skeleton]; unfold cc1__allreduce_body_skel
  simp only [k1_part1_eq_skeleton, k1_part2_eq_skeleton, k1_part3_eq_skeleton, k1_part4_eq_skeleton, k1_part5_eq_skeleton, k1_part6_eq_skeleton, k1_part7_eq_skeleton]
  unfold k1_part1_skel k1_part2_skel k1_part3_skel k1_part4_skel k1_part5_skel k1_part6_skel k1_part7_skel
  simp only [semSignalWord, semWaitWord, Prog.lift, Prog.bind_op, Prog.bind_ret, Prog.pure_eq_ret, wp_deviceId]
  unfold ready credit
  rw [bigSep31, bigSep31, bigSep31, bigSep3, whole_slabs]
  iintro ⟨⟨⟨#HK, HatB, ⟨⟨⟨HaS0, #HrS0⟩, HaR0, #HrR0⟩, ⟨⟨HaS1, #HrS1⟩, HaR1, #HrR1⟩, ⟨⟨HaS2, #HrS2⟩, HaR2, #HrR2⟩⟩, ⟨HtB0, HtB1, HtB2⟩,
    ⟨⟨Ht0, Hu0⟩, ⟨Ht1, Hu1⟩, Ht2, Hu2⟩, ⟨HcB, HcR0, HcR1, HcR2⟩, #Hlev⟩, HO, Hx, Ho, Hr0, Hr1, Hr2⟩, Hk⟩
  -- the three units
  iapply (wp_sig WR (GR X) ER 𝒱₀ κ c none 0 (dev1_eq c) (by decide) (dueOn WR 0 c [.inl 1, .inl 2, .inr (0, 0), .inr (1, 0), .inr (2, 0)]) rfl) $$ [HO HtB0 Hr0]
  · isplitr; · iexact HK
    isplitl [HO]; · iexact HO
    isplitl [HtB0]; · iexact HtB0
    rw [give_space, bigSep1]
    isplitl [Hr0]; · unfold space; iexists f0; iexact Hr0
    iexact HrR2
  iintro HO
  iapply (wp_sig WR (GR X) ER 𝒱₀ κ c none 1 (dev2_eq c) (by decide) (dueOn WR 0 c [.inl 2, .inr (0, 0), .inr (1, 0), .inr (2, 0)]) rfl) $$ [HO HtB1 Hr1]
  · isplitr; · iexact HK
    isplitl [HO]; · iexact HO
    isplitl [HtB1]; · iexact HtB1
    rw [give_space, bigSep1]
    isplitl [Hr1]; · unfold space; iexists f0; iexact Hr1
    iexact HrR1
  iintro HO
  iapply (wp_sig WR (GR X) ER 𝒱₀ κ c none 2 (dev3_eq c) (by decide) (dueOn WR 0 c [.inr (0, 0), .inr (1, 0), .inr (2, 0)]) rfl) $$ [HO HtB2 Hr2]
  · isplitr; · iexact HK
    isplitl [HO]; · iexact HO
    isplitl [HtB2]; · iexact HtB2
    rw [give_space, bigSep1]
    isplitl [Hr2]; · unfold space; iexists f0; iexact Hr2
    iexact HrR0
  iintro HO
  iapply (wp_barWait WR (GR X) ER 𝒱₀ κ c none (by decide)) $$ [HO HatB HcB]
  · isplitr; · iexact HK
    isplitl [HcB]; · iexact HcB
    isplitl [HO]; · iexact HO
    isplitr; · iapply hB; iexact Hlev
    iexact HatB
  rw [bigSep3]
  iintro ⟨HO, HatB, Hp0, Hp1, Hp2⟩
  -- the staging buffer in shares: one to read from, one for each copy out
  ihave Hx' := (shares X c).1 $$ Hx
  icases Hx' with ⟨Hx, Hx0, Hx1, Hx2⟩
  iapply (wp_send X κ c 0 (off2_eq 0 c) (dev4_eq c) rfl (sem1_eq 0 c _) [.inr (1, 0), .inr (2, 0)]) $$ [Ht0 Hu0 Hp0 Hx0 HO]
  · isplitr; · iexact HK
    isplitl [Ht0 Hu0]; · isplitl [Ht0] <;> iassumption
    isplitr; · iexact HrS0
    isplitl [Hp0]; · iexact Hp0
    isplitl [Hx0]; · iexact Hx0
    iexact HO
  iintro ⟨HcS0, HO⟩
  iapply (wp_send X κ c 1 (off2_eq 1 c) (dev5_eq c) rfl (sem1_eq 1 c _) [.inr (2, 0)]) $$ [Ht1 Hu1 Hp1 Hx1 HO]
  · isplitr; · iexact HK
    isplitl [Ht1 Hu1]; · isplitl [Ht1] <;> iassumption
    isplitr; · iexact HrS1
    isplitl [Hp1]; · iexact Hp1
    isplitl [Hx1]; · iexact Hx1
    iexact HO
  iintro ⟨HcS1, HO⟩
  iapply (wp_send X κ c 2 (off2_eq 2 c) (dev6_eq c) rfl (sem1_eq 2 c _) []) $$ [Ht2 Hu2 Hp2 Hx2 HO]
  · isplitr; · iexact HK
    isplitl [Ht2 Hu2]; · isplitl [Ht2] <;> iassumption
    isplitr; · iexact HrS2
    isplitl [Hp2]; · iexact Hp2
    isplitl [Hx2]; · iexact Hx2
    iexact HO
  iintro ⟨HcS2, HO⟩
  rw [show dueOn WR 0 c ([] : List (Pay 1)) = (0 : CellTallies nD τ sig Unit) from rfl]
  -- the three arrivals: slab `d` is filled at its sender's step `rv d`
  iapply (wp_rcvWait WR (GR X) ER 𝒱₀ κ c none 2 0 rfl rfl) $$ [HO HcR2 HaR2]
  · isplitr; · iexact HK
    isplitl [HcR2]; · iexact HcR2
    isplitl [HO]; · iexact HO
    isplitr; · rw [MayWait_zero]; iempintro
    iexact HaR2
  iintro ⟨HO, HaR2, Hs0⟩
  iapply (wp_rcvWait WR (GR X) ER 𝒱₀ κ c none 1 0 rfl rfl) $$ [HO HcR1 HaR1]
  · isplitr; · iexact HK
    isplitl [HcR1]; · iexact HcR1
    isplitl [HO]; · iexact HO
    isplitr; · rw [MayWait_zero]; iempintro
    iexact HaR1
  iintro ⟨HO, HaR1, Hs1⟩
  iapply (wp_rcvWait WR (GR X) ER 𝒱₀ κ c none 0 0 rfl rfl) $$ [HO HcR0 HaR0]
  · isplitr; · iexact HK
    isplitl [HcR0]; · iexact HcR0
    isplitl [HO]; · iexact HO
    isplitr; · rw [MayWait_zero]; iempintro
    iexact HaR0
  iintro ⟨HO, HaR0, Hs2⟩
  ihave Hr := (show iprop((GR X).R c 2 0 ∗ (GR X).R c 1 0 ∗ (GR X).R c 0 0) ⊢ (rLoc c ↦{fullShare} landed X c : sProp 𝕄) from by
    rw [whole_slabs]; exact Entails.refl _) $$ [Hs0 Hs1 Hs2]
  · isplitl [Hs0]; · iexact Hs0
    isplitl [Hs1] <;> iassumption
  -- the four row blocks: the loads, and the store of their sum
  ihave Ho := (show (oM.view.loc (c : Thread nD τ) ↦{fullShare} f1 : sProp 𝕄) ⊢ (oM.view.loc (c : Thread nD τ) ↦{fullShare} oM.view.writes (Elt F) f1 []) from Entails.refl _) $$ Ho
  iapply (wp_load 𝒱₀ (c : Thread nD τ) none Set.univ (m := xM) (by rw [x_set]; exact Finset.subset_univ _)) $$ Hx; iintro Hx
  iapply (wp_load 𝒱₀ (c : Thread nD τ) none Set.univ (m := rM) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := oM) (Finset.subset_univ _)) $$ Ho; iintro Ho
  iapply (wp_put c) $$ Ho; iintro Ho
  iapply (wp_load 𝒱₀ (c : Thread nD τ) none Set.univ (m := xM) (by rw [x_set]; exact Finset.subset_univ _)) $$ Hx; iintro Hx
  iapply (wp_load 𝒱₀ (c : Thread nD τ) none Set.univ (m := rM) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := oM) (Finset.subset_univ _)) $$ Ho; iintro Ho
  iapply (wp_put c) $$ Ho; iintro Ho
  iapply (wp_load 𝒱₀ (c : Thread nD τ) none Set.univ (m := xM) (by rw [x_set]; exact Finset.subset_univ _)) $$ Hx; iintro Hx
  iapply (wp_load 𝒱₀ (c : Thread nD τ) none Set.univ (m := rM) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := oM) (Finset.subset_univ _)) $$ Ho; iintro Ho
  iapply (wp_put c) $$ Ho; iintro Ho
  iapply (wp_load 𝒱₀ (c : Thread nD τ) none Set.univ (m := xM) (by rw [x_set]; exact Finset.subset_univ _)) $$ Hx; iintro Hx
  iapply (wp_load 𝒱₀ (c : Thread nD τ) none Set.univ (m := rM) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := oM) (Finset.subset_univ _)) $$ Ho; iintro Ho
  iapply (wp_put c) $$ Ho; iintro Ho
  iapply (wp_sndWait WR (GR X) ER 𝒱₀ κ c none 0 0 rfl rfl) $$ [HO HcS0 HaS0]
  · isplitr; · iexact HK
    isplitl [HcS0]; · iexact HcS0
    isplitl [HO]; · iexact HO
    isplitr; · rw [MayWait_zero]; iempintro
    iexact HaS0
  iintro ⟨HO, HaS0, Hl0⟩
  iapply (wp_sndWait WR (GR X) ER 𝒱₀ κ c none 1 0 rfl rfl) $$ [HO HcS1 HaS1]
  · isplitr; · iexact HK
    isplitl [HcS1]; · iexact HcS1
    isplitl [HO]; · iexact HO
    isplitr; · rw [MayWait_zero]; iempintro
    iexact HaS1
  iintro ⟨HO, HaS1, Hl1⟩
  iapply (wp_sndWait WR (GR X) ER 𝒱₀ κ c none 2 0 rfl rfl) $$ [HO HcS2 HaS2]
  · isplitr; · iexact HK
    isplitl [HcS2]; · iexact HcS2
    isplitl [HO]; · iexact HO
    isplitr; · rw [MayWait_zero]; iempintro
    iexact HaS2
  iintro ⟨HO, HaS2, Hl2⟩
  ihave Hx := (show iprop((xLoc c ↦[xM.view.set]{Transfers.shareDrop fullShare 3} X c) ∗ (GR X).S c 0 0 ∗ (GR X).S c 1 0 ∗ (GR X).S c 2 0) ⊢ (xLoc c ↦{fullShare} X c : sProp 𝕄) from (shares X c).2) $$ [Hx Hl0 Hl1 Hl2]
  · isplitl [Hx]; · iexact Hx
    isplitl [Hl0]; · iexact Hl0
    isplitl [Hl1] <;> iassumption
  imod (close_bar WR (GR X) ER κ c) $$ [HatB] with Hb
  · isplitr; · iexact HK
    iexact HatB
  imod (close_pieces WR (GR X) ER κ c) $$ [HaS0 HaR0 HaS1 HaR1 HaS2 HaR2] with Hp
  · isplitr; · iexact HK
    rw [bigSep31]
    isplitl [HaS0 HaR0]; · isplitl [HaS0] <;> iassumption
    isplitl [HaS1 HaR1]; · isplitl [HaS1] <;> iassumption
    isplitl [HaS2] <;> iassumption
  rw [wp_ret]
  imodintro
  iapply Hk
  isplitl [Hb Hp]
  · unfold spent
    isplitl [Hb] <;> iassumption
  isplitl [HO]; · iexists _; iexact HO
  isplitl [Hx]; · iexact Hx
  isplitl [Ho]
  · iapply (put_total X c f1 _ ?_)
    swap
    · iexact Ho
    rfl
  iexists _; iexact Hr

end Cert.Sum

end
-- ==== Proof.Levels.lean ====
module

public import proofs.«01_k».proof.Proof.Body
public import proofs.«01_k».proof.Proof.Sum

@[expose] public section

noncomputable section

namespace Cert.Attn

open Cert.KernelIdeal Cert.KernelIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocalO)

variable {F : FTy → Type} [FloatOps F] [Named F]
local notation "𝕄" => MT nD τ sig Unit (Elt F) ℕ UU ℕ
variable {defs : Defs nD τ sig (Elt F) Λ₀}

/-! # What the region of the attention is entered with, and what it leaves -/

/-! ## Levels -/

/-- Staging, copying, sending and streaming cells at 0; the first barrier at 1, what arrives then at 2; the second barrier at 3, what arrives then at 4. -/
def lvS : SemLoc sig → ℕ
  | .dma q => if 10 ≤ q.val ∧ q.val < 18 then 2 else if 29 ≤ q.val then 4 else 0
  | .reg r => if r = WA.bar then 1 else 3
def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

def lvA : Pay 2 → ℕ
  | .inl _ => 1
  | .inr _ => 2
def lvR : Pay 1 → ℕ
  | .inl _ => 3
  | .inr _ => 4

theorem rcvA_lv : ∀ (d : Dev nD) (p : Fin 3) (i : Fin 2), lvS (.dma (WA.rs d p i)) = 2 := by decide
theorem rcvR_lv : ∀ (d : Dev nD) (p : Fin 3) (i : Fin 1), lvS (.dma (Cert.Sum.WR.rs d p i)) = 4 := by decide
theorem barR_lv : lvS (.reg Cert.Sum.WR.bar) = 3 := by decide
theorem barA_lv : lvS (.reg WA.bar) = 1 := by decide

theorem talA_pos {c : Dev nD} {x : Pay 2} {g : GSem nD τ sig} {u : Unit} (h : 0 < tal WA c x g u) : g.1.2 = .tc ∧ lv g u = lvA x := by
  rcases x with p | ⟨p, i⟩
  · obtain ⟨rfl, -⟩ := Pipeline.tallyAt_pos h
    exact ⟨rfl, barA_lv⟩
  · obtain ⟨rfl, -⟩ := Pipeline.tallyAt_pos h
    exact ⟨rfl, rcvA_lv _ _ _⟩
theorem talR_pos {c : Dev nD} {x : Pay 1} {g : GSem nD τ sig} {u : Unit} (h : 0 < tal Cert.Sum.WR c x g u) : g.1.2 = .tc ∧ lv g u = lvR x := by
  rcases x with p | ⟨p, i⟩
  · obtain ⟨rfl, -⟩ := Pipeline.tallyAt_pos h
    exact ⟨rfl, barR_lv⟩
  · obtain ⟨rfl, -⟩ := Pipeline.tallyAt_pos h
    exact ⟨rfl, rcvR_lv _ _ _⟩

/-- A wait below everything still owed. -/
theorem mayWait_of (c : Dev nD) (s : SemLoc sig) (lA : List (Pay 2)) (lR : List (Pay 1)) (b : ℕ) (hs : lvS s ≤ b) (hA : ∀ x ∈ lA, b < lvA x) (hR : ∀ x ∈ lR, b < lvR x) :
    (levAts L lv : sProp 𝕄) ⊢ MayWait (c : Thread nD τ) s () (dueOn WA (dueOn Cert.Sum.WR 0 c lR) c lA) := by
  have hp : ∀ g u, 0 < dueOn WA (dueOn Cert.Sum.WR 0 c lR) c lA g u → g.1.2 = .tc ∧ b < lv g u := fun g u hg => by
    rcases dueOn_pos WA hg with h | ⟨x, hx, h⟩
    · rcases dueOn_pos Cert.Sum.WR h with h | ⟨x, hx, h⟩
      · exact absurd h (Nat.lt_irrefl 0)
      · exact ⟨(talR_pos h).1, by rw [(talR_pos h).2]; exact hR x hx⟩
    · exact ⟨(talA_pos h).1, by rw [(talA_pos h).2]; exact hA x hx⟩
  exact MayOwe.of_cut (L := L) (lev := lv) b (fun p hp => by rw [Finset.mem_singleton.mp hp, L_tc]; exact Finset.mem_singleton_self _)
    (fun g u hg => by unfold L; rw [if_pos (hp g u hg).1]; exact Finset.mem_singleton_self _)
    (fun p hp => by rw [Finset.mem_singleton.mp hp]; exact hs)
    (fun g u hg => (hp g u hg).2)

/-- The same where the first exchange is over. -/
theorem mayWait_ofR (c : Dev nD) (s : SemLoc sig) (lR : List (Pay 1)) (b : ℕ) (hs : lvS s ≤ b) (hR : ∀ x ∈ lR, b < lvR x) :
    (levAts L lv : sProp 𝕄) ⊢ MayWait (c : Thread nD τ) s () (dueOn Cert.Sum.WR 0 c lR) := by
  have h := mayWait_of (F := F) c s [] lR b hs (fun _ h => absurd h List.not_mem_nil) hR
  unfold dueOn at h
  exact h

/-- What is owed for the second exchange. -/
abbrev D₁ (c : Dev nD) : CellTallies nD τ sig Unit := dueOn Cert.Sum.WR 0 c Cert.Sum.pays
/-- What is owed at the launch. -/
abbrev O₀ (c : Dev nD) : CellTallies nD τ sig Unit := dueOn WA (D₁ c) c paysA

theorem fin_two (n : ℕ) (h : n + 1 ≤ 2) : ∃ a : Fin 2, n = a.val := ⟨⟨n, h⟩, rfl⟩
theorem off_two (o : Fin 2 → ℕ) {m n : ℕ} (h0 : o 0 < m) (h1 : o 1 < n) : ∃ (a : Fin m) (b : Fin n), o = ![a.val, b.val] :=
  ⟨⟨o 0, h0⟩, ⟨o 1, h1⟩, by funext a; fin_cases a <;> rfl⟩

theorem str_lv : ∀ a b : Fin 2, lvS (.dma (strS ![a.val, b.val] (os_inb a b))) ≤ 2 := by decide
theorem snd_lv : ∀ (a : Fin 3) (b : Fin 2), lvS (.dma (sndS ![a.val, b.val] (snd_inb a b))) ≤ 2 := by decide
theorem rcv_lv : ∀ (a : Fin 4) (b : Fin 2), lvS (.dma (rcvS ![a.val, b.val] (rcv_inb a b))) ≤ 2 := by decide
theorem cpy_lv : ∀ a : Fin 2, lvS (.dma (cpyS ![a.val] (cpy_inb a))) ≤ 2 := by decide

theorem paysR_lv : ∀ x ∈ Cert.Sum.pays, 2 < lvR x := by decide

theorem may (c : Dev nD) : May (F := F) c L lv (D₁ c) where
  str o h := by
    obtain ⟨a, b, rfl⟩ := off_two o (m := 2) (n := 2) (Nat.lt_of_succ_le (h 0)) (Nat.lt_of_succ_le (h 1))
    exact mayWait_ofR c _ _ 2 (str_lv a b) paysR_lv
  cpy o h := by
    obtain ⟨a, ha⟩ := fin_two (o 0) (h 0)
    obtain rfl : o = ![a.val] := by funext i; fin_cases i; exact ha
    exact mayWait_ofR c _ _ 2 (cpy_lv a) paysR_lv
  rcv o h := by
    obtain ⟨a, b, rfl⟩ := off_two o (m := 4) (n := 2) (Nat.lt_of_succ_le (h 0)) (Nat.lt_of_succ_le (h 1))
    exact mayWait_ofR c _ _ 2 (rcv_lv a b) paysR_lv
  snd o h := by
    obtain ⟨a, b, rfl⟩ := off_two o (m := 3) (n := 2) (Nat.lt_of_succ_le (h 0)) (Nat.lt_of_succ_le (h 1))
    exact mayWait_ofR c _ _ 2 (snd_lv a b) paysR_lv

theorem may_barA (c : Dev nD) : (levAts L lv : sProp 𝕄) ⊢ MayWait (c : Thread nD τ) (.reg WA.bar) () (dueOn WA (D₁ c) c [.inr (0, 0), .inr (0, 1), .inr (1, 0), .inr (1, 1), .inr (2, 0), .inr (2, 1)]) :=
  mayWait_of c _ _ _ 1 (le_of_eq barA_lv) (by decide) (by decide)
theorem may_barR (c : Dev nD) : (levAts L lv : sProp 𝕄) ⊢ MayWait (c : Thread nD τ) (.reg Cert.Sum.WR.bar) () (dueOn Cert.Sum.WR 0 c [.inr (0, 0), .inr (1, 0), .inr (2, 0)]) :=
  mayWait_ofR c _ _ 3 (le_of_eq barR_lv) (by decide)
theorem may_stage0 (c : Dev nD) (q : DmaSem sig) (hq : lvS (.dma q) = 0) : (levAts L lv : sProp 𝕄) ⊢ MayWait (c : Thread nD τ) (.dma q) () (O₀ c) :=
  mayWait_of c _ _ _ 0 (le_of_eq hq) (by decide) (by decide)
theorem may_stage1 (c : Dev nD) (q : DmaSem sig) (hq : lvS (.dma q) = 0) : (levAts L lv : sProp 𝕄) ⊢ MayWait (c : Thread nD τ) (.dma q) () (D₁ c) :=
  mayWait_ofR c _ _ 0 (le_of_eq hq) (by decide)

/-! ## Buffers in parts -/

theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep32 (Φ : Fin 3 × Fin 2 → sProp 𝕄) : bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ
theorem bigSep42 (Φ : Fin 4 × Fin 2 → sProp 𝕄) : bigSep Finset.univ Φ = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ
theorem bigSep22 (Φ : Fin 2 × Fin 2 → sProp 𝕄) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ

theorem parts4 {ℓ : Loc nD τ sig} (T : Fin 4 → Finset (Idx ℓ)) (hd : ∀ a b, a ≠ b → Disjoint (T a) (T b)) (hu : ∀ i, ∃ a, i ∈ T a) (f : Buf (Elt F) ℓ) :
    (ℓ ↦{fullShare} f : sProp 𝕄) = iprop((ℓ ↦[T 0]{fullShare} f) ∗ (ℓ ↦[T 1]{fullShare} f) ∗ (ℓ ↦[T 2]{fullShare} f) ∗ (ℓ ↦[T 3]{fullShare} f)) := by
  have h := pointsTo_biUnion (Ix := Unit) (Name := ℕ) (U := UU) (Lvl := ℕ) (ℓ := ℓ) (q := fullShare) (f := f) Finset.univ T fun a _ b _ h => hd a b h
  rw [show (Finset.univ : Finset (Fin 4)).biUnion T = Finset.univ from Finset.eq_univ_iff_forall.mpr fun i => (hu i).elim fun a ha => Finset.mem_biUnion.mpr ⟨a, Finset.mem_univ _, ha⟩, bigSep4] at h
  exact h
theorem parts2 {ℓ : Loc nD τ sig} (T : Fin 2 → Finset (Idx ℓ)) (hd : Disjoint (T 0) (T 1)) (hu : ∀ i, i ∈ T 0 ∨ i ∈ T 1) (f : Buf (Elt F) ℓ) :
    (ℓ ↦{fullShare} f : sProp 𝕄) = iprop((ℓ ↦[T 0]{fullShare} f) ∗ (ℓ ↦[T 1]{fullShare} f)) := by
  have h := pointsTo_union (Ix := Unit) (Name := ℕ) (U := UU) (Lvl := ℕ) (ℓ := ℓ) (q := fullShare) (f := f) hd
  rw [show T 0 ∪ T 1 = Finset.univ from Finset.eq_univ_iff_forall.mpr fun i => Finset.mem_union.mpr (hu i)] at h
  exact BI.Entails.antisymm h.1 h.2
theorem glue2 {ℓ : Loc nD τ sig} (T : Fin 2 → Finset (Idx ℓ)) (hd : Disjoint (T 0) (T 1)) (hu : ∀ i, i ∈ T 0 ∨ i ∈ T 1) (f g : Buf (Elt F) ℓ) :
    iprop((ℓ ↦[T 0]{fullShare} f) ∗ (ℓ ↦[T 1]{fullShare} g)) ⊢ (iprop(∃ f : Buf (Elt F) ℓ, ℓ ↦{fullShare} f) : sProp 𝕄) := by
  have h := pointsTo_join (Ix := Unit) (Name := ℕ) (U := UU) (Lvl := ℕ) (ℓ := ℓ) (q := fullShare) (f := f) (g := g) hd
  rw [show T 0 ∪ T 1 = Finset.univ from Finset.eq_univ_iff_forall.mpr fun i => Finset.mem_union.mpr (hu i)] at h
  iintro H
  iexists _
  iapply h
  iexact H

/-- The rows for device `j`. -/
def Rw (j : Fin 4) : Finset S32x2048x128.Idx := Finset.univ.filter fun i => 8 * j.val ≤ (i 0).val ∧ (i 0).val < 8 * j.val + 8
theorem mem_Rw (j : Fin 4) (i : S32x2048x128.Idx) : i ∈ Rw j ↔ 8 * j.val ≤ (i 0).val ∧ (i 0).val < 8 * j.val + 8 := by
  unfold Rw; rw [Finset.mem_filter]; exact ⟨fun h => h.2, fun h => ⟨Finset.mem_univ _, h⟩⟩
theorem row_rect (j : Dev nD) : (Rect.unit (s := S32x2048x128) ![8 * j.val, 0, 0] S8x2048x128.size (row_inb j)).set = Rw j := by
  ext i
  rw [Rect.mem_set_unit, mem_Rw]
  constructor
  · intro h; exact h 0
  · intro h a
    fin_cases a
    · exact h
    · exact ⟨Nat.zero_le _, by have := (i 1).isLt; simpa using this⟩
    · exact ⟨Nat.zero_le _, by have := (i 2).isLt; simpa using this⟩
theorem row_setK (j : Dev nD) : (pK.row j).view.set = Rw j := (View.set_slice_whole _ _).trans (row_rect j)
theorem row_setV (j : Dev nD) : (pV.row j).view.set = Rw j := (View.set_slice_whole _ _).trans (row_rect j)
theorem Rw_disj (a b : Fin 4) (h : a ≠ b) : Disjoint (Rw a) (Rw b) := by
  rw [Finset.disjoint_left]
  intro i h1 h2
  rw [mem_Rw] at h1 h2
  exact h (Fin.ext (by omega))
theorem Rw_all (i : S32x2048x128.Idx) : ∃ a, i ∈ Rw a := by
  have h : (i 0).val < 32 := (i 0).isLt
  exact ⟨⟨(i 0).val / 8, by omega⟩, (mem_Rw _ i).2 (by show 8 * ((i 0).val / 8) ≤ _ ∧ _ < 8 * ((i 0).val / 8) + 8; omega)⟩
theorem Ch_all (i : S8x4x2048x128.Idx) : ∃ a, i ∈ Ch a := ⟨i 1, (mem_Ch _ i).2 rfl⟩

theorem rows_eqK (c : Dev nD) (f : Rws F) : (kM.view.loc (c : Thread nD τ) ↦{fullShare} f : sProp 𝕄) = iprop(pK.lent c 0 f ∗ pK.lent c 1 f ∗ pK.lent c 2 f ∗ pK.lent c 3 f) := by
  unfold Pipe.lent; rw [row_setK, row_setK, row_setK, row_setK]
  exact parts4 (ℓ := kM.view.loc (c : Thread nD τ)) Rw Rw_disj Rw_all f
theorem rows_eqV (c : Dev nD) (f : Rws F) : (vM.view.loc (c : Thread nD τ) ↦{fullShare} f : sProp 𝕄) = iprop(pV.lent c 0 f ∗ pV.lent c 1 f ∗ pV.lent c 2 f ∗ pV.lent c 3 f) := by
  unfold Pipe.lent; rw [row_setV, row_setV, row_setV, row_setV]
  exact parts4 (ℓ := vM.view.loc (c : Thread nD τ)) Rw Rw_disj Rw_all f
theorem rooms_eqK (c : Dev nD) (f : Arr F) : (kcM.view.loc (c : Thread nD τ) ↦{fullShare} f : sProp 𝕄) = iprop(pK.part c 0 f ∗ pK.part c 1 f ∗ pK.part c 2 f ∗ pK.part c 3 f) := by
  unfold Pipe.part; rw [chk_setK, chk_setK, chk_setK, chk_setK]
  exact parts4 (ℓ := kcM.view.loc (c : Thread nD τ)) Ch chk_disj Ch_all f
theorem rooms_eqV (c : Dev nD) (f : Arr F) : (vcM.view.loc (c : Thread nD τ) ↦{fullShare} f : sProp 𝕄) = iprop(pV.part c 0 f ∗ pV.part c 1 f ∗ pV.part c 2 f ∗ pV.part c 3 f) := by
  unfold Pipe.part; rw [chk_setV, chk_setV, chk_setV, chk_setV]
  exact parts4 (ℓ := vcM.view.loc (c : Thread nD τ)) Ch chk_disj Ch_all f

theorem part_room (π : Pipe) (c : Dev nD) (j : Dev 4) (f : π.Got F c) : π.part c j f ⊢ π.room c j := by
  unfold Pipe.room; iintro H; iexists f; iexact H

theorem rows_inK (c : Dev nD) (f : Rws F) : (kM.view.loc (c : Thread nD τ) ↦{fullShare} f : sProp 𝕄) ⊢ iprop(pK.lent c c f ∗ pK.lent c (sh 0 c) f ∗ pK.lent c (sh 1 c) f ∗ pK.lent c (sh 2 c) f) :=
  (Entails.of_eq (rows_eqK c f)).trans (ring_in (fun j => pK.lent c j f) c)
theorem rows_outK (c : Dev nD) (f : Rws F) : iprop(pK.lent c c f ∗ pK.lent c (sh 0 c) f ∗ pK.lent c (sh 1 c) f ∗ pK.lent c (sh 2 c) f) ⊢ (kM.view.loc (c : Thread nD τ) ↦{fullShare} f : sProp 𝕄) :=
  (ring_out (fun j => pK.lent c j f) c).trans (Entails.of_eq (rows_eqK c f).symm)
theorem rooms_inK (c : Dev nD) (f : Arr F) : (kcM.view.loc (c : Thread nD τ) ↦{fullShare} f : sProp 𝕄) ⊢ iprop(pK.room c c ∗ pK.room c (sh 0 c) ∗ pK.room c (sh 1 c) ∗ pK.room c (sh 2 c)) :=
  (Entails.of_eq (rooms_eqK c f)).trans <| (ring_in (fun j => pK.part c j f) c).trans <|
    BIClass.sep_mono (part_room pK c _ f) (BIClass.sep_mono (part_room pK c _ f) (BIClass.sep_mono (part_room pK c _ f) (part_room pK c _ f)))
theorem rows_inV (c : Dev nD) (f : Rws F) : (vM.view.loc (c : Thread nD τ) ↦{fullShare} f : sProp 𝕄) ⊢ iprop(pV.lent c c f ∗ pV.lent c (sh 0 c) f ∗ pV.lent c (sh 1 c) f ∗ pV.lent c (sh 2 c) f) :=
  (Entails.of_eq (rows_eqV c f)).trans (ring_in (fun j => pV.lent c j f) c)
theorem rows_outV (c : Dev nD) (f : Rws F) : iprop(pV.lent c c f ∗ pV.lent c (sh 0 c) f ∗ pV.lent c (sh 1 c) f ∗ pV.lent c (sh 2 c) f) ⊢ (vM.view.loc (c : Thread nD τ) ↦{fullShare} f : sProp 𝕄) :=
  (ring_out (fun j => pV.lent c j f) c).trans (Entails.of_eq (rows_eqV c f).symm)
theorem rooms_inV (c : Dev nD) (f : Arr F) : (vcM.view.loc (c : Thread nD τ) ↦{fullShare} f : sProp 𝕄) ⊢ iprop(pV.room c c ∗ pV.room c (sh 0 c) ∗ pV.room c (sh 1 c) ∗ pV.room c (sh 2 c)) :=
  (Entails.of_eq (rooms_eqV c f)).trans <| (ring_in (fun j => pV.part c j f) c).trans <|
    BIClass.sep_mono (part_room pV c _ f) (BIClass.sep_mono (part_room pV c _ f) (BIClass.sep_mono (part_room pV c _ f) (part_room pV c _ f)))

/-- Slot `b` of a two-slot buffer. -/
def Sl (b : Fin 2) : Finset S2x512x128.Idx := Finset.univ.filter fun i => (i 0).val = b.val
theorem mem_Sl (b : Fin 2) (i : S2x512x128.Idx) : i ∈ Sl b ↔ (i 0).val = b.val := by
  unfold Sl; rw [Finset.mem_filter]; exact ⟨fun h => h.2, fun h => ⟨Finset.mem_univ _, h⟩⟩
theorem slot_rect (b : Fin 2) : (Rect.unit (s := S2x512x128) ![b.val, 0, 0] S1x512x128.size (ob_inb b)).set = Sl b := by
  ext i
  rw [Rect.mem_set_unit, mem_Sl]
  constructor
  · intro h
    have h0 := h 0
    have e1 : (![b.val, 0, 0] : Fin 3 → ℕ) 0 = b.val := rfl
    have e2 : S1x512x128.size 0 = 1 := rfl
    rw [e1, e2] at h0
    omega
  · intro h a
    fin_cases a
    · exact ⟨by show b.val ≤ (i 0).val; rw [h], by show (i 0).val < b.val + 1; rw [h]; exact Nat.lt_succ_self _⟩
    · exact ⟨Nat.zero_le _, by have := (i 1).isLt; simpa using this⟩
    · exact ⟨Nat.zero_le _, by have := (i 2).isLt; simpa using this⟩
theorem slot_setK (b : Fin 2) : (sK.slot b).view.set = Sl b := (View.set_reshape _ _).trans ((View.set_slice_whole _ _).trans (slot_rect b))
theorem slot_setV (b : Fin 2) : (sV.slot b).view.set = Sl b := (View.set_reshape _ _).trans ((View.set_slice_whole _ _).trans (slot_rect b))
theorem Sl_disj : Disjoint (Sl 0) (Sl 1) := by
  rw [Finset.disjoint_left]
  intro i h1 h2
  rw [mem_Sl] at h1 h2
  rw [h1] at h2; exact absurd h2 (by decide)
theorem Sl_all (i : S2x512x128.Idx) : i ∈ Sl 0 ∨ i ∈ Sl 1 := by
  have h : (i 0).val < 2 := (i 0).isLt
  rw [mem_Sl, mem_Sl]
  exact lt_two.1 h
theorem slots_inK (c : Dev nD) (f : S2x512x128.Idx → Elt F .bf16) : (kbM.view.loc (c : Thread nD τ) ↦{fullShare} f : sProp 𝕄) ⊢ iprop(sK.Free c 0 ∗ sK.Free c 1) := by
  unfold Side.Free; rw [slot_setK, slot_setK]
  iintro H
  ihave H := (Entails.of_eq (parts2 (F := F) (ℓ := kbM.view.loc (c : Thread nD τ)) Sl Sl_disj Sl_all f)) $$ H
  icases H with ⟨H0, H1⟩
  isplitl [H0]
  · iexists f; iexact H0
  iexists f; iexact H1
theorem slots_outK (c : Dev nD) : iprop(sK.Free c 0 ∗ sK.Free c 1) ⊢ (iprop(∃ f : Buf (Elt F) (kbM.view.loc (c : Thread nD τ)), kbM.view.loc (c : Thread nD τ) ↦{fullShare} f) : sProp 𝕄) := by
  unfold Side.Free; rw [slot_setK, slot_setK]
  iintro ⟨⟨%f, H0⟩, %g, H1⟩
  iapply (glue2 (F := F) (ℓ := kbM.view.loc (c : Thread nD τ)) Sl Sl_disj Sl_all f g)
  isplitl [H0]; · iexact H0
  iexact H1
theorem slots_inV (c : Dev nD) (f : S2x512x128.Idx → Elt F .bf16) : (vbM.view.loc (c : Thread nD τ) ↦{fullShare} f : sProp 𝕄) ⊢ iprop(sV.Free c 0 ∗ sV.Free c 1) := by
  unfold Side.Free; rw [slot_setV, slot_setV]
  iintro H
  ihave H := (Entails.of_eq (parts2 (F := F) (ℓ := vbM.view.loc (c : Thread nD τ)) Sl Sl_disj Sl_all f)) $$ H
  icases H with ⟨H0, H1⟩
  isplitl [H0]
  · iexists f; iexact H0
  iexists f; iexact H1
theorem slots_outV (c : Dev nD) : iprop(sV.Free c 0 ∗ sV.Free c 1) ⊢ (iprop(∃ f : Buf (Elt F) (vbM.view.loc (c : Thread nD τ)), vbM.view.loc (c : Thread nD τ) ↦{fullShare} f) : sProp 𝕄) := by
  unfold Side.Free; rw [slot_setV, slot_setV]
  iintro ⟨⟨%f, H0⟩, %g, H1⟩
  iapply (glue2 (F := F) (ℓ := vbM.view.loc (c : Thread nD τ)) Sl Sl_disj Sl_all f g)
  isplitl [H0]; · iexact H0
  iexact H1

/-! ## The output -/

def quarter (e : Env F) : Fin 4 → Vec F S512x1024 .f32
  | 0 => e.o61_0
  | 1 => e.o61_1
  | 2 => e.o61_2
  | 3 => e.o62_3
/-- What the attention leaves on a device. -/
def attnOut (e : Env F) : S2048x1024.Idx → Elt F .f32 := fun i =>
  if hi : (i 0).val < 32 then e.fix (ix2 (⟨(i 0).val, hi⟩ : Fin 32) (i 1 : Fin 1024))
  else quarter e ⟨(i 0).val / 512, by have : (i 0).val < 2048 := (i 0).isLt; omega⟩ (ix2 (⟨(i 0).val % 512, Nat.mod_lt _ (by decide)⟩ : Fin 512) (i 1 : Fin 1024))

abbrev oSet (r : Fin 4) : Finset S2048x1024.Idx := (obV r).set
theorem o_disj (a b : Fin 4) (h : a ≠ b) : Disjoint (oSet a) (oSet b) := by
  rw [Finset.disjoint_left]
  intro i h1 h2
  have h1 := (mem_obV a i).1 h1
  have h2 := (mem_obV b i).1 h2
  exact h (Fin.ext (by omega))
theorem o_all (i : S2048x1024.Idx) : ∃ a, i ∈ oSet a := by
  have h : (i 0).val < 2048 := (i 0).isLt
  have h4 : (i 0).val / 512 < 4 := by omega
  exact ⟨⟨(i 0).val / 512, h4⟩, (mem_obV ⟨(i 0).val / 512, h4⟩ i).2 (by show 512 * ((i 0).val / 512) ≤ (i 0).val ∧ (i 0).val < 512 * ((i 0).val / 512) + 512; omega)⟩
theorem outs_eq (c : Dev nD) (f : S2048x1024.Idx → Elt F .f32) : (oM.view.loc (c : Thread nD τ) ↦{fullShare} f : sProp 𝕄)
    = iprop((oM.view.loc (c : Thread nD τ) ↦[(obV 0).set]{fullShare} f) ∗ (oM.view.loc (c : Thread nD τ) ↦[(obV 1).set]{fullShare} f) ∗ (oM.view.loc (c : Thread nD τ) ↦[(obV 2).set]{fullShare} f) ∗ (oM.view.loc (c : Thread nD τ) ↦[(obV 3).set]{fullShare} f)) :=
  parts4 (ℓ := oM.view.loc (c : Thread nD τ)) oSet o_disj o_all f

theorem out_in (c : Dev nD) (r : Fin 4) (f : Buf (Elt F) (oM.view.loc (c : Thread nD τ))) :
    (oM.view.loc (c : Thread nD τ) ↦[(obV r).set]{fullShare} f : sProp 𝕄) ⊢ Ob c r ((obV r).read (Elt F) f) := by
  unfold Ob
  iintro H; iexists f; isplitr; · ipureintro; rfl
  iexact H
theorem out_outs (c : Dev nD) (e : Env F) (r : Fin 4) (hr : 1 ≤ r.val) :
    (Ob c r (quarter e r) : sProp 𝕄) ⊢ oM.view.loc (c : Thread nD τ) ↦[(obV r).set]{fullShare} attnOut e := by
  unfold Ob
  iintro ⟨%f, %hf, H⟩
  iapply (Entails.of_eq (pointsTo_congr (Ix := Unit) (Name := ℕ) (U := UU) (Lvl := ℕ) (ℓ := oM.view.loc (c : Thread nD τ)) (I := (obV r).set) (q := fullShare) (f := f) (g := attnOut e) fun i hi => ?_)) $$ H
  have hm := (mem_obV r i).1 hi
  have h0 : ¬ (i 0).val < 32 := by omega
  have hq : (i 0).val / 512 = r.val := by omega
  have hi2 : (obV r).emb (ix2 (⟨(i 0).val % 512, Nat.mod_lt _ (by decide)⟩ : Fin 512) (i 1 : Fin 1024)) = (i : S2048x1024.Idx) := by
    funext a; apply Fin.ext; fin_cases a
    · show 512 * r.val + 1 * ((i 0).val % 512) = (i 0).val; omega
    · show 0 + 1 * (i 1).val = (i 1).val; omega
  have h2 : (obV r).read (Elt F) f (ix2 (⟨(i 0).val % 512, Nat.mod_lt _ (by decide)⟩ : Fin 512) (i 1 : Fin 1024)) = f ((obV r).emb (ix2 (⟨(i 0).val % 512, Nat.mod_lt _ (by decide)⟩ : Fin 512) (i 1 : Fin 1024))) := rfl
  rw [hi2, hf] at h2
  unfold attnOut
  rw [dif_neg h0, ← h2]
  have hr' : (⟨(i 0).val / 512, by have : (i 0).val < 2048 := (i 0).isLt; omega⟩ : Fin 4) = r := Fin.ext hq
  rw [hr']
theorem out_first (c : Dev nD) (e : Env F) :
    (ObF c e.o61_0 e.fix : sProp 𝕄) ⊢ oM.view.loc (c : Thread nD τ) ↦[(obV 0).set]{fullShare} attnOut e := by
  unfold ObF
  iintro ⟨%f, %hf, H⟩
  iapply (Entails.of_eq (pointsTo_congr (Ix := Unit) (Name := ℕ) (U := UU) (Lvl := ℕ) (ℓ := oM.view.loc (c : Thread nD τ)) (I := (obV 0).set) (q := fullShare) (f := f) (g := attnOut e) fun i hi => ?_)) $$ H
  have hm := (mem_obV 0 i).1 hi
  have hm2 : (i 0).val < 512 := by have := hm.2; simpa using this
  have hi2 : (i : S2048x1024.Idx) = ix2 (i 0 : Fin 2048) (i 1 : Fin 1024) := by funext a; fin_cases a <;> rfl
  have h := hf (i 0) ⟨(i 0).val, hm2⟩ (i 1) rfl
  rw [show f i = f (ix2 (i 0 : Fin 2048) (i 1 : Fin 1024)) from congrArg f hi2]
  refine h.trans ?_
  unfold attnOut
  by_cases h0 : (i 0).val < 32
  · rw [dif_pos h0, dif_pos h0]
  · rw [dif_neg h0, dif_neg h0]
    have hr' : (⟨(i 0).val / 512, by have : (i 0).val < 2048 := (i 0).isLt; omega⟩ : Fin 4) = 0 := Fin.ext (by show (i 0).val / 512 = 0; omega)
    have hq' : (⟨(i 0).val % 512, Nat.mod_lt _ (by decide)⟩ : Fin 512) = ⟨(i 0).val, hm2⟩ := Fin.ext (by show (i 0).val % 512 = (i 0).val; omega)
    rw [hr', hq']
    rfl

end Cert.Attn

end
-- ==== Proof.Region.lean ====
module

public import proofs.«01_k».proof.Proof.Levels

@[expose] public section

noncomputable section

namespace Cert.Attn

open Cert.KernelIdeal Cert.KernelIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocalO)

variable {F : FTy → Type} [FloatOps F] [Named F]
local notation "𝕄" => MT nD τ sig Unit (Elt F) ℕ UU ℕ
variable {defs : Defs nD τ sig (Elt F) Λ₀}

/-! # The attention's region: its own semaphores, entry and exit -/

abbrev OK : Type := (Fin 3 × Fin 2) ⊕ ((Fin 4 × Fin 2) ⊕ (Fin 2 ⊕ (Fin 2 × Fin 2)))
/-- The kernel's own semaphores: sending, receiving, copying, streaming. -/
abbrev osem0 : OK → SemLoc sig
  | .inl x => .dma (WA.ss x.1 x.2)
  | .inr (.inl x) => .dma (rcvS ![x.1.val, x.2.val] (rcv_inb x.1 x.2))
  | .inr (.inr (.inl x)) => .dma (cpyS ![x.val] (cpy_inb x))
  | .inr (.inr (.inr x)) => .dma (strS ![x.1.val, x.2.val] (os_inb x.1 x.2))

theorem ownFacts0 : Pipeline.OwnSemFacts cfg0.spec osem0 := by decide

/-- Those no piece of the exchange is counted on. -/
def Idles (c : Dev nD) : sProp 𝕄 :=
  iprop((semVal ((c : Thread nD τ), .dma (cpyS ![0] (cpy_inb 0))) 0 ∗ semVal ((c : Thread nD τ), .dma (cpyS ![1] (cpy_inb 1))) 0)
    ∗ (semVal ((c : Thread nD τ), .dma (strS ![0, 0] (os_inb 0 0))) 0 ∗ semVal ((c : Thread nD τ), .dma (strS ![0, 1] (os_inb 0 1))) 0
      ∗ semVal ((c : Thread nD τ), .dma (strS ![1, 0] (os_inb 1 0))) 0 ∗ semVal ((c : Thread nD τ), .dma (strS ![1, 1] (os_inb 1 1))) 0))

abbrev Rv (c : Dev nD) (j : Dev nD) : sProp 𝕄 :=
  iprop(semVal ((c : Thread nD τ), .dma (rcvS ![j.val, 0] (rcv_inb j 0))) 0 ∗ semVal ((c : Thread nD τ), .dma (rcvS ![j.val, 1] (rcv_inb j 1))) 0)

theorem own_eq (c : Dev nD) : (Pipeline.ownSems0 (Ix := Unit) (Name := ℕ) (U := UU) (Lvl := ℕ) (Val := Elt F) (τ := τ) osem0 c : sProp 𝕄)
    = iprop((bigSep Finset.univ fun x : Fin 3 × Fin 2 => semVal (WA.sndC c x.1 x.2) 0)
      ∗ (bigSep Finset.univ fun x : Fin 4 × Fin 2 => semVal ((c : Thread nD τ), .dma (rcvS ![x.1.val, x.2.val] (rcv_inb x.1 x.2))) 0)
      ∗ (bigSep Finset.univ fun x : Fin 2 => semVal ((c : Thread nD τ), .dma (cpyS ![x.val] (cpy_inb x))) 0)
      ∗ (bigSep Finset.univ fun x : Fin 2 × Fin 2 => semVal ((c : Thread nD τ), .dma (strS ![x.1.val, x.2.val] (os_inb x.1 x.2))) 0)) := by
  unfold Pipeline.ownSems0; rw [bigSep_sum', bigSep_sum', bigSep_sum']

theorem own_in (c : Dev nD) : (Pipeline.ownSems0 (Ix := Unit) (Name := ℕ) (U := UU) (Lvl := ℕ) (Val := Elt F) (τ := τ) osem0 c : sProp 𝕄)
    ⊢ iprop((bigSep Finset.univ fun x : Fin 3 × Fin 2 => iprop(semVal (WA.sndC c x.1 x.2) 0 ∗ semVal (WA.rcvC c x.1 x.2) 0)) ∗ Rv c c ∗ Idles c) := by
  rw [own_eq, bigSep_sep', bigSep32, bigSep32, bigSep42, bigSep2, bigSep22]
  unfold Idles
  iintro ⟨⟨S00, S01, S10, S11, S20, S21⟩, ⟨R00, R01, R10, R11, R20, R21, R30, R31⟩, ⟨C0, C1⟩, T00, T01, T10, T11⟩
  ihave HR := (ring_in (fun j => Rv c j) c) $$ [R00 R01 R10 R11 R20 R21 R30 R31]
  · isplitl [R00 R01]
    · isplitl [R00]; · iexact R00
      iexact R01
    isplitl [R10 R11]
    · isplitl [R10]; · iexact R10
      iexact R11
    isplitl [R20 R21]
    · isplitl [R20]; · iexact R20
      iexact R21
    isplitl [R30]; · iexact R30
    iexact R31
  icases HR with ⟨Hc, ⟨Q20, Q21⟩, ⟨Q10, Q11⟩, Q00, Q01⟩
  isplitl [S00 S01 S10 S11 S20 S21 Q00 Q01 Q10 Q11 Q20 Q21]
  · isplitl [S00 S01 S10 S11 S20 S21]
    · isplitl [S00]; · iexact S00
      isplitl [S01]; · iexact S01
      isplitl [S10]; · iexact S10
      isplitl [S11]; · iexact S11
      isplitl [S20]; · iexact S20
      iexact S21
    isplitl [Q00]; · iexact Q00
    isplitl [Q01]; · iexact Q01
    isplitl [Q10]; · iexact Q10
    isplitl [Q11]; · iexact Q11
    isplitl [Q20]; · iexact Q20
    iexact Q21
  isplitl [Hc]; · iexact Hc
  isplitl [C0 C1]
  · isplitl [C0]; · iexact C0
    iexact C1
  isplitl [T00]; · iexact T00
  isplitl [T01]; · iexact T01
  isplitl [T10]; · iexact T10
  iexact T11

theorem own_out (c : Dev nD) : iprop((bigSep Finset.univ fun x : Fin 3 × Fin 2 => iprop(semVal (WA.sndC c x.1 x.2) 0 ∗ semVal (WA.rcvC c x.1 x.2) 0)) ∗ Rv c c ∗ Idles c)
    ⊢ (Pipeline.ownSems0 (Ix := Unit) (Name := ℕ) (U := UU) (Lvl := ℕ) (Val := Elt F) (τ := τ) osem0 c : sProp 𝕄) := by
  rw [own_eq, bigSep_sep', bigSep32, bigSep32, bigSep42, bigSep2, bigSep22]
  unfold Idles
  iintro ⟨⟨⟨S00, S01, S10, S11, S20, S21⟩, Q00, Q01, Q10, Q11, Q20, Q21⟩, Hc, ⟨C0, C1⟩, T00, T01, T10, T11⟩
  ihave HR := (ring_out (fun j => Rv c j) c) $$ [Hc Q00 Q01 Q10 Q11 Q20 Q21]
  · isplitl [Hc]; · iexact Hc
    isplitl [Q20 Q21]
    · isplitl [Q20]; · iexact Q20
      iexact Q21
    isplitl [Q10 Q11]
    · isplitl [Q10]; · iexact Q10
      iexact Q11
    isplitl [Q00]; · iexact Q00
    iexact Q01
  icases HR with ⟨⟨R00, R01⟩, ⟨R10, R11⟩, ⟨R20, R21⟩, R30, R31⟩
  isplitl [S00 S01 S10 S11 S20 S21]
  · isplitl [S00]; · iexact S00
    isplitl [S01]; · iexact S01
    isplitl [S10]; · iexact S10
    isplitl [S11]; · iexact S11
    isplitl [S20]; · iexact S20
    iexact S21
  isplitl [R00 R01 R10 R11 R20 R21 R30 R31]
  · isplitl [R00]; · iexact R00
    isplitl [R01]; · iexact R01
    isplitl [R10]; · iexact R10
    isplitl [R11]; · iexact R11
    isplitl [R20]; · iexact R20
    isplitl [R21]; · iexact R21
    isplitl [R30]; · iexact R30
    iexact R31
  isplitl [C0 C1]
  · isplitl [C0]; · iexact C0
    iexact C1
  isplitl [T00]; · iexact T00
  isplitl [T01]; · iexact T01
  isplitl [T10]; · iexact T10
  iexact T11

/-- The buffers of the exchange and of the stream. -/
def Bufs (c : Dev nD) (k v : Rws F) (K V : Arr F) : sProp 𝕄 :=
  iprop((kM.view.loc (c : Thread nD τ) ↦{fullShare} k) ∗ (vM.view.loc (c : Thread nD τ) ↦{fullShare} v) ∗ (kcM.view.loc (c : Thread nD τ) ↦{fullShare} K) ∗ (vcM.view.loc (c : Thread nD τ) ↦{fullShare} V))
def Scr (c : Dev nD) : sProp 𝕄 :=
  iprop((∃ f : Buf (Elt F) (kbM.view.loc (c : Thread nD τ)), kbM.view.loc (c : Thread nD τ) ↦{fullShare} f) ∗ ∃ f : Buf (Elt F) (vbM.view.loc (c : Thread nD τ)), vbM.view.loc (c : Thread nD τ) ↦{fullShare} f)
/-- The staging buffers of the operands and the result. -/
def Stg (c : Dev nD) (x : S1x2048x1024.Idx → Elt F .bf16) (wq W : S1024x1024.Idx → Elt F .bf16) (f : S2048x1024.Idx → Elt F .f32) : sProp 𝕄 :=
  iprop((xM.view.loc (c : Thread nD τ) ↦{fullShare} x) ∗ (qM.view.loc (c : Thread nD τ) ↦{fullShare} wq) ∗ (wM.view.loc (c : Thread nD τ) ↦{fullShare} W) ∗ (oM.view.loc (c : Thread nD τ) ↦{fullShare} f))

theorem slots_in (c : Dev nD) : iprop(Scr c ∗ semVal ((c : Thread nD τ), .dma (strS ![0, 0] (os_inb 0 0))) 0 ∗ semVal ((c : Thread nD τ), .dma (strS ![0, 1] (os_inb 0 1))) 0
      ∗ semVal ((c : Thread nD τ), .dma (strS ![1, 0] (os_inb 1 0))) 0 ∗ semVal ((c : Thread nD τ), .dma (strS ![1, 1] (os_inb 1 1))) 0) ⊢ (Slots c : sProp 𝕄) := by
  unfold Scr Slots Side.Rest
  iintro ⟨⟨⟨%f, HK⟩, %g, HV⟩, T00, T01, T10, T11⟩
  ihave HK := (slots_inK c f) $$ HK
  icases HK with ⟨K0, K1⟩
  ihave HV := (slots_inV c g) $$ HV
  icases HV with ⟨V0, V1⟩
  isplitl [K0 T00 K1 T10]
  · isplitl [K0 T00]
    · isplitl [K0]; · iexact K0
      iexact T00
    isplitl [K1]; · iexact K1
    iexact T10
  isplitl [V0 T01]
  · isplitl [V0]; · iexact V0
    iexact T01
  isplitl [V1]; · iexact V1
  iexact T11

theorem slots_out (c : Dev nD) : (Slots c : sProp 𝕄) ⊢ iprop(Scr c ∗ semVal ((c : Thread nD τ), .dma (strS ![0, 0] (os_inb 0 0))) 0 ∗ semVal ((c : Thread nD τ), .dma (strS ![0, 1] (os_inb 0 1))) 0
      ∗ semVal ((c : Thread nD τ), .dma (strS ![1, 0] (os_inb 1 0))) 0 ∗ semVal ((c : Thread nD τ), .dma (strS ![1, 1] (os_inb 1 1))) 0) := by
  unfold Scr Slots Side.Rest
  iintro ⟨⟨⟨K0, T00⟩, K1, T10⟩, ⟨V0, T01⟩, V1, T11⟩
  ihave HK := (slots_outK c) $$ [K0 K1]
  · isplitl [K0]; · iexact K0
    iexact K1
  ihave HV := (slots_outV c) $$ [V0 V1]
  · isplitl [V0]; · iexact V0
    iexact V1
  isplitl [HK HV]
  · isplitl [HK]; · iexact HK
    iexact HV
  isplitl [T00]; · iexact T00
  isplitl [T01]; · iexact T01
  isplitl [T10]; · iexact T10
  iexact T11

theorem quiet_out (c : Dev nD) (K V : Arr F) : (Quiet c K V Finset.univ : sProp 𝕄) ⊢ iprop(Slots c ∗ (kcM.view.loc (c : Thread nD τ) ↦{fullShare} K) ∗ (vcM.view.loc (c : Thread nD τ) ↦{fullShare} V)) := by
  unfold Quiet Slots Side.Idle Side.Src
  iintro ⟨⟨A, B, C⟩, D, E, G⟩
  isplitl [A B D E]
  · isplitl [A B]
    · isplitl [A]; · iexact A
      iexact B
    isplitl [D]; · iexact D
    iexact E
  isplitl [C]; · iexact C
  iexact G

/-- What the launch deals a device for the exchange. -/
def Deal (c : Dev nD) (κ : GSem nD τ sig → ℕ) (X : Data F) : sProp 𝕄 := iprop(known WA (GA X) EA κ ∗ dealt WA EA c ∗ credit WA c ∗ levAts L lv)

set_option maxHeartbeats 1000000 in
theorem enter (κ : GSem nD τ sig → ℕ) (D : CellTallies nD τ sig Unit) (e : Env F) (Ws : Waits sig Unit) (K V : Arr F) (f : S2048x1024.Idx → Elt F .f32) :
    iprop(Deal e.c κ e.X ∗ Pipeline.ownSems0 (Ix := Unit) (Name := ℕ) (U := UU) (Lvl := ℕ) (Val := Elt F) (τ := τ) osem0 e.c ∗ Bufs e.c (e.X.k e.c) (e.X.v e.c) K V ∗ Scr e.c
        ∗ Stg e.c e.x e.wq e.W f ∗ owes (e.c : Thread nD τ) (dueOn WA D e.c paysA) Ws)
      ⊢ (|={Set.univ}=> iprop(Start κ L lv D e ((obV 0).read (Elt F) f) ((obV 1).read (Elt F) f) ((obV 2).read (Elt F) f) ((obV 3).read (Elt F) f) ∗ Rv e.c e.c) : sProp 𝕄) := by
  unfold Deal Bufs Stg dealt credit
  iintro ⟨⟨#HK, ⟨HatB, Hop, HtB, Htp⟩, ⟨HcB, HcR⟩, #Hlev⟩, Hown, ⟨Hk, Hv, HkC, HvC⟩, Hscr, ⟨Hx, Hq, Hw, Ho⟩, HO⟩
  ihave Hown := (own_in e.c) $$ Hown
  icases Hown with ⟨Hs, Hc, Hid⟩
  unfold Idles
  icases Hid with ⟨⟨C0, C1⟩, HT⟩
  imod (open_pieces WA (GA e.X) EA κ e.c) $$ [Hop Hs] with Hp
  · isplitr; · iexact HK
    isplitl [Hop] <;> iassumption
  imodintro
  ihave Hk := (rows_inK e.c (e.X.k e.c)) $$ Hk
  icases Hk with ⟨LKc, LK0, LK1, LK2⟩
  ihave Hv := (rows_inV e.c (e.X.v e.c)) $$ Hv
  icases Hv with ⟨LVc, LV0, LV1, LV2⟩
  ihave HkC := (rooms_inK e.c K) $$ HkC
  icases HkC with ⟨RKc, RK0, RK1, RK2⟩
  ihave HvC := (rooms_inV e.c V) $$ HvC
  icases HvC with ⟨RVc, RV0, RV1, RV2⟩
  ihave HS := (slots_in e.c) $$ [Hscr HT]
  · isplitl [Hscr] <;> iassumption
  ihave Hp := (Entails.of_eq (bigSep32 _)) $$ Hp
  ihave HtB := (Entails.of_eq (bigSep3 _)) $$ HtB
  ihave Htp := (Entails.of_eq (bigSep32 _)) $$ Htp
  ihave HcR := (Entails.of_eq (bigSep32 _)) $$ HcR
  ihave Ho := (Entails.of_eq (outs_eq e.c f)) $$ Ho
  icases Hp with ⟨⟨⟨S00, #s00⟩, A00, #r00⟩, ⟨⟨S01, #s01⟩, A01, #r01⟩, ⟨⟨S10, #s10⟩, A10, #r10⟩, ⟨⟨S11, #s11⟩, A11, #r11⟩, ⟨⟨S20, #s20⟩, A20, #r20⟩, ⟨⟨S21, #s21⟩, A21, #r21⟩⟩
  icases HtB with ⟨B0, B1, B2⟩
  icases Htp with ⟨P00, P01, P10, P11, P20, P21⟩
  icases HcR with ⟨c00, c01, c10, c11, c20, c21⟩
  icases Ho with ⟨O0, O1, O2, O3⟩
  ihave O0 := (out_in e.c 0 f) $$ O0
  ihave O1 := (out_in e.c 1 f) $$ O1
  ihave O2 := (out_in e.c 2 f) $$ O2
  ihave O3 := (out_in e.c 3 f) $$ O3
  unfold Start Tik Prep Oth Owe Xi Qi Wo
  rw [bigSep2, bigSep2, bigSep2]
  isplitr [Hc]
  · isplitr; · iexact HK
    isplitl [HO]
    · isplitr; · iexact Hlev
      iexists Ws; iexact HO
    isplitl [B0 RK0 RV0 B1 RK1 RV1 B2 RK2 RV2]
    · isplitl [B0 RK0 RV0]
      · isplitl [B0]; · iexact B0
        isplitl [RK0 RV0]
        · isplitl [RK0]; · iexact RK0
          iexact RV0
        isplitr; · iexact r20
        iexact r21
      isplitl [B1 RK1 RV1]
      · isplitl [B1]; · iexact B1
        isplitl [RK1 RV1]
        · isplitl [RK1]; · iexact RK1
          iexact RV1
        isplitr; · iexact r10
        iexact r11
      isplitl [B2]; · iexact B2
      isplitl [RK2 RV2]
      · isplitl [RK2]; · iexact RK2
        iexact RV2
      isplitr; · iexact r00
      iexact r01
    isplitl [HcB]; · iexact HcB
    isplitl [HatB]; · iexact HatB
    isplitl [P00 LK0 P01 LV0 P10 LK1 P11 LV1 P20 LK2 P21 LV2]
    · isplitl [P00 LK0 P01 LV0]
      · isplitl [P00 LK0]
        · isplitl [P00]; · iexact P00
          isplitr; · iexact s00
          iexact LK0
        isplitl [P01]; · iexact P01
        isplitr; · iexact s01
        iexact LV0
      isplitl [P10 LK1 P11 LV1]
      · isplitl [P10 LK1]
        · isplitl [P10]; · iexact P10
          isplitr; · iexact s10
          iexact LK1
        isplitl [P11]; · iexact P11
        isplitr; · iexact s11
        iexact LV1
      isplitl [P20 LK2]
      · isplitl [P20]; · iexact P20
        isplitr; · iexact s20
        iexact LK2
      isplitl [P21]; · iexact P21
      isplitr; · iexact s21
      iexact LV2
    isplitl [LKc RKc C0]
    · isplitl [LKc]; · iexact LKc
      isplitl [RKc]; · iexact RKc
      iexact C0
    isplitl [c00 A00 c10 A10 c20 A20]
    · isplitl [c00 A00]
      · isplitl [c00]; · iexact c00
        iexact A00
      isplitl [c10 A10]
      · isplitl [c10]; · iexact c10
        iexact A10
      isplitl [c20]; · iexact c20
      iexact A20
    isplitl [LVc RVc C1]
    · isplitl [LVc]; · iexact LVc
      isplitl [RVc]; · iexact RVc
      iexact C1
    isplitl [c01 A01 c11 A11 c21 A21]
    · isplitl [c01 A01]
      · isplitl [c01]; · iexact c01
        iexact A01
      isplitl [c11 A11]
      · isplitl [c11]; · iexact c11
        iexact A11
      isplitl [c21]; · iexact c21
      iexact A21
    isplitl [S00 S01 S10 S11 S20 S21]
    · isplitl [S00 S01]
      · isplitl [S00]; · iexact S00
        iexact S01
      isplitl [S10 S11]
      · isplitl [S10]; · iexact S10
        iexact S11
      isplitl [S20]; · iexact S20
      iexact S21
    isplitl [HS]; · iexact HS
    isplitl [Hx]; · iexact Hx
    isplitl [Hq]; · iexact Hq
    isplitl [Hw]; · iexact Hw
    isplitl [O0]; · iexact O0
    isplitl [O1]; · iexact O1
    isplitl [O2]; · iexact O2
    iexact O3
  iexact Hc

set_option maxHeartbeats 1000000 in
theorem leave (κ : GSem nD τ sig → ℕ) (D : CellTallies nD τ sig Unit) (e : Env F) :
    iprop(known WA (GA e.X) EA κ ∗ Rv e.c e.c ∗ Finish L lv D e)
      ⊢ (|={Set.univ}=> iprop(semVal (WA.barC e.c) 0 ∗ Pipeline.ownSems0 (Ix := Unit) (Name := ℕ) (U := UU) (Lvl := ℕ) (Val := Elt F) (τ := τ) osem0 e.c
        ∗ Bufs e.c (e.X.k e.c) (e.X.v e.c) (gath e.X.k e.c) (gath e.X.v e.c) ∗ Scr e.c ∗ Stg e.c e.x e.wq e.W (attnOut e) ∗ ∃ W, owes (e.c : Thread nD τ) D W) : sProp 𝕄) := by
  unfold Finish Owe Xi Qi Wo
  iintro ⟨#HK, Hc, ⟨-, HO⟩, HatB, ⟨⟨LKc, C0⟩, A20, A10, A00⟩, ⟨⟨LVc, C1⟩, A21, A11, A01⟩, ⟨LK0, S00⟩, ⟨LV0, S01⟩, ⟨LK1, S10⟩, ⟨LV1, S11⟩, ⟨LK2, S20⟩, ⟨LV2, S21⟩, HQ, Hx, Hq, Hw, O0, O1, O2, O3⟩
  imod (close_bar WA (GA e.X) EA κ e.c) $$ [HatB] with HB
  · isplitr; · iexact HK
    iexact HatB
  imod (close_pieces WA (GA e.X) EA κ e.c) $$ [S00 S01 S10 S11 S20 S21 A00 A01 A10 A11 A20 A21] with Hs
  · isplitr; · iexact HK
    rw [bigSep32]
    isplitl [S00 A00]
    · isplitl [S00]; · iexact S00
      iexact A00
    isplitl [S01 A01]
    · isplitl [S01]; · iexact S01
      iexact A01
    isplitl [S10 A10]
    · isplitl [S10]; · iexact S10
      iexact A10
    isplitl [S11 A11]
    · isplitl [S11]; · iexact S11
      iexact A11
    isplitl [S20 A20]
    · isplitl [S20]; · iexact S20
      iexact A20
    isplitl [S21]; · iexact S21
    iexact A21
  imodintro
  ihave Hk := (rows_outK e.c (e.X.k e.c)) $$ [LKc LK0 LK1 LK2]
  · isplitl [LKc]; · iexact LKc
    isplitl [LK0]; · iexact LK0
    isplitl [LK1]; · iexact LK1
    iexact LK2
  ihave Hv := (rows_outV e.c (e.X.v e.c)) $$ [LVc LV0 LV1 LV2]
  · isplitl [LVc]; · iexact LVc
    isplitl [LV0]; · iexact LV0
    isplitl [LV1]; · iexact LV1
    iexact LV2
  ihave HQ := (quiet_out e.c (gath e.X.k e.c) (gath e.X.v e.c)) $$ HQ
  icases HQ with ⟨HS, HkC, HvC⟩
  ihave HS := (slots_out e.c) $$ HS
  icases HS with ⟨Hscr, HT⟩
  ihave Hown := (own_out e.c) $$ [Hs Hc C0 C1 HT]
  · isplitl [Hs]; · iexact Hs
    isplitl [Hc]; · iexact Hc
    unfold Idles
    isplitl [C0 C1]
    · isplitl [C0]; · iexact C0
      iexact C1
    iexact HT
  ihave O0 := (out_first e.c e) $$ O0
  ihave O1 := ((show (Ob e.c 1 e.o61_1 : sProp 𝕄) ⊢ Ob e.c 1 (quarter e 1) from Entails.refl _).trans (out_outs e.c e 1 (by decide))) $$ O1
  ihave O2 := ((show (Ob e.c 2 e.o61_2 : sProp 𝕄) ⊢ Ob e.c 2 (quarter e 2) from Entails.refl _).trans (out_outs e.c e 2 (by decide))) $$ O2
  ihave O3 := ((show (Ob e.c 3 e.o62_3 : sProp 𝕄) ⊢ Ob e.c 3 (quarter e 3) from Entails.refl _).trans (out_outs e.c e 3 (by decide))) $$ O3
  ihave Ho := (Entails.of_eq (outs_eq e.c (attnOut e)).symm) $$ [O0 O1 O2 O3]
  · isplitl [O0]; · iexact O0
    isplitl [O1]; · iexact O1
    isplitl [O2]; · iexact O2
    iexact O3
  unfold Bufs Stg
  isplitl [HB]; · iexact HB
  isplitl [Hown]; · iexact Hown
  isplitl [Hk Hv HkC HvC]
  · isplitl [Hk]; · iexact Hk
    isplitl [Hv]; · iexact Hv
    isplitl [HkC]; · iexact HkC
    iexact HvC
  isplitl [Hscr]; · iexact Hscr
  isplitl [Hx Hq Hw Ho]
  · isplitl [Hx]; · iexact Hx
    isplitl [Hq]; · iexact Hq
    isplitl [Hw]; · iexact Hw
    iexact Ho
  iexact HO

/-- THE REGION'S BODY, from what it is entered with to what it leaves. -/
theorem region_body (κ : GSem nD τ sig → ℕ) (e : Env F) (Ws : Waits sig Unit) (K V : Arr F) (f : S2048x1024.Idx → Elt F .f32) :
    iprop(Deal e.c κ e.X ∗ Pipeline.ownSems0 (Ix := Unit) (Name := ℕ) (U := UU) (Lvl := ℕ) (Val := Elt F) (τ := τ) osem0 e.c ∗ Bufs e.c (e.X.k e.c) (e.X.v e.c) K V ∗ Scr e.c
        ∗ Stg e.c e.x e.wq e.W f ∗ owes (e.c : Thread nD τ) (O₀ e.c) Ws)
      ⊢ wp frame (wpE defs 𝒱₀ (e.c : Thread nD τ) none) Set.univ (cc0__attn_body xM (Memref.isWhole_whole _) qM (Memref.isWhole_whole _) wM (Memref.isWhole_whole _) kM (Memref.isWhole_whole _) vM (Memref.isWhole_whole _) oM (Memref.isWhole_whole _) kcM (Memref.isWhole_whole _) vcM (Memref.isWhole_whole _) kbM (Memref.isWhole_whole _) vbM (Memref.isWhole_whole _) cc0_scratch2 cc0_scratch3 cc0_scratch4 cc0_scratch5)
        (fun _ => iprop(semVal (WA.barC e.c) 0 ∗ Pipeline.ownSems0 (Ix := Unit) (Name := ℕ) (U := UU) (Lvl := ℕ) (Val := Elt F) (τ := τ) osem0 e.c
          ∗ Bufs e.c (e.X.k e.c) (e.X.v e.c) (gath e.X.k e.c) (gath e.X.v e.c) ∗ Scr e.c ∗ Stg e.c e.x e.wq e.W (attnOut e) ∗ ∃ W, owes (e.c : Thread nD τ) (D₁ e.c) W)) := by
  iintro H
  ihave #HK := (show _ ⊢ known WA (GA e.X) EA κ from by unfold Deal; iintro ⟨⟨#HK, -⟩, -⟩; iexact HK) $$ H
  imod (enter κ (D₁ e.c) e Ws K V f) $$ H with ⟨HS, Hc⟩
  iapply (wp_fupd _ _ _ _ _)
  ihave HW := (wp_attn κ (D₁ e.c) e _ _ _ _ (may e.c) (may_barA e.c)) $$ HS
  iapply (wp_wand _ _) $$ HW
  iintro %u HF
  iapply (leave κ (D₁ e.c) e)
  isplitr; · iexact HK
  isplitl [Hc]; · iexact Hc
  iexact HF

end Cert.Attn

end
-- ==== Proof.Run.lean ====
module

public import proofs.«01_k».proof.Proof.Region
public import proofs.«01_k».proof.Proof.Gen.KernelIdeal.Regions
public import proofs.«01_k».proof.Proof.Gen.KernelIdeal.Points
public import Idealize.ShloMosaic.Lib.Pipeline.RegionsLoop

@[expose] public section

noncomputable section

namespace Cert.Attn

open Cert.KernelIdeal Cert.KernelIdeal.Gen Cert.Exchange

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocalO)

variable {F : FTy → Type} [FloatOps F] [Named F]
local notation "𝕄" => MT nD τ sig Unit (Elt F) ℕ UU ℕ

open Idealize.ShloMosaic.Pipeline (BodyObligation)

/-! # The run of the program: the attention's region, then the all-reduce's -/

variable (m : (ℓ : Loc nD τ sig) → Buf (Elt F) ℓ) (ρ : Dev nD → PrngReg)

/-! ## What the attention starts from and what it leaves -/

/-- The rows every device starts with. -/
abbrev XX : Data F := ⟨fun c => V1 m c main_v6, fun c => V1 m c main_v9⟩
/-- A device's operands of the attention. -/
abbrev envOf (c : Dev nD) : Env F :=
  ⟨c, XX m, ((cfg0.win 0).blk t0_0).view.read (Elt F) (V1 m c main_v1), ((cfg0.win 1).blk t0_0).view.read (Elt F) (V1 m c main_v2), ((cfg0.win 2).blk t0_0).view.read (Elt F) (V1 m c main_v3)⟩

/-- The scoped buffers of the all-reduce, idle meanwhile. -/
def Idle1 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f)
    ∗ (∃ f : Buf (Elt F) ((c : Thread nD τ).loc cc1_scratch0), ((c : Thread nD τ).loc cc1_scratch0) ↦{fullShare} f))

def In0 (c : Dev nD) : sProp 𝕄 :=
  iprop((∃ κ, Deal c κ (XX m)) ∗ (Pipeline.ownSems0 (Ix := Unit) (Name := ℕ) (U := UU) (Lvl := ℕ) (Val := Elt F) (τ := τ) osem0 c) ∗ Bufs c ((XX m).k c) ((XX m).v c) (V1 m c main_v10_1) (V1 m c main_v10_2))
def Out0 (c : Dev nD) : sProp 𝕄 :=
  iprop(semVal (WA.barC c) 0 ∗ Bufs c ((XX m).k c) ((XX m).v c) (gath (XX m).k c) (gath (XX m).v c))

def Φ0 (c : Dev nD) (t : Fin (cfg0.N + 1)) : sProp 𝕄 :=
  if t = 0 then iprop(In0 m c ∗ Scr c ∗ Idle1 c)
  else iprop(Out0 m c ∗ (Pipeline.ownSems0 (Ix := Unit) (Name := ℕ) (U := UU) (Lvl := ℕ) (Val := Elt F) (τ := τ) osem0 c) ∗ Scr c ∗ Idle1 c)

def dat0 (c : Dev nD) : Pipeline.Dat τ (Elt F) Unit ℕ UU ℕ cfg0 c where
  A w := V1 m c (Pipeline.arrRef spec0 w)
  after w _ := match w with
    | ⟨0, _⟩ => (envOf m c).x
    | ⟨1, _⟩ => (envOf m c).wq
    | ⟨2, _⟩ => (envOf m c).W
    | ⟨3, _⟩ => attnOut (envOf m c)
  Φ t := Φ0 m c t
  q _ := fullShare
  owed t := if t = 0 then O₀ c else D₁ c

/-- A device's buffers after the attention. -/
def W2 (c : Dev nD) : Valuation τ sig (Elt F) :=
  Function.update (Function.update (Function.update (V1 m c) main_v10_0 ((dat0 m c).arrAt 3 cfg0.N)) main_v10_1 (gath (XX m).k c)) main_v10_2 (gath (XX m).v c)
abbrev W3 (c : Dev nD) : Valuation τ sig (Elt F) := StableHlo.after hostOps1 (W2 m c)

/-- The partial result a device brings to the all-reduce. -/
abbrev parts : Cert.Sum.Parts F := fun c => ((cfg1.win 0).blk t1_0).view.read (Elt F) (W3 m c main_v11)

def Φ1 (c : Dev nD) (t : Fin (cfg1.N + 1)) : sProp 𝕄 :=
  if t = 0 then iprop((∃ κ, Cert.Sum.ready L lv (parts m) κ c) ∗ Pipeline.scopedRest (Ix := Unit) (Name := ℕ) (U := UU) (Lvl := ℕ) (Val := Elt F) spec1 c)
  else iprop(Cert.Sum.spent c ∗ Pipeline.scopedRest (Ix := Unit) (Name := ℕ) (U := UU) (Lvl := ℕ) (Val := Elt F) spec1 c)

def dat1 (c : Dev nD) : Pipeline.Dat τ (Elt F) Unit ℕ UU ℕ cfg1 c where
  A w := W3 m c (Pipeline.arrRef spec1 w)
  after w _ := match w with
    | ⟨0, _⟩ => parts m c
    | ⟨1, _⟩ => Cert.Sum.total (parts m) c
  Φ t := Φ1 m c t
  q _ := fullShare
  owed t := if t = 0 then D₁ c else 0

/-- A device's buffers at the end. -/
def W4 (c : Dev nD) : Valuation τ sig (Elt F) := Function.update (W3 m c) main_v12 ((dat1 m c).arrAt 1 cfg1.N)

def pdats : (p : Fin 2) → (c : Dev nD) → Pipeline.Dat τ (Elt F) Unit ℕ UU ℕ (Pipeline.pin (pcfgs (F := F)) adm p) c
  | 0 => dat0 m
  | 1 => dat1 m

/-! ## The valuations at a buffer -/

theorem W2_of (c : Dev nD) (r : Ref sig .tc) (h0 : r ≠ main_v10_0) (h1 : r ≠ main_v10_1) (h2 : r ≠ main_v10_2) : W2 m c r = V1 m c r := by
  unfold W2
  rw [Function.update_of_ne (StableHlo.devRef_ne_of_ne h2), Function.update_of_ne (StableHlo.devRef_ne_of_ne h1), Function.update_of_ne (StableHlo.devRef_ne_of_ne h0)]
theorem W2_o (c : Dev nD) : W2 m c main_v10_0 = (dat0 m c).arrAt 3 cfg0.N := by
  unfold W2
  rw [Function.update_of_ne (StableHlo.devRef_ne_of_ne (by decide)), Function.update_of_ne (StableHlo.devRef_ne_of_ne (by decide)), Function.update_self]
theorem W2_k (c : Dev nD) : W2 m c main_v10_1 = gath (XX m).k c := by
  unfold W2
  rw [Function.update_of_ne (StableHlo.devRef_ne_of_ne (by decide)), Function.update_self]
theorem W2_v (c : Dev nD) : W2 m c main_v10_2 = gath (XX m).v c := by
  unfold W2
  rw [Function.update_self]
theorem W3_of (c : Dev nD) (r : Ref sig .tc) (h : r ∉ hostOps1_W) : W3 m c r = W2 m c r := StableHlo.after_of_writes_sub hostOps1 _ hostOps1_writes h
theorem W4_of (c : Dev nD) (r : Ref sig .tc) (h : r ≠ main_v12) : W4 m c r = W3 m c r := by
  unfold W4
  rw [Function.update_of_ne (StableHlo.devRef_ne_of_ne h)]
theorem W4_o (c : Dev nD) : W4 m c main_v12 = (dat1 m c).arrAt 1 cfg1.N := by
  unfold W4
  rw [Function.update_self]
/-- A buffer nothing writes ends as it started. -/
theorem W4_arg (c : Dev nD) (r : Ref sig .tc) (h : r ≠ main_v12) (h' : r ∉ hostOps1_W) (h0 : r ≠ main_v10_0) (h1 : r ≠ main_v10_1) (h2 : r ≠ main_v10_2) (h3 : r ∉ hostOps0_W) :
    W4 m c r = m ((c : Thread nD τ).loc r) :=
  (W4_of m c r h).trans <| (W3_of m c r h').trans <| (W2_of m c r h0 h1 h2).trans <| (V1_of m c r h3).trans rfl

/-! ## The bodies at their one point -/

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem before0 (c : Dev nD) (d : (cfg0.win 0).block.Idx → Elt F (cfg0.win 0).elt) : (dat0 m c).before 0 t0_0 d = (envOf m c).x := by
  unfold Pipeline.Dat.before; rw [if_pos (by decide)]; rfl
theorem before1 (c : Dev nD) (d : (cfg0.win 1).block.Idx → Elt F (cfg0.win 1).elt) : (dat0 m c).before 1 t0_0 d = (envOf m c).wq := by
  unfold Pipeline.Dat.before; rw [if_pos (by decide)]; rfl
theorem before2 (c : Dev nD) (d : (cfg0.win 2).block.Idx → Elt F (cfg0.win 2).elt) : (dat0 m c).before 2 t0_0 d = (envOf m c).W := by
  unfold Pipeline.Dat.before; rw [if_pos (by decide)]; rfl
theorem before_in (c : Dev nD) (d : (cfg1.win 0).block.Idx → Elt F (cfg1.win 0).elt) : (dat1 m c).before 0 t1_0 d = parts m c := by
  unfold Pipeline.Dat.before; rw [if_pos (by decide)]; rfl

theorem Φ0_first (c : Dev nD) : Φ0 m c 0 = iprop(In0 m c ∗ Scr c ∗ Idle1 c) := by
  unfold Φ0; rw [if_pos rfl]
theorem Φ0_last (c : Dev nD) : Φ0 m c (Fin.last cfg0.N) = iprop(Out0 m c ∗ (Pipeline.ownSems0 (Ix := Unit) (Name := ℕ) (U := UU) (Lvl := ℕ) (Val := Elt F) (τ := τ) osem0 c) ∗ Scr c ∗ Idle1 c) := by
  unfold Φ0; rw [if_neg (by decide)]
theorem Φ1_first (c : Dev nD) : Φ1 m c 0 = iprop((∃ κ, Cert.Sum.ready L lv (parts m) κ c) ∗ Pipeline.scopedRest (Ix := Unit) (Name := ℕ) (U := UU) (Lvl := ℕ) (Val := Elt F) spec1 c) := by
  unfold Φ1; rw [if_pos rfl]
theorem Φ1_last (c : Dev nD) : Φ1 m c (Fin.last cfg1.N) = iprop(Cert.Sum.spent c ∗ Pipeline.scopedRest (Ix := Unit) (Name := ℕ) (U := UU) (Lvl := ℕ) (Val := Elt F) spec1 c) := by
  unfold Φ1; rw [if_neg (by decide)]

theorem body0 (c : Dev nD) : BodyObligation (dat0 (F := F) m c) (defs₀ (F := F)) 𝒱₀ () Set.univ := fun t => by
  obtain rfl := fin_N0 t
  rw [bigSep_W0, bigSep_W0]
  simp only [owns_buf]
  rw [show (dat0 m c).Φ t0_0.castSucc = _ from Φ0_first m c, show (dat0 m c).Φ t0_0.succ = _ from Φ0_last m c]
  unfold Pipeline.Dat.owesAt Pipeline.owesWithin
  rw [show (dat0 m c).owed t0_0.castSucc = O₀ c from rfl, show (dat0 m c).owed t0_0.succ = D₁ c from rfl]
  unfold In0 Out0
  iintro ⟨⟨⟨⟨%κ, HD⟩, Hown, HB⟩, Hscr, Hid⟩, ⟨%Ws, -, HO⟩, ⟨%d0, %g0, %hg0, Hx⟩, ⟨%d1, %g1, %hg1, Hq⟩, ⟨%d2, %g2, %hg2, Hw⟩, ⟨%d3, %g3, %hg3, Ho⟩⟩
  rw [before0] at hg0
  rw [before1] at hg1
  rw [before2] at hg2
  subst hg0 hg1 hg2
  ihave HW := (region_body κ (envOf m c) Ws (V1 m c main_v10_1) (V1 m c main_v10_2) g3) $$ [HD Hown HB Hscr HO Hx Hq Hw Ho]
  · isplitl [HD]; · iexact HD
    isplitl [Hown]; · iexact Hown
    isplitl [HB]; · iexact HB
    isplitl [Hscr]; · iexact Hscr
    isplitr [HO]; swap; · iexact HO
    unfold Stg
    isplitl [Hx]; · iexact Hx
    isplitl [Hq]; · iexact Hq
    isplitl [Hw]; · iexact Hw
    iexact Ho
  iapply (wp_wand _ _) $$ HW
  iintro %u ⟨Hb, Hown, HB, Hscr, Hst, %W, HO⟩
  unfold Stg
  icases Hst with ⟨Hx, Hq, Hw, Ho⟩
  isplitl [Hb HB Hown Hscr Hid]
  · isplitl [Hb HB]; · isplitl [Hb] <;> iassumption
    isplitl [Hown]; · iexact Hown
    isplitl [Hscr] <;> iassumption
  isplitl [HO]
  · iexists W; isplitr; · ipureintro; exact fun _ _ => Or.inl trivial
    iexact HO
  isplitl [Hx]
  · iexists _; isplitr; swap; (· iexact Hx); ipureintro; rfl
  isplitl [Hq]
  · iexists _; isplitr; swap; (· iexact Hq); ipureintro; rfl
  isplitl [Hw]
  · iexists _; isplitr; swap; (· iexact Hw); ipureintro; rfl
  iexists _; isplitr; swap; (· iexact Ho); ipureintro; rfl

theorem body1 (c : Dev nD) : BodyObligation (dat1 (F := F) m c) (defs₀ (F := F)) 𝒱₀ () Set.univ := fun t => by
  obtain rfl := fin_N1 t
  rw [bigSep_W1, bigSep_W1]
  simp only [owns_buf]
  rw [show (dat1 m c).Φ t1_0.castSucc = _ from Φ1_first m c, show (dat1 m c).Φ t1_0.succ = _ from Φ1_last m c, scopedRest1_eq]
  unfold Pipeline.Dat.owesAt Pipeline.owesWithin
  rw [show (dat1 m c).owed t1_0.castSucc = D₁ c from rfl, show (dat1 m c).owed t1_0.succ = 0 from rfl]
  iintro ⟨⟨⟨%κ, Hg⟩, Q0, Q1, Q2, Q3, Q4, Q5, %f0, Hr⟩, ⟨%Ws, -, HO⟩, ⟨%d0, %g0, %hg0, Hx⟩, ⟨%d1, %g1, %hg1, Ho⟩⟩
  rw [before_in] at hg0
  subst hg0
  iapply (Cert.Sum.sound_body (parts m) κ c (may_barR c) f0 g1 Ws _)
  isplitl [Hg HO Hx Ho Hr]
  · isplitl [Hg]; · iexact Hg
    isplitl [HO]; · iexact HO
    isplitl [Hx]; · iexact Hx
    isplitl [Ho]; · iexact Ho
    iexact Hr
  iintro ⟨Hs, ⟨%W, HO⟩, Hx, Ho, Hr⟩
  isplitl [Hs Hr Q0 Q1 Q2 Q3 Q4 Q5]
  · isplitl [Hs]; · iexact Hs
    isplitl [Q0]; · iexact Q0
    isplitl [Q1]; · iexact Q1
    isplitl [Q2]; · iexact Q2
    isplitl [Q3]; · iexact Q3
    isplitl [Q4]; · iexact Q4
    isplitl [Q5]; · iexact Q5
    iexact Hr
  isplitl [HO]
  · iexists W; isplitr; · ipureintro; exact fun _ _ => Or.inl trivial
    iexact HO
  isplitl [Hx]
  · iexists _; isplitr; swap; (· iexact Hx); ipureintro; rfl
  iexists _; isplitr; swap; (· iexact Ho); ipureintro; rfl

/-! ## The regions -/

theorem stage_lv0 : ∀ (w : Fin cfg0.W) (s : Fin (cfg0.spec w).nbuf), lvS (.dma ((cfg0.win w).sem s)) = 0 := by decide
theorem stage_lv1 : ∀ (w : Fin cfg1.W) (s : Fin (cfg1.spec w).nbuf), lvS (.dma ((cfg1.win w).sem s)) = 0 := by decide

/-- The all-reduce's own semaphores. -/
abbrev osem1 : (Fin 3 × Fin 1) ⊕ (Fin 3 × Fin 1) → SemLoc sig
  | .inl x => .dma (Cert.Sum.WR.ss x.1 x.2)
  | .inr x => .dma (Cert.Sum.rcvS (rv x.1))

theorem ownFacts1 : Pipeline.OwnSemFacts cfg1.spec osem1 := by decide

theorem own1_eq (c : Dev nD) : ((Pipeline.ownSems0 (Ix := Unit) (Name := ℕ) (U := UU) (Lvl := ℕ) (Val := Elt F) (τ := τ) osem1 c) : sProp 𝕄)
    = bigSep Finset.univ fun x : Fin 3 × Fin 1 => iprop(semVal (Cert.Sum.WR.sndC c x.1 x.2) 0 ∗ semVal (Cert.Sum.WR.rcvC c x.1 x.2) 0) := by
  unfold Pipeline.ownSems0; rw [bigSep_sum', ← bigSep_sep']; rfl

theorem unscopedSems0_eq (c : Dev nD) : (unscopedSems0 c : sProp 𝕄) = iprop(semVal (WA.barC c) 0 ∗ semVal (Cert.Sum.WR.barC c) 0) := by
  unfold unscopedSems0; rw [bigSep_eq_bigSepL_of_eq [SemLoc.reg WA.bar, SemLoc.reg Cert.Sum.WR.bar] (by decide) (by decide)]; rfl

/-- What the launch deals a device for the all-reduce. -/
def Rg (c : Dev nD) : sProp 𝕄 :=
  iprop((∃ κ, known Cert.Sum.WR (Cert.Sum.GR (parts m)) Cert.Sum.ER κ) ∗ dealt Cert.Sum.WR Cert.Sum.ER c ∗ credit Cert.Sum.WR c ∗ levAts L lv)

theorem ready_intro (c : Dev nD) :
    iprop(Rg m c ∗ (Pipeline.ownSems0 (Ix := Unit) (Name := ℕ) (U := UU) (Lvl := ℕ) (Val := Elt F) (τ := τ) osem1 c)) ⊢ (|={Set.univ}=> ∃ κ, Cert.Sum.ready L lv (parts m) κ c : sProp 𝕄) := by
  rw [own1_eq]
  unfold Rg dealt
  iintro ⟨⟨⟨%κ, #HK⟩, ⟨HatB, Hop, Htb, Htp⟩, Hc, #Hlev⟩, Hs⟩
  imod (open_pieces Cert.Sum.WR (Cert.Sum.GR (parts m)) Cert.Sum.ER κ c) $$ [Hop Hs] with Hp
  · isplitr; · iexact HK
    isplitl [Hop] <;> iassumption
  imodintro
  iexists κ
  unfold Cert.Sum.ready
  isplitr; · iexact HK
  isplitl [HatB]; · iexact HatB
  isplitl [Hp]; · iexact Hp
  isplitl [Htb]; · iexact Htb
  isplitl [Htp]; · iexact Htp
  isplitl [Hc]; · iexact Hc
  iexact Hlev

/-- What rides along beside the buffers: to the attention, to the all-reduce. -/
def E0 (c : Dev nD) : sProp 𝕄 := iprop((∃ κ, Deal c κ (XX m)) ∗ Rg m c ∗ owes (c : Thread nD τ) (O₀ c) ∅)
def E1 (c : Dev nD) : sProp 𝕄 := iprop(Rg m c ∗ semVal (WA.barC c) 0 ∗ ∃ W, owes (c : Thread nD τ) (D₁ c) W)

/-- The buffers the attention does not touch. -/
def Others (c : Dev nD) : sProp 𝕄 := iprop(Cert.Sum.pl c main_arg0 (V1 m c main_arg0) ∗ Cert.Sum.pl c main_arg1 (V1 m c main_arg1) ∗ Cert.Sum.pl c main_arg2 (V1 m c main_arg2) ∗ Cert.Sum.pl c main_arg3 (V1 m c main_arg3) ∗ Cert.Sum.pl c main_arg4 (V1 m c main_arg4) ∗ Cert.Sum.pl c main_v4 (V1 m c main_v4) ∗ Cert.Sum.pl c main_v5 (V1 m c main_v5) ∗ Cert.Sum.pl c main_v7 (V1 m c main_v7) ∗ Cert.Sum.pl c main_v8 (V1 m c main_v8) ∗ Cert.Sum.pl c main_v11 (V1 m c main_v11) ∗ Cert.Sum.pl c main_v12 (V1 m c main_v12))

theorem entry0 (c : Dev nD) : (StableHlo.held (c : Thread nD τ) (Pipeline.ucRefs τ sig) (V1 m c) : sProp 𝕄)
    ⊢ iprop((pdats m 0 c).arrays ((pdats m 0 c).arrAt · 0) ∗ Bufs c ((XX m).k c) ((XX m).v c) (V1 m c main_v10_1) (V1 m c main_v10_2) ∗ Others m c) := by
  rw [← Pipeline.unscopedBufs_held]
  refine (Pipeline.arrays_of_unscopedBufs (p := 0) (pcfgs (F := F)) adm (pdats m) launch0.win launch0.arr_whole c ((pdats m 0 c).share_full fun _ => rfl) (fun b => V1 m c b) fun _ => rfl).trans ?_
  rw [show (Pipeline.unscopedRest (Pipeline.pin (pcfgs (F := F)) adm 0).spec c (fun b => V1 m c b) : sProp 𝕄) = _ from unscopedRest0_eq c (fun b => V1 m c b)]
  unfold Bufs Others
  iintro ⟨Ha, arg0, arg1, arg2, arg3, arg4, v4, v5, v6, v7, v8, v9, v10_1, v10_2, v11, v12⟩
  isplitl [Ha]; · iexact Ha
  isplitl [v6 v9 v10_1 v10_2]
  · isplitl [v6]; · iexact v6
    isplitl [v9]; · iexact v9
    isplitl [v10_1]; · iexact v10_1
    iexact v10_2
  isplitl [arg0]; · iexact arg0
  isplitl [arg1]; · iexact arg1
  isplitl [arg2]; · iexact arg2
  isplitl [arg3]; · iexact arg3
  isplitl [arg4]; · iexact arg4
  isplitl [v4]; · iexact v4
  isplitl [v5]; · iexact v5
  isplitl [v7]; · iexact v7
  isplitl [v8]; · iexact v8
  isplitl [v11]; · iexact v11
  iexact v12

theorem exit0 (c : Dev nD) : iprop((pdats m 0 c).arrays ((pdats m 0 c).arrAt · (Pipeline.pin (pcfgs (F := F)) adm 0).N) ∗ Bufs c ((XX m).k c) ((XX m).v c) (gath (XX m).k c) (gath (XX m).v c) ∗ Others m c)
    ⊢ (StableHlo.held (c : Thread nD τ) (Pipeline.ucRefs τ sig) (W2 m c) : sProp 𝕄) := by
  rw [← Pipeline.unscopedBufs_held]
  refine BIBase.Entails.trans ?_ (Pipeline.unscopedBufs_of_arrays (p := 0) (pcfgs (F := F)) adm launch0.win launch0.arr_whole c (pdats m) ((pdats m 0 c).share_full fun _ => rfl)
    (fun b => W2 m c b) (fun b => W2 m c b) ((pdats m 0 c).arrAt · (Pipeline.pin (pcfgs (F := F)) adm 0).N) (fun w => match w with
      | ⟨0, _⟩ => ((dat0 (F := F) m c).arrAt_in 0 rfl _).trans (W2_of m c main_v1 (by decide) (by decide) (by decide)).symm
      | ⟨1, _⟩ => ((dat0 (F := F) m c).arrAt_in 1 rfl _).trans (W2_of m c main_v2 (by decide) (by decide) (by decide)).symm
      | ⟨2, _⟩ => ((dat0 (F := F) m c).arrAt_in 2 rfl _).trans (W2_of m c main_v3 (by decide) (by decide) (by decide)).symm
      | ⟨3, _⟩ => (W2_o m c).symm) fun _ _ => rfl)
  rw [show (Pipeline.unscopedRest (Pipeline.pin (pcfgs (F := F)) adm 0).spec c (fun b => W2 m c b) : sProp 𝕄) = _ from unscopedRest0_eq c (fun b => W2 m c b)]
  rw [W2_of m c main_arg0 (by decide) (by decide) (by decide), W2_of m c main_arg1 (by decide) (by decide) (by decide), W2_of m c main_arg2 (by decide) (by decide) (by decide), W2_of m c main_arg3 (by decide) (by decide) (by decide), W2_of m c main_arg4 (by decide) (by decide) (by decide), W2_of m c main_v4 (by decide) (by decide) (by decide), W2_of m c main_v5 (by decide) (by decide) (by decide), W2_of m c main_v6 (by decide) (by decide) (by decide), W2_of m c main_v7 (by decide) (by decide) (by decide), W2_of m c main_v8 (by decide) (by decide) (by decide), W2_of m c main_v9 (by decide) (by decide) (by decide), W2_of m c main_v11 (by decide) (by decide) (by decide), W2_of m c main_v12 (by decide) (by decide) (by decide), W2_k, W2_v]
  unfold Bufs Others
  iintro ⟨Ha, ⟨v6, v9, v10_1, v10_2⟩, arg0, arg1, arg2, arg3, arg4, v4, v5, v7, v8, v11, v12⟩
  isplitl [Ha]; · iexact Ha
  isplitl [arg0]; · iexact arg0
  isplitl [arg1]; · iexact arg1
  isplitl [arg2]; · iexact arg2
  isplitl [arg3]; · iexact arg3
  isplitl [arg4]; · iexact arg4
  isplitl [v4]; · iexact v4
  isplitl [v5]; · iexact v5
  isplitl [v6]; · iexact v6
  isplitl [v7]; · iexact v7
  isplitl [v8]; · iexact v8
  isplitl [v9]; · iexact v9
  isplitl [v10_1]; · iexact v10_1
  isplitl [v10_2]; · iexact v10_2
  isplitl [v11]; · iexact v11
  iexact v12

theorem entry1 (c : Dev nD) : (StableHlo.held (c : Thread nD τ) (Pipeline.ucRefs τ sig) (W3 m c) : sProp 𝕄)
    ⊢ iprop((pdats m 1 c).arrays ((pdats m 1 c).arrAt · 0) ∗ Pipeline.unscopedRest (Pipeline.pin (pcfgs (F := F)) adm 1).spec c (fun b => W3 m c b)) := by
  rw [← Pipeline.unscopedBufs_held]
  exact Pipeline.arrays_of_unscopedBufs (p := 1) (pcfgs (F := F)) adm (pdats m) launch1.win launch1.arr_whole c ((pdats m 1 c).share_full fun _ => rfl) (fun b => W3 m c b) fun _ => rfl

theorem exit1 (c : Dev nD) : iprop((pdats m 1 c).arrays ((pdats m 1 c).arrAt · (Pipeline.pin (pcfgs (F := F)) adm 1).N) ∗ Pipeline.unscopedRest (Pipeline.pin (pcfgs (F := F)) adm 1).spec c (fun b => W3 m c b))
    ⊢ (StableHlo.held (c : Thread nD τ) (Pipeline.ucRefs τ sig) (W4 m c) : sProp 𝕄) := by
  rw [← Pipeline.unscopedBufs_held]
  exact Pipeline.unscopedBufs_of_arrays (p := 1) (pcfgs (F := F)) adm launch1.win launch1.arr_whole c (pdats m) ((pdats m 1 c).share_full fun _ => rfl)
    (fun b => W3 m c b) (fun b => W4 m c b) ((pdats m 1 c).arrAt · (Pipeline.pin (pcfgs (F := F)) adm 1).N) (fun w => match w with
      | ⟨0, _⟩ => ((dat1 (F := F) m c).arrAt_in 0 rfl _).trans (W4_of m c main_v11 (by decide)).symm
      | ⟨1, _⟩ => (W4_o m c).symm) fun b hb => W4_of m c b fun h => hb (Finset.mem_image.2 ⟨1, Finset.mem_univ _, h.symm⟩)

def reg0 : Pipeline.RegionSeg (pcfgs (F := F)) adm (pdats m) () defs₀ 𝒱₀ L lv 0 where
  win := launch0.win.to₀
  block_pos := launch0.block_pos
  stage_whole := launch0.stage_whole
  K := OK
  osem := osem0
  ho := ownFacts0
  hbody c := (body0 m c).loose
  hwaits c := Pipeline.cellsWaits_intro _ (pdats m) () 0 c fun w s t => by
    rcases t with ⟨_ | n, ht⟩
    · exact may_stage0 c _ (stage_lv0 w s)
    · exact may_stage1 c _ (stage_lv0 w s)
  pre c := iprop(StableHlo.held (c : Thread nD τ) (Pipeline.ucRefs τ sig) (V1 m c) ∗ E0 m c)
  post c := iprop(StableHlo.held (c : Thread nD τ) (Pipeline.ucRefs τ sig) (W2 m c) ∗ E1 m c)
  X c := In0 m c
  Y c := Out0 m c
  Z c := iprop(Rg m c ∗ Others m c)
  hentry c := by
    unfold E0
    iintro ⟨⟨Hub, Hd, Hg, HO⟩, Hs, -⟩
    ihave H := (entry0 m c) $$ Hub
    icases H with ⟨Ha, HB, Hoth⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists ∅; isplitr; · ipureintro; exact fun _ _ => Or.inl trivial
      iexact HO
    isplitl [Hd Hs HB]
    · unfold In0
      isplitl [Hd]; · iexact Hd
      isplitl [Hs] <;> iassumption
    isplitl [Hg] <;> iassumption
  hin c := by
    rw [show (pdats m 0 c).Φ 0 = _ from Φ0_first m c, show (Pipeline.scopedRest (Pipeline.pin (pcfgs (F := F)) adm 0).spec c : sProp 𝕄) = _ from scopedRest0_eq c]
    unfold Scr Idle1
    iintro ⟨Hg, -, A, B, C⟩
    isplitl [Hg]; · iexact Hg
    isplitr [C]; swap; · iexact C
    isplitl [A] <;> iassumption
  hout c := by
    rw [show (pdats m 0 c).Φ (Fin.last (Pipeline.pin (pcfgs (F := F)) adm 0).N) = _ from Φ0_last m c, show (Pipeline.scopedRest (Pipeline.pin (pcfgs (F := F)) adm 0).spec c : sProp 𝕄) = _ from scopedRest0_eq c]
    unfold Scr Idle1
    iintro ⟨Hb, Hs, ⟨A, B⟩, C⟩
    isplitl [Hb]; · iexact Hb
    isplitl [Hs]; · iexact Hs
    isplitl [A]; · iexact A
    isplitl [B] <;> iassumption
  hexit c := by
    unfold Out0 E1
    iintro ⟨Ha, HO, ⟨Hb, HB⟩, Hg, Hoth⟩
    ihave Hh := (exit0 m c) $$ [Ha HB Hoth]
    · isplitl [Ha]; · iexact Ha
      isplitl [HB] <;> iassumption
    imodintro
    isplitl [Hh]; · iexact Hh
    isplitl [Hg]; · iexact Hg
    isplitl [Hb]; · iexact Hb
    unfold Pipeline.Dat.owesAt Pipeline.owesWithin
    icases HO with ⟨%W, -, HO⟩; iexists W; iexact HO

/-- What a device holds at the end. -/
def Tₙ (c : Dev nD) : sProp 𝕄 :=
  iprop(StableHlo.held (c : Thread nD τ) (Pipeline.ucRefs τ sig) (W4 m c) ∗ semVal (WA.barC c) 0 ∗ semVal (Cert.Sum.WR.barC c) 0)

def reg1 : Pipeline.RegionSeg (pcfgs (F := F)) adm (pdats m) () defs₀ 𝒱₀ L lv 1 where
  win := launch1.win.to₀
  block_pos := launch1.block_pos
  stage_whole := launch1.stage_whole
  K := (Fin 3 × Fin 1) ⊕ (Fin 3 × Fin 1)
  osem := osem1
  ho := ownFacts1
  hbody c := (body1 m c).loose
  hwaits c := Pipeline.cellsWaits_intro _ (pdats m) () 1 c fun w s t => by
    rcases t with ⟨_ | n, ht⟩
    · exact may_stage1 c _ (stage_lv1 w s)
    · show _ ⊢ MayWait _ _ _ 0
      rw [MayWait_zero]; iintro -; iempintro
  pre c := iprop(StableHlo.held (c : Thread nD τ) (Pipeline.ucRefs τ sig) (W3 m c) ∗ E1 m c)
  post c := iprop(Tₙ m c ∗ ∃ W, owes (c : Thread nD τ) (0 : CellTallies nD τ sig Unit) W)
  X c := iprop(∃ κ, Cert.Sum.ready L lv (parts m) κ c)
  Y c := semVal (Cert.Sum.WR.barC c) 0
  Z c := iprop(Pipeline.unscopedRest (Pipeline.pin (pcfgs (F := F)) adm 1).spec c (fun b => W3 m c b) ∗ semVal (WA.barC c) 0)
  hentry c := by
    unfold E1
    iintro ⟨⟨Hub, Hg, Hb, %W, HO⟩, Hs, -⟩
    ihave H := (entry1 m c) $$ Hub
    icases H with ⟨Ha, Hrest⟩
    imod (ready_intro m c) $$ [Hg Hs] with Hr
    · isplitl [Hg] <;> iassumption
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun _ _ => Or.inl trivial
      iexact HO
    isplitl [Hr]; · iexact Hr
    isplitl [Hrest] <;> iassumption
  hin c := by
    rw [show (pdats m 1 c).Φ 0 = _ from Φ1_first m c]
    iintro ⟨Hg, -, Hr⟩
    isplitl [Hg]; · iexact Hg
    iexact Hr
  hout c := by
    rw [show (pdats m 1 c).Φ (Fin.last (Pipeline.pin (pcfgs (F := F)) adm 1).N) = _ from Φ1_last m c, own1_eq]
    unfold Cert.Sum.spent
    iintro ⟨⟨Hb, Hs⟩, Hr⟩
    isplitl [Hb]; · iexact Hb
    isplitl [Hs]; · iexact Hs
    iexact Hr
  hexit c := by
    unfold Tₙ
    iintro ⟨Ha, HO, Hb, Hrest, HbA⟩
    ihave Hh := (exit1 m c) $$ [Ha Hrest]
    · isplitl [Ha] <;> iassumption
    imodintro
    isplitl [Hh Hb HbA]
    · isplitl [Hh]; · iexact Hh
      isplitl [HbA] <;> iassumption
    unfold Pipeline.Dat.owesAt Pipeline.owesWithin
    icases HO with ⟨%W, -, HO⟩; iexists W; iexact HO

/-! ## The launch -/

def host0 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E0 m)
def host1 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) (E1 m)

def items : List (Pipeline.Seg (pcfgs (F := F)) adm (pdats m) () defs₀ 𝒱₀ L lv) := [.host (host0 m), .region (reg0 m), .host (host1 m), .region (reg1 m)]

theorem main_eq (c : Dev nD) : main (F := F) c = Pipeline.Seg.run (items m) :=
  main_segs adm (pdats m) () 𝒱₀ L lv (host0 m) (host1 m) (reg0 m) (reg1 m) rfl rfl c

def u₀ : UU :=
  (initOf (Pipeline.cells (Pipeline.pin (pcfgs (F := F)) adm) cellOf_inj) (Pipeline.launchToks (Pipeline.pin (pcfgs (F := F)) adm) cellOf_inj), (elt WA, (elt Cert.Sum.WR, 1)))

/-- The two exchanges' elements ride to the first step on device 0. -/
def G (c : Dev nD) : sProp 𝕄 := if c = 0 then iprop(BI.own (EA (elt WA)) ∗ BI.own (Cert.Sum.ER (elt Cert.Sum.WR))) else iprop(emp)

theorem bigSep_G_eq : bigSep Finset.univ (G (F := F)) = (iprop(BI.own (EA (elt WA)) ∗ BI.own (Cert.Sum.ER (elt Cert.Sum.WR))) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem paysA_all (x : Pay 2) : x ∈ paysA := by
  rcases x with p | ⟨p, i⟩
  · fin_cases p <;> simp [paysA]
  · fin_cases p <;> fin_cases i <;> simp [paysA]
theorem paysR_all (x : Pay 1) : x ∈ Cert.Sum.pays := by
  rcases x with p | ⟨p, i⟩
  · fin_cases p <;> simp [Cert.Sum.pays]
  · fin_cases p <;> fin_cases i <;> simp [Cert.Sum.pays]

theorem credits (c : Dev nD) : (Pipeline.launchCred O₀ c : sProp 𝕄) = iprop((Pipeline.launchCred (fun _ => 0) c ∗ credit Cert.Sum.WR c) ∗ credit WA c) := by
  rw [← launchCred_due Cert.Sum.WR (fun _ => 0) Cert.Sum.pays (by decide) paysR_all c]
  exact launchCred_due WA D₁ paysA (by decide) paysA_all c

def Rem (c : Dev nD) : sProp 𝕄 :=
  iprop(StableHlo.held (c : Thread nD τ) (Pipeline.ucRefs τ sig) (V0 m c) ∗ (credit WA c ∗ credit Cert.Sum.WR c) ∗ owes (c : Thread nD τ) (O₀ c) ∅)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (host0 m).pre : sProp 𝕄) := by
  have h1 (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(semVal (WA.barC c) 0 ∗ semVal (Cert.Sum.WR.barC c) 0 ∗ G c ∗ Rem m c) : sProp 𝕄) := by
    rw [unscopedSems0_eq, credits, show (unscopedBufs c (fun b => m ((c : Thread nD τ).loc b)) : sProp 𝕄) = StableHlo.held (c : Thread nD τ) (Pipeline.ucRefs τ sig) (V0 m c) from
      Pipeline.unscopedBufs_held (Ix := Unit) (Name := ℕ) (U := UU) (Lvl := ℕ) c (V0 m c)]
    unfold Rem
    iintro ⟨Hub, ⟨HbA, HbR⟩, HO, ⟨⟨-, HcR⟩, HcA⟩, -, HG⟩
    isplitl [HbA]; · iexact HbA
    isplitl [HbR]; · iexact HbR
    isplitl [HG]; · iexact HG
    isplitl [Hub]; · iexact Hub
    isplitl [HcA HcR]; · isplitl [HcA] <;> iassumption
    iexact HO
  iintro ⟨H, #Hlev⟩
  ihave H' := (show _ ⊢ iprop((bigSep Finset.univ fun c : Dev nD => semVal (WA.barC c) 0) ∗ (bigSep Finset.univ fun c : Dev nD => semVal (Cert.Sum.WR.barC c) 0)
        ∗ bigSep Finset.univ (G (F := F)) ∗ bigSep Finset.univ fun c : Dev nD => Rem m c)
      from by rw [← bigSep_sep', ← bigSep_sep', ← bigSep_sep']; exact bigSep_mono fun c _ => h1 c) $$ H
  icases H' with ⟨HvA, HvR, HG, Hrest⟩
  ihave Hu := (Entails.of_eq bigSep_G_eq) $$ HG
  icases Hu with ⟨HuA, HuR⟩
  imod (funds WA (GA (XX m)) EA (Es := Set.univ)) $$ [HvA HuA] with ⟨%κ, #HK, HdA⟩
  · isplitl [HvA] <;> iassumption
  imod (funds Cert.Sum.WR (Cert.Sum.GR (parts m)) Cert.Sum.ER (Es := Set.univ)) $$ [HvR HuR] with ⟨%κ', #HK', HdR⟩
  · isplitl [HvR] <;> iassumption
  imodintro
  have h2 (c : Dev nD) : iprop(iprop(known WA (GA (XX m)) EA κ ∗ known Cert.Sum.WR (Cert.Sum.GR (parts m)) Cert.Sum.ER κ' ∗ levAts L lv)
        ∗ iprop(dealt WA EA c ∗ dealt Cert.Sum.WR Cert.Sum.ER c ∗ Rem m c)) ⊢ (host0 m).pre c := by
    show _ ⊢ iprop(StableHlo.held (c : Thread nD τ) (Pipeline.ucRefs τ sig) (V0 m c) ∗ E0 m c)
    unfold E0 Rg Rem Deal
    iintro ⟨⟨#HK, #HK', #Hlev⟩, HdA, HdR, Hub, ⟨HcA, HcR⟩, HO⟩
    isplitl [Hub]; · iexact Hub
    isplitl [HdA HcA]
    · iexists κ
      isplitr; · iexact HK
      isplitl [HdA]; · iexact HdA
      isplitl [HcA]; · iexact HcA
      iexact Hlev
    isplitr [HO]; swap; · iexact HO
    isplitr; · iexists κ'; iexact HK'
    isplitl [HdR]; · iexact HdR
    isplitl [HcR]; · iexact HcR
    iexact Hlev
  iapply (show iprop(iprop(known WA (GA (XX m)) EA κ ∗ known Cert.Sum.WR (Cert.Sum.GR (parts m)) Cert.Sum.ER κ' ∗ levAts L lv)
        ∗ (bigSep Finset.univ fun c : Dev nD => dealt WA EA c) ∗ (bigSep Finset.univ fun c : Dev nD => dealt Cert.Sum.WR Cert.Sum.ER c)
        ∗ bigSep Finset.univ fun c : Dev nD => Rem m c) ⊢ bigSep Finset.univ (host0 m).pre from
    (sep_mono_left (BI.bigSep_of_persistent Finset.univ _)).trans (by rw [← bigSep_sep', ← bigSep_sep', ← bigSep_sep']; exact bigSep_mono fun c _ => h2 c))
  isplitr
  · isplitr; · iexact HK
    isplitr <;> iassumption
  isplitl [HdA]; · iexact HdA
  isplitl [HdR] <;> iassumption

theorem held_read (c : Dev nD) (s' : Phys nD τ sig (Elt F)) : iprop(StableHlo.held (c : Thread nD τ) (Pipeline.ucRefs τ sig) (W4 m c) ∗ SI s')
    ⊢ (iprop(⌜∀ b ∈ Pipeline.ucRefs τ sig, s'.mem.mem ((c : Thread nD τ).1, b) = W4 m c b⌝ ∗ SI s') : sProp 𝕄) := by
  unfold StableHlo.held
  exact pointsTo_read_all (Pipeline.ucRefs τ sig) (fun b => ((c : Thread nD τ).1, b)) (W4 m c) s'

/-- The buffers of a device at the end. -/
abbrev Ends (c : Dev nD) (mem : (ℓ : Loc nD τ sig) → Buf (Elt F) ℓ) : Prop :=
  (mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4))
  ∧ mem ((c.tc : Thread nD τ).loc main_v12) = (dat1 m c).arrAt 1 cfg1.N

theorem ends_of (c : Dev nD) (mem : (ℓ : Loc nD τ sig) → Buf (Elt F) ℓ) (h : ∀ b ∈ Pipeline.ucRefs τ sig, mem ((c : Thread nD τ).1, b) = W4 m c b) : Ends m c mem := by
  have hr (r : Ref sig .tc) (hs : ¬ (Proc.devRef .tc r : DevRef τ sig).isScoped = true) : mem ((c : Thread nD τ).loc r) = W4 m c r :=
    h (Proc.devRef .tc r) (Finset.mem_filter.mpr ⟨StableHlo.devRef_mem_tcRefs r, hs⟩)
  exact ⟨⟨(hr main_arg0 (by decide)).trans (W4_arg m c main_arg0 (by decide) (by decide) (by decide) (by decide) (by decide) (by decide)), (hr main_arg1 (by decide)).trans (W4_arg m c main_arg1 (by decide) (by decide) (by decide) (by decide) (by decide) (by decide)), (hr main_arg2 (by decide)).trans (W4_arg m c main_arg2 (by decide) (by decide) (by decide) (by decide) (by decide) (by decide)), (hr main_arg3 (by decide)).trans (W4_arg m c main_arg3 (by decide) (by decide) (by decide) (by decide) (by decide) (by decide)), (hr main_arg4 (by decide)).trans (W4_arg m c main_arg4 (by decide) (by decide) (by decide) (by decide) (by decide) (by decide))⟩,
    (hr main_v12 (by decide)).trans (W4_o m c)⟩

set_option backward.isDefEq.respectTransparency.types false in
/-- THE RUN: it terminates from any memory with zero counters, the arguments unchanged, the result as the last region leaves it, every counter at zero. -/
theorem run_main : θ_run (defs (F := F)) (onTc (τ := τ) (main (F := F))) ⟨m, fun _ => 0, ρ⟩
    (fun r => (∀ c : Dev nD, Ends m c r.2.mem) ∧ r.2.sem = fun _ => 0) :=
  Pipeline.θ_run_regions_kit_sems (pcfgs (F := F)) adm (pdats m) () cellOf_inj embL defs₀ 𝒱₀ L lv m ρ main (items m)
    (fun c Q => by rw [main_eq m c])
    (by simp only [items, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      ihave HX := (own_pair_emb embR (elt WA) (elt Cert.Sum.WR, (1 : Counters))) $$ HX
      icases HX with ⟨HA, HX⟩
      ihave HX := (own_pair_emb ((Emb.inr : Emb (UA × Counters) (UA × (UA × Counters))).trans embR) (elt Cert.Sum.WR) (1 : Counters)) $$ HX
      icases HX with ⟨HR, -⟩
      imodintro
      isplitl [HP]; · iexact HP
      rw [bigSep_G_eq]
      isplitl [HA]; · iexact HA
      iexact HR)
    (T₀ := (host0 m).pre) (Tₙ := Tₙ m)
    (hch := ⟨fun c => .rfl, fun c => .rfl, fun c => .rfl, fun c => .rfl, fun c => .rfl⟩)
    (hinit := init m ρ)
    (QY := fun c s => Ends m c s.mem ∧ s.sem (WA.barC c) = 0 ∧ s.sem (Cert.Sum.WR.barC c) = 0)
    (hfin := fun c s' => by
      unfold Tₙ
      iintro ⟨⟨Hh, HA, HR⟩, HSI⟩
      icombine HSI HA gives %ha
      icombine HSI HR gives %hr
      ihave H := (held_read m c s') $$ [Hh HSI]
      · isplitl [Hh] <;> iassumption
      icases H with ⟨%h, HSI⟩
      imodintro
      isplitr; · ipureintro; exact ⟨ends_of m c _ h, ha, hr⟩
      iexact HSI)
    (hQ := fun s h hs => ⟨fun c => (h c).1, sem_eq_zero hs fun c sm hsm => by
      have hl : ∀ sm : SemLoc sig, sm.isScoped .tc = false → sm = .reg WA.bar ∨ sm = .reg Cert.Sum.WR.bar := by decide
      rcases hl sm hsm with rfl | rfl
      · exact (h c).2.1
      · exact (h c).2.2⟩)

end Cert.Attn

end
-- ==== Proof.Refer.lean ====
module

public import proofs.«01_k».proof.Proof.Gen.ReferenceIdeal
public import Idealize.ShloMosaic.Lib.StableHlo.Run
public import Idealize.ShloMosaic.Lib.Quiescent
public import Idealize.ShloMosaic.Lib.Pipeline.Regions

@[expose] public section

noncomputable section

/-! # The reference: what it computes, and its run -/

namespace Cert.Refer

open Cert.ReferenceIdeal Cert.ReferenceIdeal.Gen
open Idealize.ShloMosaic Idealize.ShloMosaic.TcCoe Idealize.ShloMosaic.StableHlo Idealize.SL.Sem

variable {F : FTy → Type} [FloatOps F]

/-- The queries, head by head. -/
def query (x : FVec F S1x2048x1024 .f32) (wq : FVec F S1024x4096 .f32) : FVec F S1x2048x32x128 .f32 :=
  shapeCast S1x2048x32x128 (Host.dotGeneral dot_S1x2048x1024_S1024x4096_S1x2048x4096_2_0_01_1_n_n none x wq : FVec F S1x2048x4096 .f32) shapeCasts_S1x2048x4096_S1x2048x32x128

def rows : IVec S2048x1 32 := broadcastInDim S2048x1 ![0] bcast_S2048_S2048x1_0 (iotaInDim S2048 32 0)
def cols : IVec S1x8192 32 := broadcastInDim S1x8192 ![1] bcast_S8192_S1x8192_1 (iotaInDim S8192 32 0)

/-- Which keys a row sees. -/
def keep : IVec S2048x8192 1 :=
  ori (cmpi .sle (absi (subi (broadcastInDim S2048x8192 ![0, 1] bcast_S2048x1_S2048x8192_0_1 rows) (broadcastInDim S2048x8192 ![0, 1] bcast_S1x8192_S2048x8192_0_1 cols)))
      (broadcastInDim S2048x8192 ![] bcast_S_S2048x8192 (constantI S_ 32 128#32)))
    (ori (broadcastInDim S2048x8192 ![0, 1] bcast_S1x8192_S2048x8192_0_1 (cmpi .slt cols (broadcastInDim S1x8192 ![] bcast_S_S1x8192 (constantI S_ 32 32#32))))
      (broadcastInDim S2048x8192 ![0, 1] bcast_S2048x1_S2048x8192_0_1 (cmpi .slt rows (broadcastInDim S2048x1 ![] bcast_S_S2048x1 (constantI S_ 32 32#32)))))

/-- The rows that see a key. -/
def seen (κ : IVec S2048x8192 1) : IVec S2048 1 := Host.reduce IntOp.ori κ (constantI S_ 1 0#1) reducesTo_S2048x8192_S2048_d1 h_S_

/-- The masked scores. -/
def score (κ : IVec S2048x8192 1) (q : FVec F S1x2048x32x128 .f32) (k : FVec F S1x8192x32x128 .f32) : FVec F S1x32x2048x8192 .f32 :=
  select (broadcastInDim S1x32x2048x8192 ![0, 1, 2, 3] bcast_S1x1x2048x8192_S1x32x2048x8192_0_1_2_3 (broadcastInDim S1x1x2048x8192 ![2, 3] bcast_S2048x8192_S1x1x2048x8192_2_3 κ))
    (mulf (Host.dotGeneral dot_S1x2048x32x128_S1x8192x32x128_S1x32x2048x8192_3_3_1_1_02_02 none q k : FVec F S1x32x2048x8192 .f32)
      (broadcastInDim S1x32x2048x8192 ![] bcast_S_S1x32x2048x8192 (constant S_ .f32 0x3DB504F3#32)))
    (broadcastInDim S1x32x2048x8192 ![] bcast_S_S1x32x2048x8192 (constant S_ .f32 0xFF800000#32))

/-- The exponentials of the scores, less each row's greatest. -/
def expo (s : FVec F S1x32x2048x8192 .f32) : FVec F S1x32x2048x8192 .f32 :=
  Host.exp (subf s (broadcastInDim S1x32x2048x8192 ![0, 1, 2, 3] bcast_S1x32x2048x1_S1x32x2048x8192_0_1_2_3
    (broadcastInDim S1x32x2048x1 ![0, 1, 2] bcast_S1x32x2048_S1x32x2048x1_0_1_2
      (Host.reduce FloatOps.maximumf s (constant S_ .f32 0xFF800000#32) reducesTo_S1x32x2048x8192_S1x32x2048_d3 h_S_ : FVec F S1x32x2048 .f32))))

/-- The sums of the rows. -/
def sums (e : FVec F S1x32x2048x8192 .f32) : FVec F S1x32x2048x1 .f32 :=
  broadcastInDim S1x32x2048x1 ![0, 1, 2] bcast_S1x32x2048_S1x32x2048x1_0_1_2
    (Host.reduceAdd e (constant S_ .f32 0x00000000#32) reducesTo_S1x32x2048x8192_S1x32x2048_d3 h_S_ : FVec F S1x32x2048 .f32)

/-- The sum of a row that has a key, one for any other. -/
def pick (n : IVec S1x1x2048x1 1) (l : FVec F S1x32x2048x1 .f32) (u : FVec F S_ .f32) : FVec F S1x32x2048x1 .f32 :=
  select (broadcastInDim S1x32x2048x1 ![0, 1, 2, 3] bcast_S1x1x2048x1_S1x32x2048x1_0_1_2_3 n) l
    (broadcastInDim S1x32x2048x1 ![] bcast_S_S1x32x2048x1 u)

/-- The divisor of each row. -/
def total (n : IVec S2048 1) (e : FVec F S1x32x2048x8192 .f32) : FVec F S1x32x2048x1 .f32 :=
  pick (broadcastInDim S1x1x2048x1 ![2] bcast_S2048_S1x1x2048x1_2 n) (sums e) (constant S_ .f32 0x3F800000#32)

/-- The weights. -/
def weight (n : IVec S2048 1) (e : FVec F S1x32x2048x8192 .f32) (l : FVec F S1x32x2048x1 .f32) : FVec F S1x32x2048x8192 .f32 :=
  select (broadcastInDim S1x32x2048x8192 ![0, 1, 2, 3] bcast_S1x1x2048x1_S1x32x2048x8192_0_1_2_3 (broadcastInDim S1x1x2048x1 ![2] bcast_S2048_S1x1x2048x1_2 n))
    (Host.divf e (broadcastInDim S1x32x2048x8192 ![0, 1, 2, 3] bcast_S1x32x2048x1_S1x32x2048x8192_0_1_2_3 l))
    (broadcastInDim S1x32x2048x8192 ![] bcast_S_S1x32x2048x8192 (constant S_ .f32 0x00000000#32))

/-- All weights, from the exponentials. -/
def weights (e : FVec F S1x32x2048x8192 .f32) : FVec F S1x32x2048x8192 .f32 := weight (seen keep) e (total (seen keep) e)

/-- The weighted rows of values, the heads side by side. -/
def context (w : FVec F S1x32x2048x8192 .f32) (v : FVec F S1x8192x32x128 .f32) : FVec F S1x2048x4096 .f32 :=
  shapeCast S1x2048x4096 (transpose S1x2048x32x128 [0, 3, 1, 2]
    (Host.dotGeneral dot_S1x8192x32x128_S1x32x2048x8192_S1x32x128x2048_1_3_3_2_02_01 none v w : FVec F S1x32x128x2048 .f32) transposes_S1x32x128x2048_S1x2048x32x128_0_3_1_2) shapeCasts_S1x2048x32x128_S1x2048x4096

/-- The reference's result. -/
def out (x : FVec F S1x2048x1024 .f32) (wq : FVec F S1024x4096 .f32) (k v : FVec F S1x8192x32x128 .f32) (wo : FVec F S4096x1024 .f32) : FVec F S1x2048x1024 .f32 :=
  Host.dotGeneral dot_S1x2048x4096_S4096x1024_S1x2048x1024_2_0_01_1_n_n none (context (weights (expo (score keep (query x wq) k))) v) wo

abbrev ops1 : List (HloOp τ sig (Elt F)) :=
  [ binary main_arg0 main_arg1 main_v0 ((fun l r => Host.dotGeneral dot_S1x2048x1024_S1024x4096_S1x2048x4096_2_0_01_1_n_n none l r) : (⟨S1x2048x1024, .f32⟩ : BufTy).Contents (Elt F) → (⟨S1024x4096, .f32⟩ : BufTy).Contents (Elt F) → (⟨S1x2048x4096, .f32⟩ : BufTy).Contents (Elt F)),
    reshape main_v0 main_v1 (rfl : (.f32 : EltTy) = .f32) shapeCasts_S1x2048x4096_S1x2048x32x128,
    nullary main_v2 (iotaInDim S2048 32 0),
    unary main_v2 main_v3 (broadcastInDim S2048x1 ![0] bcast_S2048_S2048x1_0 : (⟨S2048, .i32⟩ : BufTy).Contents (Elt F) → (⟨S2048x1, .i32⟩ : BufTy).Contents (Elt F)),
    nullary main_v4 (iotaInDim S8192 32 0),
    unary main_v4 main_v5 (broadcastInDim S1x8192 ![1] bcast_S8192_S1x8192_1 : (⟨S8192, .i32⟩ : BufTy).Contents (Elt F) → (⟨S1x8192, .i32⟩ : BufTy).Contents (Elt F)),
    unary main_v3 main_v6 (broadcastInDim S2048x8192 ![0, 1] bcast_S2048x1_S2048x8192_0_1 : (⟨S2048x1, .i32⟩ : BufTy).Contents (Elt F) → (⟨S2048x8192, .i32⟩ : BufTy).Contents (Elt F)),
    unary main_v5 main_v7 (broadcastInDim S2048x8192 ![0, 1] bcast_S1x8192_S2048x8192_0_1 : (⟨S1x8192, .i32⟩ : BufTy).Contents (Elt F) → (⟨S2048x8192, .i32⟩ : BufTy).Contents (Elt F)),
    binary main_v6 main_v7 main_v8 (subi : (⟨S2048x8192, .i32⟩ : BufTy).Contents (Elt F) → (⟨S2048x8192, .i32⟩ : BufTy).Contents (Elt F) → (⟨S2048x8192, .i32⟩ : BufTy).Contents (Elt F)),
    unary main_v8 main_v9 (absi : (⟨S2048x8192, .i32⟩ : BufTy).Contents (Elt F) → (⟨S2048x8192, .i32⟩ : BufTy).Contents (Elt F)),
    nullary main_c (constantI S_ 32 128#32),
    unary main_c main_v10 (broadcastInDim S2048x8192 ![] bcast_S_S2048x8192 : (⟨S_, .i32⟩ : BufTy).Contents (Elt F) → (⟨S2048x8192, .i32⟩ : BufTy).Contents (Elt F)),
    binary main_v9 main_v10 main_v11 (cmpi .sle : (⟨S2048x8192, .i32⟩ : BufTy).Contents (Elt F) → (⟨S2048x8192, .i32⟩ : BufTy).Contents (Elt F) → (⟨S2048x8192, .i1⟩ : BufTy).Contents (Elt F)),
    nullary main_c_0 (constantI S_ 32 32#32),
    unary main_c_0 main_v12 (broadcastInDim S1x8192 ![] bcast_S_S1x8192 : (⟨S_, .i32⟩ : BufTy).Contents (Elt F) → (⟨S1x8192, .i32⟩ : BufTy).Contents (Elt F)),
    binary main_v5 main_v12 main_v13 (cmpi .slt : (⟨S1x8192, .i32⟩ : BufTy).Contents (Elt F) → (⟨S1x8192, .i32⟩ : BufTy).Contents (Elt F) → (⟨S1x8192, .i1⟩ : BufTy).Contents (Elt F)),
    nullary main_c_1 (constantI S_ 32 32#32),
    unary main_c_1 main_v14 (broadcastInDim S2048x1 ![] bcast_S_S2048x1 : (⟨S_, .i32⟩ : BufTy).Contents (Elt F) → (⟨S2048x1, .i32⟩ : BufTy).Contents (Elt F)),
    binary main_v3 main_v14 main_v15 (cmpi .slt : (⟨S2048x1, .i32⟩ : BufTy).Contents (Elt F) → (⟨S2048x1, .i32⟩ : BufTy).Contents (Elt F) → (⟨S2048x1, .i1⟩ : BufTy).Contents (Elt F)),
    unary main_v13 main_v16 (broadcastInDim S2048x8192 ![0, 1] bcast_S1x8192_S2048x8192_0_1 : (⟨S1x8192, .i1⟩ : BufTy).Contents (Elt F) → (⟨S2048x8192, .i1⟩ : BufTy).Contents (Elt F)),
    unary main_v15 main_v17 (broadcastInDim S2048x8192 ![0, 1] bcast_S2048x1_S2048x8192_0_1 : (⟨S2048x1, .i1⟩ : BufTy).Contents (Elt F) → (⟨S2048x8192, .i1⟩ : BufTy).Contents (Elt F)),
    binary main_v16 main_v17 main_v18 (ori : (⟨S2048x8192, .i1⟩ : BufTy).Contents (Elt F) → (⟨S2048x8192, .i1⟩ : BufTy).Contents (Elt F) → (⟨S2048x8192, .i1⟩ : BufTy).Contents (Elt F)),
    binary main_v11 main_v18 main_v19 (ori : (⟨S2048x8192, .i1⟩ : BufTy).Contents (Elt F) → (⟨S2048x8192, .i1⟩ : BufTy).Contents (Elt F) → (⟨S2048x8192, .i1⟩ : BufTy).Contents (Elt F)) ]
abbrev ops2 : List (HloOp τ sig (Elt F)) :=
  [ binary main_v1 main_arg2 main_v20 ((fun l r => Host.dotGeneral dot_S1x2048x32x128_S1x8192x32x128_S1x32x2048x8192_3_3_1_1_02_02 none l r) : (⟨S1x2048x32x128, .f32⟩ : BufTy).Contents (Elt F) → (⟨S1x8192x32x128, .f32⟩ : BufTy).Contents (Elt F) → (⟨S1x32x2048x8192, .f32⟩ : BufTy).Contents (Elt F)),
    nullary main_cst (constant S_ .f32 0x3DB504F3#32),
    unary main_cst main_v21 (broadcastInDim S1x32x2048x8192 ![] bcast_S_S1x32x2048x8192 : (⟨S_, .f32⟩ : BufTy).Contents (Elt F) → (⟨S1x32x2048x8192, .f32⟩ : BufTy).Contents (Elt F)),
    binary main_v20 main_v21 main_v22 (mulf : (⟨S1x32x2048x8192, .f32⟩ : BufTy).Contents (Elt F) → (⟨S1x32x2048x8192, .f32⟩ : BufTy).Contents (Elt F) → (⟨S1x32x2048x8192, .f32⟩ : BufTy).Contents (Elt F)),
    unary main_v19 main_v23 (broadcastInDim S1x1x2048x8192 ![2, 3] bcast_S2048x8192_S1x1x2048x8192_2_3 : (⟨S2048x8192, .i1⟩ : BufTy).Contents (Elt F) → (⟨S1x1x2048x8192, .i1⟩ : BufTy).Contents (Elt F)),
    nullary main_cst_2 (constant S_ .f32 0xFF800000#32),
    TRef.unary (.of main_cst_2 : TRef sig ⟨S_, .f32⟩) main_call0.v0 id,
    TRef.unary (.of main_v23 : TRef sig ⟨S1x1x2048x8192, .i1⟩) main_call0.v1 (broadcastInDim S1x32x2048x8192 ![0, 1, 2, 3] bcast_S1x1x2048x8192_S1x32x2048x8192_0_1_2_3),
    TRef.unary main_call0.v0 main_call0.v2 (broadcastInDim S1x32x2048x8192 ![] bcast_S_S1x32x2048x8192),
    TRef.ternary main_call0.v1 (.of main_v22 : TRef sig ⟨S1x32x2048x8192, .f32⟩) main_call0.v2 main_call0.v3 select ]
abbrev ops3 : List (HloOp τ sig (Elt F)) :=
  [ nullary main_cst_3 (constant S_ .f32 0xFF800000#32),
    binary main_v24 main_cst_3 main_v25 ((fun x v => Host.reduce FloatOps.maximumf x v reducesTo_S1x32x2048x8192_S1x32x2048_d3 h_S_) : (⟨S1x32x2048x8192, .f32⟩ : BufTy).Contents (Elt F) → (⟨S_, .f32⟩ : BufTy).Contents (Elt F) → (⟨S1x32x2048, .f32⟩ : BufTy).Contents (Elt F)),
    unary main_v25 main_v26 (broadcastInDim S1x32x2048x1 ![0, 1, 2] bcast_S1x32x2048_S1x32x2048x1_0_1_2 : (⟨S1x32x2048, .f32⟩ : BufTy).Contents (Elt F) → (⟨S1x32x2048x1, .f32⟩ : BufTy).Contents (Elt F)),
    unary main_v26 main_v27 (broadcastInDim S1x32x2048x8192 ![0, 1, 2, 3] bcast_S1x32x2048x1_S1x32x2048x8192_0_1_2_3 : (⟨S1x32x2048x1, .f32⟩ : BufTy).Contents (Elt F) → (⟨S1x32x2048x8192, .f32⟩ : BufTy).Contents (Elt F)),
    binary main_v24 main_v27 main_v28 (subf : (⟨S1x32x2048x8192, .f32⟩ : BufTy).Contents (Elt F) → (⟨S1x32x2048x8192, .f32⟩ : BufTy).Contents (Elt F) → (⟨S1x32x2048x8192, .f32⟩ : BufTy).Contents (Elt F)),
    unary main_v28 main_v29 (Host.exp : (⟨S1x32x2048x8192, .f32⟩ : BufTy).Contents (Elt F) → (⟨S1x32x2048x8192, .f32⟩ : BufTy).Contents (Elt F)) ]
abbrev ops4 : List (HloOp τ sig (Elt F)) :=
  [ nullary main_c_4 (constantI S_ 1 0#1),
    binary main_v19 main_c_4 main_v30 ((fun x v => Host.reduce IntOp.ori x v reducesTo_S2048x8192_S2048_d1 h_S_) : (⟨S2048x8192, .i1⟩ : BufTy).Contents (Elt F) → (⟨S_, .i1⟩ : BufTy).Contents (Elt F) → (⟨S2048, .i1⟩ : BufTy).Contents (Elt F)),
    unary main_v30 main_v31 (broadcastInDim S1x1x2048x1 ![2] bcast_S2048_S1x1x2048x1_2 : (⟨S2048, .i1⟩ : BufTy).Contents (Elt F) → (⟨S1x1x2048x1, .i1⟩ : BufTy).Contents (Elt F)),
    nullary main_cst_5 (constant S_ .f32 0x00000000#32),
    binary main_v29 main_cst_5 main_v32 ((fun x v => Host.reduceAdd x v reducesTo_S1x32x2048x8192_S1x32x2048_d3 h_S_) : (⟨S1x32x2048x8192, .f32⟩ : BufTy).Contents (Elt F) → (⟨S_, .f32⟩ : BufTy).Contents (Elt F) → (⟨S1x32x2048, .f32⟩ : BufTy).Contents (Elt F)),
    unary main_v32 main_v33 (broadcastInDim S1x32x2048x1 ![0, 1, 2] bcast_S1x32x2048_S1x32x2048x1_0_1_2 : (⟨S1x32x2048, .f32⟩ : BufTy).Contents (Elt F) → (⟨S1x32x2048x1, .f32⟩ : BufTy).Contents (Elt F)),
    nullary main_cst_6 (constant S_ .f32 0x3F800000#32) ]
abbrev ops4c : List (HloOp τ sig (Elt F)) :=
  [ TRef.unary (.of main_cst_6 : TRef sig ⟨S_, .f32⟩) main_call1.v0 id,
    TRef.unary (.of main_v31 : TRef sig ⟨S1x1x2048x1, .i1⟩) main_call1.v1 (broadcastInDim S1x32x2048x1 ![0, 1, 2, 3] bcast_S1x1x2048x1_S1x32x2048x1_0_1_2_3),
    TRef.unary main_call1.v0 main_call1.v2 (broadcastInDim S1x32x2048x1 ![] bcast_S_S1x32x2048x1),
    TRef.ternary main_call1.v1 (.of main_v33 : TRef sig ⟨S1x32x2048x1, .f32⟩) main_call1.v2 main_call1.v3 select ]
abbrev ops4' : List (HloOp τ sig (Elt F)) :=
  [ unary main_v34 main_v35 (broadcastInDim S1x32x2048x8192 ![0, 1, 2, 3] bcast_S1x32x2048x1_S1x32x2048x8192_0_1_2_3 : (⟨S1x32x2048x1, .f32⟩ : BufTy).Contents (Elt F) → (⟨S1x32x2048x8192, .f32⟩ : BufTy).Contents (Elt F)),
    binary main_v29 main_v35 main_v36 (Host.divf : (⟨S1x32x2048x8192, .f32⟩ : BufTy).Contents (Elt F) → (⟨S1x32x2048x8192, .f32⟩ : BufTy).Contents (Elt F) → (⟨S1x32x2048x8192, .f32⟩ : BufTy).Contents (Elt F)),
    unary main_v30 main_v37 (broadcastInDim S1x1x2048x1 ![2] bcast_S2048_S1x1x2048x1_2 : (⟨S2048, .i1⟩ : BufTy).Contents (Elt F) → (⟨S1x1x2048x1, .i1⟩ : BufTy).Contents (Elt F)),
    nullary main_cst_7 (constant S_ .f32 0x00000000#32),
    TRef.unary (.of main_cst_7 : TRef sig ⟨S_, .f32⟩) main_call2.v0 id,
    TRef.unary (.of main_v37 : TRef sig ⟨S1x1x2048x1, .i1⟩) main_call2.v1 (broadcastInDim S1x32x2048x8192 ![0, 1, 2, 3] bcast_S1x1x2048x1_S1x32x2048x8192_0_1_2_3),
    TRef.unary main_call2.v0 main_call2.v2 (broadcastInDim S1x32x2048x8192 ![] bcast_S_S1x32x2048x8192),
    TRef.ternary main_call2.v1 (.of main_v36 : TRef sig ⟨S1x32x2048x8192, .f32⟩) main_call2.v2 main_call2.v3 select ]
abbrev ops5 : List (HloOp τ sig (Elt F)) :=
  [ binary main_arg3 main_v38 main_v39 ((fun l r => Host.dotGeneral dot_S1x8192x32x128_S1x32x2048x8192_S1x32x128x2048_1_3_3_2_02_01 none l r) : (⟨S1x8192x32x128, .f32⟩ : BufTy).Contents (Elt F) → (⟨S1x32x2048x8192, .f32⟩ : BufTy).Contents (Elt F) → (⟨S1x32x128x2048, .f32⟩ : BufTy).Contents (Elt F)),
    unary main_v39 main_v40 ((transpose S1x2048x32x128 [0, 3, 1, 2] · transposes_S1x32x128x2048_S1x2048x32x128_0_3_1_2) : (⟨S1x32x128x2048, .f32⟩ : BufTy).Contents (Elt F) → (⟨S1x2048x32x128, .f32⟩ : BufTy).Contents (Elt F)),
    reshape main_v40 main_v41 (rfl : (.f32 : EltTy) = .f32) shapeCasts_S1x2048x32x128_S1x2048x4096,
    binary main_v41 main_arg4 main_v42 ((fun l r => Host.dotGeneral dot_S1x2048x4096_S4096x1024_S1x2048x1024_2_0_01_1_n_n none l r) : (⟨S1x2048x4096, .f32⟩ : BufTy).Contents (Elt F) → (⟨S4096x1024, .f32⟩ : BufTy).Contents (Elt F) → (⟨S1x2048x1024, .f32⟩ : BufTy).Contents (Elt F)) ]
abbrev ops : List (HloOp τ sig (Elt F)) := ops1 ++ (ops2 ++ (ops3 ++ (ops4 ++ (ops4c ++ (ops4' ++ ops5)))))

theorem after_app (l₁ l₂ : List (HloOp τ sig (Elt F))) (V : Valuation τ sig (Elt F)) : after (l₁ ++ l₂) V = after l₂ (after l₁ V) := by
  induction l₁ generalizing V with
  | nil => rfl
  | cons op l ih => exact ih _

theorem main_eq (c : Dev nD) : main (F := F) c = seq ops := rfl

theorem s1_v1 (V : Valuation τ sig (Elt F)) : after ops1 V (main_v1 : DevRef τ sig) = query (V (main_arg0 : DevRef τ sig)) (V (main_arg1 : DevRef τ sig)) := by
  after_results_simp
  rfl
theorem s1_v19 (V : Valuation τ sig (Elt F)) : after ops1 V (main_v19 : DevRef τ sig) = keep := by
  after_results_simp
  rfl
theorem s1_arg2 (V : Valuation τ sig (Elt F)) : after ops1 V (main_arg2 : DevRef τ sig) = V (main_arg2 : DevRef τ sig) := by
  after_results_simp
theorem s1_arg3 (V : Valuation τ sig (Elt F)) : after ops1 V (main_arg3 : DevRef τ sig) = V (main_arg3 : DevRef τ sig) := by
  after_results_simp
theorem s1_arg4 (V : Valuation τ sig (Elt F)) : after ops1 V (main_arg4 : DevRef τ sig) = V (main_arg4 : DevRef τ sig) := by
  after_results_simp
theorem s2_v24 (V : Valuation τ sig (Elt F)) : after ops2 V (main_v24 : DevRef τ sig) = score (V (main_v19 : DevRef τ sig)) (V (main_v1 : DevRef τ sig)) (V (main_arg2 : DevRef τ sig)) := by
  after_results_simp
  rfl
theorem s2_v19 (V : Valuation τ sig (Elt F)) : after ops2 V (main_v19 : DevRef τ sig) = V (main_v19 : DevRef τ sig) := by
  after_results_simp
theorem s2_arg3 (V : Valuation τ sig (Elt F)) : after ops2 V (main_arg3 : DevRef τ sig) = V (main_arg3 : DevRef τ sig) := by
  after_results_simp
theorem s2_arg4 (V : Valuation τ sig (Elt F)) : after ops2 V (main_arg4 : DevRef τ sig) = V (main_arg4 : DevRef τ sig) := by
  after_results_simp
theorem s3_v29 (V : Valuation τ sig (Elt F)) : after ops3 V (main_v29 : DevRef τ sig) = expo (V (main_v24 : DevRef τ sig)) := by
  after_results_simp
  rfl
theorem s3_v19 (V : Valuation τ sig (Elt F)) : after ops3 V (main_v19 : DevRef τ sig) = V (main_v19 : DevRef τ sig) := by
  after_results_simp
theorem s3_arg3 (V : Valuation τ sig (Elt F)) : after ops3 V (main_arg3 : DevRef τ sig) = V (main_arg3 : DevRef τ sig) := by
  after_results_simp
theorem s3_arg4 (V : Valuation τ sig (Elt F)) : after ops3 V (main_arg4 : DevRef τ sig) = V (main_arg4 : DevRef τ sig) := by
  after_results_simp
theorem s4_v33 (V : Valuation τ sig (Elt F)) : after ops4 V (main_v33 : DevRef τ sig) = sums (V (main_v29 : DevRef τ sig)) := by
  after_results_simp
  rfl
theorem s4_v31 (V : Valuation τ sig (Elt F)) : after ops4 V (main_v31 : DevRef τ sig) = broadcastInDim S1x1x2048x1 ![2] bcast_S2048_S1x1x2048x1_2 (seen (V (main_v19 : DevRef τ sig))) := by
  after_results_simp
  rfl
theorem s4_cst_6 (V : Valuation τ sig (Elt F)) : after ops4 V (main_cst_6 : DevRef τ sig) = (constant S_ .f32 0x3F800000#32 : FVec F S_ .f32) := by
  after_results_simp
theorem s4_v30 (V : Valuation τ sig (Elt F)) : after ops4 V (main_v30 : DevRef τ sig) = seen (V (main_v19 : DevRef τ sig)) := by
  after_results_simp
  rfl
theorem s4_v29 (V : Valuation τ sig (Elt F)) : after ops4 V (main_v29 : DevRef τ sig) = V (main_v29 : DevRef τ sig) := by
  after_results_simp
theorem s4_arg3 (V : Valuation τ sig (Elt F)) : after ops4 V (main_arg3 : DevRef τ sig) = V (main_arg3 : DevRef τ sig) := by
  after_results_simp
theorem s4_arg4 (V : Valuation τ sig (Elt F)) : after ops4 V (main_arg4 : DevRef τ sig) = V (main_arg4 : DevRef τ sig) := by
  after_results_simp
theorem s4c_v34 (V : Valuation τ sig (Elt F)) : after ops4c V (main_v34 : DevRef τ sig) = pick (V (main_v31 : DevRef τ sig)) (V (main_v33 : DevRef τ sig)) (V (main_cst_6 : DevRef τ sig)) := by
  after_results_simp
  rfl
theorem s4c_v29 (V : Valuation τ sig (Elt F)) : after ops4c V (main_v29 : DevRef τ sig) = V (main_v29 : DevRef τ sig) := by
  after_results_simp
theorem s4c_v30 (V : Valuation τ sig (Elt F)) : after ops4c V (main_v30 : DevRef τ sig) = V (main_v30 : DevRef τ sig) := by
  after_results_simp
theorem s4c_arg3 (V : Valuation τ sig (Elt F)) : after ops4c V (main_arg3 : DevRef τ sig) = V (main_arg3 : DevRef τ sig) := by
  after_results_simp
theorem s4c_arg4 (V : Valuation τ sig (Elt F)) : after ops4c V (main_arg4 : DevRef τ sig) = V (main_arg4 : DevRef τ sig) := by
  after_results_simp
theorem s4'_v38 (V : Valuation τ sig (Elt F)) : after ops4' V (main_v38 : DevRef τ sig) = weight (V (main_v30 : DevRef τ sig)) (V (main_v29 : DevRef τ sig)) (V (main_v34 : DevRef τ sig)) := by
  after_results_simp
  rfl
theorem s4'_arg3 (V : Valuation τ sig (Elt F)) : after ops4' V (main_arg3 : DevRef τ sig) = V (main_arg3 : DevRef τ sig) := by
  after_results_simp
theorem s4'_arg4 (V : Valuation τ sig (Elt F)) : after ops4' V (main_arg4 : DevRef τ sig) = V (main_arg4 : DevRef τ sig) := by
  after_results_simp
theorem s5_v42 (V : Valuation τ sig (Elt F)) : after ops5 V (main_v42 : DevRef τ sig) = Host.dotGeneral dot_S1x2048x4096_S4096x1024_S1x2048x1024_2_0_01_1_n_n none (context (V (main_v38 : DevRef τ sig)) (V (main_arg3 : DevRef τ sig))) (V (main_arg4 : DevRef τ sig)) := by
  after_results_simp
  rfl

theorem out_eq (V : Valuation τ sig (Elt F)) : after ops V (main_v42 : DevRef τ sig)
    = out (V (main_arg0 : DevRef τ sig)) (V (main_arg1 : DevRef τ sig)) (V (main_arg2 : DevRef τ sig)) (V (main_arg3 : DevRef τ sig)) (V (main_arg4 : DevRef τ sig)) := by
  rw [after_app, after_app, after_app, after_app, after_app, after_app, s5_v42, s4'_v38, s4'_arg3, s4'_arg4, s4c_v30, s4c_v29, s4c_v34, s4c_arg3, s4c_arg4, s4_v30, s4_v29, s4_v31, s4_v33, s4_cst_6, s4_arg3, s4_arg4, s3_v29, s3_v19, s3_arg3, s3_arg4, s2_v24, s2_v19, s2_arg3, s2_arg4,
    s1_v1, s1_v19, s1_arg2, s1_arg3, s1_arg4]
  rfl

/-- The arrays the reference writes. -/
abbrev written : List (Ref sig .tc) :=
  main_v0 :: main_v1 :: main_v2 :: main_v3 :: main_v4 :: main_v5 :: main_v6 :: main_v7 :: main_v8 :: main_v9 :: main_c :: main_v10 :: main_v11 :: main_c_0 :: main_v12 :: main_v13 :: main_c_1 :: main_v14 :: main_v15 :: main_v16 :: main_v17 :: main_v18 :: main_v19 :: main_v20 :: main_cst :: main_v21 :: main_v22 :: main_v23 :: main_cst_2 :: main_call0_v0 :: main_call0_v1 :: main_call0_v2 :: main_v24 :: main_cst_3 :: main_v25 :: main_v26 :: main_v27 :: main_v28 :: main_v29 :: main_c_4 :: main_v30 :: main_v31 :: main_cst_5 :: main_v32 :: main_v33 :: main_cst_6 :: main_call1_v0 :: main_call1_v1 :: main_call1_v2 :: main_v34 :: main_v35 :: main_v36 :: main_v37 :: main_cst_7 :: main_call2_v0 :: main_call2_v1 :: main_call2_v2 :: main_v38 :: main_v39 :: main_v40 :: main_v41 :: main_v42 :: []

theorem written_sub : (ops : List (HloOp τ sig (Elt F))).Forall fun op => op.writes ⊆ (written.map (Proc.devRef (τ := τ) .tc)).toFinset :=
  forall_writes_sub_of_map rfl

theorem arg0_eq (V : Valuation τ sig (Elt F)) : after ops V (main_arg0 : DevRef τ sig) = V (main_arg0 : DevRef τ sig) := after_of_writes_sub ops V written_sub (by decide)
theorem arg1_eq (V : Valuation τ sig (Elt F)) : after ops V (main_arg1 : DevRef τ sig) = V (main_arg1 : DevRef τ sig) := after_of_writes_sub ops V written_sub (by decide)
theorem arg2_eq (V : Valuation τ sig (Elt F)) : after ops V (main_arg2 : DevRef τ sig) = V (main_arg2 : DevRef τ sig) := after_of_writes_sub ops V written_sub (by decide)
theorem arg3_eq (V : Valuation τ sig (Elt F)) : after ops V (main_arg3 : DevRef τ sig) = V (main_arg3 : DevRef τ sig) := after_of_writes_sub ops V written_sub (by decide)
theorem arg4_eq (V : Valuation τ sig (Elt F)) : after ops V (main_arg4 : DevRef τ sig) = V (main_arg4 : DevRef τ sig) := after_of_writes_sub ops V written_sub (by decide)

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig := by
  simp only [List.forall_cons]
  exact ⟨binary_bufs_sub .., reshape_bufs_sub .., nullary_bufs_sub .., unary_bufs_sub .., nullary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., trivial⟩
theorem ops2_sub : (ops2 : List (HloOp τ sig (Elt F))).Forall fun op => op.bufs ⊆ tcRefs τ sig := by
  simp only [List.forall_cons]
  exact ⟨binary_bufs_sub .., nullary_bufs_sub .., unary_bufs_sub .., binary_bufs_sub .., unary_bufs_sub .., nullary_bufs_sub .., unary_bufs_sub .., unary_bufs_sub .., unary_bufs_sub .., ternary_bufs_sub .., trivial⟩
theorem ops3_sub : (ops3 : List (HloOp τ sig (Elt F))).Forall fun op => op.bufs ⊆ tcRefs τ sig := by
  simp only [List.forall_cons]
  exact ⟨nullary_bufs_sub .., binary_bufs_sub .., unary_bufs_sub .., unary_bufs_sub .., binary_bufs_sub .., unary_bufs_sub .., trivial⟩
theorem ops4_sub : (ops4 : List (HloOp τ sig (Elt F))).Forall fun op => op.bufs ⊆ tcRefs τ sig := by
  simp only [List.forall_cons]
  exact ⟨nullary_bufs_sub .., binary_bufs_sub .., unary_bufs_sub .., nullary_bufs_sub .., binary_bufs_sub .., unary_bufs_sub .., nullary_bufs_sub .., trivial⟩
theorem ops4c_sub : (ops4c : List (HloOp τ sig (Elt F))).Forall fun op => op.bufs ⊆ tcRefs τ sig := by
  simp only [List.forall_cons]
  exact ⟨unary_bufs_sub .., unary_bufs_sub .., unary_bufs_sub .., ternary_bufs_sub .., trivial⟩
theorem ops4'_sub : (ops4' : List (HloOp τ sig (Elt F))).Forall fun op => op.bufs ⊆ tcRefs τ sig := by
  simp only [List.forall_cons]
  exact ⟨unary_bufs_sub .., binary_bufs_sub .., unary_bufs_sub .., nullary_bufs_sub .., unary_bufs_sub .., unary_bufs_sub .., unary_bufs_sub .., ternary_bufs_sub .., trivial⟩
theorem ops5_sub : (ops5 : List (HloOp τ sig (Elt F))).Forall fun op => op.bufs ⊆ tcRefs τ sig := by
  simp only [List.forall_cons]
  exact ⟨binary_bufs_sub .., unary_bufs_sub .., reshape_bufs_sub .., binary_bufs_sub .., trivial⟩
theorem ops_sub : (ops : List (HloOp τ sig (Elt F))).Forall fun op => op.bufs ⊆ tcRefs τ sig :=
  List.forall_append.2 ⟨ops1_sub, List.forall_append.2 ⟨ops2_sub, List.forall_append.2 ⟨ops3_sub, List.forall_append.2 ⟨ops4_sub, List.forall_append.2 ⟨ops4c_sub, List.forall_append.2 ⟨ops4'_sub, ops5_sub⟩⟩⟩⟩⟩⟩

theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v42) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  (θ_run defs _ _).mono (fun _ h c => ⟨(h c main_v42).trans (out_eq _), (h c main_arg0).trans (arg0_eq _), (h c main_arg1).trans (arg1_eq _),
      (h c main_arg2).trans (arg2_eq _), (h c main_arg3).trans (arg3_eq _), (h c main_arg4).trans (arg4_eq _)⟩)
    (run_seq scopedRefs_eq scopedSems_eq defs main (fun _ => ops) main_eq (fun _ => ops_sub) m ρ)

end Cert.Refer

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Run
public import proofs.«01_k».proof.Proof.Refer

@[expose] public section

noncomputable section

/-! # The three programs run, and leave what they were given as it was -/

namespace Cert.Frames

open Idealize Idealize.ShloMosaic Idealize.SL.Sem

/-- The mask as the word the kernel writes, for the run over float words. -/
instance named : Named Bits := ⟨fun _ _ {φ} b => Scalar.ofBits φ b⟩

theorem same_run [hK : Cert.Kernel.Facts] [hI : Cert.KernelIdeal.Facts] : (∀ (m : (ℓ : Loc Cert.KernelIdeal.nD Cert.KernelIdeal.τ Cert.KernelIdeal.sig) → Buf (Elt Bits) ℓ) (g : Dev Cert.KernelIdeal.nD → PrngReg) (_ : True),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)) = Cert.quiescent_Kernel := by
  chain_rfl

theorem frame_p : Cert.quiescent_Kernel :=
  same_run.mp fun m g _ => (θ_run _ _ _).mono (fun _ h => ⟨fun c => (h.1 c).1, h.2⟩) (Cert.Attn.run_main (F := Bits) m g)

theorem frame_pi : Cert.quiescent_KernelIdeal :=
  fun m g _ => (θ_run _ _ _).mono (fun _ h => ⟨fun c => (h.1 c).1, h.2⟩) (Cert.Attn.run_main (F := Ideal) m g)

theorem frame_pi_pre : Cert.quiescent_KernelIdeal_pre_finite_KernelIdeal :=
  fun m g _ => (θ_run _ _ _).mono (fun _ h => ⟨fun c => (h.1 c).1, h.2⟩) (Cert.Attn.run_main (F := Ideal) m g)

theorem frame_ri : Cert.quiescent_ReferenceIdeal :=
  fun m g _ => (θ_run _ _ _).mono (fun r h => ⟨fun c => (h c).2, sem_eq_zero_of_no_sems (by decide) r.2⟩) (Cert.Refer.run_main (F := Ideal) m g)

theorem frame_ri_pre : Cert.quiescent_ReferenceIdeal_pre_finite_ReferenceIdeal :=
  fun m g _ => (θ_run _ _ _).mono (fun r h => ⟨fun c => (h c).2, sem_eq_zero_of_no_sems (by decide) r.2⟩) (Cert.Refer.run_main (F := Ideal) m g)

theorem keeps : Cert.preserves_Kernel_KernelIdeal := IdealRules.named_const.statement Cert.KernelIdeal.κ "mask" .f32 0xCE6E6B28#32 ⊥ rfl

end Cert.Frames

end
-- ==== Proof.Soft.lean ====
module

public import Idealize.ShloMosaic.PureOps.Ideal
public import Idealize.ShloMosaic.Lib.IdealHost

@[expose] public section

noncomputable section

/-! # Sums of exponentials taken block by block

A row keeps a real number `μ`, the sum of the exponentials of the scores it has seen and the sum of the rows of values under
those weights, both less `μ`. A block moves `μ`, rescales the two sums and adds its own. What the division gives at the end
does not depend on the numbers `μ` the row went through. -/

namespace Cert.Soft

open Idealize.ShloMosaic

/-- The exponential of a score, as a real number: none for a score that is masked. -/
def ex (x : EReal) : ℝ := (Ideal.exp x).toReal

theorem ex_bot : ex ⊥ = 0 := by simp [ex]
theorem ex_coe (s : ℝ) : ex s = Real.exp s := by simp [ex]
theorem ex_nonneg (x : EReal) : 0 ≤ ex x := by
  induction x using EReal.rec with
  | bot => rw [ex_bot]
  | coe s => rw [ex_coe]; exact (Real.exp_pos s).le
  | top => simp [ex]

theorem exp_sub (x : EReal) (hx : x ≠ ⊤) (μ : ℝ) : Ideal.exp (x - (μ : EReal)) = ((ex x * Real.exp (-μ) : ℝ) : EReal) := by
  induction x using EReal.rec with
  | bot => rw [EReal.bot_sub, Ideal.exp_bot, ex_bot, zero_mul, EReal.coe_zero]
  | coe s => rw [← EReal.coe_sub, Ideal.exp_coe, ex_coe, ← Real.exp_add, sub_eq_add_neg]
  | top => exact absurd rfl hx

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over a sum of extended reals. -/
theorem coe_mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (EReal.coe_nonneg.2 hc) (EReal.coe_ne_top c), ih]

/-- A row's state: its sums, less `μ`. -/
def Good {D : Type} (m l : EReal) (acc : D → EReal) (E : ℝ) (N : D → EReal) : Prop :=
  ∃ μ : ℝ, m = (μ : EReal) ∧ l = ((Real.exp (-μ) * E : ℝ) : EReal) ∧ ∀ d, acc d = ((Real.exp (-μ) : ℝ) : EReal) * N d

variable {D : Type}

theorem Good.start (m : EReal) (hm : ∃ μ : ℝ, m = μ) : Good (D := D) m 0 (fun _ => 0) 0 (fun _ => 0) := by
  obtain ⟨μ, rfl⟩ := hm
  exact ⟨μ, rfl, by simp, fun d => by simp⟩

theorem coe_max (a b : ℝ) : ((max a b : ℝ) : EReal) = max (a : EReal) b := EReal.coe_strictMono.monotone.map_max

theorem max_real (μ : ℝ) (x : EReal) (hx : x ≠ ⊤) : ∃ ν : ℝ, max (μ : EReal) x = ν := by
  induction x using EReal.rec with
  | bot => exact ⟨μ, by simp⟩
  | coe s => exact ⟨max μ s, (coe_max _ _).symm⟩
  | top => exact absurd rfl hx

theorem fold_ne_top {ι : Type} (t : Finset ι) (s : ι → EReal) (hs : ∀ i, s i ≠ ⊤) : t.fold max ⊥ s ≠ ⊤ :=
  ((Finset.fold_max_lt (⊤ : EReal)).2 ⟨bot_lt_top, fun i _ => lt_top_iff_ne_top.2 (hs i)⟩).ne

/-- Moving `μ` to `ν` rescales by this factor. -/
theorem move (μ ν : ℝ) : Ideal.exp ((μ : EReal) - (ν : EReal)) = ((Real.exp (μ - ν) : ℝ) : EReal) := by
  rw [← EReal.coe_sub, Ideal.exp_coe]

theorem scale (μ ν : ℝ) : Real.exp (-μ) * Real.exp (μ - ν) = Real.exp (-ν) := by
  rw [← Real.exp_add]; congr 1; ring

theorem Good.step {T : Type} [Fintype T] {m l : EReal} {acc : D → EReal} {E : ℝ} {N : D → EReal} (h : Good m l acc E N)
    (s : T → EReal) (hs : ∀ t, s t ≠ ⊤) (v : T → D → EReal) (m' : EReal) (hm : m' = max m (Finset.univ.fold max ⊥ s)) :
    Good m' (l * Ideal.exp (m - m') + ∑ t, Ideal.exp (s t - m')) (fun d => acc d * Ideal.exp (m - m') + ∑ t, Ideal.exp (s t - m') * v t d)
      (E + ∑ t, ex (s t)) (fun d => N d + ∑ t, (ex (s t) : EReal) * v t d) := by
  obtain ⟨μ, rfl, rfl, ha⟩ := h
  obtain ⟨ν, hν⟩ := max_real μ _ (fold_ne_top Finset.univ s hs)
  rw [hν] at hm
  subst hm
  refine ⟨ν, rfl, ?_, fun d => ?_⟩
  · rw [move, ← EReal.coe_mul, Finset.sum_congr rfl fun t _ => exp_sub (s t) (hs t) ν, ← coe_sum, ← EReal.coe_add]
    congr 1
    rw [mul_right_comm, scale, ← Finset.sum_mul, mul_add, mul_comm (Real.exp (-ν)) (∑ t, ex (s t))]
  · dsimp only
    rw [ha, move, EReal.left_distrib_of_nonneg_of_ne_top (EReal.coe_nonneg.2 (Real.exp_pos _).le) (EReal.coe_ne_top _)]
    congr 1
    · rw [mul_right_comm, ← EReal.coe_mul, scale]
    · rw [coe_mul_sum _ _ (Real.exp_pos _).le]
      refine Finset.sum_congr rfl fun t _ => ?_
      rw [exp_sub (s t) (hs t) ν, EReal.coe_mul, mul_comm (ex (s t) : EReal), mul_assoc]

theorem Good.merge {m l : EReal} {acc : D → EReal} {E : ℝ} {N : D → EReal} (h : Good m l acc E N)
    {m₂ l₂ : EReal} {acc₂ : D → EReal} {E₂ : ℝ} {N₂ : D → EReal} (h₂ : Good m₂ l₂ acc₂ E₂ N₂) :
    Good (max m m₂) (l * Ideal.exp (m - max m m₂) + l₂ * Ideal.exp (m₂ - max m m₂))
      (fun d => acc d * Ideal.exp (m - max m m₂) + acc₂ d * Ideal.exp (m₂ - max m m₂)) (E + E₂) (fun d => N d + N₂ d) := by
  obtain ⟨μ, rfl, rfl, ha⟩ := h
  obtain ⟨μ₂, rfl, rfl, ha₂⟩ := h₂
  rw [← coe_max]
  generalize max μ μ₂ = ν
  refine ⟨ν, rfl, ?_, fun d => ?_⟩
  · rw [move, move, ← EReal.coe_mul, ← EReal.coe_mul, ← EReal.coe_add]
    congr 1
    rw [mul_right_comm, scale, mul_right_comm (Real.exp (-μ₂)), scale, mul_add]
  · dsimp only
    rw [ha, ha₂, move, move, EReal.left_distrib_of_nonneg_of_ne_top (EReal.coe_nonneg.2 (Real.exp_pos _).le) (EReal.coe_ne_top _)]
    rw [mul_right_comm, ← EReal.coe_mul, scale, mul_right_comm ((Real.exp (-μ₂) : ℝ) : EReal), ← EReal.coe_mul, scale]

theorem div_coe (x : EReal) (r : ℝ) (hr : r ≠ 0) : Ideal.div x (r : EReal) = x * ((r⁻¹ : ℝ) : EReal) := by
  rw [Ideal.div, if_neg (by exact_mod_cast hr), EReal.coe_inv]

theorem Good.out {m l : EReal} {acc : D → EReal} {E : ℝ} {N : D → EReal} (h : Good m l acc E N) (hE : E ≠ 0) (d : D) :
    Ideal.div (acc d) l = ((E⁻¹ : ℝ) : EReal) * N d := by
  obtain ⟨μ, rfl, rfl, ha⟩ := h
  rw [div_coe _ _ (mul_ne_zero (Real.exp_pos _).ne' hE), ha, mul_right_comm, ← EReal.coe_mul]
  congr 2
  rw [mul_inv, ← mul_assoc, mul_inv_cancel₀ (Real.exp_pos _).ne', one_mul]

/-! ## The weights all at once -/

/-- The rows of values under the weights of all scores. -/
def mix {J : Type} [Fintype J] (s v : J → EReal) : EReal := (((∑ j, ex (s j))⁻¹ : ℝ) : EReal) * ∑ j, (ex (s j) : EReal) * v j

theorem mix_eq {J : Type} [Fintype J] (s v : J → EReal) (hs : ∀ j, s j ≠ ⊤) (j₀ : J) (h₀ : s j₀ ≠ ⊥) :
    ∑ j, v j * Ideal.div (Ideal.exp (s j - Finset.univ.fold max ⊥ s)) (∑ j, Ideal.exp (s j - Finset.univ.fold max ⊥ s)) = mix s v := by
  have hp : 0 < ∑ j, ex (s j) := by
    refine Finset.sum_pos' (fun j _ => ex_nonneg _) ⟨j₀, Finset.mem_univ _, ?_⟩
    lift s j₀ to ℝ using ⟨hs j₀, h₀⟩ with a ha
    rw [ex_coe]; exact Real.exp_pos a
  obtain ⟨μ, hμ⟩ : ∃ μ : ℝ, Finset.univ.fold max ⊥ s = μ := by
    refine ⟨(Finset.univ.fold max ⊥ s).toReal, (EReal.coe_toReal (fold_ne_top _ s hs) fun h => h₀ ?_).symm⟩
    have := (Finset.le_fold_max (s j₀)).2 (Or.inr ⟨j₀, Finset.mem_univ _, le_rfl⟩ : s j₀ ≤ ⊥ ∨ ∃ x ∈ Finset.univ, s j₀ ≤ s x)
    rw [h] at this
    exact le_bot_iff.1 this
  rw [hμ, Finset.sum_congr rfl (fun j _ => exp_sub (s j) (hs j) μ), ← coe_sum, ← Finset.sum_mul, mix, coe_mul_sum _ _ (inv_nonneg.2 hp.le)]
  refine Finset.sum_congr rfl fun j _ => ?_
  rw [exp_sub (s j) (hs j) μ, div_coe _ _ (mul_ne_zero hp.ne' (Real.exp_pos _).ne'), ← EReal.coe_mul, ← mul_assoc, ← EReal.coe_mul, mul_comm]
  congr 2
  rw [mul_inv, mul_comm (_)⁻¹ (ex (s j)), mul_mul_mul_comm, mul_inv_cancel₀ (Real.exp_pos (-μ)).ne', mul_one]

end Cert.Soft

end
-- ==== Proof.Read.lean ====
module

public import proofs.«01_k».proof.Proof.Loops
public import proofs.«01_k».proof.Proof.Soft
public import Idealize.ShloMosaic.Lib.Pointwise
public import Idealize.ShloMosaic.Lib.MatmulPlain

@[expose] public section

noncomputable section

/-! # What the streams compute, element by element, over the extended reals -/

namespace Cert.Attn

open Cert.KernelIdeal Cert.KernelIdeal.Gen
open Idealize.ShloMosaic Idealize.ShloMosaic.TcCoe

theorem named_mask : (Named.named (F := Ideal) κ "mask" (φ := .f32) 0xCE6E6B28#32 : EReal) = ⊥ := rfl

theorem word_bot : (Ideal.ofBits .f32 0xFF800000#32 : EReal) = ⊥ := by
  show (Ideal.ieee 8 23 (0xFF800000#32 : BitVec 32) : EReal) = ⊥
  unfold Ideal.ieee
  simp only [show ((0xFF800000#32 : BitVec 32).extractLsb' 23 8).toNat = 2 ^ 8 - 1 from by decide, show ((0xFF800000#32 : BitVec 32).extractLsb' 0 23).toNat = 0 from by decide,
    show ((0xFF800000#32 : BitVec 32).extractLsb' (8 + 23) 1 == 1#1) = true from by decide, if_true]

theorem word_top : (Ideal.ofBits .f32 0x7F800000#32 : EReal) = ⊤ := by
  show (Ideal.ieee 8 23 (0x7F800000#32 : BitVec 32) : EReal) = ⊤
  unfold Ideal.ieee
  simp only [show ((0x7F800000#32 : BitVec 32).extractLsb' 23 8).toNat = 2 ^ 8 - 1 from by decide, show ((0x7F800000#32 : BitVec 32).extractLsb' 0 23).toNat = 0 from by decide,
    show ((0x7F800000#32 : BitVec 32).extractLsb' (8 + 23) 1 == 1#1) = false from by decide, if_true]
  rfl

theorem word_real (b : BitVec 32) (h : (b.extractLsb' 23 8).toNat ≠ 2 ^ 8 - 1) : ∃ r : ℝ, (Ideal.ofBits .f32 b : EReal) = r := by
  show ∃ r : ℝ, (Ideal.ieee 8 23 b : EReal) = r
  unfold Ideal.ieee
  simp only [if_neg h]
  split
  · exact ⟨_, rfl⟩
  · exact ⟨_, rfl⟩

/-- The row's first number. -/
theorem word_low : ∃ r : ℝ, (Ideal.ofBits .f32 0xF149F2CA#32 : EReal) = r := word_real _ (by decide)
/-- The scale of the scores. -/
theorem word_scale : ∃ r : ℝ, (Ideal.ofBits .f32 0x3DB504F3#32 : EReal) = r := word_real _ (by decide)

theorem pay1_at (v : Blk Ideal) (t : Fin 512) (d : Fin 128) : k0_pay1 v (ix2 t d) = v (ix3 0 t d) := by
  pointwise [k0_pay1]

/-- Which keys a row sees, as the long stream's mask says it. -/
def keepA (r j : BitVec 32) : BitVec 1 :=
  IntOp.ori (IntOp.ori (IntOp.cmpi .sle (IntOp.absi (IntOp.subi r j)) 128#32) (IntOp.cmpi .slt j 32#32)) (IntOp.cmpi .slt r 32#32)

theorem pay2_at (q : FVec Ideal S2048x128 .bf16) (iv : BitVec 32) (k : Blk Ideal) (r : Fin 2048) (t : Fin 512) :
    k0_pay2 q iv k (ix2 r t) = Scalar.select (keepA (BitVec.ofNat 32 r.val) (IntOp.addi (Scalar.muli iv 512#32) (BitVec.ofNat 32 t.val)))
      (∑ d : Fin 128, q (ix2 r d) * k (ix3 0 t d)) (⊥ : EReal) := by
  pointwise [k0_pay2, keepA]
  rw [named_mask]

theorem pay3_at (q : FVec Ideal S2048x128 .bf16) (m : FVec Ideal S2048x1 .f32) (iv : BitVec 32) (k : Blk Ideal) (r : Fin 2048) :
    k0_pay3 q m iv k (ix2 r 0) = max (m (ix2 r 0)) (Finset.univ.fold max ⊥ fun t : Fin 512 => k0_pay2 q iv k (ix2 r t)) := by
  pointwise [k0_pay3]
  rw [word_bot]

theorem pay4_at (q : FVec Ideal S2048x128 .bf16) (m : FVec Ideal S2048x1 .f32) (iv : BitVec 32) (k : Blk Ideal) (r : Fin 2048) (t : Fin 512) :
    k0_pay4 q m iv k (ix2 r t) = k0_pay2 q iv k (ix2 r t) - k0_pay3 q m iv k (ix2 r 0) := by
  pointwise [k0_pay4]

theorem pay40_at (m l m' : FVec Ideal S2048x1 .f32) (p : FVec Ideal S2048x512 .f32) (r : Fin 2048) :
    k0_pay40 m l m' p (ix2 r 0) = l (ix2 r 0) * Ideal.exp (m (ix2 r 0) - m' (ix2 r 0)) + ∑ t : Fin 512, Ideal.exp (p (ix2 r t)) := by
  pointwise [k0_pay40, k0_pay38, k0_pay39]

theorem pay41_at (m : FVec Ideal S2048x1 .f32) (a : FVec Ideal S2048x128 .f32) (v : FVec Ideal S512x128 .bf16) (m' : FVec Ideal S2048x1 .f32) (p : FVec Ideal S2048x512 .f32) (r : Fin 2048) (d : Fin 128) :
    k0_pay41 m a v m' p (ix2 r d) = a (ix2 r d) * Ideal.exp (m (ix2 r 0) - m' (ix2 r 0)) + ∑ t : Fin 512, Ideal.exp (p (ix2 r t)) * v (ix2 t d) := by
  pointwise [k0_pay41, k0_pay38, k0_pay39]

theorem pay182_at (q : FVec Ideal S32x128 .bf16) (k : Blk Ideal) (r : Fin 32) (t : Fin 512) :
    k0_pay182 q k (ix2 r t) = ∑ d : Fin 128, q (ix2 r d) * k (ix3 0 t d) := by
  pointwise [k0_pay182]

theorem pay183_at (q : FVec Ideal S32x128 .bf16) (m : FVec Ideal S32x1 .f32) (k : Blk Ideal) (r : Fin 32) :
    k0_pay183 q m k (ix2 r 0) = max (m (ix2 r 0)) (Finset.univ.fold max ⊥ fun t : Fin 512 => k0_pay182 q k (ix2 r t)) := by
  pointwise [k0_pay183]
  rw [word_bot]

theorem pay186_at (q : FVec Ideal S32x128 .bf16) (m l : FVec Ideal S32x1 .f32) (k : Blk Ideal) (r : Fin 32) :
    k0_pay186 q m l k (ix2 r 0) = l (ix2 r 0) * Ideal.exp (m (ix2 r 0) - k0_pay183 q m k (ix2 r 0)) + ∑ t : Fin 512, Ideal.exp (k0_pay182 q k (ix2 r t) - k0_pay183 q m k (ix2 r 0)) := by
  pointwise [k0_pay186, k0_pay185, k0_pay184]

theorem pay187_at (q : FVec Ideal S32x128 .bf16) (m : FVec Ideal S32x1 .f32) (a : FVec Ideal S32x128 .f32) (k v : Blk Ideal) (r : Fin 32) (d : Fin 128) :
    k0_pay187 q m a k v (ix2 r d) = a (ix2 r d) * Ideal.exp (m (ix2 r 0) - k0_pay183 q m k (ix2 r 0))
      + ∑ t : Fin 512, Ideal.exp (k0_pay182 q k (ix2 r t) - k0_pay183 q m k (ix2 r 0)) * v (ix3 0 t d) := by
  pointwise [k0_pay187, k0_pay185, k0_pay184]

end Cert.Attn

end
-- ==== Proof.Row.lean ====
module

public import proofs.«01_k».proof.Proof.Read

@[expose] public section

noncomputable section

/-! # The running softmax of a row of either stream -/

namespace Cert.Attn

open Cert.KernelIdeal Cert.KernelIdeal.Gen
open Idealize.ShloMosaic Idealize.ShloMosaic.TcCoe
open Cert.Soft

/-- A masked score of the long stream, never `⊤` when the plain scores are not. -/
def dots {n : ℕ} (q : Fin n → Fin 128 → EReal) (k : Blk Ideal) (r : Fin n) (t : Fin 512) : EReal := ∑ d : Fin 128, q r d * k (ix3 0 t d)

theorem initA_at (r : Fin 2048) : (∃ μ : ℝ, (initA (F := Ideal)).1 (ix2 r 0) = (μ : EReal)) ∧ (initA (F := Ideal)).2.1 (ix2 r 0) = (0 : EReal)
    ∧ ∀ d : Fin 128, (initA (F := Ideal)).2.2 (ix2 r d) = (0 : EReal) :=
  ⟨word_low, Ideal.ofBits_zero_f32, fun _ => Ideal.ofBits_zero_f32⟩

theorem initB_at (r : Fin 32) : (∃ μ : ℝ, (initB (F := Ideal)).1 (ix2 r 0) = (μ : EReal)) ∧ (initB (F := Ideal)).2.1 (ix2 r 0) = (0 : EReal)
    ∧ ∀ d : Fin 128, (initB (F := Ideal)).2.2 (ix2 r d) = (0 : EReal) :=
  ⟨word_low, Ideal.ofBits_zero_f32, fun _ => Ideal.ofBits_zero_f32⟩

/-- The state of row `r` holds the sums `E` and `N`. -/
abbrev GoodA (a : StA Ideal) (r : Fin 2048) (E : ℝ) (N : Fin 128 → EReal) : Prop :=
  Good (a.1 (ix2 r 0)) (a.2.1 (ix2 r 0)) (fun d : Fin 128 => a.2.2 (ix2 r d)) E N
abbrev GoodB (a : StB Ideal) (r : Fin 32) (E : ℝ) (N : Fin 128 → EReal) : Prop :=
  Good (a.1 (ix2 r 0)) (a.2.1 (ix2 r 0)) (fun d : Fin 128 => a.2.2 (ix2 r d)) E N

theorem startA (r : Fin 2048) : GoodA initA r 0 (fun _ => 0) := by
  obtain ⟨hm, hl, ha⟩ := initA_at r
  unfold GoodA
  rw [hl, funext ha]
  exact Good.start _ hm

theorem startB (r : Fin 32) : GoodB initB r 0 (fun _ => 0) := by
  obtain ⟨hm, hl, ha⟩ := initB_at r
  unfold GoodB
  rw [hl, funext ha]
  exact Good.start _ hm

theorem stepA_good (q : FVec Ideal S2048x128 .bf16) (i : ℕ) (a : StA Ideal) (k v : Blk Ideal) (r : Fin 2048) (E : ℝ) (N : Fin 128 → EReal)
    (hs : ∀ t : Fin 512, k0_pay2 q (Scf.iv 0#32 1#32 i) k (ix2 r t) ≠ (⊤ : EReal)) (h : GoodA a r E N) :
    GoodA (stepA q i a k v) r (E + ∑ t : Fin 512, ex (k0_pay2 q (Scf.iv 0#32 1#32 i) k (ix2 r t)))
      (fun d => N d + ∑ t : Fin 512, (ex (k0_pay2 q (Scf.iv 0#32 1#32 i) k (ix2 r t)) : EReal) * v (ix3 0 t d)) := by
  have H := h.step (fun t : Fin 512 => k0_pay2 q (Scf.iv 0#32 1#32 i) k (ix2 r t)) hs (fun t d => v (ix3 0 t d)) (k0_pay3 q a.1 (Scf.iv 0#32 1#32 i) k (ix2 r 0)) (pay3_at ..)
  have e1 : (stepA q i a k v).2.1 (ix2 r 0) = a.2.1 (ix2 r 0) * Ideal.exp (a.1 (ix2 r 0) - k0_pay3 q a.1 (Scf.iv 0#32 1#32 i) k (ix2 r 0))
      + ∑ t : Fin 512, Ideal.exp (k0_pay2 q (Scf.iv 0#32 1#32 i) k (ix2 r t) - k0_pay3 q a.1 (Scf.iv 0#32 1#32 i) k (ix2 r 0)) :=
    (pay40_at ..).trans (by simp only [pay4_at])
  have e2 (d : Fin 128) : (stepA q i a k v).2.2 (ix2 r d) = a.2.2 (ix2 r d) * Ideal.exp (a.1 (ix2 r 0) - k0_pay3 q a.1 (Scf.iv 0#32 1#32 i) k (ix2 r 0))
      + ∑ t : Fin 512, Ideal.exp (k0_pay2 q (Scf.iv 0#32 1#32 i) k (ix2 r t) - k0_pay3 q a.1 (Scf.iv 0#32 1#32 i) k (ix2 r 0)) * v (ix3 0 t d) :=
    (pay41_at ..).trans (by simp only [pay4_at, pay1_at])
  unfold GoodA
  rw [e1, funext e2]
  exact H

theorem stepB_good (q : FVec Ideal S32x128 .bf16) (a : StB Ideal) (k v : Blk Ideal) (r : Fin 32) (E : ℝ) (N : Fin 128 → EReal)
    (hs : ∀ t : Fin 512, k0_pay182 q k (ix2 r t) ≠ (⊤ : EReal)) (h : GoodB a r E N) :
    GoodB (stepB q a k v) r (E + ∑ t : Fin 512, ex (k0_pay182 q k (ix2 r t)))
      (fun d => N d + ∑ t : Fin 512, (ex (k0_pay182 q k (ix2 r t)) : EReal) * v (ix3 0 t d)) := by
  have H := h.step (fun t : Fin 512 => k0_pay182 q k (ix2 r t)) hs (fun t d => v (ix3 0 t d)) (k0_pay183 q a.1 k (ix2 r 0)) (pay183_at ..)
  unfold GoodB
  rw [show (stepB q a k v).2.1 (ix2 r 0) = _ from pay186_at .., funext fun d => show (stepB q a k v).2.2 (ix2 r d) = _ from pay187_at ..]
  exact H

theorem runA_good (q : FVec Ideal S2048x128 .bf16) (kv vv : ℕ → Blk Ideal) (r : Fin 2048)
    (hs : ∀ i (t : Fin 512), k0_pay2 q (Scf.iv 0#32 1#32 i) (kv i) (ix2 r t) ≠ (⊤ : EReal)) (n : ℕ) :
    GoodA (runA q kv vv n) r (∑ i ∈ Finset.range n, ∑ t : Fin 512, ex (k0_pay2 q (Scf.iv 0#32 1#32 i) (kv i) (ix2 r t)))
      (fun d => ∑ i ∈ Finset.range n, ∑ t : Fin 512, (ex (k0_pay2 q (Scf.iv 0#32 1#32 i) (kv i) (ix2 r t)) : EReal) * vv i (ix3 0 t d)) := by
  induction n with
  | zero => simp only [Finset.range_zero, Finset.sum_empty]; exact startA r
  | succ n ih =>
    simp only [Finset.sum_range_succ]
    exact stepA_good q n _ (kv n) (vv n) r _ _ (hs n) ih

theorem runB_good (q : FVec Ideal S32x128 .bf16) (kv vv : ℕ → Blk Ideal) (r : Fin 32)
    (hs : ∀ i (t : Fin 512), k0_pay182 q (kv i) (ix2 r t) ≠ (⊤ : EReal)) (n : ℕ) :
    GoodB (runB q kv vv n) r (∑ i ∈ Finset.range n, ∑ t : Fin 512, ex (k0_pay182 q (kv i) (ix2 r t)))
      (fun d => ∑ i ∈ Finset.range n, ∑ t : Fin 512, (ex (k0_pay182 q (kv i) (ix2 r t)) : EReal) * vv i (ix3 0 t d)) := by
  induction n with
  | zero => simp only [Finset.range_zero, Finset.sum_empty]; exact startB r
  | succ n ih =>
    simp only [Finset.sum_range_succ]
    exact stepB_good q _ (kv n) (vv n) r _ _ (hs n) ih

end Cert.Attn

end
-- ==== Proof.Keys.lean ====
module

public import proofs.«01_k».proof.Proof.Row
public import proofs.«01_k».proof.Proof.Swap
public import proofs.«01_k».proof.Proof.Blocks
public import Idealize.ShloMosaic.Lib.StableHlo.Predicate

@[expose] public section

noncomputable section

/-! # The keys a stream reads, and which of them a row sees -/

namespace Cert.Attn

open Cert.KernelIdeal Cert.KernelIdeal.Gen Cert.Exchange
open Idealize.ShloMosaic Idealize.ShloMosaic.TcCoe
open Cert.Soft

theorem keep_near (r j : ℕ) (hr : r < 2048) (hj : j < 8192) (h : r < 32 ∨ j < 32) : keepA (BitVec.ofNat 32 r) (BitVec.ofNat 32 j) = 1#1 := by
  unfold keepA
  have one (x : BitVec 1) : IntOp.ori x 1#1 = 1#1 := by revert x; decide
  rcases h with h | h
  · rw [show IntOp.cmpi .slt (BitVec.ofNat 32 r) 32#32 = 1#1 from (StableHlo.Predicate.slt_ofNat_iff r 32 (by omega) (by omega)).2 h]
    exact one _
  · rw [show IntOp.cmpi .slt (BitVec.ofNat 32 j) 32#32 = 1#1 from (StableHlo.Predicate.slt_ofNat_iff j 32 (by omega) (by omega)).2 h, one]
    generalize IntOp.cmpi .slt (BitVec.ofNat 32 r) 32#32 = x
    revert x; decide

theorem far_sub (r j : ℕ) (hr : r < 2048) (hj : j < 8192) (h : r < j) : IntOp.absi (IntOp.subi (BitVec.ofNat 32 r) (BitVec.ofNat 32 j)) = BitVec.ofNat 32 (j - r) := by
  have e : IntOp.subi (BitVec.ofNat 32 r) (BitVec.ofNat 32 j) = BitVec.ofNat 32 (2 ^ 32 - (j - r)) := by
    unfold IntOp.subi
    apply BitVec.eq_of_toNat_eq
    simp only [BitVec.toNat_sub, BitVec.toNat_ofNat]
    omega
  rw [e]
  unfold IntOp.absi
  rw [if_pos (by rw [BitVec.msb_eq_decide, BitVec.toNat_ofNat, decide_eq_true_eq]; omega)]
  apply BitVec.eq_of_toNat_eq
  simp only [BitVec.toNat_neg, BitVec.toNat_ofNat]
  omega

theorem keep_far (r j : ℕ) (hr : r < 2048) (hr' : 32 ≤ r) (hj : j < 8192) (hj' : 2560 ≤ j) : keepA (BitVec.ofNat 32 r) (BitVec.ofNat 32 j) = 0#1 := by
  unfold keepA
  have zero (x : BitVec 1) (h : x ≠ 1#1) : x = 0#1 := by revert x; decide
  rw [far_sub r j hr hj (by omega),
    zero (IntOp.cmpi .slt (BitVec.ofNat 32 r) 32#32) (fun h => absurd ((StableHlo.Predicate.slt_ofNat_iff r 32 (by omega) (by omega)).1 h) (by omega)),
    zero (IntOp.cmpi .slt (BitVec.ofNat 32 j) 32#32) (fun h => absurd ((StableHlo.Predicate.slt_ofNat_iff j 32 (by omega) (by omega)).1 h) (by omega)),
    zero (IntOp.cmpi .sle (BitVec.ofNat 32 (j - r)) 128#32) (fun h => absurd ((StableHlo.Predicate.sle_ofNat_iff (j - r) 128 (by omega) (by omega)).1 h) (by omega))]
  rfl

theorem key_pos (i t : ℕ) (hi : i < 16) (ht : t < 512) :
    IntOp.addi (Scalar.muli (Scf.iv 0#32 1#32 i) 512#32) (BitVec.ofNat 32 t) = BitVec.ofNat 32 (512 * i + t) := by
  unfold Scf.iv
  apply BitVec.eq_of_toNat_eq
  show (((0#32 + BitVec.ofNat 32 i * 1#32) * 512#32) + BitVec.ofNat 32 t).toNat = _
  simp only [BitVec.toNat_add, BitVec.toNat_mul, BitVec.toNat_ofNat]
  omega

/-- Key `j` of head `h` of a gathered array. -/
def keyOf (K : Arr Ideal) (h : Fin 8) (j : ℕ) (d : Fin 128) : EReal :=
  K (ix4 h (⟨j / 2048 % 4, Nat.mod_lt _ (by decide)⟩ : Fin 4) (⟨j % 2048, Nat.mod_lt _ (by decide)⟩ : Fin 2048) d)

theorem reshape_blk (h : S512x128.numel = S1x1x512x128.numel) (y : Fin 512) (z : Fin 128) :
    Shape.reshapeEquiv h (ix2 y z : S512x128.Idx) = (ix4 (0 : Fin 1) (0 : Fin 1) y z : S1x1x512x128.Idx) :=
  Shape.reshapeEquiv_eq_of_rowMajor h (by
    rw [Shape.rowMajor_val_four, Shape.rowMajor_val_two]
    show ((0 * 1 + 0) * 512 + y.val) * 128 + z.val = y.val * 128 + z.val
    omega)

theorem reshape_slot (h : S512x128.numel = S1x512x128.numel) (y : Fin 512) (z : Fin 128) :
    Shape.reshapeEquiv h (ix2 y z : S512x128.Idx) = (ix3 (0 : Fin 1) y z : S1x512x128.Idx) :=
  Shape.reshapeEquiv_eq_of_rowMajor h (by
    rw [Shape.rowMajor_val_two, Shape.rowMajor_val_three]
    show (0 * 512 + y.val) * 128 + z.val = y.val * 128 + z.val
    omega)

theorem slot_symm (y : Fin 512) (z : Fin 128) :
    (Shape.reshapeEquiv squeezes_S1x512x128_S512x128.numel_eq).symm (ix3 (0 : Fin 1) y z : S1x512x128.Idx) = (ix2 y z : S512x128.Idx) := by
  rw [Equiv.symm_apply_eq]
  exact (reshape_slot _ y z).symm

theorem blk_emb (h : Fin 8) (k : Fin 16) (y : Fin 512) (z : Fin 128) :
    (Rect.unit (s := S8x4x2048x128) ![h.val, k.val / 4, k.val % 4 * 512, 0] S1x1x512x128.size (oc_inb h k)).emb (ix4 (0 : Fin 1) (0 : Fin 1) y z)
      = (ix4 h (⟨k.val / 4, by omega⟩ : Fin 4) (⟨k.val % 4 * 512 + y.val, by omega⟩ : Fin 2048) z : S8x4x2048x128.Idx) := by
  funext a; apply Fin.ext; fin_cases a
  · show h.val + 1 * 0 = h.val; omega
  · show k.val / 4 + 1 * 0 = k.val / 4; omega
  · show k.val % 4 * 512 + 1 * y.val = k.val % 4 * 512 + y.val; omega
  · show 0 + 1 * z.val = z.val; omega

theorem kAt_at (c : Dev nD) (K : Arr Ideal) (h : Fin 8) (o i : ℕ) (ho : o + i < 16) (t : Fin 512) (d : Fin 128) :
    kAt c K h o i (ix3 0 t d) = keyOf K h (512 * (o + i) + t.val) d := by
  unfold kAt Side.val keyOf
  rw [slot_symm]
  show K ((Rect.unit (s := S8x4x2048x128) ![h.val, (blockAt o i).val / 4, (blockAt o i).val % 4 * 512, 0] S1x1x512x128.size (oc_inb h (blockAt o i))).emb
    (Shape.reshapeEquiv _ (ix2 t d : S512x128.Idx))) = _
  rw [reshape_blk, blk_emb]
  have hb : (blockAt o i).val = o + i := Nat.mod_eq_of_lt ho
  have ht := t.isLt
  refine congrArg K ?_
  funext a; apply Fin.ext; fin_cases a
  · rfl
  · show (blockAt o i).val / 4 = (512 * (o + i) + t.val) / 2048 % 4; rw [hb]; omega
  · show (blockAt o i).val % 4 * 512 + t.val = (512 * (o + i) + t.val) % 2048; rw [hb]; omega
  · rfl

theorem vAt_at (c : Dev nD) (K : Arr Ideal) (h : Fin 8) (o i : ℕ) (ho : o + i < 16) (t : Fin 512) (d : Fin 128) :
    vAt c K h o i (ix3 0 t d) = keyOf K h (512 * (o + i) + t.val) d := kAt_at c K h o i ho t d

/-! ## Sums by blocks -/

theorem sum_blocks {M : Type} [AddCommMonoid M] (f : ℕ → M) : ∑ j : Fin 8192, f j.val = ∑ i ∈ Finset.range 16, ∑ t : Fin 512, f (512 * i + t.val) := by
  rw [Fin.sum_univ_tiles 16 512 rfl (fun j : Fin 8192 => f j.val), Finset.sum_range fun i => ∑ t : Fin 512, f (512 * i + t.val)]
  refine Finset.sum_congr rfl fun i _ => Finset.sum_congr rfl fun t _ => ?_
  show f (i.val * 512 + t.val) = _
  rw [Nat.mul_comm]

theorem sum_split {M : Type} [AddCommMonoid M] (f : ℕ → M) : ∑ j : Fin 8192, f j.val
    = (∑ i ∈ Finset.range 5, ∑ t : Fin 512, f (512 * i + t.val)) + ∑ i ∈ Finset.range 11, ∑ t : Fin 512, f (512 * (5 + i) + t.val) := by
  rw [sum_blocks, show (16 : ℕ) = 5 + 11 from rfl, Finset.sum_range_add]

end Cert.Attn

end
-- ==== Proof.Ctx.lean ====
module

public import proofs.«01_k».proof.Proof.Keys

@[expose] public section

noncomputable section

/-! # What a head of the attention gives at a row: the weighted mean of the values -/

namespace Cert.Attn

open Cert.KernelIdeal Cert.KernelIdeal.Gen Cert.Exchange
open Idealize.ShloMosaic Idealize.ShloMosaic.TcCoe
open Cert.Soft

/-- The plain score of row `r` with key `j`. -/
def plain (q : FVec Ideal S2048x1024 .bf16) (K : Arr Ideal) (h : Fin 8) (r : Fin 2048) (j : ℕ) : EReal :=
  ∑ d : Fin 128, q (ix2 r (⟨128 * h.val + d.val, by omega⟩ : Fin 1024)) * keyOf K h j d

/-- The masked score. -/
def masked (q : FVec Ideal S2048x1024 .bf16) (K : Arr Ideal) (h : Fin 8) (r : Fin 2048) (j : ℕ) : EReal :=
  Scalar.select (keepA (BitVec.ofNat 32 r.val) (BitVec.ofNat 32 j)) (plain q K h r j) (⊥ : EReal)

theorem qA_at (h : Fin 8) (q : FVec Ideal S2048x1024 .bf16) (r : Fin 2048) (d : Fin 128) : qA h q (ix2 r d) = q (ix2 r (⟨128 * h.val + d.val, by omega⟩ : Fin 1024)) :=
  extractStridedSlice_apply _ _ _ _ _ (by intro a; fin_cases a <;> simp [ix2])

theorem qB_at (h : Fin 8) (q : FVec Ideal S2048x1024 .bf16) (r : Fin 32) (d : Fin 128) : qB h q (ix2 r d) = q (ix2 (⟨r.val, by omega⟩ : Fin 2048) (⟨128 * h.val + d.val, by omega⟩ : Fin 1024)) :=
  extractStridedSlice_apply _ _ _ _ _ (by intro a; fin_cases a <;> simp [ix2])

theorem select_ne_top (b : BitVec 1) (x : EReal) (hx : x ≠ ⊤) : Scalar.select b x (⊥ : EReal) ≠ ⊤ := by
  unfold Scalar.select
  split
  · exact hx
  · exact bot_ne_top

theorem scoreA (q : FVec Ideal S2048x1024 .bf16) (c : Dev nD) (K : Arr Ideal) (h : Fin 8) (i : ℕ) (hi : i < 5) (r : Fin 2048) (t : Fin 512) :
    k0_pay2 (qA h q) (Scf.iv 0#32 1#32 i) (kAt c K h 0 i) (ix2 r t) = masked q K h r (512 * i + t.val) := by
  rw [pay2_at, key_pos i t.val (by omega) t.isLt]
  unfold masked plain
  simp only [qA_at, kAt_at c K h 0 i (by omega), Nat.zero_add]

theorem scoreB (q : FVec Ideal S2048x1024 .bf16) (c : Dev nD) (K : Arr Ideal) (h : Fin 8) (i : ℕ) (hi : i < 11) (r : Fin 32) (t : Fin 512) :
    k0_pay182 (qB h q) (kAt c K h 5 i) (ix2 r t) = masked q K h (⟨r.val, by omega⟩ : Fin 2048) (512 * (5 + i) + t.val) := by
  have hr := r.isLt
  have ht := t.isLt
  rw [pay182_at]
  unfold masked
  rw [keep_near r.val _ (by omega) (by omega) (Or.inl hr)]
  show _ = plain q K h _ _
  unfold plain
  simp only [qB_at, kAt_at c K h 5 i (by omega)]

/-- Every product a score adds up is a number. -/
def Num (q : FVec Ideal S2048x1024 .bf16) (K : Arr Ideal) : Prop :=
  (∀ i, ∃ x : ℝ, q i = (x : EReal)) ∧ ∀ i, ∃ x : ℝ, K i = (x : EReal)

theorem dot_num {n : ℕ} (f g : Fin n → EReal) (hf : ∀ i, ∃ x : ℝ, f i = (x : EReal)) (hg : ∀ i, ∃ x : ℝ, g i = (x : EReal)) :
    ∃ x : ℝ, ∑ i, f i * g i = (x : EReal) := by
  choose a ha using hf
  choose b hb using hg
  exact ⟨∑ i, a i * b i, by rw [coe_sum]; exact Finset.sum_congr rfl fun i _ => by rw [ha, hb, EReal.coe_mul]⟩

theorem plain_num {q : FVec Ideal S2048x1024 .bf16} {K : Arr Ideal} (H : Num q K) (h : Fin 8) (r : Fin 2048) (j : ℕ) : ∃ x : ℝ, plain q K h r j = (x : EReal) :=
  dot_num _ _ (fun _ => H.1 _) (fun _ => H.2 _)

theorem masked_ne_top {q : FVec Ideal S2048x1024 .bf16} {K : Arr Ideal} (H : Num q K) (h : Fin 8) (r : Fin 2048) (j : ℕ) : masked q K h r j ≠ ⊤ := by
  obtain ⟨x, hx⟩ := plain_num H h r j
  exact select_ne_top _ _ (by rw [hx]; exact EReal.coe_ne_top x)

theorem masked_near {q : FVec Ideal S2048x1024 .bf16} {K : Arr Ideal} (h : Fin 8) (r : Fin 2048) (j : ℕ) (hj : j < 8192) (hn : r.val < 32 ∨ j < 32) :
    masked q K h r j = plain q K h r j := by
  unfold masked
  rw [keep_near r.val j r.isLt hj hn]
  rfl

theorem masked_far {q : FVec Ideal S2048x1024 .bf16} {K : Arr Ideal} (h : Fin 8) (r : Fin 2048) (j : ℕ) (hj : j < 8192) (hr : 32 ≤ r.val) (hj' : 2560 ≤ j) :
    masked q K h r j = ⊥ := by
  unfold masked
  rw [keep_far r.val j r.isLt hr hj hj']
  rfl

theorem neA {q : FVec Ideal S2048x1024 .bf16} {K : Arr Ideal} (H : Num q K) (c : Dev nD) (h : Fin 8) (r : Fin 2048) (i : ℕ) (t : Fin 512) :
    k0_pay2 (qA h q) (Scf.iv 0#32 1#32 i) (kAt c K h 0 i) (ix2 r t) ≠ (⊤ : EReal) := by
  rw [pay2_at]
  obtain ⟨x, hx⟩ := dot_num (fun d : Fin 128 => qA h q (ix2 r d)) (fun d => kAt c K h 0 i (ix3 0 t d)) (fun _ => by rw [qA_at]; exact H.1 _) (fun _ => H.2 _)
  exact select_ne_top _ _ (by rw [hx]; exact EReal.coe_ne_top x)

theorem neB {q : FVec Ideal S2048x1024 .bf16} {K : Arr Ideal} (H : Num q K) (c : Dev nD) (h : Fin 8) (r : Fin 32) (i : ℕ) (t : Fin 512) :
    k0_pay182 (qB h q) (kAt c K h 5 i) (ix2 r t) ≠ (⊤ : EReal) := by
  rw [pay182_at]
  obtain ⟨x, hx⟩ := dot_num (fun d : Fin 128 => qB h q (ix2 r d)) (fun d => kAt c K h 5 i (ix3 0 t d)) (fun _ => by rw [qB_at]; exact H.1 _) (fun _ => H.2 _)
  rw [hx]; exact EReal.coe_ne_top x

/-- The sums the long stream of a head holds at a row. -/
theorem longA {q : FVec Ideal S2048x1024 .bf16} {K : Arr Ideal} (H : Num q K) (V : Arr Ideal) (c : Dev nD) (h : Fin 8) (r : Fin 2048) :
    GoodA (fA c K V h (qA h q)) r (∑ i ∈ Finset.range 5, ∑ t : Fin 512, ex (masked q K h r (512 * i + t.val)))
      (fun d => ∑ i ∈ Finset.range 5, ∑ t : Fin 512, (ex (masked q K h r (512 * i + t.val)) : EReal) * keyOf V h (512 * i + t.val) d) := by
  have G := runA_good (qA h q) (kAt c K h 0) (vAt c V h 0) r (neA H c h r) 5
  have e1 : ∑ i ∈ Finset.range 5, ∑ t : Fin 512, ex (k0_pay2 (qA h q) (Scf.iv 0#32 1#32 i) (kAt c K h 0 i) (ix2 r t))
      = ∑ i ∈ Finset.range 5, ∑ t : Fin 512, ex (masked q K h r (512 * i + t.val)) :=
    Finset.sum_congr rfl fun i hi => Finset.sum_congr rfl fun t _ => by rw [scoreA q c K h i (Finset.mem_range.1 hi)]
  have e2 (d : Fin 128) : ∑ i ∈ Finset.range 5, ∑ t : Fin 512, (ex (k0_pay2 (qA h q) (Scf.iv 0#32 1#32 i) (kAt c K h 0 i) (ix2 r t)) : EReal) * vAt c V h 0 i (ix3 0 t d)
      = ∑ i ∈ Finset.range 5, ∑ t : Fin 512, (ex (masked q K h r (512 * i + t.val)) : EReal) * keyOf V h (512 * i + t.val) d :=
    Finset.sum_congr rfl fun i hi => Finset.sum_congr rfl fun t _ => by
      have hi := Finset.mem_range.1 hi
      rw [scoreA q c K h i hi, vAt_at c V h 0 i (by omega), Nat.zero_add]
  rw [e1, funext e2] at G
  exact G

/-- The sums the short stream of a head holds at a row. -/
theorem shortB {q : FVec Ideal S2048x1024 .bf16} {K : Arr Ideal} (H : Num q K) (V : Arr Ideal) (c : Dev nD) (h : Fin 8) (r : Fin 32) :
    GoodB (fB c K V h (qB h q)) r (∑ i ∈ Finset.range 11, ∑ t : Fin 512, ex (masked q K h (⟨r.val, by omega⟩ : Fin 2048) (512 * (5 + i) + t.val)))
      (fun d => ∑ i ∈ Finset.range 11, ∑ t : Fin 512, (ex (masked q K h (⟨r.val, by omega⟩ : Fin 2048) (512 * (5 + i) + t.val)) : EReal) * keyOf V h (512 * (5 + i) + t.val) d) := by
  have G := runB_good (qB h q) (kAt c K h 5) (vAt c V h 5) r (neB H c h r) 11
  have e1 : ∑ i ∈ Finset.range 11, ∑ t : Fin 512, ex (k0_pay182 (qB h q) (kAt c K h 5 i) (ix2 r t))
      = ∑ i ∈ Finset.range 11, ∑ t : Fin 512, ex (masked q K h (⟨r.val, by omega⟩ : Fin 2048) (512 * (5 + i) + t.val)) :=
    Finset.sum_congr rfl fun i hi => Finset.sum_congr rfl fun t _ => by rw [scoreB q c K h i (Finset.mem_range.1 hi)]
  have e2 (d : Fin 128) : ∑ i ∈ Finset.range 11, ∑ t : Fin 512, (ex (k0_pay182 (qB h q) (kAt c K h 5 i) (ix2 r t)) : EReal) * vAt c V h 5 i (ix3 0 t d)
      = ∑ i ∈ Finset.range 11, ∑ t : Fin 512, (ex (masked q K h (⟨r.val, by omega⟩ : Fin 2048) (512 * (5 + i) + t.val)) : EReal) * keyOf V h (512 * (5 + i) + t.val) d :=
    Finset.sum_congr rfl fun i hi => Finset.sum_congr rfl fun t _ => by
      have hi := Finset.mem_range.1 hi
      rw [scoreB q c K h i hi, vAt_at c V h 5 i (by omega)]
  rw [e1, funext e2] at G
  exact G

/-- What a head gives at a row. -/
def meanOf (q : FVec Ideal S2048x1024 .bf16) (K V : Arr Ideal) (h : Fin 8) (r : Fin 2048) (d : Fin 128) : EReal :=
  mix (fun j : Fin 8192 => masked q K h r j.val) (fun j => keyOf V h j.val d)

theorem weight_ne {q : FVec Ideal S2048x1024 .bf16} {K : Arr Ideal} (H : Num q K) (h : Fin 8) (r : Fin 2048) :
    ∑ j : Fin 8192, ex (masked q K h r j.val) ≠ 0 := by
  refine ne_of_gt (Finset.sum_pos' (fun _ _ => ex_nonneg _) ⟨0, Finset.mem_univ _, ?_⟩)
  show 0 < ex (masked q K h r 0)
  rw [masked_near h r 0 (by decide) (Or.inr (by decide))]
  obtain ⟨x, hx⟩ := plain_num H h r 0
  rw [hx, ex_coe]
  exact Real.exp_pos x

theorem mean_long {q : FVec Ideal S2048x1024 .bf16} {K : Arr Ideal} (H : Num q K) (V : Arr Ideal) (c : Dev nD) (h : Fin 8) (r : Fin 2048) (hr : 32 ≤ r.val) (d : Fin 128) :
    Ideal.div ((fA c K V h (qA h q)).2.2 (ix2 r d)) ((fA c K V h (qA h q)).2.1 (ix2 r 0)) = meanOf q K V h r d := by
  have far (i : ℕ) (hi : i ∈ Finset.range 11) (t : Fin 512) : ex (masked q K h r (512 * (5 + i) + t.val)) = 0 := by
    have hi := Finset.mem_range.1 hi
    have ht := t.isLt
    rw [masked_far h r _ (by omega) hr (by omega), ex_bot]
  have e1 : ∑ j : Fin 8192, ex (masked q K h r j.val) = ∑ i ∈ Finset.range 5, ∑ t : Fin 512, ex (masked q K h r (512 * i + t.val)) := by
    rw [sum_split (fun j => ex (masked q K h r j)), Finset.sum_eq_zero (s := Finset.range 11) (fun i hi => Finset.sum_eq_zero fun t _ => far i hi t), add_zero]
  have e2 : ∑ j : Fin 8192, (ex (masked q K h r j.val) : EReal) * keyOf V h j.val d
      = ∑ i ∈ Finset.range 5, ∑ t : Fin 512, (ex (masked q K h r (512 * i + t.val)) : EReal) * keyOf V h (512 * i + t.val) d := by
    rw [sum_split (fun j => (ex (masked q K h r j) : EReal) * keyOf V h j d),
      Finset.sum_eq_zero (s := Finset.range 11) (fun i hi => Finset.sum_eq_zero fun t _ => by rw [far i hi t, EReal.coe_zero, zero_mul]), add_zero]
  unfold meanOf mix
  rw [e2, e1]
  exact (longA H V c h r).out (by rw [← e1]; exact weight_ne H h r) d

theorem mean_short {q : FVec Ideal S2048x1024 .bf16} {K : Arr Ideal} (H : Num q K) (V : Arr Ideal) (c : Dev nD) (h : Fin 8) (r : Fin 32) (d : Fin 128)
    (m m₂ : EReal) (hm : m = (fA c K V h (qA h q)).1 (ix2 (⟨r.val, by omega⟩ : Fin 2048) 0)) (hm₂ : m₂ = (fB c K V h (qB h q)).1 (ix2 r 0)) :
    Ideal.div ((fA c K V h (qA h q)).2.2 (ix2 (⟨r.val, by omega⟩ : Fin 2048) d) * Ideal.exp (m - max m m₂) + (fB c K V h (qB h q)).2.2 (ix2 r d) * Ideal.exp (m₂ - max m m₂))
      ((fA c K V h (qA h q)).2.1 (ix2 (⟨r.val, by omega⟩ : Fin 2048) 0) * Ideal.exp (m - max m m₂) + (fB c K V h (qB h q)).2.1 (ix2 r 0) * Ideal.exp (m₂ - max m m₂))
      = meanOf q K V h (⟨r.val, by omega⟩ : Fin 2048) d := by
  rw [hm, hm₂]
  have G := Good.merge (longA H V c h (⟨r.val, by omega⟩ : Fin 2048)) (shortB H V c h r)
  unfold meanOf mix
  rw [sum_split (fun j => ex (masked q K h (⟨r.val, by omega⟩ : Fin 2048) j)), sum_split (fun j => (ex (masked q K h (⟨r.val, by omega⟩ : Fin 2048) j) : EReal) * keyOf V h j d)]
  have hE : (∑ i ∈ Finset.range 5, ∑ t : Fin 512, ex (masked q K h (⟨r.val, by omega⟩ : Fin 2048) (512 * i + t.val)))
      + ∑ i ∈ Finset.range 11, ∑ t : Fin 512, ex (masked q K h (⟨r.val, by omega⟩ : Fin 2048) (512 * (5 + i) + t.val)) ≠ 0 := by
    rw [← sum_split (fun j => ex (masked q K h (⟨r.val, by omega⟩ : Fin 2048) j))]; exact weight_ne H h _
  exact Good.out G hE d

end Cert.Attn

end
-- ==== Proof.Outs.lean ====
module

public import proofs.«01_k».proof.Proof.Ctx
public import proofs.«01_k».proof.Proof.Levels

@[expose] public section

noncomputable section

/-! # A device's output of the attention, as a sum over its heads -/

namespace Cert.Attn

open Cert.KernelIdeal Cert.KernelIdeal.Gen Cert.Exchange
open Idealize.ShloMosaic Idealize.ShloMosaic.TcCoe
open Cert.Soft

section Shape
variable {F : FTy → Type} [FloatOps F] [Named F]

abbrev K (e : Env F) : Arr F := gath e.X.k e.c
abbrev V (e : Env F) : Arr F := gath e.X.v e.c
/-- The long stream's end and the short stream's end of a head. -/
abbrev endA (e : Env F) (h : Fin 8) : StA F := fA e.c (K e) (V e) h (qA h e.v161)
abbrev endB (e : Env F) (h : Fin 8) : StB F := fB e.c (K e) (V e) h (qB h e.v161)
/-- The rows a head gives after the long stream. -/
def rowsOf (e : Env F) (h : Fin 8) : FVec F S2048x128 .bf16 := k0_pay45 (endA e h).2.1 (endA e h).2.2

/-- A quarter of a head's rows through its rows of the projection. -/
def put (y : FVec F S512x128 .bf16) (w : Vec F S128x1024 .bf16) : FVec F S512x1024 .f32 :=
  matmul dot_S512x128_S128x1024_S512x1024_1_0_0_1_n_n none y (shapeCast S128x1024 w shapeCasts_S128x1024_S128x1024) (constant S512x1024 .f32 0x00000000#32)
def more (old y : FVec F S512x1024 .f32) : FVec F S512x1024 .f32 := addf (shapeCast S512x1024 old shapeCasts_S512x1024_S512x1024) y
def eight (y : Fin 8 → FVec F S512x1024 .f32) : FVec F S512x1024 .f32 :=
  more (more (more (more (more (more (more (y 0) (y 1)) (y 2)) (y 3)) (y 4)) (y 5)) (y 6)) (y 7)

theorem q0_eq (e : Env F) : e.o61_0 = eight fun h => put (extractStridedSlice S512x128 ![0, 0] (rowsOf e h) slices_S2048x128_o0_0_S512x128) (woB e.W h) := rfl
theorem q1_eq (e : Env F) : e.o61_1 = eight fun h => put (extractStridedSlice S512x128 ![512, 0] (rowsOf e h) slices_S2048x128_o512_0_S512x128) (woB e.W h) := rfl
theorem q2_eq (e : Env F) : e.o61_2 = eight fun h => put (extractStridedSlice S512x128 ![1024, 0] (rowsOf e h) slices_S2048x128_o1024_0_S512x128) (woB e.W h) := rfl
theorem q3_eq (e : Env F) : e.o62_3 = eight fun h => put (extractStridedSlice S512x128 ![1536, 0] (rowsOf e h) slices_S2048x128_o1536_0_S512x128) (woB e.W h) := rfl

/-- A head's part of the first rows, added to what is there. -/
def mend (e : Env F) (h : Fin 8) (old : FVec F S32x1024 .f32) : FVec F S32x1024 .f32 :=
  k0_pay177 (k0_pay42 (endA e h).1) (k0_pay43 (endA e h).2.1) (k0_pay44 (endA e h).2.2) old (endB e h).1 (endB e h).2.1 (endB e h).2.2 (woB e.W h)

theorem fix_eq (e : Env F) : e.fix = mend e 7 (mend e 6 (mend e 5 (mend e 4 (mend e 3 (mend e 2 (mend e 1 (mend e 0 k0_pay167))))))) := rfl

end Shape

theorem put_at (y : FVec Ideal S512x128 .bf16) (w : Vec Ideal S128x1024 .bf16) (s : Fin 512) (k : Fin 1024) :
    put y w (ix2 s k) = ∑ d : Fin 128, y (ix2 s d) * w (ix2 d k) := by
  pointwise [put]

theorem more_at (old y : FVec Ideal S512x1024 .f32) (s : Fin 512) (k : Fin 1024) : more old y (ix2 s k) = old (ix2 s k) + y (ix2 s k) := by
  pointwise [more]

theorem eight_at (y : Fin 8 → FVec Ideal S512x1024 .f32) (s : Fin 512) (k : Fin 1024) : eight y (ix2 s k) = ∑ h : Fin 8, y h (ix2 s k) := by
  unfold eight
  simp only [more_at]
  rw [Fin.sum_univ_eight]

theorem pay45_at (l : FVec Ideal S2048x1 .f32) (a : FVec Ideal S2048x128 .f32) (r : Fin 2048) (d : Fin 128) : k0_pay45 l a (ix2 r d) = Ideal.div (a (ix2 r d)) (l (ix2 r 0)) := by
  pointwise [k0_pay45]

theorem wo_at {F : FTy → Type} [FloatOps F] [Named F] (W : S1024x1024.Idx → Elt F .bf16) (h : Fin 8) (d : Fin 128) (k : Fin 1024) :
    woB W h (ix2 d k) = W (ix2 (⟨128 * h.val + d.val, by omega⟩ : Fin 1024) k) := by
  refine congrArg W ?_
  funext a; apply Fin.ext; fin_cases a
  · show 128 * h.val + 1 * d.val = 128 * h.val + d.val; omega
  · show 0 + 1 * k.val = k.val; omega

theorem pay42_at (x : FVec Ideal S2048x1 .f32) (r : Fin 32) : k0_pay42 x (ix2 r 0) = x (ix2 (⟨r.val, by omega⟩ : Fin 2048) 0) := by
  unfold k0_pay42
  exact extractStridedSlice_apply _ _ _ _ _ (by intro a; fin_cases a <;> simp [ix2])
theorem pay43_at (x : FVec Ideal S2048x1 .f32) (r : Fin 32) : k0_pay43 x (ix2 r 0) = x (ix2 (⟨r.val, by omega⟩ : Fin 2048) 0) := by
  unfold k0_pay43
  exact extractStridedSlice_apply _ _ _ _ _ (by intro a; fin_cases a <;> simp [ix2])
theorem pay44_at (x : FVec Ideal S2048x128 .f32) (r : Fin 32) (d : Fin 128) : k0_pay44 x (ix2 r d) = x (ix2 (⟨r.val, by omega⟩ : Fin 2048) d) := by
  unfold k0_pay44
  exact extractStridedSlice_apply _ _ _ _ _ (by intro a; fin_cases a <;> simp [ix2])

theorem pay177_at (mA lA mB lB : FVec Ideal S32x1 .f32) (aA aB : FVec Ideal S32x128 .f32) (old : FVec Ideal S32x1024 .f32) (w : Vec Ideal S128x1024 .bf16) (r : Fin 32) (k : Fin 1024) :
    k0_pay177 mA lA aA old mB lB aB w (ix2 r k) = old (ix2 r k) + ∑ d : Fin 128,
      Ideal.div (aA (ix2 r d) * Ideal.exp (mA (ix2 r 0) - max (mA (ix2 r 0)) (mB (ix2 r 0))) + aB (ix2 r d) * Ideal.exp (mB (ix2 r 0) - max (mA (ix2 r 0)) (mB (ix2 r 0))))
        (lA (ix2 r 0) * Ideal.exp (mA (ix2 r 0) - max (mA (ix2 r 0)) (mB (ix2 r 0))) + lB (ix2 r 0) * Ideal.exp (mB (ix2 r 0) - max (mA (ix2 r 0)) (mB (ix2 r 0)))) * w (ix2 d k) := by
  pointwise [k0_pay177]

theorem pay167_at (r : Fin 32) (k : Fin 1024) : (k0_pay167 (F := Ideal)) (ix2 r k) = (0 : EReal) := Ideal.ofBits_zero_f32

/-- A device's part of the result at a row. -/
def sumOf (q : FVec Ideal S2048x1024 .bf16) (K V : Arr Ideal) (W : S1024x1024.Idx → Elt Ideal .bf16) (r : Fin 2048) (k : Fin 1024) : EReal :=
  ∑ h : Fin 8, ∑ d : Fin 128, meanOf q K V h r d * W (ix2 (⟨128 * h.val + d.val, by omega⟩ : Fin 1024) k)

theorem mend_at {e : Env Ideal} (H : Num e.v161 (K e)) (h : Fin 8) (old : FVec Ideal S32x1024 .f32) (r : Fin 32) (k : Fin 1024) :
    mend e h old (ix2 r k) = old (ix2 r k) + ∑ d : Fin 128, meanOf e.v161 (K e) (V e) h (⟨r.val, by omega⟩ : Fin 2048) d * e.W (ix2 (⟨128 * h.val + d.val, by omega⟩ : Fin 1024) k) := by
  unfold mend
  rw [pay177_at]
  refine congrArg (old (ix2 r k) + ·) (Finset.sum_congr rfl fun d _ => ?_)
  rw [wo_at, pay42_at, pay43_at, pay44_at]
  have M := mean_short H (V e) e.c h r d _ _ rfl rfl
  exact congrArg (· * e.W (ix2 (⟨128 * h.val + d.val, by omega⟩ : Fin 1024) k)) M

theorem fix_at {e : Env Ideal} (H : Num e.v161 (K e)) (r : Fin 32) (k : Fin 1024) :
    e.fix (ix2 r k) = sumOf e.v161 (K e) (V e) e.W (⟨r.val, by omega⟩ : Fin 2048) k := by
  rw [fix_eq, mend_at H, mend_at H, mend_at H, mend_at H, mend_at H, mend_at H, mend_at H, mend_at H, pay167_at, zero_add]
  unfold sumOf
  rw [Fin.sum_univ_eight]

theorem rows_at {e : Env Ideal} (H : Num e.v161 (K e)) (h : Fin 8) (r : Fin 2048) (hr : 32 ≤ r.val) (d : Fin 128) :
    rowsOf e h (ix2 r d) = meanOf e.v161 (K e) (V e) h r d := by
  unfold rowsOf
  rw [pay45_at]
  exact mean_long H (V e) e.c h r hr d

theorem slice_at (y : FVec Ideal S2048x128 .bf16) (o : ℕ) (ho : S2048x128.Slices ![o, 0] S512x128) (s : Fin 512) (hs : o + s.val < 2048) (d : Fin 128) :
    extractStridedSlice S512x128 ![o, 0] y ho (ix2 s d) = y (ix2 (⟨o + s.val, hs⟩ : Fin 2048) d) :=
  extractStridedSlice_apply _ _ _ _ _ (by intro a; fin_cases a <;> simp [ix2])

theorem part_of {e : Env Ideal} (H : Num e.v161 (K e)) (o : ℕ) (ho : S2048x128.Slices ![o, 0] S512x128) (s : Fin 512) (hs : o + s.val < 2048) (hr : 32 ≤ o + s.val) (k : Fin 1024) :
    eight (fun h => put (extractStridedSlice S512x128 ![o, 0] (rowsOf e h) ho) (woB e.W h)) (ix2 s k)
      = sumOf e.v161 (K e) (V e) e.W (⟨o + s.val, hs⟩ : Fin 2048) k := by
  rw [eight_at]
  unfold sumOf
  refine Finset.sum_congr rfl fun h _ => ?_
  rw [put_at]
  refine Finset.sum_congr rfl fun d _ => ?_
  rw [wo_at, ← rows_at H h (⟨o + s.val, hs⟩ : Fin 2048) hr d, slice_at _ o ho s hs d]

theorem attn_at {e : Env Ideal} (H : Num e.v161 (K e)) (r : Fin 2048) (k : Fin 1024) :
    attnOut e (ix2 r k) = sumOf e.v161 (K e) (V e) e.W r k := by
  unfold attnOut
  by_cases hr : r.val < 32
  · rw [dif_pos (show ((ix2 r k : S2048x1024.Idx) 0).val < 32 from hr)]
    exact fix_at H (⟨r.val, hr⟩ : Fin 32) k
  · rw [dif_neg (show ¬ ((ix2 r k : S2048x1024.Idx) 0).val < 32 from hr)]
    have key (p : Fin 4) (s : Fin 512) (hs : 512 * p.val + s.val = r.val) : quarter e p (ix2 s k) = sumOf e.v161 (K e) (V e) e.W r k := by
      have er : r = (⟨512 * p.val + s.val, by omega⟩ : Fin 2048) := Fin.ext hs.symm
      rw [er]
      fin_cases p
      · exact (congrFun (q0_eq e) _).trans (part_of H 0 _ s (by omega) (by simp at hs; omega) k)
      · exact (congrFun (q1_eq e) _).trans (part_of H 512 _ s (by omega) (by omega) k)
      · exact (congrFun (q2_eq e) _).trans (part_of H 1024 _ s (by omega) (by omega) k)
      · exact (congrFun (q3_eq e) _).trans (part_of H 1536 _ s (by omega) (by omega) k)
    exact key _ (⟨r.val % 512, Nat.mod_lt _ (by decide)⟩ : Fin 512) (Nat.div_add_mod r.val 512)

end Cert.Attn

end
-- ==== Proof.RefVal.lean ====
module

public import proofs.«01_k».proof.Proof.Refer
public import proofs.«01_k».proof.Proof.Keys

@[expose] public section

noncomputable section

/-! # The reference's result, element by element -/

namespace Cert.Refer

open Cert.ReferenceIdeal Cert.ReferenceIdeal.Gen
open Idealize.ShloMosaic Idealize.ShloMosaic.TcCoe
open Cert.Soft

theorem query_at (x : FVec Ideal S1x2048x1024 .f32) (wq : FVec Ideal S1024x4096 .f32) (r : Fin 2048) (H : Fin 32) (d : Fin 128) :
    query x wq (ix4 0 r H d) = ∑ i : Fin 1024, x (ix3 0 r i) * wq (ix2 i (⟨H.val * 128 + d.val, by omega⟩ : Fin 4096)) := by
  pointwise [query]

theorem keep_at (r : Fin 2048) (j : Fin 8192) : keep (ix2 r j) = Cert.Attn.keepA (BitVec.ofNat 32 r.val) (BitVec.ofNat 32 j.val) := by
  pointwise [keep, rows, cols]
  unfold Cert.Attn.keepA
  exact (BitVec.or_assoc _ _ _).symm

theorem score_at (κ : IVec S2048x8192 1) (q : FVec Ideal S1x2048x32x128 .f32) (k : FVec Ideal S1x8192x32x128 .f32) (H : Fin 32) (r : Fin 2048) (j : Fin 8192) :
    score κ q k (ix4 0 H r j) = Scalar.select (κ (ix2 r j)) ((∑ d : Fin 128, q (ix4 0 r H d) * k (ix4 0 j H d)) * Ideal.ofBits .f32 0x3DB504F3#32) (⊥ : EReal) := by
  pointwise [score]
  rw [Cert.Attn.word_bot]

theorem expo_at (s : FVec Ideal S1x32x2048x8192 .f32) (H : Fin 32) (r : Fin 2048) (j : Fin 8192) :
    expo s (ix4 0 H r j) = Ideal.exp (s (ix4 0 H r j) - Finset.univ.fold max ⊥ fun j : Fin 8192 => s (ix4 0 H r j)) := by
  pointwise [expo]
  rw [Cert.Attn.word_bot]

theorem total_at (n : IVec S2048 1) (e : FVec Ideal S1x32x2048x8192 .f32) (H : Fin 32) (r : Fin 2048) :
    total n e (ix4 0 H r 0) = Scalar.select (n (ix1 r)) (∑ j : Fin 8192, e (ix4 0 H r j)) (Ideal.ofBits .f32 0x3F800000#32) := by
  pointwise [total, pick, sums]

theorem weight_at (n : IVec S2048 1) (e : FVec Ideal S1x32x2048x8192 .f32) (l : FVec Ideal S1x32x2048x1 .f32) (H : Fin 32) (r : Fin 2048) (j : Fin 8192) :
    weight n e l (ix4 0 H r j) = Scalar.select (n (ix1 r)) (Ideal.div (e (ix4 0 H r j)) (l (ix4 0 H r 0))) (Ideal.ofBits .f32 0x00000000#32) := by
  pointwise [weight]

theorem context_at (w : FVec Ideal S1x32x2048x8192 .f32) (v : FVec Ideal S1x8192x32x128 .f32) (r : Fin 2048) (H : Fin 32) (d : Fin 128) :
    context w v (ix3 0 r (⟨H.val * 128 + d.val, by omega⟩ : Fin 4096)) = ∑ j : Fin 8192, v (ix4 0 j H d) * w (ix4 0 H r j) := by
  pointwise [context]

theorem project_at (y : FVec Ideal S1x2048x4096 .f32) (wo : FVec Ideal S4096x1024 .f32) (r : Fin 2048) (k : Fin 1024) :
    (Host.dotGeneral dot_S1x2048x4096_S4096x1024_S1x2048x1024_2_0_01_1_n_n none y wo : FVec Ideal S1x2048x1024 .f32) (ix3 0 r k) = ∑ z : Fin 4096, y (ix3 0 r z) * wo (ix2 z k) := by
  pointwise

theorem seen_at (κ : IVec S2048x8192 1) (r : Fin 2048) : seen κ (ix1 r) = Finset.univ.fold IntOp.ori 0#1 fun j : Fin 8192 => κ (ix2 r j) := by
  pointwise [seen]

theorem pick_one {α : Type} (a b : α) : Scalar.select 1#1 a b = a := rfl

theorem fold_one {J : Type} [Fintype J] [DecidableEq J] (f : J → BitVec 1) (j : J) (h : f j = 1#1) : Finset.univ.fold IntOp.ori 0#1 f = 1#1 := by
  rw [← Finset.insert_erase (Finset.mem_univ j), Finset.fold_insert (Finset.notMem_erase _ _), h]
  generalize Finset.fold IntOp.ori 0#1 f _ = y
  revert y; decide

theorem seen_one (κ : IVec S2048x8192 1) (r : Fin 2048) (h : κ (ix2 r 0) = 1#1) : seen κ (ix1 r) = 1#1 := by
  exact (seen_at κ r).trans (fold_one (fun j : Fin 8192 => κ (ix2 r j)) 0 h)

/-- The masked scores of a row of a head. -/
abbrev row (x : FVec Ideal S1x2048x1024 .f32) (wq : FVec Ideal S1024x4096 .f32) (k : FVec Ideal S1x8192x32x128 .f32) (H : Fin 32) (r : Fin 2048) (j : Fin 8192) : EReal :=
  score keep (query x wq) k (ix4 0 H r j)

theorem context_mean (x : FVec Ideal S1x2048x1024 .f32) (wq : FVec Ideal S1024x4096 .f32) (k v : FVec Ideal S1x8192x32x128 .f32) (r : Fin 2048) (H : Fin 32) (d : Fin 128)
    (hs : ∀ j, row x wq k H r j ≠ ⊤) (h₀ : row x wq k H r 0 ≠ ⊥) :
    context (weights (expo (score keep (query x wq) k))) v (ix3 0 r (⟨H.val * 128 + d.val, by omega⟩ : Fin 4096))
      = mix (row x wq k H r) (fun j => v (ix4 0 j H d)) := by
  have h1 : seen keep (ix1 r) = 1#1 := seen_one _ r (by
    rw [keep_at]
    exact Cert.Attn.keep_near r.val 0 r.isLt (by decide) (Or.inr (by decide)))
  refine (context_at _ v r H d).trans (Eq.trans ?_ (mix_eq (row x wq k H r) (fun j => v (ix4 0 j H d)) hs 0 h₀))
  refine Finset.sum_congr rfl fun j _ => congrArg (v (ix4 0 j H d) * ·) ?_
  unfold weights
  rw [weight_at, total_at, h1]
  rw [pick_one, pick_one]
  simp only [expo_at]

theorem out_at (x : FVec Ideal S1x2048x1024 .f32) (wq : FVec Ideal S1024x4096 .f32) (k v : FVec Ideal S1x8192x32x128 .f32) (wo : FVec Ideal S4096x1024 .f32)
    (hs : ∀ H r j, row x wq k H r j ≠ ⊤) (h₀ : ∀ H r, row x wq k H r 0 ≠ ⊥) (r : Fin 2048) (n : Fin 1024) :
    out x wq k v wo (ix3 0 r n) = ∑ H : Fin 32, ∑ d : Fin 128, mix (row x wq k H r) (fun j => v (ix4 0 j H d)) * wo (ix2 (⟨H.val * 128 + d.val, by omega⟩ : Fin 4096) n) := by
  unfold out
  rw [project_at, Fin.sum_univ_tiles 32 128 rfl]
  refine Finset.sum_congr rfl fun H _ => Finset.sum_congr rfl fun d _ => ?_
  exact congrArg (· * wo (ix2 (⟨H.val * 128 + d.val, by omega⟩ : Fin 4096) n)) (context_mean x wq k v r H d (hs H r) (h₀ H r))

end Cert.Refer

end
-- ==== Proof.Match.lean ====
module

public import proofs.«01_k».proof.Proof.Outs
public import proofs.«01_k».proof.Proof.RefVal

@[expose] public section

noncomputable section

/-! # A device's means are the reference's means of its eight heads -/

namespace Cert.Attn

open Cert.KernelIdeal Cert.KernelIdeal.Gen Cert.Exchange
open Idealize.ShloMosaic Idealize.ShloMosaic.TcCoe
open Cert.Soft

theorem scale_out {n : ℕ} (f g : Fin n → EReal) (s : EReal) (hf : ∀ i, ∃ x : ℝ, f i = (x : EReal)) (hg : ∀ i, ∃ x : ℝ, g i = (x : EReal)) (hs : ∃ x : ℝ, s = (x : EReal)) :
    ∑ i, (f i * s) * g i = (∑ i, f i * g i) * s := by
  choose a ha using hf
  choose b hb using hg
  obtain ⟨z, rfl⟩ := hs
  have e1 : ∑ i, (f i * (z : EReal)) * g i = ((∑ i, (a i * z) * b i : ℝ) : EReal) := by
    rw [coe_sum]
    exact Finset.sum_congr rfl fun i _ => by rw [ha, hb, EReal.coe_mul, EReal.coe_mul]
  have e2 : ∑ i, f i * g i = ((∑ i, a i * b i : ℝ) : EReal) := by
    rw [coe_sum]
    exact Finset.sum_congr rfl fun i _ => by rw [ha, hb, EReal.coe_mul]
  rw [e1, e2, ← EReal.coe_mul, Finset.sum_mul]
  exact congrArg _ (Finset.sum_congr rfl fun i _ => by ring)

/-- The whole arrays the devices hold parts of. -/
structure Whole where
  x : FVec Ideal Cert.ReferenceIdeal.S1x2048x1024 .f32
  wq : FVec Ideal Cert.ReferenceIdeal.S1024x4096 .f32
  k : FVec Ideal Cert.ReferenceIdeal.S1x8192x32x128 .f32
  v : FVec Ideal Cert.ReferenceIdeal.S1x8192x32x128 .f32
  wo : FVec Ideal Cert.ReferenceIdeal.S4096x1024 .f32

/-- Every entry of the queries, of their weights and of the keys is a number. -/
structure Whole.Real (A : Whole) : Prop where
  x : ∀ i, ∃ z : ℝ, A.x i = (z : EReal)
  wq : ∀ i, ∃ z : ℝ, A.wq i = (z : EReal)
  k : ∀ i, ∃ z : ℝ, A.k i = (z : EReal)

/-- Head `h` of device `c`, and its column `d`. -/
abbrev headOf (c : Fin 4) (h : Fin 8) : Fin 32 := ⟨c.val * 8 + h.val, by omega⟩
abbrev colOf (c : Fin 4) (n : Fin 1024) : Fin 4096 := ⟨c.val * 1024 + n.val, by omega⟩

/-- What device `c` works from is its part of the whole arrays. -/
structure Holds (A : Whole) (c : Fin 4) (q : FVec Ideal S2048x1024 .bf16) (K V : Arr Ideal) (W : S1024x1024.Idx → Elt Ideal .bf16) : Prop where
  q : ∀ r n, q (ix2 r n) = (∑ i : Fin 1024, A.x (ix3 0 r i) * A.wq (ix2 i (colOf c n))) * Ideal.ofBits .f32 0x3DB504F3#32
  k : ∀ (h : Fin 8) (j : Fin 8192) (d : Fin 128), keyOf K h j.val d = A.k (ix4 0 j (headOf c h) d)
  v : ∀ (h : Fin 8) (j : Fin 8192) (d : Fin 128), keyOf V h j.val d = A.v (ix4 0 j (headOf c h) d)
  w : ∀ n o, W (ix2 n o) = A.wo (ix2 (colOf c n) o)

theorem query_num {A : Whole} (R : A.Real) (r : Fin 2048) (H : Fin 32) (d : Fin 128) : ∃ z : ℝ, Cert.Refer.query A.x A.wq (ix4 0 r H d) = (z : EReal) := by
  rw [Cert.Refer.query_at]
  exact dot_num _ _ (fun _ => R.x _) (fun _ => R.wq _)

theorem row_eq (A : Whole) (H : Fin 32) (r : Fin 2048) (j : Fin 8192) : Cert.Refer.row A.x A.wq A.k H r j
    = Scalar.select (keepA (BitVec.ofNat 32 r.val) (BitVec.ofNat 32 j.val)) ((∑ d : Fin 128, Cert.Refer.query A.x A.wq (ix4 0 r H d) * A.k (ix4 0 j H d)) * Ideal.ofBits .f32 0x3DB504F3#32) (⊥ : EReal) := by
  rw [← Cert.Refer.keep_at r j]
  exact Cert.Refer.score_at _ _ _ H r j

theorem row_num {A : Whole} (R : A.Real) (H : Fin 32) (r : Fin 2048) (j : Fin 8192) :
    ∃ z : ℝ, (∑ d : Fin 128, Cert.Refer.query A.x A.wq (ix4 0 r H d) * A.k (ix4 0 j H d)) * Ideal.ofBits .f32 0x3DB504F3#32 = (z : EReal) := by
  obtain ⟨a, ha⟩ := dot_num (fun d : Fin 128 => Cert.Refer.query A.x A.wq (ix4 0 r H d)) (fun d => A.k (ix4 0 j H d)) (fun _ => query_num R _ _ _) (fun _ => R.k _)
  obtain ⟨b, hb⟩ := word_scale
  exact ⟨a * b, by rw [ha, hb, EReal.coe_mul]⟩

theorem row_ne_top {A : Whole} (R : A.Real) (H : Fin 32) (r : Fin 2048) (j : Fin 8192) : Cert.Refer.row A.x A.wq A.k H r j ≠ ⊤ := by
  rw [row_eq]
  obtain ⟨z, hz⟩ := row_num R H r j
  exact select_ne_top _ _ (by rw [hz]; exact EReal.coe_ne_top z)

theorem row_ne_bot {A : Whole} (R : A.Real) (H : Fin 32) (r : Fin 2048) : Cert.Refer.row A.x A.wq A.k H r 0 ≠ ⊥ := by
  obtain ⟨z, hz⟩ := row_num R H r 0
  rw [row_eq, hz, keep_near r.val _ r.isLt (by decide) (Or.inr (by decide)), Cert.Refer.pick_one]
  exact EReal.coe_ne_bot z

theorem q_of {A : Whole} {c : Fin 4} {q : FVec Ideal S2048x1024 .bf16} {K V : Arr Ideal} {W : S1024x1024.Idx → Elt Ideal .bf16} (B : Holds A c q K V W) (h : Fin 8) (r : Fin 2048) (d : Fin 128) :
    q (ix2 r (⟨128 * h.val + d.val, by omega⟩ : Fin 1024)) = Cert.Refer.query A.x A.wq (ix4 0 r (headOf c h) d) * Ideal.ofBits .f32 0x3DB504F3#32 := by
  rw [B.q, Cert.Refer.query_at]
  have e : colOf c (⟨128 * h.val + d.val, by omega⟩ : Fin 1024) = (⟨(headOf c h).val * 128 + d.val, by omega⟩ : Fin 4096) := Fin.ext (by simp only; omega)
  rw [e]

theorem masked_row {A : Whole} (R : A.Real) {c : Fin 4} {q : FVec Ideal S2048x1024 .bf16} {K V : Arr Ideal} {W : S1024x1024.Idx → Elt Ideal .bf16} (B : Holds A c q K V W) (h : Fin 8) (r : Fin 2048) (j : Fin 8192) :
    masked q K h r j.val = Cert.Refer.row A.x A.wq A.k (headOf c h) r j := by
  rw [row_eq]
  unfold masked
  refine congrArg (fun z : EReal => Scalar.select (keepA (BitVec.ofNat 32 r.val) (BitVec.ofNat 32 j.val)) z (⊥ : EReal)) ?_
  rw [← scale_out _ _ _ (fun d => query_num R r (headOf c h) d) (fun d => R.k _) word_scale]
  unfold plain
  exact Finset.sum_congr rfl fun d _ => by rw [q_of B, B.k]

theorem mean_eq {A : Whole} (R : A.Real) {c : Fin 4} {q : FVec Ideal S2048x1024 .bf16} {K V : Arr Ideal} {W : S1024x1024.Idx → Elt Ideal .bf16} (B : Holds A c q K V W) (h : Fin 8) (r : Fin 2048) (d : Fin 128) :
    meanOf q K V h r d = mix (Cert.Refer.row A.x A.wq A.k (headOf c h) r) (fun j => A.v (ix4 0 j (headOf c h) d)) := by
  unfold meanOf
  rw [show (fun j : Fin 8192 => masked q K h r j.val) = Cert.Refer.row A.x A.wq A.k (headOf c h) r from funext fun j => masked_row R B h r j,
    show (fun j : Fin 8192 => keyOf V h j.val d) = fun j => A.v (ix4 0 j (headOf c h) d) from funext fun j => B.v h j d]

theorem sumOf_eq {A : Whole} (R : A.Real) {c : Fin 4} {q : FVec Ideal S2048x1024 .bf16} {K V : Arr Ideal} {W : S1024x1024.Idx → Elt Ideal .bf16} (B : Holds A c q K V W) (r : Fin 2048) (n : Fin 1024) :
    sumOf q K V W r n = ∑ h : Fin 8, ∑ d : Fin 128, mix (Cert.Refer.row A.x A.wq A.k (headOf c h) r) (fun j => A.v (ix4 0 j (headOf c h) d)) * A.wo (ix2 (⟨(headOf c h).val * 128 + d.val, by omega⟩ : Fin 4096) n) := by
  unfold sumOf
  refine Finset.sum_congr rfl fun h _ => Finset.sum_congr rfl fun d _ => ?_
  have e : colOf c (⟨128 * h.val + d.val, by omega⟩ : Fin 1024) = (⟨(headOf c h).val * 128 + d.val, by omega⟩ : Fin 4096) := Fin.ext (by simp only; omega)
  rw [mean_eq R B, B.w, e]

theorem holds_num {A : Whole} (R : A.Real) {c : Fin 4} {q : FVec Ideal S2048x1024 .bf16} {K V : Arr Ideal} {W : S1024x1024.Idx → Elt Ideal .bf16} (B : Holds A c q K V W) (hK : ∀ i, ∃ z : ℝ, K i = (z : EReal)) : Num q K := by
  have key (r : Fin 2048) (n : Fin 1024) : ∃ z : ℝ, q (ix2 r n) = (z : EReal) := by
    rw [B.q]
    obtain ⟨a, ha⟩ := dot_num (fun z : Fin 1024 => A.x (ix3 0 r z)) (fun z => A.wq (ix2 z (colOf c n))) (fun _ => R.x _) (fun _ => R.wq _)
    obtain ⟨b, hb⟩ := word_scale
    exact ⟨a * b, by rw [EReal.coe_mul, ← ha, ← hb]⟩
  refine ⟨fun i => ?_, hK⟩
  obtain ⟨z, hz⟩ := key (i 0) (i 1)
  exact ⟨z, (congrArg q (funext fun a => by fin_cases a <;> rfl)).trans hz⟩

/-- The four devices' sums together are the reference's result. -/
theorem whole_sum {A : Whole} (R : A.Real) (q : Fin 4 → FVec Ideal S2048x1024 .bf16) (K V : Fin 4 → Arr Ideal) (W : Fin 4 → S1024x1024.Idx → Elt Ideal .bf16) (B : ∀ c, Holds A c (q c) (K c) (V c) (W c)) (r : Fin 2048) (n : Fin 1024) :
    ∑ c : Fin 4, sumOf (q c) (K c) (V c) (W c) r n = Cert.Refer.out A.x A.wq A.k A.v A.wo (ix3 0 r n) := by
  rw [Cert.Refer.out_at A.x A.wq A.k A.v A.wo (fun H r j => row_ne_top R H r j) (fun H r => row_ne_bot R H r) r n, Fin.sum_univ_tiles 4 8 rfl]
  exact Finset.sum_congr rfl fun c _ => sumOf_eq R (B c) r n

end Cert.Attn

end
-- ==== Proof.Arrays.lean ====
module

public import proofs.«01_k».proof.Proof.Match
public import proofs.«01_k».proof.Proof.Run
public import Idealize.ShloMosaic.Lib.StableHlo.Run
public import Idealize.ShloMosaic.Lib.Pointwise

@[expose] public section

noncomputable section

/-! # The arrays each region works from and leaves -/

namespace Cert.Attn

open Cert.KernelIdeal Cert.KernelIdeal.Gen Cert.Exchange
open Idealize.ShloMosaic Idealize.ShloMosaic.TcCoe Idealize.ShloMosaic.StableHlo

section Reads
variable {F : FTy → Type} [FloatOps F] [Named F] (m : (ℓ : Loc nD τ sig) → Buf (Elt F) ℓ)

theorem rd0 (X : main_v1.ty.Contents (Elt F)) : ((cfg0.win 0).blk t0_0).view.read (Elt F) X = X :=
  Memref.read_access_unit_zero (Elt F) main_v1 (funext fun a => by fin_cases a <;> decide) (fun a => by fin_cases a <;> decide) _
theorem rd1 (X : main_v2.ty.Contents (Elt F)) : ((cfg0.win 1).blk t0_0).view.read (Elt F) X = X :=
  Memref.read_access_unit_zero (Elt F) main_v2 (funext fun a => by fin_cases a <;> decide) (fun a => by fin_cases a <;> decide) _
theorem rd2 (X : main_v3.ty.Contents (Elt F)) : ((cfg0.win 2).blk t0_0).view.read (Elt F) X = X :=
  Memref.read_access_unit_zero (Elt F) main_v3 (funext fun a => by fin_cases a <;> decide) (fun a => by fin_cases a <;> decide) _
theorem rd3 (X : main_v11.ty.Contents (Elt F)) : ((cfg1.win 0).blk t1_0).view.read (Elt F) X = X :=
  Memref.read_access_unit_zero (Elt F) main_v11 (funext fun a => by fin_cases a <;> decide) (fun a => by fin_cases a <;> decide) _

theorem x_eq (c : Dev nD) : (envOf m c).x = V1 m c main_v1 := rd0 (V1 m c main_v1)
theorem wq_eq (c : Dev nD) : (envOf m c).wq = V1 m c main_v2 := rd1 (V1 m c main_v2)
theorem W_eq (c : Dev nD) : (envOf m c).W = V1 m c main_v3 := rd2 (V1 m c main_v3)
theorem parts_eq (c : Dev nD) : parts m c = W3 m c main_v11 := rd3 (W3 m c main_v11)

theorem last0 (c : Dev nD) : ((cfg0.win 3).blk (0 : Fin 1)).view.read (Elt F) ((dat0 m c).arrAt 3 cfg0.N) = attnOut (envOf m c) := by
  rw [show cfg0.N = ((0 : Fin 1) : Fin cfg0.N).val + 1 from rfl, (dat0 m c).arrAt_succ (3 : Fin 4) (0 : Fin 1)]
  rw [show (cfg0.win (3 : Fin 4)).flush (0 : Fin 1) = true from by decide, if_pos rfl]
  exact View.read_write_univ _ _

theorem fin0 (c : Dev nD) : (dat0 m c).arrAt 3 cfg0.N = attnOut (envOf m c) :=
  (Memref.read_access_unit_zero (Elt F) main_v10_0 (funext fun a => by fin_cases a <;> decide) (fun a => by fin_cases a <;> decide) _).symm.trans (last0 m c)

theorem last1 (c : Dev nD) : ((cfg1.win 1).blk (0 : Fin 1)).view.read (Elt F) ((dat1 m c).arrAt 1 cfg1.N) = Cert.Sum.total (parts m) c := by
  rw [show cfg1.N = ((0 : Fin 1) : Fin cfg1.N).val + 1 from rfl, (dat1 m c).arrAt_succ (1 : Fin 2) (0 : Fin 1)]
  rw [show (cfg1.win (1 : Fin 2)).flush (0 : Fin 1) = true from by decide, if_pos rfl]
  exact View.read_write_univ _ _

theorem fin1 (c : Dev nD) : (dat1 m c).arrAt 1 cfg1.N = Cert.Sum.total (parts m) c :=
  (Memref.read_access_unit_zero (Elt F) main_v12 (funext fun a => by fin_cases a <;> decide) (fun a => by fin_cases a <;> decide) _).symm.trans (last1 m c)

/-- The keys or values of a device, a head at a time. -/
def byHead (k : FVec F S1x2048x32x128 .f32) : FVec F S32x2048x128 .bf16 :=
  truncf .bf16 (transpose S32x2048x128 [1, 0, 2] (shapeCast S2048x32x128 k shapeCasts_S1x2048x32x128_S2048x32x128 : FVec F S2048x32x128 .f32) transposes_S2048x32x128_S32x2048x128_1_0_2 : FVec F S32x2048x128 .f32) bitsLt_bf16_f32

theorem h0_v1 (V : Valuation τ sig (Elt F)) : after hostOps0 V (main_v1 : DevRef τ sig) = (truncf .bf16 (V (main_arg0 : DevRef τ sig) : FVec F S1x2048x1024 .f32) bitsLt_bf16_f32 : FVec F S1x2048x1024 .bf16) := by
  after_results_simp
theorem h0_v2 (V : Valuation τ sig (Elt F)) : after hostOps0 V (main_v2 : DevRef τ sig) = (truncf .bf16 (V (main_arg1 : DevRef τ sig) : FVec F S1024x1024 .f32) bitsLt_bf16_f32 : FVec F S1024x1024 .bf16) := by
  after_results_simp
theorem h0_v3 (V : Valuation τ sig (Elt F)) : after hostOps0 V (main_v3 : DevRef τ sig) = (truncf .bf16 (V (main_arg4 : DevRef τ sig) : FVec F S1024x1024 .f32) bitsLt_bf16_f32 : FVec F S1024x1024 .bf16) := by
  after_results_simp
theorem h0_v6 (V : Valuation τ sig (Elt F)) : after hostOps0 V (main_v6 : DevRef τ sig) = byHead (V (main_arg2 : DevRef τ sig)) := by
  after_results_simp
  rfl
theorem h0_v9 (V : Valuation τ sig (Elt F)) : after hostOps0 V (main_v9 : DevRef τ sig) = byHead (V (main_arg3 : DevRef τ sig)) := by
  after_results_simp
  rfl
theorem h1_v11 (V : Valuation τ sig (Elt F)) : after hostOps1 V (main_v11 : DevRef τ sig) = (truncf .bf16 (V (main_v10_0 : DevRef τ sig) : FVec F S2048x1024 .f32) bitsLt_bf16_f32 : FVec F S2048x1024 .bf16) := by
  after_results_simp

end Reads

/-! ## At the ideal numbers -/

theorem byHead_at (k : FVec Ideal S1x2048x32x128 .f32) (H : Fin 32) (j : Fin 2048) (d : Fin 128) : byHead k (ix3 H j d) = k (ix4 0 j H d) := by
  pointwise [byHead]

theorem pay33_at (x : Vec Ideal S1x2048x1024 .bf16) (wq : Vec Ideal S1024x1024 .bf16) (r : Fin 2048) (n : Fin 1024) :
    k0_pay33 x wq (ix2 r n) = (∑ i : Fin 1024, x (ix3 0 r i) * wq (ix2 i n)) * Ideal.ofBits .f32 0x3DB504F3#32 := by
  pointwise [k0_pay33]

theorem total_at (X : Cert.Sum.Parts Ideal) (c : Dev nD) (u : Fin 1) (r : Fin 2048) (k : Fin 1024) :
    Cert.Sum.total X c (ix3 u r k) = ∑ d : Fin 4, (X d (ix2 r k) : EReal) := by
  show ((X c (ix2 r k) : EReal) + X (sh 0 c) (ix2 r k)) + (X (sh 1 c) (ix2 r k) + X (sh 2 c) (ix2 r k)) = _
  rw [Fin.sum_univ_four]
  have h (a b : Dev 4) (e : a = b) : X a (ix2 r k) = X b (ix2 r k) := congrArg (X · (ix2 r k)) e
  fin_cases c
  · rw [h (sh 0 _) 1 rfl, h (sh 1 _) 2 rfl, h (sh 2 _) 3 rfl]; show (X 0 (ix2 r k) + X 1 (ix2 r k) + (X 2 (ix2 r k) + X 3 (ix2 r k)) : EReal) = _; ac_rfl
  · rw [h (sh 0 _) 2 rfl, h (sh 1 _) 3 rfl, h (sh 2 _) 0 rfl]; show (X 1 (ix2 r k) + X 2 (ix2 r k) + (X 3 (ix2 r k) + X 0 (ix2 r k)) : EReal) = _; ac_rfl
  · rw [h (sh 0 _) 3 rfl, h (sh 1 _) 0 rfl, h (sh 2 _) 1 rfl]; show (X 2 (ix2 r k) + X 3 (ix2 r k) + (X 0 (ix2 r k) + X 1 (ix2 r k)) : EReal) = _; ac_rfl
  · rw [h (sh 0 _) 0 rfl, h (sh 1 _) 1 rfl, h (sh 2 _) 2 rfl]; show (X 3 (ix2 r k) + X 0 (ix2 r k) + (X 1 (ix2 r k) + X 2 (ix2 r k)) : EReal) = _; ac_rfl

section Ends
variable (m : (ℓ : Loc nD τ sig) → Buf (Elt Ideal) ℓ)

abbrev A0 (c : Dev nD) : FVec Ideal S1x2048x1024 .f32 := m ((c.tc : Thread nD τ).loc main_arg0)
abbrev A1 (c : Dev nD) : FVec Ideal S1024x1024 .f32 := m ((c.tc : Thread nD τ).loc main_arg1)
abbrev A2 (c : Dev nD) : FVec Ideal S1x2048x32x128 .f32 := m ((c.tc : Thread nD τ).loc main_arg2)
abbrev A3 (c : Dev nD) : FVec Ideal S1x2048x32x128 .f32 := m ((c.tc : Thread nD τ).loc main_arg3)
abbrev A4 (c : Dev nD) : FVec Ideal S1024x1024 .f32 := m ((c.tc : Thread nD τ).loc main_arg4)

theorem x_arg (c : Dev nD) : (envOf m c).x = A0 m c := (x_eq m c).trans (h0_v1 (V0 m c))
theorem wq_arg (c : Dev nD) : (envOf m c).wq = A1 m c := (wq_eq m c).trans (h0_v2 (V0 m c))
theorem W_arg (c : Dev nD) : (envOf m c).W = A4 m c := (W_eq m c).trans (h0_v3 (V0 m c))
theorem k_at (c : Dev nD) (H : Fin 32) (j : Fin 2048) (d : Fin 128) : (XX m).k c (ix3 H j d) = A2 m c (ix4 0 j H d) :=
  (congrFun (h0_v6 (V0 m c)) (ix3 H j d)).trans (byHead_at (V0 m c main_arg2) H j d)
theorem v_at (c : Dev nD) (H : Fin 32) (j : Fin 2048) (d : Fin 128) : (XX m).v c (ix3 H j d) = A3 m c (ix4 0 j H d) :=
  (congrFun (h0_v9 (V0 m c)) (ix3 H j d)).trans (byHead_at (V0 m c main_arg3) H j d)
theorem parts_out (c : Dev nD) : parts m c = attnOut (envOf m c) :=
  (parts_eq m c).trans ((h1_v11 (W2 m c)).trans ((W2_o m c).trans (fin0 m c)))

end Ends

end Cert.Attn

end
-- ==== Proof.Value.lean ====
module

public import proofs.«01_k».proof.Defs
public import proofs.«01_k».proof.Proof.Arrays
public import proofs.«01_k».proof.Proof.Frames
public import proofs.«01_k».proof.Proof.Gen.Pre_finite_KernelIdeal
public import Idealize.ShloMosaic.Lib.ReduceAll
public import Idealize.ShloMosaic.Lib.Layout

@[expose] public section

noncomputable section

/-! # The devices' result is the reference's -/

namespace Cert.Attn

open Cert.KernelIdeal Cert.KernelIdeal.Gen Cert.Exchange
open Idealize.ShloMosaic Idealize.ShloMosaic.TcCoe Idealize.SL.Sem

/-! ## Parts of whole arrays -/

theorem cols_at {α : Type} (w : (⟨2, ![1024, 4096]⟩ : Shape).Idx → α) (c : Fin 4) (i : Fin 1024) (n : Fin 1024) :
    Layout.block ⟨2, ![1024, 1024]⟩ ⟨2, ![1024, 4096]⟩ 1 4 c w (by decide) (ix2 i n) = w (ix2 i (colOf c n)) := by
  rw [Layout.block_apply]
  refine congrArg w (funext fun a => Fin.ext ?_)
  fin_cases a
  · exact (Layout.idx_cols_val ..).1
  · exact (Layout.idx_cols_val ..).2

theorem rows_of {α : Type} (w : (⟨2, ![4096, 1024]⟩ : Shape).Idx → α) (c : Fin 4) (n : Fin 1024) (o : Fin 1024) :
    Layout.block ⟨2, ![1024, 1024]⟩ ⟨2, ![4096, 1024]⟩ 0 4 c w (by decide) (ix2 n o) = w (ix2 (colOf c n) o) := by
  rw [Layout.block_apply]
  refine congrArg w (funext fun a => Fin.ext ?_)
  fin_cases a
  · exact (Layout.idx_rows_val ..).1
  · exact (Layout.idx_rows_val ..).2

/-- Row `j` of device `c` in the whole sequence. -/
abbrev seqOf (c : Fin 4) (j : Fin 2048) : Fin 8192 := ⟨c.val * 2048 + j.val, by omega⟩

theorem seq_at {α : Type} (k : (⟨4, ![1, 8192, 32, 128]⟩ : Shape).Idx → α) (c : Fin 4) (j : Fin 2048) (H : Fin 32) (d : Fin 128) :
    Layout.block ⟨4, ![1, 2048, 32, 128]⟩ ⟨4, ![1, 8192, 32, 128]⟩ 1 4 c k (by decide) (ix4 0 j H d) = k (ix4 0 (seqOf c j) H d) := by
  rw [Layout.block_apply]
  refine congrArg k (funext fun a => Fin.ext ?_)
  rw [Layout.Tiles.idx_val]
  fin_cases a <;> rfl

/-! ## What the precondition says -/

theorem num_of (a : EReal) (h : Ideal.cmp .olt (max a (-a)) (Ideal.ofBits .f32 0x7F800000#32) = 1#1) : ∃ z : ℝ, a = (z : EReal) := by
  rw [word_top] at h
  induction a with
  | coe z => exact ⟨z, rfl⟩
  | bot => exact absurd h (by simp [Ideal.cmp])
  | top => exact absurd h (by simp [Ideal.cmp])

theorem all_num {s : Shape} {axes : List (Fin s.rank)} (x : FVec Ideal s .f32) (hb : Cert.Pre_finite_KernelIdeal.S_.BroadcastsInDim s (![] : Fin 0 → Fin s.rank)) (hr : s.ReducesTo axes Cert.Pre_finite_KernelIdeal.S_) (hu : 0 < Cert.Pre_finite_KernelIdeal.S_.numel) (o : Cert.Pre_finite_KernelIdeal.S_.Idx)
    (h : Host.reduce IntOp.andi (cmpf .olt (Host.absf x) (broadcastInDim s ![] hb (constant Cert.Pre_finite_KernelIdeal.S_ .f32 0x7F800000#32 : FVec Ideal Cert.Pre_finite_KernelIdeal.S_ .f32))) (constantI Cert.Pre_finite_KernelIdeal.S_ 1 1#1) hr hu o = 1#1) (i : s.Idx) :
    ∃ z : ℝ, (x i : EReal) = (z : EReal) := by
  haveI : Subsingleton Cert.Pre_finite_KernelIdeal.S_.Idx := ⟨fun a b => funext fun k => k.elim0⟩
  exact num_of _ (Host.reduce_andi_all _ _ hr hu o h i)

theorem pre_num [hP : Cert.Pre_finite_KernelIdeal.Facts] (a0 : FVec Ideal Cert.Pre_finite_KernelIdeal.S1x2048x1024 .f32) (a1 : FVec Ideal Cert.Pre_finite_KernelIdeal.S1024x1024 .f32) (a2 a3 : FVec Ideal Cert.Pre_finite_KernelIdeal.S1x2048x32x128 .f32) (a4 : FVec Ideal Cert.Pre_finite_KernelIdeal.S1024x1024 .f32)
    (h : Cert.Pre_finite_KernelIdeal.fn a0 a1 a2 a3 a4 = fun _ => 1#1) :
    (∀ i, ∃ z : ℝ, (a0 i : EReal) = z) ∧ (∀ i, ∃ z : ℝ, (a1 i : EReal) = z) ∧ ∀ i, ∃ z : ℝ, (a2 i : EReal) = z := by
  have e := congrFun h (fun k => k.elim0)
  unfold Cert.Pre_finite_KernelIdeal.fn at e
  obtain ⟨e01, e2⟩ := IntOp.andi_eq_one.1 e
  obtain ⟨e0, e1⟩ := IntOp.andi_eq_one.1 e01
  exact ⟨all_num _ _ _ _ _ e0, all_num _ _ _ _ _ e1, all_num _ _ _ _ _ e2⟩

/-! ## The result -/

section Result
variable (m : (ℓ : Loc nD τ sig) → Buf (Elt Ideal) ℓ) (A : Whole)

/-- Every device holds its part of the whole arrays. -/
structure Split : Prop where
  x : ∀ c, A0 m c = A.x
  wq : ∀ c, A1 m c = Layout.block ⟨2, ![1024, 1024]⟩ ⟨2, ![1024, 4096]⟩ 1 4 c A.wq (by decide)
  k : ∀ c, A2 m c = Layout.block ⟨4, ![1, 2048, 32, 128]⟩ ⟨4, ![1, 8192, 32, 128]⟩ 1 4 c A.k (by decide)
  v : ∀ c, A3 m c = Layout.block ⟨4, ![1, 2048, 32, 128]⟩ ⟨4, ![1, 8192, 32, 128]⟩ 1 4 c A.v (by decide)
  wo : ∀ c, A4 m c = Layout.block ⟨2, ![1024, 1024]⟩ ⟨2, ![4096, 1024]⟩ 0 4 c A.wo (by decide)

variable {m A}

theorem gath_at (Z : Dev nD → Rws Ideal) (c : Fin 4) (h : Fin 8) (p : Fin 4) (j : Fin 2048) (d : Fin 128) :
    gath Z c (ix4 h p j d) = Z p (ix3 (headOf c h) j d) := by
  have e : (⟨8 * c.val + h.val, by omega⟩ : Fin 32) = headOf c h := Fin.ext (by simp only; omega)
  exact congrArg (fun H : Fin 32 => Z p (ix3 H j d)) e

theorem seq_split (j : Fin 8192) : seqOf (⟨j.val / 2048 % 4, Nat.mod_lt _ (by decide)⟩ : Fin 4) (⟨j.val % 2048, Nat.mod_lt _ (by decide)⟩ : Fin 2048) = j :=
  Fin.ext (by simp only; omega)

theorem holds (S : Split m A) (c : Fin 4) : Holds A c (envOf m c).v161 (K (envOf m c)) (V (envOf m c)) (envOf m c).W where
  q r n := by
    refine (pay33_at (envOf m c).x (envOf m c).wq r n).trans ?_
    rw [x_arg, wq_arg, S.x, S.wq]
    refine congrArg (· * Ideal.ofBits .f32 0x3DB504F3#32) (Finset.sum_congr rfl fun i _ => ?_)
    exact congrArg (A.x (ix3 0 r i) * ·) (cols_at A.wq c i n)
  k h j d := by
    unfold keyOf
    refine (gath_at _ c h _ _ d).trans ((k_at m _ _ _ d).trans ?_)
    rw [S.k]
    exact (seq_at A.k _ _ _ d).trans (congrArg (fun j => A.k (ix4 0 j (headOf c h) d)) (seq_split j))
  v h j d := by
    unfold keyOf
    refine (gath_at _ c h _ _ d).trans ((v_at m _ _ _ d).trans ?_)
    rw [S.v]
    exact (seq_at A.v _ _ _ d).trans (congrArg (fun j => A.v (ix4 0 j (headOf c h) d)) (seq_split j))
  w n o := by
    rw [W_arg, S.wo]
    exact rows_of A.wo c n o

theorem real (S : Split m A) (h0 : ∀ c i, ∃ z : ℝ, (A0 m c i : EReal) = z) (h1 : ∀ c i, ∃ z : ℝ, (A1 m c i : EReal) = z) (h2 : ∀ c i, ∃ z : ℝ, (A2 m c i : EReal) = z) : A.Real where
  x i := by rw [← S.x 0]; exact h0 0 i
  wq i := by
    have key (a : Fin 1024) (b : Fin 4096) : ∃ z : ℝ, A.wq (ix2 a b) = (z : EReal) := by
      have e : colOf (⟨b.val / 1024, by omega⟩ : Fin 4) (⟨b.val % 1024, Nat.mod_lt _ (by decide)⟩ : Fin 1024) = b := Fin.ext (by simp only; omega)
      obtain ⟨z, hz⟩ := h1 (⟨b.val / 1024, by omega⟩ : Fin 4) (ix2 a (⟨b.val % 1024, Nat.mod_lt _ (by decide)⟩ : Fin 1024))
      rw [S.wq] at hz
      exact ⟨z, (congrArg (fun b => A.wq (ix2 a b)) e.symm).trans ((cols_at A.wq _ a _).symm.trans hz)⟩
    obtain ⟨z, hz⟩ := key (i 0) (i 1)
    exact ⟨z, (congrArg A.wq (funext fun a => by fin_cases a <;> rfl)).trans hz⟩
  k i := by
    have key (j : Fin 8192) (H : Fin 32) (d : Fin 128) : ∃ z : ℝ, A.k (ix4 0 j H d) = (z : EReal) := by
      obtain ⟨z, hz⟩ := h2 (⟨j.val / 2048 % 4, Nat.mod_lt _ (by decide)⟩ : Fin 4) (ix4 0 (⟨j.val % 2048, Nat.mod_lt _ (by decide)⟩ : Fin 2048) H d)
      rw [S.k] at hz
      exact ⟨z, (congrArg (fun j => A.k (ix4 0 j H d)) (seq_split j).symm).trans ((seq_at A.k _ _ H d).symm.trans hz)⟩
    obtain ⟨z, hz⟩ := key (i 1) (i 2) (i 3)
    have e0 : i 0 = (0 : Fin 1) := Subsingleton.elim (α := Fin 1) _ _
    exact ⟨z, (congrArg A.k (funext fun a => by fin_cases a; exacts [e0, rfl, rfl, rfl])).trans hz⟩

theorem rows_num (h2 : ∀ c i, ∃ z : ℝ, (A2 m c i : EReal) = z) (c : Fin 4) (i : S8x4x2048x128.Idx) : ∃ z : ℝ, (K (envOf m c) i : EReal) = z := by
  have key (p : Fin 4) (H : Fin 32) (j : Fin 2048) (d : Fin 128) : ∃ z : ℝ, ((XX m).k p (ix3 H j d) : EReal) = z := by
    rw [k_at]
    exact h2 p _
  exact key (i 1) _ (i 2) (i 3)

theorem result (S : Split m A) (R : A.Real) (h2 : ∀ c i, ∃ z : ℝ, (A2 m c i : EReal) = z) (c : Fin 4) :
    (dat1 m c).arrAt 1 cfg1.N = Cert.Refer.out A.x A.wq A.k A.v A.wo := by
  refine (fin1 m c).trans (funext fun i => ?_)
  have key (r : Fin 2048) (n : Fin 1024) : Cert.Sum.total (parts m) c (ix3 0 r n) = Cert.Refer.out A.x A.wq A.k A.v A.wo (ix3 0 r n) := by
    rw [total_at, ← whole_sum R (fun c => (envOf m c).v161) (fun c => K (envOf m c)) (fun c => V (envOf m c)) (fun c => (envOf m c).W) (fun c => holds S c) r n]
    refine Finset.sum_congr rfl fun c _ => ?_
    rw [parts_out]
    exact attn_at (e := envOf m c) (holds_num R (holds S c) (rows_num h2 c)) r n
  have e0 : i 0 = (0 : Fin 1) := Subsingleton.elim (α := Fin 1) _ _
  have ei : i = ix3 (0 : Fin 1) (i 1 : Fin 2048) (i 2 : Fin 1024) := funext fun a => by fin_cases a; exacts [e0, rfl, rfl]
  rw [ei]
  exact key (i 1) (i 2)

end Result

theorem algebraic : Cert.algebraic_KernelIdeal_ReferenceIdeal_pre_finite_KernelIdeal := fun m g m' g' hpre hpart => by
  have hn (c : Fin 4) := pre_num _ _ _ _ _ (hpre c)
  have S : Split m ⟨m' (((0 : Dev Cert.ReferenceIdeal.nD).tc : Thread Cert.ReferenceIdeal.nD Cert.ReferenceIdeal.τ).loc Cert.ReferenceIdeal.main_arg0), m' (((0 : Dev Cert.ReferenceIdeal.nD).tc : Thread Cert.ReferenceIdeal.nD Cert.ReferenceIdeal.τ).loc Cert.ReferenceIdeal.main_arg1), m' (((0 : Dev Cert.ReferenceIdeal.nD).tc : Thread Cert.ReferenceIdeal.nD Cert.ReferenceIdeal.τ).loc Cert.ReferenceIdeal.main_arg2), m' (((0 : Dev Cert.ReferenceIdeal.nD).tc : Thread Cert.ReferenceIdeal.nD Cert.ReferenceIdeal.τ).loc Cert.ReferenceIdeal.main_arg3), m' (((0 : Dev Cert.ReferenceIdeal.nD).tc : Thread Cert.ReferenceIdeal.nD Cert.ReferenceIdeal.τ).loc Cert.ReferenceIdeal.main_arg4)⟩ :=
    ⟨fun c => (hpart c).1, fun c => (hpart c).2.1, fun c => (hpart c).2.2.1, fun c => (hpart c).2.2.2.1, fun c => (hpart c).2.2.2.2⟩
  have R := real S (fun c => (hn c).1) (fun c => (hn c).2.1) (fun c => (hn c).2.2)
  refine ⟨Cert.Refer.out (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)), ?_, ?_⟩
  · exact (θ_run _ _ _).mono (fun _ e c => ⟨(e.1 c).2.trans (result S R (fun c => (hn c).2.2) c), (e.1 c).1⟩) (run_main (F := Ideal) m g)
  · exact (θ_run Cert.ReferenceIdeal.defs _ _).mono (fun _ e => e 0) (Cert.Refer.run_main (F := Ideal) m' g')

end Cert.Attn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_KernelIdeal.Gen.facts, Cert.Pre_finite_ReferenceIdeal.Gen.facts, by
  exact ⟨Cert.Frames.frame_p, Cert.Frames.frame_pi, Cert.Frames.frame_pi_pre, Cert.Frames.frame_ri, Cert.Frames.frame_ri_pre, Cert.Frames.keeps, Cert.Attn.algebraic⟩⟩

end Cert.Proof

end
